-- ==== Defs.lean ====
def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradRefIdeal (m : (ℓ : Loc Cert.ActGradRefIdeal.nD Cert.ActGradRefIdeal.τ Cert.ActGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradRefIdeal (m : (ℓ : Loc Cert.NormGradRefIdeal.nD Cert.NormGradRefIdeal.τ Cert.NormGradRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_BiasGrad (m : (ℓ : Loc Cert.BiasGrad.nD Cert.BiasGrad.τ Cert.BiasGrad.sig) → Buf (Elt Bits) ℓ) : Prop :=
  True

def Pre_BiasGradIdeal (m : (ℓ : Loc Cert.BiasGradIdeal.nD Cert.BiasGradIdeal.τ Cert.BiasGradIdeal.sig) → Buf (Elt Ideal) ℓ) : Prop :=
  True

def Pre_BiasGradRefIdeal (m : (ℓ : Loc Cert.BiasGradRefIdeal.nD Cert.BiasGradRefIdeal.τ Cert.BiasGradRefIdeal.sig) → Buf (Elt Ideal) ℓ) : Prop :=
  True

def Pre_RetGrad (m : (ℓ : Loc Cert.RetGrad.nD Cert.RetGrad.τ Cert.RetGrad.sig) → Buf (Elt Bits) ℓ) : Prop :=
  True

def Pre_RetGradIdeal (m : (ℓ : Loc Cert.RetGradIdeal.nD Cert.RetGradIdeal.τ Cert.RetGradIdeal.sig) → Buf (Elt Ideal) ℓ) : Prop :=
  True

def Pre_RetGradIdeal_finite_retention [hPre_finite_retention : Cert.Pre_finite_retention.Facts] (m : (ℓ : Loc Cert.RetGradIdeal.nD Cert.RetGradIdeal.τ Cert.RetGradIdeal.sig) → Buf (Elt Ideal) ℓ) : Prop :=
  ∀ c : Dev Cert.RetGradIdeal.nD,
    (Cert.Pre_finite_retention.fn (F := Ideal) (m ((c.tc : Thread Cert.RetGradIdeal.nD Cert.RetGradIdeal.τ).loc Cert.RetGradIdeal.main_arg0)) (m ((c.tc : Thread Cert.RetGradIdeal.nD Cert.RetGradIdeal.τ).loc Cert.RetGradIdeal.main_arg1)) (m ((c.tc : Thread Cert.RetGradIdeal.nD Cert.RetGradIdeal.τ).loc Cert.RetGradIdeal.main_arg2))).1 = (fun _ => 1#1)
    ∧ (Cert.Pre_finite_retention.fn (F := Ideal) (m ((c.tc : Thread Cert.RetGradIdeal.nD Cert.RetGradIdeal.τ).loc Cert.RetGradIdeal.main_arg0)) (m ((c.tc : Thread Cert.RetGradIdeal.nD Cert.RetGradIdeal.τ).loc Cert.RetGradIdeal.main_arg1)) (m ((c.tc : Thread Cert.RetGradIdeal.nD Cert.RetGradIdeal.τ).loc Cert.RetGradIdeal.main_arg2))).2.1 = (fun _ => 1#1)
    ∧ (Cert.Pre_finite_retention.fn (F := Ideal) (m ((c.tc : Thread Cert.RetGradIdeal.nD Cert.RetGradIdeal.τ).loc Cert.RetGradIdeal.main_arg0)) (m ((c.tc : Thread Cert.RetGradIdeal.nD Cert.RetGradIdeal.τ).loc Cert.RetGradIdeal.main_arg1)) (m ((c.tc : Thread Cert.RetGradIdeal.nD Cert.RetGradIdeal.τ).loc Cert.RetGradIdeal.main_arg2))).2.2 = (fun _ => 1#1)

def Pre_RetGradRefIdeal (m : (ℓ : Loc Cert.RetGradRefIdeal.nD Cert.RetGradRefIdeal.τ Cert.RetGradRefIdeal.sig) → Buf (Elt Ideal) ℓ) : Prop :=
  True

def Pre_RetGradRefIdeal_finite_retention [hPre_finite_retention : Cert.Pre_finite_retention.Facts] (m : (ℓ : Loc Cert.RetGradRefIdeal.nD Cert.RetGradRefIdeal.τ Cert.RetGradRefIdeal.sig) → Buf (Elt Ideal) ℓ) : Prop :=
  ∀ c : Dev Cert.RetGradRefIdeal.nD,
    (Cert.Pre_finite_retention.fn (F := Ideal) (m ((c.tc : Thread Cert.RetGradRefIdeal.nD Cert.RetGradRefIdeal.τ).loc Cert.RetGradRefIdeal.main_arg0)) (m ((c.tc : Thread Cert.RetGradRefIdeal.nD Cert.RetGradRefIdeal.τ).loc Cert.RetGradRefIdeal.main_arg1)) (m ((c.tc : Thread Cert.RetGradRefIdeal.nD Cert.RetGradRefIdeal.τ).loc Cert.RetGradRefIdeal.main_arg2))).1 = (fun _ => 1#1)
    ∧ (Cert.Pre_finite_retention.fn (F := Ideal) (m ((c.tc : Thread Cert.RetGradRefIdeal.nD Cert.RetGradRefIdeal.τ).loc Cert.RetGradRefIdeal.main_arg0)) (m ((c.tc : Thread Cert.RetGradRefIdeal.nD Cert.RetGradRefIdeal.τ).loc Cert.RetGradRefIdeal.main_arg1)) (m ((c.tc : Thread Cert.RetGradRefIdeal.nD Cert.RetGradRefIdeal.τ).loc Cert.RetGradRefIdeal.main_arg2))).2.1 = (fun _ => 1#1)
    ∧ (Cert.Pre_finite_retention.fn (F := Ideal) (m ((c.tc : Thread Cert.RetGradRefIdeal.nD Cert.RetGradRefIdeal.τ).loc Cert.RetGradRefIdeal.main_arg0)) (m ((c.tc : Thread Cert.RetGradRefIdeal.nD Cert.RetGradRefIdeal.τ).loc Cert.RetGradRefIdeal.main_arg1)) (m ((c.tc : Thread Cert.RetGradRefIdeal.nD Cert.RetGradRefIdeal.τ).loc Cert.RetGradRefIdeal.main_arg2))).2.2 = (fun _ => 1#1)

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RetInRefIdeal (m : (ℓ : Loc Cert.RetInRefIdeal.nD Cert.RetInRefIdeal.τ Cert.RetInRefIdeal.sig) → Buf (Elt Ideal) ℓ) : Prop :=
  True

def Pre_AttIn (m : (ℓ : Loc Cert.AttIn.nD Cert.AttIn.τ Cert.AttIn.sig) → Buf (Elt Bits) ℓ) : Prop :=
  True

def Pre_AttInIdeal (m : (ℓ : Loc Cert.AttInIdeal.nD Cert.AttInIdeal.τ Cert.AttInIdeal.sig) → Buf (Elt Ideal) ℓ) : Prop :=
  True

def Pre_AttInRefIdeal (m : (ℓ : Loc Cert.AttInRefIdeal.nD Cert.AttInRefIdeal.τ Cert.AttInRefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjRefIdeal (m : (ℓ : Loc Cert.RetProjRefIdeal.nD Cert.RetProjRefIdeal.τ Cert.RetProjRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_RetFwd (m : (ℓ : Loc Cert.RetFwd.nD Cert.RetFwd.τ Cert.RetFwd.sig) → Buf (Elt Bits) ℓ) : Prop :=
  True

def Pre_RetFwdIdeal (m : (ℓ : Loc Cert.RetFwdIdeal.nD Cert.RetFwdIdeal.τ Cert.RetFwdIdeal.sig) → Buf (Elt Ideal) ℓ) : Prop :=
  True

def Pre_AttFwd (m : (ℓ : Loc Cert.AttFwd.nD Cert.AttFwd.τ Cert.AttFwd.sig) → Buf (Elt Bits) ℓ) : Prop :=
  True

def Pre_AttFwdIdeal (m : (ℓ : Loc Cert.AttFwdIdeal.nD Cert.AttFwdIdeal.τ Cert.AttFwdIdeal.sig) → Buf (Elt Ideal) ℓ) : Prop :=
  True

def Pre_SquareGrad (m : (ℓ : Loc Cert.SquareGrad.nD Cert.SquareGrad.τ Cert.SquareGrad.sig) → Buf (Elt Bits) ℓ) : Prop :=
  True

def Pre_SquareGradIdeal (m : (ℓ : Loc Cert.SquareGradIdeal.nD Cert.SquareGradIdeal.τ Cert.SquareGradIdeal.sig) → Buf (Elt Ideal) ℓ) : Prop :=
  True

def Pre_SquareGradRefIdeal (m : (ℓ : Loc Cert.SquareGradRefIdeal.nD Cert.SquareGradRefIdeal.τ Cert.SquareGradRefIdeal.sig) → Buf (Elt Ideal) ℓ) : Prop :=
  True

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ r.2.sem = fun _ => 0)

def quiescent_ActGradRefIdeal [hActGradRefIdeal : Cert.ActGradRefIdeal.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1)
      ∧ r.2.mem ((c.tc : Thread Cert.ActGradRefIdeal.nD Cert.ActGradRefIdeal.τ).loc Cert.ActGradRefIdeal.main_arg2) = m ((c.tc : Thread Cert.ActGradRefIdeal.nD Cert.ActGradRefIdeal.τ).loc Cert.ActGradRefIdeal.main_arg2))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3)
      ∧ r.2.mem ((c.tc : Thread Cert.LossHeadRefIdeal.nD Cert.LossHeadRefIdeal.τ).loc Cert.LossHeadRefIdeal.main_arg4) = m ((c.tc : Thread Cert.LossHeadRefIdeal.nD Cert.LossHeadRefIdeal.τ).loc Cert.LossHeadRefIdeal.main_arg4))
      ∧ r.2.sem = fun _ => 0)

def quiescent_BiasGrad [hBiasGrad : Cert.BiasGrad.Facts] : Prop :=
  ∀ (m : (ℓ : Loc Cert.BiasGrad.nD Cert.BiasGrad.τ Cert.BiasGrad.sig) → Buf (Elt Bits) ℓ) (g : Dev Cert.BiasGrad.nD → PrngReg), Pre_BiasGrad m →
    θ_run (Cert.BiasGrad.defs (F := Bits)) (onTc (τ := Cert.BiasGrad.τ) (Cert.BiasGrad.main (F := Bits))) ⟨m, fun _ => 0, g⟩ (fun r => (∀ c : Dev Cert.BiasGrad.nD,
      r.2.mem ((c.tc : Thread Cert.BiasGrad.nD Cert.BiasGrad.τ).loc Cert.BiasGrad.main_arg0) = m ((c.tc : Thread Cert.BiasGrad.nD Cert.BiasGrad.τ).loc Cert.BiasGrad.main_arg0))
      ∧ r.2.sem = fun _ => 0)

def quiescent_BiasGradIdeal [hBiasGradIdeal : Cert.BiasGradIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg), Pre_BiasGradIdeal m →
    θ_run (Cert.BiasGradIdeal.defs (F := Ideal)) (onTc (τ := Cert.BiasGradIdeal.τ) (Cert.BiasGradIdeal.main (F := Ideal))) ⟨m, fun _ => 0, g⟩ (fun r => (∀ c : Dev Cert.BiasGradIdeal.nD,
      r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ r.2.sem = fun _ => 0)

def quiescent_BiasGradRefIdeal [hBiasGradRefIdeal : Cert.BiasGradRefIdeal.Facts] : Prop :=
  ∀ (m : (ℓ : Loc Cert.BiasGradRefIdeal.nD Cert.BiasGradRefIdeal.τ Cert.BiasGradRefIdeal.sig) → Buf (Elt Ideal) ℓ) (g : Dev Cert.BiasGradRefIdeal.nD → PrngReg), Pre_BiasGradRefIdeal m →
    θ_run (Cert.BiasGradRefIdeal.defs (F := Ideal)) (onTc (τ := Cert.BiasGradRefIdeal.τ) (Cert.BiasGradRefIdeal.main (F := Ideal))) ⟨m, fun _ => 0, g⟩ (fun r => (∀ c : Dev Cert.BiasGradRefIdeal.nD,
      r.2.mem ((c.tc : Thread Cert.BiasGradRefIdeal.nD Cert.BiasGradRefIdeal.τ).loc Cert.BiasGradRefIdeal.main_arg0) = m ((c.tc : Thread Cert.BiasGradRefIdeal.nD Cert.BiasGradRefIdeal.τ).loc Cert.BiasGradRefIdeal.main_arg0))
      ∧ r.2.sem = fun _ => 0)

def quiescent_RetGrad [hRetGrad : Cert.RetGrad.Facts] : Prop :=
  ∀ (m : (ℓ : Loc Cert.RetGrad.nD Cert.RetGrad.τ Cert.RetGrad.sig) → Buf (Elt Bits) ℓ) (g : Dev Cert.RetGrad.nD → PrngReg), Pre_RetGrad m →
    θ_run (Cert.RetGrad.defs (F := Bits)) (onTc (τ := Cert.RetGrad.τ) (Cert.RetGrad.main (F := Bits))) ⟨m, fun _ => 0, g⟩ (fun r => (∀ c : Dev Cert.RetGrad.nD,
      r.2.mem ((c.tc : Thread Cert.RetGrad.nD Cert.RetGrad.τ).loc Cert.RetGrad.main_arg0) = m ((c.tc : Thread Cert.RetGrad.nD Cert.RetGrad.τ).loc Cert.RetGrad.main_arg0)
      ∧ r.2.mem ((c.tc : Thread Cert.RetGrad.nD Cert.RetGrad.τ).loc Cert.RetGrad.main_arg1) = m ((c.tc : Thread Cert.RetGrad.nD Cert.RetGrad.τ).loc Cert.RetGrad.main_arg1)
      ∧ r.2.mem ((c.tc : Thread Cert.RetGrad.nD Cert.RetGrad.τ).loc Cert.RetGrad.main_arg2) = m ((c.tc : Thread Cert.RetGrad.nD Cert.RetGrad.τ).loc Cert.RetGrad.main_arg2))
      ∧ r.2.sem = fun _ => 0)

def quiescent_RetGradIdeal [hRetGradIdeal : Cert.RetGradIdeal.Facts] : Prop :=
  ∀ (m : (ℓ : Loc Cert.RetGradIdeal.nD Cert.RetGradIdeal.τ Cert.RetGradIdeal.sig) → Buf (Elt Ideal) ℓ) (g : Dev Cert.RetGradIdeal.nD → PrngReg), Pre_RetGradIdeal m →
    θ_run (Cert.RetGradIdeal.defs (F := Ideal)) (onTc (τ := Cert.RetGradIdeal.τ) (Cert.RetGradIdeal.main (F := Ideal))) ⟨m, fun _ => 0, g⟩ (fun r => (∀ c : Dev Cert.RetGradIdeal.nD,
      r.2.mem ((c.tc : Thread Cert.RetGradIdeal.nD Cert.RetGradIdeal.τ).loc Cert.RetGradIdeal.main_arg0) = m ((c.tc : Thread Cert.RetGradIdeal.nD Cert.RetGradIdeal.τ).loc Cert.RetGradIdeal.main_arg0)
      ∧ r.2.mem ((c.tc : Thread Cert.RetGradIdeal.nD Cert.RetGradIdeal.τ).loc Cert.RetGradIdeal.main_arg1) = m ((c.tc : Thread Cert.RetGradIdeal.nD Cert.RetGradIdeal.τ).loc Cert.RetGradIdeal.main_arg1)
      ∧ r.2.mem ((c.tc : Thread Cert.RetGradIdeal.nD Cert.RetGradIdeal.τ).loc Cert.RetGradIdeal.main_arg2) = m ((c.tc : Thread Cert.RetGradIdeal.nD Cert.RetGradIdeal.τ).loc Cert.RetGradIdeal.main_arg2))
      ∧ r.2.sem = fun _ => 0)

def quiescent_RetGradIdeal_pre_finite_retention [hRetGradIdeal : Cert.RetGradIdeal.Facts] [hPre_finite_retention : Cert.Pre_finite_retention.Facts] : Prop :=
  ∀ (m : (ℓ : Loc Cert.RetGradIdeal.nD Cert.RetGradIdeal.τ Cert.RetGradIdeal.sig) → Buf (Elt Ideal) ℓ) (g : Dev Cert.RetGradIdeal.nD → PrngReg), Pre_RetGradIdeal_finite_retention m →
    θ_run (Cert.RetGradIdeal.defs (F := Ideal)) (onTc (τ := Cert.RetGradIdeal.τ) (Cert.RetGradIdeal.main (F := Ideal))) ⟨m, fun _ => 0, g⟩ (fun r => (∀ c : Dev Cert.RetGradIdeal.nD,
      r.2.mem ((c.tc : Thread Cert.RetGradIdeal.nD Cert.RetGradIdeal.τ).loc Cert.RetGradIdeal.main_arg0) = m ((c.tc : Thread Cert.RetGradIdeal.nD Cert.RetGradIdeal.τ).loc Cert.RetGradIdeal.main_arg0)
      ∧ r.2.mem ((c.tc : Thread Cert.RetGradIdeal.nD Cert.RetGradIdeal.τ).loc Cert.RetGradIdeal.main_arg1) = m ((c.tc : Thread Cert.RetGradIdeal.nD Cert.RetGradIdeal.τ).loc Cert.RetGradIdeal.main_arg1)
      ∧ r.2.mem ((c.tc : Thread Cert.RetGradIdeal.nD Cert.RetGradIdeal.τ).loc Cert.RetGradIdeal.main_arg2) = m ((c.tc : Thread Cert.RetGradIdeal.nD Cert.RetGradIdeal.τ).loc Cert.RetGradIdeal.main_arg2))
      ∧ r.2.sem = fun _ => 0)

def quiescent_RetGradRefIdeal [hRetGradRefIdeal : Cert.RetGradRefIdeal.Facts] : Prop :=
  ∀ (m : (ℓ : Loc Cert.RetGradRefIdeal.nD Cert.RetGradRefIdeal.τ Cert.RetGradRefIdeal.sig) → Buf (Elt Ideal) ℓ) (g : Dev Cert.RetGradRefIdeal.nD → PrngReg), Pre_RetGradRefIdeal m →
    θ_run (Cert.RetGradRefIdeal.defs (F := Ideal)) (onTc (τ := Cert.RetGradRefIdeal.τ) (Cert.RetGradRefIdeal.main (F := Ideal))) ⟨m, fun _ => 0, g⟩ (fun r => (∀ c : Dev Cert.RetGradRefIdeal.nD,
      r.2.mem ((c.tc : Thread Cert.RetGradRefIdeal.nD Cert.RetGradRefIdeal.τ).loc Cert.RetGradRefIdeal.main_arg0) = m ((c.tc : Thread Cert.RetGradRefIdeal.nD Cert.RetGradRefIdeal.τ).loc Cert.RetGradRefIdeal.main_arg0)
      ∧ r.2.mem ((c.tc : Thread Cert.RetGradRefIdeal.nD Cert.RetGradRefIdeal.τ).loc Cert.RetGradRefIdeal.main_arg1) = m ((c.tc : Thread Cert.RetGradRefIdeal.nD Cert.RetGradRefIdeal.τ).loc Cert.RetGradRefIdeal.main_arg1)
      ∧ r.2.mem ((c.tc : Thread Cert.RetGradRefIdeal.nD Cert.RetGradRefIdeal.τ).loc Cert.RetGradRefIdeal.main_arg2) = m ((c.tc : Thread Cert.RetGradRefIdeal.nD Cert.RetGradRefIdeal.τ).loc Cert.RetGradRefIdeal.main_arg2))
      ∧ r.2.sem = fun _ => 0)

def quiescent_RetGradRefIdeal_pre_finite_retention [hRetGradRefIdeal : Cert.RetGradRefIdeal.Facts] [hPre_finite_retention : Cert.Pre_finite_retention.Facts] : Prop :=
  ∀ (m : (ℓ : Loc Cert.RetGradRefIdeal.nD Cert.RetGradRefIdeal.τ Cert.RetGradRefIdeal.sig) → Buf (Elt Ideal) ℓ) (g : Dev Cert.RetGradRefIdeal.nD → PrngReg), Pre_RetGradRefIdeal_finite_retention m →
    θ_run (Cert.RetGradRefIdeal.defs (F := Ideal)) (onTc (τ := Cert.RetGradRefIdeal.τ) (Cert.RetGradRefIdeal.main (F := Ideal))) ⟨m, fun _ => 0, g⟩ (fun r => (∀ c : Dev Cert.RetGradRefIdeal.nD,
      r.2.mem ((c.tc : Thread Cert.RetGradRefIdeal.nD Cert.RetGradRefIdeal.τ).loc Cert.RetGradRefIdeal.main_arg0) = m ((c.tc : Thread Cert.RetGradRefIdeal.nD Cert.RetGradRefIdeal.τ).loc Cert.RetGradRefIdeal.main_arg0)
      ∧ r.2.mem ((c.tc : Thread Cert.RetGradRefIdeal.nD Cert.RetGradRefIdeal.τ).loc Cert.RetGradRefIdeal.main_arg1) = m ((c.tc : Thread Cert.RetGradRefIdeal.nD Cert.RetGradRefIdeal.τ).loc Cert.RetGradRefIdeal.main_arg1)
      ∧ r.2.mem ((c.tc : Thread Cert.RetGradRefIdeal.nD Cert.RetGradRefIdeal.τ).loc Cert.RetGradRefIdeal.main_arg2) = m ((c.tc : Thread Cert.RetGradRefIdeal.nD Cert.RetGradRefIdeal.τ).loc Cert.RetGradRefIdeal.main_arg2))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1)
      ∧ r.2.mem ((c.tc : Thread Cert.RetIn.nD Cert.RetIn.τ).loc Cert.RetIn.main_arg2) = m ((c.tc : Thread Cert.RetIn.nD Cert.RetIn.τ).loc Cert.RetIn.main_arg2)
      ∧ r.2.mem ((c.tc : Thread Cert.RetIn.nD Cert.RetIn.τ).loc Cert.RetIn.main_arg3) = m ((c.tc : Thread Cert.RetIn.nD Cert.RetIn.τ).loc Cert.RetIn.main_arg3)
      ∧ r.2.mem ((c.tc : Thread Cert.RetIn.nD Cert.RetIn.τ).loc Cert.RetIn.main_arg4) = m ((c.tc : Thread Cert.RetIn.nD Cert.RetIn.τ).loc Cert.RetIn.main_arg4))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
      ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
      ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3)
      ∧ r.2.mem ((c.tc : Thread Cert.RetInIdeal.nD Cert.RetInIdeal.τ).loc Cert.RetInIdeal.main_arg4) = m ((c.tc : Thread Cert.RetInIdeal.nD Cert.RetInIdeal.τ).loc Cert.RetInIdeal.main_arg4))
      ∧ r.2.sem = fun _ => 0)

def quiescent_RetInRefIdeal [hRetInRefIdeal : Cert.RetInRefIdeal.Facts] : Prop :=
  ∀ (m : (ℓ : Loc Cert.RetInRefIdeal.nD Cert.RetInRefIdeal.τ Cert.RetInRefIdeal.sig) → Buf (Elt Ideal) ℓ) (g : Dev Cert.RetInRefIdeal.nD → PrngReg), Pre_RetInRefIdeal m →
    θ_run (Cert.RetInRefIdeal.defs (F := Ideal)) (onTc (τ := Cert.RetInRefIdeal.τ) (Cert.RetInRefIdeal.main (F := Ideal))) ⟨m, fun _ => 0, g⟩ (fun r => (∀ c : Dev Cert.RetInRefIdeal.nD,
      r.2.mem ((c.tc : Thread Cert.RetInRefIdeal.nD Cert.RetInRefIdeal.τ).loc Cert.RetInRefIdeal.main_arg0) = m ((c.tc : Thread Cert.RetInRefIdeal.nD Cert.RetInRefIdeal.τ).loc Cert.RetInRefIdeal.main_arg0)
      ∧ r.2.mem ((c.tc : Thread Cert.RetInRefIdeal.nD Cert.RetInRefIdeal.τ).loc Cert.RetInRefIdeal.main_arg1) = m ((c.tc : Thread Cert.RetInRefIdeal.nD Cert.RetInRefIdeal.τ).loc Cert.RetInRefIdeal.main_arg1)
      ∧ r.2.mem ((c.tc : Thread Cert.RetInRefIdeal.nD Cert.RetInRefIdeal.τ).loc Cert.RetInRefIdeal.main_arg2) = m ((c.tc : Thread Cert.RetInRefIdeal.nD Cert.RetInRefIdeal.τ).loc Cert.RetInRefIdeal.main_arg2)
      ∧ r.2.mem ((c.tc : Thread Cert.RetInRefIdeal.nD Cert.RetInRefIdeal.τ).loc Cert.RetInRefIdeal.main_arg3) = m ((c.tc : Thread Cert.RetInRefIdeal.nD Cert.RetInRefIdeal.τ).loc Cert.RetInRefIdeal.main_arg3)
      ∧ r.2.mem ((c.tc : Thread Cert.RetInRefIdeal.nD Cert.RetInRefIdeal.τ).loc Cert.RetInRefIdeal.main_arg4) = m ((c.tc : Thread Cert.RetInRefIdeal.nD Cert.RetInRefIdeal.τ).loc Cert.RetInRefIdeal.main_arg4))
      ∧ r.2.sem = fun _ => 0)

def quiescent_AttIn [hAttIn : Cert.AttIn.Facts] : Prop :=
  ∀ (m : (ℓ : Loc Cert.AttIn.nD Cert.AttIn.τ Cert.AttIn.sig) → Buf (Elt Bits) ℓ) (g : Dev Cert.AttIn.nD → PrngReg), Pre_AttIn m →
    θ_run (Cert.AttIn.defs (F := Bits)) (onTc (τ := Cert.AttIn.τ) (Cert.AttIn.main (F := Bits))) ⟨m, fun _ => 0, g⟩ (fun r => (∀ c : Dev Cert.AttIn.nD,
      r.2.mem ((c.tc : Thread Cert.AttIn.nD Cert.AttIn.τ).loc Cert.AttIn.main_arg0) = m ((c.tc : Thread Cert.AttIn.nD Cert.AttIn.τ).loc Cert.AttIn.main_arg0)
      ∧ r.2.mem ((c.tc : Thread Cert.AttIn.nD Cert.AttIn.τ).loc Cert.AttIn.main_arg1) = m ((c.tc : Thread Cert.AttIn.nD Cert.AttIn.τ).loc Cert.AttIn.main_arg1)
      ∧ r.2.mem ((c.tc : Thread Cert.AttIn.nD Cert.AttIn.τ).loc Cert.AttIn.main_arg2) = m ((c.tc : Thread Cert.AttIn.nD Cert.AttIn.τ).loc Cert.AttIn.main_arg2)
      ∧ r.2.mem ((c.tc : Thread Cert.AttIn.nD Cert.AttIn.τ).loc Cert.AttIn.main_arg3) = m ((c.tc : Thread Cert.AttIn.nD Cert.AttIn.τ).loc Cert.AttIn.main_arg3)
      ∧ r.2.mem ((c.tc : Thread Cert.AttIn.nD Cert.AttIn.τ).loc Cert.AttIn.main_arg4) = m ((c.tc : Thread Cert.AttIn.nD Cert.AttIn.τ).loc Cert.AttIn.main_arg4)
      ∧ r.2.mem ((c.tc : Thread Cert.AttIn.nD Cert.AttIn.τ).loc Cert.AttIn.main_arg5) = m ((c.tc : Thread Cert.AttIn.nD Cert.AttIn.τ).loc Cert.AttIn.main_arg5)
      ∧ r.2.mem ((c.tc : Thread Cert.AttIn.nD Cert.AttIn.τ).loc Cert.AttIn.main_arg6) = m ((c.tc : Thread Cert.AttIn.nD Cert.AttIn.τ).loc Cert.AttIn.main_arg6))
      ∧ r.2.sem = fun _ => 0)

def quiescent_AttInIdeal [hAttInIdeal : Cert.AttInIdeal.Facts] : Prop :=
  ∀ (m : (ℓ : Loc Cert.AttInIdeal.nD Cert.AttInIdeal.τ Cert.AttInIdeal.sig) → Buf (Elt Ideal) ℓ) (g : Dev Cert.AttInIdeal.nD → PrngReg), Pre_AttInIdeal m →
    θ_run (Cert.AttInIdeal.defs (F := Ideal)) (onTc (τ := Cert.AttInIdeal.τ) (Cert.AttInIdeal.main (F := Ideal))) ⟨m, fun _ => 0, g⟩ (fun r => (∀ c : Dev Cert.AttInIdeal.nD,
      r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
      ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
      ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2)
      ∧ r.2.mem ((c.tc : Thread Cert.AttInIdeal.nD Cert.AttInIdeal.τ).loc Cert.AttInIdeal.main_arg3) = m ((c.tc : Thread Cert.AttInIdeal.nD Cert.AttInIdeal.τ).loc Cert.AttInIdeal.main_arg3)
      ∧ r.2.mem ((c.tc : Thread Cert.AttInIdeal.nD Cert.AttInIdeal.τ).loc Cert.AttInIdeal.main_arg4) = m ((c.tc : Thread Cert.AttInIdeal.nD Cert.AttInIdeal.τ).loc Cert.AttInIdeal.main_arg4)
      ∧ r.2.mem ((c.tc : Thread Cert.AttInIdeal.nD Cert.AttInIdeal.τ).loc Cert.AttInIdeal.main_arg5) = m ((c.tc : Thread Cert.AttInIdeal.nD Cert.AttInIdeal.τ).loc Cert.AttInIdeal.main_arg5)
      ∧ r.2.mem ((c.tc : Thread Cert.AttInIdeal.nD Cert.AttInIdeal.τ).loc Cert.AttInIdeal.main_arg6) = m ((c.tc : Thread Cert.AttInIdeal.nD Cert.AttInIdeal.τ).loc Cert.AttInIdeal.main_arg6))
      ∧ r.2.sem = fun _ => 0)

def quiescent_AttInRefIdeal [hAttInRefIdeal : Cert.AttInRefIdeal.Facts] : Prop :=
  ∀ (m : (ℓ : Loc Cert.AttInRefIdeal.nD Cert.AttInRefIdeal.τ Cert.AttInRefIdeal.sig) → Buf (Elt Ideal) ℓ) (g : Dev Cert.AttInRefIdeal.nD → PrngReg), Pre_AttInRefIdeal m →
    θ_run (Cert.AttInRefIdeal.defs (F := Ideal)) (onTc (τ := Cert.AttInRefIdeal.τ) (Cert.AttInRefIdeal.main (F := Ideal))) ⟨m, fun _ => 0, g⟩ (fun r => (∀ c : Dev Cert.AttInRefIdeal.nD,
      r.2.mem ((c.tc : Thread Cert.AttInRefIdeal.nD Cert.AttInRefIdeal.τ).loc Cert.AttInRefIdeal.main_arg0) = m ((c.tc : Thread Cert.AttInRefIdeal.nD Cert.AttInRefIdeal.τ).loc Cert.AttInRefIdeal.main_arg0)
      ∧ r.2.mem ((c.tc : Thread Cert.AttInRefIdeal.nD Cert.AttInRefIdeal.τ).loc Cert.AttInRefIdeal.main_arg1) = m ((c.tc : Thread Cert.AttInRefIdeal.nD Cert.AttInRefIdeal.τ).loc Cert.AttInRefIdeal.main_arg1)
      ∧ r.2.mem ((c.tc : Thread Cert.AttInRefIdeal.nD Cert.AttInRefIdeal.τ).loc Cert.AttInRefIdeal.main_arg2) = m ((c.tc : Thread Cert.AttInRefIdeal.nD Cert.AttInRefIdeal.τ).loc Cert.AttInRefIdeal.main_arg2)
      ∧ r.2.mem ((c.tc : Thread Cert.AttInRefIdeal.nD Cert.AttInRefIdeal.τ).loc Cert.AttInRefIdeal.main_arg3) = m ((c.tc : Thread Cert.AttInRefIdeal.nD Cert.AttInRefIdeal.τ).loc Cert.AttInRefIdeal.main_arg3)
      ∧ r.2.mem ((c.tc : Thread Cert.AttInRefIdeal.nD Cert.AttInRefIdeal.τ).loc Cert.AttInRefIdeal.main_arg4) = m ((c.tc : Thread Cert.AttInRefIdeal.nD Cert.AttInRefIdeal.τ).loc Cert.AttInRefIdeal.main_arg4)
      ∧ r.2.mem ((c.tc : Thread Cert.AttInRefIdeal.nD Cert.AttInRefIdeal.τ).loc Cert.AttInRefIdeal.main_arg5) = m ((c.tc : Thread Cert.AttInRefIdeal.nD Cert.AttInRefIdeal.τ).loc Cert.AttInRefIdeal.main_arg5)
      ∧ r.2.mem ((c.tc : Thread Cert.AttInRefIdeal.nD Cert.AttInRefIdeal.τ).loc Cert.AttInRefIdeal.main_arg6) = m ((c.tc : Thread Cert.AttInRefIdeal.nD Cert.AttInRefIdeal.τ).loc Cert.AttInRefIdeal.main_arg6))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1)
      ∧ r.2.mem ((c.tc : Thread Cert.MlpUpRefIdeal.nD Cert.MlpUpRefIdeal.τ).loc Cert.MlpUpRefIdeal.main_arg2) = m ((c.tc : Thread Cert.MlpUpRefIdeal.nD Cert.MlpUpRefIdeal.τ).loc Cert.MlpUpRefIdeal.main_arg2))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ r.2.sem = fun _ => 0)

def quiescent_RetProjRefIdeal [hRetProjRefIdeal : Cert.RetProjRefIdeal.Facts] : Prop :=
  ∀ (m : (ℓ : Loc Cert.RetProjRefIdeal.nD Cert.RetProjRefIdeal.τ Cert.RetProjRefIdeal.sig) → Buf (Elt Ideal) ℓ) (g : Dev Cert.RetProjRefIdeal.nD → PrngReg), Pre_RetProjRefIdeal m →
    θ_run (Cert.RetProjRefIdeal.defs (F := Ideal)) (onTc (τ := Cert.RetProjRefIdeal.τ) (Cert.RetProjRefIdeal.main (F := Ideal))) ⟨m, fun _ => 0, g⟩ (fun r => (∀ c : Dev Cert.RetProjRefIdeal.nD,
      r.2.mem ((c.tc : Thread Cert.RetProjRefIdeal.nD Cert.RetProjRefIdeal.τ).loc Cert.RetProjRefIdeal.main_arg0) = m ((c.tc : Thread Cert.RetProjRefIdeal.nD Cert.RetProjRefIdeal.τ).loc Cert.RetProjRefIdeal.main_arg0)
      ∧ r.2.mem ((c.tc : Thread Cert.RetProjRefIdeal.nD Cert.RetProjRefIdeal.τ).loc Cert.RetProjRefIdeal.main_arg1) = m ((c.tc : Thread Cert.RetProjRefIdeal.nD Cert.RetProjRefIdeal.τ).loc Cert.RetProjRefIdeal.main_arg1)
      ∧ r.2.mem ((c.tc : Thread Cert.RetProjRefIdeal.nD Cert.RetProjRefIdeal.τ).loc Cert.RetProjRefIdeal.main_arg2) = m ((c.tc : Thread Cert.RetProjRefIdeal.nD Cert.RetProjRefIdeal.τ).loc Cert.RetProjRefIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_RetFwd [hRetFwd : Cert.RetFwd.Facts] : Prop :=
  ∀ (m : (ℓ : Loc Cert.RetFwd.nD Cert.RetFwd.τ Cert.RetFwd.sig) → Buf (Elt Bits) ℓ) (g : Dev Cert.RetFwd.nD → PrngReg), Pre_RetFwd m →
    θ_run (Cert.RetFwd.defs (F := Bits)) (onTc (τ := Cert.RetFwd.τ) (Cert.RetFwd.main (F := Bits))) ⟨m, fun _ => 0, g⟩ (fun r => (∀ c : Dev Cert.RetFwd.nD,
      r.2.mem ((c.tc : Thread Cert.RetFwd.nD Cert.RetFwd.τ).loc Cert.RetFwd.main_arg0) = m ((c.tc : Thread Cert.RetFwd.nD Cert.RetFwd.τ).loc Cert.RetFwd.main_arg0)
      ∧ r.2.mem ((c.tc : Thread Cert.RetFwd.nD Cert.RetFwd.τ).loc Cert.RetFwd.main_arg1) = m ((c.tc : Thread Cert.RetFwd.nD Cert.RetFwd.τ).loc Cert.RetFwd.main_arg1))
      ∧ r.2.sem = fun _ => 0)

def quiescent_RetFwdIdeal [hRetFwdIdeal : Cert.RetFwdIdeal.Facts] : Prop :=
  ∀ (m : (ℓ : Loc Cert.RetFwdIdeal.nD Cert.RetFwdIdeal.τ Cert.RetFwdIdeal.sig) → Buf (Elt Ideal) ℓ) (g : Dev Cert.RetFwdIdeal.nD → PrngReg), Pre_RetFwdIdeal m →
    θ_run (Cert.RetFwdIdeal.defs (F := Ideal)) (onTc (τ := Cert.RetFwdIdeal.τ) (Cert.RetFwdIdeal.main (F := Ideal))) ⟨m, fun _ => 0, g⟩ (fun r => (∀ c : Dev Cert.RetFwdIdeal.nD,
      r.2.mem ((c.tc : Thread Cert.RetFwdIdeal.nD Cert.RetFwdIdeal.τ).loc Cert.RetFwdIdeal.main_arg0) = m ((c.tc : Thread Cert.RetFwdIdeal.nD Cert.RetFwdIdeal.τ).loc Cert.RetFwdIdeal.main_arg0)
      ∧ r.2.mem ((c.tc : Thread Cert.RetFwdIdeal.nD Cert.RetFwdIdeal.τ).loc Cert.RetFwdIdeal.main_arg1) = m ((c.tc : Thread Cert.RetFwdIdeal.nD Cert.RetFwdIdeal.τ).loc Cert.RetFwdIdeal.main_arg1))
      ∧ r.2.sem = fun _ => 0)

def quiescent_AttFwd [hAttFwd : Cert.AttFwd.Facts] : Prop :=
  ∀ (m : (ℓ : Loc Cert.AttFwd.nD Cert.AttFwd.τ Cert.AttFwd.sig) → Buf (Elt Bits) ℓ) (g : Dev Cert.AttFwd.nD → PrngReg), Pre_AttFwd m →
    θ_run (Cert.AttFwd.defs (F := Bits)) (onTc (τ := Cert.AttFwd.τ) (Cert.AttFwd.main (F := Bits))) ⟨m, fun _ => 0, g⟩ (fun r => (∀ c : Dev Cert.AttFwd.nD,
      r.2.mem ((c.tc : Thread Cert.AttFwd.nD Cert.AttFwd.τ).loc Cert.AttFwd.main_arg0) = m ((c.tc : Thread Cert.AttFwd.nD Cert.AttFwd.τ).loc Cert.AttFwd.main_arg0)
      ∧ r.2.mem ((c.tc : Thread Cert.AttFwd.nD Cert.AttFwd.τ).loc Cert.AttFwd.main_arg1) = m ((c.tc : Thread Cert.AttFwd.nD Cert.AttFwd.τ).loc Cert.AttFwd.main_arg1))
      ∧ r.2.sem = fun _ => 0)

def quiescent_AttFwdIdeal [hAttFwdIdeal : Cert.AttFwdIdeal.Facts] : Prop :=
  ∀ (m : (ℓ : Loc Cert.AttFwdIdeal.nD Cert.AttFwdIdeal.τ Cert.AttFwdIdeal.sig) → Buf (Elt Ideal) ℓ) (g : Dev Cert.AttFwdIdeal.nD → PrngReg), Pre_AttFwdIdeal m →
    θ_run (Cert.AttFwdIdeal.defs (F := Ideal)) (onTc (τ := Cert.AttFwdIdeal.τ) (Cert.AttFwdIdeal.main (F := Ideal))) ⟨m, fun _ => 0, g⟩ (fun r => (∀ c : Dev Cert.AttFwdIdeal.nD,
      r.2.mem ((c.tc : Thread Cert.AttFwdIdeal.nD Cert.AttFwdIdeal.τ).loc Cert.AttFwdIdeal.main_arg0) = m ((c.tc : Thread Cert.AttFwdIdeal.nD Cert.AttFwdIdeal.τ).loc Cert.AttFwdIdeal.main_arg0)
      ∧ r.2.mem ((c.tc : Thread Cert.AttFwdIdeal.nD Cert.AttFwdIdeal.τ).loc Cert.AttFwdIdeal.main_arg1) = m ((c.tc : Thread Cert.AttFwdIdeal.nD Cert.AttFwdIdeal.τ).loc Cert.AttFwdIdeal.main_arg1))
      ∧ r.2.sem = fun _ => 0)

def quiescent_SquareGrad [hSquareGrad : Cert.SquareGrad.Facts] : Prop :=
  ∀ (m : (ℓ : Loc Cert.SquareGrad.nD Cert.SquareGrad.τ Cert.SquareGrad.sig) → Buf (Elt Bits) ℓ) (g : Dev Cert.SquareGrad.nD → PrngReg), Pre_SquareGrad m →
    θ_run (Cert.SquareGrad.defs (F := Bits)) (onTc (τ := Cert.SquareGrad.τ) (Cert.SquareGrad.main (F := Bits))) ⟨m, fun _ => 0, g⟩ (fun r => (∀ c : Dev Cert.SquareGrad.nD,
      r.2.mem ((c.tc : Thread Cert.SquareGrad.nD Cert.SquareGrad.τ).loc Cert.SquareGrad.main_arg0) = m ((c.tc : Thread Cert.SquareGrad.nD Cert.SquareGrad.τ).loc Cert.SquareGrad.main_arg0)
      ∧ r.2.mem ((c.tc : Thread Cert.SquareGrad.nD Cert.SquareGrad.τ).loc Cert.SquareGrad.main_arg1) = m ((c.tc : Thread Cert.SquareGrad.nD Cert.SquareGrad.τ).loc Cert.SquareGrad.main_arg1))
      ∧ r.2.sem = fun _ => 0)

def quiescent_SquareGradIdeal [hSquareGradIdeal : Cert.SquareGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg), Pre_SquareGradIdeal m →
    θ_run (Cert.SquareGradIdeal.defs (F := Ideal)) (onTc (τ := Cert.SquareGradIdeal.τ) (Cert.SquareGradIdeal.main (F := Ideal))) ⟨m, fun _ => 0, g⟩ (fun r => (∀ c : Dev Cert.SquareGradIdeal.nD,
      r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
      ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ r.2.sem = fun _ => 0)

def quiescent_SquareGradRefIdeal [hSquareGradRefIdeal : Cert.SquareGradRefIdeal.Facts] : Prop :=
  ∀ (m : (ℓ : Loc Cert.SquareGradRefIdeal.nD Cert.SquareGradRefIdeal.τ Cert.SquareGradRefIdeal.sig) → Buf (Elt Ideal) ℓ) (g : Dev Cert.SquareGradRefIdeal.nD → PrngReg), Pre_SquareGradRefIdeal m →
    θ_run (Cert.SquareGradRefIdeal.defs (F := Ideal)) (onTc (τ := Cert.SquareGradRefIdeal.τ) (Cert.SquareGradRefIdeal.main (F := Ideal))) ⟨m, fun _ => 0, g⟩ (fun r => (∀ c : Dev Cert.SquareGradRefIdeal.nD,
      r.2.mem ((c.tc : Thread Cert.SquareGradRefIdeal.nD Cert.SquareGradRefIdeal.τ).loc Cert.SquareGradRefIdeal.main_arg0) = m ((c.tc : Thread Cert.SquareGradRefIdeal.nD Cert.SquareGradRefIdeal.τ).loc Cert.SquareGradRefIdeal.main_arg0)
      ∧ r.2.mem ((c.tc : Thread Cert.SquareGradRefIdeal.nD Cert.SquareGradRefIdeal.τ).loc Cert.SquareGradRefIdeal.main_arg1) = m ((c.tc : Thread Cert.SquareGradRefIdeal.nD Cert.SquareGradRefIdeal.τ).loc Cert.SquareGradRefIdeal.main_arg1))
      ∧ r.2.sem = fun _ => 0)

def preserves_ActGrad_ActGradIdeal : Prop :=
  True

def algebraic_ActGradIdeal_ActGradRefIdeal [hActGradIdeal : Cert.ActGradIdeal.Facts] [hActGradRefIdeal : Cert.ActGradRefIdeal.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradRefIdeal.nD Cert.ActGradRefIdeal.τ Cert.ActGradRefIdeal.sig) → Buf (Elt Ideal) ℓ) (g' : Dev Cert.ActGradRefIdeal.nD → PrngReg), Pre_ActGradIdeal m →
    (∀ c : Dev Cert.ActGradIdeal.nD,
      m' ((c.tc : Thread Cert.ActGradRefIdeal.nD Cert.ActGradRefIdeal.τ).loc Cert.ActGradRefIdeal.main_arg0) = m ((c.tc : Thread Cert.ActGradIdeal.nD Cert.ActGradIdeal.τ).loc Cert.ActGradIdeal.main_arg0)
      ∧ m' ((c.tc : Thread Cert.ActGradRefIdeal.nD Cert.ActGradRefIdeal.τ).loc Cert.ActGradRefIdeal.main_arg1) = m ((c.tc : Thread Cert.ActGradIdeal.nD Cert.ActGradIdeal.τ).loc Cert.ActGradIdeal.main_arg1)
      ∧ m' ((c.tc : Thread Cert.ActGradRefIdeal.nD Cert.ActGradRefIdeal.τ).loc Cert.ActGradRefIdeal.main_arg2) = m ((c.tc : Thread Cert.ActGradIdeal.nD Cert.ActGradIdeal.τ).loc Cert.ActGradIdeal.main_arg2)) →
    ∃ (v0 : (c : Dev Cert.ActGradIdeal.nD) → Buf (Elt Ideal) ((c.tc : Thread Cert.ActGradIdeal.nD Cert.ActGradIdeal.τ).loc Cert.ActGradIdeal.main_v5)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v5) = v0 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2))
      ∧ θ_run (Cert.ActGradRefIdeal.defs (F := Ideal)) (onTc (τ := Cert.ActGradRefIdeal.τ) (Cert.ActGradRefIdeal.main (F := Ideal))) ⟨m', fun _ => 0, g'⟩ (fun r => ∀ c : Dev Cert.ActGradRefIdeal.nD,
          r.2.mem ((c.tc : Thread Cert.ActGradRefIdeal.nD Cert.ActGradRefIdeal.τ).loc Cert.ActGradRefIdeal.main_v12) = v0 c
          ∧ r.2.mem ((c.tc : Thread Cert.ActGradRefIdeal.nD Cert.ActGradRefIdeal.τ).loc Cert.ActGradRefIdeal.main_arg0) = m' ((c.tc : Thread Cert.ActGradRefIdeal.nD Cert.ActGradRefIdeal.τ).loc Cert.ActGradRefIdeal.main_arg0)
          ∧ r.2.mem ((c.tc : Thread Cert.ActGradRefIdeal.nD Cert.ActGradRefIdeal.τ).loc Cert.ActGradRefIdeal.main_arg1) = m' ((c.tc : Thread Cert.ActGradRefIdeal.nD Cert.ActGradRefIdeal.τ).loc Cert.ActGradRefIdeal.main_arg1)
          ∧ r.2.mem ((c.tc : Thread Cert.ActGradRefIdeal.nD Cert.ActGradRefIdeal.τ).loc Cert.ActGradRefIdeal.main_arg2) = m' ((c.tc : Thread Cert.ActGradRefIdeal.nD Cert.ActGradRefIdeal.τ).loc Cert.ActGradRefIdeal.main_arg2))

def preserves_NormGrad_NormGradIdeal : Prop :=
  True

def algebraic_NormGradIdeal_NormGradRefIdeal [hNormGradIdeal : Cert.NormGradIdeal.Facts] [hNormGradRefIdeal : Cert.NormGradRefIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)) →
    ∃ (v0 : (c : Dev Cert.NormGradIdeal.nD) → Buf (Elt Ideal) ((c.tc : Thread Cert.NormGradIdeal.nD Cert.NormGradIdeal.τ).loc Cert.NormGradIdeal.main_v5_0)) (v1 : (c : Dev Cert.NormGradIdeal.nD) → Buf (Elt Ideal) ((c.tc : Thread Cert.NormGradIdeal.nD Cert.NormGradIdeal.τ).loc Cert.NormGradIdeal.main_v5_1)) (v2 : (c : Dev Cert.NormGradIdeal.nD) → Buf (Elt Ideal) ((c.tc : Thread Cert.NormGradIdeal.nD Cert.NormGradIdeal.τ).loc Cert.NormGradIdeal.main_v5_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v5_0) = v0 c
          ∧ r.2.mem ((c.tc : Thread Cert.NormGradIdeal.nD Cert.NormGradIdeal.τ).loc Cert.NormGradIdeal.main_v5_1) = v1 c
          ∧ r.2.mem ((c.tc : Thread Cert.NormGradIdeal.nD Cert.NormGradIdeal.τ).loc Cert.NormGradIdeal.main_v5_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v38) = v0 c
          ∧ r.2.mem ((c.tc : Thread Cert.NormGradRefIdeal.nD Cert.NormGradRefIdeal.τ).loc Cert.NormGradRefIdeal.main_v39) = v1 c
          ∧ r.2.mem ((c.tc : Thread Cert.NormGradRefIdeal.nD Cert.NormGradRefIdeal.τ).loc Cert.NormGradRefIdeal.main_v40) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)
      ∧ m' ((c.tc : Thread Cert.LossHeadRefIdeal.nD Cert.LossHeadRefIdeal.τ).loc Cert.LossHeadRefIdeal.main_arg4) = m ((c.tc : Thread Cert.LossHeadIdeal.nD Cert.LossHeadIdeal.τ).loc Cert.LossHeadIdeal.main_arg4)) →
    ∃ (v0 : (c : Dev Cert.LossHeadIdeal.nD) → Buf (Elt Ideal) ((c.tc : Thread Cert.LossHeadIdeal.nD Cert.LossHeadIdeal.τ).loc Cert.LossHeadIdeal.main_v5_0)) (v1 : (c : Dev Cert.LossHeadIdeal.nD) → Buf (Elt Ideal) ((c.tc : Thread Cert.LossHeadIdeal.nD Cert.LossHeadIdeal.τ).loc Cert.LossHeadIdeal.main_v5_1)) (v2 : (c : Dev Cert.LossHeadIdeal.nD) → Buf (Elt Ideal) ((c.tc : Thread Cert.LossHeadIdeal.nD Cert.LossHeadIdeal.τ).loc Cert.LossHeadIdeal.main_v5_2)) (v3 : (c : Dev Cert.LossHeadIdeal.nD) → Buf (Elt Ideal) ((c.tc : Thread Cert.LossHeadIdeal.nD Cert.LossHeadIdeal.τ).loc Cert.LossHeadIdeal.main_v5_3)) (v4 : (c : Dev Cert.LossHeadIdeal.nD) → Buf (Elt Ideal) ((c.tc : Thread Cert.LossHeadIdeal.nD Cert.LossHeadIdeal.τ).loc Cert.LossHeadIdeal.main_v5_4)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v5_0) = v0 c
          ∧ r.2.mem ((c.tc : Thread Cert.LossHeadIdeal.nD Cert.LossHeadIdeal.τ).loc Cert.LossHeadIdeal.main_v5_1) = v1 c
          ∧ r.2.mem ((c.tc : Thread Cert.LossHeadIdeal.nD Cert.LossHeadIdeal.τ).loc Cert.LossHeadIdeal.main_v5_2) = v2 c
          ∧ r.2.mem ((c.tc : Thread Cert.LossHeadIdeal.nD Cert.LossHeadIdeal.τ).loc Cert.LossHeadIdeal.main_v5_3) = v3 c
          ∧ r.2.mem ((c.tc : Thread Cert.LossHeadIdeal.nD Cert.LossHeadIdeal.τ).loc Cert.LossHeadIdeal.main_v5_4) = v4 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v55) = v0 c
          ∧ r.2.mem ((c.tc : Thread Cert.LossHeadRefIdeal.nD Cert.LossHeadRefIdeal.τ).loc Cert.LossHeadRefIdeal.main_v56) = v1 c
          ∧ r.2.mem ((c.tc : Thread Cert.LossHeadRefIdeal.nD Cert.LossHeadRefIdeal.τ).loc Cert.LossHeadRefIdeal.main_v57) = v2 c
          ∧ r.2.mem ((c.tc : Thread Cert.LossHeadRefIdeal.nD Cert.LossHeadRefIdeal.τ).loc Cert.LossHeadRefIdeal.main_v58) = v3 c
          ∧ r.2.mem ((c.tc : Thread Cert.LossHeadRefIdeal.nD Cert.LossHeadRefIdeal.τ).loc Cert.LossHeadRefIdeal.main_v59) = v4 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3)
          ∧ r.2.mem ((c.tc : Thread Cert.LossHeadRefIdeal.nD Cert.LossHeadRefIdeal.τ).loc Cert.LossHeadRefIdeal.main_arg4) = m' ((c.tc : Thread Cert.LossHeadRefIdeal.nD Cert.LossHeadRefIdeal.τ).loc Cert.LossHeadRefIdeal.main_arg4))

def preserves_BiasGrad_BiasGradIdeal : Prop :=
  True

def algebraic_BiasGradIdeal_BiasGradRefIdeal [hBiasGradIdeal : Cert.BiasGradIdeal.Facts] [hBiasGradRefIdeal : Cert.BiasGradRefIdeal.Facts] : Prop :=
  ∀ (m : (ℓ : Loc Cert.BiasGradIdeal.nD Cert.BiasGradIdeal.τ Cert.BiasGradIdeal.sig) → Buf (Elt Ideal) ℓ) (g : Dev Cert.BiasGradIdeal.nD → PrngReg)
    (m' : (ℓ : Loc Cert.BiasGradRefIdeal.nD Cert.BiasGradRefIdeal.τ Cert.BiasGradRefIdeal.sig) → Buf (Elt Ideal) ℓ) (g' : Dev Cert.BiasGradRefIdeal.nD → PrngReg), Pre_BiasGradIdeal m →
    (∀ c : Dev Cert.BiasGradIdeal.nD,
      m' ((c.tc : Thread Cert.BiasGradRefIdeal.nD Cert.BiasGradRefIdeal.τ).loc Cert.BiasGradRefIdeal.main_arg0) = m ((c.tc : Thread Cert.BiasGradIdeal.nD Cert.BiasGradIdeal.τ).loc Cert.BiasGradIdeal.main_arg0)) →
    ∃ (v0 : (c : Dev Cert.BiasGradIdeal.nD) → Buf (Elt Ideal) ((c.tc : Thread Cert.BiasGradIdeal.nD Cert.BiasGradIdeal.τ).loc Cert.BiasGradIdeal.main_v20)),
      θ_run (Cert.BiasGradIdeal.defs (F := Ideal)) (onTc (τ := Cert.BiasGradIdeal.τ) (Cert.BiasGradIdeal.main (F := Ideal))) ⟨m, fun _ => 0, g⟩ (fun r => ∀ c : Dev Cert.BiasGradIdeal.nD,
          r.2.mem ((c.tc : Thread Cert.BiasGradIdeal.nD Cert.BiasGradIdeal.τ).loc Cert.BiasGradIdeal.main_v20) = v0 c
          ∧ r.2.mem ((c.tc : Thread Cert.BiasGradIdeal.nD Cert.BiasGradIdeal.τ).loc Cert.BiasGradIdeal.main_arg0) = m ((c.tc : Thread Cert.BiasGradIdeal.nD Cert.BiasGradIdeal.τ).loc Cert.BiasGradIdeal.main_arg0))
      ∧ θ_run (Cert.BiasGradRefIdeal.defs (F := Ideal)) (onTc (τ := Cert.BiasGradRefIdeal.τ) (Cert.BiasGradRefIdeal.main (F := Ideal))) ⟨m', fun _ => 0, g'⟩ (fun r => ∀ c : Dev Cert.BiasGradRefIdeal.nD,
          r.2.mem ((c.tc : Thread Cert.BiasGradRefIdeal.nD Cert.BiasGradRefIdeal.τ).loc Cert.BiasGradRefIdeal.main_v28) = v0 c
          ∧ r.2.mem ((c.tc : Thread Cert.BiasGradRefIdeal.nD Cert.BiasGradRefIdeal.τ).loc Cert.BiasGradRefIdeal.main_arg0) = m' ((c.tc : Thread Cert.BiasGradRefIdeal.nD Cert.BiasGradRefIdeal.τ).loc Cert.BiasGradRefIdeal.main_arg0))

def preserves_RetGrad_RetGradIdeal : Prop :=
  True

def algebraic_RetGradIdeal_RetGradRefIdeal_pre_finite_retention [hRetGradIdeal : Cert.RetGradIdeal.Facts] [hRetGradRefIdeal : Cert.RetGradRefIdeal.Facts] [hPre_finite_retention : Cert.Pre_finite_retention.Facts] : Prop :=
  ∀ (m : (ℓ : Loc Cert.RetGradIdeal.nD Cert.RetGradIdeal.τ Cert.RetGradIdeal.sig) → Buf (Elt Ideal) ℓ) (g : Dev Cert.RetGradIdeal.nD → PrngReg)
    (m' : (ℓ : Loc Cert.RetGradRefIdeal.nD Cert.RetGradRefIdeal.τ Cert.RetGradRefIdeal.sig) → Buf (Elt Ideal) ℓ) (g' : Dev Cert.RetGradRefIdeal.nD → PrngReg), Pre_RetGradIdeal_finite_retention m →
    (∀ c : Dev Cert.RetGradIdeal.nD,
      m' ((c.tc : Thread Cert.RetGradRefIdeal.nD Cert.RetGradRefIdeal.τ).loc Cert.RetGradRefIdeal.main_arg0) = m ((c.tc : Thread Cert.RetGradIdeal.nD Cert.RetGradIdeal.τ).loc Cert.RetGradIdeal.main_arg0)
      ∧ m' ((c.tc : Thread Cert.RetGradRefIdeal.nD Cert.RetGradRefIdeal.τ).loc Cert.RetGradRefIdeal.main_arg1) = m ((c.tc : Thread Cert.RetGradIdeal.nD Cert.RetGradIdeal.τ).loc Cert.RetGradIdeal.main_arg1)
      ∧ m' ((c.tc : Thread Cert.RetGradRefIdeal.nD Cert.RetGradRefIdeal.τ).loc Cert.RetGradRefIdeal.main_arg2) = m ((c.tc : Thread Cert.RetGradIdeal.nD Cert.RetGradIdeal.τ).loc Cert.RetGradIdeal.main_arg2)) →
    ∃ (v0 : (c : Dev Cert.RetGradIdeal.nD) → Buf (Elt Ideal) ((c.tc : Thread Cert.RetGradIdeal.nD Cert.RetGradIdeal.τ).loc Cert.RetGradIdeal.main_v263_0)) (v1 : (c : Dev Cert.RetGradIdeal.nD) → Buf (Elt Ideal) ((c.tc : Thread Cert.RetGradIdeal.nD Cert.RetGradIdeal.τ).loc Cert.RetGradIdeal.main_v263_1)),
      θ_run (Cert.RetGradIdeal.defs (F := Ideal)) (onTc (τ := Cert.RetGradIdeal.τ) (Cert.RetGradIdeal.main (F := Ideal))) ⟨m, fun _ => 0, g⟩ (fun r => ∀ c : Dev Cert.RetGradIdeal.nD,
          r.2.mem ((c.tc : Thread Cert.RetGradIdeal.nD Cert.RetGradIdeal.τ).loc Cert.RetGradIdeal.main_v263_0) = v0 c
          ∧ r.2.mem ((c.tc : Thread Cert.RetGradIdeal.nD Cert.RetGradIdeal.τ).loc Cert.RetGradIdeal.main_v263_1) = v1 c
          ∧ r.2.mem ((c.tc : Thread Cert.RetGradIdeal.nD Cert.RetGradIdeal.τ).loc Cert.RetGradIdeal.main_arg0) = m ((c.tc : Thread Cert.RetGradIdeal.nD Cert.RetGradIdeal.τ).loc Cert.RetGradIdeal.main_arg0)
          ∧ r.2.mem ((c.tc : Thread Cert.RetGradIdeal.nD Cert.RetGradIdeal.τ).loc Cert.RetGradIdeal.main_arg1) = m ((c.tc : Thread Cert.RetGradIdeal.nD Cert.RetGradIdeal.τ).loc Cert.RetGradIdeal.main_arg1)
          ∧ r.2.mem ((c.tc : Thread Cert.RetGradIdeal.nD Cert.RetGradIdeal.τ).loc Cert.RetGradIdeal.main_arg2) = m ((c.tc : Thread Cert.RetGradIdeal.nD Cert.RetGradIdeal.τ).loc Cert.RetGradIdeal.main_arg2))
      ∧ θ_run (Cert.RetGradRefIdeal.defs (F := Ideal)) (onTc (τ := Cert.RetGradRefIdeal.τ) (Cert.RetGradRefIdeal.main (F := Ideal))) ⟨m', fun _ => 0, g'⟩ (fun r => ∀ c : Dev Cert.RetGradRefIdeal.nD,
          r.2.mem ((c.tc : Thread Cert.RetGradRefIdeal.nD Cert.RetGradRefIdeal.τ).loc Cert.RetGradRefIdeal.main_v246) = v0 c
          ∧ r.2.mem ((c.tc : Thread Cert.RetGradRefIdeal.nD Cert.RetGradRefIdeal.τ).loc Cert.RetGradRefIdeal.main_v247) = v1 c
          ∧ r.2.mem ((c.tc : Thread Cert.RetGradRefIdeal.nD Cert.RetGradRefIdeal.τ).loc Cert.RetGradRefIdeal.main_arg0) = m' ((c.tc : Thread Cert.RetGradRefIdeal.nD Cert.RetGradRefIdeal.τ).loc Cert.RetGradRefIdeal.main_arg0)
          ∧ r.2.mem ((c.tc : Thread Cert.RetGradRefIdeal.nD Cert.RetGradRefIdeal.τ).loc Cert.RetGradRefIdeal.main_arg1) = m' ((c.tc : Thread Cert.RetGradRefIdeal.nD Cert.RetGradRefIdeal.τ).loc Cert.RetGradRefIdeal.main_arg1)
          ∧ r.2.mem ((c.tc : Thread Cert.RetGradRefIdeal.nD Cert.RetGradRefIdeal.τ).loc Cert.RetGradRefIdeal.main_arg2) = m' ((c.tc : Thread Cert.RetGradRefIdeal.nD Cert.RetGradRefIdeal.τ).loc Cert.RetGradRefIdeal.main_arg2))

def preserves_RetIn_RetInIdeal : Prop :=
  True

def algebraic_RetInIdeal_RetInRefIdeal [hRetInIdeal : Cert.RetInIdeal.Facts] [hRetInRefIdeal : Cert.RetInRefIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RetInRefIdeal.nD Cert.RetInRefIdeal.τ Cert.RetInRefIdeal.sig) → Buf (Elt Ideal) ℓ) (g' : Dev Cert.RetInRefIdeal.nD → PrngReg), Pre_RetInIdeal m →
    (∀ c : Dev Cert.RetInIdeal.nD,
      m' ((c.tc : Thread Cert.RetInRefIdeal.nD Cert.RetInRefIdeal.τ).loc Cert.RetInRefIdeal.main_arg0) = m ((c.tc : Thread Cert.RetInIdeal.nD Cert.RetInIdeal.τ).loc Cert.RetInIdeal.main_arg0)
      ∧ m' ((c.tc : Thread Cert.RetInRefIdeal.nD Cert.RetInRefIdeal.τ).loc Cert.RetInRefIdeal.main_arg1) = m ((c.tc : Thread Cert.RetInIdeal.nD Cert.RetInIdeal.τ).loc Cert.RetInIdeal.main_arg1)
      ∧ m' ((c.tc : Thread Cert.RetInRefIdeal.nD Cert.RetInRefIdeal.τ).loc Cert.RetInRefIdeal.main_arg2) = m ((c.tc : Thread Cert.RetInIdeal.nD Cert.RetInIdeal.τ).loc Cert.RetInIdeal.main_arg2)
      ∧ m' ((c.tc : Thread Cert.RetInRefIdeal.nD Cert.RetInRefIdeal.τ).loc Cert.RetInRefIdeal.main_arg3) = m ((c.tc : Thread Cert.RetInIdeal.nD Cert.RetInIdeal.τ).loc Cert.RetInIdeal.main_arg3)
      ∧ m' ((c.tc : Thread Cert.RetInRefIdeal.nD Cert.RetInRefIdeal.τ).loc Cert.RetInRefIdeal.main_arg4) = m ((c.tc : Thread Cert.RetInIdeal.nD Cert.RetInIdeal.τ).loc Cert.RetInIdeal.main_arg4)) →
    ∃ (v0 : (c : Dev Cert.RetInIdeal.nD) → Buf (Elt Ideal) ((c.tc : Thread Cert.RetInIdeal.nD Cert.RetInIdeal.τ).loc Cert.RetInIdeal.main_v5_0)) (v1 : (c : Dev Cert.RetInIdeal.nD) → Buf (Elt Ideal) ((c.tc : Thread Cert.RetInIdeal.nD Cert.RetInIdeal.τ).loc Cert.RetInIdeal.main_v5_1)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v5_0) = v0 c
          ∧ r.2.mem ((c.tc : Thread Cert.RetInIdeal.nD Cert.RetInIdeal.τ).loc Cert.RetInIdeal.main_v5_1) = v1 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1)
          ∧ r.2.mem ((c.tc : Thread Cert.RetInIdeal.nD Cert.RetInIdeal.τ).loc Cert.RetInIdeal.main_arg2) = m ((c.tc : Thread Cert.RetInIdeal.nD Cert.RetInIdeal.τ).loc Cert.RetInIdeal.main_arg2)
          ∧ r.2.mem ((c.tc : Thread Cert.RetInIdeal.nD Cert.RetInIdeal.τ).loc Cert.RetInIdeal.main_arg3) = m ((c.tc : Thread Cert.RetInIdeal.nD Cert.RetInIdeal.τ).loc Cert.RetInIdeal.main_arg3)
          ∧ r.2.mem ((c.tc : Thread Cert.RetInIdeal.nD Cert.RetInIdeal.τ).loc Cert.RetInIdeal.main_arg4) = m ((c.tc : Thread Cert.RetInIdeal.nD Cert.RetInIdeal.τ).loc Cert.RetInIdeal.main_arg4))
      ∧ θ_run (Cert.RetInRefIdeal.defs (F := Ideal)) (onTc (τ := Cert.RetInRefIdeal.τ) (Cert.RetInRefIdeal.main (F := Ideal))) ⟨m', fun _ => 0, g'⟩ (fun r => ∀ c : Dev Cert.RetInRefIdeal.nD,
          r.2.mem ((c.tc : Thread Cert.RetInRefIdeal.nD Cert.RetInRefIdeal.τ).loc Cert.RetInRefIdeal.main_v38) = v0 c
          ∧ r.2.mem ((c.tc : Thread Cert.RetInRefIdeal.nD Cert.RetInRefIdeal.τ).loc Cert.RetInRefIdeal.main_v39) = v1 c
          ∧ r.2.mem ((c.tc : Thread Cert.RetInRefIdeal.nD Cert.RetInRefIdeal.τ).loc Cert.RetInRefIdeal.main_arg0) = m' ((c.tc : Thread Cert.RetInRefIdeal.nD Cert.RetInRefIdeal.τ).loc Cert.RetInRefIdeal.main_arg0)
          ∧ r.2.mem ((c.tc : Thread Cert.RetInRefIdeal.nD Cert.RetInRefIdeal.τ).loc Cert.RetInRefIdeal.main_arg1) = m' ((c.tc : Thread Cert.RetInRefIdeal.nD Cert.RetInRefIdeal.τ).loc Cert.RetInRefIdeal.main_arg1)
          ∧ r.2.mem ((c.tc : Thread Cert.RetInRefIdeal.nD Cert.RetInRefIdeal.τ).loc Cert.RetInRefIdeal.main_arg2) = m' ((c.tc : Thread Cert.RetInRefIdeal.nD Cert.RetInRefIdeal.τ).loc Cert.RetInRefIdeal.main_arg2)
          ∧ r.2.mem ((c.tc : Thread Cert.RetInRefIdeal.nD Cert.RetInRefIdeal.τ).loc Cert.RetInRefIdeal.main_arg3) = m' ((c.tc : Thread Cert.RetInRefIdeal.nD Cert.RetInRefIdeal.τ).loc Cert.RetInRefIdeal.main_arg3)
          ∧ r.2.mem ((c.tc : Thread Cert.RetInRefIdeal.nD Cert.RetInRefIdeal.τ).loc Cert.RetInRefIdeal.main_arg4) = m' ((c.tc : Thread Cert.RetInRefIdeal.nD Cert.RetInRefIdeal.τ).loc Cert.RetInRefIdeal.main_arg4))

def preserves_AttIn_AttInIdeal : Prop :=
  True

def algebraic_AttInIdeal_AttInRefIdeal [hAttInIdeal : Cert.AttInIdeal.Facts] [hAttInRefIdeal : Cert.AttInRefIdeal.Facts] : Prop :=
  ∀ (m : (ℓ : Loc Cert.AttInIdeal.nD Cert.AttInIdeal.τ Cert.AttInIdeal.sig) → Buf (Elt Ideal) ℓ) (g : Dev Cert.AttInIdeal.nD → PrngReg)
    (m' : (ℓ : Loc Cert.AttInRefIdeal.nD Cert.AttInRefIdeal.τ Cert.AttInRefIdeal.sig) → Buf (Elt Ideal) ℓ) (g' : Dev Cert.AttInRefIdeal.nD → PrngReg), Pre_AttInIdeal m →
    (∀ c : Dev Cert.AttInIdeal.nD,
      m' ((c.tc : Thread Cert.AttInRefIdeal.nD Cert.AttInRefIdeal.τ).loc Cert.AttInRefIdeal.main_arg0) = m ((c.tc : Thread Cert.AttInIdeal.nD Cert.AttInIdeal.τ).loc Cert.AttInIdeal.main_arg0)
      ∧ m' ((c.tc : Thread Cert.AttInRefIdeal.nD Cert.AttInRefIdeal.τ).loc Cert.AttInRefIdeal.main_arg1) = m ((c.tc : Thread Cert.AttInIdeal.nD Cert.AttInIdeal.τ).loc Cert.AttInIdeal.main_arg1)
      ∧ m' ((c.tc : Thread Cert.AttInRefIdeal.nD Cert.AttInRefIdeal.τ).loc Cert.AttInRefIdeal.main_arg2) = m ((c.tc : Thread Cert.AttInIdeal.nD Cert.AttInIdeal.τ).loc Cert.AttInIdeal.main_arg2)
      ∧ m' ((c.tc : Thread Cert.AttInRefIdeal.nD Cert.AttInRefIdeal.τ).loc Cert.AttInRefIdeal.main_arg3) = m ((c.tc : Thread Cert.AttInIdeal.nD Cert.AttInIdeal.τ).loc Cert.AttInIdeal.main_arg3)
      ∧ m' ((c.tc : Thread Cert.AttInRefIdeal.nD Cert.AttInRefIdeal.τ).loc Cert.AttInRefIdeal.main_arg4) = m ((c.tc : Thread Cert.AttInIdeal.nD Cert.AttInIdeal.τ).loc Cert.AttInIdeal.main_arg4)
      ∧ m' ((c.tc : Thread Cert.AttInRefIdeal.nD Cert.AttInRefIdeal.τ).loc Cert.AttInRefIdeal.main_arg5) = m ((c.tc : Thread Cert.AttInIdeal.nD Cert.AttInIdeal.τ).loc Cert.AttInIdeal.main_arg5)
      ∧ m' ((c.tc : Thread Cert.AttInRefIdeal.nD Cert.AttInRefIdeal.τ).loc Cert.AttInRefIdeal.main_arg6) = m ((c.tc : Thread Cert.AttInIdeal.nD Cert.AttInIdeal.τ).loc Cert.AttInIdeal.main_arg6)) →
    ∃ (v0 : (c : Dev Cert.AttInIdeal.nD) → Buf (Elt Ideal) ((c.tc : Thread Cert.AttInIdeal.nD Cert.AttInIdeal.τ).loc Cert.AttInIdeal.main_v7_0)) (v1 : (c : Dev Cert.AttInIdeal.nD) → Buf (Elt Ideal) ((c.tc : Thread Cert.AttInIdeal.nD Cert.AttInIdeal.τ).loc Cert.AttInIdeal.main_v7_1)) (v2 : (c : Dev Cert.AttInIdeal.nD) → Buf (Elt Ideal) ((c.tc : Thread Cert.AttInIdeal.nD Cert.AttInIdeal.τ).loc Cert.AttInIdeal.main_v7_2)),
      θ_run (Cert.AttInIdeal.defs (F := Ideal)) (onTc (τ := Cert.AttInIdeal.τ) (Cert.AttInIdeal.main (F := Ideal))) ⟨m, fun _ => 0, g⟩ (fun r => ∀ c : Dev Cert.AttInIdeal.nD,
          r.2.mem ((c.tc : Thread Cert.AttInIdeal.nD Cert.AttInIdeal.τ).loc Cert.AttInIdeal.main_v7_0) = v0 c
          ∧ r.2.mem ((c.tc : Thread Cert.AttInIdeal.nD Cert.AttInIdeal.τ).loc Cert.AttInIdeal.main_v7_1) = v1 c
          ∧ r.2.mem ((c.tc : Thread Cert.AttInIdeal.nD Cert.AttInIdeal.τ).loc Cert.AttInIdeal.main_v7_2) = v2 c
          ∧ r.2.mem ((c.tc : Thread Cert.AttInIdeal.nD Cert.AttInIdeal.τ).loc Cert.AttInIdeal.main_arg0) = m ((c.tc : Thread Cert.AttInIdeal.nD Cert.AttInIdeal.τ).loc Cert.AttInIdeal.main_arg0)
          ∧ r.2.mem ((c.tc : Thread Cert.AttInIdeal.nD Cert.AttInIdeal.τ).loc Cert.AttInIdeal.main_arg1) = m ((c.tc : Thread Cert.AttInIdeal.nD Cert.AttInIdeal.τ).loc Cert.AttInIdeal.main_arg1)
          ∧ r.2.mem ((c.tc : Thread Cert.AttInIdeal.nD Cert.AttInIdeal.τ).loc Cert.AttInIdeal.main_arg2) = m ((c.tc : Thread Cert.AttInIdeal.nD Cert.AttInIdeal.τ).loc Cert.AttInIdeal.main_arg2)
          ∧ r.2.mem ((c.tc : Thread Cert.AttInIdeal.nD Cert.AttInIdeal.τ).loc Cert.AttInIdeal.main_arg3) = m ((c.tc : Thread Cert.AttInIdeal.nD Cert.AttInIdeal.τ).loc Cert.AttInIdeal.main_arg3)
          ∧ r.2.mem ((c.tc : Thread Cert.AttInIdeal.nD Cert.AttInIdeal.τ).loc Cert.AttInIdeal.main_arg4) = m ((c.tc : Thread Cert.AttInIdeal.nD Cert.AttInIdeal.τ).loc Cert.AttInIdeal.main_arg4)
          ∧ r.2.mem ((c.tc : Thread Cert.AttInIdeal.nD Cert.AttInIdeal.τ).loc Cert.AttInIdeal.main_arg5) = m ((c.tc : Thread Cert.AttInIdeal.nD Cert.AttInIdeal.τ).loc Cert.AttInIdeal.main_arg5)
          ∧ r.2.mem ((c.tc : Thread Cert.AttInIdeal.nD Cert.AttInIdeal.τ).loc Cert.AttInIdeal.main_arg6) = m ((c.tc : Thread Cert.AttInIdeal.nD Cert.AttInIdeal.τ).loc Cert.AttInIdeal.main_arg6))
      ∧ θ_run (Cert.AttInRefIdeal.defs (F := Ideal)) (onTc (τ := Cert.AttInRefIdeal.τ) (Cert.AttInRefIdeal.main (F := Ideal))) ⟨m', fun _ => 0, g'⟩ (fun r => ∀ c : Dev Cert.AttInRefIdeal.nD,
          r.2.mem ((c.tc : Thread Cert.AttInRefIdeal.nD Cert.AttInRefIdeal.τ).loc Cert.AttInRefIdeal.main_v42) = v0 c
          ∧ r.2.mem ((c.tc : Thread Cert.AttInRefIdeal.nD Cert.AttInRefIdeal.τ).loc Cert.AttInRefIdeal.main_v43) = v1 c
          ∧ r.2.mem ((c.tc : Thread Cert.AttInRefIdeal.nD Cert.AttInRefIdeal.τ).loc Cert.AttInRefIdeal.main_v44) = v2 c
          ∧ r.2.mem ((c.tc : Thread Cert.AttInRefIdeal.nD Cert.AttInRefIdeal.τ).loc Cert.AttInRefIdeal.main_arg0) = m' ((c.tc : Thread Cert.AttInRefIdeal.nD Cert.AttInRefIdeal.τ).loc Cert.AttInRefIdeal.main_arg0)
          ∧ r.2.mem ((c.tc : Thread Cert.AttInRefIdeal.nD Cert.AttInRefIdeal.τ).loc Cert.AttInRefIdeal.main_arg1) = m' ((c.tc : Thread Cert.AttInRefIdeal.nD Cert.AttInRefIdeal.τ).loc Cert.AttInRefIdeal.main_arg1)
          ∧ r.2.mem ((c.tc : Thread Cert.AttInRefIdeal.nD Cert.AttInRefIdeal.τ).loc Cert.AttInRefIdeal.main_arg2) = m' ((c.tc : Thread Cert.AttInRefIdeal.nD Cert.AttInRefIdeal.τ).loc Cert.AttInRefIdeal.main_arg2)
          ∧ r.2.mem ((c.tc : Thread Cert.AttInRefIdeal.nD Cert.AttInRefIdeal.τ).loc Cert.AttInRefIdeal.main_arg3) = m' ((c.tc : Thread Cert.AttInRefIdeal.nD Cert.AttInRefIdeal.τ).loc Cert.AttInRefIdeal.main_arg3)
          ∧ r.2.mem ((c.tc : Thread Cert.AttInRefIdeal.nD Cert.AttInRefIdeal.τ).loc Cert.AttInRefIdeal.main_arg4) = m' ((c.tc : Thread Cert.AttInRefIdeal.nD Cert.AttInRefIdeal.τ).loc Cert.AttInRefIdeal.main_arg4)
          ∧ r.2.mem ((c.tc : Thread Cert.AttInRefIdeal.nD Cert.AttInRefIdeal.τ).loc Cert.AttInRefIdeal.main_arg5) = m' ((c.tc : Thread Cert.AttInRefIdeal.nD Cert.AttInRefIdeal.τ).loc Cert.AttInRefIdeal.main_arg5)
          ∧ r.2.mem ((c.tc : Thread Cert.AttInRefIdeal.nD Cert.AttInRefIdeal.τ).loc Cert.AttInRefIdeal.main_arg6) = m' ((c.tc : Thread Cert.AttInRefIdeal.nD Cert.AttInRefIdeal.τ).loc Cert.AttInRefIdeal.main_arg6))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)
      ∧ m' ((c.tc : Thread Cert.MlpUpRefIdeal.nD Cert.MlpUpRefIdeal.τ).loc Cert.MlpUpRefIdeal.main_arg2) = m ((c.tc : Thread Cert.MlpUpIdeal.nD Cert.MlpUpIdeal.τ).loc Cert.MlpUpIdeal.main_arg2)) →
    ∃ (v0 : (c : Dev Cert.MlpUpIdeal.nD) → Buf (Elt Ideal) ((c.tc : Thread Cert.MlpUpIdeal.nD Cert.MlpUpIdeal.τ).loc Cert.MlpUpIdeal.main_v4_0)) (v1 : (c : Dev Cert.MlpUpIdeal.nD) → Buf (Elt Ideal) ((c.tc : Thread Cert.MlpUpIdeal.nD Cert.MlpUpIdeal.τ).loc Cert.MlpUpIdeal.main_v4_1)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v4_0) = v0 c
          ∧ r.2.mem ((c.tc : Thread Cert.MlpUpIdeal.nD Cert.MlpUpIdeal.τ).loc Cert.MlpUpIdeal.main_v4_1) = v1 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v15) = v0 c
          ∧ r.2.mem ((c.tc : Thread Cert.MlpUpRefIdeal.nD Cert.MlpUpRefIdeal.τ).loc Cert.MlpUpRefIdeal.main_v16) = v1 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1)
          ∧ r.2.mem ((c.tc : Thread Cert.MlpUpRefIdeal.nD Cert.MlpUpRefIdeal.τ).loc Cert.MlpUpRefIdeal.main_arg2) = m' ((c.tc : Thread Cert.MlpUpRefIdeal.nD Cert.MlpUpRefIdeal.τ).loc Cert.MlpUpRefIdeal.main_arg2))

def preserves_RetProj_RetProjIdeal : Prop :=
  True

def algebraic_RetProjIdeal_RetProjRefIdeal [hRetProjIdeal : Cert.RetProjIdeal.Facts] [hRetProjRefIdeal : Cert.RetProjRefIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjRefIdeal.nD Cert.RetProjRefIdeal.τ Cert.RetProjRefIdeal.sig) → Buf (Elt Ideal) ℓ) (g' : Dev Cert.RetProjRefIdeal.nD → PrngReg), Pre_RetProjIdeal m →
    (∀ c : Dev Cert.RetProjIdeal.nD,
      m' ((c.tc : Thread Cert.RetProjRefIdeal.nD Cert.RetProjRefIdeal.τ).loc Cert.RetProjRefIdeal.main_arg0) = m ((c.tc : Thread Cert.RetProjIdeal.nD Cert.RetProjIdeal.τ).loc Cert.RetProjIdeal.main_arg0)
      ∧ m' ((c.tc : Thread Cert.RetProjRefIdeal.nD Cert.RetProjRefIdeal.τ).loc Cert.RetProjRefIdeal.main_arg1) = m ((c.tc : Thread Cert.RetProjIdeal.nD Cert.RetProjIdeal.τ).loc Cert.RetProjIdeal.main_arg1)
      ∧ m' ((c.tc : Thread Cert.RetProjRefIdeal.nD Cert.RetProjRefIdeal.τ).loc Cert.RetProjRefIdeal.main_arg2) = m ((c.tc : Thread Cert.RetProjIdeal.nD Cert.RetProjIdeal.τ).loc Cert.RetProjIdeal.main_arg2)) →
    ∃ (v0 : (c : Dev Cert.RetProjIdeal.nD) → Buf (Elt Ideal) ((c.tc : Thread Cert.RetProjIdeal.nD Cert.RetProjIdeal.τ).loc Cert.RetProjIdeal.main_v4_0)) (v1 : (c : Dev Cert.RetProjIdeal.nD) → Buf (Elt Ideal) ((c.tc : Thread Cert.RetProjIdeal.nD Cert.RetProjIdeal.τ).loc Cert.RetProjIdeal.main_v4_1)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v4_0) = v0 c
          ∧ r.2.mem ((c.tc : Thread Cert.RetProjIdeal.nD Cert.RetProjIdeal.τ).loc Cert.RetProjIdeal.main_v4_1) = v1 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2))
      ∧ θ_run (Cert.RetProjRefIdeal.defs (F := Ideal)) (onTc (τ := Cert.RetProjRefIdeal.τ) (Cert.RetProjRefIdeal.main (F := Ideal))) ⟨m', fun _ => 0, g'⟩ (fun r => ∀ c : Dev Cert.RetProjRefIdeal.nD,
          r.2.mem ((c.tc : Thread Cert.RetProjRefIdeal.nD Cert.RetProjRefIdeal.τ).loc Cert.RetProjRefIdeal.main_v14) = v0 c
          ∧ r.2.mem ((c.tc : Thread Cert.RetProjRefIdeal.nD Cert.RetProjRefIdeal.τ).loc Cert.RetProjRefIdeal.main_v15) = v1 c
          ∧ r.2.mem ((c.tc : Thread Cert.RetProjRefIdeal.nD Cert.RetProjRefIdeal.τ).loc Cert.RetProjRefIdeal.main_arg0) = m' ((c.tc : Thread Cert.RetProjRefIdeal.nD Cert.RetProjRefIdeal.τ).loc Cert.RetProjRefIdeal.main_arg0)
          ∧ r.2.mem ((c.tc : Thread Cert.RetProjRefIdeal.nD Cert.RetProjRefIdeal.τ).loc Cert.RetProjRefIdeal.main_arg1) = m' ((c.tc : Thread Cert.RetProjRefIdeal.nD Cert.RetProjRefIdeal.τ).loc Cert.RetProjRefIdeal.main_arg1)
          ∧ r.2.mem ((c.tc : Thread Cert.RetProjRefIdeal.nD Cert.RetProjRefIdeal.τ).loc Cert.RetProjRefIdeal.main_arg2) = m' ((c.tc : Thread Cert.RetProjRefIdeal.nD Cert.RetProjRefIdeal.τ).loc Cert.RetProjRefIdeal.main_arg2))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v4)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v4) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v3) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_RetFwd_RetFwdIdeal : Prop :=
  True

def preserves_AttFwd_AttFwdIdeal : Prop :=
  True

def preserves_SquareGrad_SquareGradIdeal : Prop :=
  True

def algebraic_SquareGradIdeal_SquareGradRefIdeal [hSquareGradIdeal : Cert.SquareGradIdeal.Facts] [hSquareGradRefIdeal : Cert.SquareGradRefIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg)
    (m' : (ℓ : Loc Cert.SquareGradRefIdeal.nD Cert.SquareGradRefIdeal.τ Cert.SquareGradRefIdeal.sig) → Buf (Elt Ideal) ℓ) (g' : Dev Cert.SquareGradRefIdeal.nD → PrngReg), Pre_SquareGradIdeal m →
    (∀ c : Dev Cert.SquareGradIdeal.nD,
      m' ((c.tc : Thread Cert.SquareGradRefIdeal.nD Cert.SquareGradRefIdeal.τ).loc Cert.SquareGradRefIdeal.main_arg0) = m ((c.tc : Thread Cert.SquareGradIdeal.nD Cert.SquareGradIdeal.τ).loc Cert.SquareGradIdeal.main_arg0)
      ∧ m' ((c.tc : Thread Cert.SquareGradRefIdeal.nD Cert.SquareGradRefIdeal.τ).loc Cert.SquareGradRefIdeal.main_arg1) = m ((c.tc : Thread Cert.SquareGradIdeal.nD Cert.SquareGradIdeal.τ).loc Cert.SquareGradIdeal.main_arg1)) →
    ∃ (v0 : (c : Dev Cert.SquareGradIdeal.nD) → Buf (Elt Ideal) ((c.tc : Thread Cert.SquareGradIdeal.nD Cert.SquareGradIdeal.τ).loc Cert.SquareGradIdeal.main_v3)),
      θ_run (Cert.SquareGradIdeal.defs (F := Ideal)) (onTc (τ := Cert.SquareGradIdeal.τ) (Cert.SquareGradIdeal.main (F := Ideal))) ⟨m, fun _ => 0, g⟩ (fun r => ∀ c : Dev Cert.SquareGradIdeal.nD,
          r.2.mem ((c.tc : Thread Cert.SquareGradIdeal.nD Cert.SquareGradIdeal.τ).loc Cert.SquareGradIdeal.main_v3) = v0 c
          ∧ r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
          ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ θ_run (Cert.SquareGradRefIdeal.defs (F := Ideal)) (onTc (τ := Cert.SquareGradRefIdeal.τ) (Cert.SquareGradRefIdeal.main (F := Ideal))) ⟨m', fun _ => 0, g'⟩ (fun r => ∀ c : Dev Cert.SquareGradRefIdeal.nD,
          r.2.mem ((c.tc : Thread Cert.SquareGradRefIdeal.nD Cert.SquareGradRefIdeal.τ).loc Cert.SquareGradRefIdeal.main_v6) = v0 c
          ∧ r.2.mem ((c.tc : Thread Cert.SquareGradRefIdeal.nD Cert.SquareGradRefIdeal.τ).loc Cert.SquareGradRefIdeal.main_arg0) = m' ((c.tc : Thread Cert.SquareGradRefIdeal.nD Cert.SquareGradRefIdeal.τ).loc Cert.SquareGradRefIdeal.main_arg0)
          ∧ r.2.mem ((c.tc : Thread Cert.SquareGradRefIdeal.nD Cert.SquareGradRefIdeal.τ).loc Cert.SquareGradRefIdeal.main_arg1) = m' ((c.tc : Thread Cert.SquareGradRefIdeal.nD Cert.SquareGradRefIdeal.τ).loc Cert.SquareGradRefIdeal.main_arg1))

def Claim : Prop :=
  ∃ (hActGrad : Cert.ActGrad.Facts) (hActGradIdeal : Cert.ActGradIdeal.Facts) (hActGradRefIdeal : Cert.ActGradRefIdeal.Facts) (hNormGrad : Cert.NormGrad.Facts) (hNormGradIdeal : Cert.NormGradIdeal.Facts) (hNormGradRefIdeal : Cert.NormGradRefIdeal.Facts) (hLossHead : Cert.LossHead.Facts) (hLossHeadIdeal : Cert.LossHeadIdeal.Facts) (hLossHeadRefIdeal : Cert.LossHeadRefIdeal.Facts) (hBiasGrad : Cert.BiasGrad.Facts) (hBiasGradIdeal : Cert.BiasGradIdeal.Facts) (hBiasGradRefIdeal : Cert.BiasGradRefIdeal.Facts) (hRetGrad : Cert.RetGrad.Facts) (hRetGradIdeal : Cert.RetGradIdeal.Facts) (hRetGradRefIdeal : Cert.RetGradRefIdeal.Facts) (hRetIn : Cert.RetIn.Facts) (hRetInIdeal : Cert.RetInIdeal.Facts) (hRetInRefIdeal : Cert.RetInRefIdeal.Facts) (hAttIn : Cert.AttIn.Facts) (hAttInIdeal : Cert.AttInIdeal.Facts) (hAttInRefIdeal : Cert.AttInRefIdeal.Facts) (hMlpUp : Cert.MlpUp.Facts) (hMlpUpIdeal : Cert.MlpUpIdeal.Facts) (hMlpUpRefIdeal : Cert.MlpUpRefIdeal.Facts) (hRetProj : Cert.RetProj.Facts) (hRetProjIdeal : Cert.RetProjIdeal.Facts) (hRetProjRefIdeal : Cert.RetProjRefIdeal.Facts) (hMlpDown : Cert.MlpDown.Facts) (hMlpDownIdeal : Cert.MlpDownIdeal.Facts) (hMlpDownRefIdeal : Cert.MlpDownRefIdeal.Facts) (hRetFwd : Cert.RetFwd.Facts) (hRetFwdIdeal : Cert.RetFwdIdeal.Facts) (hAttFwd : Cert.AttFwd.Facts) (hAttFwdIdeal : Cert.AttFwdIdeal.Facts) (hSquareGrad : Cert.SquareGrad.Facts) (hSquareGradIdeal : Cert.SquareGradIdeal.Facts) (hSquareGradRefIdeal : Cert.SquareGradRefIdeal.Facts) (hPre_finite_retention : Cert.Pre_finite_retention.Facts),
    quiescent_ActGrad (hActGrad := hActGrad)
    ∧ quiescent_ActGradIdeal (hActGradIdeal := hActGradIdeal)
    ∧ quiescent_ActGradRefIdeal (hActGradRefIdeal := hActGradRefIdeal)
    ∧ quiescent_NormGrad (hNormGrad := hNormGrad)
    ∧ quiescent_NormGradIdeal (hNormGradIdeal := hNormGradIdeal)
    ∧ quiescent_NormGradRefIdeal (hNormGradRefIdeal := hNormGradRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_BiasGrad (hBiasGrad := hBiasGrad)
    ∧ quiescent_BiasGradIdeal (hBiasGradIdeal := hBiasGradIdeal)
    ∧ quiescent_BiasGradRefIdeal (hBiasGradRefIdeal := hBiasGradRefIdeal)
    ∧ quiescent_RetGrad (hRetGrad := hRetGrad)
    ∧ quiescent_RetGradIdeal (hRetGradIdeal := hRetGradIdeal)
    ∧ quiescent_RetGradIdeal_pre_finite_retention (hRetGradIdeal := hRetGradIdeal) (hPre_finite_retention := hPre_finite_retention)
    ∧ quiescent_RetGradRefIdeal (hRetGradRefIdeal := hRetGradRefIdeal)
    ∧ quiescent_RetGradRefIdeal_pre_finite_retention (hRetGradRefIdeal := hRetGradRefIdeal) (hPre_finite_retention := hPre_finite_retention)
    ∧ quiescent_RetIn (hRetIn := hRetIn)
    ∧ quiescent_RetInIdeal (hRetInIdeal := hRetInIdeal)
    ∧ quiescent_RetInRefIdeal (hRetInRefIdeal := hRetInRefIdeal)
    ∧ quiescent_AttIn (hAttIn := hAttIn)
    ∧ quiescent_AttInIdeal (hAttInIdeal := hAttInIdeal)
    ∧ quiescent_AttInRefIdeal (hAttInRefIdeal := hAttInRefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_RetProj (hRetProj := hRetProj)
    ∧ quiescent_RetProjIdeal (hRetProjIdeal := hRetProjIdeal)
    ∧ quiescent_RetProjRefIdeal (hRetProjRefIdeal := hRetProjRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_RetFwd (hRetFwd := hRetFwd)
    ∧ quiescent_RetFwdIdeal (hRetFwdIdeal := hRetFwdIdeal)
    ∧ quiescent_AttFwd (hAttFwd := hAttFwd)
    ∧ quiescent_AttFwdIdeal (hAttFwdIdeal := hAttFwdIdeal)
    ∧ quiescent_SquareGrad (hSquareGrad := hSquareGrad)
    ∧ quiescent_SquareGradIdeal (hSquareGradIdeal := hSquareGradIdeal)
    ∧ quiescent_SquareGradRefIdeal (hSquareGradRefIdeal := hSquareGradRefIdeal)
    ∧ preserves_ActGrad_ActGradIdeal
    ∧ algebraic_ActGradIdeal_ActGradRefIdeal (hActGradIdeal := hActGradIdeal) (hActGradRefIdeal := hActGradRefIdeal)
    ∧ preserves_NormGrad_NormGradIdeal
    ∧ algebraic_NormGradIdeal_NormGradRefIdeal (hNormGradIdeal := hNormGradIdeal) (hNormGradRefIdeal := hNormGradRefIdeal)
    ∧ preserves_LossHead_LossHeadIdeal
    ∧ algebraic_LossHeadIdeal_LossHeadRefIdeal (hLossHeadIdeal := hLossHeadIdeal) (hLossHeadRefIdeal := hLossHeadRefIdeal)
    ∧ preserves_BiasGrad_BiasGradIdeal
    ∧ algebraic_BiasGradIdeal_BiasGradRefIdeal (hBiasGradIdeal := hBiasGradIdeal) (hBiasGradRefIdeal := hBiasGradRefIdeal)
    ∧ preserves_RetGrad_RetGradIdeal
    ∧ algebraic_RetGradIdeal_RetGradRefIdeal_pre_finite_retention (hRetGradIdeal := hRetGradIdeal) (hRetGradRefIdeal := hRetGradRefIdeal) (hPre_finite_retention := hPre_finite_retention)
    ∧ preserves_RetIn_RetInIdeal
    ∧ algebraic_RetInIdeal_RetInRefIdeal (hRetInIdeal := hRetInIdeal) (hRetInRefIdeal := hRetInRefIdeal)
    ∧ preserves_AttIn_AttInIdeal
    ∧ algebraic_AttInIdeal_AttInRefIdeal (hAttInIdeal := hAttInIdeal) (hAttInRefIdeal := hAttInRefIdeal)
    ∧ preserves_MlpUp_MlpUpIdeal
    ∧ algebraic_MlpUpIdeal_MlpUpRefIdeal (hMlpUpIdeal := hMlpUpIdeal) (hMlpUpRefIdeal := hMlpUpRefIdeal)
    ∧ preserves_RetProj_RetProjIdeal
    ∧ algebraic_RetProjIdeal_RetProjRefIdeal (hRetProjIdeal := hRetProjIdeal) (hRetProjRefIdeal := hRetProjRefIdeal)
    ∧ preserves_MlpDown_MlpDownIdeal
    ∧ algebraic_MlpDownIdeal_MlpDownRefIdeal (hMlpDownIdeal := hMlpDownIdeal) (hMlpDownRefIdeal := hMlpDownRefIdeal)
    ∧ preserves_RetFwd_RetFwdIdeal
    ∧ preserves_AttFwd_AttFwdIdeal
    ∧ preserves_SquareGrad_SquareGradIdeal
    ∧ algebraic_SquareGradIdeal_SquareGradRefIdeal (hSquareGradIdeal := hSquareGradIdeal) (hSquareGradRefIdeal := hSquareGradRefIdeal)
-- ==== Pre_finite_retention.lean ====
abbrev S2x4096x6144 : Shape := ⟨3, ![2, 4096, 6144]⟩
abbrev S2048 : Shape := ⟨1, ![2048]⟩
abbrev S2x4096x2048 : Shape := ⟨3, ![2, 4096, 2048]⟩
abbrev S_ : Shape := ⟨0, ![]⟩

class Facts : Prop where
  bcast_S_S2x4096x6144 : S_.BroadcastsInDim S2x4096x6144 (![] : Fin 0 → Fin S2x4096x6144.rank)
  bcast_S_S2048 : S_.BroadcastsInDim S2048 (![] : Fin 0 → Fin S2048.rank)
  bcast_S_S2x4096x2048 : S_.BroadcastsInDim S2x4096x2048 (![] : Fin 0 → Fin S2x4096x2048.rank)

variable [Facts]

def fn {F : FTy → Type} [FloatOps F] (main_arg0 : FVec F S2x4096x6144 .f32) (main_arg1 : FVec F S2048 .f32) (main_arg2 : FVec F S2x4096x2048 .f32) : IVec S2x4096x6144 1 × IVec S2048 1 × IVec S2x4096x2048 1 :=
  let main_v0 : FVec F S2x4096x6144 .f32 := Host.absf main_arg0
  let main_cst : FVec F S_ .f32 := constant S_ .f32 0x7F800000#32
  let main_v1 : FVec F S2x4096x6144 .f32 := broadcastInDim S2x4096x6144 ![] bcast_S_S2x4096x6144 main_cst
  let main_v2 : IVec S2x4096x6144 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2x4096x2048 .f32 := Host.absf main_arg2
  let main_cst_1 : FVec F S_ .f32 := constant S_ .f32 0x7F800000#32
  let main_v7 : FVec F S2x4096x2048 .f32 := broadcastInDim S2x4096x2048 ![] bcast_S_S2x4096x2048 main_cst_1
  let main_v8 : IVec S2x4096x2048 1 := cmpf .olt main_v6 main_v7
  (main_v2, main_v5, main_v8)
-- ==== ActGrad.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S4x1024x1024 : Shape := ⟨3, ![4, 1024, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S4x1024x1024, .bf16⟩
  | .hbm, ⟨9, _⟩ => ⟨S8192x1024, .bf16⟩
  | .hbm, ⟨10, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActGradRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== NormGrad.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S1024x4096, .bf16⟩
  | .hbm, ⟨6, _⟩ => ⟨S1024x4x1024, .bf16⟩
  | .hbm, ⟨7, _⟩ => ⟨S4x1024x1024, .bf16⟩
  | .hbm, ⟨8, _⟩ => ⟨S8192x4096, .bf16⟩
  | .hbm, ⟨9, _⟩ => ⟨S1x1024, .f32⟩
  | .hbm, ⟨10, _⟩ => ⟨S8192x1024, .f32⟩
  | .hbm, ⟨11, _⟩ => ⟨S1x1024, .f32⟩
  | .hbm, ⟨12, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_22 : BitVec 32 := 0#32
  let v39 : BitVec 1 := Scalar.cmpi .ne v38 c0_i32_22
  v39

def k0_cond2 (i : grid0.Coords) : BitVec 1 :=
  let arg0 : BitVec 32 := BitVec.ofNat 32 (i 0).val
  let c0_i32_23 : BitVec 32 := 0#32
  let v40 : BitVec 1 := Scalar.cmpi .sgt arg0 c0_i32_23
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== NormGradRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== LossHead.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S4x1024x1024 : Shape := ⟨3, ![4, 1024, 1024]⟩
abbrev S1x1024 : Shape := ⟨2, ![1, 1024]⟩
abbrev S1x1 : Shape := ⟨2, ![1, 1]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 17
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .bf16⟩
  | .hbm, ⟨9, _⟩ => ⟨S4096x1024, .bf16⟩
  | .hbm, ⟨10, _⟩ => ⟨S4x1024x1024, .bf16⟩
  | .hbm, ⟨11, _⟩ => ⟨S1x1024, .f32⟩
  | .hbm, ⟨12, _⟩ => ⟨S8192x1024, .f32⟩
  | .hbm, ⟨13, _⟩ => ⟨S1x1024, .f32⟩
  | .hbm, ⟨14, _⟩ => ⟨S1x1024, .f32⟩
  | .hbm, ⟨15, _⟩ => ⟨S1x1, .f32⟩
  | .hbm, ⟨16, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1, .f32⟩
  | .local _ .vmem, ⟨13, _⟩ => ⟨S512x1024, .bf16⟩
  | .local _ .vmem, ⟨14, _⟩ => ⟨S512x1024, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def k0_cond3 (i : grid0.Coords) : BitVec 1 :=
  let arg0 : BitVec 32 := BitVec.ofNat 32 (i 0).val
  let c15_i32 : BitVec 32 := 15#32
  let v54 : BitVec 1 := Scalar.cmpi .eq arg0 c15_i32
  let v55 : BitVec 32 := Scalar.extui v54
  let c0_i32_25 : BitVec 32 := 0#32
  let v56 : BitVec 1 := Scalar.cmpi .ne v55 c0_i32_25
  v56

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LossHeadRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 85
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1024, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S8192x1024, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x1024, .f32⟩
  | .hbm, ⟨69, _⟩ => ⟨S8192x1024, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S1x1024, .f32⟩
  | .hbm, ⟨82, _⟩ => ⟨S1x1024, .f32⟩
  | .hbm, ⟨83, _⟩ => ⟨S1x1, .f32⟩
  | .hbm, ⟨84, _⟩ => ⟨S8192x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_cst_9 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_cst_11 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_12 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_v41 : Ref sig .tc := ⟨.hbm, 63, rfl⟩
abbrev main_v42 : Ref sig .tc := ⟨.hbm, 64, rfl⟩
abbrev main_cst_14 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== BiasGrad.lean ====
abbrev S16x4x64x576 : Shape := ⟨4, ![16, 4, 64, 576]⟩
abbrev S_ : Shape := ⟨0, ![]⟩
abbrev S16x256x768 : Shape := ⟨3, ![16, 256, 768]⟩
abbrev S16x1x64x576 : Shape := ⟨4, ![16, 1, 64, 576]⟩
abbrev S16x64x576 : Shape := ⟨3, ![16, 64, 576]⟩
abbrev S8x2x256x768 : Shape := ⟨4, ![8, 2, 256, 768]⟩
abbrev S8x768x2x256 : Shape := ⟨4, ![8, 768, 2, 256]⟩
abbrev S8x768x512 : Shape := ⟨3, ![8, 768, 512]⟩
abbrev S16x1x320 : Shape := ⟨3, ![16, 1, 320]⟩
abbrev S1x768x256 : Shape := ⟨3, ![1, 768, 256]⟩
abbrev S1x1x320 : Shape := ⟨3, ![1, 1, 320]⟩
abbrev S256x256 : Shape := ⟨2, ![256, 256]⟩
abbrev S768x256 : Shape := ⟨2, ![768, 256]⟩
abbrev S256x768 : Shape := ⟨2, ![256, 768]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S1024 : Shape := ⟨1, ![1024]⟩
abbrev S1x1024 : Shape := ⟨2, ![1, 1024]⟩
abbrev S320x1024 : Shape := ⟨2, ![320, 1024]⟩
abbrev S8x320 : Shape := ⟨2, ![8, 320]⟩
abbrev S1x320 : Shape := ⟨2, ![1, 320]⟩

abbrev nBuf : Space → Nat
  | .hbm => 31
  | .vmem => 4
  | .smem => 0
  | _ => 0

abbrev bufTy : (tb : Table) → Fin (tcTables nBuf tb) → BufTy
  | .hbm, ⟨0, _⟩ => ⟨S16x4x64x576, .f32⟩
  | .hbm, ⟨1, _⟩ => ⟨S_, .f32⟩
  | .hbm, ⟨2, _⟩ => ⟨S16x256x768, .f32⟩
  | .hbm, ⟨3, _⟩ => ⟨S16x1x64x576, .f32⟩
  | .hbm, ⟨4, _⟩ => ⟨S16x64x576, .f32⟩
  | .hbm, ⟨5, _⟩ => ⟨S_, .i32⟩
  | .hbm, ⟨6, _⟩ => ⟨S_, .f32⟩
  | .hbm, ⟨7, _⟩ => ⟨S16x256x768, .f32⟩
  | .hbm, ⟨8, _⟩ => ⟨S16x256x768, .f32⟩
  | .hbm, ⟨9, _⟩ => ⟨S16x1x64x576, .f32⟩
  | .hbm, ⟨10, _⟩ => ⟨S16x64x576, .f32⟩
  | .hbm, ⟨11, _⟩ => ⟨S_, .i32⟩
  | .hbm, ⟨12, _⟩ => ⟨S_, .f32⟩
  | .hbm, ⟨13, _⟩ => ⟨S16x256x768, .f32⟩
  | .hbm, ⟨14, _⟩ => ⟨S16x256x768, .f32⟩
  | .hbm, ⟨15, _⟩ => ⟨S16x1x64x576, .f32⟩
  | .hbm, ⟨16, _⟩ => ⟨S16x64x576, .f32⟩
  | .hbm, ⟨17, _⟩ => ⟨S_, .i32⟩
  | .hbm, ⟨18, _⟩ => ⟨S_, .f32⟩
  | .hbm, ⟨19, _⟩ => ⟨S16x256x768, .f32⟩
  | .hbm, ⟨20, _⟩ => ⟨S16x256x768, .f32⟩
  | .hbm, ⟨21, _⟩ => ⟨S16x1x64x576, .f32⟩
  | .hbm, ⟨22, _⟩ => ⟨S16x64x576, .f32⟩
  | .hbm, ⟨23, _⟩ => ⟨S_, .i32⟩
  | .hbm, ⟨24, _⟩ => ⟨S_, .f32⟩
  | .hbm, ⟨25, _⟩ => ⟨S16x256x768, .f32⟩
  | .hbm, ⟨26, _⟩ => ⟨S16x256x768, .f32⟩
  | .hbm, ⟨27, _⟩ => ⟨S8x2x256x768, .f32⟩
  | .hbm, ⟨28, _⟩ => ⟨S8x768x2x256, .f32⟩
  | .hbm, ⟨29, _⟩ => ⟨S8x768x512, .f32⟩
  | .hbm, ⟨30, _⟩ => ⟨S16x1x320, .f32⟩
  | .local _ .vmem, ⟨0, _⟩ => ⟨S1x768x256, .f32⟩
  | .local _ .vmem, ⟨1, _⟩ => ⟨S1x768x256, .f32⟩
  | .local _ .vmem, ⟨2, _⟩ => ⟨S1x1x320, .f32⟩
  | .local _ .vmem, ⟨3, _⟩ => ⟨S1x1x320, .f32⟩
  | _, _ => ⟨S16x4x64x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_call2_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_call3_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== BiasGradRefIdeal.lean ====
abbrev S16x4x64x576 : Shape := ⟨4, ![16, 4, 64, 576]⟩
abbrev S_ : Shape := ⟨0, ![]⟩
abbrev S16x320 : Shape := ⟨2, ![16, 320]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S16x1x64x576 : Shape := ⟨4, ![16, 1, 64, 576]⟩
abbrev S16x1x320 : Shape := ⟨3, ![16, 1, 320]⟩

abbrev nBuf : Space → Nat
  | .hbm => 39
  | .vmem => 0
  | .smem => 0
  | _ => 0

abbrev bufTy : (tb : Table) → Fin (tcTables nBuf tb) → BufTy
  | .hbm, ⟨0, _⟩ => ⟨S16x4x64x576, .f32⟩
  | .hbm, ⟨1, _⟩ => ⟨S_, .f32⟩
  | .hbm, ⟨2, _⟩ => ⟨S16x320, .f32⟩
  | .hbm, ⟨3, _⟩ => ⟨S64, .i32⟩
  | .hbm, ⟨4, _⟩ => ⟨S64x1, .i32⟩
  | .hbm, ⟨5, _⟩ => ⟨S576, .i32⟩
  | .hbm, ⟨6, _⟩ => ⟨S1x576, .i32⟩
  | .hbm, ⟨7, _⟩ => ⟨S_, .i32⟩
  | .hbm, ⟨8, _⟩ => ⟨S1x576, .i32⟩
  | .hbm, ⟨9, _⟩ => ⟨S1x576, .i32⟩
  | .hbm, ⟨10, _⟩ => ⟨S64x576, .i32⟩
  | .hbm, ⟨11, _⟩ => ⟨S64x576, .i32⟩
  | .hbm, ⟨12, _⟩ => ⟨S64x576, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i1⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S64x576, .i32⟩
  | .hbm, ⟨26, _⟩ => ⟨S64x576x1, .i32⟩
  | .hbm, ⟨27, _⟩ => ⟨S16x64x576, .f32⟩
  | .hbm, ⟨28, _⟩ => ⟨S16x1x64x576, .f32⟩
  | .hbm, ⟨29, _⟩ => ⟨S16x4x64x576, .f32⟩
  | .hbm, ⟨30, _⟩ => ⟨S_, .f32⟩
  | .hbm, ⟨31, _⟩ => ⟨S16x64x576, .f32⟩
  | .hbm, ⟨32, _⟩ => ⟨S16x1x64x576, .f32⟩
  | .hbm, ⟨33, _⟩ => ⟨S_, .f32⟩
  | .hbm, ⟨34, _⟩ => ⟨S16x64x576, .f32⟩
  | .hbm, ⟨35, _⟩ => ⟨S_, .f32⟩
  | .hbm, ⟨36, _⟩ => ⟨S16x320, .f32⟩
  | .hbm, ⟨37, _⟩ => ⟨S16x320, .f32⟩
  | .hbm, ⟨38, _⟩ => ⟨S16x1x320, .f32⟩
  | _, _ => ⟨S16x4x64x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_c_2 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== RetGrad.lean ====
abbrev S2x4096x6144 : Shape := ⟨3, ![2, 4096, 6144]⟩
abbrev S2048 : Shape := ⟨1, ![2048]⟩
abbrev S2x4096x2048 : Shape := ⟨3, ![2, 4096, 2048]⟩
abbrev S8192x6144 : Shape := ⟨2, ![8192, 6144]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x128 : Shape := ⟨3, ![4, 1, 128]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S8192x2048 : Shape := ⟨2, ![8192, 2048]⟩
abbrev S2x16x256x6144 : Shape := ⟨4, ![2, 16, 256, 6144]⟩
abbrev S2x16x256x1024 : Shape := ⟨4, ![2, 16, 256, 1024]⟩
abbrev S2x16x256x4x256 : Shape := ⟨5, ![2, 16, 256, 4, 256]⟩
abbrev S1x16x256x1x128 : Shape := ⟨5, ![1, 16, 256, 1, 128]⟩
abbrev S2x16x256x4x128 : Shape := ⟨5, ![2, 16, 256, 4, 128]⟩
abbrev S2x16x256x2048 : Shape := ⟨4, ![2, 16, 256, 2048]⟩
abbrev S2x16x256x4x512 : Shape := ⟨5, ![2, 16, 256, 4, 512]⟩
abbrev S256x4 : Shape := ⟨2, ![256, 4]⟩
abbrev S1x1x256x4x1 : Shape := ⟨5, ![1, 1, 256, 4, 1]⟩
abbrev S16x2x4x256x512 : Shape := ⟨5, ![16, 2, 4, 256, 512]⟩
abbrev S2x4x256x512 : Shape := ⟨4, ![2, 4, 256, 512]⟩
abbrev S1x4x1x1 : Shape := ⟨4, ![1, 4, 1, 1]⟩
abbrev S1x2x4x256x512 : Shape := ⟨5, ![1, 2, 4, 256, 512]⟩
abbrev S2x1x4x256x512 : Shape := ⟨5, ![2, 1, 4, 256, 512]⟩
abbrev S2x16x4x256x512 : Shape := ⟨5, ![2, 16, 4, 256, 512]⟩
abbrev S1x2048 : Shape := ⟨2, ![1, 2048]⟩
abbrev S256x6144 : Shape := ⟨2, ![256, 6144]⟩
abbrev S256x2048 : Shape := ⟨2, ![256, 2048]⟩
abbrev S1x1x4x256x512 : Shape := ⟨5, ![1, 1, 4, 256, 512]⟩
abbrev S256x128 : Shape := ⟨2, ![256, 128]⟩
abbrev S4x256x512 : Shape := ⟨3, ![4, 256, 512]⟩
abbrev S1x1x1x256x512 : Shape := ⟨5, ![1, 1, 1, 256, 512]⟩
abbrev S256x512 : Shape := ⟨2, ![256, 512]⟩
abbrev S1x256x1 : Shape := ⟨3, ![1, 256, 1]⟩
abbrev S1x512 : Shape := ⟨2, ![1, 512]⟩
abbrev S128x512 : Shape := ⟨2, ![128, 512]⟩
abbrev S128x1 : Shape := ⟨2, ![128, 1]⟩
abbrev S512 : Shape := ⟨1, ![512]⟩
abbrev S1x256x512 : Shape := ⟨3, ![1, 256, 512]⟩
abbrev S1x1x128 : Shape := ⟨3, ![1, 1, 128]⟩
abbrev S1x1 : Shape := ⟨2, ![1, 1]⟩

abbrev nBuf : Space → Nat
  | .hbm => 284
  | .vmem => 19
  | .smem => 0
  | _ => 0

abbrev hbmTy0_0 (i : Nat) : BufTy := match i % 128 with
  | 0 => ⟨S2x4096x6144, .f32⟩
  | 1 => ⟨S2048, .f32⟩
  | 2 => ⟨S2x4096x2048, .f32⟩
  | 3 => ⟨S8192x6144, .f32⟩
  | 4 => ⟨S8192x6144, .bf16⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S4, .f32⟩
  | 14 => ⟨S4, .f32⟩
  | 15 => ⟨S256, .f32⟩
  | 16 => ⟨S256x1, .f32⟩
  | 17 => ⟨S1x256, .f32⟩
  | 18 => ⟨S_, .f32⟩
  | 19 => ⟨S256x1, .f32⟩
  | 20 => ⟨S256x1, .f32⟩
  | 21 => ⟨S256x1, .f32⟩
  | 22 => ⟨S_, .f32⟩
  | 23 => ⟨S1x256, .f32⟩
  | 24 => ⟨S1x256, .f32⟩
  | 25 => ⟨S1x256, .f32⟩
  | 26 => ⟨S256x256, .f32⟩
  | 27 => ⟨S256x256, .f32⟩
  | 28 => ⟨S256x256, .i1⟩
  | 29 => ⟨S256x256, .f32⟩
  | 30 => ⟨S256x256, .f32⟩
  | 31 => ⟨S256x256, .f32⟩
  | 32 => ⟨S256x256, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S256x256, .f32⟩
  | 39 => ⟨S256x256, .i1⟩
  | 40 => ⟨S1x256x256, .i1⟩
  | 41 => ⟨S4x1x1, .f32⟩
  | 42 => ⟨S1x256x256, .f32⟩
  | 43 => ⟨S4x256x256, .f32⟩
  | 44 => ⟨S4x256x256, .f32⟩
  | 45 => ⟨S4x256x256, .f32⟩
  | 46 => ⟨S4x256x256, .f32⟩
  | 47 => ⟨S_, .f32⟩
  | 48 => ⟨S_, .f32⟩
  | 49 => ⟨S4x256x256, .i1⟩
  | 50 => ⟨S4x256x256, .f32⟩
  | 51 => ⟨S4x256x256, .f32⟩
  | 52 => ⟨S4x1, .f32⟩
  | 53 => ⟨S_, .f32⟩
  | 54 => ⟨S256, .f32⟩
  | 55 => ⟨S256, .f32⟩
  | 56 => ⟨S1x256, .f32⟩
  | 57 => ⟨S4x256, .f32⟩
  | 58 => ⟨S4x256, .f32⟩
  | 59 => ⟨S4x256, .f32⟩
  | 60 => ⟨S4x256, .f32⟩
  | 61 => ⟨S4x256x1, .f32⟩
  | 62 => ⟨S4x1, .f32⟩
  | 63 => ⟨S_, .f32⟩
  | 64 => ⟨S256, .f32⟩
  | 65 => ⟨S256, .f32⟩
  | 66 => ⟨S1x256, .f32⟩
  | 67 => ⟨S4x256, .f32⟩
  | 68 => ⟨S4x256, .f32⟩
  | 69 => ⟨S4x256, .f32⟩
  | 70 => ⟨S4x256, .f32⟩
  | 71 => ⟨S4x256x1, .f32⟩
  | 72 => ⟨S_, .f32⟩
  | 73 => ⟨S4, .f32⟩
  | 74 => ⟨S4, .f32⟩
  | 75 => ⟨S4, .f32⟩
  | 76 => ⟨S4x1x1, .f32⟩
  | 77 => ⟨S_, .f32⟩
  | 78 => ⟨S4x1x128, .f32⟩
  | 79 => ⟨S4x1x128, .f32⟩
  | 80 => ⟨S4x1x128, .f32⟩
  | 81 => ⟨S_, .f32⟩
  | 82 => ⟨S_, .f32⟩
  | 83 => ⟨S_, .f32⟩
  | 84 => ⟨S128, .f32⟩
  | 85 => ⟨S_, .f32⟩
  | 86 => ⟨S128, .f32⟩
  | 87 => ⟨S128, .f32⟩
  | 88 => ⟨S_, .f32⟩
  | 89 => ⟨S128, .f32⟩
  | 90 => ⟨S128, .f32⟩
  | 91 => ⟨S128, .f32⟩
  | 92 => ⟨S4096, .f32⟩
  | 93 => ⟨S4096x1, .f32⟩
  | 94 => ⟨S1x128, .f32⟩
  | 95 => ⟨S4096x128, .f32⟩
  | 96 => ⟨S4096x128, .f32⟩
  | 97 => ⟨S4096x128, .f32⟩
  | 98 => ⟨S4096x128, .f32⟩
  | 99 => ⟨S4096x128, .f32⟩
  | 100 => ⟨S8192x2048, .f32⟩
  | 101 => ⟨S8192x2048, .bf16⟩
  | 102 => ⟨S2x4096x6144, .bf16⟩
  | 103 => ⟨S2x16x256x6144, .bf16⟩
  | 104 => ⟨S2x16x256x1024, .bf16⟩
  | 105 => ⟨S2x16x256x1024, .f32⟩
  | 106 => ⟨S2x16x256x4x256, .f32⟩
  | 107 => ⟨S1x16x256x1x128, .f32⟩
  | 108 => ⟨S1x16x256x1x128, .f32⟩
  | 109 => ⟨S2x16x256x4x128, .f32⟩
  | 110 => ⟨S2x16x256x4x128, .f32⟩
  | 111 => ⟨S2x16x256x4x128, .f32⟩
  | 112 => ⟨S2x16x256x4x128, .f32⟩
  | 113 => ⟨S2x16x256x4x128, .f32⟩
  | 114 => ⟨S2x16x256x4x128, .f32⟩
  | 115 => ⟨S2x16x256x4x128, .f32⟩
  | 116 => ⟨S2x16x256x4x128, .f32⟩
  | 117 => ⟨S2x16x256x4x128, .f32⟩
  | 118 => ⟨S2x16x256x4x128, .f32⟩
  | 119 => ⟨S2x16x256x4x128, .f32⟩
  | 120 => ⟨S2x16x256x4x128, .f32⟩
  | 121 => ⟨S2x16x256x4x256, .f32⟩
  | 122 => ⟨S_, .f32⟩
  | 123 => ⟨S2x16x256x4x256, .f32⟩
  | 124 => ⟨S2x16x256x4x256, .f32⟩
  | 125 => ⟨S2x16x256x2048, .bf16⟩
  | 126 => ⟨S2x16x256x4x512, .bf16⟩
  | 127 => ⟨S4x256, .f32⟩
  | _ => ⟨S2x4096x6144, .f32⟩

abbrev hbmTy0_1 (i : Nat) : BufTy := match i % 128 with
  | 0 => ⟨S256x4, .f32⟩
  | 1 => ⟨S1x1x256x4x1, .f32⟩
  | 2 => ⟨S2x16x256x4x256, .f32⟩
  | 3 => ⟨S2x16x256x4x256, .f32⟩
  | 4 => ⟨S2x16x256x4x256, .bf16⟩
  | 5 => ⟨S16x2x4x256x512, .f32⟩
  | 6 => ⟨S_, .f32⟩
  | 7 => ⟨S2x4x256x512, .f32⟩
  | 8 => ⟨S2x4x256x512, .bf16⟩
  | 9 => ⟨S4x1x1, .f32⟩
  | 10 => ⟨S1x4x1x1, .f32⟩
  | 11 => ⟨S2x4x256x512, .f32⟩
  | 12 => ⟨S2x4x256x512, .f32⟩
  | 13 => ⟨S1x2x4x256x512, .f32⟩
  | 14 => ⟨S2x4x256x512, .f32⟩
  | 15 => ⟨S2x4x256x512, .f32⟩
  | 16 => ⟨S2x4x256x512, .bf16⟩
  | 17 => ⟨S4x1x1, .f32⟩
  | 18 => ⟨S1x4x1x1, .f32⟩
  | 19 => ⟨S2x4x256x512, .f32⟩
  | 20 => ⟨S2x4x256x512, .f32⟩
  | 21 => ⟨S1x2x4x256x512, .f32⟩
  | 22 => ⟨S2x4x256x512, .f32⟩
  | 23 => ⟨S2x4x256x512, .f32⟩
  | 24 => ⟨S2x4x256x512, .bf16⟩
  | 25 => ⟨S4x1x1, .f32⟩
  | 26 => ⟨S1x4x1x1, .f32⟩
  | 27 => ⟨S2x4x256x512, .f32⟩
  | 28 => ⟨S2x4x256x512, .f32⟩
  | 29 => ⟨S1x2x4x256x512, .f32⟩
  | 30 => ⟨S2x4x256x512, .f32⟩
  | 31 => ⟨S2x4x256x512, .f32⟩
  | 32 => ⟨S2x4x256x512, .bf16⟩
  | 33 => ⟨S4x1x1, .f32⟩
  | 34 => ⟨S1x4x1x1, .f32⟩
  | 35 => ⟨S2x4x256x512, .f32⟩
  | 36 => ⟨S2x4x256x512, .f32⟩
  | 37 => ⟨S1x2x4x256x512, .f32⟩
  | 38 => ⟨S2x4x256x512, .f32⟩
  | 39 => ⟨S2x4x256x512, .f32⟩
  | 40 => ⟨S2x4x256x512, .bf16⟩
  | 41 => ⟨S4x1x1, .f32⟩
  | 42 => ⟨S1x4x1x1, .f32⟩
  | 43 => ⟨S2x4x256x512, .f32⟩
  | 44 => ⟨S2x4x256x512, .f32⟩
  | 45 => ⟨S1x2x4x256x512, .f32⟩
  | 46 => ⟨S2x4x256x512, .f32⟩
  | 47 => ⟨S2x4x256x512, .f32⟩
  | 48 => ⟨S2x4x256x512, .bf16⟩
  | 49 => ⟨S4x1x1, .f32⟩
  | 50 => ⟨S1x4x1x1, .f32⟩
  | 51 => ⟨S2x4x256x512, .f32⟩
  | 52 => ⟨S2x4x256x512, .f32⟩
  | 53 => ⟨S1x2x4x256x512, .f32⟩
  | 54 => ⟨S2x4x256x512, .f32⟩
  | 55 => ⟨S2x4x256x512, .f32⟩
  | 56 => ⟨S2x4x256x512, .bf16⟩
  | 57 => ⟨S4x1x1, .f32⟩
  | 58 => ⟨S1x4x1x1, .f32⟩
  | 59 => ⟨S2x4x256x512, .f32⟩
  | 60 => ⟨S2x4x256x512, .f32⟩
  | 61 => ⟨S1x2x4x256x512, .f32⟩
  | 62 => ⟨S2x4x256x512, .f32⟩
  | 63 => ⟨S2x4x256x512, .f32⟩
  | 64 => ⟨S2x4x256x512, .bf16⟩
  | 65 => ⟨S4x1x1, .f32⟩
  | 66 => ⟨S1x4x1x1, .f32⟩
  | 67 => ⟨S2x4x256x512, .f32⟩
  | 68 => ⟨S2x4x256x512, .f32⟩
  | 69 => ⟨S1x2x4x256x512, .f32⟩
  | 70 => ⟨S2x4x256x512, .f32⟩
  | 71 => ⟨S2x4x256x512, .f32⟩
  | 72 => ⟨S2x4x256x512, .bf16⟩
  | 73 => ⟨S4x1x1, .f32⟩
  | 74 => ⟨S1x4x1x1, .f32⟩
  | 75 => ⟨S2x4x256x512, .f32⟩
  | 76 => ⟨S2x4x256x512, .f32⟩
  | 77 => ⟨S1x2x4x256x512, .f32⟩
  | 78 => ⟨S2x4x256x512, .f32⟩
  | 79 => ⟨S2x4x256x512, .f32⟩
  | 80 => ⟨S2x4x256x512, .bf16⟩
  | 81 => ⟨S4x1x1, .f32⟩
  | 82 => ⟨S1x4x1x1, .f32⟩
  | 83 => ⟨S2x4x256x512, .f32⟩
  | 84 => ⟨S2x4x256x512, .f32⟩
  | 85 => ⟨S1x2x4x256x512, .f32⟩
  | 86 => ⟨S2x4x256x512, .f32⟩
  | 87 => ⟨S2x4x256x512, .f32⟩
  | 88 => ⟨S2x4x256x512, .bf16⟩
  | 89 => ⟨S4x1x1, .f32⟩
  | 90 => ⟨S1x4x1x1, .f32⟩
  | 91 => ⟨S2x4x256x512, .f32⟩
  | 92 => ⟨S2x4x256x512, .f32⟩
  | 93 => ⟨S1x2x4x256x512, .f32⟩
  | 94 => ⟨S2x4x256x512, .f32⟩
  | 95 => ⟨S2x4x256x512, .f32⟩
  | 96 => ⟨S2x4x256x512, .bf16⟩
  | 97 => ⟨S4x1x1, .f32⟩
  | 98 => ⟨S1x4x1x1, .f32⟩
  | 99 => ⟨S2x4x256x512, .f32⟩
  | 100 => ⟨S2x4x256x512, .f32⟩
  | 101 => ⟨S1x2x4x256x512, .f32⟩
  | 102 => ⟨S2x4x256x512, .f32⟩
  | 103 => ⟨S2x4x256x512, .f32⟩
  | 104 => ⟨S2x4x256x512, .bf16⟩
  | 105 => ⟨S4x1x1, .f32⟩
  | 106 => ⟨S1x4x1x1, .f32⟩
  | 107 => ⟨S2x4x256x512, .f32⟩
  | 108 => ⟨S2x4x256x512, .f32⟩
  | 109 => ⟨S1x2x4x256x512, .f32⟩
  | 110 => ⟨S2x4x256x512, .f32⟩
  | 111 => ⟨S2x4x256x512, .f32⟩
  | 112 => ⟨S2x4x256x512, .bf16⟩
  | 113 => ⟨S4x1x1, .f32⟩
  | 114 => ⟨S1x4x1x1, .f32⟩
  | 115 => ⟨S2x4x256x512, .f32⟩
  | 116 => ⟨S2x4x256x512, .f32⟩
  | 117 => ⟨S1x2x4x256x512, .f32⟩
  | 118 => ⟨S2x4x256x512, .f32⟩
  | 119 => ⟨S2x4x256x512, .f32⟩
  | 120 => ⟨S2x4x256x512, .bf16⟩
  | 121 => ⟨S4x1x1, .f32⟩
  | 122 => ⟨S1x4x1x1, .f32⟩
  | 123 => ⟨S2x4x256x512, .f32⟩
  | 124 => ⟨S2x4x256x512, .f32⟩
  | 125 => ⟨S1x2x4x256x512, .f32⟩
  | 126 => ⟨S2x4x256x512, .f32⟩
  | 127 => ⟨S2x4x256x512, .f32⟩
  | _ => ⟨S2x4096x6144, .f32⟩

abbrev hbmTy0_2 (i : Nat) : BufTy := match i % 128 with
  | 0 => ⟨S2x4x256x512, .bf16⟩
  | 1 => ⟨S4x1x1, .f32⟩
  | 2 => ⟨S1x4x1x1, .f32⟩
  | 3 => ⟨S2x4x256x512, .f32⟩
  | 4 => ⟨S2x4x256x512, .f32⟩
  | 5 => ⟨S1x2x4x256x512, .f32⟩
  | 6 => ⟨S2x4x256x512, .f32⟩
  | 7 => ⟨S2x4x256x512, .f32⟩
  | 8 => ⟨S2x1x4x256x512, .bf16⟩
  | 9 => ⟨S2x1x4x256x512, .bf16⟩
  | 10 => ⟨S2x1x4x256x512, .bf16⟩
  | 11 => ⟨S2x1x4x256x512, .bf16⟩
  | 12 => ⟨S2x1x4x256x512, .bf16⟩
  | 13 => ⟨S2x1x4x256x512, .bf16⟩
  | 14 => ⟨S2x1x4x256x512, .bf16⟩
  | 15 => ⟨S2x1x4x256x512, .bf16⟩
  | 16 => ⟨S2x1x4x256x512, .bf16⟩
  | 17 => ⟨S2x1x4x256x512, .bf16⟩
  | 18 => ⟨S2x1x4x256x512, .bf16⟩
  | 19 => ⟨S2x1x4x256x512, .bf16⟩
  | 20 => ⟨S2x1x4x256x512, .bf16⟩
  | 21 => ⟨S2x1x4x256x512, .bf16⟩
  | 22 => ⟨S2x1x4x256x512, .bf16⟩
  | 23 => ⟨S2x1x4x256x512, .bf16⟩
  | 24 => ⟨S2x16x4x256x512, .bf16⟩
  | 25 => ⟨S1x2048, .f32⟩
  | 26 => ⟨S8192x6144, .bf16⟩
  | 27 => ⟨S1x2048, .f32⟩
  | _ => ⟨S2x4096x6144, .f32⟩

abbrev hbmTy (i : Nat) : BufTy := match i / 128 with
  | 0 => hbmTy0_0 i
  | 1 => hbmTy0_1 i
  | 2 => hbmTy0_2 i
  | _ => ⟨S2x4096x6144, .f32⟩

abbrev bufTy : (tb : Table) → Fin (tcTables nBuf tb) → BufTy
  | .hbm, ⟨i, _⟩ => hbmTy i
  | .local _ .vmem, ⟨0, _⟩ => ⟨S256x6144, .bf16⟩
  | .local _ .vmem, ⟨1, _⟩ => ⟨S256x6144, .bf16⟩
  | .local _ .vmem, ⟨2, _⟩ => ⟨S256x2048, .bf16⟩
  | .local _ .vmem, ⟨3, _⟩ => ⟨S256x2048, .bf16⟩
  | .local _ .vmem, ⟨4, _⟩ => ⟨S1x1x4x256x512, .bf16⟩
  | .local _ .vmem, ⟨5, _⟩ => ⟨S1x1x4x256x512, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x256x256, .f32⟩
  | .local _ .vmem, ⟨11, _⟩ => ⟨S4x256x1, .f32⟩
  | .local _ .vmem, ⟨12, _⟩ => ⟨S4x256x1, .f32⟩
  | .local _ .vmem, ⟨13, _⟩ => ⟨S4x1x128, .f32⟩
  | .local _ .vmem, ⟨14, _⟩ => ⟨S1x2048, .f32⟩
  | .local _ .vmem, ⟨15, _⟩ => ⟨S256x6144, .bf16⟩
  | .local _ .vmem, ⟨16, _⟩ => ⟨S256x6144, .bf16⟩
  | .local _ .vmem, ⟨17, _⟩ => ⟨S1x2048, .f32⟩
  | .local _ .vmem, ⟨18, _⟩ => ⟨S4x256x512, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_5 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_cst_10 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_11 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_v261 : Ref sig .tc := ⟨.hbm, 280, rfl⟩
abbrev main_v262 : Ref sig .tc := ⟨.hbm, 281, rfl⟩
abbrev main_v263_0 : Ref sig .tc := ⟨.hbm, 282, rfl⟩
abbrev main_v263_1 : Ref sig .tc := ⟨.hbm, 283, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_2 (i : grid0.Coords) : Fin 5 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== RetGradRefIdeal.lean ====
abbrev S2x4096x6144 : Shape := ⟨3, ![2, 4096, 6144]⟩
abbrev S2048 : Shape := ⟨1, ![2048]⟩
abbrev S2x4096x2048 : Shape := ⟨3, ![2, 4096, 2048]⟩
abbrev S2x4096x1024 : Shape := ⟨3, ![2, 4096, 1024]⟩
abbrev S2x4096x4x256 : Shape := ⟨4, ![2, 4096, 4, 256]⟩
abbrev S2x4096x4x512 : Shape := ⟨4, ![2, 4096, 4, 512]⟩
abbrev S4096 : Shape := ⟨1, ![4096]⟩
abbrev S_ : Shape := ⟨0, ![]⟩
abbrev S128 : Shape := ⟨1, ![128]⟩
abbrev S4096x1 : Shape := ⟨2, ![4096, 1]⟩
abbrev S1x128 : Shape := ⟨2, ![1, 128]⟩
abbrev S4096x128 : Shape := ⟨2, ![4096, 128]⟩
abbrev S1x4096x1x128 : Shape := ⟨4, ![1, 4096, 1, 128]⟩
abbrev S2x4096x4x128 : Shape := ⟨4, ![2, 4096, 4, 128]⟩
abbrev S2x64x64x4x256 : Shape := ⟨5, ![2, 64, 64, 4, 256]⟩
abbrev S64x2x4x64x256 : Shape := ⟨5, ![64, 2, 4, 64, 256]⟩
abbrev S2x64x64x4x512 : Shape := ⟨5, ![2, 64, 64, 4, 512]⟩
abbrev S64x2x4x64x512 : Shape := ⟨5, ![64, 2, 4, 64, 512]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S2x4x256x512 : Shape := ⟨4, ![2, 4, 256, 512]⟩
abbrev S1x4x64x64 : Shape := ⟨4, ![1, 4, 64, 64]⟩
abbrev S1x4x64x1 : Shape := ⟨4, ![1, 4, 64, 1]⟩
abbrev S1x4x1x1 : Shape := ⟨4, ![1, 4, 1, 1]⟩
abbrev S64x2x4x64x64 : Shape := ⟨5, ![64, 2, 4, 64, 64]⟩
abbrev S64x2x4x256x512 : Shape := ⟨5, ![64, 2, 4, 256, 512]⟩
abbrev S1x2x4x64x256 : Shape := ⟨5, ![1, 2, 4, 64, 256]⟩
abbrev S2x4x64x256 : Shape := ⟨4, ![2, 4, 64, 256]⟩
abbrev S1x2x4x64x512 : Shape := ⟨5, ![1, 2, 4, 64, 512]⟩
abbrev S2x4x64x512 : Shape := ⟨4, ![2, 4, 64, 512]⟩
abbrev S2x4x64x64 : Shape := ⟨4, ![2, 4, 64, 64]⟩
abbrev S1x2x4x64x64 : Shape := ⟨5, ![1, 2, 4, 64, 64]⟩
abbrev S1x2x4x256x512 : Shape := ⟨5, ![1, 2, 4, 256, 512]⟩
abbrev S2x4096x4 : Shape := ⟨3, ![2, 4096, 4]⟩
abbrev S2x4096x4x1 : Shape := ⟨4, ![2, 4096, 4, 1]⟩
abbrev S1x1x2048 : Shape := ⟨3, ![1, 1, 2048]⟩
abbrev S2x4x512x64 : Shape := ⟨4, ![2, 4, 512, 64]⟩
abbrev S2x4x256x64 : Shape := ⟨4, ![2, 4, 256, 64]⟩
abbrev S2x4x512x256 : Shape := ⟨4, ![2, 4, 512, 256]⟩
abbrev S8192x6144 : Shape := ⟨2, ![8192, 6144]⟩
abbrev S1x2048 : Shape := ⟨2, ![1, 2048]⟩

abbrev nBuf : Space → Nat
  | .hbm => 488
  | .vmem => 0
  | .smem => 0
  | _ => 0

abbrev hbmTy0_0 (i : Nat) : BufTy := match i % 128 with
  | 0 => ⟨S2x4096x6144, .f32⟩
  | 1 => ⟨S2048, .f32⟩
  | 2 => ⟨S2x4096x2048, .f32⟩
  | 3 => ⟨S2x4096x1024, .f32⟩
  | 4 => ⟨S2x4096x1024, .f32⟩
  | 5 => ⟨S2x4096x2048, .f32⟩
  | 6 => ⟨S2x4096x2048, .f32⟩
  | 7 => ⟨S2x4096x4x256, .f32⟩
  | 8 => ⟨S2x4096x4x256, .f32⟩
  | 9 => ⟨S2x4096x4x512, .f32⟩
  | 10 => ⟨S4096, .f32⟩
  | 11 => ⟨S_, .f32⟩
  | 12 => ⟨S_, .f32⟩
  | 13 => ⟨S_, .f32⟩
  | 14 => ⟨S128, .f32⟩
  | 15 => ⟨S_, .f32⟩
  | 16 => ⟨S128, .f32⟩
  | 17 => ⟨S128, .f32⟩
  | 18 => ⟨S_, .f32⟩
  | 19 => ⟨S128, .f32⟩
  | 20 => ⟨S128, .f32⟩
  | 21 => ⟨S128, .f32⟩
  | 22 => ⟨S4096x1, .f32⟩
  | 23 => ⟨S1x128, .f32⟩
  | 24 => ⟨S4096x128, .f32⟩
  | 25 => ⟨S4096x128, .f32⟩
  | 26 => ⟨S4096x128, .f32⟩
  | 27 => ⟨S4096x128, .f32⟩
  | 28 => ⟨S1x4096x1x128, .f32⟩
  | 29 => ⟨S4096x128, .f32⟩
  | 30 => ⟨S1x4096x1x128, .f32⟩
  | 31 => ⟨S2x4096x4x128, .f32⟩
  | 32 => ⟨S2x4096x4x128, .f32⟩
  | 33 => ⟨S2x4096x4x128, .f32⟩
  | 34 => ⟨S2x4096x4x128, .f32⟩
  | 35 => ⟨S2x4096x4x128, .f32⟩
  | 36 => ⟨S2x4096x4x128, .f32⟩
  | 37 => ⟨S2x4096x4x128, .f32⟩
  | 38 => ⟨S2x4096x4x128, .f32⟩
  | 39 => ⟨S2x4096x4x128, .f32⟩
  | 40 => ⟨S2x4096x4x128, .f32⟩
  | 41 => ⟨S2x4096x4x128, .f32⟩
  | 42 => ⟨S2x4096x4x128, .f32⟩
  | 43 => ⟨S2x4096x4x256, .f32⟩
  | 44 => ⟨S_, .f32⟩
  | 45 => ⟨S_, .f32⟩
  | 46 => ⟨S_, .f32⟩
  | 47 => ⟨S128, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S128, .f32⟩
  | 55 => ⟨S4096x1, .f32⟩
  | 56 => ⟨S1x128, .f32⟩
  | 57 => ⟨S4096x128, .f32⟩
  | 58 => ⟨S4096x128, .f32⟩
  | 59 => ⟨S4096x128, .f32⟩
  | 60 => ⟨S4096x128, .f32⟩
  | 61 => ⟨S1x4096x1x128, .f32⟩
  | 62 => ⟨S4096x128, .f32⟩
  | 63 => ⟨S1x4096x1x128, .f32⟩
  | 64 => ⟨S2x4096x4x128, .f32⟩
  | 65 => ⟨S2x4096x4x128, .f32⟩
  | 66 => ⟨S2x4096x4x128, .f32⟩
  | 67 => ⟨S2x4096x4x128, .f32⟩
  | 68 => ⟨S2x4096x4x128, .f32⟩
  | 69 => ⟨S2x4096x4x128, .f32⟩
  | 70 => ⟨S2x4096x4x128, .f32⟩
  | 71 => ⟨S2x4096x4x128, .f32⟩
  | 72 => ⟨S2x4096x4x128, .f32⟩
  | 73 => ⟨S2x4096x4x128, .f32⟩
  | 74 => ⟨S2x4096x4x128, .f32⟩
  | 75 => ⟨S2x4096x4x128, .f32⟩
  | 76 => ⟨S2x4096x4x256, .f32⟩
  | 77 => ⟨S_, .f32⟩
  | 78 => ⟨S2x4096x4x256, .f32⟩
  | 79 => ⟨S2x4096x4x256, .f32⟩
  | 80 => ⟨S2x64x64x4x256, .f32⟩
  | 81 => ⟨S64x2x4x64x256, .f32⟩
  | 82 => ⟨S2x64x64x4x256, .f32⟩
  | 83 => ⟨S64x2x4x64x256, .f32⟩
  | 84 => ⟨S2x64x64x4x512, .f32⟩
  | 85 => ⟨S64x2x4x64x512, .f32⟩
  | 86 => ⟨S4, .f32⟩
  | 87 => ⟨S_, .f32⟩
  | 88 => ⟨S4, .f32⟩
  | 89 => ⟨S4, .f32⟩
  | 90 => ⟨S_, .f32⟩
  | 91 => ⟨S4, .f32⟩
  | 92 => ⟨S4, .f32⟩
  | 93 => ⟨S4, .f32⟩
  | 94 => ⟨S4, .f32⟩
  | 95 => ⟨S4, .f32⟩
  | 96 => ⟨S64, .f32⟩
  | 97 => ⟨S4x1x1, .f32⟩
  | 98 => ⟨S64x1, .f32⟩
  | 99 => ⟨S1x64, .f32⟩
  | 100 => ⟨S64x64, .f32⟩
  | 101 => ⟨S64x64, .f32⟩
  | 102 => ⟨S64x64, .f32⟩
  | 103 => ⟨S64x64, .f32⟩
  | 104 => ⟨S1x64x64, .f32⟩
  | 105 => ⟨S4x64x64, .f32⟩
  | 106 => ⟨S4x64x64, .f32⟩
  | 107 => ⟨S4x64x64, .f32⟩
  | 108 => ⟨S4x64x64, .f32⟩
  | 109 => ⟨S4x1, .f32⟩
  | 110 => ⟨S_, .f32⟩
  | 111 => ⟨S64, .f32⟩
  | 112 => ⟨S64, .f32⟩
  | 113 => ⟨S1x64, .f32⟩
  | 114 => ⟨S4x64, .f32⟩
  | 115 => ⟨S4x64, .f32⟩
  | 116 => ⟨S4x64, .f32⟩
  | 117 => ⟨S4x64, .f32⟩
  | 118 => ⟨S4x1, .f32⟩
  | 119 => ⟨S_, .f32⟩
  | 120 => ⟨S64, .f32⟩
  | 121 => ⟨S64, .f32⟩
  | 122 => ⟨S1x64, .f32⟩
  | 123 => ⟨S4x64, .f32⟩
  | 124 => ⟨S4x64, .f32⟩
  | 125 => ⟨S4x64, .f32⟩
  | 126 => ⟨S4x64, .f32⟩
  | 127 => ⟨S_, .f32⟩
  | _ => ⟨S2x4096x6144, .f32⟩

abbrev hbmTy0_1 (i : Nat) : BufTy := match i % 128 with
  | 0 => ⟨S4, .f32⟩
  | 1 => ⟨S4, .f32⟩
  | 2 => ⟨S4, .f32⟩
  | 3 => ⟨S_, .f32⟩
  | 4 => ⟨S2x4x256x512, .f32⟩
  | 5 => ⟨S1x4x64x64, .f32⟩
  | 6 => ⟨S1x4x64x1, .f32⟩
  | 7 => ⟨S1x4x1x1, .f32⟩
  | 8 => ⟨S1x4x64x1, .f32⟩
  | 9 => ⟨S_, .f32⟩
  | 10 => ⟨S64x2x4x64x512, .f32⟩
  | 11 => ⟨S_, .f32⟩
  | 12 => ⟨S64x2x4x64x64, .f32⟩
  | 13 => ⟨S_, .f32⟩
  | 14 => ⟨S64x2x4x256x512, .f32⟩
  | 15 => ⟨S_, .f32⟩
  | 16 => ⟨S64x2x4x64x256, .f32⟩
  | 17 => ⟨S_, .i32⟩
  | 18 => ⟨S64x2x4x64x256, .f32⟩
  | 19 => ⟨S64x2x4x64x256, .f32⟩
  | 20 => ⟨S64x2x4x64x512, .f32⟩
  | 21 => ⟨S1x4x1x1, .f32⟩
  | 22 => ⟨S1x4x64x1, .f32⟩
  | 23 => ⟨S1x4x64x64, .f32⟩
  | 24 => ⟨S1x4x64x1, .f32⟩
  | 25 => ⟨S_, .i32⟩
  | 26 => ⟨S2x4x256x512, .f32⟩
  | 27 => ⟨S64x2x4x64x512, .f32⟩
  | 28 => ⟨S64x2x4x64x64, .f32⟩
  | 29 => ⟨S64x2x4x256x512, .f32⟩
  | 30 => ⟨S64x2x4x64x256, .f32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S1x2x4x64x256, .f32⟩
  | 38 => ⟨S2x4x64x256, .f32⟩
  | 39 => ⟨S_, .i32⟩
  | 40 => ⟨S_, .i32⟩
  | 41 => ⟨S_, .i32⟩
  | 42 => ⟨S_, .i32⟩
  | 43 => ⟨S1x2x4x64x256, .f32⟩
  | 44 => ⟨S2x4x64x256, .f32⟩
  | 45 => ⟨S_, .i32⟩
  | 46 => ⟨S_, .i32⟩
  | 47 => ⟨S_, .i32⟩
  | 48 => ⟨S_, .i32⟩
  | 49 => ⟨S1x2x4x64x512, .f32⟩
  | 50 => ⟨S2x4x64x512, .f32⟩
  | 51 => ⟨S2x4x64x64, .f32⟩
  | 52 => ⟨S2x4x64x64, .f32⟩
  | 53 => ⟨S2x4x64x64, .f32⟩
  | 54 => ⟨S2x4x64x512, .f32⟩
  | 55 => ⟨S2x4x64x512, .f32⟩
  | 56 => ⟨S2x4x64x512, .f32⟩
  | 57 => ⟨S2x4x64x512, .f32⟩
  | 58 => ⟨S2x4x256x512, .f32⟩
  | 59 => ⟨S2x4x256x512, .f32⟩
  | 60 => ⟨S2x4x64x256, .f32⟩
  | 61 => ⟨S2x4x64x256, .f32⟩
  | 62 => ⟨S2x4x256x512, .f32⟩
  | 63 => ⟨S2x4x256x512, .f32⟩
  | 64 => ⟨S2x4x64x512, .f32⟩
  | 65 => ⟨S1x2x4x64x512, .f32⟩
  | 66 => ⟨S_, .i32⟩
  | 67 => ⟨S_, .i32⟩
  | 68 => ⟨S_, .i32⟩
  | 69 => ⟨S_, .i32⟩
  | 70 => ⟨S64x2x4x64x512, .f32⟩
  | 71 => ⟨S1x2x4x64x64, .f32⟩
  | 72 => ⟨S_, .i32⟩
  | 73 => ⟨S_, .i32⟩
  | 74 => ⟨S_, .i32⟩
  | 75 => ⟨S_, .i32⟩
  | 76 => ⟨S64x2x4x64x64, .f32⟩
  | 77 => ⟨S1x2x4x256x512, .f32⟩
  | 78 => ⟨S_, .i32⟩
  | 79 => ⟨S_, .i32⟩
  | 80 => ⟨S_, .i32⟩
  | 81 => ⟨S_, .i32⟩
  | 82 => ⟨S64x2x4x256x512, .f32⟩
  | 83 => ⟨S1x2x4x64x256, .f32⟩
  | 84 => ⟨S_, .i32⟩
  | 85 => ⟨S_, .i32⟩
  | 86 => ⟨S_, .i32⟩
  | 87 => ⟨S_, .i32⟩
  | 88 => ⟨S64x2x4x64x256, .f32⟩
  | 89 => ⟨S_, .i32⟩
  | 90 => ⟨S_, .i32⟩
  | 91 => ⟨S2x64x64x4x512, .f32⟩
  | 92 => ⟨S2x4096x4x512, .f32⟩
  | 93 => ⟨S_, .f32⟩
  | 94 => ⟨S2x4096x4, .f32⟩
  | 95 => ⟨S2x4096x4x1, .f32⟩
  | 96 => ⟨S_, .f32⟩
  | 97 => ⟨S2x4096x4x1, .f32⟩
  | 98 => ⟨S2x4096x4x1, .f32⟩
  | 99 => ⟨S2x4096x4x512, .f32⟩
  | 100 => ⟨S2x4096x4x512, .f32⟩
  | 101 => ⟨S2x4096x4x512, .f32⟩
  | 102 => ⟨S_, .f32⟩
  | 103 => ⟨S2x4096x4x512, .f32⟩
  | 104 => ⟨S2x4096x4x512, .f32⟩
  | 105 => ⟨S_, .f32⟩
  | 106 => ⟨S2x4096x4, .f32⟩
  | 107 => ⟨S2x4096x4x1, .f32⟩
  | 108 => ⟨S_, .f32⟩
  | 109 => ⟨S2x4096x4x1, .f32⟩
  | 110 => ⟨S2x4096x4x1, .f32⟩
  | 111 => ⟨S2x4096x4x512, .f32⟩
  | 112 => ⟨S2x4096x4x512, .f32⟩
  | 113 => ⟨S_, .f32⟩
  | 114 => ⟨S2x4096x4x1, .f32⟩
  | 115 => ⟨S2x4096x4x1, .f32⟩
  | 116 => ⟨S2x4096x4x1, .f32⟩
  | 117 => ⟨S2x4096x4x1, .f32⟩
  | 118 => ⟨S_, .f32⟩
  | 119 => ⟨S2x4096x4x1, .f32⟩
  | 120 => ⟨S2x4096x4x1, .f32⟩
  | 121 => ⟨S2x4096x4x512, .f32⟩
  | 122 => ⟨S2x4096x4x512, .f32⟩
  | 123 => ⟨S2x4096x2048, .f32⟩
  | 124 => ⟨S1x1x2048, .f32⟩
  | 125 => ⟨S2x4096x2048, .f32⟩
  | 126 => ⟨S2x4096x2048, .f32⟩
  | 127 => ⟨S2x4096x2048, .f32⟩
  | _ => ⟨S2x4096x6144, .f32⟩

abbrev hbmTy0_2 (i : Nat) : BufTy := match i % 128 with
  | 0 => ⟨S2x4096x2048, .f32⟩
  | 1 => ⟨S_, .f32⟩
  | 2 => ⟨S2x4096x2048, .f32⟩
  | 3 => ⟨S2x4096x2048, .f32⟩
  | 4 => ⟨S_, .f32⟩
  | 5 => ⟨S2x4096x2048, .f32⟩
  | 6 => ⟨S2x4096x2048, .f32⟩
  | 7 => ⟨S_, .f32⟩
  | 8 => ⟨S2x4096x2048, .f32⟩
  | 9 => ⟨S2x4096x2048, .f32⟩
  | 10 => ⟨S2x4096x2048, .f32⟩
  | 11 => ⟨S2x4096x2048, .f32⟩
  | 12 => ⟨S2x4096x2048, .f32⟩
  | 13 => ⟨S_, .f32⟩
  | 14 => ⟨S2x4x256x512, .f32⟩
  | 15 => ⟨S2x4096x2048, .f32⟩
  | 16 => ⟨S2x4096x2048, .f32⟩
  | 17 => ⟨S2x4096x2048, .f32⟩
  | 18 => ⟨S2x4096x2048, .f32⟩
  | 19 => ⟨S2x4096x2048, .f32⟩
  | 20 => ⟨S2x4096x2048, .f32⟩
  | 21 => ⟨S2x4096x2048, .f32⟩
  | 22 => ⟨S_, .f32⟩
  | 23 => ⟨S2048, .f32⟩
  | 24 => ⟨S1x1x2048, .f32⟩
  | 25 => ⟨S2x4096x2048, .f32⟩
  | 26 => ⟨S2x4096x2048, .f32⟩
  | 27 => ⟨S_, .f32⟩
  | 28 => ⟨S2048, .f32⟩
  | 29 => ⟨S2x4096x4x512, .f32⟩
  | 30 => ⟨S2x4096x4x512, .f32⟩
  | 31 => ⟨S_, .f32⟩
  | 32 => ⟨S2x4096x4, .f32⟩
  | 33 => ⟨S2x4096x4x1, .f32⟩
  | 34 => ⟨S2x4096x4x512, .f32⟩
  | 35 => ⟨S2x4096x4x512, .f32⟩
  | 36 => ⟨S2x4096x4x1, .f32⟩
  | 37 => ⟨S2x4096x4x512, .f32⟩
  | 38 => ⟨S_, .f32⟩
  | 39 => ⟨S2x4096x4, .f32⟩
  | 40 => ⟨S2x4096x4x1, .f32⟩
  | 41 => ⟨S_, .f32⟩
  | 42 => ⟨S2x4096x4x1, .f32⟩
  | 43 => ⟨S2x4096x4x1, .f32⟩
  | 44 => ⟨S_, .f32⟩
  | 45 => ⟨S2x4096x4, .f32⟩
  | 46 => ⟨S2x4096x4x512, .f32⟩
  | 47 => ⟨S2x4096x4x512, .f32⟩
  | 48 => ⟨S2x4096x4x512, .f32⟩
  | 49 => ⟨S_, .f32⟩
  | 50 => ⟨S2x4096x4, .f32⟩
  | 51 => ⟨S2x4096x4x1, .f32⟩
  | 52 => ⟨S2x4096x4x512, .f32⟩
  | 53 => ⟨S2x4096x4x1, .f32⟩
  | 54 => ⟨S_, .f32⟩
  | 55 => ⟨S2x4096x4x1, .f32⟩
  | 56 => ⟨S2x4096x4x1, .f32⟩
  | 57 => ⟨S_, .f32⟩
  | 58 => ⟨S2x4096x4, .f32⟩
  | 59 => ⟨S2x4096x4x512, .f32⟩
  | 60 => ⟨S2x4096x4x512, .f32⟩
  | 61 => ⟨S2x64x64x4x512, .f32⟩
  | 62 => ⟨S64x2x4x64x512, .f32⟩
  | 63 => ⟨S_, .f32⟩
  | 64 => ⟨S2x4x256x512, .f32⟩
  | 65 => ⟨S_, .f32⟩
  | 66 => ⟨S64x2x4x64x256, .f32⟩
  | 67 => ⟨S_, .f32⟩
  | 68 => ⟨S64x2x4x64x256, .f32⟩
  | 69 => ⟨S_, .f32⟩
  | 70 => ⟨S64x2x4x64x512, .f32⟩
  | 71 => ⟨S_, .i32⟩
  | 72 => ⟨S64x2x4x64x512, .f32⟩
  | 73 => ⟨S64x2x4x64x256, .f32⟩
  | 74 => ⟨S64x2x4x64x256, .f32⟩
  | 75 => ⟨S64x2x4x64x512, .f32⟩
  | 76 => ⟨S64x2x4x64x64, .f32⟩
  | 77 => ⟨S64x2x4x256x512, .f32⟩
  | 78 => ⟨S64x2x4x64x256, .f32⟩
  | 79 => ⟨S1x4x64x64, .f32⟩
  | 80 => ⟨S1x4x64x1, .f32⟩
  | 81 => ⟨S1x4x1x1, .f32⟩
  | 82 => ⟨S1x4x64x1, .f32⟩
  | 83 => ⟨S_, .i32⟩
  | 84 => ⟨S2x4x256x512, .f32⟩
  | 85 => ⟨S64x2x4x64x256, .f32⟩
  | 86 => ⟨S64x2x4x64x256, .f32⟩
  | 87 => ⟨S64x2x4x64x512, .f32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S1x2x4x64x512, .f32⟩
  | 99 => ⟨S2x4x64x512, .f32⟩
  | 100 => ⟨S_, .i32⟩
  | 101 => ⟨S_, .i32⟩
  | 102 => ⟨S_, .i32⟩
  | 103 => ⟨S_, .i32⟩
  | 104 => ⟨S1x2x4x64x256, .f32⟩
  | 105 => ⟨S2x4x64x256, .f32⟩
  | 106 => ⟨S_, .i32⟩
  | 107 => ⟨S_, .i32⟩
  | 108 => ⟨S_, .i32⟩
  | 109 => ⟨S_, .i32⟩
  | 110 => ⟨S1x2x4x64x256, .f32⟩
  | 111 => ⟨S2x4x64x256, .f32⟩
  | 112 => ⟨S_, .i32⟩
  | 113 => ⟨S_, .i32⟩
  | 114 => ⟨S_, .i32⟩
  | 115 => ⟨S_, .i32⟩
  | 116 => ⟨S1x2x4x64x512, .f32⟩
  | 117 => ⟨S2x4x64x512, .f32⟩
  | 118 => ⟨S_, .i32⟩
  | 119 => ⟨S_, .i32⟩
  | 120 => ⟨S_, .i32⟩
  | 121 => ⟨S_, .i32⟩
  | 122 => ⟨S1x2x4x64x64, .f32⟩
  | 123 => ⟨S2x4x64x64, .f32⟩
  | 124 => ⟨S_, .i32⟩
  | 125 => ⟨S_, .i32⟩
  | 126 => ⟨S_, .i32⟩
  | 127 => ⟨S_, .i32⟩
  | _ => ⟨S2x4096x6144, .f32⟩

abbrev hbmTy0_3 (i : Nat) : BufTy := match i % 128 with
  | 0 => ⟨S1x2x4x256x512, .f32⟩
  | 1 => ⟨S2x4x256x512, .f32⟩
  | 2 => ⟨S_, .i32⟩
  | 3 => ⟨S_, .i32⟩
  | 4 => ⟨S_, .i32⟩
  | 5 => ⟨S_, .i32⟩
  | 6 => ⟨S1x2x4x64x256, .f32⟩
  | 7 => ⟨S2x4x64x256, .f32⟩
  | 8 => ⟨S2x4x512x64, .f32⟩
  | 9 => ⟨S2x4x64x512, .f32⟩
  | 10 => ⟨S2x4x256x64, .f32⟩
  | 11 => ⟨S2x4x64x256, .f32⟩
  | 12 => ⟨S2x4x64x256, .f32⟩
  | 13 => ⟨S2x4x64x256, .f32⟩
  | 14 => ⟨S2x4x256x512, .f32⟩
  | 15 => ⟨S2x4x256x512, .f32⟩
  | 16 => ⟨S2x4x64x512, .f32⟩
  | 17 => ⟨S2x4x64x512, .f32⟩
  | 18 => ⟨S2x4x512x256, .f32⟩
  | 19 => ⟨S2x4x256x512, .f32⟩
  | 20 => ⟨S2x4x256x512, .f32⟩
  | 21 => ⟨S2x4x64x256, .f32⟩
  | 22 => ⟨S2x4x512x64, .f32⟩
  | 23 => ⟨S2x4x64x512, .f32⟩
  | 24 => ⟨S2x4x64x512, .f32⟩
  | 25 => ⟨S2x4x64x64, .f32⟩
  | 26 => ⟨S2x4x64x64, .f32⟩
  | 27 => ⟨S2x4x64x64, .f32⟩
  | 28 => ⟨S2x4x64x256, .f32⟩
  | 29 => ⟨S2x4x64x256, .f32⟩
  | 30 => ⟨S2x4x64x256, .f32⟩
  | 31 => ⟨S2x4x64x256, .f32⟩
  | 32 => ⟨S1x2x4x64x256, .f32⟩
  | 33 => ⟨S_, .i32⟩
  | 34 => ⟨S_, .i32⟩
  | 35 => ⟨S_, .i32⟩
  | 36 => ⟨S_, .i32⟩
  | 37 => ⟨S64x2x4x64x256, .f32⟩
  | 38 => ⟨S1x2x4x64x256, .f32⟩
  | 39 => ⟨S_, .i32⟩
  | 40 => ⟨S_, .i32⟩
  | 41 => ⟨S_, .i32⟩
  | 42 => ⟨S_, .i32⟩
  | 43 => ⟨S64x2x4x64x256, .f32⟩
  | 44 => ⟨S1x2x4x64x512, .f32⟩
  | 45 => ⟨S_, .i32⟩
  | 46 => ⟨S_, .i32⟩
  | 47 => ⟨S_, .i32⟩
  | 48 => ⟨S_, .i32⟩
  | 49 => ⟨S64x2x4x64x512, .f32⟩
  | 50 => ⟨S_, .i32⟩
  | 51 => ⟨S_, .i32⟩
  | 52 => ⟨S2x64x64x4x512, .f32⟩
  | 53 => ⟨S2x4096x4x512, .f32⟩
  | 54 => ⟨S2x64x64x4x256, .f32⟩
  | 55 => ⟨S2x4096x4x256, .f32⟩
  | 56 => ⟨S2x64x64x4x256, .f32⟩
  | 57 => ⟨S2x4096x4x256, .f32⟩
  | 58 => ⟨S_, .f32⟩
  | 59 => ⟨S2x4096x4x256, .f32⟩
  | 60 => ⟨S2x4096x4x256, .f32⟩
  | 61 => ⟨S2x4096x4x128, .f32⟩
  | 62 => ⟨S2x4096x4x128, .f32⟩
  | 63 => ⟨S2x4096x4x128, .f32⟩
  | 64 => ⟨S2x4096x4x128, .f32⟩
  | 65 => ⟨S2x4096x4x128, .f32⟩
  | 66 => ⟨S2x4096x4x128, .f32⟩
  | 67 => ⟨S2x4096x4x128, .f32⟩
  | 68 => ⟨S2x4096x4x128, .f32⟩
  | 69 => ⟨S2x4096x4x128, .f32⟩
  | 70 => ⟨S2x4096x4x128, .f32⟩
  | 71 => ⟨S2x4096x4x128, .f32⟩
  | 72 => ⟨S2x4096x4x128, .f32⟩
  | 73 => ⟨S2x4096x4x128, .f32⟩
  | 74 => ⟨S_, .f32⟩
  | 75 => ⟨S2x4096x4x256, .f32⟩
  | 76 => ⟨S_, .f32⟩
  | 77 => ⟨S2x4096x4x256, .f32⟩
  | 78 => ⟨S2x4096x4x256, .f32⟩
  | 79 => ⟨S2x4096x4x128, .f32⟩
  | 80 => ⟨S2x4096x4x128, .f32⟩
  | 81 => ⟨S2x4096x4x128, .f32⟩
  | 82 => ⟨S2x4096x4x128, .f32⟩
  | 83 => ⟨S2x4096x4x128, .f32⟩
  | 84 => ⟨S2x4096x4x128, .f32⟩
  | 85 => ⟨S2x4096x4x128, .f32⟩
  | 86 => ⟨S2x4096x4x128, .f32⟩
  | 87 => ⟨S2x4096x4x128, .f32⟩
  | 88 => ⟨S2x4096x4x128, .f32⟩
  | 89 => ⟨S2x4096x4x128, .f32⟩
  | 90 => ⟨S2x4096x4x128, .f32⟩
  | 91 => ⟨S2x4096x4x128, .f32⟩
  | 92 => ⟨S_, .f32⟩
  | 93 => ⟨S2x4096x4x256, .f32⟩
  | 94 => ⟨S_, .f32⟩
  | 95 => ⟨S2x4096x4x256, .f32⟩
  | 96 => ⟨S2x4096x4x256, .f32⟩
  | 97 => ⟨S2x4096x2048, .f32⟩
  | 98 => ⟨S2x4096x1024, .f32⟩
  | 99 => ⟨S2x4096x1024, .f32⟩
  | 100 => ⟨S2x4096x6144, .f32⟩
  | 101 => ⟨S8192x6144, .f32⟩
  | 102 => ⟨S8192x6144, .bf16⟩
  | 103 => ⟨S1x2048, .f32⟩
  | _ => ⟨S2x4096x6144, .f32⟩

abbrev hbmTy (i : Nat) : BufTy := match i / 128 with
  | 0 => hbmTy0_0 i
  | 1 => hbmTy0_1 i
  | 2 => hbmTy0_2 i
  | 3 => hbmTy0_3 i
  | _ => ⟨S2x4096x6144, .f32⟩

abbrev bufTy : (tb : Table) → Fin (tcTables nBuf tb) → BufTy
  | .hbm, ⟨i, _⟩ => hbmTy i
  | _, _ => ⟨S2x4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_cst_2 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_3 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_cst_4 : Ref sig .tc := ⟨.hbm, 87, rfl⟩
abbrev main_v79 : Ref sig .tc := ⟨.hbm, 88, rfl⟩
abbrev main_v80 : Ref sig .tc := ⟨.hbm, 89, rfl⟩
abbrev main_cst_5 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_cst_6 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_cst_7 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_cst_8 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_cst_9 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_cst_10 : Ref sig .tc := ⟨.hbm, 137, rfl⟩
abbrev main_v123 : Ref sig .tc := ⟨.hbm, 138, rfl⟩
abbrev main_cst_11 : Ref sig .tc := ⟨.hbm, 139, rfl⟩
abbrev main_v124 : Ref sig .tc := ⟨.hbm, 140, rfl⟩
abbrev main_cst_12 : Ref sig .tc := ⟨.hbm, 141, rfl⟩
abbrev main_v125 : Ref sig .tc := ⟨.hbm, 142, rfl⟩
abbrev main_cst_13 : Ref sig .tc := ⟨.hbm, 143, rfl⟩
abbrev main_v126 : Ref sig .tc := ⟨.hbm, 144, rfl⟩
abbrev main_c : Ref sig .tc := ⟨.hbm, 145, rfl⟩
abbrev main_v127_0 : Ref sig .tc := ⟨.hbm, 146, rfl⟩
abbrev main_v127_1 : Ref sig .tc := ⟨.hbm, 147, rfl⟩
abbrev main_v127_2 : Ref sig .tc := ⟨.hbm, 148, rfl⟩
abbrev main_v127_3 : Ref sig .tc := ⟨.hbm, 149, rfl⟩
abbrev main_v127_4 : Ref sig .tc := ⟨.hbm, 150, rfl⟩
abbrev main_v127_5 : Ref sig .tc := ⟨.hbm, 151, rfl⟩
abbrev main_v127_6 : Ref sig .tc := ⟨.hbm, 152, rfl⟩
abbrev main_v127_7 : Ref sig .tc := ⟨.hbm, 153, rfl⟩
abbrev main_v127_8 : Ref sig .tc := ⟨.hbm, 154, rfl⟩
abbrev main_v127_9 : Ref sig .tc := ⟨.hbm, 155, rfl⟩
abbrev main_v127_10 : Ref sig .tc := ⟨.hbm, 156, rfl⟩
abbrev main_v127_11 : Ref sig .tc := ⟨.hbm, 157, rfl⟩
abbrev main_v127_12 : Ref sig .tc := ⟨.hbm, 158, rfl⟩
abbrev main_while0c_c_53 : Ref sig .tc := ⟨.hbm, 159, rfl⟩
abbrev main_while0c_v248 : Ref sig .tc := ⟨.hbm, 160, rfl⟩
abbrev main_while0b_call0_c : Ref sig .tc := ⟨.hbm, 161, rfl⟩
abbrev main_while0b_call0_c_0 : Ref sig .tc := ⟨.hbm, 162, rfl⟩
abbrev main_while0b_call0_c_1 : Ref sig .tc := ⟨.hbm, 163, rfl⟩
abbrev main_while0b_call0_c_2 : Ref sig .tc := ⟨.hbm, 164, rfl⟩
abbrev main_while0b_call0_v0 : Ref sig .tc := ⟨.hbm, 165, rfl⟩
abbrev main_while0b_v248 : Ref sig .tc := ⟨.hbm, 166, rfl⟩
abbrev main_while0b_call1_c : Ref sig .tc := ⟨.hbm, 167, rfl⟩
abbrev main_while0b_call1_c_0 : Ref sig .tc := ⟨.hbm, 168, rfl⟩
abbrev main_while0b_call1_c_1 : Ref sig .tc := ⟨.hbm, 169, rfl⟩
abbrev main_while0b_call1_c_2 : Ref sig .tc := ⟨.hbm, 170, rfl⟩
abbrev main_while0b_call1_v0 : Ref sig .tc := ⟨.hbm, 171, rfl⟩
abbrev main_while0b_v249 : Ref sig .tc := ⟨.hbm, 172, rfl⟩
abbrev main_while0b_call2_c : Ref sig .tc := ⟨.hbm, 173, rfl⟩
abbrev main_while0b_call2_c_0 : Ref sig .tc := ⟨.hbm, 174, rfl⟩
abbrev main_while0b_call2_c_1 : Ref sig .tc := ⟨.hbm, 175, rfl⟩
abbrev main_while0b_call2_c_2 : Ref sig .tc := ⟨.hbm, 176, rfl⟩
abbrev main_while0b_call2_v0 : Ref sig .tc := ⟨.hbm, 177, rfl⟩
abbrev main_while0b_v250 : Ref sig .tc := ⟨.hbm, 178, rfl⟩
abbrev main_while0b_v251 : Ref sig .tc := ⟨.hbm, 179, rfl⟩
abbrev main_while0b_v252 : Ref sig .tc := ⟨.hbm, 180, rfl⟩
abbrev main_while0b_v253 : Ref sig .tc := ⟨.hbm, 181, rfl⟩
abbrev main_while0b_v254 : Ref sig .tc := ⟨.hbm, 182, rfl⟩
abbrev main_while0b_v255 : Ref sig .tc := ⟨.hbm, 183, rfl⟩
abbrev main_while0b_v256 : Ref sig .tc := ⟨.hbm, 184, rfl⟩
abbrev main_while0b_v257 : Ref sig .tc := ⟨.hbm, 185, rfl⟩
abbrev main_while0b_v258 : Ref sig .tc := ⟨.hbm, 186, rfl⟩
abbrev main_while0b_v259 : Ref sig .tc := ⟨.hbm, 187, rfl⟩
abbrev main_while0b_v260 : Ref sig .tc := ⟨.hbm, 188, rfl⟩
abbrev main_while0b_v261 : Ref sig .tc := ⟨.hbm, 189, rfl⟩
abbrev main_while0b_v262 : Ref sig .tc := ⟨.hbm, 190, rfl⟩
abbrev main_while0b_v263 : Ref sig .tc := ⟨.hbm, 191, rfl⟩
abbrev main_while0b_v264 : Ref sig .tc := ⟨.hbm, 192, rfl⟩
abbrev main_while0b_call3_v0 : Ref sig .tc := ⟨.hbm, 193, rfl⟩
abbrev main_while0b_call3_c : Ref sig .tc := ⟨.hbm, 194, rfl⟩
abbrev main_while0b_call3_c_0 : Ref sig .tc := ⟨.hbm, 195, rfl⟩
abbrev main_while0b_call3_c_1 : Ref sig .tc := ⟨.hbm, 196, rfl⟩
abbrev main_while0b_call3_c_2 : Ref sig .tc := ⟨.hbm, 197, rfl⟩
abbrev main_while0b_v265 : Ref sig .tc := ⟨.hbm, 198, rfl⟩
abbrev main_while0b_call4_v0 : Ref sig .tc := ⟨.hbm, 199, rfl⟩
abbrev main_while0b_call4_c : Ref sig .tc := ⟨.hbm, 200, rfl⟩
abbrev main_while0b_call4_c_0 : Ref sig .tc := ⟨.hbm, 201, rfl⟩
abbrev main_while0b_call4_c_1 : Ref sig .tc := ⟨.hbm, 202, rfl⟩
abbrev main_while0b_call4_c_2 : Ref sig .tc := ⟨.hbm, 203, rfl⟩
abbrev main_while0b_v266 : Ref sig .tc := ⟨.hbm, 204, rfl⟩
abbrev main_while0b_call5_v0 : Ref sig .tc := ⟨.hbm, 205, rfl⟩
abbrev main_while0b_call5_c : Ref sig .tc := ⟨.hbm, 206, rfl⟩
abbrev main_while0b_call5_c_0 : Ref sig .tc := ⟨.hbm, 207, rfl⟩
abbrev main_while0b_call5_c_1 : Ref sig .tc := ⟨.hbm, 208, rfl⟩
abbrev main_while0b_call5_c_2 : Ref sig .tc := ⟨.hbm, 209, rfl⟩
abbrev main_while0b_v267 : Ref sig .tc := ⟨.hbm, 210, rfl⟩
abbrev main_while0b_call6_v0 : Ref sig .tc := ⟨.hbm, 211, rfl⟩
abbrev main_while0b_call6_c : Ref sig .tc := ⟨.hbm, 212, rfl⟩
abbrev main_while0b_call6_c_0 : Ref sig .tc := ⟨.hbm, 213, rfl⟩
abbrev main_while0b_call6_c_1 : Ref sig .tc := ⟨.hbm, 214, rfl⟩
abbrev main_while0b_call6_c_2 : Ref sig .tc := ⟨.hbm, 215, rfl⟩
abbrev main_while0b_v268 : Ref sig .tc := ⟨.hbm, 216, rfl⟩
abbrev main_while0b_c_53 : Ref sig .tc := ⟨.hbm, 217, rfl⟩
abbrev main_while0b_v269 : Ref sig .tc := ⟨.hbm, 218, rfl⟩
abbrev main_v128 : Ref sig .tc := ⟨.hbm, 219, rfl⟩
abbrev main_v129 : Ref sig .tc := ⟨.hbm, 220, rfl⟩
abbrev main_cst_14 : Ref sig .tc := ⟨.hbm, 221, rfl⟩
abbrev main_v130 : Ref sig .tc := ⟨.hbm, 222, rfl⟩
abbrev main_v131 : Ref sig .tc := ⟨.hbm, 223, rfl⟩
abbrev main_cst_15 : Ref sig .tc := ⟨.hbm, 224, rfl⟩
abbrev main_v132 : Ref sig .tc := ⟨.hbm, 225, rfl⟩
abbrev main_v133 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_cst_16 : Ref sig .tc := ⟨.hbm, 230, rfl⟩
abbrev main_v137 : Ref sig .tc := ⟨.hbm, 231, rfl⟩
abbrev main_v138 : Ref sig .tc := ⟨.hbm, 232, rfl⟩
abbrev main_cst_17 : Ref sig .tc := ⟨.hbm, 233, rfl⟩
abbrev main_v139 : Ref sig .tc := ⟨.hbm, 234, rfl⟩
abbrev main_v140 : Ref sig .tc := ⟨.hbm, 235, rfl⟩
abbrev main_cst_18 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_cst_19 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_cst_20 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_call7_v0 : Ref sig .tc := ⟨.hbm, 255, rfl⟩
abbrev main_call7_v1 : Ref sig .tc := ⟨.hbm, 256, rfl⟩
abbrev main_call7_cst : Ref sig .tc := ⟨.hbm, 257, rfl⟩
abbrev main_call7_v2 : Ref sig .tc := ⟨.hbm, 258, rfl⟩
abbrev main_call7_v3 : Ref sig .tc := ⟨.hbm, 259, rfl⟩
abbrev main_call7_cst_0 : Ref sig .tc := ⟨.hbm, 260, rfl⟩
abbrev main_call7_v4 : Ref sig .tc := ⟨.hbm, 261, rfl⟩
abbrev main_v157_2 : Ref sig .tc := ⟨.hbm, 262, rfl⟩
abbrev main_call7_cst_1 : Ref sig .tc := ⟨.hbm, 263, rfl⟩
abbrev main_call7_v6 : Ref sig .tc := ⟨.hbm, 264, rfl⟩
abbrev main_call7_v7 : Ref sig .tc := ⟨.hbm, 265, rfl⟩
abbrev main_v157_1 : Ref sig .tc := ⟨.hbm, 266, rfl⟩
abbrev main_v157_0 : Ref sig .tc := ⟨.hbm, 267, rfl⟩
abbrev main_v158 : Ref sig .tc := ⟨.hbm, 268, rfl⟩
abbrev main_cst_21 : Ref sig .tc := ⟨.hbm, 269, rfl⟩
abbrev main_v159 : Ref sig .tc := ⟨.hbm, 270, rfl⟩
abbrev main_v160 : Ref sig .tc := ⟨.hbm, 271, rfl⟩
abbrev main_v161 : Ref sig .tc := ⟨.hbm, 272, rfl⟩
abbrev main_call8_v0 : Ref sig .tc := ⟨.hbm, 273, rfl⟩
abbrev main_call8_v1 : Ref sig .tc := ⟨.hbm, 274, rfl⟩
abbrev main_call8_v2 : Ref sig .tc := ⟨.hbm, 275, rfl⟩
abbrev main_v162 : Ref sig .tc := ⟨.hbm, 276, rfl⟩
abbrev main_v163 : Ref sig .tc := ⟨.hbm, 277, rfl⟩
abbrev main_cst_22 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_v167 : Ref sig .tc := ⟨.hbm, 282, rfl⟩
abbrev main_cst_23 : Ref sig .tc := ⟨.hbm, 283, rfl⟩
abbrev main_v168 : Ref sig .tc := ⟨.hbm, 284, rfl⟩
abbrev main_v169 : Ref sig .tc := ⟨.hbm, 285, rfl⟩
abbrev main_v170 : Ref sig .tc := ⟨.hbm, 286, rfl⟩
abbrev main_cst_24 : Ref sig .tc := ⟨.hbm, 287, rfl⟩
abbrev main_v171 : Ref sig .tc := ⟨.hbm, 288, rfl⟩
abbrev main_v172 : Ref sig .tc := ⟨.hbm, 289, rfl⟩
abbrev main_v173 : Ref sig .tc := ⟨.hbm, 290, rfl⟩
abbrev main_v174 : Ref sig .tc := ⟨.hbm, 291, rfl⟩
abbrev main_v175 : Ref sig .tc := ⟨.hbm, 292, rfl⟩
abbrev main_v176 : Ref sig .tc := ⟨.hbm, 293, rfl⟩
abbrev main_cst_25 : Ref sig .tc := ⟨.hbm, 294, rfl⟩
abbrev main_v177 : Ref sig .tc := ⟨.hbm, 295, rfl⟩
abbrev main_v178 : Ref sig .tc := ⟨.hbm, 296, rfl⟩
abbrev main_cst_26 : Ref sig .tc := ⟨.hbm, 297, rfl⟩
abbrev main_v179 : Ref sig .tc := ⟨.hbm, 298, rfl⟩
abbrev main_v180 : Ref sig .tc := ⟨.hbm, 299, rfl⟩
abbrev main_cst_27 : Ref sig .tc := ⟨.hbm, 300, rfl⟩
abbrev main_v181 : Ref sig .tc := ⟨.hbm, 301, rfl⟩
abbrev main_v182 : Ref sig .tc := ⟨.hbm, 302, rfl⟩
abbrev main_v183 : Ref sig .tc := ⟨.hbm, 303, rfl⟩
abbrev main_v184 : Ref sig .tc := ⟨.hbm, 304, rfl⟩
abbrev main_cst_28 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_cst_29 : Ref sig .tc := ⟨.hbm, 310, rfl⟩
abbrev main_v189 : Ref sig .tc := ⟨.hbm, 311, rfl⟩
abbrev main_v190 : Ref sig .tc := ⟨.hbm, 312, rfl⟩
abbrev main_cst_30 : Ref sig .tc := ⟨.hbm, 313, rfl⟩
abbrev main_v191 : Ref sig .tc := ⟨.hbm, 314, rfl⟩
abbrev main_v192 : Ref sig .tc := ⟨.hbm, 315, rfl⟩
abbrev main_v193 : Ref sig .tc := ⟨.hbm, 316, rfl⟩
abbrev main_v194 : Ref sig .tc := ⟨.hbm, 317, rfl⟩
abbrev main_v195 : Ref sig .tc := ⟨.hbm, 318, rfl⟩
abbrev main_cst_31 : Ref sig .tc := ⟨.hbm, 319, rfl⟩
abbrev main_v196 : Ref sig .tc := ⟨.hbm, 320, rfl⟩
abbrev main_cst_32 : Ref sig .tc := ⟨.hbm, 321, rfl⟩
abbrev main_v197 : Ref sig .tc := ⟨.hbm, 322, rfl⟩
abbrev main_cst_33 : Ref sig .tc := ⟨.hbm, 323, rfl⟩
abbrev main_v198 : Ref sig .tc := ⟨.hbm, 324, rfl⟩
abbrev main_cst_34 : Ref sig .tc := ⟨.hbm, 325, rfl⟩
abbrev main_v199 : Ref sig .tc := ⟨.hbm, 326, rfl⟩
abbrev main_c_35 : Ref sig .tc := ⟨.hbm, 327, rfl⟩
abbrev main_v200_0 : Ref sig .tc := ⟨.hbm, 328, rfl⟩
abbrev main_v200_1 : Ref sig .tc := ⟨.hbm, 329, rfl⟩
abbrev main_v200_2 : Ref sig .tc := ⟨.hbm, 330, rfl⟩
abbrev main_v200_3 : Ref sig .tc := ⟨.hbm, 331, rfl⟩
abbrev main_v200_4 : Ref sig .tc := ⟨.hbm, 332, rfl⟩
abbrev main_v200_5 : Ref sig .tc := ⟨.hbm, 333, rfl⟩
abbrev main_v200_6 : Ref sig .tc := ⟨.hbm, 334, rfl⟩
abbrev main_v200_7 : Ref sig .tc := ⟨.hbm, 335, rfl⟩
abbrev main_v200_8 : Ref sig .tc := ⟨.hbm, 336, rfl⟩
abbrev main_v200_9 : Ref sig .tc := ⟨.hbm, 337, rfl⟩
abbrev main_v200_10 : Ref sig .tc := ⟨.hbm, 338, rfl⟩
abbrev main_v200_11 : Ref sig .tc := ⟨.hbm, 339, rfl⟩
abbrev main_v200_12 : Ref sig .tc := ⟨.hbm, 340, rfl⟩
abbrev main_v200_13 : Ref sig .tc := ⟨.hbm, 341, rfl⟩
abbrev main_v200_14 : Ref sig .tc := ⟨.hbm, 342, rfl⟩
abbrev main_v200_15 : Ref sig .tc := ⟨.hbm, 343, rfl⟩
abbrev main_while1c_c_56 : Ref sig .tc := ⟨.hbm, 344, rfl⟩
abbrev main_while1c_v248 : Ref sig .tc := ⟨.hbm, 345, rfl⟩
abbrev main_while1b_c_56 : Ref sig .tc := ⟨.hbm, 346, rfl⟩
abbrev main_while1b_v248 : Ref sig .tc := ⟨.hbm, 347, rfl⟩
abbrev main_while1b_c_57 : Ref sig .tc := ⟨.hbm, 348, rfl⟩
abbrev main_while1b_v249 : Ref sig .tc := ⟨.hbm, 349, rfl⟩
abbrev main_while1b_call9_c : Ref sig .tc := ⟨.hbm, 350, rfl⟩
abbrev main_while1b_call9_c_0 : Ref sig .tc := ⟨.hbm, 351, rfl⟩
abbrev main_while1b_call9_c_1 : Ref sig .tc := ⟨.hbm, 352, rfl⟩
abbrev main_while1b_call9_c_2 : Ref sig .tc := ⟨.hbm, 353, rfl⟩
abbrev main_while1b_call9_v0 : Ref sig .tc := ⟨.hbm, 354, rfl⟩
abbrev main_while1b_v250 : Ref sig .tc := ⟨.hbm, 355, rfl⟩
abbrev main_while1b_call10_c : Ref sig .tc := ⟨.hbm, 356, rfl⟩
abbrev main_while1b_call10_c_0 : Ref sig .tc := ⟨.hbm, 357, rfl⟩
abbrev main_while1b_call10_c_1 : Ref sig .tc := ⟨.hbm, 358, rfl⟩
abbrev main_while1b_call10_c_2 : Ref sig .tc := ⟨.hbm, 359, rfl⟩
abbrev main_while1b_call10_v0 : Ref sig .tc := ⟨.hbm, 360, rfl⟩
abbrev main_while1b_v251 : Ref sig .tc := ⟨.hbm, 361, rfl⟩
abbrev main_while1b_call11_c : Ref sig .tc := ⟨.hbm, 362, rfl⟩
abbrev main_while1b_call11_c_0 : Ref sig .tc := ⟨.hbm, 363, rfl⟩
abbrev main_while1b_call11_c_1 : Ref sig .tc := ⟨.hbm, 364, rfl⟩
abbrev main_while1b_call11_c_2 : Ref sig .tc := ⟨.hbm, 365, rfl⟩
abbrev main_while1b_call11_v0 : Ref sig .tc := ⟨.hbm, 366, rfl⟩
abbrev main_while1b_v252 : Ref sig .tc := ⟨.hbm, 367, rfl⟩
abbrev main_while1b_call12_c : Ref sig .tc := ⟨.hbm, 368, rfl⟩
abbrev main_while1b_call12_c_0 : Ref sig .tc := ⟨.hbm, 369, rfl⟩
abbrev main_while1b_call12_c_1 : Ref sig .tc := ⟨.hbm, 370, rfl⟩
abbrev main_while1b_call12_c_2 : Ref sig .tc := ⟨.hbm, 371, rfl⟩
abbrev main_while1b_call12_v0 : Ref sig .tc := ⟨.hbm, 372, rfl⟩
abbrev main_while1b_v253 : Ref sig .tc := ⟨.hbm, 373, rfl⟩
abbrev main_while1b_call13_c : Ref sig .tc := ⟨.hbm, 374, rfl⟩
abbrev main_while1b_call13_c_0 : Ref sig .tc := ⟨.hbm, 375, rfl⟩
abbrev main_while1b_call13_c_1 : Ref sig .tc := ⟨.hbm, 376, rfl⟩
abbrev main_while1b_call13_c_2 : Ref sig .tc := ⟨.hbm, 377, rfl⟩
abbrev main_while1b_call13_v0 : Ref sig .tc := ⟨.hbm, 378, rfl⟩
abbrev main_while1b_v254 : Ref sig .tc := ⟨.hbm, 379, rfl⟩
abbrev main_while1b_call14_c : Ref sig .tc := ⟨.hbm, 380, rfl⟩
abbrev main_while1b_call14_c_0 : Ref sig .tc := ⟨.hbm, 381, rfl⟩
abbrev main_while1b_call14_c_1 : Ref sig .tc := ⟨.hbm, 382, rfl⟩
abbrev main_while1b_call14_c_2 : Ref sig .tc := ⟨.hbm, 383, rfl⟩
abbrev main_while1b_call14_v0 : Ref sig .tc := ⟨.hbm, 384, rfl⟩
abbrev main_while1b_v255 : Ref sig .tc := ⟨.hbm, 385, rfl⟩
abbrev main_while1b_call15_c : Ref sig .tc := ⟨.hbm, 386, rfl⟩
abbrev main_while1b_call15_c_0 : Ref sig .tc := ⟨.hbm, 387, rfl⟩
abbrev main_while1b_call15_c_1 : Ref sig .tc := ⟨.hbm, 388, rfl⟩
abbrev main_while1b_call15_c_2 : Ref sig .tc := ⟨.hbm, 389, rfl⟩
abbrev main_while1b_call15_v0 : Ref sig .tc := ⟨.hbm, 390, rfl⟩
abbrev main_while1b_v256 : Ref sig .tc := ⟨.hbm, 391, rfl⟩
abbrev main_while1b_v257 : Ref sig .tc := ⟨.hbm, 392, rfl⟩
abbrev main_while1b_v258 : Ref sig .tc := ⟨.hbm, 393, rfl⟩
abbrev main_while1b_v259 : Ref sig .tc := ⟨.hbm, 394, rfl⟩
abbrev main_while1b_v260 : Ref sig .tc := ⟨.hbm, 395, rfl⟩
abbrev main_while1b_v261 : Ref sig .tc := ⟨.hbm, 396, rfl⟩
abbrev main_while1b_v262 : Ref sig .tc := ⟨.hbm, 397, rfl⟩
abbrev main_while1b_v263 : Ref sig .tc := ⟨.hbm, 398, rfl⟩
abbrev main_while1b_v264 : Ref sig .tc := ⟨.hbm, 399, rfl⟩
abbrev main_while1b_v265 : Ref sig .tc := ⟨.hbm, 400, rfl⟩
abbrev main_while1b_v266 : Ref sig .tc := ⟨.hbm, 401, rfl⟩
abbrev main_while1b_v267 : Ref sig .tc := ⟨.hbm, 402, rfl⟩
abbrev main_while1b_v268 : Ref sig .tc := ⟨.hbm, 403, rfl⟩
abbrev main_while1b_v269 : Ref sig .tc := ⟨.hbm, 404, rfl⟩
abbrev main_while1b_v270 : Ref sig .tc := ⟨.hbm, 405, rfl⟩
abbrev main_while1b_v271 : Ref sig .tc := ⟨.hbm, 406, rfl⟩
abbrev main_while1b_v272 : Ref sig .tc := ⟨.hbm, 407, rfl⟩
abbrev main_while1b_v273 : Ref sig .tc := ⟨.hbm, 408, rfl⟩
abbrev main_while1b_v274 : Ref sig .tc := ⟨.hbm, 409, rfl⟩
abbrev main_while1b_v275 : Ref sig .tc := ⟨.hbm, 410, rfl⟩
abbrev main_while1b_v276 : Ref sig .tc := ⟨.hbm, 411, rfl⟩
abbrev main_while1b_v277 : Ref sig .tc := ⟨.hbm, 412, rfl⟩
abbrev main_while1b_v278 : Ref sig .tc := ⟨.hbm, 413, rfl⟩
abbrev main_while1b_v279 : Ref sig .tc := ⟨.hbm, 414, rfl⟩
abbrev main_while1b_v280 : Ref sig .tc := ⟨.hbm, 415, rfl⟩
abbrev main_while1b_call16_v0 : Ref sig .tc := ⟨.hbm, 416, rfl⟩
abbrev main_while1b_call16_c : Ref sig .tc := ⟨.hbm, 417, rfl⟩
abbrev main_while1b_call16_c_0 : Ref sig .tc := ⟨.hbm, 418, rfl⟩
abbrev main_while1b_call16_c_1 : Ref sig .tc := ⟨.hbm, 419, rfl⟩
abbrev main_while1b_call16_c_2 : Ref sig .tc := ⟨.hbm, 420, rfl⟩
abbrev main_while1b_v281 : Ref sig .tc := ⟨.hbm, 421, rfl⟩
abbrev main_while1b_call17_v0 : Ref sig .tc := ⟨.hbm, 422, rfl⟩
abbrev main_while1b_call17_c : Ref sig .tc := ⟨.hbm, 423, rfl⟩
abbrev main_while1b_call17_c_0 : Ref sig .tc := ⟨.hbm, 424, rfl⟩
abbrev main_while1b_call17_c_1 : Ref sig .tc := ⟨.hbm, 425, rfl⟩
abbrev main_while1b_call17_c_2 : Ref sig .tc := ⟨.hbm, 426, rfl⟩
abbrev main_while1b_v282 : Ref sig .tc := ⟨.hbm, 427, rfl⟩
abbrev main_while1b_call18_v0 : Ref sig .tc := ⟨.hbm, 428, rfl⟩
abbrev main_while1b_call18_c : Ref sig .tc := ⟨.hbm, 429, rfl⟩
abbrev main_while1b_call18_c_0 : Ref sig .tc := ⟨.hbm, 430, rfl⟩
abbrev main_while1b_call18_c_1 : Ref sig .tc := ⟨.hbm, 431, rfl⟩
abbrev main_while1b_call18_c_2 : Ref sig .tc := ⟨.hbm, 432, rfl⟩
abbrev main_while1b_v283 : Ref sig .tc := ⟨.hbm, 433, rfl⟩
abbrev main_while1b_c_58 : Ref sig .tc := ⟨.hbm, 434, rfl⟩
abbrev main_while1b_v284 : Ref sig .tc := ⟨.hbm, 435, rfl⟩
abbrev main_v201 : Ref sig .tc := ⟨.hbm, 436, rfl⟩
abbrev main_v202 : Ref sig .tc := ⟨.hbm, 437, rfl⟩
abbrev main_v203 : Ref sig .tc := ⟨.hbm, 438, rfl⟩
abbrev main_v204 : Ref sig .tc := ⟨.hbm, 439, rfl⟩
abbrev main_v205 : Ref sig .tc := ⟨.hbm, 440, rfl⟩
abbrev main_v206 : Ref sig .tc := ⟨.hbm, 441, rfl⟩
abbrev main_cst_36 : Ref sig .tc := ⟨.hbm, 442, rfl⟩
abbrev main_v207 : Ref sig .tc := ⟨.hbm, 443, rfl⟩
abbrev main_v208 : Ref sig .tc := ⟨.hbm, 444, rfl⟩
abbrev main_v209 : Ref sig .tc := ⟨.hbm, 445, rfl⟩
abbrev main_v210 : Ref sig .tc := ⟨.hbm, 446, rfl⟩
abbrev main_v211 : Ref sig .tc := ⟨.hbm, 447, rfl⟩
abbrev main_v212 : Ref sig .tc := ⟨.hbm, 448, rfl⟩
abbrev main_v213 : Ref sig .tc := ⟨.hbm, 449, rfl⟩
abbrev main_v214 : Ref sig .tc := ⟨.hbm, 450, rfl⟩
abbrev main_v215 : Ref sig .tc := ⟨.hbm, 451, rfl⟩
abbrev main_v216 : Ref sig .tc := ⟨.hbm, 452, rfl⟩
abbrev main_v217 : Ref sig .tc := ⟨.hbm, 453, rfl⟩
abbrev main_v218 : Ref sig .tc := ⟨.hbm, 454, rfl⟩
abbrev main_v219 : Ref sig .tc := ⟨.hbm, 455, rfl⟩
abbrev main_v220 : Ref sig .tc := ⟨.hbm, 456, rfl⟩
abbrev main_v221 : Ref sig .tc := ⟨.hbm, 457, rfl⟩
abbrev main_cst_37 : Ref sig .tc := ⟨.hbm, 458, rfl⟩
abbrev main_v222 : Ref sig .tc := ⟨.hbm, 459, rfl⟩
abbrev main_cst_38 : Ref sig .tc := ⟨.hbm, 460, rfl⟩
abbrev main_v223 : Ref sig .tc := ⟨.hbm, 461, rfl⟩
abbrev main_v224 : Ref sig .tc := ⟨.hbm, 462, rfl⟩
abbrev main_v225 : Ref sig .tc := ⟨.hbm, 463, rfl⟩
abbrev main_v226 : Ref sig .tc := ⟨.hbm, 464, rfl⟩
abbrev main_v227 : Ref sig .tc := ⟨.hbm, 465, rfl⟩
abbrev main_v228 : Ref sig .tc := ⟨.hbm, 466, rfl⟩
abbrev main_v229 : Ref sig .tc := ⟨.hbm, 467, rfl⟩
abbrev main_v230 : Ref sig .tc := ⟨.hbm, 468, rfl⟩
abbrev main_v231 : Ref sig .tc := ⟨.hbm, 469, rfl⟩
abbrev main_v232 : Ref sig .tc := ⟨.hbm, 470, rfl⟩
abbrev main_v233 : Ref sig .tc := ⟨.hbm, 471, rfl⟩
abbrev main_v234 : Ref sig .tc := ⟨.hbm, 472, rfl⟩
abbrev main_v235 : Ref sig .tc := ⟨.hbm, 473, rfl⟩
abbrev main_v236 : Ref sig .tc := ⟨.hbm, 474, rfl⟩
abbrev main_v237 : Ref sig .tc := ⟨.hbm, 475, rfl⟩
abbrev main_cst_39 : Ref sig .tc := ⟨.hbm, 476, rfl⟩
abbrev main_v238 : Ref sig .tc := ⟨.hbm, 477, rfl⟩
abbrev main_cst_40 : Ref sig .tc := ⟨.hbm, 478, rfl⟩
abbrev main_v239 : Ref sig .tc := ⟨.hbm, 479, rfl⟩
abbrev main_v240 : Ref sig .tc := ⟨.hbm, 480, rfl⟩
abbrev main_v241 : Ref sig .tc := ⟨.hbm, 481, rfl⟩
abbrev main_v242 : Ref sig .tc := ⟨.hbm, 482, rfl⟩
abbrev main_v243 : Ref sig .tc := ⟨.hbm, 483, rfl⟩
abbrev main_v244 : Ref sig .tc := ⟨.hbm, 484, rfl⟩
abbrev main_v245 : Ref sig .tc := ⟨.hbm, 485, rfl⟩
abbrev main_v246 : Ref sig .tc := ⟨.hbm, 486, rfl⟩
abbrev main_v247 : Ref sig .tc := ⟨.hbm, 487, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== RetIn.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S1024x6144, .bf16⟩
  | .hbm, ⟨6, _⟩ => ⟨S1024x4x1536, .bf16⟩
  | .hbm, ⟨7, _⟩ => ⟨S4x1024x1536, .bf16⟩
  | .hbm, ⟨8, _⟩ => ⟨S8192x6144, .bf16⟩
  | .hbm, ⟨9, _⟩ => ⟨S1x1024, .f32⟩
  | .hbm, ⟨10, _⟩ => ⟨S8192x1024, .f32⟩
  | .hbm, ⟨11, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S4x1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v37 : BitVec 1 := Scalar.cmpi .eq arg0 c0_i32
  let v38 : BitVec 32 := Scalar.extui v37
  let c0_i32_22 : BitVec 32 := 0#32
  let v39 : BitVec 1 := Scalar.cmpi .ne v38 c0_i32_22
  v39

def k0_cond2 (i : grid0.Coords) : BitVec 1 :=
  let arg0 : BitVec 32 := BitVec.ofNat 32 (i 0).val
  let c0_i32_23 : BitVec 32 := 0#32
  let v40 : BitVec 1 := Scalar.cmpi .sgt arg0 c0_i32_23
  let v41 : BitVec 32 := Scalar.extui v40
  let c0_i32_24 : BitVec 32 := 0#32
  let v42 : BitVec 1 := Scalar.cmpi .ne v41 c0_i32_24
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RetInRefIdeal.lean ====
abbrev S8192x1024 : Shape := ⟨2, ![8192, 1024]⟩
abbrev S1024 : Shape := ⟨1, ![1024]⟩
abbrev S1024x6144 : Shape := ⟨2, ![1024, 6144]⟩
abbrev S8192x6144 : Shape := ⟨2, ![8192, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x6144, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x6144, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== AttIn.lean ====
abbrev S8192x1024 : Shape := ⟨2, ![8192, 1024]⟩
abbrev S1024 : Shape := ⟨1, ![1024]⟩
abbrev S1024x3072 : Shape := ⟨2, ![1024, 3072]⟩
abbrev S1024x4x768 : Shape := ⟨3, ![1024, 4, 768]⟩
abbrev S4x1024x768 : Shape := ⟨3, ![4, 1024, 768]⟩
abbrev S1x1024 : Shape := ⟨2, ![1, 1024]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x3072, .bf16⟩
  | .hbm, ⟨8, _⟩ => ⟨S1024x4x768, .bf16⟩
  | .hbm, ⟨9, _⟩ => ⟨S4x1024x768, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .hbm, ⟨13, _⟩ => ⟨S1x1024, .f32⟩
  | .hbm, ⟨14, _⟩ => ⟨S8192x1024, .f32⟩
  | .hbm, ⟨15, _⟩ => ⟨S1x1024, .f32⟩
  | .hbm, ⟨16, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x1024x768, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v85 : BitVec 1 := Scalar.cmpi .eq arg0 c0_i32
  let v86 : BitVec 32 := Scalar.extui v85
  let c0_i32_70 : BitVec 32 := 0#32
  let v87 : BitVec 1 := Scalar.cmpi .ne v86 c0_i32_70
  v87

def k0_cond2 (i : grid0.Coords) : BitVec 1 :=
  let arg0 : BitVec 32 := BitVec.ofNat 32 (i 0).val
  let c0_i32_71 : BitVec 32 := 0#32
  let v88 : BitVec 1 := Scalar.cmpi .sgt arg0 c0_i32_71
  let v89 : BitVec 32 := Scalar.extui v88
  let c0_i32_72 : BitVec 32 := 0#32
  let v90 : BitVec 1 := Scalar.cmpi .ne v89 c0_i32_72
  v90

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttInRefIdeal.lean ====
abbrev S8192x1024 : Shape := ⟨2, ![8192, 1024]⟩
abbrev S1024 : Shape := ⟨1, ![1024]⟩
abbrev S1024x3072 : Shape := ⟨2, ![1024, 3072]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x3072 : Shape := ⟨2, ![8192, 3072]⟩

abbrev nBuf : Space → Nat
  | .hbm => 61
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3072, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x3072, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x3072, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== MlpUp.lean ====
abbrev S8192x1024 : Shape := ⟨2, ![8192, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1024x4x1024, .bf16⟩
  | .hbm, ⟨5, _⟩ => ⟨S4x1024x1024, .bf16⟩
  | .hbm, ⟨6, _⟩ => ⟨S1x1024, .f32⟩
  | .hbm, ⟨7, _⟩ => ⟨S8192x4096, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x1024, .bf16⟩
  | .local _ .vmem, ⟨3, _⟩ => ⟨S1x1024, .f32⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlpUpRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .bf16⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_cst : Ref sig .tc := ⟨.hbm, 20, rfl⟩
abbrev main_call0_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== RetProj.lean ====
abbrev S8192x1024 : Shape := ⟨2, ![8192, 1024]⟩
abbrev S1024 : Shape := ⟨1, ![1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S8192x6144 : Shape := ⟨2, ![8192, 6144]⟩
abbrev S512x1024 : Shape := ⟨2, ![512, 1024]⟩
abbrev S512x6144 : Shape := ⟨2, ![512, 6144]⟩
abbrev S512 : Shape := ⟨1, ![512]⟩
abbrev S512x1 : Shape := ⟨2, ![512, 1]⟩
abbrev S1x1024x1536 : Shape := ⟨3, ![1, 1024, 1536]⟩
abbrev S1024x1536 : Shape := ⟨2, ![1024, 1536]⟩
abbrev S512x1536 : Shape := ⟨2, ![512, 1536]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S1024x6144, .bf16⟩
  | .hbm, ⟨4, _⟩ => ⟨S1024x4x1536, .bf16⟩
  | .hbm, ⟨5, _⟩ => ⟨S4x1024x1536, .bf16⟩
  | .hbm, ⟨6, _⟩ => ⟨S1x1024, .f32⟩
  | .hbm, ⟨7, _⟩ => ⟨S8192x6144, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S4x1024x1536, .bf16⟩
  | .local _ .vmem, ⟨3, _⟩ => ⟨S1x1024, .f32⟩
  | .local _ .vmem, ⟨4, _⟩ => ⟨S512x6144, .bf16⟩
  | .local _ .vmem, ⟨5, _⟩ => ⟨S512x6144, .bf16⟩
  | .local _ .vmem, ⟨6, _⟩ => ⟨S512x1024, .bf16⟩
  | .local _ .vmem, ⟨7, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RetProjRefIdeal.lean ====
abbrev S8192x1024 : Shape := ⟨2, ![8192, 1024]⟩
abbrev S1024 : Shape := ⟨1, ![1024]⟩
abbrev S1024x6144 : Shape := ⟨2, ![1024, 6144]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6144 : Shape := ⟨2, ![8192, 6144]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6144, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6144, .f32⟩
  | .hbm, ⟨20, _⟩ => ⟨S8192x6144, .bf16⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== MlpDown.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S4x1024x1024 : Shape := ⟨3, ![4, 1024, 1024]⟩
abbrev S512x4096 : Shape := ⟨2, ![512, 4096]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S4096x1024, .bf16⟩
  | .hbm, ⟨8, _⟩ => ⟨S4x1024x1024, .bf16⟩
  | .hbm, ⟨9, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpDownRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== RetFwd.lean ====
abbrev S2x4096x6144 : Shape := ⟨3, ![2, 4096, 6144]⟩
abbrev S2048 : Shape := ⟨1, ![2048]⟩
abbrev S8192x6144 : Shape := ⟨2, ![8192, 6144]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x128 : Shape := ⟨3, ![4, 1, 128]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S1x2048 : Shape := ⟨2, ![1, 2048]⟩
abbrev S8192x2048 : Shape := ⟨2, ![8192, 2048]⟩
abbrev S2x16x4x256x512 : Shape := ⟨5, ![2, 16, 4, 256, 512]⟩
abbrev S256x6144 : Shape := ⟨2, ![256, 6144]⟩
abbrev S256x128 : Shape := ⟨2, ![256, 128]⟩
abbrev S256x2048 : Shape := ⟨2, ![256, 2048]⟩
abbrev S1x1x4x256x512 : Shape := ⟨5, ![1, 1, 4, 256, 512]⟩
abbrev S4x256x512 : Shape := ⟨3, ![4, 256, 512]⟩
abbrev S1x256x512 : Shape := ⟨3, ![1, 256, 512]⟩
abbrev S256x512 : Shape := ⟨2, ![256, 512]⟩
abbrev S1x1x1x256x512 : Shape := ⟨5, ![1, 1, 1, 256, 512]⟩
abbrev S1x256x1 : Shape := ⟨3, ![1, 256, 1]⟩
abbrev S1x1x128 : Shape := ⟨3, ![1, 1, 128]⟩
abbrev S1x1 : Shape := ⟨2, ![1, 1]⟩
abbrev S1x512 : Shape := ⟨2, ![1, 512]⟩

abbrev nBuf : Space → Nat
  | .hbm => 102
  | .vmem => 16
  | .smem => 0
  | _ => 0

abbrev bufTy : (tb : Table) → Fin (tcTables nBuf tb) → BufTy
  | .hbm, ⟨0, _⟩ => ⟨S2x4096x6144, .f32⟩
  | .hbm, ⟨1, _⟩ => ⟨S2048, .f32⟩
  | .hbm, ⟨2, _⟩ => ⟨S8192x6144, .f32⟩
  | .hbm, ⟨3, _⟩ => ⟨S8192x6144, .bf16⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x1, .f32⟩
  | .hbm, ⟨21, _⟩ => ⟨S_, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S256x256, .f32⟩
  | .hbm, ⟨26, _⟩ => ⟨S256x256, .f32⟩
  | .hbm, ⟨27, _⟩ => ⟨S256x256, .i1⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .i1⟩
  | .hbm, ⟨39, _⟩ => ⟨S1x256x256, .i1⟩
  | .hbm, ⟨40, _⟩ => ⟨S4x1x1, .f32⟩
  | .hbm, ⟨41, _⟩ => ⟨S1x256x256, .f32⟩
  | .hbm, ⟨42, _⟩ => ⟨S4x256x256, .f32⟩
  | .hbm, ⟨43, _⟩ => ⟨S4x256x256, .f32⟩
  | .hbm, ⟨44, _⟩ => ⟨S4x256x256, .f32⟩
  | .hbm, ⟨45, _⟩ => ⟨S4x256x256, .f32⟩
  | .hbm, ⟨46, _⟩ => ⟨S_, .f32⟩
  | .hbm, ⟨47, _⟩ => ⟨S_, .f32⟩
  | .hbm, ⟨48, _⟩ => ⟨S4x256x256, .i1⟩
  | .hbm, ⟨49, _⟩ => ⟨S4x256x256, .f32⟩
  | .hbm, ⟨50, _⟩ => ⟨S4x256x256, .f32⟩
  | .hbm, ⟨51, _⟩ => ⟨S4x1, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S1x256, .f32⟩
  | .hbm, ⟨56, _⟩ => ⟨S4x256, .f32⟩
  | .hbm, ⟨57, _⟩ => ⟨S4x256, .f32⟩
  | .hbm, ⟨58, _⟩ => ⟨S4x256, .f32⟩
  | .hbm, ⟨59, _⟩ => ⟨S4x256, .f32⟩
  | .hbm, ⟨60, _⟩ => ⟨S4x256x1, .f32⟩
  | .hbm, ⟨61, _⟩ => ⟨S4x1, .f32⟩
  | .hbm, ⟨62, _⟩ => ⟨S_, .f32⟩
  | .hbm, ⟨63, _⟩ => ⟨S256, .f32⟩
  | .hbm, ⟨64, _⟩ => ⟨S256, .f32⟩
  | .hbm, ⟨65, _⟩ => ⟨S1x256, .f32⟩
  | .hbm, ⟨66, _⟩ => ⟨S4x256, .f32⟩
  | .hbm, ⟨67, _⟩ => ⟨S4x256, .f32⟩
  | .hbm, ⟨68, _⟩ => ⟨S4x256, .f32⟩
  | .hbm, ⟨69, _⟩ => ⟨S4x256, .f32⟩
  | .hbm, ⟨70, _⟩ => ⟨S4x256x1, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S4x1x1, .f32⟩
  | .hbm, ⟨76, _⟩ => ⟨S_, .f32⟩
  | .hbm, ⟨77, _⟩ => ⟨S4x1x128, .f32⟩
  | .hbm, ⟨78, _⟩ => ⟨S4x1x128, .f32⟩
  | .hbm, ⟨79, _⟩ => ⟨S4x1x128, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S128, .f32⟩
  | .hbm, ⟨84, _⟩ => ⟨S_, .f32⟩
  | .hbm, ⟨85, _⟩ => ⟨S128, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S128, .f32⟩
  | .hbm, ⟨91, _⟩ => ⟨S4096, .f32⟩
  | .hbm, ⟨92, _⟩ => ⟨S4096x1, .f32⟩
  | .hbm, ⟨93, _⟩ => ⟨S1x128, .f32⟩
  | .hbm, ⟨94, _⟩ => ⟨S4096x128, .f32⟩
  | .hbm, ⟨95, _⟩ => ⟨S4096x128, .f32⟩
  | .hbm, ⟨96, _⟩ => ⟨S4096x128, .f32⟩
  | .hbm, ⟨97, _⟩ => ⟨S4096x128, .f32⟩
  | .hbm, ⟨98, _⟩ => ⟨S4096x128, .f32⟩
  | .hbm, ⟨99, _⟩ => ⟨S1x2048, .f32⟩
  | .hbm, ⟨100, _⟩ => ⟨S8192x2048, .bf16⟩
  | .hbm, ⟨101, _⟩ => ⟨S2x16x4x256x512, .bf16⟩
  | .local _ .vmem, ⟨0, _⟩ => ⟨S256x6144, .bf16⟩
  | .local _ .vmem, ⟨1, _⟩ => ⟨S256x6144, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S4x256x256, .f32⟩
  | .local _ .vmem, ⟨7, _⟩ => ⟨S4x256x1, .f32⟩
  | .local _ .vmem, ⟨8, _⟩ => ⟨S4x256x1, .f32⟩
  | .local _ .vmem, ⟨9, _⟩ => ⟨S4x1x128, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S1x1x4x256x512, .bf16⟩
  | .local _ .vmem, ⟨14, _⟩ => ⟨S1x1x4x256x512, .bf16⟩
  | .local _ .vmem, ⟨15, _⟩ => ⟨S4x256x512, .f32⟩
  | _, _ => ⟨S2x4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_cst_7 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_8 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84_0 : Ref sig .tc := ⟨.hbm, 100, rfl⟩
abbrev main_v84_1 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttFwd.lean ====
abbrev S2x4096x3072 : Shape := ⟨3, ![2, 4096, 3072]⟩
abbrev S16x320 : Shape := ⟨2, ![16, 320]⟩
abbrev S8192x3072 : Shape := ⟨2, ![8192, 3072]⟩
abbrev S16x1x320 : Shape := ⟨3, ![16, 1, 320]⟩
abbrev S8x768x512 : Shape := ⟨3, ![8, 768, 512]⟩
abbrev S1x1x320 : Shape := ⟨3, ![1, 1, 320]⟩
abbrev S1x768x256 : Shape := ⟨3, ![1, 768, 256]⟩
abbrev S1x320 : Shape := ⟨2, ![1, 320]⟩
abbrev S8x320 : Shape := ⟨2, ![8, 320]⟩
abbrev S320x1024 : Shape := ⟨2, ![320, 1024]⟩
abbrev S8x1024 : Shape := ⟨2, ![8, 1024]⟩
abbrev S16x1024 : Shape := ⟨2, ![16, 1024]⟩
abbrev S32x1024 : Shape := ⟨2, ![32, 1024]⟩
abbrev S64x1024 : Shape := ⟨2, ![64, 1024]⟩
abbrev S128x1024 : Shape := ⟨2, ![128, 1024]⟩
abbrev S256x1024 : Shape := ⟨2, ![256, 1024]⟩
abbrev S256x768 : Shape := ⟨2, ![256, 768]⟩
abbrev S768x256 : Shape := ⟨2, ![768, 256]⟩
abbrev S8192x1024 : Shape := ⟨2, ![8192, 1024]⟩
abbrev S8x8x8192 : Shape := ⟨3, ![8, 8, 8192]⟩
abbrev S256x128 : Shape := ⟨2, ![256, 128]⟩
abbrev S1x768x512 : Shape := ⟨3, ![1, 768, 512]⟩
abbrev S1x8x256 : Shape := ⟨3, ![1, 8, 256]⟩
abbrev S3x256x512 : Shape := ⟨3, ![3, 256, 512]⟩
abbrev S512x128 : Shape := ⟨2, ![512, 128]⟩
abbrev S1x512 : Shape := ⟨2, ![1, 512]⟩
abbrev S256x512 : Shape := ⟨2, ![256, 512]⟩
abbrev S1x256x512 : Shape := ⟨3, ![1, 256, 512]⟩
abbrev S512 : Shape := ⟨1, ![512]⟩
abbrev S128x512 : Shape := ⟨2, ![128, 512]⟩
abbrev S128x256 : Shape := ⟨2, ![128, 256]⟩
abbrev S8x256 : Shape := ⟨2, ![8, 256]⟩
abbrev S1x256 : Shape := ⟨2, ![1, 256]⟩

abbrev nBuf : Space → Nat
  | .hbm => 8
  | .vmem => 25
  | .smem => 0
  | _ => 0

abbrev bufTy : (tb : Table) → Fin (tcTables nBuf tb) → BufTy
  | .hbm, ⟨0, _⟩ => ⟨S2x4096x3072, .f32⟩
  | .hbm, ⟨1, _⟩ => ⟨S16x320, .f32⟩
  | .hbm, ⟨2, _⟩ => ⟨S8192x3072, .f32⟩
  | .hbm, ⟨3, _⟩ => ⟨S8192x3072, .bf16⟩
  | .hbm, ⟨4, _⟩ => ⟨S16x1x320, .f32⟩
  | .hbm, ⟨5, _⟩ => ⟨S8x768x512, .f32⟩
  | .hbm, ⟨6, _⟩ => ⟨S8192x1024, .bf16⟩
  | .hbm, ⟨7, _⟩ => ⟨S8x8x8192, .f32⟩
  | .local _ .vmem, ⟨0, _⟩ => ⟨S1x1x320, .f32⟩
  | .local _ .vmem, ⟨1, _⟩ => ⟨S1x1x320, .f32⟩
  | .local _ .vmem, ⟨2, _⟩ => ⟨S1x768x256, .f32⟩
  | .local _ .vmem, ⟨3, _⟩ => ⟨S1x768x256, .f32⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S1x768x512, .f32⟩
  | .local _ .vmem, ⟨19, _⟩ => ⟨S1x768x512, .f32⟩
  | .local _ .vmem, ⟨20, _⟩ => ⟨S256x128, .bf16⟩
  | .local _ .vmem, ⟨21, _⟩ => ⟨S256x128, .bf16⟩
  | .local _ .vmem, ⟨22, _⟩ => ⟨S1x8x256, .f32⟩
  | .local _ .vmem, ⟨23, _⟩ => ⟨S1x8x256, .f32⟩
  | .local _ .vmem, ⟨24, _⟩ => ⟨S3x256x512, .f32⟩
  | _, _ => ⟨S2x4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x1x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 2, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c2_i32 : BitVec 32 := 2#32
  let v1 : BitVec 32 := Scalar.subi arg2 c2_i32
  let c0_i32 : BitVec 32 := 0#32
  let v2 : BitVec 32 := Scalar.maxsi v1 c0_i32
  let v3 : BitVec 32 := Scalar.addi v0 v2
  let c8_i32 : BitVec 32 := 8#32
  let v4 : BitVec 32 := Scalar.addi c8_i32 arg0
  let c0_i32_0 : BitVec 32 := 0#32
  ![v3.toNat, v4.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c8_i32 : BitVec 32 := 8#32
  let v4 : BitVec 32 := Scalar.addi c8_i32 arg0
  let c0_i32_0 : BitVec 32 := 0#32
  ![v3.toNat, v4.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c8_i32 : BitVec 32 := 8#32
  let v4 : BitVec 32 := Scalar.addi c8_i32 arg0
  let c0_i32_1 : BitVec 32 := 0#32
  ![v3.toNat, v4.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c2_i32 : BitVec 32 := 2#32
  let v1 : BitVec 32 := Scalar.subi arg2 c2_i32
  let c0_i32 : BitVec 32 := 0#32
  let v2 : BitVec 32 := Scalar.maxsi v1 c0_i32
  let v3 : BitVec 32 := Scalar.addi v0 v2
  let c16_i32_0 : BitVec 32 := 16#32
  let v4 : BitVec 32 := Scalar.addi c16_i32_0 arg0
  let c0_i32_1 : BitVec 32 := 0#32
  ![v3.toNat, v4.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c16_i32_0 : BitVec 32 := 16#32
  let v4 : BitVec 32 := Scalar.addi c16_i32_0 arg0
  let c0_i32_1 : BitVec 32 := 0#32
  ![v3.toNat, v4.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c16_i32_1 : BitVec 32 := 16#32
  let v4 : BitVec 32 := Scalar.addi c16_i32_1 arg0
  let c0_i32_2 : BitVec 32 := 0#32
  ![v3.toNat, v4.toNat]

def cc1_transform_7 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  let c0_i32_0 : BitVec 32 := 0#32
  ![arg0.toNat, c0_i32.toNat, v1.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S256x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S256x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev stage1_6 : Fin 2 → Memref sig .tc .vmem S256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

abbrev stage1_7 : Fin 2 → Memref sig .tc .vmem S1x768x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false, false]

abbrev stage1_8 : Fin 2 → Memref sig .tc .vmem S256x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, true]

abbrev stage1_9 : Fin 2 → Memref sig .tc .vmem S1x8x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]
-- ==== SquareGrad.lean ====
abbrev S8192x4096 : Shape := ⟨2, ![8192, 4096]⟩
abbrev S8192x1024 : Shape := ⟨2, ![8192, 1024]⟩
abbrev S_ : Shape := ⟨0, ![]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S8192x4096, .f32⟩
  | .hbm, ⟨4, _⟩ => ⟨S8192x4096, .f32⟩
  | .hbm, ⟨5, _⟩ => ⟨S8192x4096, .bf16⟩
  | .hbm, ⟨6, _⟩ => ⟨S8192x1024, .bf16⟩
  | .hbm, ⟨7, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SquareGradRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | .hbm, ⟨11, _⟩ => ⟨S4x1024x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Scalars.lean ====
module

public import Idealize.ShloMosaic.Lib.Pipeline.ValueKit
public import Idealize.ShloMosaic.Lib.Pointwise

@[expose] public section

noncomputable section

open Idealize.ShloMosaic

/-! Facts about single extended reals that the comparisons below share. -/

namespace Cert.Scalars

/-- An extended real added to itself is twice it. -/
theorem two_mul_ereal (x : EReal) : 2 * x = x + x := by
  have h : (2 : EReal) = 1 + 1 := by norm_num
  rw [h, EReal.right_distrib_of_nonneg zero_le_one zero_le_one, one_mul]

/-- The float word of 2 is the number 2. -/
theorem word_two : Ideal.ofBits .f32 0x40000000#32 = 2 := by
  rw [show (2 : EReal) = ((2 : ℝ) : EReal) by norm_cast]
  simp [Ideal.ofBits, Ideal.ieee, -EReal.coe_mul]; norm_num

/-- The float word of 1024 is the number 1024. -/
theorem word_1024 : Ideal.ofBits .f32 0x44800000#32 = ((1024 : ℝ) : EReal) := by
  simp [Ideal.ofBits, Ideal.ieee, -EReal.coe_mul]; norm_num

/-- The float word of minus one half. -/
theorem word_neg_half : Ideal.ofBits .f32 0xBF000000#32 = ((-(1 / 2) : ℝ) : EReal) := by
  simp [Ideal.ofBits, Ideal.ieee, -EReal.coe_mul]; norm_num

/-- The float word of one half. -/
theorem word_half : Ideal.ofBits .f32 0x3F000000#32 = ((1 / 2 : ℝ) : EReal) := by
  simp [Ideal.ofBits, Ideal.ieee, -EReal.coe_mul]; norm_num

/-- The float word of the 1024th part. -/
theorem word_1024th : Ideal.ofBits .f32 0x3A800000#32 = ((1 / 1024 : ℝ) : EReal) := by
  simp [Ideal.ofBits, Ideal.ieee, -EReal.coe_mul]; norm_num

/-- The float word of the 2048th part. -/
theorem word_2048th : Ideal.ofBits .f32 0x3A000000#32 = ((1 / 2048 : ℝ) : EReal) := by
  simp [Ideal.ofBits, Ideal.ieee, -EReal.coe_mul]; norm_num

/-- The small number added under the root is positive. -/
theorem word_eps : ∃ e : ℝ, 0 < e ∧ Ideal.ofBits .f32 0x358637BD#32 = (e : EReal) :=
  ⟨8796093 / 2 ^ 43, by norm_num, by simp [Ideal.ofBits, Ideal.ieee, -EReal.coe_mul]; norm_num⟩

/-- A division by 1024 is a product with a real. -/
theorem div_1024 (x : EReal) : Ideal.div x (Ideal.ofBits .f32 0x44800000#32) = x * ((1 / 1024 : ℝ) : EReal) := by
  rw [word_1024, Ideal.div_coe (by norm_num)]

/-- A square is not negative. -/
theorem mul_self_nonneg (x : EReal) : 0 ≤ x * x := by
  rcases le_total 0 x with h | h
  · exact EReal.mul_nonneg_iff.mpr (Or.inl ⟨h, h⟩)
  · exact EReal.mul_nonneg_iff.mpr (Or.inr ⟨h, h⟩)

/-- The inverse root of a positive number is a real, also at infinity, and divided by that number it is its own cube. -/
theorem rsqrt_facts (u : EReal) (h : 0 < u) :
    ∃ ρ : ℝ, 0 ≤ ρ ∧ Ideal.rsqrt u = ρ ∧ Ideal.div (Ideal.rsqrt u) u = ((ρ * ρ * ρ : ℝ) : EReal) := by
  induction u with
  | bot => exact absurd h (by simp)
  | top => exact ⟨0, le_refl _, by simp, by simp [Ideal.div]⟩
  | coe a =>
    have ha : 0 < a := by exact_mod_cast h
    have hq : Ideal.rsqrt (a : EReal) = (((Real.sqrt a)⁻¹ : ℝ) : EReal) := by
      rw [Ideal.rsqrt_coe, if_neg (not_lt.mpr ha.le), if_neg ha.ne']
    refine ⟨(Real.sqrt a)⁻¹, by positivity, hq, ?_⟩
    rw [hq, Ideal.div_coe ha.ne', ← EReal.coe_mul]
    congr 1
    rw [mul_assoc, ← mul_inv, Real.mul_self_sqrt ha.le, one_div]

/-- The mean of squares with the small number added is positive. -/
theorem mean_pos {n : ℕ} (x : Fin n → EReal) :
    0 < Ideal.div (∑ j, x j * x j) (Ideal.ofBits .f32 0x44800000#32) + Ideal.ofBits .f32 0x358637BD#32 := by
  obtain ⟨e, he, hw⟩ := word_eps
  rw [div_1024, hw]
  have h1 : 0 ≤ (∑ j, x j * x j) * ((1 / 1024 : ℝ) : EReal) :=
    EReal.mul_nonneg_iff.mpr (Or.inl ⟨Finset.sum_nonneg fun j _ => mul_self_nonneg _, by exact_mod_cast (by norm_num : (0 : ℝ) ≤ 1 / 1024)⟩)
  exact lt_of_lt_of_le (by exact_mod_cast he) (le_add_of_nonneg_left h1)

/-- A nonnegative real may be taken out of a sum. -/
theorem mul_sum_coe {ι : Type} (s : Finset ι) (ρ : ℝ) (h : 0 ≤ ρ) (f : ι → EReal) : (ρ : EReal) * ∑ j ∈ s, f j = ∑ j ∈ s, (ρ : EReal) * f j := by
  classical
  induction s using Finset.induction_on with
  | empty => simp
  | insert a s ha ih =>
    rw [Finset.sum_insert ha, Finset.sum_insert ha, EReal.left_distrib_of_nonneg_of_ne_top (by exact_mod_cast h) (EReal.coe_ne_top _), ih]

/-- The gradient of the normalisation at one element: the kernel's form, in the normalised value, is the derivative's form, in the
raw value. `D` is the incoming gradient times the gain, `x` the row, `d` the gradient added to it. -/
theorem norm_grad {n : ℕ} (x D : Fin n → EReal) (d : EReal) (l : Fin n) :
    let u := Ideal.div (∑ j, x j * x j) (Ideal.ofBits .f32 0x44800000#32) + Ideal.ofBits .f32 0x358637BD#32
    let c := Ideal.div ((∑ j, x j * D j) * (Ideal.ofBits .f32 0xBF000000#32 * Ideal.div (Ideal.rsqrt u) u)) (Ideal.ofBits .f32 0x44800000#32)
    d + Ideal.rsqrt u * (D l - x l * Ideal.rsqrt u * Ideal.div (∑ j, D j * (x j * Ideal.rsqrt u)) (Ideal.ofBits .f32 0x44800000#32))
      = d + D l * Ideal.rsqrt u + x l * c + c * x l := by
  intro u c
  obtain ⟨ρ, hρ, hr, hd⟩ := rsqrt_facts u (mean_pos x)
  have hS : (∑ j, D j * (x j * Ideal.rsqrt u)) = (ρ : EReal) * ∑ j, x j * D j := by
    rw [mul_sum_coe _ _ hρ, hr]
    exact Finset.sum_congr rfl fun j _ => by ac_rfl
  have hc : c = (∑ j, x j * D j) * ((-(1 / 2) * (ρ * ρ * ρ) * (1 / 1024) : ℝ) : EReal) := by
    show Ideal.div _ _ = _
    rw [div_1024, hd, word_neg_half, mul_assoc, ← EReal.coe_mul, ← EReal.coe_mul]
  rw [hS, hc, hr, div_1024, mul_comm (x l) (_ * _), add_assoc (_ + _) (_ * _ * _), ← two_mul_ereal, sub_eq_add_neg,
    EReal.left_distrib_of_nonneg_of_ne_top (by exact_mod_cast hρ) (EReal.coe_ne_top _), ← add_assoc, mul_comm (D l)]
  congr 1
  have h2 : (2 : EReal) = ((2 : ℝ) : EReal) := by norm_cast
  rw [h2]
  have e : ∀ a b : EReal, (ρ : EReal) * -(a * ρ * (ρ * b * ((1 / 1024 : ℝ) : EReal))) = b * a * ((-(ρ * ρ * ρ * (1 / 1024)) : ℝ) : EReal) := by
    intro a b
    rw [mul_neg, EReal.coe_neg, mul_neg]
    simp only [EReal.coe_mul]
    congr 1
    ac_rfl
  have e2 : ∀ a b : EReal, ((2 : ℝ) : EReal) * (b * ((-(1 / 2) * (ρ * ρ * ρ) * (1 / 1024) : ℝ) : EReal) * a) = b * a * ((2 * (-(1 / 2) * (ρ * ρ * ρ) * (1 / 1024)) : ℝ) : EReal) := by
    intro a b
    rw [EReal.coe_mul 2]
    ac_rfl
  rw [e, e2]
  congr 2
  ring

/-- A sum over 4096 in four runs of 1024. -/
theorem sum_slabs (f : Fin 4096 → EReal) : ∑ k, f k = (∑ k : Fin 1024, f ⟨k.val, by omega⟩) + (∑ k : Fin 1024, f ⟨1024 + k.val, by omega⟩)
    + (∑ k : Fin 1024, f ⟨2048 + k.val, by omega⟩) + ∑ k : Fin 1024, f ⟨3072 + k.val, by omega⟩ := by
  rw [← Fin.sum_mul_add_fin 4 1024 f, Fin.sum_univ_four]
  simp

/-- Half the mean square's derivative: the two factors of 2 cancel. -/
theorem half_square_grad (e : EReal) :
    Ideal.div (Ideal.ofBits .f32 0x3F000000#32) (Ideal.ofBits .f32 0x44800000#32) * (Ideal.ofBits .f32 0x40000000#32 * e)
      = e * Ideal.ofBits .f32 0x3A800000#32 := by
  have h2 : (2 : EReal) = ((2 : ℝ) : EReal) := by norm_cast
  rw [div_1024, word_half, word_two, h2, word_1024th, ← EReal.coe_mul, ← mul_assoc, ← EReal.coe_mul, mul_comm]
  congr 2; norm_num

/-- Half the sum of the rows' means is the 2048th part of the sum over the columns' sums. -/
theorem half_mean {n k : ℕ} (f : Fin n → Fin k → EReal) :
    Ideal.ofBits .f32 0x3F000000#32 * ∑ r, Ideal.div (∑ l, f r l) (Ideal.ofBits .f32 0x44800000#32)
      = Ideal.ofBits .f32 0x3A000000#32 * ∑ l, ∑ r, f r l := by
  have h : ∑ r, Ideal.div (∑ l, f r l) (Ideal.ofBits .f32 0x44800000#32) = ((1 / 1024 : ℝ) : EReal) * ∑ r, ∑ l, f r l := by
    rw [mul_sum_coe _ _ (by norm_num)]
    exact Finset.sum_congr rfl fun r _ => by rw [div_1024, mul_comm]
  rw [h, word_half, word_2048th, ← mul_assoc, ← EReal.coe_mul, Finset.sum_comm]
  congr 2; norm_num

end Cert.Scalars
end
-- ==== Proof.Act.lean ====
module

public import proofs.«01_k».proof.Proof.Gen.ActGradIdeal.Value
public import proofs.«01_k».proof.Proof.Gen.ActGradRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

namespace Cert.ActGradIdeal.Act

open Cert.ActGradIdeal Cert.ActGradIdeal.Gen

variable (m : (ℓ : Loc nD τ sig) → Buf (Elt Ideal) ℓ)

/-- The gradient of the squared rectifier, as the reference computes it, over the three arguments. -/
abbrev REF (z : FVec Ideal S8192x4096 .f32) (w : FVec Ideal S4096x1024 .f32) (ct : FVec Ideal S8192x1024 .f32) :
    FVec Ideal S8192x4096 .bf16 := Cert.ActGradRefIdeal.Read.val_main_v12 (F := Ideal) z w ct

open Cert.ActGradRefIdeal.Read in
/-- The reference at an index: twice the rectified value times the incoming product. -/
theorem ref_at (z : FVec Ideal S8192x4096 .f32) (w : FVec Ideal S4096x1024 .f32) (ct : FVec Ideal S8192x1024 .f32)
    (r : Fin 8192) (l : Fin 4096) :
    REF z w ct (ix2 r l) = (∑ k : Fin 1024, ct (ix2 r k) * w (ix2 l k)) * (2 * max (z (ix2 r l)) 0) := by
  pointwise [REF, val_main_v12, val_main_v11, val_main_v10, val_main_v9, val_main_v8, val_main_v7, val_main_v6,
    val_main_v2, val_main_v1, val_main_v0, val_main_call0_v0, val_main_cst_1, val_main_cst, val_main_call0_cst]
  split
  · rw [mul_left_comm, Cert.Scalars.two_mul_ereal, mul_comm (max _ _)]
  · rename_i h
    rw [max_eq_right (not_lt.mp h), mul_zero, mul_zero]

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- The incoming gradient as the kernel reads it. -/
theorem entry_ct (c : Dev nD) : V m c main_v4 = (truncf .bf16 (m ((c : Thread nD τ).loc main_arg2) : FVec Ideal S8192x1024 .f32) bitsLt_bf16_f32 : FVec Ideal S8192x1024 .bf16) := by
  unfold V; simp only [List.flatten_cons, List.flatten_nil, List.append_nil, List.cons_append, List.nil_append]
  after_results
/-- The weight as the kernel reads it: four slabs of 1024 rows. -/
theorem entry_w (c : Dev nD) : V m c main_v3 = shapeCast S4x1024x1024 (truncf .bf16 (m ((c : Thread nD τ).loc main_arg1) : FVec Ideal S4096x1024 .f32) bitsLt_bf16_f32 : FVec Ideal S4096x1024 .bf16) shapeCasts_S4096x1024_S4x1024x1024 := by
  unfold V; simp only [List.flatten_cons, List.flatten_nil, List.append_nil, List.cons_append, List.nil_append]
  after_results
  rfl
/-- The rectified values as the kernel reads them. -/
theorem entry_a (c : Dev nD) : V m c main_v1 = (truncf .bf16 (maximumf (m ((c : Thread nD τ).loc main_arg0) : FVec Ideal S8192x4096 .f32)
    (broadcastInDim S8192x4096 ![] bcast_S_S8192x4096 (constant S_ .f32 0x00000000#32))) bitsLt_bf16_f32 : FVec Ideal S8192x4096 .bf16) := by
  unfold V; simp only [List.flatten_cons, List.flatten_nil, List.append_nil, List.cons_append, List.nil_append]
  after_results
  rfl

/-- The block of the incoming gradient at point `t`: rows `512 t` onwards of the argument. -/
theorem in_ct (c : Dev nD) (t : Fin cfg0.N) (r : Fin 512) (k : Fin 1024) (h : t.val * 512 + r.val < 8192) :
    iblk m c 0 t (ix2 r k) = m ((c : Thread nD τ).loc main_arg2) (ix2 ⟨t.val * 512 + r.val, h⟩ k) := by
  show V m c main_v4 (((cfg0.win 0).blk t).view.emb (ix2 r k)) = _
  rw [entry_ct, show ((cfg0.win 0).blk t).view.emb (ix2 r k) = (ix2 ⟨t.val * 512 + r.val, h⟩ k : S8192x1024.Idx) by blk_ext [idx t]]
  rfl

/-- The weight's block: four slabs of 1024 rows of the argument. -/
theorem in_w (c : Dev nD) (t : Fin cfg0.N) (p : Fin 4) (r k : Fin 1024) (h : p.val * 1024 + r.val < 4096) :
    iblk m c 1 t (ix3 p r k) = m ((c : Thread nD τ).loc main_arg1) (ix2 ⟨p.val * 1024 + r.val, h⟩ k) := by
  show V m c main_v3 (((cfg0.win 1).blk t).view.emb (ix3 p r k)) = _
  rw [entry_w, show ((cfg0.win 1).blk t).view.emb (ix3 p r k) = (ix3 p r k : S4x1024x1024.Idx) by blk_ext [idx t]]
  pointwise

/-- The block of the rectified values at point `t`. -/
theorem in_a (c : Dev nD) (t : Fin cfg0.N) (r : Fin 512) (k : Fin 4096) (h : t.val * 512 + r.val < 8192) :
    iblk m c 2 t (ix2 r k) = max (show EReal from m ((c : Thread nD τ).loc main_arg0) (ix2 ⟨t.val * 512 + r.val, h⟩ k)) 0 := by
  show V m c main_v1 (((cfg0.win 2).blk t).view.emb (ix2 r k)) = _
  rw [entry_a, show ((cfg0.win 2).blk t).view.emb (ix2 r k) = (ix2 ⟨t.val * 512 + r.val, h⟩ k : S8192x4096.Idx) by blk_ext [idx t]]
  pointwise

/-- One block of the result against the reference: `x` is an index of the piece stored, `y` the one in the block. -/
theorem core (c : Dev nD) (t : Fin cfg0.N) (y : S512x4096.Idx) : out0_3 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  have ht : t.val < 16 := lt_of_lt_of_eq t.isLt N_0
  have hb : t.val * 512 + (y 0).val < 8192 := by have : (y 0).val < 512 := (y 0).isLt; omega
  refine Eq.trans ?_ ((congrArg _ (by blk_ext [idx t])).trans (ref_at _ _ _ ⟨t.val * 512 + (y 0).val, hb⟩ (y 1))).symm
  unfold out0_3
  canon_tiles x h
  all_goals
    open_payloads
    pointwise [Cert.Scalars.word_two]
    refine Ideal.mul_congr (Finset.sum_congr rfl fun k _ => Ideal.mul_congr ?_ ?_) (Ideal.mul_congr rfl ?_)
    · exact (in_ct m c t (x 0) k (by omega)).trans (by blk_ext)
    · exact (in_w m c t _ (x 1) k (by simp; omega)).trans (by blk_ext)
    · exact (in_a m c t (x 0) _ (by omega)).trans (congrArg (fun a : EReal => max a 0) (by blk_ext))

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact core m c t y

end Cert.ActGradIdeal.Act
end
-- ==== Proof.ActPair.lean ====
module

public import proofs.«01_k».proof.Defs
public import proofs.«01_k».proof.Proof.Act
public import proofs.«01_k».proof.Proof.Gen.ActGrad.Frame
public import proofs.«01_k».proof.Proof.Gen.ActGradRefIdeal.Run
public import Idealize.ShloMosaic.Lib.Claim

@[expose] public section

set_option maxRecDepth 16384

noncomputable section

open Idealize.ShloMosaic Idealize.SL.Sem

/-! The claims about the gradient of the squared rectifier. -/

namespace Cert.ActPair

/-- The kernel leaves its arguments as they were, over the float words. -/
theorem frame_kernel : Cert.quiescent_ActGrad := fun m ρ _ => Cert.ActGrad.Gen.frame m ρ
/-- The same, over the extended reals. -/
theorem frame_ideal : Cert.quiescent_ActGradIdeal := fun m ρ _ => Cert.ActGradIdeal.Gen.frame m ρ
/-- The reference leaves its arguments as they were. -/
theorem frame_reference : Cert.quiescent_ActGradRefIdeal := fun m ρ _ =>
  (θ_run Cert.ActGradRefIdeal.defs _ _).mono (fun r h => ⟨fun c => (h c).2, sem_eq_zero_of_no_sems (by decide) r.2⟩)
    (Cert.ActGradRefIdeal.Value.run (F := Ideal) m ρ)

/-- The kernel computes the reference's derivative. -/
theorem algebraic : Cert.algebraic_ActGradIdeal_ActGradRefIdeal := by
  pair_intro
  · run_from Cert.ActGradIdeal.Value.run_blocks m g
  · run_from Cert.ActGradRefIdeal.Value.run m' g'
    exact (Cert.ActGradIdeal.Act.final m c).symm

end Cert.ActPair
end
-- ==== Proof.Norm.lean ====
module

public import proofs.«01_k».proof.Proof.Gen.NormGradIdeal.Value
public import proofs.«01_k».proof.Proof.Gen.NormGradRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

namespace Cert.NormGradIdeal.Norm

open Cert.NormGradIdeal Cert.NormGradIdeal.Gen

variable (m : (ℓ : Loc nD τ sig) → Buf (Elt Ideal) ℓ)

/-- The gradient for the layer's input, as the reference computes it. -/
abbrev DH (h : FVec Ideal S8192x1024 .f32) (g : FVec Ideal S1024 .f32) (w : FVec Ideal S1024x4096 .f32) (dz : FVec Ideal S8192x4096 .f32)
    (dres : FVec Ideal S8192x1024 .f32) : FVec Ideal S8192x1024 .f32 := Cert.NormGradRefIdeal.Read.val_main_v38 (F := Ideal) h g w dz dres

/-- The gradient for the gain, as the reference computes it. -/
abbrev DG (h : FVec Ideal S8192x1024 .f32) (w : FVec Ideal S1024x4096 .f32) (dz : FVec Ideal S8192x4096 .f32) :
    FVec Ideal S1x1024 .f32 := Cert.NormGradRefIdeal.Read.val_main_v39 (F := Ideal) h w dz

/-- The gradient that reaches the normalised rows: the incoming one times the transposed weight. -/
def dy (w : FVec Ideal S1024x4096 .f32) (dz : FVec Ideal S8192x4096 .f32) (r : Fin 8192) (l : Fin 1024) : EReal :=
  ∑ k : Fin 4096, dz (ix2 r k) * w (ix2 l k)

/-- The mean square of a row with the small number added. -/
def ms (h : FVec Ideal S8192x1024 .f32) (r : Fin 8192) : EReal :=
  Ideal.div (∑ j : Fin 1024, h (ix2 r j) * h (ix2 r j)) (Ideal.ofBits .f32 0x44800000#32) + Ideal.ofBits .f32 0x358637BD#32

open Cert.NormGradRefIdeal.Read in
/-- The reference's input gradient at an index, in the form the kernel computes it. -/
theorem dh_at (h : FVec Ideal S8192x1024 .f32) (g : FVec Ideal S1024 .f32) (w : FVec Ideal S1024x4096 .f32) (dz : FVec Ideal S8192x4096 .f32)
    (dres : FVec Ideal S8192x1024 .f32) (r : Fin 8192) (l : Fin 1024) :
    DH h g w dz dres (ix2 r l) = dres (ix2 r l) + Ideal.rsqrt (ms h r) * (dy w dz r l * g (ix1 l) - h (ix2 r l) * Ideal.rsqrt (ms h r)
      * Ideal.div (∑ j : Fin 1024, dy w dz r j * g (ix1 j) * (h (ix2 r j) * Ideal.rsqrt (ms h r))) (Ideal.ofBits .f32 0x44800000#32)) := by
  refine Eq.trans ?_ (Cert.Scalars.norm_grad (fun j : Fin 1024 => h (ix2 r j)) (fun j => dy w dz r j * g (ix1 j)) (dres (ix2 r l)) l).symm
  pointwise [DH, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]
  rfl

/-- One row's term of the gain's gradient: the incoming gradient times the normalised value. -/
def term (h : FVec Ideal S8192x1024 .f32) (w : FVec Ideal S1024x4096 .f32) (dz : FVec Ideal S8192x4096 .f32) (l : Fin 1024) (r : Fin 8192) : EReal :=
  dy w dz r l * (h (ix2 r l) * Ideal.rsqrt (ms h r))

open Cert.NormGradRefIdeal.Read in
/-- The reference's gain gradient at an index. -/
theorem dg_at (h : FVec Ideal S8192x1024 .f32) (w : FVec Ideal S1024x4096 .f32) (dz : FVec Ideal S8192x4096 .f32) (z : Fin 1) (l : Fin 1024) :
    DG h w dz (ix2 z l) = ∑ r : Fin 8192, term h w dz l r := by
  pointwise [DG, val_main_v39, val_main_v23, val_main_cst_4, val_main_v20, val_main_v19, val_main_cst_3, val_main_v18, val_main_v17, val_main_v12, val_main_v11, val_main_v7, val_main_v6,
    val_main_v5, val_main_v4, val_main_v3, val_main_v2, val_main_v1, val_main_v0, val_main_cst, val_main_cst_0, val_main_cst_1]
  simp only [Fin.sum_univ_one]
  exact Finset.sum_congr rfl fun r _ => mul_comm _ _

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] ∧ win0_7.index t = ![t.val, 0] :=
  (by decide +kernel : ∀ t : Fin grid0.N, _)

/-- The incoming gradient as the kernel reads it. -/
theorem entry_dz (c : Dev nD) : V m c main_v3 = (truncf .bf16 (m ((c : Thread nD τ).loc main_arg3) : FVec Ideal S8192x4096 .f32) bitsLt_bf16_f32 : FVec Ideal S8192x4096 .bf16) := by
  show StableHlo.after hostOps0 _ (Proc.devRef .tc main_v3) = _
  after_results
/-- The weight as the kernel reads it: four slabs of 1024 columns. -/
theorem entry_w (c : Dev nD) : V m c main_v2 = transpose S4x1024x1024 [1, 0, 2] (shapeCast S1024x4x1024 (truncf .bf16 (m ((c : Thread nD τ).loc main_arg2) : FVec Ideal S1024x4096 .f32) bitsLt_bf16_f32 : FVec Ideal S1024x4096 .bf16) shapeCasts_S1024x4096_S1024x4x1024) transposes_S1024x4x1024_S4x1024x1024_1_0_2 := by
  show StableHlo.after hostOps0 _ (Proc.devRef .tc main_v2) = _
  after_results
  rfl
/-- The gain as the kernel reads it: one row. -/
theorem entry_g (c : Dev nD) : V m c main_v4 = shapeCast S1x1024 (m ((c : Thread nD τ).loc main_arg1) : FVec Ideal S1024 .f32) shapeCasts_S1024_S1x1024 := by
  show StableHlo.after hostOps0 _ (Proc.devRef .tc main_v4) = _
  after_results
  rfl

/-- The block of the incoming gradient at point `t`: rows `512 t` onwards of the argument. -/
theorem in_dz (c : Dev nD) (t : Fin cfg0.N) (r : Fin 512) (k : Fin 4096) (h : t.val * 512 + r.val < 8192) :
    iblk m c 0 t (ix2 r k) = m ((c : Thread nD τ).loc main_arg3) (ix2 ⟨t.val * 512 + r.val, h⟩ k) := by
  show V m c main_v3 (((cfg0.win 0).blk t).view.emb (ix2 r k)) = _
  rw [entry_dz, show ((cfg0.win 0).blk t).view.emb (ix2 r k) = (ix2 ⟨t.val * 512 + r.val, h⟩ k : S8192x4096.Idx) by blk_ext [idx t]]
  rfl

/-- The weight's block: slab `p` holds the columns `1024 p` onwards. -/
theorem in_w (c : Dev nD) (t : Fin cfg0.N) (p : Fin 4) (r k : Fin 1024) (h : p.val * 1024 + k.val < 4096) :
    iblk m c 1 t (ix3 p r k) = m ((c : Thread nD τ).loc main_arg2) (ix2 r ⟨p.val * 1024 + k.val, h⟩) := by
  show V m c main_v2 (((cfg0.win 1).blk t).view.emb (ix3 p r k)) = _
  rw [entry_w, show ((cfg0.win 1).blk t).view.emb (ix3 p r k) = (ix3 p r k : S4x1024x1024.Idx) by blk_ext [idx t]]
  pointwise

/-- The block of the layer's input at point `t`. -/
theorem in_h (c : Dev nD) (t : Fin cfg0.N) (r : Fin 512) (k : Fin 1024) (h : t.val * 512 + r.val < 8192) :
    iblk m c 2 t (ix2 r k) = m ((c : Thread nD τ).loc main_arg0) (ix2 ⟨t.val * 512 + r.val, h⟩ k) := by
  show V m c main_arg0 (((cfg0.win 2).blk t).view.emb (ix2 r k)) = _
  rw [V_main_arg0, show ((cfg0.win 2).blk t).view.emb (ix2 r k) = (ix2 ⟨t.val * 512 + r.val, h⟩ k : S8192x1024.Idx) by blk_ext [idx t]]

/-- The gain's block. -/
theorem in_g (c : Dev nD) (t : Fin cfg0.N) (z : Fin 1) (k : Fin 1024) :
    iblk m c 3 t (ix2 z k) = m ((c : Thread nD τ).loc main_arg1) (ix1 k) := by
  show V m c main_v4 (((cfg0.win 3).blk t).view.emb (ix2 z k)) = _
  rw [entry_g, show ((cfg0.win 3).blk t).view.emb (ix2 z k) = (ix2 z k : S1x1024.Idx) by blk_ext [idx t]]
  pointwise

/-- The block of the gradient that is added, at point `t`. -/
theorem in_dres (c : Dev nD) (t : Fin cfg0.N) (r : Fin 512) (k : Fin 1024) (h : t.val * 512 + r.val < 8192) :
    iblk m c 4 t (ix2 r k) = m ((c : Thread nD τ).loc main_arg4) (ix2 ⟨t.val * 512 + r.val, h⟩ k) := by
  show V m c main_arg4 (((cfg0.win 4).blk t).view.emb (ix2 r k)) = _
  rw [V_main_arg4, show ((cfg0.win 4).blk t).view.emb (ix2 r k) = (ix2 ⟨t.val * 512 + r.val, h⟩ k : S8192x1024.Idx) by blk_ext [idx t]]

/-- The product of a point's rows with the transposed weight, slab by slab. -/
abbrev prod (c : Dev nD) (t : Fin cfg0.N) : FVec Ideal S512x1024 .f32 :=
  k0_pay7 (View.ld (iblk m c 0 t) (Rect.unit ![0, 0] ![512, 1024] inb_S512x4096_S512x1024_0_0))
    (View.ld (iblk m c 1 t) (Rect.unit ![0, 0, 0] ![1, 1024, 1024] inb_S4x1024x1024_S1x1024x1024_0_0_0))
    (View.ld (iblk m c 0 t) (Rect.unit ![0, 1024] ![512, 1024] inb_S512x4096_S512x1024_0_1024))
    (View.ld (iblk m c 1 t) (Rect.unit ![1, 0, 0] ![1, 1024, 1024] inb_S4x1024x1024_S1x1024x1024_1_0_0))
    (View.ld (iblk m c 0 t) (Rect.unit ![0, 2048] ![512, 1024] inb_S512x4096_S512x1024_0_2048))
    (View.ld (iblk m c 1 t) (Rect.unit ![2, 0, 0] ![1, 1024, 1024] inb_S4x1024x1024_S1x1024x1024_2_0_0))
    (View.ld (iblk m c 0 t) (Rect.unit ![0, 3072] ![512, 1024] inb_S512x4096_S512x1024_0_3072))
    (View.ld (iblk m c 1 t) (Rect.unit ![3, 0, 0] ![1, 1024, 1024] inb_S4x1024x1024_S1x1024x1024_3_0_0))

theorem prod_at (c : Dev nD) (t : Fin cfg0.N) (a : Fin 512) (l : Fin 1024) (h : t.val * 512 + a.val < 8192) :
    prod m c t (ix2 a l) = dy (m ((c : Thread nD τ).loc main_arg2)) (m ((c : Thread nD τ).loc main_arg3)) ⟨t.val * 512 + a.val, h⟩ l := by
  unfold dy
  rw [Cert.Scalars.sum_slabs]
  pointwise [prod, k0_pay7]
  refine Ideal.add_congr (Ideal.add_congr (Ideal.add_congr ?_ ?_) ?_) ?_ <;> refine Finset.sum_congr rfl fun k _ => Ideal.mul_congr ?_ ?_
  all_goals first
    | exact in_dz m c t a _ h
    | exact (in_w m c t _ l k (by simp; omega)).trans (by blk_ext)

/-- The block of the input gradient, over the product of the point's rows. -/
theorem pay5_at (v : FVec Ideal S512x1024 .f32) (x : FVec Ideal S512x1024 .f32) (g : FVec Ideal S1x1024 .f32) (d : FVec Ideal S512x1024 .f32) (a : Fin 512) (l : Fin 1024) :
    let ρ := Ideal.rsqrt (Ideal.div (∑ j : Fin 1024, x (ix2 a j) * x (ix2 a j)) (Ideal.ofBits .f32 0x44800000#32) + Ideal.ofBits .f32 0x358637BD#32)
    k0_pay5 v x (k0_pay8 x) k0_pay9 g d (ix2 a l) = d (ix2 a l) + ρ * (v (ix2 a l) * g (ix2 0 l) - x (ix2 a l) * ρ
      * Ideal.div (∑ j : Fin 1024, v (ix2 a j) * g (ix2 0 j) * (x (ix2 a j) * ρ)) (Ideal.ofBits .f32 0x44800000#32)) := by
  pointwise [k0_pay5, k0_pay2, k0_pay1, k0_pay8, k0_pay9]

/-- The part of the gain's gradient a point computes. -/
theorem pay3_at (v : FVec Ideal S512x1024 .f32) (x : FVec Ideal S512x1024 .f32) (z : Fin 1) (l : Fin 1024) :
    k0_pay3 v x (k0_pay8 x) k0_pay9 (ix2 z l) = ∑ a : Fin 512, v (ix2 a l) * (x (ix2 a l)
      * Ideal.rsqrt (Ideal.div (∑ j : Fin 1024, x (ix2 a j) * x (ix2 a j)) (Ideal.ofBits .f32 0x44800000#32) + Ideal.ofBits .f32 0x358637BD#32)) := by
  pointwise [k0_pay3, k0_pay2, k0_pay1, k0_pay8, k0_pay9]

theorem pay4_at (v : FVec Ideal S512x1024 .f32) (x : FVec Ideal S512x1024 .f32) (o : FVec Ideal S1x1024 .f32) (j : S1x1024.Idx) :
    k0_pay4 v x (k0_pay8 x) k0_pay9 o j = o j + k0_pay3 v x (k0_pay8 x) k0_pay9 j := by
  pointwise [k0_pay4]

/-- One block of the input gradient against the reference. -/
theorem core (c : Dev nD) (t : Fin cfg0.N) (a : Fin 512) (l : Fin 1024) (h : t.val * 512 + a.val < 8192) :
    k0_pay5 (prod m c t) (iblk m c 2 t) (k0_pay8 (iblk m c 2 t)) k0_pay9 (iblk m c 3 t) (iblk m c 4 t) (ix2 a l)
    = DH (m ((c : Thread nD τ).loc main_arg0)) (m ((c : Thread nD τ).loc main_arg1)) (m ((c : Thread nD τ).loc main_arg2)) (m ((c : Thread nD τ).loc main_arg3)) (m ((c : Thread nD τ).loc main_arg4))
      (ix2 ⟨t.val * 512 + a.val, h⟩ l) := by
  rw [dh_at, pay5_at]
  simp only [prod_at m c t _ _ h, in_h m c t _ _ h, in_g, in_dres m c t _ _ h]
  rfl

/-- One point's part of the gain's gradient against the reference's sum. -/
theorem part (c : Dev nD) (t : Fin cfg0.N) (z : Fin 1) (l : Fin 1024) :
    k0_pay3 (prod m c t) (iblk m c 2 t) (k0_pay8 (iblk m c 2 t)) k0_pay9 (ix2 z l)
    = ∑ a : Fin 512, term (m ((c : Thread nD τ).loc main_arg0)) (m ((c : Thread nD τ).loc main_arg2)) (m ((c : Thread nD τ).loc main_arg3)) l
      ⟨t.val * 512 + a.val, by have := lt_of_lt_of_eq t.isLt N_0; omega⟩ := by
  rw [pay3_at]
  refine Finset.sum_congr rfl fun a _ => ?_
  have h : t.val * 512 + a.val < 8192 := by have := lt_of_lt_of_eq t.isLt N_0; omega
  simp only [prod_at m c t _ _ h, in_h m c t _ _ h]
  rfl

/-- Every point leaves its block of the input gradient. -/
theorem outs5 (c : Dev nD) (t : Fin cfg0.N) : (outsAt0 m c t.val t.isLt).1
    = k0_pay5 (prod m c t) (iblk m c 2 t) (k0_pay8 (iblk m c 2 t)) k0_pay9 (iblk m c 3 t) (iblk m c 4 t) := by
  by_cases h : t.val % 16 = 0
  · rw [outsAt0_A m c t h (by have := lt_of_lt_of_eq t.isLt N_0; omega)]; funext y; frame_out; rfl
  · rw [outsAt0_B m c t h (by omega)]; funext y; frame_out; rfl

/-- The narrow copy of the same block. -/
theorem outs7 (c : Dev nD) (t : Fin cfg0.N) : (outsAt0 m c t.val t.isLt).2.2
    = k0_pay6 (prod m c t) (iblk m c 2 t) (k0_pay8 (iblk m c 2 t)) k0_pay9 (iblk m c 3 t) (iblk m c 4 t) := by
  by_cases h : t.val % 16 = 0
  · rw [outsAt0_A m c t h (by have := lt_of_lt_of_eq t.isLt N_0; omega)]; funext y; frame_out; rfl
  · rw [outsAt0_B m c t h (by omega)]; funext y; frame_out; rfl

theorem final5 (c : Dev nD) : (dats m 0 c).arrAt 5 (cfgs 0).N
    = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have hb : t.val * 512 + (y 0).val < 8192 := by have := lt_of_lt_of_eq t.isLt N_0; have : (y 0).val < 512 := (y 0).isLt; omega
  blk_simp
  rw [after0_5, outs5]
  exact (congrArg _ (by blk_ext)).trans ((core m c t (y 0) (y 1) hb).trans (congrArg _ (by blk_ext [idx t])))

theorem final7 (c : Dev nD) : (dats m 0 c).arrAt 7 (cfgs 0).N
    = Cert.NormGradRefIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  have hb : t.val * 512 + (y 0).val < 8192 := by have := lt_of_lt_of_eq t.isLt N_0; have : (y 0).val < 512 := (y 0).isLt; omega
  blk_simp
  rw [after0_7, outs7]
  refine Eq.trans ?_ ((core m c t (y 0) (y 1) hb).trans (congrArg _ (by blk_ext [idx t])))
  pointwise [k0_pay6]

theorem final6 (c : Dev nD) : (dats m 0 c).arrAt 6 (cfgs 0).N
    = DG (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.1) 16 (fun _ => 0)
    (fun p j => k0_pay3 (prod m c p) (iblk m c 2 p) (k0_pay8 (iblk m c 2 p)) k0_pay9 j)
    (fun t h j => by rw [outsAt0_A m c t h (by have := lt_of_lt_of_eq t.isLt N_0; omega)]; frame_out; rw [zero_add]; rfl)
    (fun t h j => by rw [outsAt0_B m c t h (by omega)]; frame_out; exact pay4_at _ _ _ _)
    (le_of_eq N_0) t0_15 rfl j, zero_add]
  obtain ⟨z, l, rfl⟩ : ∃ (z : Fin 1) (l : Fin 1024), j = ix2 z l := ⟨j 0, j 1, by blk_ext⟩
  rw [dg_at]
  refine (Fin.sum_fin_congr fun p => part m c p z l).trans ?_
  exact Fin.sum_mul_add_congr fun s k hl => rfl

end Cert.NormGradIdeal.Norm
end
-- ==== Proof.NormPair.lean ====
module

public import proofs.«01_k».proof.Defs
public import proofs.«01_k».proof.Proof.Norm
public import proofs.«01_k».proof.Proof.Gen.NormGrad.Frame
public import proofs.«01_k».proof.Proof.Gen.NormGradRefIdeal.Run
public import Idealize.ShloMosaic.Lib.Claim

@[expose] public section

set_option maxRecDepth 16384

noncomputable section

open Idealize.ShloMosaic Idealize.SL.Sem

/-! The claims about the gradient of the normalisation in front of the last layer's first product. -/

namespace Cert.NormPair

/-- The kernel leaves its arguments as they were, over the float words. -/
theorem frame_kernel : Cert.quiescent_NormGrad := fun m ρ _ => Cert.NormGrad.Gen.frame m ρ
/-- The same, over the extended reals. -/
theorem frame_ideal : Cert.quiescent_NormGradIdeal := fun m ρ _ => Cert.NormGradIdeal.Gen.frame m ρ
/-- The reference leaves its arguments as they were. -/
theorem frame_reference : Cert.quiescent_NormGradRefIdeal := fun m ρ _ =>
  (θ_run Cert.NormGradRefIdeal.defs _ _).mono (fun r h => ⟨fun c => (h c).2.2.2, sem_eq_zero_of_no_sems (by decide) r.2⟩)
    (Cert.NormGradRefIdeal.Value.run (F := Ideal) m ρ)

/-- The kernel computes the reference's derivative. -/
theorem algebraic : Cert.algebraic_NormGradIdeal_NormGradRefIdeal := by
  pair_intro
  · run_from Cert.NormGradIdeal.Value.run_blocks m g
  · run_from Cert.NormGradRefIdeal.Value.run m' g'
    all_goals obtain ⟨h0, h1, h2, h3, h4⟩ := hagree c
    · rw [Cert.NormGradRefIdeal.Read.val_main_v38_eq, h0, h1, h2, h3, h4]; exact (Cert.NormGradIdeal.Norm.final5 m c).symm
    · exact (Cert.NormGradIdeal.Norm.final6 m c).symm
    · rw [Cert.NormGradRefIdeal.Read.val_main_v40_eq, h0, h1, h2, h3, h4]; exact (Cert.NormGradIdeal.Norm.final7 m c).symm

end Cert.NormPair
end
-- ==== Proof.Loss.lean ====
module

public import proofs.«01_k».proof.Proof.Gen.LossHeadIdeal.Value
public import proofs.«01_k».proof.Proof.Gen.LossHeadRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

namespace Cert.LossHeadIdeal.Loss

open Cert.LossHeadIdeal Cert.LossHeadIdeal.Gen

variable (m : (ℓ : Loc nD τ sig) → Buf (Elt Ideal) ℓ)

/-- The five arguments the comparison reads: rectifier input, weight, residual, gain and target. -/
structure Args where
  z : FVec Ideal S8192x4096 .f32
  w : FVec Ideal S4096x1024 .f32
  h : FVec Ideal S8192x1024 .f32
  g : FVec Ideal S1024 .f32
  y : FVec Ideal S8192x1024 .f32

/-- The last layer's output: the residual plus the product of the squared rectified values with the weight. -/
def Args.out (x : Args) (r : Fin 8192) (l : Fin 1024) : EReal :=
  x.h (ix2 r l) + ∑ k : Fin 4096, max (x.z (ix2 r k)) 0 * max (x.z (ix2 r k)) 0 * x.w (ix2 k l)

/-- The inverse root mean square of a row of the output. -/
def Args.inv (x : Args) (r : Fin 8192) : EReal :=
  Ideal.rsqrt (Ideal.div (∑ j : Fin 1024, x.out r j * x.out r j) (Ideal.ofBits .f32 0x44800000#32) + Ideal.ofBits .f32 0x358637BD#32)

/-- The error of the normalised output against the target. -/
def Args.err (x : Args) (r : Fin 8192) (l : Fin 1024) : EReal := x.out r l * x.inv r * x.g (ix1 l) - x.y (ix2 r l)

/-- The gradient of the loss for the normalised output. -/
def Args.dout (x : Args) (r : Fin 8192) (l : Fin 1024) : EReal := x.err r l * Ideal.ofBits .f32 0x3A800000#32

/-- The gradient for the output of the last layer. -/
def Args.dh (x : Args) (r : Fin 8192) (l : Fin 1024) : EReal :=
  x.inv r * (x.dout r l * x.g (ix1 l) - x.out r l * x.inv r
    * Ideal.div (∑ j : Fin 1024, x.dout r j * x.g (ix1 j) * (x.out r j * x.inv r)) (Ideal.ofBits .f32 0x44800000#32))

open Cert.LossHeadRefIdeal.Read in
theorem err_at (x : Args) (r : Fin 8192) (l : Fin 1024) : val_main_v20 (F := Ideal) x.z x.w x.h x.g x.y (ix2 r l) = x.err r l := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_call0_v0, val_main_call0_cst]
  rfl

open Cert.LossHeadRefIdeal.Read in
theorem dout_at (x : Args) (r : Fin 8192) (l : Fin 1024) : val_main_v35 (F := Ideal) x.z x.w x.h x.g x.y (ix2 r l) = x.dout r l := by
  pointwise [val_main_v35, val_main_v34, val_main_v33, val_main_v32, val_main_v31, val_main_v30, val_main_v23, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_call0_v0, val_main_call0_cst]
  rw [err_at]
  exact Cert.Scalars.half_square_grad _

open Cert.LossHeadRefIdeal.Read in
theorem dh_at (x : Args) (r : Fin 8192) (l : Fin 1024) : val_main_v55 (F := Ideal) x.z x.w x.h x.g x.y (ix2 r l) = x.dh r l := by
  pointwise [val_main_v55, val_main_v54, val_main_v53, val_main_v52, val_main_v51, val_main_v50, val_main_v49, val_main_v48, val_main_v47, val_main_v46, val_main_v45, val_main_v44, val_main_v43, val_main_v42, val_main_v40, val_main_v39, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_call0_v0, val_main_call0_cst]
  simp only [dout_at]
  simp only [Fin.sum_univ_one]
  have h := Cert.Scalars.norm_grad (fun j => x.out r j) (fun j => x.dout r j * x.g (ix1 j)) 0 l
  simp only [zero_add] at h
  exact h.symm

open Cert.LossHeadRefIdeal.Read in
theorem dg_at (x : Args) (e : Fin 1) (l : Fin 1024) : val_main_v56 (F := Ideal) x.z x.w x.h x.g x.y (ix2 e l) = ∑ r : Fin 8192, x.dout r l * (x.out r l * x.inv r) := by
  pointwise [val_main_v56, val_main_v41, val_main_v38, val_main_v37, val_main_v36, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_call0_v0, val_main_call0_cst]
  simp only [dout_at]
  simp only [Fin.sum_univ_one]
  exact Finset.sum_congr rfl fun r _ => mul_comm _ _

open Cert.LossHeadRefIdeal.Read in
theorem sq_at (x : Args) (e : Fin 1) (l : Fin 1024) : val_main_v57 (F := Ideal) x.z x.w x.h x.g x.y (ix2 e l) = ∑ r : Fin 8192, x.err r l * x.err r l := by
  pointwise [val_main_v57, val_main_v29, val_main_v21, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_call0_v0, val_main_call0_cst]
  simp only [err_at]

open Cert.LossHeadRefIdeal.Read in
theorem loss_at (x : Args) (e e' : Fin 1) : val_main_v58 (F := Ideal) x.z x.w x.h x.g x.y (ix2 e e') = Ideal.ofBits .f32 0x3A000000#32 * ∑ l : Fin 1024, ∑ r : Fin 8192, x.err r l * x.err r l := by
  pointwise [val_main_v58, val_main_v28, val_main_v27, val_main_v26, val_main_v25, val_main_v24, val_main_v21, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_call0_v0, val_main_call0_cst]
  simp only [err_at]
  exact Cert.Scalars.half_mean fun r l => x.err r l * x.err r l

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] ∧ win0_8.index t = ![0, 0] ∧ win0_9.index t = ![t.val, 0] :=
  (by decide +kernel : ∀ t : Fin grid0.N, _)

/-- The arguments as launched. -/
abbrev args (c : Dev nD) : Args where
  z := m ((c : Thread nD τ).loc main_arg0)
  w := m ((c : Thread nD τ).loc main_arg1)
  h := m ((c : Thread nD τ).loc main_arg2)
  g := m ((c : Thread nD τ).loc main_arg3)
  y := m ((c : Thread nD τ).loc main_arg4)

/-- The rectified values as the kernel reads them. -/
theorem entry_a (c : Dev nD) : V m c main_v1 = (truncf .bf16 (maximumf (m ((c : Thread nD τ).loc main_arg0) : FVec Ideal S8192x4096 .f32)
    (broadcastInDim S8192x4096 ![] bcast_S_S8192x4096 (constant S_ .f32 0x00000000#32))) bitsLt_bf16_f32 : FVec Ideal S8192x4096 .bf16) := by
  unfold V; simp only [List.flatten_cons, List.flatten_nil, List.append_nil, List.cons_append, List.nil_append]
  after_results
  rfl
/-- The weight as the kernel reads it: four slabs of 1024 rows. -/
theorem entry_w (c : Dev nD) : V m c main_v3 = shapeCast S4x1024x1024 (truncf .bf16 (m ((c : Thread nD τ).loc main_arg1) : FVec Ideal S4096x1024 .f32) bitsLt_bf16_f32 : FVec Ideal S4096x1024 .bf16) shapeCasts_S4096x1024_S4x1024x1024 := by
  unfold V; simp only [List.flatten_cons, List.flatten_nil, List.append_nil, List.cons_append, List.nil_append]
  after_results
  rfl
/-- The gain as the kernel reads it: one row. -/
theorem entry_g (c : Dev nD) : V m c main_v4 = shapeCast S1x1024 (m ((c : Thread nD τ).loc main_arg3) : FVec Ideal S1024 .f32) shapeCasts_S1024_S1x1024 := by
  unfold V; simp only [List.flatten_cons, List.flatten_nil, List.append_nil, List.cons_append, List.nil_append]
  after_results
  rfl

/-- The block of the rectified values at point `t`. -/
theorem in_a (c : Dev nD) (t : Fin cfg0.N) (r : Fin 512) (k : Fin 4096) (h : t.val * 512 + r.val < 8192) :
    iblk m c 0 t (ix2 r k) = max ((args m c).z (ix2 ⟨t.val * 512 + r.val, h⟩ k)) 0 := by
  show V m c main_v1 (((cfg0.win 0).blk t).view.emb (ix2 r k)) = _
  rw [entry_a, show ((cfg0.win 0).blk t).view.emb (ix2 r k) = (ix2 ⟨t.val * 512 + r.val, h⟩ k : S8192x4096.Idx) by blk_ext [idx t]]
  pointwise

/-- The weight's block: four slabs of 1024 rows of the argument. -/
theorem in_w (c : Dev nD) (t : Fin cfg0.N) (p : Fin 4) (r k : Fin 1024) (h : p.val * 1024 + r.val < 4096) :
    iblk m c 1 t (ix3 p r k) = (args m c).w (ix2 ⟨p.val * 1024 + r.val, h⟩ k) := by
  show V m c main_v3 (((cfg0.win 1).blk t).view.emb (ix3 p r k)) = _
  rw [entry_w, show ((cfg0.win 1).blk t).view.emb (ix3 p r k) = (ix3 p r k : S4x1024x1024.Idx) by blk_ext [idx t]]
  pointwise

/-- The residual's block at point `t`. -/
theorem in_h (c : Dev nD) (t : Fin cfg0.N) (r : Fin 512) (k : Fin 1024) (h : t.val * 512 + r.val < 8192) :
    iblk m c 2 t (ix2 r k) = (args m c).h (ix2 ⟨t.val * 512 + r.val, h⟩ k) := by
  show V m c main_arg2 (((cfg0.win 2).blk t).view.emb (ix2 r k)) = _
  rw [V_main_arg2, show ((cfg0.win 2).blk t).view.emb (ix2 r k) = (ix2 ⟨t.val * 512 + r.val, h⟩ k : S8192x1024.Idx) by blk_ext [idx t]]

/-- The target's block at point `t`. -/
theorem in_y (c : Dev nD) (t : Fin cfg0.N) (r : Fin 512) (k : Fin 1024) (h : t.val * 512 + r.val < 8192) :
    iblk m c 3 t (ix2 r k) = (args m c).y (ix2 ⟨t.val * 512 + r.val, h⟩ k) := by
  show V m c main_arg4 (((cfg0.win 3).blk t).view.emb (ix2 r k)) = _
  rw [V_main_arg4, show ((cfg0.win 3).blk t).view.emb (ix2 r k) = (ix2 ⟨t.val * 512 + r.val, h⟩ k : S8192x1024.Idx) by blk_ext [idx t]]

/-- The gain's block. -/
theorem in_g (c : Dev nD) (t : Fin cfg0.N) (z : Fin 1) (k : Fin 1024) : iblk m c 4 t (ix2 z k) = (args m c).g (ix1 k) := by
  show V m c main_v4 (((cfg0.win 4).blk t).view.emb (ix2 z k)) = _
  rw [entry_g, show ((cfg0.win 4).blk t).view.emb (ix2 z k) = (ix2 z k : S1x1024.Idx) by blk_ext [idx t]]
  pointwise

/-- A row of the output, as a point computes it. -/
theorem pay6_at (c : Dev nD) (t : Fin cfg0.N) (a : Fin 512) (l : Fin 1024) (h : t.val * 512 + a.val < 8192) :
    k0_pay6 (iblk m c 0 t) (iblk m c 1 t) (iblk m c 2 t) (ix2 a l) = (args m c).out ⟨t.val * 512 + a.val, h⟩ l := by
  pointwise [k0_pay6]
  simp only [in_a m c t _ _ h, in_h m c t _ _ h]
  refine (add_comm _ _).trans (congrArg _ (Finset.sum_congr rfl fun k _ => congrArg _ ?_))
  exact (in_w m c t _ _ _ (by simp; omega)).trans (by blk_ext)

theorem pay7_at (c : Dev nD) (t : Fin cfg0.N) (a : Fin 512) (e : Fin 1) (h : t.val * 512 + a.val < 8192) :
    k0_pay7 (iblk m c 0 t) (iblk m c 1 t) (iblk m c 2 t) (ix2 a e) = (args m c).inv ⟨t.val * 512 + a.val, h⟩ := by
  pointwise [k0_pay7]
  simp only [pay6_at m c t _ _ h]
  rfl

theorem pay8_at (c : Dev nD) (t : Fin cfg0.N) (a : Fin 512) (l : Fin 1024) (h : t.val * 512 + a.val < 8192) :
    k0_pay8 (iblk m c 0 t) (iblk m c 1 t) (iblk m c 2 t) (ix2 a l) = (args m c).out ⟨t.val * 512 + a.val, h⟩ l * (args m c).inv ⟨t.val * 512 + a.val, h⟩ := by
  pointwise [k0_pay8]
  rw [pay6_at m c t _ _ h, pay7_at m c t _ _ h]

theorem pay10_at (c : Dev nD) (t : Fin cfg0.N) (a : Fin 512) (l : Fin 1024) (h : t.val * 512 + a.val < 8192) :
    k0_pay10 (iblk m c 0 t) (iblk m c 1 t) (iblk m c 2 t) (iblk m c 4 t) (iblk m c 3 t) (ix2 a l) = (args m c).err ⟨t.val * 512 + a.val, h⟩ l := by
  pointwise [k0_pay10, k0_pay9]
  rw [pay8_at m c t _ _ h, in_g, in_y m c t _ _ h]
  rfl

theorem pay12_at (c : Dev nD) (t : Fin cfg0.N) (a : Fin 512) (l : Fin 1024) (h : t.val * 512 + a.val < 8192) :
    k0_pay12 (iblk m c 0 t) (iblk m c 1 t) (iblk m c 2 t) (iblk m c 4 t) (iblk m c 3 t) (ix2 a l) = (args m c).dout ⟨t.val * 512 + a.val, h⟩ l := by
  pointwise [k0_pay12]
  rw [pay10_at m c t _ _ h]
  rfl

/-- A block of the gradient for the output. -/
theorem pay3_at (c : Dev nD) (t : Fin cfg0.N) (a : Fin 512) (l : Fin 1024) (h : t.val * 512 + a.val < 8192) :
    k0_pay3 (k0_pay7 (iblk m c 0 t) (iblk m c 1 t) (iblk m c 2 t)) (k0_pay8 (iblk m c 0 t) (iblk m c 1 t) (iblk m c 2 t)) (k0_pay9 (iblk m c 4 t)) (k0_pay12 (iblk m c 0 t) (iblk m c 1 t) (iblk m c 2 t) (iblk m c 4 t) (iblk m c 3 t)) (ix2 a l) = (args m c).dh ⟨t.val * 512 + a.val, h⟩ l := by
  pointwise [k0_pay3, k0_pay9]
  simp only [pay7_at m c t _ _ h, pay8_at m c t _ _ h, pay12_at m c t _ _ h, in_g]
  rfl

/-- A point's part of the squared error's column sums. -/
theorem pay11_at (c : Dev nD) (t : Fin cfg0.N) (e : Fin 1) (l : Fin 1024) :
    k0_pay11 (iblk m c 0 t) (iblk m c 1 t) (iblk m c 2 t) (iblk m c 4 t) (iblk m c 3 t) (ix2 e l) = ∑ a : Fin 512, (fun r => (args m c).err r l * (args m c).err r l)
      ⟨t.val * 512 + a.val, by have := lt_of_lt_of_eq t.isLt N_0; omega⟩ := by
  pointwise [k0_pay11]
  refine Finset.sum_congr rfl fun a _ => ?_
  rw [pay10_at m c t _ _ (by have := lt_of_lt_of_eq t.isLt N_0; omega)]

/-- A point's part of the gain's gradient. -/
theorem pay13_at (c : Dev nD) (t : Fin cfg0.N) (e : Fin 1) (l : Fin 1024) :
    k0_pay13 (iblk m c 0 t) (iblk m c 1 t) (iblk m c 2 t) (iblk m c 4 t) (iblk m c 3 t) (ix2 e l) = ∑ a : Fin 512, (fun r => (args m c).dout r l * ((args m c).out r l * (args m c).inv r))
      ⟨t.val * 512 + a.val, by have := lt_of_lt_of_eq t.isLt N_0; omega⟩ := by
  pointwise [k0_pay13]
  refine Finset.sum_congr rfl fun a _ => ?_
  have h : t.val * 512 + a.val < 8192 := by have := lt_of_lt_of_eq t.isLt N_0; omega
  rw [pay12_at m c t _ _ h, pay8_at m c t _ _ h]

/-- Every point leaves its block of the gradient. -/
theorem outs5 (c : Dev nD) (t : Fin cfg0.N) : (outsAt0 m c t.val t.isLt).1
    = k0_pay3 (k0_pay7 (iblk m c 0 t) (iblk m c 1 t) (iblk m c 2 t)) (k0_pay8 (iblk m c 0 t) (iblk m c 1 t) (iblk m c 2 t)) (k0_pay9 (iblk m c 4 t)) (k0_pay12 (iblk m c 0 t) (iblk m c 1 t) (iblk m c 2 t) (iblk m c 4 t) (iblk m c 3 t)) := by
  have ht := lt_of_lt_of_eq t.isLt N_0
  rcases (by omega : t.val % 16 = 0 ∨ (¬t.val % 16 = 0 ∧ ¬t.val % 16 = 15) ∨ t.val % 16 = 15) with h | h | h
  · rw [outsAt0_A m c t h (by omega) (by omega)]; funext y; frame_out
  · rw [outsAt0_B m c t h.1 (by omega) h.2]; funext y; frame_out
  · rw [outsAt0_C m c t (by omega) (by omega) h]; funext y; frame_out

/-- The narrow copy of the same block. -/
theorem outs9 (c : Dev nD) (t : Fin cfg0.N) : (outsAt0 m c t.val t.isLt).2.2.2.2
    = k0_pay4 (k0_pay7 (iblk m c 0 t) (iblk m c 1 t) (iblk m c 2 t)) (k0_pay8 (iblk m c 0 t) (iblk m c 1 t) (iblk m c 2 t)) (k0_pay9 (iblk m c 4 t)) (k0_pay12 (iblk m c 0 t) (iblk m c 1 t) (iblk m c 2 t) (iblk m c 4 t) (iblk m c 3 t)) := by
  have ht := lt_of_lt_of_eq t.isLt N_0
  rcases (by omega : t.val % 16 = 0 ∨ (¬t.val % 16 = 0 ∧ ¬t.val % 16 = 15) ∨ t.val % 16 = 15) with h | h | h
  · rw [outsAt0_A m c t h (by omega) (by omega)]; funext y; frame_out
  · rw [outsAt0_B m c t h.1 (by omega) h.2]; funext y; frame_out
  · rw [outsAt0_C m c t (by omega) (by omega) h]; funext y; frame_out

/-- After the last point the gain's gradient is the sum of the points' parts. -/
theorem outs6 (c : Dev nD) (j : S1x1024.Idx) : (outsAt0 m c t0_15.val t0_15.isLt).2.1 j
    = ∑ t : Fin cfg0.N, k0_pay13 (iblk m c 0 t) (iblk m c 1 t) (iblk m c 2 t) (iblk m c 4 t) (iblk m c 3 t) j := by
  rw [Pipeline.eq_sum_fin_of_reset_step_apply_last (fun n h => (outsAt0 m c n h).2.1) 16 (fun _ => 0)
    (fun t j => k0_pay13 (iblk m c 0 t) (iblk m c 1 t) (iblk m c 2 t) (iblk m c 4 t) (iblk m c 3 t) j)
    (fun t h j => by have ht := lt_of_lt_of_eq t.isLt N_0; rw [outsAt0_A m c t h (by omega) (by omega)]; frame_out; rw [zero_add])
    (fun t h j => by
      have ht := lt_of_lt_of_eq t.isLt N_0
      by_cases h2 : t.val % 16 = 15
      · rw [outsAt0_C m c t h (by omega) h2]; frame_out; pointwise [k0_pay2]
      · rw [outsAt0_B m c t h (by omega) h2]; frame_out; pointwise [k0_pay2])
    (le_of_eq N_0) t0_15 rfl j, zero_add]

/-- After the last point the squared error's column sums are the sum of the points' parts. -/
theorem outs7 (c : Dev nD) (j : S1x1024.Idx) : (outsAt0 m c t0_15.val t0_15.isLt).2.2.1 j
    = ∑ t : Fin cfg0.N, k0_pay11 (iblk m c 0 t) (iblk m c 1 t) (iblk m c 2 t) (iblk m c 4 t) (iblk m c 3 t) j := by
  rw [Pipeline.eq_sum_fin_of_reset_step_apply_last (fun n h => (outsAt0 m c n h).2.2.1) 16 (fun _ => 0)
    (fun t j => k0_pay11 (iblk m c 0 t) (iblk m c 1 t) (iblk m c 2 t) (iblk m c 4 t) (iblk m c 3 t) j)
    (fun t h j => by have ht := lt_of_lt_of_eq t.isLt N_0; rw [outsAt0_A m c t h (by omega) (by omega)]; frame_out; rw [zero_add])
    (fun t h j => by
      have ht := lt_of_lt_of_eq t.isLt N_0
      by_cases h2 : t.val % 16 = 15
      · rw [outsAt0_C m c t h (by omega) h2]; frame_out; pointwise [k0_pay1]
      · rw [outsAt0_B m c t h (by omega) h2]; frame_out; pointwise [k0_pay1])
    (le_of_eq N_0) t0_15 rfl j, zero_add]

theorem final5 (c : Dev nD) : (dats m 0 c).arrAt 5 (cfgs 0).N
    = Cert.LossHeadRefIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have hb : t.val * 512 + (y 0).val < 8192 := by have := lt_of_lt_of_eq t.isLt N_0; have : (y 0).val < 512 := (y 0).isLt; omega
  blk_simp
  rw [after0_5, outs5]
  refine Eq.trans ?_ ((pay3_at m c t (y 0) (y 1) hb).trans ((dh_at (args m c) _ _).symm.trans (congrArg _ (by blk_ext [idx t]))))
  exact congrArg _ (by blk_ext)

theorem final9 (c : Dev nD) : (dats m 0 c).arrAt 9 (cfgs 0).N
    = Cert.LossHeadRefIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  have hb : t.val * 512 + (y 0).val < 8192 := by have := lt_of_lt_of_eq t.isLt N_0; have : (y 0).val < 512 := (y 0).isLt; omega
  blk_simp
  rw [after0_9, outs9]
  refine Eq.trans ?_ ((pay3_at m c t (y 0) (y 1) hb).trans ((dh_at (args m c) _ _).symm.trans (congrArg _ (by blk_ext [idx t]))))
  pointwise [k0_pay4]

theorem final6 (c : Dev nD) : (dats m 0 c).arrAt 6 (cfgs 0).N
    = Cert.LossHeadRefIdeal.Read.val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 6 t0_15 (by decide +kernel) _ fun j => ?_
  blk_simp
  obtain ⟨e, l, rfl⟩ : ∃ (e : Fin 1) (l : Fin 1024), j = ix2 e l := ⟨j 0, j 1, by blk_ext⟩
  rw [after0_6]
  refine ((outs6 m c _).trans ((Fin.sum_fin_congr fun t => pay13_at m c t e l).trans ?_)).trans (dg_at (args m c) e l).symm
  exact Fin.sum_mul_add_congr fun s k hl => rfl

theorem final7 (c : Dev nD) : (dats m 0 c).arrAt 7 (cfgs 0).N
    = Cert.LossHeadRefIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 t0_15 (by decide +kernel) _ fun j => ?_
  blk_simp
  obtain ⟨e, l, rfl⟩ : ∃ (e : Fin 1) (l : Fin 1024), j = ix2 e l := ⟨j 0, j 1, by blk_ext⟩
  rw [after0_7]
  refine ((outs7 m c _).trans ((Fin.sum_fin_congr fun t => pay11_at m c t e l).trans ?_)).trans (sq_at (args m c) e l).symm
  exact Fin.sum_mul_add_congr fun s k hl => rfl

theorem final8 (c : Dev nD) : (dats m 0 c).arrAt 8 (cfgs 0).N
    = Cert.LossHeadRefIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 t0_15 (by decide +kernel) _ fun j => ?_
  blk_simp
  obtain ⟨e, e', rfl⟩ : ∃ e e' : Fin 1, j = ix2 e e' := ⟨j 0, j 1, by blk_ext⟩
  rw [after0_8]
  have h : (outsAt0 m c t0_15.val t0_15.isLt).2.2.2.1 = k0_pay5 ((outsAt0 m c t0_15.val t0_15.isLt).2.2.1) := by
    rw [outsAt0_C m c t0_15 (by decide) (by decide) (by decide)]; funext y; frame_out
  rw [h]
  refine Eq.trans ?_ (loss_at (args m c) e e').symm
  pointwise [k0_pay5]
  refine congrArg _ (Finset.sum_congr rfl fun l _ => ?_)
  refine (outs7 m c _).trans ((Fin.sum_fin_congr fun t => pay11_at m c t 0 l).trans ?_)
  exact Fin.sum_mul_add_congr fun s k hl => rfl

end Cert.LossHeadIdeal.Loss
end
-- ==== Proof.LossPair.lean ====
module

public import proofs.«01_k».proof.Defs
public import proofs.«01_k».proof.Proof.Loss
public import proofs.«01_k».proof.Proof.Gen.LossHead.Frame
public import proofs.«01_k».proof.Proof.Gen.LossHeadRefIdeal.Run
public import Idealize.ShloMosaic.Lib.Claim

@[expose] public section

set_option maxRecDepth 16384

noncomputable section

open Idealize.ShloMosaic Idealize.SL.Sem

/-! The claims about the loss head: the last product of the forward pass with the loss and its gradient. -/

namespace Cert.LossPair

/-- The kernel leaves its arguments as they were, over the float words. -/
theorem frame_kernel : Cert.quiescent_LossHead := fun m ρ _ => Cert.LossHead.Gen.frame m ρ
/-- The same, over the extended reals. -/
theorem frame_ideal : Cert.quiescent_LossHeadIdeal := fun m ρ _ => Cert.LossHeadIdeal.Gen.frame m ρ
/-- The reference leaves its arguments as they were. -/
theorem frame_reference : Cert.quiescent_LossHeadRefIdeal := fun m ρ _ =>
  (θ_run Cert.LossHeadRefIdeal.defs _ _).mono (fun r h => ⟨fun c => (h c).2.2.2.2.2, sem_eq_zero_of_no_sems (by decide) r.2⟩)
    (Cert.LossHeadRefIdeal.Value.run (F := Ideal) m ρ)

/-- The kernel computes the reference's derivative. -/
theorem algebraic : Cert.algebraic_LossHeadIdeal_LossHeadRefIdeal := by
  pair_intro
  · run_from Cert.LossHeadIdeal.Value.run_blocks m g
  · refine (θ_run Cert.LossHeadRefIdeal.defs _ _).mono (fun r h c => ?_) (Cert.LossHeadRefIdeal.Value.run m' g')
    obtain ⟨h0, h1, h2, h3, h4⟩ := hagree c
    obtain ⟨r0, r1, r2, r3, r4, kept⟩ := h c
    refine ⟨r0.trans ?_, r1.trans ?_, r2.trans ?_, r3.trans ?_, r4.trans ?_, kept⟩
    · rw [Cert.LossHeadRefIdeal.Read.val_main_v55_eq, h0, h1, h2, h3, h4]; exact (Cert.LossHeadIdeal.Loss.final5 m c).symm
    · rw [Cert.LossHeadRefIdeal.Read.val_main_v56_eq, h0, h1, h2, h3, h4]; exact (Cert.LossHeadIdeal.Loss.final6 m c).symm
    · rw [Cert.LossHeadRefIdeal.Read.val_main_v57_eq, h0, h1, h2, h3, h4]; exact (Cert.LossHeadIdeal.Loss.final7 m c).symm
    · rw [Cert.LossHeadRefIdeal.Read.val_main_v58_eq, h0, h1, h2, h3, h4]; exact (Cert.LossHeadIdeal.Loss.final8 m c).symm
    · rw [Cert.LossHeadRefIdeal.Read.val_main_v59_eq, h0, h1, h2, h3, h4]; exact (Cert.LossHeadIdeal.Loss.final9 m c).symm

end Cert.LossPair
end
-- ==== Proof.Bias.lean ====
module

public import proofs.«01_k».proof.Proof.Gen.BiasGradIdeal.Value
public import proofs.«01_k».proof.Proof.Gen.BiasGradRefIdeal.Read
public import Idealize.ShloMosaic.Lib.Pipeline.ValueKit
public import Idealize.ShloMosaic.Lib.Pointwise
public import Idealize.ShloMosaic.Lib.Routing.OpsPair
public import proofs.«01_k».proof.Proof.Scalars

@[expose] public section

set_option maxRecDepth 16384

noncomputable section

open Idealize.ShloMosaic Idealize.ShloMosaic.TcCoe Idealize.SL.Sem

namespace Cert.BiasGradIdeal.Bias

open Cert.BiasGradIdeal Cert.BiasGradIdeal.Gen

/-- The sum along the diagonal that starts at lane `x`: row `j` is read `j` lanes further on. -/
def diag {R : Nat} (A : Fin R → Fin 1024 → EReal) (x : Fin 1024) : EReal := ∑ j : Fin R, A j (x + Fin.ofNat 1024 j.val)

/-- Folding the lower half of the rows, shifted by their number, on the upper half keeps the diagonals. -/
theorem diag_fold {n : Nat} (A : Fin (n + n) → Fin 1024 → EReal) (B : Fin n → Fin 1024 → EReal)
    (h : ∀ j x, B j x = A (Fin.castAdd n j) x + A (Fin.natAdd n j) (x + Fin.ofNat 1024 n)) (x : Fin 1024) : diag B x = diag A x := by
  unfold diag
  rw [Fin.sum_univ_add, ← Finset.sum_add_distrib]
  refine Finset.sum_congr rfl fun j _ => (h j _).trans (congrArg (fun y => A (Fin.castAdd n j) (x + Fin.ofNat 1024 j.val) + A (Fin.natAdd n j) y) ?_)
  refine Fin.ext ?_
  simp only [Fin.val_add, Fin.val_ofNat, Fin.val_natAdd]
  omega

/-- A head's rows: 256 lanes of zeros before its tile transposed. -/
abbrev rows (d : Vec Ideal S1x768x256 .f32) : FVec Ideal S256x1024 .f32 :=
  concatenate S256x1024 1 [⟨S256x256, broadcast S256x256 (Scalar.ofBits .f32 0x00000000#32)⟩, ⟨S256x768, transpose S256x768 [1, 0] (shapeCast S768x256 d shapeCasts_S1x768x256_S768x256) transposes_S768x256_p1_0_S256x768⟩] concatenates_S256x256_S256x768_S256x1024_d1

/-- The lower 128 of 256 rows, shifted by 128 lanes, on the upper 128. -/
abbrev fold128 (A : FVec Ideal S256x1024 .f32) : FVec Ideal S128x1024 .f32 :=
  addf (extractStridedSlice S128x1024 ![0, 0] A slices_S256x1024_o0_0_S128x1024)
    (dynamicRotate 1 896#32 none (extractStridedSlice S128x1024 ![128, 0] A slices_S256x1024_o128_0_S128x1024) rotates_S128x1024_d1)

theorem fold128_at (A : FVec Ideal S256x1024 .f32) (j : Fin 128) (x : Fin 1024) :
    fold128 A (ix2 j x) = A (ix2 ⟨j.val, by omega⟩ x) + A (ix2 ⟨128 + j.val, by omega⟩ (x + 128)) := by
  unfold fold128
  pointwise
  exact congrArg (fun y => A (ix2 ⟨j.val, by omega⟩ x) + A y) (by blk_ext [Fin.val_add])

/-- The lower 64 of 128 rows, shifted by 64 lanes, on the upper 64. -/
abbrev fold64 (A : FVec Ideal S128x1024 .f32) : FVec Ideal S64x1024 .f32 :=
  addf (extractStridedSlice S64x1024 ![0, 0] A slices_S128x1024_o0_0_S64x1024)
    (dynamicRotate 1 960#32 none (extractStridedSlice S64x1024 ![64, 0] A slices_S128x1024_o64_0_S64x1024) rotates_S64x1024_d1)

theorem fold64_at (A : FVec Ideal S128x1024 .f32) (j : Fin 64) (x : Fin 1024) :
    fold64 A (ix2 j x) = A (ix2 ⟨j.val, by omega⟩ x) + A (ix2 ⟨64 + j.val, by omega⟩ (x + 64)) := by
  unfold fold64
  pointwise
  exact congrArg (fun y => A (ix2 ⟨j.val, by omega⟩ x) + A y) (by blk_ext [Fin.val_add])

/-- The lower 32 of 64 rows, shifted by 32 lanes, on the upper 32. -/
abbrev fold32 (A : FVec Ideal S64x1024 .f32) : FVec Ideal S32x1024 .f32 :=
  addf (extractStridedSlice S32x1024 ![0, 0] A slices_S64x1024_o0_0_S32x1024)
    (dynamicRotate 1 992#32 none (extractStridedSlice S32x1024 ![32, 0] A slices_S64x1024_o32_0_S32x1024) rotates_S32x1024_d1)

theorem fold32_at (A : FVec Ideal S64x1024 .f32) (j : Fin 32) (x : Fin 1024) :
    fold32 A (ix2 j x) = A (ix2 ⟨j.val, by omega⟩ x) + A (ix2 ⟨32 + j.val, by omega⟩ (x + 32)) := by
  unfold fold32
  pointwise
  exact congrArg (fun y => A (ix2 ⟨j.val, by omega⟩ x) + A y) (by blk_ext [Fin.val_add])

/-- The lower 16 of 32 rows, shifted by 16 lanes, on the upper 16. -/
abbrev fold16 (A : FVec Ideal S32x1024 .f32) : FVec Ideal S16x1024 .f32 :=
  addf (extractStridedSlice S16x1024 ![0, 0] A slices_S32x1024_o0_0_S16x1024)
    (dynamicRotate 1 1008#32 none (extractStridedSlice S16x1024 ![16, 0] A slices_S32x1024_o16_0_S16x1024) rotates_S16x1024_d1)

theorem fold16_at (A : FVec Ideal S32x1024 .f32) (j : Fin 16) (x : Fin 1024) :
    fold16 A (ix2 j x) = A (ix2 ⟨j.val, by omega⟩ x) + A (ix2 ⟨16 + j.val, by omega⟩ (x + 16)) := by
  unfold fold16
  pointwise
  exact congrArg (fun y => A (ix2 ⟨j.val, by omega⟩ x) + A y) (by blk_ext [Fin.val_add])

/-- The lower 8 of 16 rows, shifted by 8 lanes, on the upper 8. -/
abbrev fold8 (A : FVec Ideal S16x1024 .f32) : FVec Ideal S8x1024 .f32 :=
  addf (extractStridedSlice S8x1024 ![0, 0] A slices_S16x1024_o0_0_S8x1024)
    (dynamicRotate 1 1016#32 none (extractStridedSlice S8x1024 ![8, 0] A slices_S16x1024_o8_0_S8x1024) rotates_S8x1024_d1)

theorem fold8_at (A : FVec Ideal S16x1024 .f32) (j : Fin 8) (x : Fin 1024) :
    fold8 A (ix2 j x) = A (ix2 ⟨j.val, by omega⟩ x) + A (ix2 ⟨8 + j.val, by omega⟩ (x + 8)) := by
  unfold fold8
  pointwise
  exact congrArg (fun y => A (ix2 ⟨j.val, by omega⟩ x) + A y) (by blk_ext [Fin.val_add])

theorem folds (d : Vec Ideal S1x768x256 .f32) : k0_pay2 (F := Ideal) d = fold8 (fold16 (fold32 (fold64 (fold128 (rows d))))) := rfl

/-- The folded rows have the diagonals of the rows. -/
theorem folded (A : FVec Ideal S256x1024 .f32) (x : Fin 1024) :
    diag (fun j x => fold8 (fold16 (fold32 (fold64 (fold128 A)))) (ix2 j x)) x = diag (fun j x => A (ix2 j x)) x := by
  refine (diag_fold (fun j x => fold16 (fold32 (fold64 (fold128 A))) (ix2 j x)) _ (fun j x => fold8_at _ j x) x).trans ?_
  refine (diag_fold (fun j x => fold32 (fold64 (fold128 A)) (ix2 j x)) _ (fun j x => fold16_at _ j x) x).trans ?_
  refine (diag_fold (fun j x => fold64 (fold128 A) (ix2 j x)) _ (fun j x => fold32_at _ j x) x).trans ?_
  refine (diag_fold (fun j x => fold128 A (ix2 j x)) _ (fun j x => fold64_at _ j x) x).trans ?_
  exact diag_fold (fun j x => A (ix2 j x)) _ (fun j x => fold128_at _ j x) x

/-- The eight folded rows, each shifted by its number, summed: the diagonal again. -/
theorem unsheared (d : Vec Ideal S1x768x256 .f32) (e : Fin 8) (x : Fin 1024) :
    k0_pay5 (F := Ideal) (k0_pay2 d) (k0_pay3 d) k0_pay4 1022#32 (ix2 e x) =
      diag (fun j x => k0_pay2 (F := Ideal) d (ix2 j x)) x := by
  unfold k0_pay3
  generalize k0_pay2 (F := Ideal) d = A
  pointwise [k0_pay5, k0_pay4]
  unfold diag
  refine Finset.sum_congr rfl fun j _ => ?_
  fin_cases j <;> simp [Scalar.select, IntOp.cmpi] <;> refine congrArg (fun y => A (ix2 _ y)) (Fin.ext ?_) <;> simp [Fin.val_add, Fin.val_ofNat] <;> omega

/-- The rows at a lane: zero before lane 256, the tile from there on. -/
theorem rows_at (d : Vec Ideal S1x768x256 .f32) (q : Fin 256) (x : Fin 1024) :
    rows d (ix2 q x) = if h : x.val < 256 then (0 : EReal) else d (ix3 (0 : Fin 1) ⟨x.val - 256, by omega⟩ q) := by
  unfold rows
  pointwise

/-- The bucket of a lane: its distance beyond 512, the nearer lanes in the first. -/
theorem lane_bucket : ∀ (x : Fin 1024), IntOp.addi (IntOp.maxsi (IntOp.subi (IntOp.subi (BitVec.ofNat 32 x.val) 256#32) 512#32) 4294967040#32) 256#32 = BitVec.ofNat 32 (x.val - 512) := by
  decide +kernel

theorem pay1_at (v : FVec Ideal S8x1024 .f32) (l : Fin 320) :
    k0_pay1 (F := Ideal) v (ix3 (0 : Fin 1) (0 : Fin 1) l) = ∑ x : Fin 1024, if x.val - 512 = l.val then (v (ix2 (0 : Fin 8) x) : EReal) else 0 := by
  pointwise [k0_pay1]
  refine Finset.sum_congr rfl fun x _ => ?_
  rw [lane_bucket x]
  have h : BitVec.ofNat 32 (x.val - 512) = BitVec.ofNat 32 l.val ↔ x.val - 512 = l.val := by
    rw [← BitVec.toNat_inj, BitVec.toNat_ofNat, BitVec.toNat_ofNat]
    omega
  by_cases hx : x.val - 512 = l.val
  · simp [Scalar.select, IntOp.cmpi, hx]
  · have hb : (BitVec.ofNat 32 (x.val - 512) == BitVec.ofNat 32 l.val) = false := beq_eq_false_iff_ne.2 fun e => hx (h.1 e)
    simp [Scalar.select, IntOp.cmpi, hx, hb]

/-- A sum over a range whose terms vanish outside a window is the sum over the window. -/
theorem sum_window {N w : Nat} (o : Nat) (hN : o + w ≤ N) (f : Fin w → EReal) :
    (∑ q : Fin N, if h : o ≤ q.val ∧ q.val < o + w then f ⟨q.val - o, by omega⟩ else 0) = ∑ i : Fin w, f i := by
  symm
  refine Finset.sum_of_injOn (fun i : Fin w => (⟨o + i.val, by omega⟩ : Fin N)) ?_ ?_ ?_ ?_
  · intro a _ b _ h
    have := Fin.val_eq_of_eq h
    exact Fin.ext (by simpa using this)
  · intro a _; exact Finset.mem_coe.2 (Finset.mem_univ _)
  · intro q _ hq
    refine dif_neg fun h => hq ⟨⟨q.val - o, by omega⟩, Finset.mem_coe.2 (Finset.mem_univ _), Fin.ext ?_⟩
    show o + (q.val - o) = q.val
    omega
  · intro i _
    rw [dif_pos ⟨Nat.le_add_right _ _, by show o + i.val < o + w; omega⟩]
    exact congrArg f (Fin.ext (Nat.add_sub_cancel_left ..).symm)

/-- The sum over the diagonals of a bucket, by the tile's own rows and keys. -/
theorem bucket_sum (d : Vec Ideal S1x768x256 .f32) (l : Fin 320) :
    (∑ x : Fin 1024, if x.val - 512 = l.val then diag (fun j x => rows d (ix2 j x)) x else 0) =
      ∑ q : Fin 256, ∑ k : Fin 768, if k.val - 256 - q.val = l.val then (d (ix3 (0 : Fin 1) k q) : EReal) else 0 := by
  have e : ∀ x : Fin 1024, (if x.val - 512 = l.val then diag (fun j x => rows d (ix2 j x)) x else 0) =
      ∑ q : Fin 256, if x.val - 512 = l.val then (rows d (ix2 q (x + Fin.ofNat 1024 q.val)) : EReal) else 0 := fun x => by
    by_cases h : x.val - 512 = l.val
    · simp only [if_pos h]; rfl
    · simp only [if_neg h, Finset.sum_const_zero]
  rw [Finset.sum_congr rfl fun x _ => e x, Finset.sum_comm]
  refine Finset.sum_congr rfl fun q _ => ?_
  rw [← Equiv.sum_comp (Equiv.subRight (Fin.ofNat 1024 q.val))]
  refine Eq.trans ?_ (sum_window (N := 1024) 256 (by norm_num) fun k : Fin 768 => if k.val - 256 - q.val = l.val then (d (ix3 (0 : Fin 1) k q) : EReal) else 0)
  refine Finset.sum_congr rfl fun x _ => ?_
  rw [Equiv.subRight_apply, sub_add_cancel, rows_at]
  by_cases hx : x.val < 256
  · rw [dif_pos hx, dif_neg (by omega), ite_self]
  · rw [dif_neg hx, dif_pos (by omega)]
    have hv : (x - Fin.ofNat 1024 q.val).val = x.val - q.val := by
      rw [Fin.sub_val_of_le]
      · simp [Fin.val_ofNat]; omega
      · rw [Fin.le_def, Fin.val_ofNat]; omega
    rw [hv, show x.val - q.val - 512 = x.val - 256 - 256 - q.val by omega]

/-- What the kernel computes of a head's tile. -/
theorem tile_sum (d : Vec Ideal S1x768x256 .f32) (l : Fin 320) :
    k0_pay1 (F := Ideal) (k0_pay5 (k0_pay2 d) (k0_pay3 d) k0_pay4 1022#32) (ix3 (0 : Fin 1) (0 : Fin 1) l) =
      ∑ q : Fin 256, ∑ k : Fin 768, if k.val - 256 - q.val = l.val then (d (ix3 (0 : Fin 1) k q) : EReal) else 0 := by
  rw [pay1_at, ← bucket_sum]
  refine Finset.sum_congr rfl fun x _ => ?_
  rw [unsheared, ← folded, folds]

variable (m : (ℓ : Loc nD τ sig) → Buf (Elt Ideal) ℓ)

/-- One chunk's part of the tile: its cotangent at its own rows and keys, zero elsewhere. -/
def part (ct : FVec Ideal S16x4x64x576 .f32) (h : Fin 16) (c : Fin 4) (q : Fin 256) (k : Fin 768) : EReal :=
  if hq : 64 * c.val ≤ q.val ∧ q.val < 64 * c.val + 64 then
    if hk : 64 * c.val ≤ k.val ∧ k.val < 64 * c.val + 576 then ct (ix4 h c ⟨q.val - 64 * c.val, by omega⟩ ⟨k.val - 64 * c.val, by omega⟩) else 0
  else 0

theorem bucket_part (ct : FVec Ideal S16x4x64x576 .f32) (h : Fin 16) (l : Fin 320) :
    (∑ q : Fin 256, ∑ k : Fin 768, if k.val - 256 - q.val = l.val then (∑ c : Fin 4, part ct h c q k : EReal) else 0) =
      ∑ c : Fin 4, ∑ i : Fin 64, ∑ j : Fin 576, if j.val - 256 - i.val = l.val then (ct (ix4 h c i j) : EReal) else 0 := by
  have e : ∀ (q : Fin 256) (k : Fin 768), (if k.val - 256 - q.val = l.val then (∑ c : Fin 4, part ct h c q k : EReal) else 0) =
      ∑ c : Fin 4, if k.val - 256 - q.val = l.val then part ct h c q k else 0 := fun q k => by
    by_cases hk : k.val - 256 - q.val = l.val
    · simp only [if_pos hk]
    · simp only [if_neg hk, Finset.sum_const_zero]
  simp only [e]
  rw [Finset.sum_congr rfl fun q _ => Finset.sum_comm, Finset.sum_comm]
  refine Finset.sum_congr rfl fun c _ => ?_
  refine Eq.trans ?_ (sum_window (N := 256) (64 * c.val) (by omega) fun i : Fin 64 => ∑ j : Fin 576, if j.val - 256 - i.val = l.val then (ct (ix4 h c i j) : EReal) else 0)
  refine Finset.sum_congr rfl fun q _ => ?_
  by_cases hq : 64 * c.val ≤ q.val ∧ q.val < 64 * c.val + 64
  · rw [dif_pos hq]
    refine Eq.trans ?_ (sum_window (N := 768) (64 * c.val) (by omega) fun j : Fin 576 => if j.val - 256 - (q.val - 64 * c.val) = l.val then (ct (ix4 h c ⟨q.val - 64 * c.val, by omega⟩ j) : EReal) else 0)
    refine Finset.sum_congr rfl fun k _ => ?_
    unfold part
    rw [dif_pos hq]
    by_cases hk : 64 * c.val ≤ k.val ∧ k.val < 64 * c.val + 576
    · rw [dif_pos hk, dif_pos hk, show k.val - 256 - q.val = k.val - 64 * c.val - 256 - (q.val - 64 * c.val) by omega]
    · rw [dif_neg hk, dif_neg hk, ite_self]
  · rw [dif_neg hq]
    unfold part
    simp only [dif_neg hq, ite_self, Finset.sum_const_zero]

theorem zero_pad : (FloatOps.sitofp FTy.f32 0#32 : Ideal .f32) = (0 : EReal) := by simp [FloatOps.sitofp]

theorem part_pad (ct : FVec Ideal S16x4x64x576 .f32) (h : Fin 16) (c : Fin 4) (o : Nat) (ho : o = 64 * c.val) (q : Fin 256) (k : Fin 768) :
    (if hh : h.val < 16 ∧ (o ≤ q.val ∧ q.val - o < 64) ∧ o ≤ k.val ∧ k.val - o < 576 then
      ct (ix4 ⟨h.val, hh.1⟩ c ⟨q.val - o, hh.2.1.2⟩ ⟨k.val - o, hh.2.2.2⟩) else FloatOps.sitofp FTy.f32 0#32) = part ct h c q k := by
  rw [zero_pad]
  subst ho
  unfold part
  split_ifs <;> first | rfl | omega

theorem part_first (ct : FVec Ideal S16x4x64x576 .f32) (h : Fin 16) (q : Fin 256) (k : Fin 768) :
    (if hh : h.val < 16 ∧ q.val < 64 ∧ k.val < 576 then
      ct (ix4 ⟨h.val, hh.1⟩ 0 ⟨q.val, hh.2.1⟩ ⟨k.val, hh.2.2⟩) else FloatOps.sitofp FTy.f32 0#32) = part ct h 0 q k := by
  rw [← part_pad ct h 0 0 rfl]
  simp only [Nat.zero_le, true_and, Nat.sub_zero]

/-- The word the padding is made of. -/
abbrev padZero : FVec Ideal S_ .f32 := sitofp .f32 (constantI S_ 32 0#32)

/-- The tile as the host code lays it out. -/
def hostTile (ct : FVec Ideal S16x4x64x576 .f32) : FVec Ideal S8x768x512 .f32 :=
  shapeCast S8x768x512 (transpose S8x768x2x256 [0, 3, 1, 2] (shapeCast S8x2x256x768
    (addf (addf (addf (addf (broadcastInDim S16x256x768 ![] bcast_S_S16x256x768 (constant S_ .f32 0x00000000#32))
      (pad S16x256x768 ![0, 0, 0] ![0, 192, 192] ![0, 0, 0] (shapeCast S16x64x576 (extractStridedSlice S16x1x64x576 ![0, 0, 0, 0] ct slices_S16x4x64x576_S16x1x64x576_0_0_0_0) shapeCasts_S16x1x64x576_S16x64x576) padZero pads_S16x64x576_S16x256x768_000_01920_01920 h_S_))
      (pad S16x256x768 ![0, 64, 64] ![0, 128, 128] ![0, 0, 0] (shapeCast S16x64x576 (extractStridedSlice S16x1x64x576 ![0, 1, 0, 0] ct slices_S16x4x64x576_S16x1x64x576_0_1_0_0) shapeCasts_S16x1x64x576_S16x64x576) padZero pads_S16x64x576_S16x256x768_000_641280_641280 h_S_))
      (pad S16x256x768 ![0, 128, 128] ![0, 64, 64] ![0, 0, 0] (shapeCast S16x64x576 (extractStridedSlice S16x1x64x576 ![0, 2, 0, 0] ct slices_S16x4x64x576_S16x1x64x576_0_2_0_0) shapeCasts_S16x1x64x576_S16x64x576) padZero pads_S16x64x576_S16x256x768_000_128640_128640 h_S_))
      (pad S16x256x768 ![0, 192, 192] ![0, 0, 0] ![0, 0, 0] (shapeCast S16x64x576 (extractStridedSlice S16x1x64x576 ![0, 3, 0, 0] ct slices_S16x4x64x576_S16x1x64x576_0_3_0_0) shapeCasts_S16x1x64x576_S16x64x576) padZero pads_S16x64x576_S16x256x768_000_19200_19200 h_S_))
    shapeCasts_S16x256x768_S8x2x256x768) transposes_S8x2x256x768_S8x768x2x256_0_3_1_2) shapeCasts_S8x768x2x256_S8x768x512

theorem entry (c : Dev nD) : V m c main_v19 = hostTile (m ((c.tc : Thread nD τ).loc main_arg0)) := by
  unfold V
  simp only [List.flatten_cons, List.flatten_nil, List.append_nil, List.cons_append, List.nil_append]
  after_results
  rfl

set_option maxHeartbeats 1000000 in
theorem hostTile_at (ct : FVec Ideal S16x4x64x576 .f32) (g : Fin 8) (k : Fin 768) (e : Fin 2) (q : Fin 256) :
    hostTile ct (ix3 g k ⟨256 * e.val + q.val, by omega⟩) = ∑ a : Fin 4, part ct ⟨2 * g.val + e.val, by omega⟩ a q k := by
  refine Eq.trans ?_ (Fin.sum_univ_four fun a : Fin 4 => part ct ⟨2 * g.val + e.val, by omega⟩ a q k).symm
  pointwise [hostTile, padZero]
  have hH : g.val * 2 + e.val < 16 := by omega
  rw [show (⟨2 * g.val + e.val, by omega⟩ : Fin 16) = ⟨g.val * 2 + e.val, hH⟩ from Fin.ext (by show 2 * g.val + e.val = g.val * 2 + e.val; omega)]
  exact Ideal.add_congr (Ideal.add_congr (Ideal.add_congr (part_first ct ⟨g.val * 2 + e.val, hH⟩ q k) (part_pad ct ⟨g.val * 2 + e.val, hH⟩ 1 64 rfl q k))
    (part_pad ct ⟨g.val * 2 + e.val, hH⟩ 2 128 rfl q k)) (part_pad ct ⟨g.val * 2 + e.val, hH⟩ 3 192 rfl q k)

/-- The block a grid point reads: half a row of the tile array. -/
theorem idx : ∀ t : Fin cfg0.N, win0_0.index t = ![t.val / 2, 0, t.val % 2] ∧ win0_1.index t = ![t.val, 0, 0] :=
  (by decide +kernel : ∀ t : Fin grid0.N, _)

/-- The sum of a head's cotangents over the query rows and keys of a bucket. -/
def total (ct : FVec Ideal S16x4x64x576 .f32) (h : Fin 16) (l : Fin 320) : EReal :=
  ∑ a : Fin 4, ∑ i : Fin 64, ∑ j : Fin 576, if j.val - 256 - i.val = l.val then ct (ix4 h a i j) else 0

/-- What the kernel writes for a head. -/
theorem head_at (c : Dev nD) (t : Fin cfg0.N) (l : Fin 320) :
    k0_pay1 (F := Ideal) (k0_pay5 (k0_pay2 (iblk m c 0 t)) (k0_pay3 (iblk m c 0 t)) k0_pay4 1022#32) (ix3 (0 : Fin 1) (0 : Fin 1) l) =
      total (m ((c.tc : Thread nD τ).loc main_arg0)) ⟨t.val, lt_of_lt_of_eq t.isLt N_0⟩ l := by
  have ht : t.val < 16 := lt_of_lt_of_eq t.isLt N_0
  refine (tile_sum _ l).trans (Eq.trans (Finset.sum_congr rfl fun q _ => Finset.sum_congr rfl fun k _ => ?_) (bucket_part _ _ l))
  refine congrArg (fun y : EReal => if k.val - 256 - q.val = l.val then y else 0) ?_
  show (V m c main_v19 (((cfg0.win 0).blk t).view.emb (ix3 (0 : Fin 1) k q)) : EReal) = _
  rw [show ((cfg0.win 0).blk t).view.emb (ix3 (0 : Fin 1) k q) = (ix3 ⟨t.val / 2, by omega⟩ k ⟨256 * (t.val % 2) + q.val, by omega⟩ : S8x768x512.Idx) by blk_ext [idx t]]
  rw [entry]
  refine (hostTile_at _ ⟨t.val / 2, by omega⟩ k ⟨t.val % 2, by omega⟩ q).trans ?_
  exact congrArg (fun h => ∑ a : Fin 4, part _ h a q k) (Fin.ext (by show 2 * (t.val / 2) + t.val % 2 = t.val; omega))

/-- The bucket word of a difference of a key and a row, from 63 below on. -/
theorem difference_word : ∀ d : Fin 640,
    Scalar.select (IntOp.cmpi CmpIPredicate.slt (IntOp.addi (IntOp.maxsi (IntOp.subi (BitVec.ofNat 32 d.val) 575#32) 4294967040#32) 256#32) 0#32)
      (IntOp.addi (IntOp.addi (IntOp.maxsi (IntOp.subi (BitVec.ofNat 32 d.val) 575#32) 4294967040#32) 256#32) 320#32)
      (IntOp.addi (IntOp.maxsi (IntOp.subi (BitVec.ofNat 32 d.val) 575#32) 4294967040#32) 256#32) =
    BitVec.ofNat 32 (d.val - 319) := by
  decide +kernel

theorem difference (i : Fin 64) (j : Fin 576) :
    IntOp.subi (IntOp.subi (BitVec.ofNat 32 j.val) 512#32) (BitVec.ofNat 32 i.val) = IntOp.subi (BitVec.ofNat 32 (j.val + 63 - i.val)) 575#32 := by
  unfold IntOp.subi
  rw [← BitVec.toNat_inj]
  simp only [BitVec.toNat_sub, BitVec.toNat_ofNat]
  omega

open Cert.BiasGradRefIdeal.Read in
/-- The bucket of a query row and a key, as the reference computes it. -/
theorem key_bucket : ∀ (i : Fin 64) (j : Fin 576),
    Cert.BiasGradRefIdeal.Read.val_main_v19 (F := Ideal) (ix3 i j (0 : Fin 1)) = BitVec.ofNat 32 (j.val - 256 - i.val) := by
  intro i j
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_c_3, val_main_c_2, val_main_c_1, val_main_c_0, val_main_c]
  rw [difference, difference_word ⟨j.val + 63 - i.val, by omega⟩]
  exact congrArg _ (by show j.val + 63 - i.val - 319 = _; omega)

/-- A cotangent is added to the table's entry of its head and bucket. -/
theorem lands_at (ix : IVec Cert.BiasGradRefIdeal.S64x576x1 32) (hix : ∀ (i : Fin 64) (j : Fin 576), ix (ix3 i j (0 : Fin 1)) = BitVec.ofNat 32 (j.val - 256 - i.val))
    (g h : Fin 16) (i : Fin 64) (j : Fin 576) (l : Fin 320) :
    Cert.BiasGradRefIdeal.scatter_S16x320_S64x576x1_S16x64x576_0_1_1_2.resultIdx? (ix3 g i j) ix = some (ix2 h l) ↔
      g = h ∧ j.val - 256 - i.val = l.val := by
  refine (Routing.resultIdx?_ix2 _ (ix3 g i j) _ h l).trans ?_
  have w0 : Cert.BiasGradRefIdeal.scatter_S16x320_S64x576x1_S16x64x576_0_1_1_2.window (ix3 g i j) 0 = g.val := rfl
  have w1 : Cert.BiasGradRefIdeal.scatter_S16x320_S64x576x1_S16x64x576_0_1_1_2.window (ix3 g i j) 1 = 0 := rfl
  have s0 : Cert.BiasGradRefIdeal.scatter_S16x320_S64x576x1_S16x64x576_0_1_1_2.start (ix3 g i j) ix 0 = 0 := rfl
  have s1 : Cert.BiasGradRefIdeal.scatter_S16x320_S64x576x1_S16x64x576_0_1_1_2.start (ix3 g i j) ix 1 = ((j.val - 256 - i.val : Nat) : Int) := by
    refine Eq.trans (b := (ix (ix3 i j (0 : Fin 1))).toInt) ?_ ?_
    · refine congrArg (fun y => (ix y).toInt) (funext fun a => ?_)
      match a with
      | ⟨0, _⟩ => rfl
      | ⟨1, _⟩ => rfl
      | ⟨2, _⟩ => rfl
    · have := j.isLt
      rw [hix, BitVec.toInt_eq_toNat_cond, BitVec.toNat_ofNat, if_pos (by omega), Nat.mod_eq_of_lt (by omega)]
  rw [w0, w1, s0, s1, Fin.ext_iff]
  omega

open Cert.BiasGradRefIdeal.Read in
theorem reference_at (ct : FVec Ideal S16x4x64x576 .f32) (h : Fin 16) (l : Fin 320) :
    Cert.BiasGradRefIdeal.Read.val_main_v28 (F := Ideal) ct (ix3 h (0 : Fin 1) l) =
      total ct h l := by
  have e : ∀ (g : Fin 16) (i : Fin 64) (j : Fin 576), val_main_v25 (F := Ideal) ct (ix3 g i j) = ∑ a : Fin 4, ct (ix4 g a i j) := fun g i j => by
    pointwise [val_main_v25, val_main_v24, val_main_v23, val_main_cst_5, val_main_cst_4]
    simp only [Fin.sum_univ_one]
  have lands := fun (g : Fin 16) (i : Fin 64) (j : Fin 576) => lands_at (val_main_v19 (F := Ideal)) key_bucket g h i j l
  refine Eq.trans (b := val_main_v27 (F := Ideal) ct (ix2 h l)) (by pointwise [val_main_v28]) ?_
  unfold val_main_v27
  generalize hv : val_main_v25 (F := Ideal) ct = v at e ⊢
  generalize val_main_v19 (F := Ideal) = ix at lands ⊢
  unfold Host.scatterAdd
  rw [Ideal.hostScatterAdd_def]
  unfold Ideal.hostScatterAdd
  rw [Finset.sum_filter, sum_idx3]
  simp only [lands, e]
  rw [show val_main_v26 (F := Ideal) (ix2 h l) = (0 : EReal) by pointwise [val_main_v26, val_main_cst_6], zero_add]
  refine (Finset.sum_eq_single h ?_ ?_).trans ?_
  rotate_left 2
  · simp only [true_and]
    unfold total
    refine Eq.trans ?_ (Finset.sum_comm (f := fun (i : Fin 64) (a : Fin 4) => ∑ j : Fin 576, if j.val - 256 - i.val = l.val then (ct (ix4 h a i j) : EReal) else 0))
    refine Finset.sum_congr rfl fun i _ => ?_
    refine Eq.trans ?_ (Finset.sum_comm (f := fun (j : Fin 576) (a : Fin 4) => if j.val - 256 - i.val = l.val then (ct (ix4 h a i j) : EReal) else 0))
    refine Finset.sum_congr rfl fun j _ => ?_
    by_cases hb : j.val - 256 - i.val = l.val
    · simp only [if_pos hb]
    · simp only [if_neg hb, Finset.sum_const_zero]
  · intro g _ hg
    simp only [hg, false_and, if_false, Finset.sum_const_zero]
  · exact fun hh => absurd (Finset.mem_univ h) hh

theorem whole_tile (X : Vec Ideal S1x768x256 .f32) : View.ld X r0_0 = X :=
  View.ld_unit_zero (funext fun a => match a with | ⟨0, _⟩ => rfl | ⟨1, _⟩ => rfl | ⟨2, _⟩ => rfl) _ _

/-- What a grid point writes: its head's row of the table. -/
theorem out_at (c : Dev nD) (t : Fin cfg0.N) (y : S1x1x320.Idx) :
    out0_1 (F := Ideal) (iblk m c 0 t) y =
      Cert.BiasGradRefIdeal.Read.val_main_v28 (F := Ideal) (m ((c.tc : Thread nD τ).loc main_arg0)) (((cfg0.win 1).blk t).view.emb y) := by
  refine Eq.trans ?_ ((congrArg _ (by blk_ext [idx t])).trans (reference_at _ ⟨t.val, lt_of_lt_of_eq t.isLt N_0⟩ (y 2))).symm
  refine Eq.trans ?_ (head_at m c t (y 2))
  unfold out0_1
  canon_tiles x h
  all_goals
    refine Eq.trans (congrArg (fun X : Vec Ideal S1x768x256 .f32 => k0_pay1 (F := Ideal) (k0_pay5 (k0_pay2 X) (k0_pay3 X) k0_pay4 1022#32) x) (whole_tile (iblk m c 0 t))) ?_
    exact congrArg _ (by blk_ext)

theorem final (c : Dev nD) : (dats m 0 c).arrAt 1 (cfgs 0).N =
    Cert.BiasGradRefIdeal.Read.val_main_v28 (F := Ideal) (m ((c.tc : Thread nD τ).loc main_arg0)) := by
  refine (dats m 0 c).arrAt_eq_of_covers 1 _ (by decide +kernel) fun t _ y => ?_
  blk_simp
  rw [after0_1]
  exact out_at m c t y

end Cert.BiasGradIdeal.Bias
end
-- ==== Proof.BiasPair.lean ====
module

public import proofs.«01_k».proof.Defs
public import proofs.«01_k».proof.Proof.Bias
public import proofs.«01_k».proof.Proof.Gen.BiasGrad.Frame
public import proofs.«01_k».proof.Proof.Gen.BiasGradRefIdeal.Run
public import Idealize.ShloMosaic.Lib.Claim

@[expose] public section

set_option maxRecDepth 16384

noncomputable section

open Idealize.ShloMosaic Idealize.SL.Sem

/-! The claims about the gradient of the attention's bias table. -/

namespace Cert.BiasPair

/-- The kernel leaves its arguments as they were, over the float words. -/
theorem frame_kernel : Cert.quiescent_BiasGrad := fun m ρ _ => Cert.BiasGrad.Gen.frame m ρ
/-- The same, over the extended reals. -/
theorem frame_ideal : Cert.quiescent_BiasGradIdeal := fun m ρ _ => Cert.BiasGradIdeal.Gen.frame m ρ
/-- The reference leaves its arguments as they were. -/
theorem frame_reference : Cert.quiescent_BiasGradRefIdeal := fun m ρ _ =>
  (θ_run Cert.BiasGradRefIdeal.defs _ _).mono (fun r h => ⟨fun c => (h c).2, sem_eq_zero_of_no_sems (by decide) r.2⟩)
    (Cert.BiasGradRefIdeal.Value.run (F := Ideal) m ρ)

/-- The kernel computes the reference's derivative. -/
theorem algebraic : Cert.algebraic_BiasGradIdeal_BiasGradRefIdeal := by
  pair_intro
  · run_from Cert.BiasGradIdeal.Value.run_blocks m g
  · refine (θ_run Cert.BiasGradRefIdeal.defs _ _).mono (fun r h c => ?_) (Cert.BiasGradRefIdeal.Value.run m' g')
    have h0 := hagree c
    obtain ⟨r0, kept⟩ := h c
    refine ⟨r0.trans ?_, kept⟩
    · rw [Cert.BiasGradRefIdeal.Read.val_main_v28_eq, h0]; exact (Cert.BiasGradIdeal.Bias.final m c).symm

end Cert.BiasPair
end
-- ==== Proof.RetMath.lean ====
/- The retention gradient over the reals, away from any program. For one batch element and one head, `q k` are rows of vectors and `v` a column
   of numbers over the positions of a sequence. Inside a chunk of 64 positions the decay is of the distance both ways; between chunks only the
   past is seen. Taken in blocks of any multiple of 64 positions with a carried state — forwards or backwards — the weighted sum over all positions
   is the same, whatever the block. -/
module

public import proofs.«01_k».proof.Proof.Scalars

@[expose] public section

noncomputable section

namespace Cert.RetMath

open Finset

/-- The decay between positions `t` (reading) and `s` (read), for a head of rate `g`. -/
def decay (g : ℝ) (t s : ℕ) : ℝ :=
  if t / 64 = s / 64 then Real.exp (g * |(t : ℝ) - s|) else if s / 64 < t / 64 then Real.exp (g * ((t : ℝ) - s)) else 0

theorem decay_past {g : ℝ} {t s a : ℕ} (hs : s < 64 * a) (ht : 64 * a ≤ t) : decay g t s = Real.exp (g * ((t : ℝ) - s)) := by
  have h : s / 64 < t / 64 := by omega
  rw [decay, if_neg (by omega), if_pos h]

theorem decay_future {g : ℝ} {t s a : ℕ} (ht : t < 64 * a) (hs : 64 * a ≤ s) : decay g t s = 0 := by
  rw [decay, if_neg (by omega), if_neg (by omega)]

/-- A sum over `n` blocks of `L` seen from block `i`: what lies before, the block, what lies after. -/
theorem sum_split (f : ℕ → ℝ) {n i L : ℕ} (hi : i < n) :
    ∑ s ∈ range (n * L), f s = ∑ s ∈ range (i * L), f s + (∑ l ∈ range L, f (i * L + l) + ∑ x ∈ range ((n - 1 - i) * L), f ((i + 1) * L + x)) := by
  have h : n * L = i * L + (L + (n - 1 - i) * L) := by
    obtain ⟨r, rfl⟩ : ∃ r, n = i + (1 + r) := ⟨n - i - 1, by omega⟩
    rw [show i + (1 + r) - 1 - i = r by omega]; ring
  rw [h, sum_range_add, sum_range_add]
  congr 2
  refine sum_congr rfl fun x _ => ?_
  congr 1; ring

variable {ι : Type} [Fintype ι]

/-- The carried state of the recurrence is the decayed sum over all earlier positions. -/
theorem state_closed (g : ℝ) (L : ℕ) (k : ℕ → ℝ) (v st : ℕ → ℝ) (h0 : st 0 = 0)
    (hs : ∀ i, st (i + 1) = st i * Real.exp (g * L) + ∑ l ∈ range L, k (i * L + l) * Real.exp (g * ((L : ℝ) - 1 - l)) * v (i * L + l)) :
    ∀ i, st i = ∑ s ∈ range (i * L), Real.exp (g * (((i * L : ℕ) : ℝ) - 1 - s)) * (k s * v s)
  | 0 => by rw [h0, Nat.zero_mul, sum_range_zero]
  | i + 1 => by
    rw [hs, state_closed g L k v st h0 hs i, show (i + 1) * L = i * L + L by ring, sum_range_add, sum_mul]
    congr 1
    · refine sum_congr rfl fun s _ => ?_
      rw [mul_right_comm, ← Real.exp_add]
      congr 2; push_cast; ring
    · refine sum_congr rfl fun l _ => ?_
      rw [show (((i * L + L : ℕ) : ℝ) - 1 - ((i * L + l : ℕ) : ℝ)) = (L : ℝ) - 1 - l by push_cast; ring]
      ring

/-- Forwards: the block's own positions and the carried state make the sum over all positions. -/
theorem forward (g : ℝ) (c n i l : ℕ) (hi : i < n) (hl : l < 64 * c) (q k : ℕ → ι → ℝ) (v : ℕ → ℝ) (st : ℕ → ι → ℝ)
    (h0 : ∀ d, st 0 d = 0)
    (hs : ∀ i d, st (i + 1) d = st i d * Real.exp (g * (64 * c : ℕ))
      + ∑ l ∈ range (64 * c), k (i * (64 * c) + l) d * Real.exp (g * (((64 * c : ℕ) : ℝ) - 1 - l)) * v (i * (64 * c) + l)) :
    ∑ l' ∈ range (64 * c), (∑ d, q (i * (64 * c) + l) d * k (i * (64 * c) + l') d) * decay g (i * (64 * c) + l) (i * (64 * c) + l') * v (i * (64 * c) + l')
        + (∑ d, q (i * (64 * c) + l) d * st i d) * Real.exp (g * ((l : ℝ) + 1))
      = ∑ s ∈ range (n * (64 * c)), (∑ d, q (i * (64 * c) + l) d * k s d) * decay g (i * (64 * c) + l) s * v s := by
  have hA : i * (64 * c) = 64 * (i * c) := by ring
  have hA1 : (i + 1) * (64 * c) = 64 * ((i + 1) * c) := by ring
  have hA2 : 64 * ((i + 1) * c) = 64 * (i * c) + 64 * c := by ring
  rw [sum_split _ hi, sum_eq_zero (s := range ((n - 1 - i) * (64 * c))), add_zero, add_comm]
  · congr 1
    have hst : ∀ d, st i d = _ := fun d => state_closed g (64 * c) (fun s => k s d) v (fun i => st i d) (h0 d) (fun i => hs i d) i
    simp only [hst, mul_sum, sum_mul]
    rw [sum_comm]
    refine sum_congr rfl fun s hs => ?_
    have hs' : s < 64 * (i * c) := by rw [← hA]; exact mem_range.mp hs
    rw [decay_past (a := i * c) hs' (by omega)]
    refine sum_congr rfl fun d _ => ?_
    have e : Real.exp (g * (((i * (64 * c) : ℕ) : ℝ) - 1 - s)) * Real.exp (g * ((l : ℝ) + 1)) = Real.exp (g * (((i * (64 * c) + l : ℕ) : ℝ) - s)) := by
      rw [← Real.exp_add]; congr 1; push_cast; ring
    rw [← e]; ring
  · intro x hx
    rw [decay_future (a := (i + 1) * c) (by omega) (by omega)]; ring

/-- The state carried backwards is the decayed sum over all later positions. -/
theorem costate_closed (g : ℝ) (L n : ℕ) (q w ds : ℕ → ℝ) (h0 : ds 0 = 0)
    (hs : ∀ j, j < n → ds (j + 1) = ds j * Real.exp (g * L) + ∑ l ∈ range L, q ((n - 1 - j) * L + l) * Real.exp (g * ((l : ℝ) + 1)) * w ((n - 1 - j) * L + l)) :
    ∀ j, j ≤ n → ds j = ∑ x ∈ range (j * L), Real.exp (g * ((x : ℝ) + 1)) * (q ((n - j) * L + x) * w ((n - j) * L + x))
  | 0, _ => by rw [h0, Nat.zero_mul, sum_range_zero]
  | j + 1, hj => by
    rw [hs j hj, costate_closed g L n q w ds h0 hs j (by omega), show (j + 1) * L = L + j * L by ring, sum_range_add, sum_mul, add_comm]
    congr 1
    · refine sum_congr rfl fun l _ => ?_
      rw [show n - (j + 1) = n - 1 - j by omega]; ring
    · refine sum_congr rfl fun x _ => ?_
      have e : (n - (j + 1)) * L + (L + x) = (n - j) * L + x := by
        obtain ⟨r, rfl⟩ : ∃ r, n = r + (j + 1) := ⟨n - (j + 1), by omega⟩
        rw [show r + (j + 1) - (j + 1) = r by omega, show r + (j + 1) - j = r + 1 by omega]; ring
      rw [e, mul_right_comm, ← Real.exp_add]
      congr 2; push_cast; ring

/-- Backwards: the block's own positions and the state carried from the later ones make the sum over all positions. -/
theorem backward (g : ℝ) (c n i l : ℕ) (hi : i < n) (hl : l < 64 * c) (q k : ℕ → ι → ℝ) (w : ℕ → ℝ) (ds : ℕ → ι → ℝ)
    (h0 : ∀ d, ds 0 d = 0)
    (hs : ∀ j, j < n → ∀ d, ds (j + 1) d = ds j d * Real.exp (g * (64 * c : ℕ))
      + ∑ l ∈ range (64 * c), q ((n - 1 - j) * (64 * c) + l) d * Real.exp (g * ((l : ℝ) + 1)) * w ((n - 1 - j) * (64 * c) + l)) :
    ∑ l' ∈ range (64 * c), (∑ d, q (i * (64 * c) + l') d * k (i * (64 * c) + l) d) * decay g (i * (64 * c) + l') (i * (64 * c) + l) * w (i * (64 * c) + l')
        + (∑ d, k (i * (64 * c) + l) d * ds (n - 1 - i) d) * Real.exp (g * (((64 * c : ℕ) : ℝ) - 1 - l))
      = ∑ t ∈ range (n * (64 * c)), (∑ d, q t d * k (i * (64 * c) + l) d) * decay g t (i * (64 * c) + l) * w t := by
  have hA : i * (64 * c) = 64 * (i * c) := by ring
  have hA1 : (i + 1) * (64 * c) = 64 * ((i + 1) * c) := by ring
  have hA2 : 64 * ((i + 1) * c) = 64 * (i * c) + 64 * c := by ring
  rw [sum_split _ hi, sum_eq_zero (s := range (i * (64 * c))), zero_add]
  · congr 1
    have hst : ∀ d, ds (n - 1 - i) d = _ := fun d => costate_closed g (64 * c) n (fun s => q s d) w (fun i => ds i d) (h0 d) (fun j hj => hs j hj d) (n - 1 - i) (by omega)
    simp only [hst, mul_sum, sum_mul]
    rw [sum_comm]
    refine sum_congr rfl fun x _ => ?_
    have e1 : (n - (n - 1 - i)) = i + 1 := by omega
    rw [e1, decay_past (a := (i + 1) * c) (by omega) (by omega)]
    refine sum_congr rfl fun d _ => ?_
    have e : Real.exp (g * ((x : ℝ) + 1)) * Real.exp (g * (((64 * c : ℕ) : ℝ) - 1 - l)) = Real.exp (g * ((((i + 1) * (64 * c) + x : ℕ) : ℝ) - ((i * (64 * c) + l : ℕ) : ℝ))) := by
      rw [← Real.exp_add]; congr 1; push_cast; ring
    rw [← e]; ring
  · intro t ht
    have ht' : t < 64 * (i * c) := by rw [← hA]; exact mem_range.mp ht
    rw [decay_future (a := i * c) ht' (by omega)]; ring

end Cert.RetMath

end
-- ==== Proof.RetRow.lean ====
/- One row of the retention over the reals: the rotation by position and the gated group norm with its gradient. -/
module

public import proofs.«01_k».proof.Proof.Scalars

@[expose] public section

noncomputable section

namespace Cert.RetMath

open Finset

/-! Rotation of a row by the cosines and sines of its position, and back. -/

def rot (C S x : ℕ → ℝ) (d : ℕ) : ℝ :=
  if d < 128 then x d * C d - x (128 + d) * S d else x (d - 128) * S (d - 128) + x (128 + (d - 128)) * C (d - 128)

def unrot (C S x : ℕ → ℝ) (d : ℕ) : ℝ :=
  if d < 128 then x d * C d + x (128 + d) * S d else x (128 + (d - 128)) * C (d - 128) - x (d - 128) * S (d - 128)

/-! One row of the gated group norm and its gradient: the row's values, the cotangent, the gate and the gain. -/

/-- The variance's guard, the rational of its float word. -/
def eps : ℝ := 8796093 / 8796093022208

theorem eps_pos : 0 < eps := by unfold eps; norm_num

def mean (f : ℕ → ℝ) : ℝ := (∑ e ∈ range 512, f e) * (1 / 512)
def cen (o : ℕ → ℝ) (e : ℕ) : ℝ := o e - mean o
def var (o : ℕ → ℝ) : ℝ := mean fun e => cen o e * cen o e
def rst (o : ℕ → ℝ) : ℝ := (√(var o + eps))⁻¹
def xh (o : ℕ → ℝ) (e : ℕ) : ℝ := cen o e * rst o
def sgm (x : ℝ) : ℝ := (1 + Real.exp (-x))⁻¹
def dxh (y g gn : ℕ → ℝ) (e : ℕ) : ℝ := y e * (g e * sgm (g e)) * gn e
def rowO (o y g gn : ℕ → ℝ) (e : ℕ) : ℝ :=
  rst o * (dxh y g gn e - mean (dxh y g gn) - xh o e * mean fun e => dxh y g gn e * xh o e)
def rowG (o y g gn : ℕ → ℝ) (e : ℕ) : ℝ := y e * xh o e * gn e * (sgm (g e) * (1 + g e * (1 - sgm (g e))))
def rowGn (o y g : ℕ → ℝ) (e : ℕ) : ℝ := y e * (g e * sgm (g e)) * xh o e

theorem var_nonneg (o : ℕ → ℝ) : 0 ≤ var o :=
  mul_nonneg (Finset.sum_nonneg fun e _ => mul_self_nonneg (cen o e)) (by norm_num)

theorem var_eps_pos (o : ℕ → ℝ) : 0 < var o + eps := add_pos_of_nonneg_of_pos (var_nonneg o) eps_pos

theorem sgm_tanh (x : ℝ) : 1 / 2 * Real.tanh (1 / 2 * x) + 1 / 2 = sgm x := by
  unfold sgm
  rw [Real.tanh_eq_sinh_div_cosh, Real.sinh_eq, Real.cosh_eq]
  have h : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  have p1 := Real.exp_pos (1 / 2 * x)
  have p2 := Real.exp_pos (-(1 / 2 * x))
  rw [h]
  generalize Real.exp (1 / 2 * x) = a at *
  generalize Real.exp (-(1 / 2 * x)) = b at *
  field_simp
  linear_combination (2 * b) * h2

end Cert.RetMath

end
-- ==== Proof.RetData.lean ====
/- The retention's gradient over the reals: what the two results are, in closed form, of projections, cotangent and gain. -/
module

public import proofs.«01_k».proof.Proof.RetMath
public import proofs.«01_k».proof.Proof.RetRow

@[expose] public section

noncomputable section

namespace Cert.RetMath

open Finset

theorem decay_shift (g : ℝ) (a x y : ℕ) : decay g (64 * a + x) (64 * a + y) = decay g x y := by
  unfold decay
  have h1 : (64 * a + x) / 64 = a + x / 64 := by omega
  have h2 : (64 * a + y) / 64 = a + y / 64 := by omega
  rw [h1, h2]
  have h3 : ((64 * a + x : ℕ) : ℝ) - ((64 * a + y : ℕ) : ℝ) = (x : ℝ) - y := by push_cast; ring
  rw [h3]
  simp only [Nat.add_left_cancel_iff, Nat.add_lt_add_iff_left]

/-- Projections, cotangent and gain, the cosines and sines of the positions and the heads' decay rates. -/
structure Data where
  p : ℕ → ℕ → ℕ → ℝ
  y : ℕ → ℕ → ℕ → ℝ
  gn : ℕ → ℝ
  C : ℕ → ℕ → ℝ
  S : ℕ → ℕ → ℝ
  lg : ℕ → ℝ

namespace Data
variable (D : Data) (b h : ℕ)

def Q (t : ℕ) : ℕ → ℝ := rot (D.C t) (D.S t) fun d => D.p b t (256 * h + d)
def KR (t : ℕ) : ℕ → ℝ := rot (D.C t) (D.S t) fun d => D.p b t (1024 + 256 * h + d)
def K (t d : ℕ) : ℝ := D.KR b h t d * (1 / 16)
def V (t e : ℕ) : ℝ := D.p b t (2048 + 512 * h + e)
def G (t e : ℕ) : ℝ := D.p b t (4096 + 512 * h + e)
def Y (t e : ℕ) : ℝ := D.y b t (512 * h + e)
def Gn (e : ℕ) : ℝ := D.gn (512 * h + e)

/-- The retention's output before its norm, and the cotangents. -/
def O (t e : ℕ) : ℝ := ∑ s ∈ range 4096, (∑ d ∈ range 256, D.Q b h t d * D.K b h s d) * decay (D.lg h) t s * D.V b h s e
def DO (t : ℕ) : ℕ → ℝ := rowO (D.O b h t) (D.Y b h t) (D.G b h t) (D.Gn h)
def DQ (t d : ℕ) : ℝ := ∑ s ∈ range 4096, (∑ e ∈ range 512, D.DO b h t e * D.V b h s e) * decay (D.lg h) t s * D.K b h s d
def DK (s d : ℕ) : ℝ := ∑ t ∈ range 4096, (∑ e ∈ range 512, D.DO b h t e * D.V b h s e) * decay (D.lg h) t s * D.Q b h t d
def DV (s e : ℕ) : ℝ := ∑ t ∈ range 4096, (∑ d ∈ range 256, D.Q b h t d * D.K b h s d) * decay (D.lg h) t s * D.DO b h t e

/-- The gradient of the projections and of the norm's gain. -/
def outQ (t : ℕ) : ℕ → ℝ := unrot (D.C t) (D.S t) (D.DQ b h t)
def outK (t d : ℕ) : ℝ := unrot (D.C t) (D.S t) (D.DK b h t) d * (1 / 16)
def outG (t : ℕ) : ℕ → ℝ := rowG (D.O b h t) (D.Y b h t) (D.G b h t) (D.Gn h)
def outP (t n : ℕ) : ℝ :=
  if n < 1024 then D.outQ b (n / 256) t (n % 256)
  else if n < 2048 then D.outK b ((n - 1024) / 256) t (n % 256)
  else if n < 4096 then D.DV b ((n - 2048) / 512) t (n % 512)
  else D.outG b ((n - 4096) / 512) t (n % 512)
def gain (t : ℕ) : ℕ → ℝ := rowGn (D.O b h t) (D.Y b h t) (D.G b h t)
def outGn (n : ℕ) : ℝ := ∑ b ∈ range 2, ∑ t ∈ range 4096, D.gain b (n / 512) t (n % 512)

variable {D b h}

theorem outP_q {d : ℕ} (hd : d < 256) (hh : h < 4) (t : ℕ) : D.outP b t (256 * h + d) = D.outQ b h t d := by
  rw [outP, if_pos (by omega), show (256 * h + d) / 256 = h by omega, show (256 * h + d) % 256 = d by omega]

theorem outP_k {d : ℕ} (hd : d < 256) (hh : h < 4) (t : ℕ) : D.outP b t (1024 + 256 * h + d) = D.outK b h t d := by
  rw [outP, if_neg (by omega), if_pos (by omega), show (1024 + 256 * h + d - 1024) / 256 = h by omega, show (1024 + 256 * h + d) % 256 = d by omega]

theorem outP_v {e : ℕ} (he : e < 512) (hh : h < 4) (t : ℕ) : D.outP b t (2048 + 512 * h + e) = D.DV b h t e := by
  rw [outP, if_neg (by omega), if_neg (by omega), if_pos (by omega), show (2048 + 512 * h + e - 2048) / 512 = h by omega,
    show (2048 + 512 * h + e) % 512 = e by omega]

theorem outP_g {e : ℕ} (he : e < 512) (t : ℕ) : D.outP b t (4096 + 512 * h + e) = D.outG b h t e := by
  rw [outP, if_neg (by omega), if_neg (by omega), if_neg (by omega), show (4096 + 512 * h + e - 4096) / 512 = h by omega,
    show (4096 + 512 * h + e) % 512 = e by omega]

end Data

end Cert.RetMath

end
-- ==== Proof.RetHead.lean ====
/- One head of one block of the retention's gradient: the kernel's arithmetic, read over the reals. -/
module

public import proofs.«01_k».proof.Proof.Gen.RetGradIdeal.Skeleton
public import proofs.«01_k».proof.Proof.Scalars
public import proofs.«01_k».proof.Proof.RetRow

@[expose] public section

set_option maxRecDepth 16384

noncomputable section

namespace Cert.RetGradIdeal.Head

open Idealize.ShloMosaic Cert.RetGradIdeal Cert.RetGradIdeal.Gen Finset

open Cert.RetMath

/-- The same reads as reals, indexed by naturals: rows of the block, then lanes. -/
structure Reals where
  C : ℕ → ℕ → ℝ
  S : ℕ → ℕ → ℝ
  pq : ℕ → ℕ → ℝ
  pk : ℕ → ℕ → ℝ
  v : ℕ → ℕ → ℝ
  g : ℕ → ℕ → ℝ
  y : ℕ → ℕ → ℝ
  st : ℕ → ℕ → ℝ
  ds : ℕ → ℕ → ℝ
  dm : ℕ → ℕ → ℝ
  qd : ℕ → ℝ
  kd : ℕ → ℝ
  bd : ℝ
  gn : ℕ → ℝ

namespace Reals
variable (B : Reals)

def q (r : ℕ) : ℕ → ℝ := rot (B.C r) (B.S r) (B.pq r)
def kr (r : ℕ) : ℕ → ℝ := rot (B.C r) (B.S r) (B.pk r)
def k (r d : ℕ) : ℝ := B.kr r d * (1 / 16)
def sc (r l : ℕ) : ℝ := (∑ d ∈ range 256, B.q r d * B.k l d) * B.dm r l
def o (r e : ℕ) : ℝ := ∑ l ∈ range 256, B.sc r l * B.v l e + B.qd r * ∑ d ∈ range 256, B.q r d * B.st d e
def dO (r : ℕ) : ℕ → ℝ := rowO (B.o r) (B.y r) (B.g r) B.gn
def dsb (r l : ℕ) : ℝ := (∑ e ∈ range 512, B.dO r e * B.v l e) * B.dm r l
def dq (r d : ℕ) : ℝ := ∑ l ∈ range 256, B.dsb r l * B.k l d + B.qd r * ∑ e ∈ range 512, B.dO r e * B.st d e
def dk (l d : ℕ) : ℝ := ∑ r ∈ range 256, B.dsb r l * B.q r d + B.kd l * ∑ e ∈ range 512, B.v l e * B.ds d e
def dv (l e : ℕ) : ℝ := ∑ r ∈ range 256, B.sc r l * B.dO r e + ∑ d ∈ range 256, B.k l d * B.kd l * B.ds d e
def newS (d e : ℕ) : ℝ := B.ds d e * B.bd + ∑ r ∈ range 256, B.q r d * B.qd r * B.dO r e
end Reals

theorem sum_coe {n : ℕ} (f : Fin n → ℝ) : ∑ i, ((f i : ℝ) : EReal) = ((∑ i, f i : ℝ) : EReal) :=
  (map_sum (⟨⟨Real.toEReal, EReal.coe_zero⟩, EReal.coe_add⟩ : ℝ →+ EReal) f univ).symm

theorem word_512 (x : ℝ) : Ideal.div (x : EReal) (Ideal.ofBits .f32 0x44000000#32) = ((x * (1 / 512) : ℝ) : EReal) := by
  rw [show Ideal.ofBits .f32 0x44000000#32 = ((512 : ℝ) : EReal) by simp [Ideal.ofBits, Ideal.ieee, -EReal.coe_mul]; norm_num, Ideal.div_coe (by norm_num), ← EReal.coe_mul]

theorem word_16th : Ideal.ofBits .f32 0x3D800000#32 = ((1 / 16 : ℝ) : EReal) := by
  simp [Ideal.ofBits, Ideal.ieee, -EReal.coe_mul]; norm_num

theorem word_guard : Ideal.ofBits .f32 0x358637BD#32 = (eps : EReal) := by
  unfold eps; simp [Ideal.ofBits, Ideal.ieee, -EReal.coe_mul]; norm_num

theorem rsqrt_row (o : ℕ → ℝ) : Ideal.rsqrt ((var o + eps : ℝ) : EReal) = ((rst o : ℝ) : EReal) := by
  have h := var_eps_pos o
  rw [Ideal.rsqrt_coe, if_neg (not_lt.mpr h.le), if_neg h.ne', rst]

theorem sig_word (x : ℝ) : Ideal.ofBits .f32 0x3F000000#32 * Ideal.tanh (Ideal.ofBits .f32 0x3F000000#32 * (x : EReal)) + Ideal.ofBits .f32 0x3F000000#32
    = ((sgm x : ℝ) : EReal) := by
  rw [Scalars.word_half, ← EReal.coe_mul, Ideal.tanh_coe, ← EReal.coe_mul, ← EReal.coe_add, sgm_tanh]

/-- What the body reads for one head: cosines and sines, the saved state, the three projections, the decays, the group norm's gain,
the two halves of the gates and of the cotangents, and the carried gradient of the state. -/
structure Loads where
  cs : Vec Ideal S256x128 .f32
  sn : Vec Ideal S256x128 .f32
  st : Vec Ideal S1x1x1x256x512 .bf16
  pq : Vec Ideal S256x256 .bf16
  pk : Vec Ideal S256x256 .bf16
  pv : Vec Ideal S256x512 .bf16
  dm : Vec Ideal S1x256x256 .f32
  qd : Vec Ideal S1x256x1 .f32
  kd : Vec Ideal S1x256x1 .f32
  bd : Vec Ideal S1x1x128 .f32
  gn : Vec Ideal S1x512 .f32
  gT : Vec Ideal S128x512 .bf16
  gB : Vec Ideal S128x512 .bf16
  yT : Vec Ideal S128x512 .bf16
  yB : Vec Ideal S128x512 .bf16
  ds : Vec Ideal S1x256x512 .f32

/-- The arrays hold these reals. -/
structure Fits (L : Loads) (B : Reals) : Prop where
  cs : ∀ (r : Fin 256) (d : Fin 128), L.cs (ix2 r d) = ((B.C r d : ℝ) : EReal)
  sn : ∀ (r : Fin 256) (d : Fin 128), L.sn (ix2 r d) = ((B.S r d : ℝ) : EReal)
  st : ∀ (d : Fin 256) (e : Fin 512), L.st (ix5 0 0 0 d e) = ((B.st d e : ℝ) : EReal)
  pq : ∀ r d : Fin 256, L.pq (ix2 r d) = ((B.pq r d : ℝ) : EReal)
  pk : ∀ r d : Fin 256, L.pk (ix2 r d) = ((B.pk r d : ℝ) : EReal)
  pv : ∀ (r : Fin 256) (e : Fin 512), L.pv (ix2 r e) = ((B.v r e : ℝ) : EReal)
  dm : ∀ r l : Fin 256, L.dm (ix3 0 r l) = ((B.dm r l : ℝ) : EReal)
  qd : ∀ r : Fin 256, L.qd (ix3 0 r 0) = ((B.qd r : ℝ) : EReal)
  kd : ∀ r : Fin 256, L.kd (ix3 0 r 0) = ((B.kd r : ℝ) : EReal)
  bd : L.bd (ix3 0 0 0) = ((B.bd : ℝ) : EReal)
  gn : ∀ e : Fin 512, L.gn (ix2 0 e) = ((B.gn e : ℝ) : EReal)
  gT : ∀ (r : Fin 128) (e : Fin 512), L.gT (ix2 r e) = ((B.g r e : ℝ) : EReal)
  gB : ∀ (r : Fin 128) (e : Fin 512), L.gB (ix2 r e) = ((B.g (128 + r) e : ℝ) : EReal)
  yT : ∀ (r : Fin 128) (e : Fin 512), L.yT (ix2 r e) = ((B.y r e : ℝ) : EReal)
  yB : ∀ (r : Fin 128) (e : Fin 512), L.yB (ix2 r e) = ((B.y (128 + r) e : ℝ) : EReal)
  ds : ∀ (d : Fin 256) (e : Fin 512), L.ds (ix3 0 d e) = ((B.ds d e : ℝ) : EReal)

namespace Loads
variable (L : Loads)

def q : FVec Ideal S256x256 .f32 := k0_pay8 L.cs L.sn L.pq
def k : FVec Ideal S256x256 .f32 := k0_pay9 L.cs L.sn L.pk
def s : FVec Ideal S256x512 .bf16 := k0_pay7 L.st
def o : FVec Ideal S256x512 .f32 := k0_pay15 L.s L.q L.k L.pv L.dm L.qd
def ocT : FVec Ideal S128x512 .f32 := k0_pay18 L.s L.q L.k L.pv L.dm L.qd
def rT : FVec Ideal S128x1 .f32 := k0_pay19 L.s L.q L.k L.pv L.dm L.qd
def rTb : FVec Ideal S128x512 .f32 := k0_pay20 L.s L.q L.k L.pv L.dm L.qd
def gain : FVec Ideal S1x512 .f32 := k0_pay16 L.gn
def gate : FVec Ideal S128x512 .f32 := k0_pay17 L.gT
def doT : FVec Ideal S128x512 .f32 := k0_pay26 L.gain L.gate L.ocT L.rT L.rTb L.yT
def dO : FVec Ideal S256x512 .bf16 :=
  k0_pay42 L.gain (k0_pay30 L.doT) (k0_pay33 L.o) (k0_pay34 L.o) (k0_pay35 L.yB) (k0_pay37 L.gB)
def dsb : FVec Ideal S256x256 .bf16 :=
  k0_pay43 (k0_pay11 L.pv) L.gain (k0_pay30 L.doT) (k0_pay33 L.o) (k0_pay34 L.o) (k0_pay35 L.yB) (k0_pay37 L.gB) L.dm
def outQ : FVec Ideal S256x256 .bf16 :=
  k0_pay52 (k0_pay5 L.cs) (k0_pay6 L.sn) (k0_pay46 L.s (k0_pay13 L.k) L.dO L.dsb L.qd)
def outK : FVec Ideal S256x256 .bf16 :=
  k0_pay53 (k0_pay5 L.cs) (k0_pay6 L.sn) (k0_pay47 (k0_pay11 L.pv) (k0_pay12 L.q) L.dsb L.ds L.kd)
def outV : FVec Ideal S256x512 .bf16 := k0_pay54 (k0_pay48 (k0_pay10 L.k) (k0_pay14 L.q L.k L.dm) L.dO L.ds L.kd)
def outGT : FVec Ideal S128x512 .bf16 := k0_pay29 L.gate (k0_pay23 L.gate) (k0_pay27 L.gain L.ocT L.rTb L.yT) (k0_pay28 L.gate)
def outGB : FVec Ideal S128x512 .bf16 := k0_pay41 L.gain (k0_pay31 L.gB) (k0_pay34 L.o) (k0_pay35 L.yB) (k0_pay36 L.gB)
def addT (a : Vec Ideal S1x512 .f32) : FVec Ideal S1x512 .f32 := k0_pay25 L.gate L.ocT L.rTb L.yT a
def addB (a : Vec Ideal S1x512 .f32) : FVec Ideal S1x512 .f32 := k0_pay40 (k0_pay34 L.o) (k0_pay38 a) (k0_pay39 L.gB L.yB)
def newS : FVec Ideal S1x256x512 .f32 :=
  k0_pay51 L.dO (k0_pay49 L.ds L.bd) (k0_pay50 L.q L.qd) (constant S256x512 .f32 0x00000000#32)

variable {L} {B : Reals} (h : Fits L B)
include h

theorem cs_at (r : Fin 256) (d : Fin 128) : k0_pay5 L.cs (ix2 r d) = ((B.C r d : ℝ) : EReal) := by
  pointwise [k0_pay5]
  exact h.cs r d

theorem sn_at (r : Fin 256) (d : Fin 128) : k0_pay6 L.sn (ix2 r d) = ((B.S r d : ℝ) : EReal) := by
  pointwise [k0_pay6]
  exact h.sn r d

theorem s_at (d : Fin 256) (e : Fin 512) : L.s (ix2 d e) = ((B.st d e : ℝ) : EReal) := by
  unfold s
  pointwise [k0_pay7]
  exact h.st d e

theorem q_at (r d : Fin 256) : L.q (ix2 r d) = ((B.q r d : ℝ) : EReal) := by
  unfold q
  pointwise [k0_pay8]
  simp only [h.pq, cs_at h, sn_at h, ← EReal.coe_mul, ← EReal.coe_sub, ← EReal.coe_add, Reals.q, rot, apply_ite Real.toEReal, dite_eq_ite]

theorem k_at (r d : Fin 256) : L.k (ix2 r d) = ((B.kr r d : ℝ) : EReal) := by
  unfold k
  pointwise [k0_pay9]
  simp only [h.pk, cs_at h, sn_at h, ← EReal.coe_mul, ← EReal.coe_sub, ← EReal.coe_add, Reals.kr, rot, apply_ite Real.toEReal, dite_eq_ite]

theorem k16_at (r d : Fin 256) : k0_pay10 L.k (ix2 r d) = ((B.k r d : ℝ) : EReal) := by
  pointwise [k0_pay10]
  simp only [k_at h, word_16th, ← EReal.coe_mul, Reals.k]

theorem sc_at (r l : Fin 256) : k0_pay14 L.q L.k L.dm (ix2 r l) = ((B.sc r l : ℝ) : EReal) := by
  pointwise [k0_pay14, k0_pay12, k0_pay13]
  simp only [q_at h, k16_at h, h.dm, ← EReal.coe_mul, sum_coe, Reals.sc, Finset.sum_range]

theorem o_at (r : Fin 256) (e : Fin 512) : L.o (ix2 r e) = ((B.o r e : ℝ) : EReal) := by
  unfold o
  pointwise [k0_pay15, k0_pay11, k0_pay12]
  simp only [q_at h, sc_at h, h.pv, h.qd, s_at h, ← EReal.coe_mul, ← EReal.coe_add, sum_coe, Reals.o, Finset.sum_range]

theorem gain_at (e : Fin 512) : L.gain (ix2 0 e) = ((B.gn e : ℝ) : EReal) := by
  unfold gain
  pointwise [k0_pay16]
  exact h.gn e

theorem gate_at (r : Fin 128) (e : Fin 512) : L.gate (ix2 r e) = ((B.g r e : ℝ) : EReal) := by
  unfold gate
  pointwise [k0_pay17]
  exact h.gT r e

theorem ocT_at (r : Fin 128) (e : Fin 512) : L.ocT (ix2 r e) = ((cen (B.o r) e : ℝ) : EReal) := by
  unfold ocT
  pointwise [k0_pay18]
  show L.o _ - Ideal.div (∑ x : Fin 512, L.o _) _ = _
  simp only [o_at h, sum_coe, word_512, ← EReal.coe_sub, cen, mean, Finset.sum_range]

theorem rT_at (r : Fin 128) : L.rT (ix2 r 0) = ((rst (B.o r) : ℝ) : EReal) := by
  unfold rT
  pointwise [k0_pay19]
  show Ideal.rsqrt (Ideal.div (∑ x : Fin 512, L.ocT _ * L.ocT _) _ + _) = _
  simp only [ocT_at h, sum_coe, word_512, ← EReal.coe_mul, word_guard, ← EReal.coe_add]
  rw [← rsqrt_row]
  simp only [var, mean, Finset.sum_range]

theorem rTb_at (r : Fin 128) (e : Fin 512) : L.rTb (ix2 r e) = ((rst (B.o r) : ℝ) : EReal) := by
  unfold rTb
  pointwise [k0_pay20]
  exact rT_at h r

theorem sig_at (r : Fin 128) (e : Fin 512) : k0_pay23 L.gate (ix2 r e) = ((sgm (B.g r e) : ℝ) : EReal) := by
  pointwise [k0_pay23]
  simp only [gate_at h, sig_word]

theorem yT_at (r : Fin 128) (e : Fin 512) : k0_pay22 L.yT (ix2 r e) = ((B.y r e : ℝ) : EReal) := by
  pointwise [k0_pay22]
  exact h.yT r e

theorem doT_at (r : Fin 128) (e : Fin 512) : L.doT (ix2 r e) = ((B.dO r e : ℝ) : EReal) := by
  unfold doT
  pointwise [k0_pay26, k0_pay24, k0_pay21]
  simp only [yT_at h, gate_at h, sig_at h, gain_at h, ocT_at h, rTb_at h, rT_at h, ← EReal.coe_mul, ← EReal.coe_sub, sum_coe, word_512, Reals.dO, rowO, mean, dxh, xh, Finset.sum_range]

theorem outGT_at (r : Fin 128) (e : Fin 512) : L.outGT (ix2 r e) = ((rowG (B.o r) (B.y r) (B.g r) B.gn e : ℝ) : EReal) := by
  unfold outGT
  pointwise [k0_pay29, k0_pay27, k0_pay28, k0_pay21]
  simp only [yT_at h, gate_at h, sig_at h, gain_at h, ocT_at h, rTb_at h, ← EReal.coe_mul, ← EReal.coe_sub, ← EReal.coe_add, ← EReal.coe_one, rowG, xh]

theorem addT_at (a : Vec Ideal S1x512 .f32) (e : Fin 512) :
    L.addT a (ix2 0 e) = a (ix2 0 e) + ((∑ r ∈ range 128, rowGn (B.o r) (B.y r) (B.g r) e : ℝ) : EReal) := by
  unfold addT
  pointwise [k0_pay25, k0_pay24, k0_pay21]
  simp only [yT_at h, gate_at h, sig_at h, ocT_at h, rTb_at h, ← EReal.coe_mul, sum_coe, rowGn, xh, Finset.sum_range]

/-! The lower half. -/

theorem ocB_at (r : Fin 128) (e : Fin 512) : k0_pay32 L.o (ix2 r e) = ((cen (B.o (128 + r)) e : ℝ) : EReal) := by
  pointwise [k0_pay32]
  simp only [o_at h, sum_coe, word_512, ← EReal.coe_sub, cen, mean, Finset.sum_range]

theorem rB_at (r : Fin 128) : k0_pay33 L.o (ix2 r 0) = ((rst (B.o (128 + r)) : ℝ) : EReal) := by
  pointwise [k0_pay33]
  simp only [ocB_at h, sum_coe, word_512, ← EReal.coe_mul, word_guard, ← EReal.coe_add]
  rw [← rsqrt_row]
  simp only [var, mean, Finset.sum_range]

theorem xB_at (r : Fin 128) (e : Fin 512) : k0_pay34 L.o (ix2 r e) = ((xh (B.o (128 + r)) e : ℝ) : EReal) := by
  pointwise [k0_pay34]
  simp only [ocB_at h, rB_at h, ← EReal.coe_mul, xh]

theorem yB_at (r : Fin 128) (e : Fin 512) : k0_pay35 L.yB (ix2 r e) = ((B.y (128 + r) e : ℝ) : EReal) := by
  pointwise [k0_pay35]
  exact h.yB r e

theorem gB_at (r : Fin 128) (e : Fin 512) : k0_pay31 L.gB (ix2 r e) = ((B.g (128 + r) e : ℝ) : EReal) := by
  pointwise [k0_pay31]
  exact h.gB r e

theorem sigB_at (r : Fin 128) (e : Fin 512) : k0_pay36 L.gB (ix2 r e) = ((sgm (B.g (128 + r) e) : ℝ) : EReal) := by
  pointwise [k0_pay36]
  simp only [gB_at h, sig_word]

theorem siluB_at (r : Fin 128) (e : Fin 512) : k0_pay37 L.gB (ix2 r e) = ((B.g (128 + r) e * sgm (B.g (128 + r) e) : ℝ) : EReal) := by
  pointwise [k0_pay37]
  simp only [gB_at h, sigB_at h, ← EReal.coe_mul]

theorem dO_at (r : Fin 256) (e : Fin 512) : L.dO (ix2 r e) = ((B.dO r e : ℝ) : EReal) := by
  unfold dO
  pointwise [k0_pay42, k0_pay30]
  by_cases hr : (r : ℕ) < 128
  · rw [dif_pos hr]
    exact doT_at h ⟨r, hr⟩ e
  · rw [dif_neg hr]
    have e1 : 128 + ((r : ℕ) - 128) = r := by omega
    simp only [yB_at h, siluB_at h, gain_at h, xB_at h, rB_at h, ← EReal.coe_mul, ← EReal.coe_sub, sum_coe, word_512, Reals.dO, rowO, mean, dxh, Finset.sum_range, e1]

theorem outGB_at (r : Fin 128) (e : Fin 512) :
    L.outGB (ix2 r e) = ((rowG (B.o (128 + r)) (B.y (128 + r)) (B.g (128 + r)) B.gn e : ℝ) : EReal) := by
  unfold outGB
  pointwise [k0_pay41]
  simp only [yB_at h, gB_at h, sigB_at h, gain_at h, xB_at h, ← EReal.coe_mul, ← EReal.coe_sub, ← EReal.coe_add, ← EReal.coe_one, rowG]

theorem addB_at (a : Vec Ideal S1x512 .f32) (e : Fin 512) :
    L.addB a (ix2 0 e) = a (ix2 0 e) + ((∑ r ∈ range 128, rowGn (B.o (128 + r)) (B.y (128 + r)) (B.g (128 + r)) e : ℝ) : EReal) := by
  unfold addB
  pointwise [k0_pay40, k0_pay38, k0_pay39]
  simp only [yB_at h, siluB_at h, xB_at h, ← EReal.coe_mul, sum_coe, rowGn, Finset.sum_range]

theorem dsb_at (r l : Fin 256) : L.dsb (ix2 r l) = ((B.dsb r l : ℝ) : EReal) := by
  unfold dsb
  pointwise [k0_pay43, k0_pay11]
  show (∑ x : Fin 512, L.dO _ * _) * _ = _
  simp only [dO_at h, h.pv, h.dm, ← EReal.coe_mul, sum_coe, Reals.dsb, Finset.sum_range]

theorem dq_at (r d : Fin 256) : k0_pay46 L.s (k0_pay13 L.k) L.dO L.dsb L.qd (ix2 r d) = ((B.dq r d : ℝ) : EReal) := by
  pointwise [k0_pay46, k0_pay13]
  simp only [dO_at h, dsb_at h, s_at h, k16_at h, h.qd, ← EReal.coe_mul, ← EReal.coe_add, sum_coe, Reals.dq, Finset.sum_range]

theorem ds_at (d : Fin 256) (e : Fin 512) : k0_pay45 L.ds (ix2 d e) = ((B.ds d e : ℝ) : EReal) := by
  pointwise [k0_pay45, k0_pay44]
  exact h.ds d e

theorem dk_at (l d : Fin 256) : k0_pay47 (k0_pay11 L.pv) (k0_pay12 L.q) L.dsb L.ds L.kd (ix2 l d) = ((B.dk l d : ℝ) : EReal) := by
  pointwise [k0_pay47, k0_pay11, k0_pay12]
  simp only [q_at h, dsb_at h, ds_at h, h.pv, h.kd, ← EReal.coe_mul, ← EReal.coe_add, sum_coe, Reals.dk, Finset.sum_range]

theorem outV_at (l : Fin 256) (e : Fin 512) : L.outV (ix2 l e) = ((B.dv l e : ℝ) : EReal) := by
  unfold outV
  pointwise [k0_pay54, k0_pay48]
  simp only [sc_at h, dO_at h, k16_at h, ds_at h, h.kd, ← EReal.coe_mul, ← EReal.coe_add, sum_coe, Reals.dv, Finset.sum_range]

theorem outQ_at (r d : Fin 256) : L.outQ (ix2 r d) = ((unrot (B.C r) (B.S r) (B.dq r) d : ℝ) : EReal) := by
  unfold outQ
  pointwise [k0_pay52]
  simp only [dq_at h, cs_at h, sn_at h, ← EReal.coe_mul, ← EReal.coe_sub, ← EReal.coe_add, unrot, apply_ite Real.toEReal, dite_eq_ite]

theorem outK_at (r d : Fin 256) : L.outK (ix2 r d) = ((unrot (B.C r) (B.S r) (B.dk r) d * (1 / 16) : ℝ) : EReal) := by
  unfold outK
  pointwise [k0_pay53]
  rw [EReal.coe_mul, word_16th]
  congr 1
  simp only [dk_at h, cs_at h, sn_at h, ← EReal.coe_mul, ← EReal.coe_sub, ← EReal.coe_add, unrot, apply_ite Real.toEReal, dite_eq_ite]

theorem newS_at (d : Fin 256) (e : Fin 512) : L.newS (ix3 0 d e) = ((B.newS d e : ℝ) : EReal) := by
  unfold newS
  pointwise [k0_pay51, k0_pay49, k0_pay50, k0_pay44]
  simp only [h.ds, h.bd, h.qd, q_at h, dO_at h, ← EReal.coe_mul, ← EReal.coe_add, sum_coe, Reals.newS, Finset.sum_range]

end Loads

end Cert.RetGradIdeal.Head

end
-- ==== Proof.RetSpec.lean ====
/- Sixteen blocks of 256 positions: the carried state and the carried gradient of it, and that a block's arithmetic gives the closed form. -/
module

public import proofs.«01_k».proof.Proof.RetData
public import proofs.«01_k».proof.Proof.RetHead

@[expose] public section

noncomputable section

namespace Cert.RetMath.Data

open Finset Cert.RetGradIdeal.Head

variable (D : Data) (b h : ℕ)

/-- The state before block `i`. -/
def ST : ℕ → ℕ → ℕ → ℝ
  | 0, _, _ => 0
  | i + 1, d, e => ST i d e * Real.exp (D.lg h * 256)
    + ∑ l ∈ range 256, D.K b h (i * 256 + l) d * Real.exp (D.lg h * (255 - l)) * D.V b h (i * 256 + l) e

/-- One block of one head, with the gradient carried from the blocks behind it. -/
def blk (i : ℕ) (ds : ℕ → ℕ → ℝ) : Reals where
  C r := D.C (i * 256 + r)
  S r := D.S (i * 256 + r)
  pq r d := D.p b (i * 256 + r) (256 * h + d)
  pk r d := D.p b (i * 256 + r) (1024 + 256 * h + d)
  v r e := D.V b h (i * 256 + r) e
  g r e := D.G b h (i * 256 + r) e
  y r e := D.Y b h (i * 256 + r) e
  st := D.ST b h i
  ds := ds
  dm r l := decay (D.lg h) r l
  qd r := Real.exp (D.lg h * (r + 1))
  kd l := Real.exp (D.lg h * (255 - l))
  bd := Real.exp (D.lg h * 256)
  gn := D.Gn h

/-- The gradient carried into the block `j` from the end. -/
def DS : ℕ → ℕ → ℕ → ℝ
  | 0, _, _ => 0
  | j + 1, d, e => (D.blk b h (15 - j) (DS j)).newS d e

variable {D b h} {i : ℕ} {ds : ℕ → ℕ → ℝ}

theorem blk_decay (r l : ℕ) : decay (D.lg h) (i * 256 + r) (i * 256 + l) = decay (D.lg h) r l := by
  rw [show i * 256 = 64 * (4 * i) by ring, decay_shift]

theorem blk_o (hi : i < 16) {r : ℕ} (hr : r < 256) (e : ℕ) : (D.blk b h i ds).o r e = D.O b h (i * 256 + r) e := by
  have key := forward (D.lg h) 4 16 i r hi hr (fun t (d : Fin 256) => D.Q b h t d) (fun t d => D.K b h t d) (fun t => D.V b h t e)
    (fun i d => D.ST b h i d e) (fun d => rfl) (fun i d => by simp only [ST, Nat.reduceMul, Nat.cast_ofNat]; norm_num)
  simp only [Nat.reduceMul, blk_decay] at key
  rw [show D.O b h (i * 256 + r) e = _ from (sum_congr rfl fun t _ => by rw [sum_range (n := 256)]).trans key.symm]
  simp only [Reals.o, Reals.sc]
  rw [mul_comm ((D.blk b h i ds).qd r)]
  refine congrArg₂ _ (sum_congr rfl fun l _ => by rw [sum_range (n := 256)]; rfl) ?_
  rw [sum_range (n := 256)]; rfl

theorem blk_do (hi : i < 16) {r : ℕ} (hr : r < 256) : (D.blk b h i ds).dO r = D.DO b h (i * 256 + r) := by
  have e : (D.blk b h i ds).o r = D.O b h (i * 256 + r) := funext fun e => blk_o hi hr e
  simp only [Reals.dO, DO, e]
  rfl

theorem blk_dq (hi : i < 16) {r : ℕ} (hr : r < 256) (d : ℕ) : (D.blk b h i ds).dq r d = D.DQ b h (i * 256 + r) d := by
  have key := forward (D.lg h) 4 16 i r hi hr (fun t (e : Fin 512) => D.DO b h t e) (fun t e => D.V b h t e) (fun t => D.K b h t d)
    (fun i e => D.ST b h i d e) (fun d => rfl) (fun i e => by
      simp only [ST, Nat.reduceMul, Nat.cast_ofNat]
      congr 1
      refine sum_congr rfl fun l _ => ?_
      norm_num; ring)
  simp only [Nat.reduceMul, blk_decay] at key
  simp only [DQ, Reals.dq, Reals.dsb, blk_do hi hr, sum_range (n := 512)]
  rw [← key, mul_comm (D.blk b h i ds |>.qd r)]
  rfl

theorem DS_step (j : ℕ) (hj : j < 16) (d e : ℕ) : D.DS b h (j + 1) d e
    = D.DS b h j d e * Real.exp (D.lg h * 256)
      + ∑ l ∈ range 256, D.Q b h ((15 - j) * 256 + l) d * Real.exp (D.lg h * (l + 1)) * D.DO b h ((15 - j) * 256 + l) e := by
  rw [DS, Reals.newS]
  congr 1
  refine sum_congr rfl fun l hl => ?_
  rw [blk_do (by omega) (mem_range.mp hl)]
  rfl

theorem blk_dk (hi : i < 16) {l : ℕ} (hl : l < 256) (d : ℕ) : (D.blk b h i (D.DS b h (15 - i))).dk l d = D.DK b h (i * 256 + l) d := by
  have key := backward (D.lg h) 4 16 i l hi hl (fun t (e : Fin 512) => D.DO b h t e) (fun t e => D.V b h t e) (fun t => D.Q b h t d)
    (fun j e => D.DS b h j d e) (fun d => rfl) (fun j hj e => by
      simp only [DS_step j hj, Nat.reduceMul, Nat.cast_ofNat, Nat.reduceSub]
      congr 1
      refine sum_congr rfl fun l _ => ?_
      ring)
  simp only [Nat.reduceMul, blk_decay, Nat.reduceSub] at key
  simp only [DK, Reals.dk, Reals.dsb, sum_range (n := 512)]
  rw [← key, mul_comm (D.blk b h i _ |>.kd l)]
  refine congrArg₂ _ (sum_congr rfl fun r hr => ?_) ?_
  · rw [blk_do hi (mem_range.mp hr)]; rfl
  · norm_num; rfl

theorem blk_dv (hi : i < 16) {l : ℕ} (hl : l < 256) (e : ℕ) : (D.blk b h i (D.DS b h (15 - i))).dv l e = D.DV b h (i * 256 + l) e := by
  have key := backward (D.lg h) 4 16 i l hi hl (fun t (d : Fin 256) => D.Q b h t d) (fun t d => D.K b h t d) (fun t => D.DO b h t e)
    (fun j d => D.DS b h j d e) (fun d => rfl) (fun j hj d => by
      simp only [DS_step j hj, Nat.reduceMul, Nat.cast_ofNat, Nat.reduceSub])
  simp only [Nat.reduceMul, blk_decay, Nat.reduceSub] at key
  simp only [DV, Reals.dv, Reals.sc]
  rw [show (∑ t ∈ range 4096, (∑ d ∈ range 256, D.Q b h t d * D.K b h (i * 256 + l) d) * decay (D.lg h) t (i * 256 + l) * D.DO b h t e) = _ from
    (sum_congr rfl fun t _ => by rw [sum_range (n := 256)]).trans key.symm]
  refine congrArg₂ _ (sum_congr rfl fun r hr => ?_) ?_
  · rw [blk_do hi (mem_range.mp hr), sum_range (n := 256)]; rfl
  · rw [sum_range, sum_mul]
    refine sum_congr rfl fun d _ => ?_
    show D.K b h (i * 256 + l) d * Real.exp (D.lg h * (255 - l)) * D.DS b h (15 - i) d e = _
    norm_num; ring

end Cert.RetMath.Data

end
-- ==== Proof.RetWords.lean ====
/- The retention's constants over the reals: the heads' decay rates, the angles of the positions, and the arguments as real arrays. -/
module

public import proofs.«01_k».proof.Proof.RetData
public import Idealize.ShloMosaic.Lib.Pointwise

@[expose] public section

noncomputable section

namespace Cert.RetMath

open Idealize.ShloMosaic Finset

theorem iota_word {n : ℕ} (h : n < 2 ^ 31) : (FloatOps.sitofp FTy.f32 (BitVec.ofNat 32 n) : Ideal .f32) = ((n : ℝ) : EReal) := by
  show (((BitVec.ofNat 32 n).toInt : ℝ) : EReal) = _
  have e : (BitVec.ofNat 32 n).toInt = (n : ℤ) := by
    rw [BitVec.toInt_eq_toNat_cond, BitVec.toNat_ofNat, Nat.mod_eq_of_lt (by omega), if_pos (by omega)]
  rw [e]; norm_cast

/-- The factor that turns a power of two into an exponential, the rational of its float word. -/
def ln2 : ℝ := 11629080 / 16777216

theorem word_ln2 : Ideal.ofBits .f32 0x3F317218#32 = (ln2 : EReal) := by
  unfold ln2; simp [Ideal.ofBits, Ideal.ieee, -EReal.coe_mul]; norm_num

theorem word_neg5 : Ideal.ofBits .f32 0xC0A00000#32 = ((-5 : ℝ) : EReal) := by
  simp [Ideal.ofBits, Ideal.ieee, -EReal.coe_mul]; norm_num

theorem word_64 : Ideal.ofBits .f32 0x42800000#32 = ((64 : ℝ) : EReal) := by
  simp [Ideal.ofBits, Ideal.ieee, -EReal.coe_mul]; norm_num

theorem word_63 : Ideal.ofBits .f32 0x427C0000#32 = ((63 : ℝ) : EReal) := by
  simp [Ideal.ofBits, Ideal.ieee, -EReal.coe_mul]; norm_num

theorem word_128 : Ideal.ofBits .f32 0x43000000#32 = ((128 : ℝ) : EReal) := by
  simp [Ideal.ofBits, Ideal.ieee, -EReal.coe_mul]; norm_num

theorem word_255 : Ideal.ofBits .f32 0x437F0000#32 = ((255 : ℝ) : EReal) := by
  simp [Ideal.ofBits, Ideal.ieee, -EReal.coe_mul]; norm_num

theorem word_256 : Ideal.ofBits .f32 0x43800000#32 = ((256 : ℝ) : EReal) := by
  simp [Ideal.ofBits, Ideal.ieee, -EReal.coe_mul]; norm_num

theorem word_base : Ideal.ofBits .f32 0x461C4000#32 = ((10000 : ℝ) : EReal) := by
  simp [Ideal.ofBits, Ideal.ieee, -EReal.coe_mul]; norm_num

/-- The decay rate of a head. -/
def rate (h : ℕ) : ℝ := Real.log (1 + -Real.exp (ln2 * (-5 - h)))

theorem rate_word (h : ℕ) :
    Ideal.log1p (-Ideal.exp (Ideal.ofBits .f32 0x3F317218#32 * (Ideal.ofBits .f32 0xC0A00000#32 - ((h : ℝ) : EReal)))) = ((rate h : ℝ) : EReal) := by
  have hp : 0 < 1 + -Real.exp (ln2 * (-5 - h)) := by
    have : Real.exp (ln2 * (-5 - h)) < 1 := by
      rw [Real.exp_lt_one_iff]
      have : (0 : ℝ) ≤ h := Nat.cast_nonneg h
      unfold ln2
      nlinarith
    linarith
  rw [word_ln2, word_neg5, ← EReal.coe_sub, ← EReal.coe_mul, Ideal.exp_coe, ← EReal.coe_neg, Ideal.log1p, ← EReal.coe_one, ← EReal.coe_add, Ideal.log_coe,
    if_neg (not_le.mpr hp), rate]

/-- The angle of a lane at a position. -/
def ang (s d : ℕ) : ℝ := s * Real.exp (-Real.log 10000 * d * (1 / 128))

theorem div_word_64 (x : ℝ) : Ideal.div (x : EReal) (Ideal.ofBits .f32 0x42800000#32) = ((x * (1 / 64) : ℝ) : EReal) := by
  rw [word_64, Ideal.div_coe (by norm_num), ← EReal.coe_mul]

theorem floor_64 (n : ℕ) : Ideal.liftRound Int.floor (Ideal.div (((n : ℝ) : EReal)) (Ideal.ofBits .f32 0x42800000#32)) = (((n / 64 : ℕ) : ℝ) : EReal) := by
  rw [div_word_64]
  show (((⌊(n : ℝ) * (1 / 64)⌋ : ℤ) : ℝ) : EReal) = _
  congr 1
  have e : ⌊(n : ℝ) * (1 / 64)⌋ = ((n / 64 : ℕ) : ℤ) := by
    have h1 : (n : ℝ) = 64 * ((n / 64 : ℕ) : ℝ) + ((n % 64 : ℕ) : ℝ) := by exact_mod_cast (Nat.div_add_mod n 64).symm
    have h2 : ((n % 64 : ℕ) : ℝ) < 64 := by exact_mod_cast Nat.mod_lt n (by norm_num)
    have h3 : (0 : ℝ) ≤ ((n % 64 : ℕ) : ℝ) := Nat.cast_nonneg _
    rw [Int.floor_eq_iff, Int.cast_natCast]
    constructor <;> linarith
  rw [e]; norm_cast

theorem ang_word (s d : ℕ) :
    ((s : ℝ) : EReal) * Ideal.exp (Ideal.div (-Ideal.log (Ideal.ofBits .f32 0x461C4000#32) * ((d : ℝ) : EReal)) (Ideal.ofBits .f32 0x43000000#32))
      = ((ang s d : ℝ) : EReal) := by
  rw [word_base, word_128, Ideal.log_coe, if_neg (by norm_num), ← EReal.coe_neg, ← EReal.coe_mul, Ideal.div_coe (by norm_num), ← EReal.coe_mul, Ideal.exp_coe,
    ← EReal.coe_mul, ang]

/-- The arrays of a launch as real data. -/
def data (p : (⟨3, ![2, 4096, 6144]⟩ : Shape).Idx → EReal) (g : (⟨1, ![2048]⟩ : Shape).Idx → EReal) (y : (⟨3, ![2, 4096, 2048]⟩ : Shape).Idx → EReal) : Data where
  p b s n := if h : b < 2 ∧ s < 4096 ∧ n < 6144 then (p (ix3 ⟨b, h.1⟩ ⟨s, h.2.1⟩ ⟨n, h.2.2⟩)).toReal else 0
  y b s n := if h : b < 2 ∧ s < 4096 ∧ n < 2048 then (y (ix3 ⟨b, h.1⟩ ⟨s, h.2.1⟩ ⟨n, h.2.2⟩)).toReal else 0
  gn n := if h : n < 2048 then (g (ix1 ⟨n, h⟩)).toReal else 0
  C s d := Real.cos (ang s d)
  S s d := Real.sin (ang s d)
  lg := rate

/-- Every entry is a real number. -/
structure Real3 (p : (⟨3, ![2, 4096, 6144]⟩ : Shape).Idx → EReal) (g : (⟨1, ![2048]⟩ : Shape).Idx → EReal) (y : (⟨3, ![2, 4096, 2048]⟩ : Shape).Idx → EReal) : Prop where
  p : ∀ i, p i ≠ ⊥ ∧ p i ≠ ⊤
  g : ∀ i, g i ≠ ⊥ ∧ g i ≠ ⊤
  y : ∀ i, y i ≠ ⊥ ∧ y i ≠ ⊤

variable {p : (⟨3, ![2, 4096, 6144]⟩ : Shape).Idx → EReal} {g : (⟨1, ![2048]⟩ : Shape).Idx → EReal} {y : (⟨3, ![2, 4096, 2048]⟩ : Shape).Idx → EReal}

theorem p_at (H : Real3 p g y) (b : Fin 2) (s : Fin 4096) (n : Fin 6144) : p (ix3 b s n) = (((data p g y).p b s n : ℝ) : EReal) := by
  show _ = ((dite _ _ _ : ℝ) : EReal)
  rw [dif_pos ⟨b.isLt, s.isLt, n.isLt⟩]
  exact (EReal.coe_toReal (H.p _).2 (H.p _).1).symm

theorem y_at (H : Real3 p g y) (b : Fin 2) (s : Fin 4096) (n : Fin 2048) : y (ix3 b s n) = (((data p g y).y b s n : ℝ) : EReal) := by
  show _ = ((dite _ _ _ : ℝ) : EReal)
  rw [dif_pos ⟨b.isLt, s.isLt, n.isLt⟩]
  exact (EReal.coe_toReal (H.y _).2 (H.y _).1).symm

theorem g_at (H : Real3 p g y) (n : Fin 2048) : g (ix1 n) = (((data p g y).gn n : ℝ) : EReal) := by
  show _ = ((dite _ _ _ : ℝ) : EReal)
  rw [dif_pos n.isLt]
  exact (EReal.coe_toReal (H.g _).2 (H.g _).1).symm

end Cert.RetMath

end
-- ==== Proof.RetWin.lean ====
/- What the launch of the retention's gradient finds in its windows' arrays: the host code's values, entry by entry. -/
module
public import proofs.«01_k».proof.Proof.RetSpec
public import proofs.«01_k».proof.Proof.RetWords
public import proofs.«01_k».proof.Proof.Gen.RetGradIdeal.Value
public import Idealize.ShloMosaic.Lib.StableHlo.RunRead
public import Idealize.ShloMosaic.Lib.Pipeline.Frame
public import Idealize.ShloMosaic.Lib.Pipeline.ValueKit
public import Idealize.ShloMosaic.Lib.Pointwise
public import Idealize.ShloMosaic.Lib.Claim
@[expose] public section
set_option maxRecDepth 16384
noncomputable section
namespace Cert.RetGradIdeal.Win
open Idealize.ShloMosaic Idealize.SL.Sem Cert.RetGradIdeal Cert.RetGradIdeal.Gen Cert.RetMath Idealize.ShloMosaic.StableHlo
variable (m : (ℓ : Loc nD τ sig) → Buf (Elt Ideal) ℓ) (c : Dev nD)

abbrev A0 : (⟨3, ![2, 4096, 6144]⟩ : Shape).Idx → EReal := m ((c.tc : Thread nD τ).loc main_arg0)
abbrev A1 : (⟨1, ![2048]⟩ : Shape).Idx → EReal := m ((c.tc : Thread nD τ).loc main_arg1)
abbrev A2 : (⟨3, ![2, 4096, 2048]⟩ : Shape).Idx → EReal := m ((c.tc : Thread nD τ).loc main_arg2)
abbrev Dt : Data := data (A0 m c) (A1 m c) (A2 m c)
abbrev Rl : Prop := Real3 (A0 m c) (A1 m c) (A2 m c)

/-- The host code up to what each block adds to the state. -/
def pre : Valuation τ sig (Elt Ideal) := after (List.flatten [hostOps0, hostOps0_1, hostOps0_2, hostOps0_3, hostOps0_4.take 82]) fun b => m (c, b)

theorem cos_at (s : Fin 4096) (d : Fin 128) : V m c main_v81 (ix2 s d) = (((Dt m c).C s d : ℝ) : EReal) := by
  unfold V
  simp only [List.flatten_cons, List.flatten_nil, List.append_nil]
  after_reads_simp
  pointwise
  rw [iota_word (by omega), iota_word (by omega)]
  exact congrArg Ideal.cos (ang_word s d)

theorem sin_at (s : Fin 4096) (d : Fin 128) : V m c main_v82 (ix2 s d) = (((Dt m c).S s d : ℝ) : EReal) := by
  unfold V
  simp only [List.flatten_cons, List.flatten_nil, List.append_nil]
  after_reads_simp
  pointwise
  rw [iota_word (by omega), iota_word (by omega)]
  exact congrArg Ideal.sin (ang_word s d)

theorem qd_at (h : Fin 4) (r : Fin 256) : V m c main_v49 (ix3 h r 0) = ((Real.exp (rate h * (r + 1)) : ℝ) : EReal) := by
  unfold V
  simp only [List.flatten_cons, List.flatten_nil, List.append_nil]
  after_reads_simp
  pointwise
  rw [iota_word (by omega), iota_word (by omega), rate_word, ← EReal.coe_one, ← EReal.coe_add, ← EReal.coe_mul, Ideal.exp_coe]

theorem kd_at (h : Fin 4) (r : Fin 256) : V m c main_v58 (ix3 h r 0) = ((Real.exp (rate h * (255 - r)) : ℝ) : EReal) := by
  unfold V
  simp only [List.flatten_cons, List.flatten_nil, List.append_nil]
  after_reads_simp
  pointwise
  rw [iota_word (by omega), iota_word (by omega), rate_word, word_255, ← EReal.coe_sub, ← EReal.coe_mul, Ideal.exp_coe]

theorem bd_at (h : Fin 4) (r : Fin 128) : V m c main_v65 (ix3 h 0 r) = ((Real.exp (rate h * 256) : ℝ) : EReal) := by
  unfold V
  simp only [List.flatten_cons, List.flatten_nil, List.append_nil]
  after_reads_simp
  pointwise
  rw [iota_word (by omega), rate_word, word_256, ← EReal.coe_mul, Ideal.exp_coe]

theorem dm_at (h : Fin 4) (r l : Fin 256) : V m c main_v40 (ix3 h r l) = ((decay (rate h) r l : ℝ) : EReal) := by
  unfold V
  simp only [List.flatten_cons, List.flatten_nil, List.append_nil]
  after_reads_simp
  simp -implicitDefEqProofs only [TRef.toBuf, TRef.ofBuf, cast_cast, cast_eq]
  pointwise
  rw [iota_word (by omega), iota_word (by omega), iota_word (by omega), rate_word, floor_64, floor_64]
  have z : (id (constant (F := Ideal) S_ FTy.f32 0#32) ix0 : EReal) = ((0 : ℝ) : EReal) := by
    show Ideal.ofBits .f32 0#32 = _
    norm_num
  have ab : (FloatOps.absf (F := Ideal) (φ := .f32) (((((r : ℕ) : ℝ) : EReal)) - ((((l : ℕ) : ℝ) : EReal)) : EReal) : EReal) = ((|((r : ℕ) : ℝ) - ((l : ℕ) : ℝ)| : ℝ) : EReal) := by
    show max _ _ = _
    rw [← EReal.coe_sub, ← EReal.coe_neg, abs_eq_max_neg]; exact (EReal.coe_strictMono.monotone.map_max).symm
  rw [z, ab, ← EReal.coe_sub]
  simp only [EReal.coe_le_coe_iff, EReal.coe_eq_coe_iff, Nat.cast_le, Nat.cast_inj]
  unfold decay
  by_cases h1 : (r : ℕ) / 64 = (l : ℕ) / 64
  · rw [if_pos h1, if_pos h1.ge, if_pos h1.symm, ← EReal.coe_mul, Ideal.exp_coe]
  · rw [if_neg h1, if_neg (Ne.symm h1)]
    by_cases h2 : (l : ℕ) / 64 < (r : ℕ) / 64
    · rw [if_pos h2, if_pos h2.le, ← EReal.coe_mul, Ideal.exp_coe]
    · rw [if_neg h2, if_neg (by omega)]

theorem gn_at (H : Rl m c) (n : Fin 2048) : V m c main_v262 (ix2 0 n) = (((Dt m c).gn n : ℝ) : EReal) := by
  unfold V
  simp only [List.flatten_cons, List.flatten_nil, List.append_nil]
  after_reads_simp
  pointwise
  exact g_at H n

theorem proj_at (H : Rl m c) (b : Fin 2) (s : Fin 4096) (n : Fin 6144) :
    V m c main_v1 (ix2 ⟨b * 4096 + s, by omega⟩ n) = (((Dt m c).p b s n : ℝ) : EReal) := by
  unfold V
  simp only [List.flatten_cons, List.flatten_nil, List.append_nil]
  after_reads_simp
  pointwise
  simp only [show (b.val * 4096 + s.val) / 4096 = b.val by omega, show (b.val * 4096 + s.val) % 4096 = s.val by omega]
  exact p_at H b s n

theorem dy_at (H : Rl m c) (b : Fin 2) (s : Fin 4096) (n : Fin 2048) :
    V m c main_v84 (ix2 ⟨b * 4096 + s, by omega⟩ n) = (((Dt m c).y b s n : ℝ) : EReal) := by
  unfold V
  simp only [List.flatten_cons, List.flatten_nil, List.append_nil]
  after_reads_simp
  pointwise
  simp only [show (b.val * 4096 + s.val) / 4096 = b.val by omega, show (b.val * 4096 + s.val) % 4096 = s.val by omega]
  exact y_at H b s n

theorem cos_word {s d : ℕ} (hs : s < 2147483648) (hd : d < 2147483648) :
    (Ideal.cos (FloatOps.sitofp (F := Ideal) FTy.f32 (BitVec.ofNat 32 s) * Ideal.exp (Ideal.div ((id (Host.negf (Host.log (constant (F := Ideal) S_ FTy.f32 1176256512#32))) ix0 : EReal)
      * FloatOps.sitofp (F := Ideal) FTy.f32 (BitVec.ofNat 32 d)) (Ideal.ofBits FTy.f32 1124073472#32))) : EReal) = ((Real.cos (ang s d) : ℝ) : EReal) := by
  rw [iota_word hs, iota_word hd]
  exact congrArg Ideal.cos (ang_word s d)

theorem sin_word {s d : ℕ} (hs : s < 2147483648) (hd : d < 2147483648) :
    (Ideal.sin (FloatOps.sitofp (F := Ideal) FTy.f32 (BitVec.ofNat 32 s) * Ideal.exp (Ideal.div ((id (Host.negf (Host.log (constant (F := Ideal) S_ FTy.f32 1176256512#32))) ix0 : EReal)
      * FloatOps.sitofp (F := Ideal) FTy.f32 (BitVec.ofNat 32 d)) (Ideal.ofBits FTy.f32 1124073472#32))) : EReal) = ((Real.sin (ang s d) : ℝ) : EReal) := by
  rw [iota_word hs, iota_word hd]
  exact congrArg Ideal.sin (ang_word s d)

theorem kd_word {h x : ℕ} (hh : h < 4) (hx : x < 256) :
    (Ideal.exp (Ideal.log1p (-Ideal.exp (Ideal.ofBits FTy.f32 1060205080#32 * (Ideal.ofBits FTy.f32 3231711232#32 - FloatOps.sitofp (F := Ideal) FTy.f32 (BitVec.ofNat 32 h))))
      * (Ideal.ofBits FTy.f32 1132396544#32 - FloatOps.sitofp (F := Ideal) FTy.f32 (BitVec.ofNat 32 x))) : EReal) = ((Real.exp (rate h * (255 - x)) : ℝ) : EReal) := by
  rw [iota_word (n := h) (by omega), iota_word (n := x) (by omega), rate_word, word_255, ← EReal.coe_sub, ← EReal.coe_mul, Ideal.exp_coe]

theorem dite_coe {P : Prop} [Decidable P] (a b : ℝ) : (if P then (a : EReal) else (b : EReal)) = ((if P then a else b : ℝ) : EReal) := by
  split_ifs <;> rfl

theorem sum_to {n : ℕ} (F : Fin n → EReal) (f : ℕ → ℝ) (h : ∀ x : Fin n, F x = ((f x : ℝ) : EReal)) : ∑ x, F x = ((∑ l ∈ Finset.range n, f l : ℝ) : EReal) := by
  rw [Finset.sum_range, ← Head.sum_coe]
  exact Finset.sum_congr rfl fun x _ => h x

theorem grow_at (H : Rl m c) (j : Fin 16) (b : Fin 2) (h : Fin 4) (d : Fin 256) (e : Fin 512) :
    (pre m c (Proc.devRef .tc main_v115) (ix5 j b h d e) : EReal) = ((∑ l ∈ Finset.range 256, (Dt m c).K b h (j * 256 + l) d * Real.exp (rate h * (255 - l)) * (Dt m c).V b h (j * 256 + l) e : ℝ) : EReal) := by
  unfold pre
  simp only [List.flatten_cons, List.flatten_nil, List.append_nil]
  after_reads_simp
  pointwise
  after_reads_simp
  pointwise
  refine sum_to _ _ fun x => ?_
  have hj := j.isLt
  have hx := x.isLt
  have hd := d.isLt
  simp only [kd_word h.isLt hx, Head.word_16th]
  have P : ∀ (t : ℕ) (ht : 1024 + (h.val * 256 + t) < 6144), m (c, Proc.tc.devRef main_arg0) (ix3 b ⟨j.val * 256 + x.val, by omega⟩ ⟨1024 + (h.val * 256 + t), ht⟩)
      = (((Dt m c).p b (j.val * 256 + x.val) (1024 + 256 * h.val + t) : ℝ) : EReal) := by
    intro t ht
    rw [show 1024 + 256 * h.val + t = 1024 + (h.val * 256 + t) by omega]
    exact p_at H b ⟨j.val * 256 + x.val, by omega⟩ ⟨_, ht⟩
  have P' : ∀ (t : ℕ) (ht : 2048 + (h.val * 512 + t) < 6144), m (c, Proc.tc.devRef main_arg0) (ix3 b ⟨j.val * 256 + x.val, by omega⟩ ⟨2048 + (h.val * 512 + t), ht⟩)
      = (((Dt m c).p b (j.val * 256 + x.val) (2048 + 512 * h.val + t) : ℝ) : EReal) := by
    intro t ht
    rw [show 2048 + 512 * h.val + t = 2048 + (h.val * 512 + t) by omega]
    exact p_at H b ⟨j.val * 256 + x.val, by omega⟩ ⟨_, ht⟩
  have hs : j.val * 256 + x.val < 2147483648 := by omega
  simp only [P, P', cos_word hs (show d.val < 2147483648 by omega), sin_word hs (show d.val < 2147483648 by omega),
    cos_word hs (show d.val - 128 < 2147483648 by omega), sin_word hs (show d.val - 128 < 2147483648 by omega)]
  simp only [← EReal.coe_mul, ← EReal.coe_sub, ← EReal.coe_add, dite_eq_ite, dite_coe, EReal.coe_eq_coe_iff]
  rfl

theorem bd_pre (h : Fin 4) : (pre m c (Proc.devRef .tc main_v65) (ix3 h 0 0) : EReal) = ((Real.exp (rate h * 256) : ℝ) : EReal) := by
  unfold pre
  simp only [List.flatten_cons, List.flatten_nil, List.append_nil]
  after_reads_simp
  pointwise
  rw [iota_word (by omega), rate_word, word_256, ← EReal.coe_mul, Ideal.exp_coe]

/-- A state carried over blocks: what each block adds, after the decay. -/
def carry (x : ℝ) (g : ℕ → ℝ) : ℕ → ℝ
  | 0 => 0
  | j + 1 => carry x g j * x + g j

theorem entry {s : Shape} {A B : s.Idx → EReal} {i : s.Idx} {v : EReal} (h : A = B) (e : B i = v) : A i = v := (congrFun h i).trans e

set_option maxHeartbeats 4000000 in
theorem st_all {W : Valuation τ sig (Elt Ideal)} {b : Fin 2} {h : Fin 4} {d : Fin 256} {e : Fin 512} {x : ℝ} {g : ℕ → ℝ}
    (hb : W (Proc.devRef .tc main_v65) (ix3 h 0 0) = ((x : ℝ) : EReal)) (hg : ∀ j : Fin 16, W (Proc.devRef .tc main_v115) (ix5 j b h d e) = ((g j : ℝ) : EReal)) (s : Fin 16) :
    (after (hostOps0_4.drop 82) W (Proc.devRef .tc main_v261) (ix5 b s h d e) : EReal) = ((carry x g s : ℝ) : EReal) := by
  simp only [hostOps0_4, List.drop_succ_cons, List.drop_zero]
  refine entry (B := ?B) ?a ?b
  case a =>
    after_reads_simp
    rfl
  fin_cases s
  all_goals
    pointwise
    after_reads_simp
    pointwise
    simp only [hb, hg, ← EReal.coe_zero, ← EReal.coe_mul, ← EReal.coe_add]
    rfl

theorem carry_ST (D : Data) (b h : ℕ) (d e : ℕ) (i : ℕ) :
    carry (Real.exp (D.lg h * 256)) (fun j => ∑ l ∈ Finset.range 256, D.K b h (j * 256 + l) d * Real.exp (D.lg h * (255 - l)) * D.V b h (j * 256 + l) e) i = D.ST b h i d e := by
  induction i with
  | zero => rfl
  | succ i ih => rw [carry, ih, Data.ST]

theorem V_split : V m c = fun r => after (hostOps0_4.drop 82) (pre m c) (Proc.devRef .tc r) := by
  funext r
  unfold V pre
  rw [← after_append]
  simp only [List.flatten_cons, List.flatten_nil, List.append_nil, List.append_assoc, List.take_append_drop]

theorem st_at (H : Rl m c) (b : Fin 2) (s : Fin 16) (h : Fin 4) (d : Fin 256) (e : Fin 512) :
    (V m c main_v261 (ix5 b s h d e) : EReal) = (((Dt m c).ST b h s d e : ℝ) : EReal) := by
  rw [← carry_ST]
  exact (congrFun (congrFun (V_split m c) main_v261) (ix5 b s h d e)).trans (st_all (bd_pre m c h) (fun j => grow_at m c H j b h d e) s)

end Cert.RetGradIdeal.Win

end
-- ==== Proof.RetBlock.lean ====
/- One block of the retention's gradient: what the kernel's body stores at a grid point, head by head. -/
module

public import proofs.«01_k».proof.Proof.RetHead
public import proofs.«01_k».proof.Proof.Gen.RetGradIdeal.Value

@[expose] public section

set_option maxRecDepth 16384

noncomputable section

namespace Cert.RetGradIdeal.Block

open Idealize.ShloMosaic Idealize.SL.Sem Cert.RetGradIdeal Cert.RetGradIdeal.Gen Cert.RetGradIdeal.Head Cert.RetMath

theorem inb2 {o p n k N K : ℕ} (h : o + n ≤ N) (h' : p + k ≤ K) : ∀ a : Fin 2, (![o, p] : Fin 2 → ℕ) a + (![n, k] : Fin 2 → ℕ) a ≤ (![N, K] : Fin 2 → ℕ) a :=
  Fin.forall_fin_two.mpr ⟨h, h'⟩

theorem inb3 {o n N : ℕ} {k l : ℕ} (h : o + n ≤ N) : ∀ a : Fin 3, (![o, 0, 0] : Fin 3 → ℕ) a + (![n, k, l] : Fin 3 → ℕ) a ≤ (![N, k, l] : Fin 3 → ℕ) a
  | ⟨0, _⟩ => h
  | ⟨1, _⟩ => (Nat.zero_add k).le
  | ⟨2, _⟩ => (Nat.zero_add l).le

theorem inb5 {o n N : ℕ} {k l : ℕ} (h : o + n ≤ N) : ∀ a : Fin 5, (![0, 0, o, 0, 0] : Fin 5 → ℕ) a + (![1, 1, n, k, l] : Fin 5 → ℕ) a ≤ (![1, 1, N, k, l] : Fin 5 → ℕ) a
  | ⟨0, _⟩ => (Nat.zero_add 1).le
  | ⟨1, _⟩ => (Nat.zero_add 1).le
  | ⟨2, _⟩ => h
  | ⟨3, _⟩ => (Nat.zero_add k).le
  | ⟨4, _⟩ => (Nat.zero_add l).le

variable (h : Fin 4)

/-! The places of one head in the windows. -/

def atQ : Rect S256x6144 := Rect.unit ![0, 256 * h.val] S256x256.size (inb2 (by omega) (by omega))
def atK : Rect S256x6144 := Rect.unit ![0, 1024 + 256 * h.val] S256x256.size (inb2 (by omega) (by omega))
def atV : Rect S256x6144 := Rect.unit ![0, 2048 + 512 * h.val] S256x512.size (inb2 (by omega) (by omega))
def atGT : Rect S256x6144 := Rect.unit ![0, 4096 + 512 * h.val] S128x512.size (inb2 (by omega) (by omega))
def atGB : Rect S256x6144 := Rect.unit ![128, 4096 + 512 * h.val] S128x512.size (inb2 (by omega) (by omega))
def atYT : Rect S256x2048 := Rect.unit ![0, 512 * h.val] S128x512.size (inb2 (by omega) (by omega))
def atYB : Rect S256x2048 := Rect.unit ![128, 512 * h.val] S128x512.size (inb2 (by omega) (by omega))
def atGn : Rect S1x2048 := Rect.unit ![0, 512 * h.val] S1x512.size (inb2 (by omega) (by omega))
def atDm : Rect S4x256x256 := Rect.unit ![h.val, 0, 0] S1x256x256.size (inb3 (by omega))
def atD : Rect S4x256x1 := Rect.unit ![h.val, 0, 0] S1x256x1.size (inb3 (by omega))
def atB : Rect S4x1x128 := Rect.unit ![h.val, 0, 0] S1x1x128.size (inb3 (by omega))
def atS : Rect S4x256x512 := Rect.unit ![h.val, 0, 0] S1x256x512.size (inb3 (by omega))
def atSt : Rect S1x1x4x256x512 := Rect.unit ![0, 0, h.val, 0, 0] S1x1x1x256x512.size (inb5 (by omega))

/-- The windows of a grid point. -/
structure Wins where
  p : Vec Ideal S256x6144 .bf16
  y : Vec Ideal S256x2048 .bf16
  st : Vec Ideal S1x1x4x256x512 .bf16
  cs : Vec Ideal S256x128 .f32
  sn : Vec Ideal S256x128 .f32
  dm : Vec Ideal S4x256x256 .f32
  qd : Vec Ideal S4x256x1 .f32
  kd : Vec Ideal S4x256x1 .f32
  bd : Vec Ideal S4x1x128 .f32
  gn : Vec Ideal S1x2048 .f32

/-- One head's reads. -/
def Wins.loads (W : Wins) (ds : Vec Ideal S1x256x512 .f32) : Loads where
  cs := W.cs
  sn := W.sn
  st := View.ld W.st (atSt h)
  pq := View.ld W.p (atQ h)
  pk := View.ld W.p (atK h)
  pv := View.ld W.p (atV h)
  dm := View.ld W.dm (atDm h)
  qd := View.ld W.qd (atD h)
  kd := View.ld W.kd (atD h)
  bd := View.ld W.bd (atB h)
  gn := View.ld W.gn (atGn h)
  gT := View.ld W.p (atGT h)
  gB := View.ld W.p (atGB h)
  yT := View.ld W.y (atYT h)
  yB := View.ld W.y (atYB h)
  ds := ds

/-- What one head stores of the projections' gradient. -/
def putP (L : Loads) (l : List (View.Piece (Elt Ideal) S256x6144 .bf16)) : List (View.Piece (Elt Ideal) S256x6144 .bf16) :=
  ⟨atV h, L.outV⟩ :: ⟨atK h, L.outK⟩ :: ⟨atQ h, L.outQ⟩ :: ⟨atGB h, L.outGB⟩ :: ⟨atGT h, L.outGT⟩ :: l

/-- What one head stores of the carried gradient. -/
def putS (L : Loads) (l : List (View.Piece (Elt Ideal) S4x256x512 .f32)) : List (View.Piece (Elt Ideal) S4x256x512 .f32) := ⟨atS h, L.newS⟩ :: l

/-- What one head adds to the gain's gradient, half after half. -/
def putGn (v : View sig .tc .vmem S1x2048 .f32) (L : Loads) (a : Vec Ideal S1x512 .f32) (l : List (View.Piece (Elt Ideal) S1x2048 .f32)) :
    List (View.Piece (Elt Ideal) S1x2048 .f32) :=
  ⟨atGn h, L.addB (v.readCov (⟨atGn h, L.addT a⟩ :: l) (atGn h).toLoadRect)⟩ :: ⟨atGn h, L.addT a⟩ :: l

def sView : View sig .tc .vmem S4x256x512 .f32 := View.whole cc0_scratch0

/-- The stores of the carried gradient of the heads before one, where it starts from zero. -/
def startS (W : Wins) : ℕ → List (View.Piece (Elt Ideal) S4x256x512 .f32)
  | 0 => [⟨Rect.unit ![0, 0, 0] S4x256x512.size inb_S4x256x512_S4x256x512_0_0_0, (k0_pay3 : FVec Ideal S4x256x512 .f32)⟩]
  | n + 1 => putS (Fin.ofNat 4 n) (W.loads (Fin.ofNat 4 n) (sView.readCov (startS W n) (atS (Fin.ofNat 4 n)).toLoadRect)) (startS W n)

/-- One head's reads at the first block of a sequence, and later. -/
def Wins.first (W : Wins) (h : Fin 4) : Loads := W.loads h (sView.readCov (startS W h.val) (atS h).toLoadRect)
def Wins.next (W : Wins) (S : Vec Ideal S4x256x512 .f32) (h : Fin 4) : Loads := W.loads h (View.ld S (atS h))

def storedP (L : Fin 4 → Loads) : List (View.Piece (Elt Ideal) S256x6144 .bf16) := putP 3 (L 3) (putP 2 (L 2) (putP 1 (L 1) (putP 0 (L 0) [])))
def storedS (L : Fin 4 → Loads) (l : List (View.Piece (Elt Ideal) S4x256x512 .f32)) : List (View.Piece (Elt Ideal) S4x256x512 .f32) :=
  putS 3 (L 3) (putS 2 (L 2) (putS 1 (L 1) (putS 0 (L 0) l)))
def storedGn (v : View sig .tc .vmem S1x2048 .f32) (L : Fin 4 → Loads) (a : Vec Ideal S1x2048 .f32) : List (View.Piece (Elt Ideal) S1x2048 .f32) :=
  putGn 3 v (L 3) (View.ld a (atGn 3)) (putGn 2 v (L 2) (View.ld a (atGn 2)) (putGn 1 v (L 1) (View.ld a (atGn 1)) (putGn 0 v (L 0) (View.ld a (atGn 0)) [])))

/-- The stores of the gain's gradient of the heads before one, where it starts from zero. -/
def startGn (v : View sig .tc .vmem S1x2048 .f32) (L : Fin 4 → Loads) : ℕ → List (View.Piece (Elt Ideal) S1x2048 .f32)
  | 0 => [⟨Rect.unit ![0, 0] S1x2048.size inb_S1x2048_S1x2048_0_0, (k0_pay4 : FVec Ideal S1x2048 .f32)⟩]
  | n + 1 => putGn (Fin.ofNat 4 n) v (L (Fin.ofNat 4 n)) (v.readCov (startGn v L n) (atGn (Fin.ofNat 4 n)).toLoadRect) (startGn v L n)

variable (m : (ℓ : Loc nD τ sig) → Buf (Elt Ideal) ℓ) (c : Dev nD)

def wins (t : Fin cfg0.N) : Wins := ⟨iblk m c 0 t, iblk m c 1 t, iblk m c 2 t, iblk m c 3 t, iblk m c 4 t, iblk m c 5 t, iblk m c 6 t, iblk m c 7 t, iblk m c 8 t, iblk m c 9 t⟩

theorem outP_B (t : Fin cfg0.N) (h0 : ¬ t.val % 16 = 0) (h1 : ¬ t.val % 32 = 0) (S : Vec Ideal S4x256x512 .f32) (hS : S = (outsAt0 m c (t.val - 1) (by omega)).2.2) :
    (outsAt0 m c t.val t.isLt).1 = View.canon (storedP ((wins m c t).next S)) := by
  funext y
  have e := hS.trans ((Memref.isWhole_whole cc0_scratch0).read_unread (Val := Elt Ideal) (outsAt0 m c (t.val - 1) (by omega)).2.2).symm
  subst e; clear hS
  generalize hR : View.canon (storedP _ ) y = R
  rw [outsAt0_B m c t h0 h1]
  frame_out
  rw [← hR]; clear hR
  sl_kernel_rfl

theorem outS_B (t : Fin cfg0.N) (h0 : ¬ t.val % 16 = 0) (h1 : ¬ t.val % 32 = 0) (S : Vec Ideal S4x256x512 .f32) (hS : S = (outsAt0 m c (t.val - 1) (by omega)).2.2) :
    (outsAt0 m c t.val t.isLt).2.2 = View.canon (storedS ((wins m c t).next S) []) := by
  funext y
  have e := hS.trans ((Memref.isWhole_whole cc0_scratch0).read_unread (Val := Elt Ideal) (outsAt0 m c (t.val - 1) (by omega)).2.2).symm
  subst e; clear hS
  generalize hR : View.canon (storedS _ _ ) y = R
  rw [outsAt0_B m c t h0 h1]
  frame_out
  rw [← hR]; clear hR
  sl_kernel_rfl

theorem outGn_B (t : Fin cfg0.N) (h0 : ¬ t.val % 16 = 0) (h1 : ¬ t.val % 32 = 0) (S : Vec Ideal S4x256x512 .f32) (hS : S = (outsAt0 m c (t.val - 1) (by omega)).2.2) :
    (outsAt0 m c t.val t.isLt).2.1 = View.canon (storedGn (ms0_11 t).view ((wins m c t).next S) (outsAt0 m c (t.val - 1) (by omega)).2.1) := by
  funext y
  have e := hS.trans ((Memref.isWhole_whole cc0_scratch0).read_unread (Val := Elt Ideal) (outsAt0 m c (t.val - 1) (by omega)).2.2).symm
  subst e; clear hS
  generalize hR : View.canon (storedGn _ _ _ ) y = R
  rw [outsAt0_B m c t h0 h1]
  frame_out
  rw [← hR]; clear hR
  sl_kernel_rfl

theorem outP_A (t : Fin cfg0.N) (h0 : t.val % 16 = 0) (h1 : t.val % 32 = 0) :
    (outsAt0 m c t.val t.isLt).1 = View.canon (storedP (wins m c t).first) := by
  funext y
  generalize hR : View.canon (storedP _ ) y = R
  rw [outsAt0_A m c t h0 h1]
  frame_out
  rw [← hR]; clear hR
  sl_kernel_rfl

theorem outS_A (t : Fin cfg0.N) (h0 : t.val % 16 = 0) (h1 : t.val % 32 = 0) :
    (outsAt0 m c t.val t.isLt).2.2 = View.canon (startS (wins m c t) 4) := by
  funext y
  generalize hR : View.canon (startS _ _ ) y = R
  rw [outsAt0_A m c t h0 h1]
  frame_out
  rw [← hR]; clear hR
  sl_kernel_rfl

theorem outP_C (t : Fin cfg0.N) (h0 : t.val % 16 = 0) (h1 : ¬ t.val % 32 = 0) :
    (outsAt0 m c t.val t.isLt).1 = View.canon (storedP (wins m c t).first) := by
  funext y
  generalize hR : View.canon (storedP _ ) y = R
  rw [outsAt0_C m c t h0 h1]
  frame_out
  rw [← hR]; clear hR
  sl_kernel_rfl

theorem outS_C (t : Fin cfg0.N) (h0 : t.val % 16 = 0) (h1 : ¬ t.val % 32 = 0) :
    (outsAt0 m c t.val t.isLt).2.2 = View.canon (startS (wins m c t) 4) := by
  funext y
  generalize hR : View.canon (startS _ _ ) y = R
  rw [outsAt0_C m c t h0 h1]
  frame_out
  rw [← hR]; clear hR
  sl_kernel_rfl

theorem outGn_C (t : Fin cfg0.N) (h0 : t.val % 16 = 0) (h1 : ¬ t.val % 32 = 0) :
    (outsAt0 m c t.val t.isLt).2.1 = View.canon (storedGn (ms0_11 t).view (wins m c t).first (outsAt0 m c (t.val - 1) (by omega)).2.1) := by
  funext y
  generalize hR : View.canon (storedGn _ _ _ ) y = R
  rw [outsAt0_C m c t h0 h1]
  frame_out
  rw [← hR]; clear hR
  sl_kernel_rfl

theorem outGn_A (t : Fin cfg0.N) (h0 : t.val % 16 = 0) (h1 : t.val % 32 = 0) :
    (outsAt0 m c t.val t.isLt).2.1 = View.canon (startGn (ms0_11 t).view (wins m c t).first 4) := by
  funext y
  generalize hR : View.canon (startGn _ _ _ ) y = R
  rw [outsAt0_A m c t h0 h1]
  frame_out
  rw [← hR]; clear hR
  sl_kernel_rfl

end Cert.RetGradIdeal.Block

end
-- ==== Proof.RetRead.lean ====
/- What one grid point of the retention's gradient leaves, read head by head at the coordinates of its windows. -/
module

public import proofs.«01_k».proof.Proof.RetBlock
public import Idealize.ShloMosaic.Lib.Pipeline.ReadBack

@[expose] public section

set_option maxRecDepth 16384

noncomputable section

namespace Cert.RetGradIdeal.Block

open Idealize.ShloMosaic Idealize.SL.Sem Cert.RetGradIdeal Cert.RetGradIdeal.Gen Cert.RetGradIdeal.Head Cert.RetMath Finset

/-! Places outside a head's blocks. -/

variable {h k : Fin 4} {L : Fin 4 → Loads}

theorem val_ne (e : k ≠ h) : k.val ≠ h.val := fun x => e (Fin.ext x)

theorem heads (h : Fin 4) : h = 0 ∨ h = 1 ∨ h = 2 ∨ h = 3 := by
  revert h; decide

theorem off_q {y : S256x6144.Idx} (a : (y 1 : ℕ) < 256 * h.val ∨ 256 * h.val + 256 ≤ (y 1 : ℕ)) : y ∉ (atQ h).set := fun hm => by
  have := Rect.mem_set_unit.mp hm 1
  simp [S256x256] at this
  omega

theorem off_k {y : S256x6144.Idx} (a : (y 1 : ℕ) < 1024 + 256 * h.val ∨ 1024 + 256 * h.val + 256 ≤ (y 1 : ℕ)) : y ∉ (atK h).set := fun hm => by
  have := Rect.mem_set_unit.mp hm 1
  simp [S256x256] at this
  omega

theorem off_v {y : S256x6144.Idx} (a : (y 1 : ℕ) < 2048 + 512 * h.val ∨ 2048 + 512 * h.val + 512 ≤ (y 1 : ℕ)) : y ∉ (atV h).set := fun hm => by
  have := Rect.mem_set_unit.mp hm 1
  simp [S256x512] at this
  omega

theorem off_gt {y : S256x6144.Idx} (a : (y 1 : ℕ) < 4096 + 512 * h.val ∨ 4096 + 512 * h.val + 512 ≤ (y 1 : ℕ)) : y ∉ (atGT h).set := fun hm => by
  have := Rect.mem_set_unit.mp hm 1
  simp [S128x512] at this
  omega

theorem off_gb {y : S256x6144.Idx} (a : (y 1 : ℕ) < 4096 + 512 * h.val ∨ 4096 + 512 * h.val + 512 ≤ (y 1 : ℕ) ∨ (y 0 : ℕ) < 128) : y ∉ (atGB h).set := fun hm => by
  have := Rect.mem_set_unit.mp hm 1
  have := Rect.mem_set_unit.mp hm 0
  simp [S128x512] at *
  omega

theorem off_gn {y : S1x2048.Idx} (a : (y 1 : ℕ) < 512 * h.val ∨ 512 * h.val + 512 ≤ (y 1 : ℕ)) : y ∉ (atGn h).set := fun hm => by
  have := Rect.mem_set_unit.mp hm 1
  simp [S1x512] at this
  omega

theorem off_s {y : S4x256x512.Idx} (a : (y 0 : ℕ) ≠ h.val) : y ∉ (atS h).set := fun hm => by
  have := Rect.mem_set_unit.mp hm 0
  simp [S1x256x512] at this
  omega

/-! The places themselves. -/

section
variable (h : Fin 4)

theorem emb_q (r d : Fin 256) : (ix2 r ⟨256 * h.val + d, by omega⟩ : S256x6144.Idx) = (atQ h).emb (ix2 r d) := funext fun a => match a with
  | ⟨0, _⟩ => Fin.ext (show r.val = 0 + 1 * r.val by omega)
  | ⟨1, _⟩ => Fin.ext (show 256 * h.val + d.val = 256 * h.val + 1 * d.val by omega)
theorem emb_k (r d : Fin 256) : (ix2 r ⟨1024 + 256 * h.val + d, by omega⟩ : S256x6144.Idx) = (atK h).emb (ix2 r d) := funext fun a => match a with
  | ⟨0, _⟩ => Fin.ext (show r.val = 0 + 1 * r.val by omega)
  | ⟨1, _⟩ => Fin.ext (show 1024 + 256 * h.val + d.val = 1024 + 256 * h.val + 1 * d.val by omega)
theorem emb_v (r : Fin 256) (e : Fin 512) : (ix2 r ⟨2048 + 512 * h.val + e, by omega⟩ : S256x6144.Idx) = (atV h).emb (ix2 r e) := funext fun a => match a with
  | ⟨0, _⟩ => Fin.ext (show r.val = 0 + 1 * r.val by omega)
  | ⟨1, _⟩ => Fin.ext (show 2048 + 512 * h.val + e.val = 2048 + 512 * h.val + 1 * e.val by omega)
theorem emb_gt (r : Fin 128) (e : Fin 512) : (ix2 ⟨r.val, by omega⟩ ⟨4096 + 512 * h.val + e, by omega⟩ : S256x6144.Idx) = (atGT h).emb (ix2 r e) := funext fun a => match a with
  | ⟨0, _⟩ => Fin.ext (show r.val = 0 + 1 * r.val by omega)
  | ⟨1, _⟩ => Fin.ext (show 4096 + 512 * h.val + e.val = 4096 + 512 * h.val + 1 * e.val by omega)
theorem emb_gb (r : Fin 128) (e : Fin 512) : (ix2 ⟨128 + r.val, by omega⟩ ⟨4096 + 512 * h.val + e, by omega⟩ : S256x6144.Idx) = (atGB h).emb (ix2 r e) := funext fun a => match a with
  | ⟨0, _⟩ => Fin.ext (show 128 + r.val = 128 + 1 * r.val by omega)
  | ⟨1, _⟩ => Fin.ext (show 4096 + 512 * h.val + e.val = 4096 + 512 * h.val + 1 * e.val by omega)
theorem emb_yt (r : Fin 128) (e : Fin 512) : (ix2 ⟨r.val, by omega⟩ ⟨512 * h.val + e, by omega⟩ : S256x2048.Idx) = (atYT h).emb (ix2 r e) := funext fun a => match a with
  | ⟨0, _⟩ => Fin.ext (show r.val = 0 + 1 * r.val by omega)
  | ⟨1, _⟩ => Fin.ext (show 512 * h.val + e.val = 512 * h.val + 1 * e.val by omega)
theorem emb_yb (r : Fin 128) (e : Fin 512) : (ix2 ⟨128 + r.val, by omega⟩ ⟨512 * h.val + e, by omega⟩ : S256x2048.Idx) = (atYB h).emb (ix2 r e) := funext fun a => match a with
  | ⟨0, _⟩ => Fin.ext (show 128 + r.val = 128 + 1 * r.val by omega)
  | ⟨1, _⟩ => Fin.ext (show 512 * h.val + e.val = 512 * h.val + 1 * e.val by omega)
theorem emb_gn (e : Fin 512) : (ix2 0 ⟨512 * h.val + e, by omega⟩ : S1x2048.Idx) = (atGn h).emb (ix2 0 e) := funext fun a => match a with
  | ⟨0, _⟩ => Fin.ext (show 0 = 0 + 1 * 0 by omega)
  | ⟨1, _⟩ => Fin.ext (show 512 * h.val + e.val = 512 * h.val + 1 * e.val by omega)
theorem emb_s (d : Fin 256) (e : Fin 512) : (ix3 h d e : S4x256x512.Idx) = (atS h).emb (ix3 0 d e) := funext fun a => match a with
  | ⟨0, _⟩ => Fin.ext (show h.val = h.val + 1 * 0 by omega)
  | ⟨1, _⟩ => Fin.ext (show d.val = 0 + 1 * d.val by omega)
  | ⟨2, _⟩ => Fin.ext (show e.val = 0 + 1 * e.val by omega)
theorem emb_dm (r l : Fin 256) : (ix3 h r l : S4x256x256.Idx) = (atDm h).emb (ix3 0 r l) := funext fun a => match a with
  | ⟨0, _⟩ => Fin.ext (show h.val = h.val + 1 * 0 by omega)
  | ⟨1, _⟩ => Fin.ext (show r.val = 0 + 1 * r.val by omega)
  | ⟨2, _⟩ => Fin.ext (show l.val = 0 + 1 * l.val by omega)
theorem emb_d (r : Fin 256) : (ix3 h r 0 : S4x256x1.Idx) = (atD h).emb (ix3 0 r 0) := funext fun a => match a with
  | ⟨0, _⟩ => Fin.ext (show h.val = h.val + 1 * 0 by omega)
  | ⟨1, _⟩ => Fin.ext (show r.val = 0 + 1 * r.val by omega)
  | ⟨2, _⟩ => Fin.ext (show 0 = 0 + 1 * 0 by omega)
theorem emb_b : (ix3 h 0 0 : S4x1x128.Idx) = (atB h).emb (ix3 0 0 0) := funext fun a => match a with
  | ⟨0, _⟩ => Fin.ext (show h.val = h.val + 1 * 0 by omega)
  | ⟨1, _⟩ => Fin.ext (show 0 = 0 + 1 * 0 by omega)
  | ⟨2, _⟩ => Fin.ext (show 0 = 0 + 1 * 0 by omega)
theorem emb_st (d : Fin 256) (e : Fin 512) : (ix5 0 0 h d e : S1x1x4x256x512.Idx) = (atSt h).emb (ix5 0 0 0 d e) := funext fun a => match a with
  | ⟨0, _⟩ => Fin.ext (show 0 = 0 + 1 * 0 by omega)
  | ⟨1, _⟩ => Fin.ext (show 0 = 0 + 1 * 0 by omega)
  | ⟨2, _⟩ => Fin.ext (show h.val = h.val + 1 * 0 by omega)
  | ⟨3, _⟩ => Fin.ext (show d.val = 0 + 1 * d.val by omega)
  | ⟨4, _⟩ => Fin.ext (show e.val = 0 + 1 * e.val by omega)
end

theorem past {S : Shape} {φ : EltTy} {r : Rect S} {w : r.shape.Idx → Elt Ideal φ} {l : List (View.Piece (Elt Ideal) S φ)} {y : S.Idx} (hn : y ∉ r.set) :
    View.canon (⟨r, w⟩ :: l) y = View.canon l y := View.canon_cons_of_not_mem _ l hn

/-! The projections' gradient. -/

/-- The column lies in no other head's. -/
def Apart (h : Fin 4) (n : ℕ) : Prop :=
  ∀ k : Fin 4, k ≠ h → (n < 256 * k.val ∨ 256 * k.val + 256 ≤ n) ∧ (n < 1024 + 256 * k.val ∨ 1024 + 256 * k.val + 256 ≤ n)
    ∧ (n < 2048 + 512 * k.val ∨ 2048 + 512 * k.val + 512 ≤ n) ∧ (n < 4096 + 512 * k.val ∨ 4096 + 512 * k.val + 512 ≤ n)

theorem putP_past {l : List (View.Piece (Elt Ideal) S256x6144 .bf16)} (hk : k ≠ h) {y : S256x6144.Idx} (hy : Apart h (y 1)) (M : Loads) :
    View.canon (putP k M l) y = View.canon l y := by
  obtain ⟨h1, h2, h3, h4⟩ := hy k hk
  unfold putP
  refine (past (off_v h3)).trans ?_
  refine (past (off_k h2)).trans ?_
  refine (past (off_q h1)).trans ?_
  refine (past (off_gb (h4.imp_right Or.inl))).trans ?_
  exact past (off_gt h4)

theorem storedP_at {y : S256x6144.Idx} (hy : Apart h (y 1)) {w : Elt Ideal .bf16} (hw : ∀ l, View.canon (putP h (L h) l) y = w) :
    View.canon (storedP L) y = w := by
  unfold storedP
  rcases heads h with rfl | rfl | rfl | rfl
  · rw [putP_past (by decide) hy, putP_past (by decide) hy, putP_past (by decide) hy]; exact hw _
  · rw [putP_past (by decide) hy, putP_past (by decide) hy]; exact hw _
  · rw [putP_past (by decide) hy]; exact hw _
  · exact hw _

theorem storedP_q (r d : Fin 256) : View.canon (storedP L) (ix2 r ⟨256 * h.val + d, by omega⟩) = (L h).outQ (ix2 r d) := by
  have hd := d.isLt
  refine storedP_at (h := h) (fun k hk => ?_) fun l => ?_
  · have := val_ne hk
    simp only [ix2_1]
    omega
  · unfold putP
    refine (past (off_v (by simp only [ix2_1]; omega))).trans ?_
    refine (past (off_k (by simp only [ix2_1]; omega))).trans ?_
    exact (congrArg _ (emb_q h r d)).trans (View.canon_cons_emb (atQ h) _ _ (ix2 r d))

theorem storedP_k (r d : Fin 256) : View.canon (storedP L) (ix2 r ⟨1024 + 256 * h.val + d, by omega⟩) = (L h).outK (ix2 r d) := by
  have hd := d.isLt
  refine storedP_at (h := h) (fun k hk => ?_) fun l => ?_
  · have := val_ne hk
    simp only [ix2_1]
    omega
  · unfold putP
    refine (past (off_v (by simp only [ix2_1]; omega))).trans ?_
    exact (congrArg _ (emb_k h r d)).trans (View.canon_cons_emb (atK h) _ _ (ix2 r d))

theorem storedP_v (r : Fin 256) (e : Fin 512) : View.canon (storedP L) (ix2 r ⟨2048 + 512 * h.val + e, by omega⟩) = (L h).outV (ix2 r e) := by
  have hd := e.isLt
  refine storedP_at (h := h) (fun k hk => ?_) fun l => ?_
  · have := val_ne hk
    simp only [ix2_1]
    omega
  · unfold putP
    exact (congrArg _ (emb_v h r e)).trans (View.canon_cons_emb (atV h) _ _ (ix2 r e))

theorem storedP_gb (r : Fin 128) (e : Fin 512) :
    View.canon (storedP L) (ix2 ⟨128 + r.val, by omega⟩ ⟨4096 + 512 * h.val + e, by omega⟩) = (L h).outGB (ix2 r e) := by
  have hd := e.isLt
  refine storedP_at (h := h) (fun k hk => ?_) fun l => ?_
  · have := val_ne hk
    simp only [ix2_1]
    omega
  · unfold putP
    refine (past (off_v (by simp only [ix2_1]; omega))).trans ?_
    refine (past (off_k (by simp only [ix2_1]; omega))).trans ?_
    refine (past (off_q (by simp only [ix2_1]; omega))).trans ?_
    exact (congrArg _ (emb_gb h r e)).trans (View.canon_cons_emb (atGB h) _ _ (ix2 r e))

theorem storedP_gt (r : Fin 128) (e : Fin 512) :
    View.canon (storedP L) (ix2 ⟨r.val, by omega⟩ ⟨4096 + 512 * h.val + e, by omega⟩) = (L h).outGT (ix2 r e) := by
  have hd := e.isLt
  refine storedP_at (h := h) (fun k hk => ?_) fun l => ?_
  · have := val_ne hk
    simp only [ix2_1]
    omega
  · unfold putP
    refine (past (off_v (by simp only [ix2_1]; omega))).trans ?_
    refine (past (off_k (by simp only [ix2_1]; omega))).trans ?_
    refine (past (off_q (by simp only [ix2_1]; omega))).trans ?_
    refine (past (off_gb (by simp only [ix2_0]; omega))).trans ?_
    exact (congrArg _ (emb_gt h r e)).trans (View.canon_cons_emb (atGT h) _ _ (ix2 r e))

/-! The carried gradient. -/

theorem putS_past {l : List (View.Piece (Elt Ideal) S4x256x512 .f32)} (hk : k ≠ h) (M : Loads) (d : Fin 256) (e : Fin 512) :
    View.canon (putS k M l) (ix3 h d e) = View.canon l (ix3 h d e) :=
  past (off_s fun x => hk (Fin.ext x.symm))

theorem putS_own {l : List (View.Piece (Elt Ideal) S4x256x512 .f32)} (M : Loads) (d : Fin 256) (e : Fin 512) :
    View.canon (putS h M l) (ix3 h d e) = M.newS (ix3 0 d e) :=
  (congrArg _ (emb_s h d e)).trans (View.canon_cons_emb (atS h) _ _ (ix3 0 d e))

theorem storedS_at {l : List (View.Piece (Elt Ideal) S4x256x512 .f32)} (d : Fin 256) (e : Fin 512) :
    View.canon (storedS L l) (ix3 h d e) = (L h).newS (ix3 0 d e) := by
  unfold storedS
  rcases heads h with rfl | rfl | rfl | rfl
  · rw [putS_past (by decide), putS_past (by decide), putS_past (by decide), putS_own]
  · rw [putS_past (by decide), putS_past (by decide), putS_own]
  · rw [putS_past (by decide), putS_own]
  · rw [putS_own]

theorem startS_eq (W : Wins) : startS W 4 = storedS W.first (startS W 0) := rfl

theorem putS_skip {l : List (View.Piece (Elt Ideal) S4x256x512 .f32)} (hk : k ≠ h) (M : Loads) :
    sView.readCov (putS k M l) (atS h).toLoadRect = sView.readCov l (atS h).toLoadRect := by
  have hn := val_ne hk
  have hd : Disjoint (atS k).set (atS h).toLoadRect.set := Rect.unit_disjoint 0 (by simp [S1x256x512]; omega)
  exact View.readCov_cons_of_disjoint _ _ _ _ hd

theorem fill_s (h : Fin 4) (y : (atS h).shape.Idx) (W : Wins) : sView.readCov (startS W 0) (atS h).toLoadRect y = ((0 : ℝ) : EReal) := by
  refine (congrFun (View.readCov_fill _ _ _ _ _ (by intro a; fin_cases a <;> rfl)) y).trans ?_
  show k0_pay3 ((atS h).idx y) = _
  generalize (atS h).idx y = z
  pointwise [k0_pay3]
  simp

/-- The first block of a sequence starts from a carried gradient of zero. -/
theorem first_ds (W : Wins) (h : Fin 4) (d : Fin 256) (e : Fin 512) : (W.first h).ds (ix3 0 d e) = ((0 : ℝ) : EReal) := by
  have e1 : sView.readCov (startS W h.val) (atS h).toLoadRect = sView.readCov (startS W 0) (atS h).toLoadRect := by
    rcases heads h with rfl | rfl | rfl | rfl
    · rfl
    · exact putS_skip (by decide) _
    · exact (putS_skip (by decide) _).trans (putS_skip (by decide) _)
    · exact (putS_skip (by decide) _).trans ((putS_skip (by decide) _).trans (putS_skip (by decide) _))
  exact (congrFun e1 (ix3 0 d e)).trans (fill_s h _ W)

/-! The gain's gradient. -/

variable {v : View sig .tc .vmem S1x2048 .f32}

/-- A lane of one head in the gain. -/
def lane (h : Fin 4) (e : Fin 512) : S1x2048.Idx := ix2 0 ⟨512 * h.val + e, by omega⟩

theorem putGn_past {l : List (View.Piece (Elt Ideal) S1x2048 .f32)} (hk : k ≠ h) (M : Loads) (a : Vec Ideal S1x512 .f32) (e : Fin 512) :
    View.canon (putGn k v M a l) (lane h e) = View.canon l (lane h e) := by
  have := val_ne hk
  have he := e.isLt
  have hn : lane h e ∉ (atGn k).set := off_gn (by show 512 * h.val + e.val < _ ∨ _ ≤ 512 * h.val + e.val; omega)
  exact (past hn).trans (past hn)

theorem own_gn (F : Vec Ideal S1x512 .f32 → Vec Ideal S1x512 .f32) (b : Vec Ideal S1x512 .f32) (l : List (View.Piece (Elt Ideal) S1x2048 .f32)) (e : Fin 512) :
    View.canon (⟨atGn h, F (v.readCov (⟨atGn h, b⟩ :: l) (atGn h).toLoadRect)⟩ :: ⟨atGn h, b⟩ :: l) (lane h e) = F b (ix2 0 e) := by
  have e1 : v.readCov (⟨atGn h, b⟩ :: l) (atGn h).toLoadRect = b := View.readCov_cons_toLoadRect v (atGn h) b l
  exact ((congrArg _ (emb_gn h e)).trans (View.canon_cons_emb (atGn h) _ _ (ix2 0 e))).trans (congrArg (fun b => F b (ix2 0 e)) e1)

theorem putGn_own {l : List (View.Piece (Elt Ideal) S1x2048 .f32)} (M : Loads) (a : Vec Ideal S1x512 .f32) (e : Fin 512) :
    View.canon (putGn h v M a l) (lane h e) = M.addB (M.addT a) (ix2 0 e) := own_gn M.addB (M.addT a) l e

theorem skipCov {r : Rect S1x2048} {w : r.shape.Idx → Elt Ideal .f32} {l : List (View.Piece (Elt Ideal) S1x2048 .f32)} {B : LoadRect S1x2048}
    (hd : Disjoint r.set B.set) : v.readCov (⟨r, w⟩ :: l) B = v.readCov l B := View.readCov_cons_of_disjoint _ _ _ _ hd

theorem putGn_skip {l : List (View.Piece (Elt Ideal) S1x2048 .f32)} (hk : k ≠ h) (M : Loads) (a : Vec Ideal S1x512 .f32) :
    v.readCov (putGn k v M a l) (atGn h).toLoadRect = v.readCov l (atGn h).toLoadRect := by
  have := val_ne hk
  have hd : Disjoint (atGn k).set (atGn h).toLoadRect.set := Rect.unit_disjoint 1 (by simp [S1x512]; omega)
  unfold putGn
  generalize M.addB _ = w
  generalize M.addT a = b
  exact (skipCov hd).trans (skipCov hd)

theorem storedGn_at (a : Vec Ideal S1x2048 .f32) (e : Fin 512) :
    View.canon (storedGn v L a) (lane h e) = (L h).addB ((L h).addT (View.ld a (atGn h))) (ix2 0 e) := by
  unfold storedGn
  rcases heads h with rfl | rfl | rfl | rfl
  · exact (putGn_past (by decide) _ _ e).trans ((putGn_past (by decide) _ _ e).trans ((putGn_past (by decide) _ _ e).trans (putGn_own _ _ e)))
  · exact (putGn_past (by decide) _ _ e).trans ((putGn_past (by decide) _ _ e).trans (putGn_own _ _ e))
  · exact (putGn_past (by decide) _ _ e).trans (putGn_own _ _ e)
  · exact putGn_own _ _ e

theorem fill_gn (h : Fin 4) (y : (atGn h).shape.Idx) : v.readCov (startGn v L 0) (atGn h).toLoadRect y = (0 : EReal) := by
  refine (congrFun (View.readCov_fill _ _ _ _ _ (by intro a; fin_cases a <;> rfl)) y).trans ?_
  show k0_pay4 ((atGn h).idx y) = _
  generalize (atGn h).idx y = z
  pointwise [k0_pay4]

theorem startGn_at (e : Fin 512) : ∃ a : Vec Ideal S1x512 .f32, a (ix2 0 e) = (0 : EReal) ∧
    View.canon (startGn v L 4) (lane h e) = (L h).addB ((L h).addT a) (ix2 0 e) := by
  refine ⟨v.readCov (startGn v L h.val) (atGn h).toLoadRect, ?_, ?_⟩
  · have e1 : v.readCov (startGn v L h.val) (atGn h).toLoadRect = v.readCov (startGn v L 0) (atGn h).toLoadRect := by
      rcases heads h with rfl | rfl | rfl | rfl
      · rfl
      · exact putGn_skip (by decide) _ _
      · exact (putGn_skip (by decide) _ _).trans (putGn_skip (by decide) _ _)
      · exact (putGn_skip (by decide) _ _).trans ((putGn_skip (by decide) _ _).trans (putGn_skip (by decide) _ _))
    exact (congrFun e1 (ix2 0 e)).trans (fill_gn h _)
  · show View.canon (putGn 3 v _ _ (putGn 2 v _ _ (putGn 1 v _ _ (putGn 0 v _ _ _)))) _ = _
    rcases heads h with rfl | rfl | rfl | rfl
    · exact (putGn_past (by decide) _ _ e).trans ((putGn_past (by decide) _ _ e).trans ((putGn_past (by decide) _ _ e).trans (putGn_own _ _ e)))
    · exact (putGn_past (by decide) _ _ e).trans ((putGn_past (by decide) _ _ e).trans (putGn_own _ _ e))
    · exact (putGn_past (by decide) _ _ e).trans (putGn_own _ _ e)
    · exact putGn_own _ _ e

end Cert.RetGradIdeal.Block

end
-- ==== Proof.RetFit.lean ====
/- The blocks the retention's gradient works on, point by point: what is loaded, what the carried gradient holds, what is stored. -/
module

public import proofs.«01_k».proof.Proof.RetWin
public import proofs.«01_k».proof.Proof.RetRead

@[expose] public section

set_option maxRecDepth 16384
set_option maxHeartbeats 1000000

noncomputable section

namespace Cert.RetGradIdeal.Fit

open Idealize.ShloMosaic Idealize.SL.Sem Cert.RetGradIdeal Cert.RetGradIdeal.Gen Cert.RetGradIdeal.Value Cert.RetMath Cert.RetGradIdeal.Win Cert.RetGradIdeal.Block Cert.RetGradIdeal.Head

variable (m : (ℓ : Loc nD τ sig) → Buf (Elt Ideal) ℓ) (c : Dev nD)

theorem idx : ∀ t : Fin cfg0.N, win0_0.index t = ![16 * (t.val / 16) + (15 - t.val % 16), 0] ∧ win0_1.index t = ![16 * (t.val / 16) + (15 - t.val % 16), 0]
    ∧ win0_2.index t = ![t.val / 16, 15 - t.val % 16, 0, 0, 0] ∧ win0_3.index t = ![15 - t.val % 16, 0] ∧ win0_4.index t = ![15 - t.val % 16, 0]
    ∧ win0_5.index t = ![0, 0, 0] ∧ win0_6.index t = ![0, 0, 0] ∧ win0_7.index t = ![0, 0, 0] ∧ win0_8.index t = ![0, 0, 0] ∧ win0_9.index t = ![0, 0]
    ∧ win0_10.index t = ![16 * (t.val / 16) + (15 - t.val % 16), 0] ∧ win0_11.index t = ![0, 0] :=
  (by decide +kernel : ∀ t : Fin grid0.N, _)

/-- What a point's windows hold: block `i` of half `b`. -/
structure Holds (W : Wins) (D : Data) (b i : ℕ) : Prop where
  p : ∀ (r : Fin 256) (n : Fin 6144), W.p (ix2 r n) = ((D.p b (i * 256 + r) n : ℝ) : EReal)
  y : ∀ (r : Fin 256) (n : Fin 2048), W.y (ix2 r n) = ((D.y b (i * 256 + r) n : ℝ) : EReal)
  st : ∀ (z z' : Fin 1) (h : Fin 4) (d : Fin 256) (e : Fin 512), W.st (ix5 z z' h d e) = ((D.ST b h i d e : ℝ) : EReal)
  cs : ∀ (r : Fin 256) (d : Fin 128), W.cs (ix2 r d) = ((D.C (i * 256 + r) d : ℝ) : EReal)
  sn : ∀ (r : Fin 256) (d : Fin 128), W.sn (ix2 r d) = ((D.S (i * 256 + r) d : ℝ) : EReal)
  dm : ∀ (h : Fin 4) (r l : Fin 256), W.dm (ix3 h r l) = ((decay (D.lg h) r l : ℝ) : EReal)
  qd : ∀ (h : Fin 4) (r : Fin 256) (z : Fin 1), W.qd (ix3 h r z) = ((Real.exp (D.lg h * (r + 1)) : ℝ) : EReal)
  kd : ∀ (h : Fin 4) (r : Fin 256) (z : Fin 1), W.kd (ix3 h r z) = ((Real.exp (D.lg h * (255 - r)) : ℝ) : EReal)
  bd : ∀ (h : Fin 4) (z : Fin 1) (x : Fin 128), W.bd (ix3 h z x) = ((Real.exp (D.lg h * 256) : ℝ) : EReal)
  gn : ∀ (z : Fin 1) (n : Fin 2048), W.gn (ix2 z n) = ((D.gn n : ℝ) : EReal)

/-- A head's reads at a point hold the block's reals. -/
theorem Holds.fits {W : Wins} {D : Data} {b i : ℕ} (A : Holds W D b i) (h : Fin 4) {ds : Vec Ideal S1x256x512 .f32} {f : ℕ → ℕ → ℝ}
    (hds : ∀ (d : Fin 256) (e : Fin 512), ds (ix3 0 d e) = ((f d e : ℝ) : EReal)) : Fits (W.loads h ds) (D.blk b h i f) where
  cs := A.cs
  sn := A.sn
  st := fun d e => (congrArg W.st (emb_st h d e).symm).trans (A.st 0 0 h d e)
  pq := fun r d => (congrArg W.p (emb_q h r d).symm).trans (A.p r _)
  pk := fun r d => (congrArg W.p (emb_k h r d).symm).trans (A.p r _)
  pv := fun r e => (congrArg W.p (emb_v h r e).symm).trans (A.p r _)
  dm := fun r l => (congrArg W.dm (emb_dm h r l).symm).trans (A.dm h r l)
  qd := fun r => (congrArg W.qd (emb_d h r).symm).trans (A.qd h r 0)
  kd := fun r => (congrArg W.kd (emb_d h r).symm).trans (A.kd h r 0)
  bd := (congrArg W.bd (emb_b h).symm).trans (A.bd h 0 0)
  gn := fun e => (congrArg W.gn (emb_gn h e).symm).trans (A.gn 0 _)
  gT := fun r e => (congrArg W.p (emb_gt h r e).symm).trans (A.p ⟨r.val, by omega⟩ _)
  gB := fun r e => (congrArg W.p (emb_gb h r e).symm).trans (A.p ⟨128 + r.val, by omega⟩ _)
  yT := fun r e => (congrArg W.y (emb_yt h r e).symm).trans (A.y ⟨r.val, by omega⟩ _)
  yB := fun r e => (congrArg W.y (emb_yb h r e).symm).trans (A.y ⟨128 + r.val, by omega⟩ _)
  ds := hds

section
variable {m c} (H : Rl m c) (t : Fin cfg0.N)
include H

theorem bnd : t.val < 32 := lt_of_lt_of_eq t.isLt N_0

theorem in_p (r : Fin 256) (n : Fin 6144) : ((wins m c t).p (ix2 r n) : EReal) = (((Dt m c).p (t.val / 16) ((15 - t.val % 16) * 256 + r) n : ℝ) : EReal) := by
  rw [show (wins m c t).p = iblk m c 0 t from rfl]
  have ht := bnd H t
  refine Eq.trans ?_ (proj_at m c H ⟨t.val / 16, by omega⟩ ⟨(15 - t.val % 16) * 256 + r.val, by omega⟩ n)
  show V m c main_v1 (((cfg0.win 0).blk t).view.emb (ix2 r n)) = _
  exact congrArg _ (by blk_ext [idx t])

theorem in_y (r : Fin 256) (n : Fin 2048) : ((wins m c t).y (ix2 r n) : EReal) = (((Dt m c).y (t.val / 16) ((15 - t.val % 16) * 256 + r) n : ℝ) : EReal) := by
  rw [show (wins m c t).y = iblk m c 1 t from rfl]
  have ht := bnd H t
  refine Eq.trans ?_ (dy_at m c H ⟨t.val / 16, by omega⟩ ⟨(15 - t.val % 16) * 256 + r.val, by omega⟩ n)
  show V m c main_v84 (((cfg0.win 1).blk t).view.emb (ix2 r n)) = _
  exact congrArg _ (by blk_ext [idx t])

theorem in_s (z z' : Fin 1) (h : Fin 4) (d : Fin 256) (e : Fin 512) : ((wins m c t).st (ix5 z z' h d e) : EReal) = (((Dt m c).ST (t.val / 16) h (15 - t.val % 16) d e : ℝ) : EReal) := by
  rw [show (wins m c t).st = iblk m c 2 t from rfl]
  have ht := bnd H t
  refine Eq.trans ?_ (st_at m c H ⟨t.val / 16, by omega⟩ ⟨15 - t.val % 16, by omega⟩ h d e)
  show V m c main_v261 (((cfg0.win 2).blk t).view.emb (ix5 z z' h d e)) = _
  exact congrArg _ (by blk_ext [idx t])

theorem in_cs (r : Fin 256) (d : Fin 128) : ((wins m c t).cs (ix2 r d) : EReal) = (((Dt m c).C ((15 - t.val % 16) * 256 + r) d : ℝ) : EReal) := by
  rw [show (wins m c t).cs = iblk m c 3 t from rfl]
  have ht := bnd H t
  refine Eq.trans ?_ (cos_at m c ⟨(15 - t.val % 16) * 256 + r.val, by omega⟩ d)
  show V m c main_v81 (((cfg0.win 3).blk t).view.emb (ix2 r d)) = _
  exact congrArg _ (by blk_ext [idx t])

theorem in_sn (r : Fin 256) (d : Fin 128) : ((wins m c t).sn (ix2 r d) : EReal) = (((Dt m c).S ((15 - t.val % 16) * 256 + r) d : ℝ) : EReal) := by
  rw [show (wins m c t).sn = iblk m c 4 t from rfl]
  have ht := bnd H t
  refine Eq.trans ?_ (sin_at m c ⟨(15 - t.val % 16) * 256 + r.val, by omega⟩ d)
  show V m c main_v82 (((cfg0.win 4).blk t).view.emb (ix2 r d)) = _
  exact congrArg _ (by blk_ext [idx t])

theorem in_dm (h : Fin 4) (r l : Fin 256) : ((wins m c t).dm (ix3 h r l) : EReal) = ((decay (rate h) r l : ℝ) : EReal) := by
  rw [show (wins m c t).dm = iblk m c 5 t from rfl]
  refine Eq.trans ?_ (dm_at m c h r l)
  show V m c main_v40 (((cfg0.win 5).blk t).view.emb (ix3 h r l)) = _
  exact congrArg _ (by blk_ext [idx t])

theorem in_qd (h : Fin 4) (r : Fin 256) (z : Fin 1) : ((wins m c t).qd (ix3 h r z) : EReal) = ((Real.exp (rate h * (r + 1)) : ℝ) : EReal) := by
  rw [show (wins m c t).qd = iblk m c 6 t from rfl]
  refine Eq.trans ?_ (qd_at m c h r)
  show V m c main_v49 (((cfg0.win 6).blk t).view.emb (ix3 h r z)) = _
  exact congrArg _ (by blk_ext [idx t])

theorem in_kd (h : Fin 4) (r : Fin 256) (z : Fin 1) : ((wins m c t).kd (ix3 h r z) : EReal) = ((Real.exp (rate h * (255 - r)) : ℝ) : EReal) := by
  rw [show (wins m c t).kd = iblk m c 7 t from rfl]
  refine Eq.trans ?_ (kd_at m c h r)
  show V m c main_v58 (((cfg0.win 7).blk t).view.emb (ix3 h r z)) = _
  exact congrArg _ (by blk_ext [idx t])

theorem in_bd (h : Fin 4) (z : Fin 1) (x : Fin 128) : ((wins m c t).bd (ix3 h z x) : EReal) = ((Real.exp (rate h * 256) : ℝ) : EReal) := by
  rw [show (wins m c t).bd = iblk m c 8 t from rfl]
  refine Eq.trans ?_ (bd_at m c h x)
  show V m c main_v65 (((cfg0.win 8).blk t).view.emb (ix3 h z x)) = _
  exact congrArg _ (by blk_ext [idx t])

theorem in_gn (z : Fin 1) (n : Fin 2048) : ((wins m c t).gn (ix2 z n) : EReal) = (((Dt m c).gn n : ℝ) : EReal) := by
  rw [show (wins m c t).gn = iblk m c 9 t from rfl]
  refine Eq.trans ?_ (gn_at m c H n)
  show V m c main_v262 (((cfg0.win 9).blk t).view.emb (ix2 z n)) = _
  exact congrArg _ (by blk_ext [idx t])

theorem holds : Holds (wins m c t) (Dt m c) (t.val / 16) (15 - t.val % 16) := by
  exact ⟨in_p H t, in_y H t, in_s H t, in_cs H t, in_sn H t, in_dm H t, in_qd H t, in_kd H t, in_bd H t, in_gn H t⟩

theorem fits (h : Fin 4) {ds : Vec Ideal S1x256x512 .f32} {f : ℕ → ℕ → ℝ} (hds : ∀ (d : Fin 256) (e : Fin 512), ds (ix3 0 d e) = ((f d e : ℝ) : EReal)) :
    Fits ((wins m c t).loads h ds) ((Dt m c).blk (t.val / 16) h (15 - t.val % 16) f) := (holds H t).fits h hds

/-- Where a half starts, no gradient is carried in. -/
theorem fits_first (h : Fin 4) (h0 : t.val % 16 = 0) :
    Fits ((wins m c t).first h) ((Dt m c).blk (t.val / 16) h (15 - t.val % 16) ((Dt m c).DS (t.val / 16) h (t.val % 16))) := by
  rw [show (Dt m c).DS (t.val / 16) h (t.val % 16) = fun _ _ => 0 by rw [h0]; funext d e; rfl]
  exact fits H t h (ds := ((wins m c t).first h).ds) (f := fun _ _ => 0) fun d e => first_ds (wins m c t) h d e

theorem newS_DS {h : Fin 4} {L : Loads} (hL : Fits L ((Dt m c).blk (t.val / 16) h (15 - t.val % 16) ((Dt m c).DS (t.val / 16) h (t.val % 16)))) (d : Fin 256) (e : Fin 512) :
    L.newS (ix3 0 d e) = (((Dt m c).DS (t.val / 16) h (t.val % 16 + 1) d e : ℝ) : EReal) := Loads.newS_at hL d e

/-- What the carried gradient holds after each point. -/
theorem scr : ∀ (n : ℕ) (hn : n < cfg0.N) (h : Fin 4) (d : Fin 256) (e : Fin 512),
    ((outsAt0 m c n hn).2.2 (ix3 h d e) : EReal) = (((Dt m c).DS (n / 16) h (n % 16 + 1) d e : ℝ) : EReal) := by
  intro n
  induction n with
  | zero =>
    intro hn h d e
    rw [outS_A m c ⟨0, hn⟩ rfl rfl, startS_eq, storedS_at]
    exact newS_DS H ⟨0, hn⟩ (fits_first H ⟨0, hn⟩ h rfl) d e
  | succ n ih =>
    intro hn h d e
    by_cases h0 : (n + 1) % 16 = 0
    · by_cases h1 : (n + 1) % 32 = 0
      · rw [outS_A m c ⟨n + 1, hn⟩ h0 h1, startS_eq, storedS_at]
        exact newS_DS H ⟨n + 1, hn⟩ (fits_first H ⟨n + 1, hn⟩ h h0) d e
      · rw [outS_C m c ⟨n + 1, hn⟩ h0 h1, startS_eq, storedS_at]
        exact newS_DS H ⟨n + 1, hn⟩ (fits_first H ⟨n + 1, hn⟩ h h0) d e
    · rw [outS_B m c ⟨n + 1, hn⟩ h0 (by show ¬ (n + 1) % 32 = 0; omega) _ rfl, storedS_at]
      refine newS_DS H ⟨n + 1, hn⟩ (fits H ⟨n + 1, hn⟩ h fun d e => ?_) d e
      refine (congrArg _ (emb_s h d e).symm).trans ((ih (by omega) h d e).trans ?_)
      show (((Dt m c).DS (n / 16) h (n % 16 + 1) d e : ℝ) : EReal) = (((Dt m c).DS ((n + 1) / 16) h ((n + 1) % 16) d e : ℝ) : EReal)
      rw [show (n + 1) / 16 = n / 16 by omega, show (n + 1) % 16 = n % 16 + 1 by omega]

theorem fits_next (h : Fin 4) (h0 : ¬ t.val % 16 = 0) :
    Fits ((wins m c t).next (outsAt0 m c (t.val - 1) (by omega)).2.2 h) ((Dt m c).blk (t.val / 16) h (15 - t.val % 16) ((Dt m c).DS (t.val / 16) h (t.val % 16))) := by
  refine fits H t h fun d e => (congrArg _ (emb_s h d e).symm).trans ((scr H (t.val - 1) (by omega) h d e).trans ?_)
  rw [show (t.val - 1) / 16 = t.val / 16 by omega, show (t.val - 1) % 16 + 1 = t.val % 16 by omega]

/-- What a block adds to the gain's gradient. -/
def gainAdd (D : Data) (h e n : ℕ) : ℝ := ∑ r ∈ Finset.range 256, D.gain (n / 16) h ((15 - n % 16) * 256 + r) e

theorem addBT {h : Fin 4} {L : Loads} (hL : Fits L ((Dt m c).blk (t.val / 16) h (15 - t.val % 16) ((Dt m c).DS (t.val / 16) h (t.val % 16)))) (a : Vec Ideal S1x512 .f32) (e : Fin 512)
    {x : ℝ} (hx : a (ix2 0 e) = ((x : ℝ) : EReal)) : L.addB (L.addT a) (ix2 0 e) = ((x + gainAdd (Dt m c) h e t.val : ℝ) : EReal) := by
  rw [Loads.addB_at hL, Loads.addT_at hL, hx, ← EReal.coe_add, ← EReal.coe_add, gainAdd, show (256 : ℕ) = 128 + 128 from rfl, Finset.sum_range_add, add_assoc]
  have k : ∀ r < 256, ∀ e, rowGn (((Dt m c).blk (t.val / 16) h (15 - t.val % 16) ((Dt m c).DS (t.val / 16) h (t.val % 16))).o r)
      (((Dt m c).blk (t.val / 16) h (15 - t.val % 16) ((Dt m c).DS (t.val / 16) h (t.val % 16))).y r) (((Dt m c).blk (t.val / 16) h (15 - t.val % 16) ((Dt m c).DS (t.val / 16) h (t.val % 16))).g r) e
      = (Dt m c).gain (t.val / 16) h ((15 - t.val % 16) * 256 + r) e := fun r hr e => by
    rw [show ((Dt m c).blk (t.val / 16) h (15 - t.val % 16) ((Dt m c).DS (t.val / 16) h (t.val % 16))).o r = _ from funext fun e => Data.blk_o (by omega) hr e]
    rfl
  congr 3
  · exact Finset.sum_congr rfl fun r hr => k r (by have := Finset.mem_range.mp hr; omega) e
  · exact Finset.sum_congr rfl fun r hr => k (128 + r) (by have := Finset.mem_range.mp hr; omega) e

/-- The gain's gradient after each point. -/
theorem acc : ∀ (n : ℕ) (hn : n < cfg0.N) (h : Fin 4) (e : Fin 512),
    ((outsAt0 m c n hn).2.1 (lane h e) : EReal) = ((∑ k ∈ Finset.range (n + 1), gainAdd (Dt m c) h e k : ℝ) : EReal) := by
  intro n
  induction n with
  | zero =>
    intro hn h e
    rw [outGn_A m c ⟨0, hn⟩ rfl rfl]
    obtain ⟨a, ha, hh⟩ := startGn_at (L := (wins m c ⟨0, hn⟩).first) (v := (ms0_11 ⟨0, hn⟩).view) (h := h) e
    rw [hh, addBT H ⟨0, hn⟩ (fits_first H ⟨0, hn⟩ h rfl) a e (x := 0) (ha.trans EReal.coe_zero.symm), Finset.sum_range_one, zero_add]
  | succ n ih =>
    intro hn h e
    have hN : n + 1 < 32 := lt_of_lt_of_eq hn N_0
    rw [Finset.sum_range_succ]
    have hp : ((outsAt0 m c (n + 1 - 1) (by omega)).2.1 (lane h e) : EReal) = ((∑ k ∈ Finset.range (n + 1), gainAdd (Dt m c) h e k : ℝ) : EReal) := ih (by omega) h e
    have hq : (View.ld (outsAt0 m c (n + 1 - 1) (by omega)).2.1 (atGn h) (ix2 0 e) : EReal) = ((∑ k ∈ Finset.range (n + 1), gainAdd (Dt m c) h e k : ℝ) : EReal) :=
      (congrArg _ (emb_gn h e).symm).trans hp
    by_cases h0 : (n + 1) % 16 = 0
    · rw [outGn_C m c ⟨n + 1, hn⟩ h0 (by show ¬ (n + 1) % 32 = 0; omega), storedGn_at]
      exact addBT H ⟨n + 1, hn⟩ (fits_first H ⟨n + 1, hn⟩ h h0) _ e hq
    · rw [outGn_B m c ⟨n + 1, hn⟩ h0 (by show ¬ (n + 1) % 32 = 0; omega) _ rfl, storedGn_at]
      exact addBT H ⟨n + 1, hn⟩ (fits_next H ⟨n + 1, hn⟩ h h0) _ e hq

end

end Cert.RetGradIdeal.Fit

end
-- ==== Proof.RetFin.lean ====
/- The two results of the retention's gradient, as real numbers. -/
module

public import proofs.«01_k».proof.Proof.RetFit

@[expose] public section

set_option maxRecDepth 16384
set_option maxHeartbeats 1000000

noncomputable section

namespace Cert.RetGradIdeal.Fit

open Idealize.ShloMosaic Idealize.SL.Sem Cert.RetGradIdeal Cert.RetGradIdeal.Gen Cert.RetGradIdeal.Value Cert.RetMath Cert.RetGradIdeal.Win Cert.RetGradIdeal.Block Cert.RetGradIdeal.Head

/-- What a point stores of the projections' gradient. -/
theorem storedP_out {D : Data} {b i : ℕ} (hi : i < 16) {L : Fin 4 → Loads} (hL : ∀ h : Fin 4, Fits (L h) (D.blk b h i (D.DS b h (15 - i)))) (r : Fin 256) (n : Fin 6144) :
    (View.canon (storedP L) (ix2 r n) : EReal) = ((D.outP b (i * 256 + r) n : ℝ) : EReal) := by
  obtain ⟨n, hn⟩ := n
  by_cases h1 : n < 1024
  · obtain ⟨h, d, rfl⟩ : ∃ (h : Fin 4) (d : Fin 256), n = 256 * h.val + d.val := ⟨⟨n / 256, by omega⟩, ⟨n % 256, by omega⟩, by simp only; omega⟩
    rw [storedP_q, Loads.outQ_at (hL h), Data.outP_q d.isLt h.isLt]
    exact congrArg (fun f => ((unrot (D.C (i * 256 + r)) (D.S (i * 256 + r)) f d : ℝ) : EReal)) (funext fun d => Data.blk_dq hi r.isLt d)
  by_cases h2 : n < 2048
  · obtain ⟨h, d, rfl⟩ : ∃ (h : Fin 4) (d : Fin 256), n = 1024 + 256 * h.val + d.val := ⟨⟨(n - 1024) / 256, by omega⟩, ⟨n % 256, by omega⟩, by simp only; omega⟩
    rw [storedP_k, Loads.outK_at (hL h), Data.outP_k d.isLt h.isLt]
    exact congrArg (fun f => ((unrot (D.C (i * 256 + r)) (D.S (i * 256 + r)) f d * (1 / 16) : ℝ) : EReal)) (funext fun d => Data.blk_dk hi r.isLt d)
  by_cases h3 : n < 4096
  · obtain ⟨h, e, rfl⟩ : ∃ (h : Fin 4) (e : Fin 512), n = 2048 + 512 * h.val + e.val := ⟨⟨(n - 2048) / 512, by omega⟩, ⟨n % 512, by omega⟩, by simp only; omega⟩
    rw [storedP_v, Loads.outV_at (hL h), Data.outP_v e.isLt h.isLt, Data.blk_dv hi r.isLt]
  obtain ⟨h, e, rfl⟩ : ∃ (h : Fin 4) (e : Fin 512), n = 4096 + 512 * h.val + e.val := ⟨⟨(n - 4096) / 512, by omega⟩, ⟨n % 512, by omega⟩, by simp only; omega⟩
  have k : ∀ r : ℕ, r < 256 → rowG ((D.blk b h i (D.DS b h (15 - i))).o r) ((D.blk b h i (D.DS b h (15 - i))).y r) ((D.blk b h i (D.DS b h (15 - i))).g r) (D.blk b h i (D.DS b h (15 - i))).gn e
      = D.outG b h (i * 256 + r) e := fun r hr => by
    rw [show (D.blk b h i (D.DS b h (15 - i))).o r = _ from funext fun e => Data.blk_o hi hr e]
    rfl
  rw [Data.outP_g e.isLt, ← k r.val r.isLt]
  obtain ⟨r, hr⟩ := r
  by_cases h4 : r < 128
  · exact (storedP_gt ⟨r, h4⟩ e).trans (Loads.outGT_at (hL h) ⟨r, h4⟩ e)
  · obtain ⟨q, rfl⟩ : ∃ q, r = 128 + q := ⟨r - 128, by omega⟩
    exact (storedP_gb ⟨q, by omega⟩ e).trans (Loads.outGB_at (hL h) ⟨q, by omega⟩ e)

variable {m : (ℓ : Loc nD τ sig) → Buf (Elt Ideal) ℓ} {c : Dev nD} (H : Rl m c)
include H

theorem outP_pt (t : Fin cfg0.N) (r : Fin 256) (n : Fin 6144) :
    ((outsAt0 m c t.val t.isLt).1 (ix2 r n) : EReal) = (((Dt m c).outP (t.val / 16) ((15 - t.val % 16) * 256 + r) n : ℝ) : EReal) := by
  have e : 15 - (15 - t.val % 16) = t.val % 16 := by omega
  by_cases h0 : t.val % 16 = 0
  · by_cases h1 : t.val % 32 = 0
    · rw [outP_A m c t h0 h1]
      exact storedP_out (by omega) (fun h => by rw [e]; exact fits_first H t h h0) r n
    · rw [outP_C m c t h0 h1]
      exact storedP_out (by omega) (fun h => by rw [e]; exact fits_first H t h h0) r n
  · rw [outP_B m c t h0 (by omega) _ rfl]
    exact storedP_out (by omega) (fun h => by rw [e]; exact fits_next H t h h0) r n

theorem outP_fin : (dats m 0 c).arrAt 10 cfg0.N = fun i : S8192x6144.Idx => (((Dt m c).outP ((i 0).val / 4096) ((i 0).val % 4096) (i 1).val : ℝ) : EReal) := by
  refine (dats m 0 c).arrAt_eq_of_covers 10 _ (by decide +kernel) fun t _ y => ?_
  have ht := bnd H t
  blk_simp
  rw [after0_10]
  obtain ⟨r, n, rfl⟩ : ∃ (r : Fin 256) (n : Fin 6144), y = ix2 r n := ⟨y 0, y 1, by blk_ext⟩
  have hr := r.isLt
  refine (outP_pt H t r n).trans ?_
  rw [(idx t).2.2.2.2.2.2.2.2.2.2.1]
  show _ = (((Dt m c).outP (((16 * (t.val / 16) + (15 - t.val % 16)) * 256 + r.val) / 4096) (((16 * (t.val / 16) + (15 - t.val % 16)) * 256 + r.val) % 4096) (0 * 6144 + n.val) : ℝ) : EReal)
  rw [show ((16 * (t.val / 16) + (15 - t.val % 16)) * 256 + r.val) / 4096 = t.val / 16 by omega,
    show ((16 * (t.val / 16) + (15 - t.val % 16)) * 256 + r.val) % 4096 = (15 - t.val % 16) * 256 + r.val by omega, Nat.zero_mul, Nat.zero_add]

omit H in
theorem blocks_sum (f : ℕ → ℝ) : ∀ k : ℕ, ∑ s ∈ Finset.range (k * 256), f s = ∑ i ∈ Finset.range k, ∑ r ∈ Finset.range 256, f (i * 256 + r)
  | 0 => by rw [Nat.zero_mul]; rfl
  | k + 1 => by rw [Nat.succ_mul, Finset.sum_range_add, blocks_sum f k, Finset.sum_range_succ (fun i => ∑ r ∈ Finset.range 256, f (i * 256 + r))]

omit H in
theorem gain_sum (D : Data) (h e : ℕ) : ∑ k ∈ Finset.range 32, gainAdd D h e k = ∑ b ∈ Finset.range 2, ∑ s ∈ Finset.range 4096, D.gain b h s e := by
  have k16 : ∀ b, ∑ s ∈ Finset.range 4096, D.gain b h s e = ∑ j ∈ Finset.range 16, gainAdd D h e (b * 16 + j) := fun b => by
    rw [show 4096 = 16 * 256 from rfl, blocks_sum, ← Finset.sum_range_reflect]
    refine Finset.sum_congr rfl fun j hj => ?_
    have := Finset.mem_range.mp hj
    rw [gainAdd, show (b * 16 + j) / 16 = b by omega, show (b * 16 + j) % 16 = j by omega]
  rw [show (2 : ℕ) = 1 + 1 from rfl, Finset.sum_range_succ _ 1, Finset.sum_range_one, k16, k16, show 32 = 16 + 16 from rfl, Finset.sum_range_add]
  simp only [zero_mul, zero_add, one_mul]

/-- The last point. -/
def tl : Fin cfg0.N := ⟨31, by decide +kernel⟩

theorem outGn_fin : (dats m 0 c).arrAt 11 cfg0.N = fun i : S1x2048.Idx => (((Dt m c).outGn (i 1).val : ℝ) : EReal) := by
  refine (dats m 0 c).arrAt_eq_of_after_last 11 tl (by decide +kernel) _ fun j => ?_
  blk_simp
  rw [after0_11]
  obtain ⟨z, n, rfl⟩ : ∃ (z : Fin 1) (n : Fin 2048), j = ix2 z n := ⟨j 0, j 1, by blk_ext⟩
  have hn := n.isLt
  have e : (ix2 z n : S1x2048.Idx) = lane ⟨n.val / 512, by omega⟩ ⟨n.val % 512, by omega⟩ := by
    unfold lane
    obtain rfl : z = 0 := Subsingleton.elim _ _
    exact congrArg _ (Fin.ext (by show n.val = 512 * (n.val / 512) + n.val % 512; omega))
  rw [e]
  refine (acc H 31 (by decide +kernel) ⟨n.val / 512, by omega⟩ ⟨n.val % 512, by omega⟩).trans ?_
  rw [gain_sum, ← e]
  rfl

end Cert.RetGradIdeal.Fit

end
-- ==== Proof.RetRefRun.lean ====
/- The run of the retention gradient's reference: straight host operations, a counted host loop (the forward recurrence over 64 chunks),
   more host operations, a second counted loop (the chunks backwards), and the closing operations. The lists below are the program's own
   operations, cut where a topic ends; the two loops are segments of the loop kit. -/
module

public import proofs.«01_k».proof.Defs
public import proofs.«01_k».proof.Proof.Gen.RetGradRefIdeal
public import Idealize.ShloMosaic.Lib.Pipeline.RegionsLoop
public import Idealize.ShloMosaic.Lib.Pipeline.RegionsOwned
public import Idealize.ShloMosaic.Lib.StableHlo.RunLoop
public import Idealize.ShloMosaic.Lib.StableHlo.Run
public import Idealize.ShloMosaic.Lib.Scf.ExitTest
public import Idealize.ShloMosaic.Lib.Scf.Counter
public import Idealize.ShloMosaic.Lib.Claim

@[expose] public section

set_option maxRecDepth 16384

noncomputable section

namespace Cert.RetGradRefIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## The operation lists -/

abbrev pre0 : List (HloOp τ sig (Elt F)) :=
  [ StableHlo.unary main_arg0 main_v0 ((extractStridedSlice S2x4096x1024 ![0, 0, 0] · slices_S2x4096x6144_S2x4096x1024_0_0_0) : (⟨S2x4096x6144, .f32⟩ : BufTy).Contents (Elt F) → (⟨S2x4096x1024, .f32⟩ : BufTy).Contents (Elt F)),
    StableHlo.unary main_arg0 main_v1 ((extractStridedSlice S2x4096x1024 ![0, 0, 1024] · slices_S2x4096x6144_S2x4096x1024_0_0_1024) : (⟨S2x4096x6144, .f32⟩ : BufTy).Contents (Elt F) → (⟨S2x4096x1024, .f32⟩ : BufTy).Contents (Elt F)),
    StableHlo.unary main_arg0 main_v2 ((extractStridedSlice S2x4096x2048 ![0, 0, 2048] · slices_S2x4096x6144_S2x4096x2048_0_0_2048) : (⟨S2x4096x6144, .f32⟩ : BufTy).Contents (Elt F) → (⟨S2x4096x2048, .f32⟩ : BufTy).Contents (Elt F)),
    StableHlo.unary main_arg0 main_v3 ((extractStridedSlice S2x4096x2048 ![0, 0, 4096] · slices_S2x4096x6144_S2x4096x2048_0_0_4096) : (⟨S2x4096x6144, .f32⟩ : BufTy).Contents (Elt F) → (⟨S2x4096x2048, .f32⟩ : BufTy).Contents (Elt F)),
    StableHlo.reshape main_v0 main_v4 (rfl : (.f32 : EltTy) = .f32) shapeCasts_S2x4096x1024_S2x4096x4x256,
    StableHlo.reshape main_v1 main_v5 (rfl : (.f32 : EltTy) = .f32) shapeCasts_S2x4096x1024_S2x4096x4x256,
    StableHlo.reshape main_v2 main_v6 (rfl : (.f32 : EltTy) = .f32) shapeCasts_S2x4096x2048_S2x4096x4x512,
    StableHlo.nullary main_v7 (sitofp .f32 (iotaInDim S4096 32 0)),
    StableHlo.nullary main_cst (constant S_ .f32 0x461C4000#32),
    StableHlo.unary main_cst main_v8 (Host.log : (⟨S_, .f32⟩ : BufTy).Contents (Elt F) → (⟨S_, .f32⟩ : BufTy).Contents (Elt F)),
    StableHlo.unary main_v8 main_v9 (Host.negf : (⟨S_, .f32⟩ : BufTy).Contents (Elt F) → (⟨S_, .f32⟩ : BufTy).Contents (Elt F)),
    StableHlo.nullary main_v10 (sitofp .f32 (iotaInDim S128 32 0)),
    StableHlo.unary main_v9 main_v11 (id : (⟨S_, .f32⟩ : BufTy).Contents (Elt F) → (⟨S_, .f32⟩ : BufTy).Contents (Elt F)),
    StableHlo.unary main_v11 main_v12 (broadcastInDim S128 ![] bcast_S_S128 : (⟨S_, .f32⟩ : BufTy).Contents (Elt F) → (⟨S128, .f32⟩ : BufTy).Contents (Elt F)),
    StableHlo.binary main_v12 main_v10 main_v13 (mulf : (⟨S128, .f32⟩ : BufTy).Contents (Elt F) → (⟨S128, .f32⟩ : BufTy).Contents (Elt F) → (⟨S128, .f32⟩ : BufTy).Contents (Elt F)),
    StableHlo.nullary main_cst_0 (constant S_ .f32 0x43000000#32),
    StableHlo.unary main_cst_0 main_v14 (broadcastInDim S128 ![] bcast_S_S128 : (⟨S_, .f32⟩ : BufTy).Contents (Elt F) → (⟨S128, .f32⟩ : BufTy).Contents (Elt F)),
    StableHlo.binary main_v13 main_v14 main_v15 (Host.divf : (⟨S128, .f32⟩ : BufTy).Contents (Elt F) → (⟨S128, .f32⟩ : BufTy).Contents (Elt F) → (⟨S128, .f32⟩ : BufTy).Contents (Elt F)),
    StableHlo.unary main_v15 main_v16 (Host.exp : (⟨S128, .f32⟩ : BufTy).Contents (Elt F) → (⟨S128, .f32⟩ : BufTy).Contents (Elt F)),
    StableHlo.unary main_v7 main_v17 (broadcastInDim S4096x1 ![0] bcast_S4096_S4096x1_0 : (⟨S4096, .f32⟩ : BufTy).Contents (Elt F) → (⟨S4096x1, .f32⟩ : BufTy).Contents (Elt F)),
    StableHlo.unary main_v16 main_v18 (broadcastInDim S1x128 ![1] bcast_S128_S1x128_1 : (⟨S128, .f32⟩ : BufTy).Contents (Elt F) → (⟨S1x128, .f32⟩ : BufTy).Contents (Elt F)),
    StableHlo.unary main_v17 main_v19 (broadcastInDim S4096x128 ![0, 1] bcast_S4096x1_S4096x128_0_1 : (⟨S4096x1, .f32⟩ : BufTy).Contents (Elt F) → (⟨S4096x128, .f32⟩ : BufTy).Contents (Elt F)),
    StableHlo.unary main_v18 main_v20 (broadcastInDim S4096x128 ![0, 1] bcast_S1x128_S4096x128_0_1 : (⟨S1x128, .f32⟩ : BufTy).Contents (Elt F) → (⟨S4096x128, .f32⟩ : BufTy).Contents (Elt F)),
    StableHlo.binary main_v19 main_v20 main_v21 (mulf : (⟨S4096x128, .f32⟩ : BufTy).Contents (Elt F) → (⟨S4096x128, .f32⟩ : BufTy).Contents (Elt F) → (⟨S4096x128, .f32⟩ : BufTy).Contents (Elt F)),
    StableHlo.unary main_v21 main_v22 (Host.cos : (⟨S4096x128, .f32⟩ : BufTy).Contents (Elt F) → (⟨S4096x128, .f32⟩ : BufTy).Contents (Elt F)),
    StableHlo.unary main_v22 main_v23 (broadcastInDim S1x4096x1x128 ![1, 3] bcast_S4096x128_S1x4096x1x128_1_3 : (⟨S4096x128, .f32⟩ : BufTy).Contents (Elt F) → (⟨S1x4096x1x128, .f32⟩ : BufTy).Contents (Elt F)),
    StableHlo.unary main_v21 main_v24 (Host.sin : (⟨S4096x128, .f32⟩ : BufTy).Contents (Elt F) → (⟨S4096x128, .f32⟩ : BufTy).Contents (Elt F)),
    StableHlo.unary main_v24 main_v25 (broadcastInDim S1x4096x1x128 ![1, 3] bcast_S4096x128_S1x4096x1x128_1_3 : (⟨S4096x128, .f32⟩ : BufTy).Contents (Elt F) → (⟨S1x4096x1x128, .f32⟩ : BufTy).Contents (Elt F)) ]
theorem pre0_sub : (pre0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.reshape_bufs_sub .., StableHlo.reshape_bufs_sub .., StableHlo.reshape_bufs_sub .., StableHlo.nullary_bufs_sub .., StableHlo.nullary_bufs_sub .., StableHlo.unary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub ..⟩
theorem pre0_fresh : (pre0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
abbrev pre0_W : List (Ref sig .tc) := [main_v0, main_v1, main_v2, main_v3, main_v4, main_v5, main_v6, main_v7, main_cst, main_v8, main_v9, main_v10, main_v11, main_v12, main_v13, main_cst_0, main_v14, main_v15, main_v16, main_v17, main_v18, main_v19, main_v20, main_v21, main_v22, main_v23, main_v24, main_v25]
theorem pre0_writes : (pre0 : List (HloOp τ sig (Elt F))).Forall fun op => op.writes ⊆ (pre0_W.map (Proc.devRef (τ := τ) .tc)).toFinset :=
  StableHlo.forall_writes_sub_of_map rfl

abbrev pre1 : List (HloOp τ sig (Elt F)) :=
  [ StableHlo.unary main_v4 main_v26 ((extractStridedSlice S2x4096x4x128 ![0, 0, 0, 0] · slices_S2x4096x4x256_S2x4096x4x128_0_0_0_0) : (⟨S2x4096x4x256, .f32⟩ : BufTy).Contents (Elt F) → (⟨S2x4096x4x128, .f32⟩ : BufTy).Contents (Elt F)),
    StableHlo.unary main_v4 main_v27 ((extractStridedSlice S2x4096x4x128 ![0, 0, 0, 128] · slices_S2x4096x4x256_S2x4096x4x128_0_0_0_128) : (⟨S2x4096x4x256, .f32⟩ : BufTy).Contents (Elt F) → (⟨S2x4096x4x128, .f32⟩ : BufTy).Contents (Elt F)),
    StableHlo.unary main_v23 main_v28 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v26 main_v28 main_v29 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v25 main_v30 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v27 main_v30 main_v31 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v29 main_v31 main_v32 (subf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v25 main_v33 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v26 main_v33 main_v34 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v23 main_v35 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v27 main_v35 main_v36 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v34 main_v36 main_v37 (addf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v32 main_v37 main_v38 ((fun a b => concatenate S2x4096x4x256 3 [⟨S2x4096x4x128, a⟩, ⟨S2x4096x4x128, b⟩] concatenates_S2x4096x4x128_S2x4096x4x128_S2x4096x4x256_d3) : (⟨S2x4096x4x128, .f32⟩ : BufTy).Contents (Elt F) → (⟨S2x4096x4x128, .f32⟩ : BufTy).Contents (Elt F) → (⟨S2x4096x4x256, .f32⟩ : BufTy).Contents (Elt F)) ]
theorem pre1_sub : (pre1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩
theorem pre1_fresh : (pre1 : List (HloOp τ sig (Elt F))).Forall fun op => op.fresh = ∅ :=
  ⟨rfl, rfl, rfl, rfl, rfl, rfl, rfl, rfl, rfl, rfl, rfl, rfl, rfl⟩
abbrev pre1_W : List (Ref sig .tc) := [main_v26, main_v27, main_v28, main_v29, main_v30, main_v31, main_v32, main_v33, main_v34, main_v35, main_v36, main_v37, main_v38]
theorem pre1_writes : (pre1 : List (HloOp τ sig (Elt F))).Forall fun op => op.writes ⊆ (pre1_W.map (Proc.devRef (τ := τ) .tc)).toFinset :=
  StableHlo.forall_writes_sub_of_map rfl

abbrev pre2 : List (HloOp τ sig (Elt F)) :=
  [ StableHlo.nullary main_cst_1 (constant S_ .f32 0x461C4000#32),
    StableHlo.unary main_cst_1 main_v39 (Host.log : (⟨S_, .f32⟩ : BufTy).Contents (Elt F) → (⟨S_, .f32⟩ : BufTy).Contents (Elt F)),
    StableHlo.unary main_v39 main_v40 (Host.negf : (⟨S_, .f32⟩ : BufTy).Contents (Elt F) → (⟨S_, .f32⟩ : BufTy).Contents (Elt F)),
    StableHlo.nullary main_v41 (sitofp .f32 (iotaInDim S128 32 0)),
    StableHlo.unary main_v40 main_v42 (id : (⟨S_, .f32⟩ : BufTy).Contents (Elt F) → (⟨S_, .f32⟩ : BufTy).Contents (Elt F)),
    StableHlo.unary main_v42 main_v43 (broadcastInDim S128 ![] bcast_S_S128 : (⟨S_, .f32⟩ : BufTy).Contents (Elt F) → (⟨S128, .f32⟩ : BufTy).Contents (Elt F)),
    StableHlo.binary main_v43 main_v41 main_v44 (mulf : (⟨S128, .f32⟩ : BufTy).Contents (Elt F) → (⟨S128, .f32⟩ : BufTy).Contents (Elt F) → (⟨S128, .f32⟩ : BufTy).Contents (Elt F)),
    StableHlo.nullary main_cst_2 (constant S_ .f32 0x43000000#32),
    StableHlo.unary main_cst_2 main_v45 (broadcastInDim S128 ![] bcast_S_S128 : (⟨S_, .f32⟩ : BufTy).Contents (Elt F) → (⟨S128, .f32⟩ : BufTy).Contents (Elt F)),
    StableHlo.binary main_v44 main_v45 main_v46 (Host.divf : (⟨S128, .f32⟩ : BufTy).Contents (Elt F) → (⟨S128, .f32⟩ : BufTy).Contents (Elt F) → (⟨S128, .f32⟩ : BufTy).Contents (Elt F)),
    StableHlo.unary main_v46 main_v47 (Host.exp : (⟨S128, .f32⟩ : BufTy).Contents (Elt F) → (⟨S128, .f32⟩ : BufTy).Contents (Elt F)),
    StableHlo.unary main_v7 main_v48 (broadcastInDim S4096x1 ![0] bcast_S4096_S4096x1_0 : (⟨S4096, .f32⟩ : BufTy).Contents (Elt F) → (⟨S4096x1, .f32⟩ : BufTy).Contents (Elt F)),
    StableHlo.unary main_v47 main_v49 (broadcastInDim S1x128 ![1] bcast_S128_S1x128_1 : (⟨S128, .f32⟩ : BufTy).Contents (Elt F) → (⟨S1x128, .f32⟩ : BufTy).Contents (Elt F)),
    StableHlo.unary main_v48 main_v50 (broadcastInDim S4096x128 ![0, 1] bcast_S4096x1_S4096x128_0_1 : (⟨S4096x1, .f32⟩ : BufTy).Contents (Elt F) → (⟨S4096x128, .f32⟩ : BufTy).Contents (Elt F)),
    StableHlo.unary main_v49 main_v51 (broadcastInDim S4096x128 ![0, 1] bcast_S1x128_S4096x128_0_1 : (⟨S1x128, .f32⟩ : BufTy).Contents (Elt F) → (⟨S4096x128, .f32⟩ : BufTy).Contents (Elt F)),
    StableHlo.binary main_v50 main_v51 main_v52 (mulf : (⟨S4096x128, .f32⟩ : BufTy).Contents (Elt F) → (⟨S4096x128, .f32⟩ : BufTy).Contents (Elt F) → (⟨S4096x128, .f32⟩ : BufTy).Contents (Elt F)),
    StableHlo.unary main_v52 main_v53 (Host.cos : (⟨S4096x128, .f32⟩ : BufTy).Contents (Elt F) → (⟨S4096x128, .f32⟩ : BufTy).Contents (Elt F)),
    StableHlo.unary main_v53 main_v54 (broadcastInDim S1x4096x1x128 ![1, 3] bcast_S4096x128_S1x4096x1x128_1_3 : (⟨S4096x128, .f32⟩ : BufTy).Contents (Elt F) → (⟨S1x4096x1x128, .f32⟩ : BufTy).Contents (Elt F)),
    StableHlo.unary main_v52 main_v55 (Host.sin : (⟨S4096x128, .f32⟩ : BufTy).Contents (Elt F) → (⟨S4096x128, .f32⟩ : BufTy).Contents (Elt F)) ]
theorem pre2_sub : (pre2 : List (HloOp τ sig (Elt F))).Forall fun op => op.bufs ⊆ StableHlo.tcRefs τ sig :=
  ⟨StableHlo.nullary_bufs_sub .., StableHlo.unary_bufs_sub .., StableHlo.unary_bufs_sub .., StableHlo.nullary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub ..⟩
theorem pre2_fresh : (pre2 : List (HloOp τ sig (Elt F))).Forall fun op => op.fresh = ∅ :=
  ⟨rfl, rfl, rfl, rfl, rfl, rfl, rfl, rfl, rfl, rfl, rfl, rfl, rfl, rfl, rfl, rfl, rfl, rfl, rfl⟩
abbrev pre2_W : List (Ref sig .tc) := [main_cst_1, main_v39, main_v40, main_v41, main_v42, main_v43, main_v44, main_cst_2, main_v45, main_v46, main_v47, main_v48, main_v49, main_v50, main_v51, main_v52, main_v53, main_v54, main_v55]
theorem pre2_writes : (pre2 : List (HloOp τ sig (Elt F))).Forall fun op => op.writes ⊆ (pre2_W.map (Proc.devRef (τ := τ) .tc)).toFinset :=
  StableHlo.forall_writes_sub_of_map rfl

abbrev pre3 : List (HloOp τ sig (Elt F)) :=
  [ StableHlo.unary main_v55 main_v56 (broadcastInDim S1x4096x1x128 ![1, 3] bcast_S4096x128_S1x4096x1x128_1_3 : (⟨S4096x128, .f32⟩ : BufTy).Contents (Elt F) → (⟨S1x4096x1x128, .f32⟩ : BufTy).Contents (Elt F)),
    StableHlo.unary main_v5 main_v57 ((extractStridedSlice S2x4096x4x128 ![0, 0, 0, 0] · slices_S2x4096x4x256_S2x4096x4x128_0_0_0_0) : (⟨S2x4096x4x256, .f32⟩ : BufTy).Contents (Elt F) → (⟨S2x4096x4x128, .f32⟩ : BufTy).Contents (Elt F)),
    StableHlo.unary main_v5 main_v58 ((extractStridedSlice S2x4096x4x128 ![0, 0, 0, 128] · slices_S2x4096x4x256_S2x4096x4x128_0_0_0_128) : (⟨S2x4096x4x256, .f32⟩ : BufTy).Contents (Elt F) → (⟨S2x4096x4x128, .f32⟩ : BufTy).Contents (Elt F)),
    StableHlo.unary main_v54 main_v59 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v57 main_v59 main_v60 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v56 main_v61 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v58 main_v61 main_v62 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v60 main_v62 main_v63 (subf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v56 main_v64 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v57 main_v64 main_v65 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v54 main_v66 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v58 main_v66 main_v67 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v65 main_v67 main_v68 (addf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v63 main_v68 main_v69 ((fun a b => concatenate S2x4096x4x256 3 [⟨S2x4096x4x128, a⟩, ⟨S2x4096x4x128, b⟩] concatenates_S2x4096x4x128_S2x4096x4x128_S2x4096x4x256_d3) : (⟨S2x4096x4x128, .f32⟩ : BufTy).Contents (Elt F) → (⟨S2x4096x4x128, .f32⟩ : BufTy).Contents (Elt F) → (⟨S2x4096x4x256, .f32⟩ : BufTy).Contents (Elt F)) ]
theorem pre3_sub : (pre3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub ..⟩
theorem pre3_fresh : (pre3 : List (HloOp τ sig (Elt F))).Forall fun op => op.fresh = ∅ :=
  ⟨rfl, rfl, rfl, rfl, rfl, rfl, rfl, rfl, rfl, rfl, rfl, rfl, rfl, rfl⟩
abbrev pre3_W : List (Ref sig .tc) := [main_v56, main_v57, main_v58, main_v59, main_v60, main_v61, main_v62, main_v63, main_v64, main_v65, main_v66, main_v67, main_v68, main_v69]
theorem pre3_writes : (pre3 : List (HloOp τ sig (Elt F))).Forall fun op => op.writes ⊆ (pre3_W.map (Proc.devRef (τ := τ) .tc)).toFinset :=
  StableHlo.forall_writes_sub_of_map rfl

abbrev pre4 : List (HloOp τ sig (Elt F)) :=
  [ StableHlo.nullary main_cst_3 (constant S_ .f32 0x3D800000#32),
    StableHlo.unary main_cst_3 main_v70 (broadcastInDim S2x4096x4x256 ![] bcast_S_S2x4096x4x256 : (⟨S_, .f32⟩ : BufTy).Contents (Elt F) → (⟨S2x4096x4x256, .f32⟩ : BufTy).Contents (Elt F)),
    StableHlo.binary main_v69 main_v70 main_v71 (mulf : (⟨S2x4096x4x256, .f32⟩ : BufTy).Contents (Elt F) → (⟨S2x4096x4x256, .f32⟩ : BufTy).Contents (Elt F) → (⟨S2x4096x4x256, .f32⟩ : BufTy).Contents (Elt F)),
    StableHlo.reshape main_v38 main_v72 (rfl : (.f32 : EltTy) = .f32) shapeCasts_S2x4096x4x256_S2x64x64x4x256,
    StableHlo.unary main_v72 main_v73 ((transpose S64x2x4x64x256 [1, 0, 3, 2, 4] · transposes_S2x64x64x4x256_S64x2x4x64x256_1_0_3_2_4) : (⟨S2x64x64x4x256, .f32⟩ : BufTy).Contents (Elt F) → (⟨S64x2x4x64x256, .f32⟩ : BufTy).Contents (Elt F)),
    StableHlo.reshape main_v71 main_v74 (rfl : (.f32 : EltTy) = .f32) shapeCasts_S2x4096x4x256_S2x64x64x4x256,
    StableHlo.unary main_v74 main_v75 ((transpose S64x2x4x64x256 [1, 0, 3, 2, 4] · transposes_S2x64x64x4x256_S64x2x4x64x256_1_0_3_2_4) : (⟨S2x64x64x4x256, .f32⟩ : BufTy).Contents (Elt F) → (⟨S64x2x4x64x256, .f32⟩ : BufTy).Contents (Elt F)),
    StableHlo.reshape main_v6 main_v76 (rfl : (.f32 : EltTy) = .f32) shapeCasts_S2x4096x4x512_S2x64x64x4x512,
    StableHlo.unary main_v76 main_v77 ((transpose S64x2x4x64x512 [1, 0, 3, 2, 4] · transposes_S2x64x64x4x512_S64x2x4x64x512_1_0_3_2_4) : (⟨S2x64x64x4x512, .f32⟩ : BufTy).Contents (Elt F) → (⟨S64x2x4x64x512, .f32⟩ : BufTy).Contents (Elt F)) ]
theorem pre4_sub : (pre4 : List (HloOp τ sig (Elt F))).Forall fun op => op.bufs ⊆ StableHlo.tcRefs τ sig :=
  ⟨StableHlo.nullary_bufs_sub .., StableHlo.unary_bufs_sub .., StableHlo.binary_bufs_sub .., StableHlo.reshape_bufs_sub .., StableHlo.unary_bufs_sub .., StableHlo.reshape_bufs_sub .., StableHlo.unary_bufs_sub .., StableHlo.reshape_bufs_sub .., StableHlo.unary_bufs_sub ..⟩
theorem pre4_fresh : (pre4 : List (HloOp τ sig (Elt F))).Forall fun op => op.fresh = ∅ :=
  ⟨rfl, rfl, rfl, rfl, rfl, rfl, rfl, rfl, rfl⟩
abbrev pre4_W : List (Ref sig .tc) := [main_cst_3, main_v70, main_v71, main_v72, main_v73, main_v74, main_v75, main_v76, main_v77]
theorem pre4_writes : (pre4 : List (HloOp τ sig (Elt F))).Forall fun op => op.writes ⊆ (pre4_W.map (Proc.devRef (τ := τ) .tc)).toFinset :=
  StableHlo.forall_writes_sub_of_map rfl

abbrev pre5 : List (HloOp τ sig (Elt F)) :=
  [ StableHlo.nullary main_v78 (sitofp .f32 (iotaInDim S4 32 0)),
    StableHlo.nullary main_cst_4 (constant S_ .f32 0xC0A00000#32),
    StableHlo.unary main_cst_4 main_v79 (broadcastInDim S4 ![] bcast_S_S4 : (⟨S_, .f32⟩ : BufTy).Contents (Elt F) → (⟨S4, .f32⟩ : BufTy).Contents (Elt F)),
    StableHlo.binary main_v79 main_v78 main_v80 (subf : (⟨S4, .f32⟩ : BufTy).Contents (Elt F) → (⟨S4, .f32⟩ : BufTy).Contents (Elt F) → (⟨S4, .f32⟩ : BufTy).Contents (Elt F)),
    StableHlo.nullary main_cst_5 (constant S_ .f32 0x3F317218#32),
    StableHlo.unary main_cst_5 main_v81 (broadcastInDim S4 ![] bcast_S_S4 : (⟨S_, .f32⟩ : BufTy).Contents (Elt F) → (⟨S4, .f32⟩ : BufTy).Contents (Elt F)),
    StableHlo.binary main_v81 main_v80 main_v82 (mulf : (⟨S4, .f32⟩ : BufTy).Contents (Elt F) → (⟨S4, .f32⟩ : BufTy).Contents (Elt F) → (⟨S4, .f32⟩ : BufTy).Contents (Elt F)),
    StableHlo.unary main_v82 main_v83 (Host.exp : (⟨S4, .f32⟩ : BufTy).Contents (Elt F) → (⟨S4, .f32⟩ : BufTy).Contents (Elt F)),
    StableHlo.unary main_v83 main_v84 (Host.negf : (⟨S4, .f32⟩ : BufTy).Contents (Elt F) → (⟨S4, .f32⟩ : BufTy).Contents (Elt F)),
    StableHlo.unary main_v84 main_v85 (Host.log1p : (⟨S4, .f32⟩ : BufTy).Contents (Elt F) → (⟨S4, .f32⟩ : BufTy).Contents (Elt F)) ]
theorem pre5_sub : (pre5 : List (HloOp τ sig (Elt F))).Forall fun op => op.bufs ⊆ StableHlo.tcRefs τ sig :=
  ⟨StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub ..⟩
theorem pre5_fresh : (pre5 : List (HloOp τ sig (Elt F))).Forall fun op => op.fresh = ∅ :=
  ⟨rfl, rfl, rfl, rfl, rfl, rfl, rfl, rfl, rfl, rfl⟩
abbrev pre5_W : List (Ref sig .tc) := [main_v78, main_cst_4, main_v79, main_v80, main_cst_5, main_v81, main_v82, main_v83, main_v84, main_v85]
theorem pre5_writes : (pre5 : List (HloOp τ sig (Elt F))).Forall fun op => op.writes ⊆ (pre5_W.map (Proc.devRef (τ := τ) .tc)).toFinset :=
  StableHlo.forall_writes_sub_of_map rfl

abbrev pre6 : List (HloOp τ sig (Elt F)) :=
  [ StableHlo.nullary main_v86 (sitofp .f32 (iotaInDim S64 32 0)),
    StableHlo.unary main_v85 main_v87 (broadcastInDim S4x1x1 ![0] bcast_S4_S4x1x1_0 : (⟨S4, .f32⟩ : BufTy).Contents (Elt F) → (⟨S4x1x1, .f32⟩ : BufTy).Contents (Elt F)),
    StableHlo.unary main_v86 main_v88 (broadcastInDim S64x1 ![0] bcast_S64_S64x1_0 : (⟨S64, .f32⟩ : BufTy).Contents (Elt F) → (⟨S64x1, .f32⟩ : BufTy).Contents (Elt F)),
    StableHlo.unary main_v86 main_v89 (broadcastInDim S1x64 ![1] bcast_S64_S1x64_1 : (⟨S64, .f32⟩ : BufTy).Contents (Elt F) → (⟨S1x64, .f32⟩ : BufTy).Contents (Elt F)),
    StableHlo.unary main_v88 main_v90 (broadcastInDim S64x64 ![0, 1] bcast_S64x1_S64x64_0_1 : (⟨S64x1, .f32⟩ : BufTy).Contents (Elt F) → (⟨S64x64, .f32⟩ : BufTy).Contents (Elt F)),
    StableHlo.unary main_v89 main_v91 (broadcastInDim S64x64 ![0, 1] bcast_S1x64_S64x64_0_1 : (⟨S1x64, .f32⟩ : BufTy).Contents (Elt F) → (⟨S64x64, .f32⟩ : BufTy).Contents (Elt F)),
    StableHlo.binary main_v90 main_v91 main_v92 (subf : (⟨S64x64, .f32⟩ : BufTy).Contents (Elt F) → (⟨S64x64, .f32⟩ : BufTy).Contents (Elt F) → (⟨S64x64, .f32⟩ : BufTy).Contents (Elt F)),
    StableHlo.unary main_v92 main_v93 (Host.absf : (⟨S64x64, .f32⟩ : BufTy).Contents (Elt F) → (⟨S64x64, .f32⟩ : BufTy).Contents (Elt F)),
    StableHlo.unary main_v93 main_v94 (broadcastInDim S1x64x64 ![1, 2] bcast_S64x64_S1x64x64_1_2 : (⟨S64x64, .f32⟩ : BufTy).Contents (Elt F) → (⟨S1x64x64, .f32⟩ : BufTy).Contents (Elt F)),
    StableHlo.unary main_v87 main_v95 (broadcastInDim S4x64x64 ![0, 1, 2] bcast_S4x1x1_S4x64x64_0_1_2 : (⟨S4x1x1, .f32⟩ : BufTy).Contents (Elt F) → (⟨S4x64x64, .f32⟩ : BufTy).Contents (Elt F)),
    StableHlo.unary main_v94 main_v96 (broadcastInDim S4x64x64 ![0, 1, 2] bcast_S1x64x64_S4x64x64_0_1_2 : (⟨S1x64x64, .f32⟩ : BufTy).Contents (Elt F) → (⟨S4x64x64, .f32⟩ : BufTy).Contents (Elt F)),
    StableHlo.binary main_v95 main_v96 main_v97 (mulf : (⟨S4x64x64, .f32⟩ : BufTy).Contents (Elt F) → (⟨S4x64x64, .f32⟩ : BufTy).Contents (Elt F) → (⟨S4x64x64, .f32⟩ : BufTy).Contents (Elt F)),
    StableHlo.unary main_v97 main_v98 (Host.exp : (⟨S4x64x64, .f32⟩ : BufTy).Contents (Elt F) → (⟨S4x64x64, .f32⟩ : BufTy).Contents (Elt F)),
    StableHlo.unary main_v85 main_v99 (broadcastInDim S4x1 ![0] bcast_S4_S4x1_0 : (⟨S4, .f32⟩ : BufTy).Contents (Elt F) → (⟨S4x1, .f32⟩ : BufTy).Contents (Elt F)),
    StableHlo.nullary main_cst_6 (constant S_ .f32 0x427C0000#32),
    StableHlo.unary main_cst_6 main_v100 (broadcastInDim S64 ![] bcast_S_S64 : (⟨S_, .f32⟩ : BufTy).Contents (Elt F) → (⟨S64, .f32⟩ : BufTy).Contents (Elt F)),
    StableHlo.binary main_v100 main_v86 main_v101 (subf : (⟨S64, .f32⟩ : BufTy).Contents (Elt F) → (⟨S64, .f32⟩ : BufTy).Contents (Elt F) → (⟨S64, .f32⟩ : BufTy).Contents (Elt F)),
    StableHlo.unary main_v101 main_v102 (broadcastInDim S1x64 ![1] bcast_S64_S1x64_1 : (⟨S64, .f32⟩ : BufTy).Contents (Elt F) → (⟨S1x64, .f32⟩ : BufTy).Contents (Elt F)),
    StableHlo.unary main_v99 main_v103 (broadcastInDim S4x64 ![0, 1] bcast_S4x1_S4x64_0_1 : (⟨S4x1, .f32⟩ : BufTy).Contents (Elt F) → (⟨S4x64, .f32⟩ : BufTy).Contents (Elt F)),
    StableHlo.unary main_v102 main_v104 (broadcastInDim S4x64 ![0, 1] bcast_S1x64_S4x64_0_1 : (⟨S1x64, .f32⟩ : BufTy).Contents (Elt F) → (⟨S4x64, .f32⟩ : BufTy).Contents (Elt F)),
    StableHlo.binary main_v103 main_v104 main_v105 (mulf : (⟨S4x64, .f32⟩ : BufTy).Contents (Elt F) → (⟨S4x64, .f32⟩ : BufTy).Contents (Elt F) → (⟨S4x64, .f32⟩ : BufTy).Contents (Elt F)),
    StableHlo.unary main_v105 main_v106 (Host.exp : (⟨S4x64, .f32⟩ : BufTy).Contents (Elt F) → (⟨S4x64, .f32⟩ : BufTy).Contents (Elt F)),
    StableHlo.unary main_v85 main_v107 (broadcastInDim S4x1 ![0] bcast_S4_S4x1_0 : (⟨S4, .f32⟩ : BufTy).Contents (Elt F) → (⟨S4x1, .f32⟩ : BufTy).Contents (Elt F)),
    StableHlo.nullary main_cst_7 (constant S_ .f32 0x3F800000#32),
    StableHlo.unary main_cst_7 main_v108 (broadcastInDim S64 ![] bcast_S_S64 : (⟨S_, .f32⟩ : BufTy).Contents (Elt F) → (⟨S64, .f32⟩ : BufTy).Contents (Elt F)),
    StableHlo.binary main_v86 main_v108 main_v109 (addf : (⟨S64, .f32⟩ : BufTy).Contents (Elt F) → (⟨S64, .f32⟩ : BufTy).Contents (Elt F) → (⟨S64, .f32⟩ : BufTy).Contents (Elt F)),
    StableHlo.unary main_v109 main_v110 (broadcastInDim S1x64 ![1] bcast_S64_S1x64_1 : (⟨S64, .f32⟩ : BufTy).Contents (Elt F) → (⟨S1x64, .f32⟩ : BufTy).Contents (Elt F)) ]
theorem pre6_sub : (pre6 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.unary_bufs_sub ..⟩
theorem pre6_fresh : (pre6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
abbrev pre6_W : List (Ref sig .tc) := [main_v86, main_v87, main_v88, main_v89, main_v90, main_v91, main_v92, main_v93, main_v94, main_v95, main_v96, main_v97, main_v98, main_v99, main_cst_6, main_v100, main_v101, main_v102, main_v103, main_v104, main_v105, main_v106, main_v107, main_cst_7, main_v108, main_v109, main_v110]
theorem pre6_writes : (pre6 : List (HloOp τ sig (Elt F))).Forall fun op => op.writes ⊆ (pre6_W.map (Proc.devRef (τ := τ) .tc)).toFinset :=
  StableHlo.forall_writes_sub_of_map rfl

abbrev pre7 : List (HloOp τ sig (Elt F)) :=
  [ StableHlo.unary main_v107 main_v111 (broadcastInDim S4x64 ![0, 1] bcast_S4x1_S4x64_0_1 : (⟨S4x1, .f32⟩ : BufTy).Contents (Elt F) → (⟨S4x64, .f32⟩ : BufTy).Contents (Elt F)),
    StableHlo.unary main_v110 main_v112 (broadcastInDim S4x64 ![0, 1] bcast_S1x64_S4x64_0_1 : (⟨S1x64, .f32⟩ : BufTy).Contents (Elt F) → (⟨S4x64, .f32⟩ : BufTy).Contents (Elt F)),
    StableHlo.binary main_v111 main_v112 main_v113 (mulf : (⟨S4x64, .f32⟩ : BufTy).Contents (Elt F) → (⟨S4x64, .f32⟩ : BufTy).Contents (Elt F) → (⟨S4x64, .f32⟩ : BufTy).Contents (Elt F)),
    StableHlo.unary main_v113 main_v114 (Host.exp : (⟨S4x64, .f32⟩ : BufTy).Contents (Elt F) → (⟨S4x64, .f32⟩ : BufTy).Contents (Elt F)),
    StableHlo.nullary main_cst_8 (constant S_ .f32 0x42800000#32),
    StableHlo.unary main_cst_8 main_v115 (broadcastInDim S4 ![] bcast_S_S4 : (⟨S_, .f32⟩ : BufTy).Contents (Elt F) → (⟨S4, .f32⟩ : BufTy).Contents (Elt F)),
    StableHlo.binary main_v85 main_v115 main_v116 (mulf : (⟨S4, .f32⟩ : BufTy).Contents (Elt F) → (⟨S4, .f32⟩ : BufTy).Contents (Elt F) → (⟨S4, .f32⟩ : BufTy).Contents (Elt F)),
    StableHlo.unary main_v116 main_v117 (Host.exp : (⟨S4, .f32⟩ : BufTy).Contents (Elt F) → (⟨S4, .f32⟩ : BufTy).Contents (Elt F)),
    StableHlo.nullary main_cst_9 (constant S_ .f32 0x00000000#32),
    StableHlo.unary main_cst_9 main_v118 (broadcastInDim S2x4x256x512 ![] bcast_S_S2x4x256x512 : (⟨S_, .f32⟩ : BufTy).Contents (Elt F) → (⟨S2x4x256x512, .f32⟩ : BufTy).Contents (Elt F)),
    StableHlo.unary main_v98 main_v119 (broadcastInDim S1x4x64x64 ![1, 2, 3] bcast_S4x64x64_S1x4x64x64_1_2_3 : (⟨S4x64x64, .f32⟩ : BufTy).Contents (Elt F) → (⟨S1x4x64x64, .f32⟩ : BufTy).Contents (Elt F)),
    StableHlo.unary main_v114 main_v120 (broadcastInDim S1x4x64x1 ![1, 2] bcast_S4x64_S1x4x64x1_1_2 : (⟨S4x64, .f32⟩ : BufTy).Contents (Elt F) → (⟨S1x4x64x1, .f32⟩ : BufTy).Contents (Elt F)),
    StableHlo.unary main_v117 main_v121 (broadcastInDim S1x4x1x1 ![1] bcast_S4_S1x4x1x1_1 : (⟨S4, .f32⟩ : BufTy).Contents (Elt F) → (⟨S1x4x1x1, .f32⟩ : BufTy).Contents (Elt F)),
    StableHlo.unary main_v106 main_v122 (broadcastInDim S1x4x64x1 ![1, 2] bcast_S4x64_S1x4x64x1_1_2 : (⟨S4x64, .f32⟩ : BufTy).Contents (Elt F) → (⟨S1x4x64x1, .f32⟩ : BufTy).Contents (Elt F)),
    StableHlo.nullary main_cst_10 (constant S_ .f32 0x00000000#32),
    StableHlo.unary main_cst_10 main_v123 (broadcastInDim S64x2x4x64x512 ![] bcast_S_S64x2x4x64x512 : (⟨S_, .f32⟩ : BufTy).Contents (Elt F) → (⟨S64x2x4x64x512, .f32⟩ : BufTy).Contents (Elt F)),
    StableHlo.nullary main_cst_11 (constant S_ .f32 0x00000000#32),
    StableHlo.unary main_cst_11 main_v124 (broadcastInDim S64x2x4x64x64 ![] bcast_S_S64x2x4x64x64 : (⟨S_, .f32⟩ : BufTy).Contents (Elt F) → (⟨S64x2x4x64x64, .f32⟩ : BufTy).Contents (Elt F)),
    StableHlo.nullary main_cst_12 (constant S_ .f32 0x00000000#32),
    StableHlo.unary main_cst_12 main_v125 (broadcastInDim S64x2x4x256x512 ![] bcast_S_S64x2x4x256x512 : (⟨S_, .f32⟩ : BufTy).Contents (Elt F) → (⟨S64x2x4x256x512, .f32⟩ : BufTy).Contents (Elt F)),
    StableHlo.nullary main_cst_13 (constant S_ .f32 0x00000000#32),
    StableHlo.unary main_cst_13 main_v126 (broadcastInDim S64x2x4x64x256 ![] bcast_S_S64x2x4x64x256 : (⟨S_, .f32⟩ : BufTy).Contents (Elt F) → (⟨S64x2x4x64x256, .f32⟩ : BufTy).Contents (Elt F)),
    StableHlo.nullary main_c (constantI S_ 32 0#32) ]
theorem pre7_sub : (pre7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub ..⟩
theorem pre7_fresh : (pre7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
abbrev pre7_W : List (Ref sig .tc) := [main_v111, main_v112, main_v113, main_v114, main_cst_8, main_v115, main_v116, main_v117, main_cst_9, main_v118, main_v119, main_v120, main_v121, main_v122, main_cst_10, main_v123, main_cst_11, main_v124, main_cst_12, main_v125, main_cst_13, main_v126, main_c]
theorem pre7_writes : (pre7 : List (HloOp τ sig (Elt F))).Forall fun op => op.writes ⊆ (pre7_W.map (Proc.devRef (τ := τ) .tc)).toFinset :=
  StableHlo.forall_writes_sub_of_map rfl

abbrev pre8 : List (HloOp τ sig (Elt F)) :=
  [ StableHlo.unary main_v73 main_v127_0 id,
    StableHlo.unary main_v75 main_v127_1 id,
    StableHlo.unary main_v77 main_v127_2 id,
    StableHlo.unary main_v121 main_v127_3 id,
    StableHlo.unary main_v122 main_v127_4 id,
    StableHlo.unary main_v119 main_v127_5 id,
    StableHlo.unary main_v120 main_v127_6 id,
    StableHlo.unary main_c main_v127_7 id,
    StableHlo.unary main_v118 main_v127_8 id,
    StableHlo.unary main_v123 main_v127_9 id,
    StableHlo.unary main_v124 main_v127_10 id,
    StableHlo.unary main_v125 main_v127_11 id,
    StableHlo.unary main_v126 main_v127_12 id ]
theorem pre8_sub : (pre8 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem pre8_fresh : (pre8 : List (HloOp τ sig (Elt F))).Forall fun op => op.fresh = ∅ :=
  ⟨rfl, rfl, rfl, rfl, rfl, rfl, rfl, rfl, rfl, rfl, rfl, rfl, rfl⟩
abbrev pre8_W : List (Ref sig .tc) := [main_v127_0, main_v127_1, main_v127_2, main_v127_3, main_v127_4, main_v127_5, main_v127_6, main_v127_7, main_v127_8, main_v127_9, main_v127_10, main_v127_11, main_v127_12]
theorem pre8_writes : (pre8 : List (HloOp τ sig (Elt F))).Forall fun op => op.writes ⊆ (pre8_W.map (Proc.devRef (τ := τ) .tc)).toFinset :=
  StableHlo.forall_writes_sub_of_map rfl

abbrev mid0 : List (HloOp τ sig (Elt F)) :=
  [ StableHlo.unary main_v127_9 main_v128 ((transpose S2x64x64x4x512 [1, 0, 3, 2, 4] · transposes_S64x2x4x64x512_S2x64x64x4x512_1_0_3_2_4) : (⟨S64x2x4x64x512, .f32⟩ : BufTy).Contents (Elt F) → (⟨S2x64x64x4x512, .f32⟩ : BufTy).Contents (Elt F)),
    StableHlo.reshape main_v128 main_v129 (rfl : (.f32 : EltTy) = .f32) shapeCasts_S2x64x64x4x512_S2x4096x4x512,
    StableHlo.nullary main_cst_14 (constant S_ .f32 0x00000000#32),
    StableHlo.binary main_v129 main_cst_14 main_v130 ((fun x v => Host.reduceAdd x v reducesTo_S2x4096x4x512_S2x4096x4_d3 h_S_) : (⟨S2x4096x4x512, .f32⟩ : BufTy).Contents (Elt F) → (⟨S_, .f32⟩ : BufTy).Contents (Elt F) → (⟨S2x4096x4, .f32⟩ : BufTy).Contents (Elt F)),
    StableHlo.unary main_v130 main_v131 (broadcastInDim S2x4096x4x1 ![0, 1, 2] bcast_S2x4096x4_S2x4096x4x1_0_1_2 : (⟨S2x4096x4, .f32⟩ : BufTy).Contents (Elt F) → (⟨S2x4096x4x1, .f32⟩ : BufTy).Contents (Elt F)),
    StableHlo.nullary main_cst_15 (constant S_ .f32 0x44000000#32),
    StableHlo.unary main_cst_15 main_v132 (broadcastInDim S2x4096x4x1 ![] bcast_S_S2x4096x4x1 : (⟨S_, .f32⟩ : BufTy).Contents (Elt F) → (⟨S2x4096x4x1, .f32⟩ : BufTy).Contents (Elt F)),
    StableHlo.binary main_v131 main_v132 main_v133 (Host.divf : (⟨S2x4096x4x1, .f32⟩ : BufTy).Contents (Elt F) → (⟨S2x4096x4x1, .f32⟩ : BufTy).Contents (Elt F) → (⟨S2x4096x4x1, .f32⟩ : BufTy).Contents (Elt F)),
    StableHlo.unary main_v133 main_v134 (broadcastInDim S2x4096x4x512 ![0, 1, 2, 3] bcast_S2x4096x4x1_S2x4096x4x512_0_1_2_3 : (⟨S2x4096x4x1, .f32⟩ : BufTy).Contents (Elt F) → (⟨S2x4096x4x512, .f32⟩ : BufTy).Contents (Elt F)),
    StableHlo.binary main_v129 main_v134 main_v135 (subf : (⟨S2x4096x4x512, .f32⟩ : BufTy).Contents (Elt F) → (⟨S2x4096x4x512, .f32⟩ : BufTy).Contents (Elt F) → (⟨S2x4096x4x512, .f32⟩ : BufTy).Contents (Elt F)),
    StableHlo.binary main_v135 main_v135 main_v136 (mulf : (⟨S2x4096x4x512, .f32⟩ : BufTy).Contents (Elt F) → (⟨S2x4096x4x512, .f32⟩ : BufTy).Contents (Elt F) → (⟨S2x4096x4x512, .f32⟩ : BufTy).Contents (Elt F)),
    StableHlo.nullary main_cst_16 (constant S_ .f32 0x40000000#32),
    StableHlo.unary main_cst_16 main_v137 (broadcastInDim S2x4096x4x512 ![] bcast_S_S2x4096x4x512 : (⟨S_, .f32⟩ : BufTy).Contents (Elt F) → (⟨S2x4096x4x512, .f32⟩ : BufTy).Contents (Elt F)),
    StableHlo.binary main_v137 main_v135 main_v138 (mulf : (⟨S2x4096x4x512, .f32⟩ : BufTy).Contents (Elt F) → (⟨S2x4096x4x512, .f32⟩ : BufTy).Contents (Elt F) → (⟨S2x4096x4x512, .f32⟩ : BufTy).Contents (Elt F)),
    StableHlo.nullary main_cst_17 (constant S_ .f32 0x00000000#32),
    StableHlo.binary main_v136 main_cst_17 main_v139 ((fun x v => Host.reduceAdd x v reducesTo_S2x4096x4x512_S2x4096x4_d3 h_S_) : (⟨S2x4096x4x512, .f32⟩ : BufTy).Contents (Elt F) → (⟨S_, .f32⟩ : BufTy).Contents (Elt F) → (⟨S2x4096x4, .f32⟩ : BufTy).Contents (Elt F)),
    StableHlo.unary main_v139 main_v140 (broadcastInDim S2x4096x4x1 ![0, 1, 2] bcast_S2x4096x4_S2x4096x4x1_0_1_2 : (⟨S2x4096x4, .f32⟩ : BufTy).Contents (Elt F) → (⟨S2x4096x4x1, .f32⟩ : BufTy).Contents (Elt F)),
    StableHlo.nullary main_cst_18 (constant S_ .f32 0x44000000#32),
    StableHlo.unary main_cst_18 main_v141 (broadcastInDim S2x4096x4x1 ![] bcast_S_S2x4096x4x1 : (⟨S_, .f32⟩ : BufTy).Contents (Elt F) → (⟨S2x4096x4x1, .f32⟩ : BufTy).Contents (Elt F)),
    StableHlo.binary main_v140 main_v141 main_v142 (Host.divf : (⟨S2x4096x4x1, .f32⟩ : BufTy).Contents (Elt F) → (⟨S2x4096x4x1, .f32⟩ : BufTy).Contents (Elt F) → (⟨S2x4096x4x1, .f32⟩ : BufTy).Contents (Elt F)),
    StableHlo.unary main_v133 main_v143 (broadcastInDim S2x4096x4x512 ![0, 1, 2, 3] bcast_S2x4096x4x1_S2x4096x4x512_0_1_2_3 : (⟨S2x4096x4x1, .f32⟩ : BufTy).Contents (Elt F) → (⟨S2x4096x4x512, .f32⟩ : BufTy).Contents (Elt F)),
    StableHlo.binary main_v129 main_v143 main_v144 (subf : (⟨S2x4096x4x512, .f32⟩ : BufTy).Contents (Elt F) → (⟨S2x4096x4x512, .f32⟩ : BufTy).Contents (Elt F) → (⟨S2x4096x4x512, .f32⟩ : BufTy).Contents (Elt F)),
    StableHlo.nullary main_cst_19 (constant S_ .f32 0x358637BD#32) ]
theorem mid0_sub : (mid0 : List (HloOp τ sig (Elt F))).Forall fun op => op.bufs ⊆ StableHlo.tcRefs τ sig :=
  ⟨StableHlo.unary_bufs_sub .., StableHlo.reshape_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
theorem mid0_fresh : (mid0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
abbrev mid0_W : List (Ref sig .tc) := [main_v128, main_v129, main_cst_14, main_v130, main_v131, main_cst_15, main_v132, main_v133, main_v134, main_v135, main_v136, main_cst_16, main_v137, main_v138, main_cst_17, main_v139, main_v140, main_cst_18, main_v141, main_v142, main_v143, main_v144, main_cst_19]
theorem mid0_writes : (mid0 : List (HloOp τ sig (Elt F))).Forall fun op => op.writes ⊆ (mid0_W.map (Proc.devRef (τ := τ) .tc)).toFinset :=
  StableHlo.forall_writes_sub_of_map rfl

abbrev mid1 : List (HloOp τ sig (Elt F)) :=
  [ StableHlo.unary main_cst_19 main_v145 (broadcastInDim S2x4096x4x1 ![] bcast_S_S2x4096x4x1 : (⟨S_, .f32⟩ : BufTy).Contents (Elt F) → (⟨S2x4096x4x1, .f32⟩ : BufTy).Contents (Elt F)),
    StableHlo.binary main_v142 main_v145 main_v146 (addf : (⟨S2x4096x4x1, .f32⟩ : BufTy).Contents (Elt F) → (⟨S2x4096x4x1, .f32⟩ : BufTy).Contents (Elt F) → (⟨S2x4096x4x1, .f32⟩ : BufTy).Contents (Elt F)),
    StableHlo.unary main_v146 main_v147 (Host.rsqrt : (⟨S2x4096x4x1, .f32⟩ : BufTy).Contents (Elt F) → (⟨S2x4096x4x1, .f32⟩ : BufTy).Contents (Elt F)),
    StableHlo.binary main_v147 main_v146 main_v148 (Host.divf : (⟨S2x4096x4x1, .f32⟩ : BufTy).Contents (Elt F) → (⟨S2x4096x4x1, .f32⟩ : BufTy).Contents (Elt F) → (⟨S2x4096x4x1, .f32⟩ : BufTy).Contents (Elt F)),
    StableHlo.nullary main_cst_20 (constant S_ .f32 0xBF000000#32),
    StableHlo.unary main_cst_20 main_v149 (broadcastInDim S2x4096x4x1 ![] bcast_S_S2x4096x4x1 : (⟨S_, .f32⟩ : BufTy).Contents (Elt F) → (⟨S2x4096x4x1, .f32⟩ : BufTy).Contents (Elt F)),
    StableHlo.binary main_v149 main_v148 main_v150 (mulf : (⟨S2x4096x4x1, .f32⟩ : BufTy).Contents (Elt F) → (⟨S2x4096x4x1, .f32⟩ : BufTy).Contents (Elt F) → (⟨S2x4096x4x1, .f32⟩ : BufTy).Contents (Elt F)),
    StableHlo.unary main_v147 main_v151 (broadcastInDim S2x4096x4x512 ![0, 1, 2, 3] bcast_S2x4096x4x1_S2x4096x4x512_0_1_2_3 : (⟨S2x4096x4x1, .f32⟩ : BufTy).Contents (Elt F) → (⟨S2x4096x4x512, .f32⟩ : BufTy).Contents (Elt F)),
    StableHlo.binary main_v144 main_v151 main_v152 (mulf : (⟨S2x4096x4x512, .f32⟩ : BufTy).Contents (Elt F) → (⟨S2x4096x4x512, .f32⟩ : BufTy).Contents (Elt F) → (⟨S2x4096x4x512, .f32⟩ : BufTy).Contents (Elt F)),
    StableHlo.reshape main_v152 main_v153 (rfl : (.f32 : EltTy) = .f32) shapeCasts_S2x4096x4x512_S2x4096x2048,
    StableHlo.unary main_arg1 main_v154 (broadcastInDim S1x1x2048 ![2] bcast_S2048_S1x1x2048_2 : (⟨S2048, .f32⟩ : BufTy).Contents (Elt F) → (⟨S1x1x2048, .f32⟩ : BufTy).Contents (Elt F)),
    StableHlo.unary main_v154 main_v155 (broadcastInDim S2x4096x2048 ![0, 1, 2] bcast_S1x1x2048_S2x4096x2048_0_1_2 : (⟨S1x1x2048, .f32⟩ : BufTy).Contents (Elt F) → (⟨S2x4096x2048, .f32⟩ : BufTy).Contents (Elt F)),
    StableHlo.binary main_v153 main_v155 main_v156 (mulf : (⟨S2x4096x2048, .f32⟩ : BufTy).Contents (Elt F) → (⟨S2x4096x2048, .f32⟩ : BufTy).Contents (Elt F) → (⟨S2x4096x2048, .f32⟩ : BufTy).Contents (Elt F)) ]
theorem mid1_sub : (mid1 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.unary_bufs_sub .., StableHlo.binary_bufs_sub ..⟩
theorem mid1_fresh : (mid1 : List (HloOp τ sig (Elt F))).Forall fun op => op.fresh = ∅ :=
  ⟨rfl, rfl, rfl, rfl, rfl, rfl, rfl, rfl, rfl, rfl, rfl, rfl, rfl⟩
abbrev mid1_W : List (Ref sig .tc) := [main_v145, main_v146, main_v147, main_v148, main_cst_20, main_v149, main_v150, main_v151, main_v152, main_v153, main_v154, main_v155, main_v156]
theorem mid1_writes : (mid1 : List (HloOp τ sig (Elt F))).Forall fun op => op.writes ⊆ (mid1_W.map (Proc.devRef (τ := τ) .tc)).toFinset :=
  StableHlo.forall_writes_sub_of_map rfl

abbrev mid2 : List (HloOp τ sig (Elt F)) :=
  [ StableHlo.TRef.unary (.of main_v3 : StableHlo.TRef sig ⟨S2x4096x2048, .f32⟩) main_call7.v0 Host.negf,
    StableHlo.TRef.unary main_call7.v0 main_call7.v1 Host.exp,
    StableHlo.TRef.nullary main_call7.cst (constant S_ .f32 0x3F800000#32),
    StableHlo.TRef.unary main_call7.cst main_call7.v2 (broadcastInDim S2x4096x2048 ![] bcast_S_S2x4096x2048),
    StableHlo.TRef.binary main_call7.v2 main_call7.v1 main_call7.v3 addf,
    StableHlo.TRef.nullary main_call7.cst_0 (constant S_ .f32 0x3F800000#32),
    StableHlo.TRef.unary main_call7.cst_0 main_call7.v4 (broadcastInDim S2x4096x2048 ![] bcast_S_S2x4096x2048),
    StableHlo.TRef.binary main_call7.v4 main_call7.v3 main_call7.v5 Host.divf,
    StableHlo.TRef.nullary main_call7.cst_1 (constant S_ .f32 0x3F800000#32),
    StableHlo.TRef.unary main_call7.cst_1 main_call7.v6 (broadcastInDim S2x4096x2048 ![] bcast_S_S2x4096x2048),
    StableHlo.TRef.binary main_call7.v6 main_call7.v5 main_call7.v7 subf,
    StableHlo.TRef.binary main_call7.v5 main_call7.v7 main_call7.v8 mulf,
    StableHlo.TRef.binary (.of main_v3 : StableHlo.TRef sig ⟨S2x4096x2048, .f32⟩) main_call7.v5 main_call7.v9 mulf ]
theorem mid2_sub : (mid2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub ..⟩
theorem mid2_fresh : (mid2 : List (HloOp τ sig (Elt F))).Forall fun op => op.fresh = ∅ :=
  ⟨rfl, rfl, rfl, rfl, rfl, rfl, rfl, rfl, rfl, rfl, rfl, rfl, rfl⟩
abbrev mid2_W : List (Ref sig .tc) := [main_call7_v0, main_call7_v1, main_call7_cst, main_call7_v2, main_call7_v3, main_call7_cst_0, main_call7_v4, main_v157_2, main_call7_cst_1, main_call7_v6, main_call7_v7, main_v157_1, main_v157_0]
theorem mid2_writes : (mid2 : List (HloOp τ sig (Elt F))).Forall fun op => op.writes ⊆ (mid2_W.map (Proc.devRef (τ := τ) .tc)).toFinset :=
  StableHlo.forall_writes_sub_of_map rfl

abbrev mid3 : List (HloOp τ sig (Elt F)) :=
  [ StableHlo.binary main_v157_0 main_v156 main_v158 (mulf : (⟨S2x4096x2048, .f32⟩ : BufTy).Contents (Elt F) → (⟨S2x4096x2048, .f32⟩ : BufTy).Contents (Elt F) → (⟨S2x4096x2048, .f32⟩ : BufTy).Contents (Elt F)),
    StableHlo.nullary main_cst_21 (constant S_ .f32 0x00000000#32),
    StableHlo.unary main_cst_21 main_v159 (broadcastInDim S2x4x256x512 ![] bcast_S_S2x4x256x512 : (⟨S_, .f32⟩ : BufTy).Contents (Elt F) → (⟨S2x4x256x512, .f32⟩ : BufTy).Contents (Elt F)),
    StableHlo.binary main_v157_0 main_arg2 main_v160 (mulf : (⟨S2x4096x2048, .f32⟩ : BufTy).Contents (Elt F) → (⟨S2x4096x2048, .f32⟩ : BufTy).Contents (Elt F) → (⟨S2x4096x2048, .f32⟩ : BufTy).Contents (Elt F)),
    StableHlo.binary main_arg2 main_v156 main_v161 (mulf : (⟨S2x4096x2048, .f32⟩ : BufTy).Contents (Elt F) → (⟨S2x4096x2048, .f32⟩ : BufTy).Contents (Elt F) → (⟨S2x4096x2048, .f32⟩ : BufTy).Contents (Elt F)) ]
theorem mid3_sub : (mid3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub ..⟩
theorem mid3_fresh : (mid3 : List (HloOp τ sig (Elt F))).Forall fun op => op.fresh = ∅ :=
  ⟨rfl, rfl, rfl, rfl, rfl⟩
abbrev mid3_W : List (Ref sig .tc) := [main_v158, main_cst_21, main_v159, main_v160, main_v161]
theorem mid3_writes : (mid3 : List (HloOp τ sig (Elt F))).Forall fun op => op.writes ⊆ (mid3_W.map (Proc.devRef (τ := τ) .tc)).toFinset :=
  StableHlo.forall_writes_sub_of_map rfl

abbrev mid4 : List (HloOp τ sig (Elt F)) :=
  [ StableHlo.TRef.binary (.of main_v3 : StableHlo.TRef sig ⟨S2x4096x2048, .f32⟩) (.of main_v161 : StableHlo.TRef sig ⟨S2x4096x2048, .f32⟩) main_call8.v0 mulf,
    StableHlo.TRef.binary (.of main_v161 : StableHlo.TRef sig ⟨S2x4096x2048, .f32⟩) (.of main_v157_2 : StableHlo.TRef sig ⟨S2x4096x2048, .f32⟩) main_call8.v1 mulf,
    StableHlo.TRef.binary main_call8.v0 (.of main_v157_1 : StableHlo.TRef sig ⟨S2x4096x2048, .f32⟩) main_call8.v2 mulf,
    StableHlo.TRef.binary main_call8.v1 main_call8.v2 main_call8.v3 addf ]
theorem mid4_sub : (mid4 : List (HloOp τ sig (Elt F))).Forall fun op => op.bufs ⊆ StableHlo.tcRefs τ sig :=
  ⟨StableHlo.binary_bufs_sub .., StableHlo.binary_bufs_sub .., StableHlo.binary_bufs_sub .., StableHlo.binary_bufs_sub ..⟩
theorem mid4_fresh : (mid4 : List (HloOp τ sig (Elt F))).Forall fun op => op.fresh = ∅ :=
  ⟨rfl, rfl, rfl, rfl⟩
abbrev mid4_W : List (Ref sig .tc) := [main_call8_v0, main_call8_v1, main_call8_v2, main_v162]
theorem mid4_writes : (mid4 : List (HloOp τ sig (Elt F))).Forall fun op => op.writes ⊆ (mid4_W.map (Proc.devRef (τ := τ) .tc)).toFinset :=
  StableHlo.forall_writes_sub_of_map rfl

abbrev mid5 : List (HloOp τ sig (Elt F)) :=
  [ StableHlo.binary main_v153 main_v160 main_v163 (mulf : (⟨S2x4096x2048, .f32⟩ : BufTy).Contents (Elt F) → (⟨S2x4096x2048, .f32⟩ : BufTy).Contents (Elt F) → (⟨S2x4096x2048, .f32⟩ : BufTy).Contents (Elt F)),
    StableHlo.nullary main_cst_22 (constant S_ .f32 0x00000000#32),
    StableHlo.binary main_v163 main_cst_22 main_v164 ((fun x v => Host.reduceAdd x v reducesTo_S2x4096x2048_S2048_d0_1 h_S_) : (⟨S2x4096x2048, .f32⟩ : BufTy).Contents (Elt F) → (⟨S_, .f32⟩ : BufTy).Contents (Elt F) → (⟨S2048, .f32⟩ : BufTy).Contents (Elt F)),
    StableHlo.reshape main_v164 main_v165 (rfl : (.f32 : EltTy) = .f32) shapeCasts_S2048_S1x1x2048,
    StableHlo.unary main_v154 main_v166 (broadcastInDim S2x4096x2048 ![0, 1, 2] bcast_S1x1x2048_S2x4096x2048_0_1_2 : (⟨S1x1x2048, .f32⟩ : BufTy).Contents (Elt F) → (⟨S2x4096x2048, .f32⟩ : BufTy).Contents (Elt F)),
    StableHlo.binary main_v160 main_v166 main_v167 (mulf : (⟨S2x4096x2048, .f32⟩ : BufTy).Contents (Elt F) → (⟨S2x4096x2048, .f32⟩ : BufTy).Contents (Elt F) → (⟨S2x4096x2048, .f32⟩ : BufTy).Contents (Elt F)),
    StableHlo.nullary main_cst_23 (constant S_ .f32 0x00000000#32) ]
theorem mid5_sub : (mid5 : List (HloOp τ sig (Elt F))).Forall fun op => op.bufs ⊆ StableHlo.tcRefs τ sig :=
  ⟨StableHlo.binary_bufs_sub .., StableHlo.nullary_bufs_sub .., StableHlo.binary_bufs_sub .., StableHlo.reshape_bufs_sub .., StableHlo.unary_bufs_sub .., StableHlo.binary_bufs_sub .., StableHlo.nullary_bufs_sub ..⟩
theorem mid5_fresh : (mid5 : List (HloOp τ sig (Elt F))).Forall fun op => op.fresh = ∅ :=
  ⟨rfl, rfl, rfl, rfl, rfl, rfl, rfl⟩
abbrev mid5_W : List (Ref sig .tc) := [main_v163, main_cst_22, main_v164, main_v165, main_v166, main_v167, main_cst_23]
theorem mid5_writes : (mid5 : List (HloOp τ sig (Elt F))).Forall fun op => op.writes ⊆ (mid5_W.map (Proc.devRef (τ := τ) .tc)).toFinset :=
  StableHlo.forall_writes_sub_of_map rfl

abbrev mid6 : List (HloOp τ sig (Elt F)) :=
  [ StableHlo.binary main_v165 main_cst_23 main_v168 ((fun x v => Host.reduceAdd x v reducesTo_S1x1x2048_S2048_d0_1 h_S_) : (⟨S1x1x2048, .f32⟩ : BufTy).Contents (Elt F) → (⟨S_, .f32⟩ : BufTy).Contents (Elt F) → (⟨S2048, .f32⟩ : BufTy).Contents (Elt F)),
    StableHlo.reshape main_v167 main_v169 (rfl : (.f32 : EltTy) = .f32) shapeCasts_S2x4096x2048_S2x4096x4x512,
    StableHlo.binary main_v144 main_v169 main_v170 (mulf : (⟨S2x4096x4x512, .f32⟩ : BufTy).Contents (Elt F) → (⟨S2x4096x4x512, .f32⟩ : BufTy).Contents (Elt F) → (⟨S2x4096x4x512, .f32⟩ : BufTy).Contents (Elt F)),
    StableHlo.nullary main_cst_24 (constant S_ .f32 0x00000000#32),
    StableHlo.binary main_v170 main_cst_24 main_v171 ((fun x v => Host.reduceAdd x v reducesTo_S2x4096x4x512_S2x4096x4_d3 h_S_) : (⟨S2x4096x4x512, .f32⟩ : BufTy).Contents (Elt F) → (⟨S_, .f32⟩ : BufTy).Contents (Elt F) → (⟨S2x4096x4, .f32⟩ : BufTy).Contents (Elt F)),
    StableHlo.reshape main_v171 main_v172 (rfl : (.f32 : EltTy) = .f32) shapeCasts_S2x4096x4_S2x4096x4x1,
    StableHlo.unary main_v147 main_v173 (broadcastInDim S2x4096x4x512 ![0, 1, 2, 3] bcast_S2x4096x4x1_S2x4096x4x512_0_1_2_3 : (⟨S2x4096x4x1, .f32⟩ : BufTy).Contents (Elt F) → (⟨S2x4096x4x512, .f32⟩ : BufTy).Contents (Elt F)),
    StableHlo.binary main_v169 main_v173 main_v174 (mulf : (⟨S2x4096x4x512, .f32⟩ : BufTy).Contents (Elt F) → (⟨S2x4096x4x512, .f32⟩ : BufTy).Contents (Elt F) → (⟨S2x4096x4x512, .f32⟩ : BufTy).Contents (Elt F)),
    StableHlo.binary main_v172 main_v150 main_v175 (mulf : (⟨S2x4096x4x1, .f32⟩ : BufTy).Contents (Elt F) → (⟨S2x4096x4x1, .f32⟩ : BufTy).Contents (Elt F) → (⟨S2x4096x4x1, .f32⟩ : BufTy).Contents (Elt F)),
    StableHlo.unary main_v174 main_v176 (Host.negf : (⟨S2x4096x4x512, .f32⟩ : BufTy).Contents (Elt F) → (⟨S2x4096x4x512, .f32⟩ : BufTy).Contents (Elt F)),
    StableHlo.nullary main_cst_25 (constant S_ .f32 0x00000000#32),
    StableHlo.binary main_v176 main_cst_25 main_v177 ((fun x v => Host.reduceAdd x v reducesTo_S2x4096x4x512_S2x4096x4_d3 h_S_) : (⟨S2x4096x4x512, .f32⟩ : BufTy).Contents (Elt F) → (⟨S_, .f32⟩ : BufTy).Contents (Elt F) → (⟨S2x4096x4, .f32⟩ : BufTy).Contents (Elt F)),
    StableHlo.reshape main_v177 main_v178 (rfl : (.f32 : EltTy) = .f32) shapeCasts_S2x4096x4_S2x4096x4x1 ]
theorem mid6_sub : (mid6 : List (HloOp τ sig (Elt F))).Forall fun op => op.bufs ⊆ StableHlo.tcRefs τ sig :=
  ⟨StableHlo.binary_bufs_sub .., StableHlo.reshape_bufs_sub .., StableHlo.binary_bufs_sub .., StableHlo.nullary_bufs_sub .., StableHlo.binary_bufs_sub .., StableHlo.reshape_bufs_sub .., StableHlo.unary_bufs_sub .., StableHlo.binary_bufs_sub .., StableHlo.binary_bufs_sub .., StableHlo.unary_bufs_sub .., StableHlo.nullary_bufs_sub .., StableHlo.binary_bufs_sub .., StableHlo.reshape_bufs_sub ..⟩
theorem mid6_fresh : (mid6 : List (HloOp τ sig (Elt F))).Forall fun op => op.fresh = ∅ :=
  ⟨rfl, rfl, rfl, rfl, rfl, rfl, rfl, rfl, rfl, rfl, rfl, rfl, rfl⟩
abbrev mid6_W : List (Ref sig .tc) := [main_v168, main_v169, main_v170, main_cst_24, main_v171, main_v172, main_v173, main_v174, main_v175, main_v176, main_cst_25, main_v177, main_v178]
theorem mid6_writes : (mid6 : List (HloOp τ sig (Elt F))).Forall fun op => op.writes ⊆ (mid6_W.map (Proc.devRef (τ := τ) .tc)).toFinset :=
  StableHlo.forall_writes_sub_of_map rfl

abbrev mid7 : List (HloOp τ sig (Elt F)) :=
  [ StableHlo.nullary main_cst_26 (constant S_ .f32 0x44000000#32),
    StableHlo.unary main_cst_26 main_v179 (broadcastInDim S2x4096x4x1 ![] bcast_S_S2x4096x4x1 : (⟨S_, .f32⟩ : BufTy).Contents (Elt F) → (⟨S2x4096x4x1, .f32⟩ : BufTy).Contents (Elt F)),
    StableHlo.binary main_v175 main_v179 main_v180 (Host.divf : (⟨S2x4096x4x1, .f32⟩ : BufTy).Contents (Elt F) → (⟨S2x4096x4x1, .f32⟩ : BufTy).Contents (Elt F) → (⟨S2x4096x4x1, .f32⟩ : BufTy).Contents (Elt F)),
    StableHlo.nullary main_cst_27 (constant S_ .f32 0x00000000#32),
    StableHlo.binary main_v180 main_cst_27 main_v181 ((fun x v => Host.reduceAdd x v reducesTo_S2x4096x4x1_S2x4096x4_d3 h_S_) : (⟨S2x4096x4x1, .f32⟩ : BufTy).Contents (Elt F) → (⟨S_, .f32⟩ : BufTy).Contents (Elt F) → (⟨S2x4096x4, .f32⟩ : BufTy).Contents (Elt F)),
    StableHlo.unary main_v181 main_v182 (broadcastInDim S2x4096x4x512 ![0, 1, 2] bcast_S2x4096x4_S2x4096x4x512_0_1_2 : (⟨S2x4096x4, .f32⟩ : BufTy).Contents (Elt F) → (⟨S2x4096x4x512, .f32⟩ : BufTy).Contents (Elt F)),
    StableHlo.binary main_v182 main_v138 main_v183 (mulf : (⟨S2x4096x4x512, .f32⟩ : BufTy).Contents (Elt F) → (⟨S2x4096x4x512, .f32⟩ : BufTy).Contents (Elt F) → (⟨S2x4096x4x512, .f32⟩ : BufTy).Contents (Elt F)),
    StableHlo.unary main_v183 main_v184 (Host.negf : (⟨S2x4096x4x512, .f32⟩ : BufTy).Contents (Elt F) → (⟨S2x4096x4x512, .f32⟩ : BufTy).Contents (Elt F)),
    StableHlo.nullary main_cst_28 (constant S_ .f32 0x00000000#32),
    StableHlo.binary main_v184 main_cst_28 main_v185 ((fun x v => Host.reduceAdd x v reducesTo_S2x4096x4x512_S2x4096x4_d3 h_S_) : (⟨S2x4096x4x512, .f32⟩ : BufTy).Contents (Elt F) → (⟨S_, .f32⟩ : BufTy).Contents (Elt F) → (⟨S2x4096x4, .f32⟩ : BufTy).Contents (Elt F)),
    StableHlo.reshape main_v185 main_v186 (rfl : (.f32 : EltTy) = .f32) shapeCasts_S2x4096x4_S2x4096x4x1,
    StableHlo.binary main_v174 main_v183 main_v187 (addf : (⟨S2x4096x4x512, .f32⟩ : BufTy).Contents (Elt F) → (⟨S2x4096x4x512, .f32⟩ : BufTy).Contents (Elt F) → (⟨S2x4096x4x512, .f32⟩ : BufTy).Contents (Elt F)),
    StableHlo.binary main_v178 main_v186 main_v188 (addf : (⟨S2x4096x4x1, .f32⟩ : BufTy).Contents (Elt F) → (⟨S2x4096x4x1, .f32⟩ : BufTy).Contents (Elt F) → (⟨S2x4096x4x1, .f32⟩ : BufTy).Contents (Elt F)),
    StableHlo.nullary main_cst_29 (constant S_ .f32 0x44000000#32),
    StableHlo.unary main_cst_29 main_v189 (broadcastInDim S2x4096x4x1 ![] bcast_S_S2x4096x4x1 : (⟨S_, .f32⟩ : BufTy).Contents (Elt F) → (⟨S2x4096x4x1, .f32⟩ : BufTy).Contents (Elt F)),
    StableHlo.binary main_v188 main_v189 main_v190 (Host.divf : (⟨S2x4096x4x1, .f32⟩ : BufTy).Contents (Elt F) → (⟨S2x4096x4x1, .f32⟩ : BufTy).Contents (Elt F) → (⟨S2x4096x4x1, .f32⟩ : BufTy).Contents (Elt F)),
    StableHlo.nullary main_cst_30 (constant S_ .f32 0x00000000#32),
    StableHlo.binary main_v190 main_cst_30 main_v191 ((fun x v => Host.reduceAdd x v reducesTo_S2x4096x4x1_S2x4096x4_d3 h_S_) : (⟨S2x4096x4x1, .f32⟩ : BufTy).Contents (Elt F) → (⟨S_, .f32⟩ : BufTy).Contents (Elt F) → (⟨S2x4096x4, .f32⟩ : BufTy).Contents (Elt F)),
    StableHlo.unary main_v191 main_v192 (broadcastInDim S2x4096x4x512 ![0, 1, 2] bcast_S2x4096x4_S2x4096x4x512_0_1_2 : (⟨S2x4096x4, .f32⟩ : BufTy).Contents (Elt F) → (⟨S2x4096x4x512, .f32⟩ : BufTy).Contents (Elt F)),
    StableHlo.binary main_v187 main_v192 main_v193 (addf : (⟨S2x4096x4x512, .f32⟩ : BufTy).Contents (Elt F) → (⟨S2x4096x4x512, .f32⟩ : BufTy).Contents (Elt F) → (⟨S2x4096x4x512, .f32⟩ : BufTy).Contents (Elt F)) ]
theorem mid7_sub : (mid7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.unary_bufs_sub .., StableHlo.nullary_bufs_sub .., StableHlo.binary_bufs_sub .., StableHlo.reshape_bufs_sub .., StableHlo.binary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub ..⟩
theorem mid7_fresh : (mid7 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
abbrev mid7_W : List (Ref sig .tc) := [main_cst_26, main_v179, main_v180, main_cst_27, main_v181, main_v182, main_v183, main_v184, main_cst_28, main_v185, main_v186, main_v187, main_v188, main_cst_29, main_v189, main_v190, main_cst_30, main_v191, main_v192, main_v193]
theorem mid7_writes : (mid7 : List (HloOp τ sig (Elt F))).Forall fun op => op.writes ⊆ (mid7_W.map (Proc.devRef (τ := τ) .tc)).toFinset :=
  StableHlo.forall_writes_sub_of_map rfl

abbrev mid8 : List (HloOp τ sig (Elt F)) :=
  [ StableHlo.reshape main_v193 main_v194 (rfl : (.f32 : EltTy) = .f32) shapeCasts_S2x4096x4x512_S2x64x64x4x512,
    StableHlo.unary main_v194 main_v195 ((transpose S64x2x4x64x512 [1, 0, 3, 2, 4] · transposes_S2x64x64x4x512_S64x2x4x64x512_1_0_3_2_4) : (⟨S2x64x64x4x512, .f32⟩ : BufTy).Contents (Elt F) → (⟨S64x2x4x64x512, .f32⟩ : BufTy).Contents (Elt F)),
    StableHlo.nullary main_cst_31 (constant S_ .f32 0x00000000#32),
    StableHlo.unary main_cst_31 main_v196 (broadcastInDim S2x4x256x512 ![] bcast_S_S2x4x256x512 : (⟨S_, .f32⟩ : BufTy).Contents (Elt F) → (⟨S2x4x256x512, .f32⟩ : BufTy).Contents (Elt F)),
    StableHlo.nullary main_cst_32 (constant S_ .f32 0x00000000#32),
    StableHlo.unary main_cst_32 main_v197 (broadcastInDim S64x2x4x64x256 ![] bcast_S_S64x2x4x64x256 : (⟨S_, .f32⟩ : BufTy).Contents (Elt F) → (⟨S64x2x4x64x256, .f32⟩ : BufTy).Contents (Elt F)),
    StableHlo.nullary main_cst_33 (constant S_ .f32 0x00000000#32),
    StableHlo.unary main_cst_33 main_v198 (broadcastInDim S64x2x4x64x256 ![] bcast_S_S64x2x4x64x256 : (⟨S_, .f32⟩ : BufTy).Contents (Elt F) → (⟨S64x2x4x64x256, .f32⟩ : BufTy).Contents (Elt F)),
    StableHlo.nullary main_cst_34 (constant S_ .f32 0x00000000#32),
    StableHlo.unary main_cst_34 main_v199 (broadcastInDim S64x2x4x64x512 ![] bcast_S_S64x2x4x64x512 : (⟨S_, .f32⟩ : BufTy).Contents (Elt F) → (⟨S64x2x4x64x512, .f32⟩ : BufTy).Contents (Elt F)),
    StableHlo.nullary main_c_35 (constantI S_ 32 0#32) ]
theorem mid8_sub : (mid8 : List (HloOp τ sig (Elt F))).Forall fun op => op.bufs ⊆ StableHlo.tcRefs τ sig :=
  ⟨StableHlo.reshape_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub ..⟩
theorem mid8_fresh : (mid8 : List (HloOp τ sig (Elt F))).Forall fun op => op.fresh = ∅ :=
  ⟨rfl, rfl, rfl, rfl, rfl, rfl, rfl, rfl, rfl, rfl, rfl⟩
abbrev mid8_W : List (Ref sig .tc) := [main_v194, main_v195, main_cst_31, main_v196, main_cst_32, main_v197, main_cst_33, main_v198, main_cst_34, main_v199, main_c_35]
theorem mid8_writes : (mid8 : List (HloOp τ sig (Elt F))).Forall fun op => op.writes ⊆ (mid8_W.map (Proc.devRef (τ := τ) .tc)).toFinset :=
  StableHlo.forall_writes_sub_of_map rfl

abbrev mid9 : List (HloOp τ sig (Elt F)) :=
  [ StableHlo.unary main_v195 main_v200_0 id,
    StableHlo.unary main_v75 main_v200_1 id,
    StableHlo.unary main_v73 main_v200_2 id,
    StableHlo.unary main_v77 main_v200_3 id,
    StableHlo.unary main_v127_10 main_v200_4 id,
    StableHlo.unary main_v127_11 main_v200_5 id,
    StableHlo.unary main_v127_12 main_v200_6 id,
    StableHlo.unary main_v119 main_v200_7 id,
    StableHlo.unary main_v120 main_v200_8 id,
    StableHlo.unary main_v121 main_v200_9 id,
    StableHlo.unary main_v122 main_v200_10 id,
    StableHlo.unary main_c_35 main_v200_11 id,
    StableHlo.unary main_v196 main_v200_12 id,
    StableHlo.unary main_v197 main_v200_13 id,
    StableHlo.unary main_v198 main_v200_14 id,
    StableHlo.unary main_v199 main_v200_15 id ]
theorem mid9_sub : (mid9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mid9_fresh : (mid9 : List (HloOp τ sig (Elt F))).Forall fun op => op.fresh = ∅ :=
  ⟨rfl, rfl, rfl, rfl, rfl, rfl, rfl, rfl, rfl, rfl, rfl, rfl, rfl, rfl, rfl, rfl⟩
abbrev mid9_W : List (Ref sig .tc) := [main_v200_0, main_v200_1, main_v200_2, main_v200_3, main_v200_4, main_v200_5, main_v200_6, main_v200_7, main_v200_8, main_v200_9, main_v200_10, main_v200_11, main_v200_12, main_v200_13, main_v200_14, main_v200_15]
theorem mid9_writes : (mid9 : List (HloOp τ sig (Elt F))).Forall fun op => op.writes ⊆ (mid9_W.map (Proc.devRef (τ := τ) .tc)).toFinset :=
  StableHlo.forall_writes_sub_of_map rfl

abbrev post0 : List (HloOp τ sig (Elt F)) :=
  [ StableHlo.unary main_v200_15 main_v201 ((transpose S2x64x64x4x512 [1, 0, 3, 2, 4] · transposes_S64x2x4x64x512_S2x64x64x4x512_1_0_3_2_4) : (⟨S64x2x4x64x512, .f32⟩ : BufTy).Contents (Elt F) → (⟨S2x64x64x4x512, .f32⟩ : BufTy).Contents (Elt F)),
    StableHlo.reshape main_v201 main_v202 (rfl : (.f32 : EltTy) = .f32) shapeCasts_S2x64x64x4x512_S2x4096x4x512,
    StableHlo.unary main_v200_14 main_v203 ((transpose S2x64x64x4x256 [1, 0, 3, 2, 4] · transposes_S64x2x4x64x256_S2x64x64x4x256_1_0_3_2_4) : (⟨S64x2x4x64x256, .f32⟩ : BufTy).Contents (Elt F) → (⟨S2x64x64x4x256, .f32⟩ : BufTy).Contents (Elt F)),
    StableHlo.reshape main_v203 main_v204 (rfl : (.f32 : EltTy) = .f32) shapeCasts_S2x64x64x4x256_S2x4096x4x256,
    StableHlo.unary main_v200_13 main_v205 ((transpose S2x64x64x4x256 [1, 0, 3, 2, 4] · transposes_S64x2x4x64x256_S2x64x64x4x256_1_0_3_2_4) : (⟨S64x2x4x64x256, .f32⟩ : BufTy).Contents (Elt F) → (⟨S2x64x64x4x256, .f32⟩ : BufTy).Contents (Elt F)),
    StableHlo.reshape main_v205 main_v206 (rfl : (.f32 : EltTy) = .f32) shapeCasts_S2x64x64x4x256_S2x4096x4x256 ]
theorem post0_sub : (post0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub ..⟩
theorem post0_fresh : (post0 : List (HloOp τ sig (Elt F))).Forall fun op => op.fresh = ∅ :=
  ⟨rfl, rfl, rfl, rfl, rfl, rfl⟩
abbrev post0_W : List (Ref sig .tc) := [main_v201, main_v202, main_v203, main_v204, main_v205, main_v206]
theorem post0_writes : (post0 : List (HloOp τ sig (Elt F))).Forall fun op => op.writes ⊆ (post0_W.map (Proc.devRef (τ := τ) .tc)).toFinset :=
  StableHlo.forall_writes_sub_of_map rfl

abbrev post1 : List (HloOp τ sig (Elt F)) :=
  [ StableHlo.nullary main_cst_36 (constant S_ .f32 0x3D800000#32),
    StableHlo.unary main_cst_36 main_v207 (broadcastInDim S2x4096x4x256 ![] bcast_S_S2x4096x4x256 : (⟨S_, .f32⟩ : BufTy).Contents (Elt F) → (⟨S2x4096x4x256, .f32⟩ : BufTy).Contents (Elt F)),
    StableHlo.binary main_v204 main_v207 main_v208 (mulf : (⟨S2x4096x4x256, .f32⟩ : BufTy).Contents (Elt F) → (⟨S2x4096x4x256, .f32⟩ : BufTy).Contents (Elt F) → (⟨S2x4096x4x256, .f32⟩ : BufTy).Contents (Elt F)),
    StableHlo.unary main_v208 main_v209 ((extractStridedSlice S2x4096x4x128 ![0, 0, 0, 0] · slices_S2x4096x4x256_S2x4096x4x128_0_0_0_0) : (⟨S2x4096x4x256, .f32⟩ : BufTy).Contents (Elt F) → (⟨S2x4096x4x128, .f32⟩ : BufTy).Contents (Elt F)),
    StableHlo.unary main_v208 main_v210 ((extractStridedSlice S2x4096x4x128 ![0, 0, 0, 128] · slices_S2x4096x4x256_S2x4096x4x128_0_0_0_128) : (⟨S2x4096x4x256, .f32⟩ : BufTy).Contents (Elt F) → (⟨S2x4096x4x128, .f32⟩ : BufTy).Contents (Elt F)),
    StableHlo.unary main_v54 main_v211 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v210 main_v211 main_v212 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v56 main_v213 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v210 main_v213 main_v214 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v209 main_v215 (Host.negf : (⟨S2x4096x4x128, .f32⟩ : BufTy).Contents (Elt F) → (⟨S2x4096x4x128, .f32⟩ : BufTy).Contents (Elt F)),
    StableHlo.unary main_v56 main_v216 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v215 main_v216 main_v217 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v212 main_v217 main_v218 (addf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v54 main_v219 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v209 main_v219 main_v220 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v214 main_v220 main_v221 (addf : (⟨S2x4096x4x128, .f32⟩ : BufTy).Contents (Elt F) → (⟨S2x4096x4x128, .f32⟩ : BufTy).Contents (Elt F) → (⟨S2x4096x4x128, .f32⟩ : BufTy).Contents (Elt F)),
    StableHlo.nullary main_cst_37 (constant S_ .f32 0x00000000#32),
    StableHlo.binary main_v218 main_cst_37 main_v222 ((fun x v => pad S2x4096x4x256 ![0, 0, 0, 128] ![0, 0, 0, 0] ![0, 0, 0, 0] x v pads_S2x4096x4x128_S2x4096x4x256_000_000_000_12800 h_S_) : (⟨S2x4096x4x128, .f32⟩ : BufTy).Contents (Elt F) → (⟨S_, .f32⟩ : BufTy).Contents (Elt F) → (⟨S2x4096x4x256, .f32⟩ : BufTy).Contents (Elt F)),
    StableHlo.nullary main_cst_38 (constant S_ .f32 0x00000000#32),
    StableHlo.binary main_v221 main_cst_38 main_v223 ((fun x v => pad S2x4096x4x256 ![0, 0, 0, 0] ![0, 0, 0, 128] ![0, 0, 0, 0] x v pads_S2x4096x4x128_S2x4096x4x256_000_000_000_01280 h_S_) : (⟨S2x4096x4x128, .f32⟩ : BufTy).Contents (Elt F) → (⟨S_, .f32⟩ : BufTy).Contents (Elt F) → (⟨S2x4096x4x256, .f32⟩ : BufTy).Contents (Elt F)),
    StableHlo.binary main_v222 main_v223 main_v224 (addf : (⟨S2x4096x4x256, .f32⟩ : BufTy).Contents (Elt F) → (⟨S2x4096x4x256, .f32⟩ : BufTy).Contents (Elt F) → (⟨S2x4096x4x256, .f32⟩ : BufTy).Contents (Elt F)) ]
theorem post1_sub : (post1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
theorem post1_fresh : (post1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
abbrev post1_W : List (Ref sig .tc) := [main_cst_36, main_v207, main_v208, main_v209, main_v210, main_v211, main_v212, main_v213, main_v214, main_v215, main_v216, main_v217, main_v218, main_v219, main_v220, main_v221, main_cst_37, main_v222, main_cst_38, main_v223, main_v224]
theorem post1_writes : (post1 : List (HloOp τ sig (Elt F))).Forall fun op => op.writes ⊆ (post1_W.map (Proc.devRef (τ := τ) .tc)).toFinset :=
  StableHlo.forall_writes_sub_of_map rfl

abbrev post2 : List (HloOp τ sig (Elt F)) :=
  [ StableHlo.unary main_v206 main_v225 ((extractStridedSlice S2x4096x4x128 ![0, 0, 0, 0] · slices_S2x4096x4x256_S2x4096x4x128_0_0_0_0) : (⟨S2x4096x4x256, .f32⟩ : BufTy).Contents (Elt F) → (⟨S2x4096x4x128, .f32⟩ : BufTy).Contents (Elt F)),
    StableHlo.unary main_v206 main_v226 ((extractStridedSlice S2x4096x4x128 ![0, 0, 0, 128] · slices_S2x4096x4x256_S2x4096x4x128_0_0_0_128) : (⟨S2x4096x4x256, .f32⟩ : BufTy).Contents (Elt F) → (⟨S2x4096x4x128, .f32⟩ : BufTy).Contents (Elt F)),
    StableHlo.unary main_v23 main_v227 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v226 main_v227 main_v228 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v25 main_v229 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)) ]
theorem post2_sub : (post2 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub ..⟩
theorem post2_fresh : (post2 : List (HloOp τ sig (Elt F))).Forall fun op => op.fresh = ∅ :=
  ⟨rfl, rfl, rfl, rfl, rfl⟩
abbrev post2_W : List (Ref sig .tc) := [main_v225, main_v226, main_v227, main_v228, main_v229]
theorem post2_writes : (post2 : List (HloOp τ sig (Elt F))).Forall fun op => op.writes ⊆ (post2_W.map (Proc.devRef (τ := τ) .tc)).toFinset :=
  StableHlo.forall_writes_sub_of_map rfl

abbrev post3 : List (HloOp τ sig (Elt F)) :=
  [ StableHlo.binary main_v226 main_v229 main_v230 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v225 main_v231 (Host.negf : (⟨S2x4096x4x128, .f32⟩ : BufTy).Contents (Elt F) → (⟨S2x4096x4x128, .f32⟩ : BufTy).Contents (Elt F)),
    StableHlo.unary main_v25 main_v232 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v231 main_v232 main_v233 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v228 main_v233 main_v234 (addf : (⟨S2x4096x4x128, .f32⟩ : BufTy).Contents (Elt F) → (⟨S2x4096x4x128, .f32⟩ : BufTy).Contents (Elt F) → (⟨S2x4096x4x128, .f32⟩ : BufTy).Contents (Elt F)),
    StableHlo.unary main_v23 main_v235 (broadcastInDim S2x4096x4x128 ![0, 1, 2, 3] bcast_S1x4096x1x128_S2x4096x4x128_0_1_2_3 : (⟨S1x4096x1x128, .f32⟩ : BufTy).Contents (Elt F) → (⟨S2x4096x4x128, .f32⟩ : BufTy).Contents (Elt F)),
    StableHlo.binary main_v225 main_v235 main_v236 (mulf : (⟨S2x4096x4x128, .f32⟩ : BufTy).Contents (Elt F) → (⟨S2x4096x4x128, .f32⟩ : BufTy).Contents (Elt F) → (⟨S2x4096x4x128, .f32⟩ : BufTy).Contents (Elt F)),
    StableHlo.binary main_v230 main_v236 main_v237 (addf : (⟨S2x4096x4x128, .f32⟩ : BufTy).Contents (Elt F) → (⟨S2x4096x4x128, .f32⟩ : BufTy).Contents (Elt F) → (⟨S2x4096x4x128, .f32⟩ : BufTy).Contents (Elt F)),
    StableHlo.nullary main_cst_39 (constant S_ .f32 0x00000000#32),
    StableHlo.binary main_v234 main_cst_39 main_v238 ((fun x v => pad S2x4096x4x256 ![0, 0, 0, 128] ![0, 0, 0, 0] ![0, 0, 0, 0] x v pads_S2x4096x4x128_S2x4096x4x256_000_000_000_12800 h_S_) : (⟨S2x4096x4x128, .f32⟩ : BufTy).Contents (Elt F) → (⟨S_, .f32⟩ : BufTy).Contents (Elt F) → (⟨S2x4096x4x256, .f32⟩ : BufTy).Contents (Elt F)),
    StableHlo.nullary main_cst_40 (constant S_ .f32 0x00000000#32),
    StableHlo.binary main_v237 main_cst_40 main_v239 ((fun x v => pad S2x4096x4x256 ![0, 0, 0, 0] ![0, 0, 0, 128] ![0, 0, 0, 0] x v pads_S2x4096x4x128_S2x4096x4x256_000_000_000_01280 h_S_) : (⟨S2x4096x4x128, .f32⟩ : BufTy).Contents (Elt F) → (⟨S_, .f32⟩ : BufTy).Contents (Elt F) → (⟨S2x4096x4x256, .f32⟩ : BufTy).Contents (Elt F)),
    StableHlo.binary main_v238 main_v239 main_v240 (addf : (⟨S2x4096x4x256, .f32⟩ : BufTy).Contents (Elt F) → (⟨S2x4096x4x256, .f32⟩ : BufTy).Contents (Elt F) → (⟨S2x4096x4x256, .f32⟩ : BufTy).Contents (Elt F)) ]
theorem post3_sub : (post3 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.binary_bufs_sub .., StableHlo.nullary_bufs_sub .., StableHlo.binary_bufs_sub .., StableHlo.nullary_bufs_sub .., StableHlo.binary_bufs_sub .., StableHlo.binary_bufs_sub ..⟩
theorem post3_fresh : (post3 : List (HloOp τ sig (Elt F))).Forall fun op => op.fresh = ∅ :=
  ⟨rfl, rfl, rfl, rfl, rfl, rfl, rfl, rfl, rfl, rfl, rfl, rfl, rfl⟩
abbrev post3_W : List (Ref sig .tc) := [main_v230, main_v231, main_v232, main_v233, main_v234, main_v235, main_v236, main_v237, main_cst_39, main_v238, main_cst_40, main_v239, main_v240]
theorem post3_writes : (post3 : List (HloOp τ sig (Elt F))).Forall fun op => op.writes ⊆ (post3_W.map (Proc.devRef (τ := τ) .tc)).toFinset :=
  StableHlo.forall_writes_sub_of_map rfl

abbrev post4 : List (HloOp τ sig (Elt F)) :=
  [ StableHlo.reshape main_v202 main_v241 (rfl : (.f32 : EltTy) = .f32) shapeCasts_S2x4096x4x512_S2x4096x2048,
    StableHlo.reshape main_v224 main_v242 (rfl : (.f32 : EltTy) = .f32) shapeCasts_S2x4096x4x256_S2x4096x1024,
    StableHlo.reshape main_v240 main_v243 (rfl : (.f32 : EltTy) = .f32) shapeCasts_S2x4096x4x256_S2x4096x1024,
    StableHlo.nary ![main_v243, main_v242, main_v241, main_v162] main_v244 (fun u => (concatenate S2x4096x6144 2 [⟨S2x4096x1024, (u 0 : (⟨S2x4096x1024, .f32⟩ : BufTy).Contents (Elt F))⟩, ⟨S2x4096x1024, (u 1 : (⟨S2x4096x1024, .f32⟩ : BufTy).Contents (Elt F))⟩, ⟨S2x4096x2048, (u 2 : (⟨S2x4096x2048, .f32⟩ : BufTy).Contents (Elt F))⟩, ⟨S2x4096x2048, (u 3 : (⟨S2x4096x2048, .f32⟩ : BufTy).Contents (Elt F))⟩] concatenates_S2x4096x1024_S2x4096x1024_S2x4096x2048_S2x4096x2048_S2x4096x6144_d2 : (⟨S2x4096x6144, .f32⟩ : BufTy).Contents (Elt F))),
    StableHlo.reshape main_v244 main_v245 (rfl : (.f32 : EltTy) = .f32) shapeCasts_S2x4096x6144_S8192x6144,
    StableHlo.unary main_v245 main_v246 ((truncf .bf16 · bitsLt_bf16_f32) : (⟨S8192x6144, .f32⟩ : BufTy).Contents (Elt F) → (⟨S8192x6144, .bf16⟩ : BufTy).Contents (Elt F)),
    StableHlo.reshape main_v168 main_v247 (rfl : (.f32 : EltTy) = .f32) shapeCasts_S2048_S1x2048 ]
theorem post4_sub : (post4 : List (HloOp τ sig (Elt F))).Forall fun op => op.bufs ⊆ StableHlo.tcRefs τ sig :=
  ⟨StableHlo.reshape_bufs_sub .., StableHlo.reshape_bufs_sub .., StableHlo.reshape_bufs_sub .., StableHlo.nary_bufs_sub .., StableHlo.reshape_bufs_sub .., StableHlo.unary_bufs_sub .., StableHlo.reshape_bufs_sub ..⟩
theorem post4_fresh : (post4 : List (HloOp τ sig (Elt F))).Forall fun op => op.fresh = ∅ :=
  ⟨rfl, rfl, rfl, rfl, rfl, rfl, rfl⟩
abbrev post4_W : List (Ref sig .tc) := [main_v241, main_v242, main_v243, main_v244, main_v245, main_v246, main_v247]
theorem post4_writes : (post4 : List (HloOp τ sig (Elt F))).Forall fun op => op.writes ⊆ (post4_W.map (Proc.devRef (τ := τ) .tc)).toFinset :=
  StableHlo.forall_writes_sub_of_map rfl

abbrev bodyA0 : List (HloOp τ sig (Elt F)) :=
  [ StableHlo.TRef.nullary main_while0b_call0.c (constantI S_ 32 0#32),
    StableHlo.TRef.nullary main_while0b_call0.c_0 (constantI S_ 32 0#32),
    StableHlo.TRef.nullary main_while0b_call0.c_1 (constantI S_ 32 0#32),
    StableHlo.TRef.nullary main_while0b_call0.c_2 (constantI S_ 32 0#32),
    StableHlo.TRef.unaryIndexed (.of main_v127_0 : StableHlo.TRef sig ⟨S64x2x4x64x256, .f32⟩) ![(.of main_v127_7 : StableHlo.TRef sig ⟨S_, .i32⟩), main_while0b_call0.c, main_while0b_call0.c_0, main_while0b_call0.c_1, main_while0b_call0.c_2] main_while0b_call0.v0 (fun x i => Host.dynamicSlice S1x2x4x64x256 x (fun k => (i k (Shape.Idx.first h_S_)).toInt) sliceFits_S64x2x4x64x256_S1x2x4x64x256),
    StableHlo.TRef.reshape main_while0b_call0.v0 main_while0b_call0.v1 (rfl : (.f32 : EltTy) = .f32) shapeCasts_S1x2x4x64x256_S2x4x64x256 ]
theorem bodyA0_sub : (bodyA0 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyA0_fresh : (bodyA0 : List (HloOp τ sig (Elt F))).Forall fun op => op.fresh = ∅ :=
  ⟨rfl, rfl, rfl, rfl, rfl, rfl⟩
abbrev bodyA0_W : List (Ref sig .tc) := [main_while0b_call0_c, main_while0b_call0_c_0, main_while0b_call0_c_1, main_while0b_call0_c_2, main_while0b_call0_v0, main_while0b_v248]
theorem bodyA0_writes : (bodyA0 : List (HloOp τ sig (Elt F))).Forall fun op => op.writes ⊆ (bodyA0_W.map (Proc.devRef (τ := τ) .tc)).toFinset :=
  StableHlo.forall_writes_sub_of_map rfl

abbrev bodyA1 : List (HloOp τ sig (Elt F)) :=
  [ StableHlo.TRef.nullary main_while0b_call1.c (constantI S_ 32 0#32),
    StableHlo.TRef.nullary main_while0b_call1.c_0 (constantI S_ 32 0#32),
    StableHlo.TRef.nullary main_while0b_call1.c_1 (constantI S_ 32 0#32),
    StableHlo.TRef.nullary main_while0b_call1.c_2 (constantI S_ 32 0#32),
    StableHlo.TRef.unaryIndexed (.of main_v127_1 : StableHlo.TRef sig ⟨S64x2x4x64x256, .f32⟩) ![(.of main_v127_7 : StableHlo.TRef sig ⟨S_, .i32⟩), main_while0b_call1.c, main_while0b_call1.c_0, main_while0b_call1.c_1, main_while0b_call1.c_2] main_while0b_call1.v0 (fun x i => Host.dynamicSlice S1x2x4x64x256 x (fun k => (i k (Shape.Idx.first h_S_)).toInt) sliceFits_S64x2x4x64x256_S1x2x4x64x256),
    StableHlo.TRef.reshape main_while0b_call1.v0 main_while0b_call1.v1 (rfl : (.f32 : EltTy) = .f32) shapeCasts_S1x2x4x64x256_S2x4x64x256 ]
theorem bodyA1_sub : (bodyA1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyA1_fresh : (bodyA1 : List (HloOp τ sig (Elt F))).Forall fun op => op.fresh = ∅ :=
  ⟨rfl, rfl, rfl, rfl, rfl, rfl⟩
abbrev bodyA1_W : List (Ref sig .tc) := [main_while0b_call1_c, main_while0b_call1_c_0, main_while0b_call1_c_1, main_while0b_call1_c_2, main_while0b_call1_v0, main_while0b_v249]
theorem bodyA1_writes : (bodyA1 : List (HloOp τ sig (Elt F))).Forall fun op => op.writes ⊆ (bodyA1_W.map (Proc.devRef (τ := τ) .tc)).toFinset :=
  StableHlo.forall_writes_sub_of_map rfl

abbrev bodyA2 : List (HloOp τ sig (Elt F)) :=
  [ StableHlo.TRef.nullary main_while0b_call2.c (constantI S_ 32 0#32),
    StableHlo.TRef.nullary main_while0b_call2.c_0 (constantI S_ 32 0#32),
    StableHlo.TRef.nullary main_while0b_call2.c_1 (constantI S_ 32 0#32),
    StableHlo.TRef.nullary main_while0b_call2.c_2 (constantI S_ 32 0#32),
    StableHlo.TRef.unaryIndexed (.of main_v127_2 : StableHlo.TRef sig ⟨S64x2x4x64x512, .f32⟩) ![(.of main_v127_7 : StableHlo.TRef sig ⟨S_, .i32⟩), main_while0b_call2.c, main_while0b_call2.c_0, main_while0b_call2.c_1, main_while0b_call2.c_2] main_while0b_call2.v0 (fun x i => Host.dynamicSlice S1x2x4x64x512 x (fun k => (i k (Shape.Idx.first h_S_)).toInt) sliceFits_S64x2x4x64x512_S1x2x4x64x512),
    StableHlo.TRef.reshape main_while0b_call2.v0 main_while0b_call2.v1 (rfl : (.f32 : EltTy) = .f32) shapeCasts_S1x2x4x64x512_S2x4x64x512 ]
theorem bodyA2_sub : (bodyA2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyA2_fresh : (bodyA2 : List (HloOp τ sig (Elt F))).Forall fun op => op.fresh = ∅ :=
  ⟨rfl, rfl, rfl, rfl, rfl, rfl⟩
abbrev bodyA2_W : List (Ref sig .tc) := [main_while0b_call2_c, main_while0b_call2_c_0, main_while0b_call2_c_1, main_while0b_call2_c_2, main_while0b_call2_v0, main_while0b_v250]
theorem bodyA2_writes : (bodyA2 : List (HloOp τ sig (Elt F))).Forall fun op => op.writes ⊆ (bodyA2_W.map (Proc.devRef (τ := τ) .tc)).toFinset :=
  StableHlo.forall_writes_sub_of_map rfl

abbrev bodyA3 : List (HloOp τ sig (Elt F)) :=
  [ StableHlo.binary main_while0b_v248 main_while0b_v249 main_while0b_v251 ((fun l r => Host.dotGeneral dot_S2x4x64x256_S2x4x64x256_S2x4x64x64_3_3_2_2_01_01 none l r) : (⟨S2x4x64x256, .f32⟩ : BufTy).Contents (Elt F) → (⟨S2x4x64x256, .f32⟩ : BufTy).Contents (Elt F) → (⟨S2x4x64x64, .f32⟩ : BufTy).Contents (Elt F)),
    StableHlo.unary main_v127_5 main_while0b_v252 (broadcastInDim S2x4x64x64 ![0, 1, 2, 3] bcast_S1x4x64x64_S2x4x64x64_0_1_2_3 : (⟨S1x4x64x64, .f32⟩ : BufTy).Contents (Elt F) → (⟨S2x4x64x64, .f32⟩ : BufTy).Contents (Elt F)),
    StableHlo.binary main_while0b_v251 main_while0b_v252 main_while0b_v253 (mulf : (⟨S2x4x64x64, .f32⟩ : BufTy).Contents (Elt F) → (⟨S2x4x64x64, .f32⟩ : BufTy).Contents (Elt F) → (⟨S2x4x64x64, .f32⟩ : BufTy).Contents (Elt F)),
    StableHlo.binary main_while0b_v253 main_while0b_v250 main_while0b_v254 ((fun l r => Host.dotGeneral dot_S2x4x64x64_S2x4x64x512_S2x4x64x512_3_2_2_3_01_01 none l r) : (⟨S2x4x64x64, .f32⟩ : BufTy).Contents (Elt F) → (⟨S2x4x64x512, .f32⟩ : BufTy).Contents (Elt F) → (⟨S2x4x64x512, .f32⟩ : BufTy).Contents (Elt F)),
    StableHlo.binary main_while0b_v248 main_v127_8 main_while0b_v255 ((fun l r => Host.dotGeneral dot_S2x4x64x256_S2x4x256x512_S2x4x64x512_3_2_2_3_01_01 none l r) : (⟨S2x4x64x256, .f32⟩ : BufTy).Contents (Elt F) → (⟨S2x4x256x512, .f32⟩ : BufTy).Contents (Elt F) → (⟨S2x4x64x512, .f32⟩ : BufTy).Contents (Elt F)),
    StableHlo.unary main_v127_6 main_while0b_v256 (broadcastInDim S2x4x64x512 ![0, 1, 2, 3] bcast_S1x4x64x1_S2x4x64x512_0_1_2_3 : (⟨S1x4x64x1, .f32⟩ : BufTy).Contents (Elt F) → (⟨S2x4x64x512, .f32⟩ : BufTy).Contents (Elt F)),
    StableHlo.binary main_while0b_v255 main_while0b_v256 main_while0b_v257 (mulf : (⟨S2x4x64x512, .f32⟩ : BufTy).Contents (Elt F) → (⟨S2x4x64x512, .f32⟩ : BufTy).Contents (Elt F) → (⟨S2x4x64x512, .f32⟩ : BufTy).Contents (Elt F)),
    StableHlo.unary main_v127_3 main_while0b_v258 (broadcastInDim S2x4x256x512 ![0, 1, 2, 3] bcast_S1x4x1x1_S2x4x256x512_0_1_2_3 : (⟨S1x4x1x1, .f32⟩ : BufTy).Contents (Elt F) → (⟨S2x4x256x512, .f32⟩ : BufTy).Contents (Elt F)),
    StableHlo.binary main_v127_8 main_while0b_v258 main_while0b_v259 (mulf : (⟨S2x4x256x512, .f32⟩ : BufTy).Contents (Elt F) → (⟨S2x4x256x512, .f32⟩ : BufTy).Contents (Elt F) → (⟨S2x4x256x512, .f32⟩ : BufTy).Contents (Elt F)),
    StableHlo.unary main_v127_4 main_while0b_v260 (broadcastInDim S2x4x64x256 ![0, 1, 2, 3] bcast_S1x4x64x1_S2x4x64x256_0_1_2_3 : (⟨S1x4x64x1, .f32⟩ : BufTy).Contents (Elt F) → (⟨S2x4x64x256, .f32⟩ : BufTy).Contents (Elt F)),
    StableHlo.binary main_while0b_v249 main_while0b_v260 main_while0b_v261 (mulf : (⟨S2x4x64x256, .f32⟩ : BufTy).Contents (Elt F) → (⟨S2x4x64x256, .f32⟩ : BufTy).Contents (Elt F) → (⟨S2x4x64x256, .f32⟩ : BufTy).Contents (Elt F)),
    StableHlo.binary main_while0b_v261 main_while0b_v250 main_while0b_v262 ((fun l r => Host.dotGeneral dot_S2x4x64x256_S2x4x64x512_S2x4x256x512_2_2_3_3_01_01 none l r) : (⟨S2x4x64x256, .f32⟩ : BufTy).Contents (Elt F) → (⟨S2x4x64x512, .f32⟩ : BufTy).Contents (Elt F) → (⟨S2x4x256x512, .f32⟩ : BufTy).Contents (Elt F)),
    StableHlo.binary main_while0b_v259 main_while0b_v262 main_while0b_v263 (addf : (⟨S2x4x256x512, .f32⟩ : BufTy).Contents (Elt F) → (⟨S2x4x256x512, .f32⟩ : BufTy).Contents (Elt F) → (⟨S2x4x256x512, .f32⟩ : BufTy).Contents (Elt F)),
    StableHlo.binary main_while0b_v254 main_while0b_v257 main_while0b_v264 (addf : (⟨S2x4x64x512, .f32⟩ : BufTy).Contents (Elt F) → (⟨S2x4x64x512, .f32⟩ : BufTy).Contents (Elt F) → (⟨S2x4x64x512, .f32⟩ : BufTy).Contents (Elt F)) ]
theorem bodyA3_sub : (bodyA3 : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub ..⟩
theorem bodyA3_fresh : (bodyA3 : List (HloOp τ sig (Elt F))).Forall fun op => op.fresh = ∅ :=
  ⟨rfl, rfl, rfl, rfl, rfl, rfl, rfl, rfl, rfl, rfl, rfl, rfl, rfl, rfl⟩
abbrev bodyA3_W : List (Ref sig .tc) := [main_while0b_v251, main_while0b_v252, main_while0b_v253, main_while0b_v254, main_while0b_v255, main_while0b_v256, main_while0b_v257, main_while0b_v258, main_while0b_v259, main_while0b_v260, main_while0b_v261, main_while0b_v262, main_while0b_v263, main_while0b_v264]
theorem bodyA3_writes : (bodyA3 : List (HloOp τ sig (Elt F))).Forall fun op => op.writes ⊆ (bodyA3_W.map (Proc.devRef (τ := τ) .tc)).toFinset :=
  StableHlo.forall_writes_sub_of_map rfl

abbrev bodyA4 : List (HloOp τ sig (Elt F)) :=
  [ StableHlo.TRef.unary (.of main_while0b_v264 : StableHlo.TRef sig ⟨S2x4x64x512, .f32⟩) main_while0b_call3.v0 (broadcastInDim S1x2x4x64x512 ![1, 2, 3, 4] bcast_S2x4x64x512_S1x2x4x64x512_1_2_3_4),
    StableHlo.TRef.nullary main_while0b_call3.c (constantI S_ 32 0#32),
    StableHlo.TRef.nullary main_while0b_call3.c_0 (constantI S_ 32 0#32),
    StableHlo.TRef.nullary main_while0b_call3.c_1 (constantI S_ 32 0#32),
    StableHlo.TRef.nullary main_while0b_call3.c_2 (constantI S_ 32 0#32),
    StableHlo.TRef.binaryIndexed (.of main_v127_9 : StableHlo.TRef sig ⟨S64x2x4x64x512, .f32⟩) main_while0b_call3.v0 ![(.of main_v127_7 : StableHlo.TRef sig ⟨S_, .i32⟩), main_while0b_call3.c, main_while0b_call3.c_0, main_while0b_call3.c_1, main_while0b_call3.c_2] main_while0b_call3.v1 (fun x u i => Host.dynamicUpdateSlice x u (fun k => (i k (Shape.Idx.first h_S_)).toInt) updateFits_S64x2x4x64x512_S1x2x4x64x512) ]
theorem bodyA4_sub : (bodyA4 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyA4_fresh : (bodyA4 : List (HloOp τ sig (Elt F))).Forall fun op => op.fresh = ∅ :=
  ⟨rfl, rfl, rfl, rfl, rfl, rfl⟩
abbrev bodyA4_W : List (Ref sig .tc) := [main_while0b_call3_v0, main_while0b_call3_c, main_while0b_call3_c_0, main_while0b_call3_c_1, main_while0b_call3_c_2, main_while0b_v265]
theorem bodyA4_writes : (bodyA4 : List (HloOp τ sig (Elt F))).Forall fun op => op.writes ⊆ (bodyA4_W.map (Proc.devRef (τ := τ) .tc)).toFinset :=
  StableHlo.forall_writes_sub_of_map rfl

abbrev bodyA5 : List (HloOp τ sig (Elt F)) :=
  [ StableHlo.TRef.unary (.of main_while0b_v253 : StableHlo.TRef sig ⟨S2x4x64x64, .f32⟩) main_while0b_call4.v0 (broadcastInDim S1x2x4x64x64 ![1, 2, 3, 4] bcast_S2x4x64x64_S1x2x4x64x64_1_2_3_4),
    StableHlo.TRef.nullary main_while0b_call4.c (constantI S_ 32 0#32),
    StableHlo.TRef.nullary main_while0b_call4.c_0 (constantI S_ 32 0#32),
    StableHlo.TRef.nullary main_while0b_call4.c_1 (constantI S_ 32 0#32),
    StableHlo.TRef.nullary main_while0b_call4.c_2 (constantI S_ 32 0#32),
    StableHlo.TRef.binaryIndexed (.of main_v127_10 : StableHlo.TRef sig ⟨S64x2x4x64x64, .f32⟩) main_while0b_call4.v0 ![(.of main_v127_7 : StableHlo.TRef sig ⟨S_, .i32⟩), main_while0b_call4.c, main_while0b_call4.c_0, main_while0b_call4.c_1, main_while0b_call4.c_2] main_while0b_call4.v1 (fun x u i => Host.dynamicUpdateSlice x u (fun k => (i k (Shape.Idx.first h_S_)).toInt) updateFits_S64x2x4x64x64_S1x2x4x64x64) ]
theorem bodyA5_sub : (bodyA5 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyA5_fresh : (bodyA5 : List (HloOp τ sig (Elt F))).Forall fun op => op.fresh = ∅ :=
  ⟨rfl, rfl, rfl, rfl, rfl, rfl⟩
abbrev bodyA5_W : List (Ref sig .tc) := [main_while0b_call4_v0, main_while0b_call4_c, main_while0b_call4_c_0, main_while0b_call4_c_1, main_while0b_call4_c_2, main_while0b_v266]
theorem bodyA5_writes : (bodyA5 : List (HloOp τ sig (Elt F))).Forall fun op => op.writes ⊆ (bodyA5_W.map (Proc.devRef (τ := τ) .tc)).toFinset :=
  StableHlo.forall_writes_sub_of_map rfl

abbrev bodyA6 : List (HloOp τ sig (Elt F)) :=
  [ StableHlo.TRef.unary (.of main_v127_8 : StableHlo.TRef sig ⟨S2x4x256x512, .f32⟩) main_while0b_call5.v0 (broadcastInDim S1x2x4x256x512 ![1, 2, 3, 4] bcast_S2x4x256x512_S1x2x4x256x512_1_2_3_4),
    StableHlo.TRef.nullary main_while0b_call5.c (constantI S_ 32 0#32),
    StableHlo.TRef.nullary main_while0b_call5.c_0 (constantI S_ 32 0#32),
    StableHlo.TRef.nullary main_while0b_call5.c_1 (constantI S_ 32 0#32),
    StableHlo.TRef.nullary main_while0b_call5.c_2 (constantI S_ 32 0#32),
    StableHlo.TRef.binaryIndexed (.of main_v127_11 : StableHlo.TRef sig ⟨S64x2x4x256x512, .f32⟩) main_while0b_call5.v0 ![(.of main_v127_7 : StableHlo.TRef sig ⟨S_, .i32⟩), main_while0b_call5.c, main_while0b_call5.c_0, main_while0b_call5.c_1, main_while0b_call5.c_2] main_while0b_call5.v1 (fun x u i => Host.dynamicUpdateSlice x u (fun k => (i k (Shape.Idx.first h_S_)).toInt) updateFits_S64x2x4x256x512_S1x2x4x256x512) ]
theorem bodyA6_sub : (bodyA6 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyA6_fresh : (bodyA6 : List (HloOp τ sig (Elt F))).Forall fun op => op.fresh = ∅ :=
  ⟨rfl, rfl, rfl, rfl, rfl, rfl⟩
abbrev bodyA6_W : List (Ref sig .tc) := [main_while0b_call5_v0, main_while0b_call5_c, main_while0b_call5_c_0, main_while0b_call5_c_1, main_while0b_call5_c_2, main_while0b_v267]
theorem bodyA6_writes : (bodyA6 : List (HloOp τ sig (Elt F))).Forall fun op => op.writes ⊆ (bodyA6_W.map (Proc.devRef (τ := τ) .tc)).toFinset :=
  StableHlo.forall_writes_sub_of_map rfl

abbrev bodyA7 : List (HloOp τ sig (Elt F)) :=
  [ StableHlo.TRef.unary (.of main_while0b_v261 : StableHlo.TRef sig ⟨S2x4x64x256, .f32⟩) main_while0b_call6.v0 (broadcastInDim S1x2x4x64x256 ![1, 2, 3, 4] bcast_S2x4x64x256_S1x2x4x64x256_1_2_3_4),
    StableHlo.TRef.nullary main_while0b_call6.c (constantI S_ 32 0#32),
    StableHlo.TRef.nullary main_while0b_call6.c_0 (constantI S_ 32 0#32),
    StableHlo.TRef.nullary main_while0b_call6.c_1 (constantI S_ 32 0#32),
    StableHlo.TRef.nullary main_while0b_call6.c_2 (constantI S_ 32 0#32),
    StableHlo.TRef.binaryIndexed (.of main_v127_12 : StableHlo.TRef sig ⟨S64x2x4x64x256, .f32⟩) main_while0b_call6.v0 ![(.of main_v127_7 : StableHlo.TRef sig ⟨S_, .i32⟩), main_while0b_call6.c, main_while0b_call6.c_0, main_while0b_call6.c_1, main_while0b_call6.c_2] main_while0b_call6.v1 (fun x u i => Host.dynamicUpdateSlice x u (fun k => (i k (Shape.Idx.first h_S_)).toInt) updateFits_S64x2x4x64x256_S1x2x4x64x256) ]
theorem bodyA7_sub : (bodyA7 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyA7_fresh : (bodyA7 : List (HloOp τ sig (Elt F))).Forall fun op => op.fresh = ∅ :=
  ⟨rfl, rfl, rfl, rfl, rfl, rfl⟩
abbrev bodyA7_W : List (Ref sig .tc) := [main_while0b_call6_v0, main_while0b_call6_c, main_while0b_call6_c_0, main_while0b_call6_c_1, main_while0b_call6_c_2, main_while0b_v268]
theorem bodyA7_writes : (bodyA7 : List (HloOp τ sig (Elt F))).Forall fun op => op.writes ⊆ (bodyA7_W.map (Proc.devRef (τ := τ) .tc)).toFinset :=
  StableHlo.forall_writes_sub_of_map rfl

abbrev bodyA8 : List (HloOp τ sig (Elt F)) :=
  [ StableHlo.nullary main_while0b_c_53 (constantI S_ 32 1#32),
    StableHlo.binary main_v127_7 main_while0b_c_53 main_while0b_v269 (addi : (⟨S_, .i32⟩ : BufTy).Contents (Elt F) → (⟨S_, .i32⟩ : BufTy).Contents (Elt F) → (⟨S_, .i32⟩ : BufTy).Contents (Elt F)) ]
theorem bodyA8_sub : (bodyA8 : List (HloOp τ sig (Elt F))).Forall fun op => op.bufs ⊆ StableHlo.tcRefs τ sig :=
  ⟨StableHlo.nullary_bufs_sub .., StableHlo.binary_bufs_sub ..⟩
theorem bodyA8_fresh : (bodyA8 : List (HloOp τ sig (Elt F))).Forall fun op => op.fresh = ∅ :=
  ⟨rfl, rfl⟩
abbrev bodyA8_W : List (Ref sig .tc) := [main_while0b_c_53, main_while0b_v269]
theorem bodyA8_writes : (bodyA8 : List (HloOp τ sig (Elt F))).Forall fun op => op.writes ⊆ (bodyA8_W.map (Proc.devRef (τ := τ) .tc)).toFinset :=
  StableHlo.forall_writes_sub_of_map rfl

abbrev bodyA9 : List (HloOp τ sig (Elt F)) :=
  [ StableHlo.unary main_while0b_v269 main_v127_7 id,
    StableHlo.unary main_while0b_v263 main_v127_8 id,
    StableHlo.unary main_while0b_v265 main_v127_9 id,
    StableHlo.unary main_while0b_v266 main_v127_10 id,
    StableHlo.unary main_while0b_v267 main_v127_11 id,
    StableHlo.unary main_while0b_v268 main_v127_12 id ]
theorem bodyA9_sub : (bodyA9 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..⟩
theorem bodyA9_fresh : (bodyA9 : List (HloOp τ sig (Elt F))).Forall fun op => op.fresh = ∅ :=
  ⟨rfl, rfl, rfl, rfl, rfl, rfl⟩
abbrev bodyA9_W : List (Ref sig .tc) := [main_v127_7, main_v127_8, main_v127_9, main_v127_10, main_v127_11, main_v127_12]
theorem bodyA9_writes : (bodyA9 : List (HloOp τ sig (Elt F))).Forall fun op => op.writes ⊆ (bodyA9_W.map (Proc.devRef (τ := τ) .tc)).toFinset :=
  StableHlo.forall_writes_sub_of_map rfl

abbrev bodyB0 : List (HloOp τ sig (Elt F)) :=
  [ StableHlo.nullary main_while1b_c_56 (constantI S_ 32 64#32),
    StableHlo.binary main_while1b_c_56 main_v200_11 main_while1b_v248 (subi : (⟨S_, .i32⟩ : BufTy).Contents (Elt F) → (⟨S_, .i32⟩ : BufTy).Contents (Elt F) → (⟨S_, .i32⟩ : BufTy).Contents (Elt F)),
    StableHlo.nullary main_while1b_c_57 (constantI S_ 32 1#32),
    StableHlo.binary main_while1b_v248 main_while1b_c_57 main_while1b_v249 (subi : (⟨S_, .i32⟩ : BufTy).Contents (Elt F) → (⟨S_, .i32⟩ : BufTy).Contents (Elt F) → (⟨S_, .i32⟩ : BufTy).Contents (Elt F)) ]
theorem bodyB0_sub : (bodyB0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bodyB0_fresh : (bodyB0 : List (HloOp τ sig (Elt F))).Forall fun op => op.fresh = ∅ :=
  ⟨rfl, rfl, rfl, rfl⟩
abbrev bodyB0_W : List (Ref sig .tc) := [main_while1b_c_56, main_while1b_v248, main_while1b_c_57, main_while1b_v249]
theorem bodyB0_writes : (bodyB0 : List (HloOp τ sig (Elt F))).Forall fun op => op.writes ⊆ (bodyB0_W.map (Proc.devRef (τ := τ) .tc)).toFinset :=
  StableHlo.forall_writes_sub_of_map rfl

abbrev bodyB1 : List (HloOp τ sig (Elt F)) :=
  [ StableHlo.TRef.nullary main_while1b_call9.c (constantI S_ 32 0#32),
    StableHlo.TRef.nullary main_while1b_call9.c_0 (constantI S_ 32 0#32),
    StableHlo.TRef.nullary main_while1b_call9.c_1 (constantI S_ 32 0#32),
    StableHlo.TRef.nullary main_while1b_call9.c_2 (constantI S_ 32 0#32),
    StableHlo.TRef.unaryIndexed (.of main_v200_0 : StableHlo.TRef sig ⟨S64x2x4x64x512, .f32⟩) ![(.of main_while1b_v249 : StableHlo.TRef sig ⟨S_, .i32⟩), main_while1b_call9.c, main_while1b_call9.c_0, main_while1b_call9.c_1, main_while1b_call9.c_2] main_while1b_call9.v0 (fun x i => Host.dynamicSlice S1x2x4x64x512 x (fun k => (i k (Shape.Idx.first h_S_)).toInt) sliceFits_S64x2x4x64x512_S1x2x4x64x512),
    StableHlo.TRef.reshape main_while1b_call9.v0 main_while1b_call9.v1 (rfl : (.f32 : EltTy) = .f32) shapeCasts_S1x2x4x64x512_S2x4x64x512 ]
theorem bodyB1_sub : (bodyB1 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB1_fresh : (bodyB1 : List (HloOp τ sig (Elt F))).Forall fun op => op.fresh = ∅ :=
  ⟨rfl, rfl, rfl, rfl, rfl, rfl⟩
abbrev bodyB1_W : List (Ref sig .tc) := [main_while1b_call9_c, main_while1b_call9_c_0, main_while1b_call9_c_1, main_while1b_call9_c_2, main_while1b_call9_v0, main_while1b_v250]
theorem bodyB1_writes : (bodyB1 : List (HloOp τ sig (Elt F))).Forall fun op => op.writes ⊆ (bodyB1_W.map (Proc.devRef (τ := τ) .tc)).toFinset :=
  StableHlo.forall_writes_sub_of_map rfl

abbrev bodyB2 : List (HloOp τ sig (Elt F)) :=
  [ StableHlo.TRef.nullary main_while1b_call10.c (constantI S_ 32 0#32),
    StableHlo.TRef.nullary main_while1b_call10.c_0 (constantI S_ 32 0#32),
    StableHlo.TRef.nullary main_while1b_call10.c_1 (constantI S_ 32 0#32),
    StableHlo.TRef.nullary main_while1b_call10.c_2 (constantI S_ 32 0#32),
    StableHlo.TRef.unaryIndexed (.of main_v200_1 : StableHlo.TRef sig ⟨S64x2x4x64x256, .f32⟩) ![(.of main_while1b_v249 : StableHlo.TRef sig ⟨S_, .i32⟩), main_while1b_call10.c, main_while1b_call10.c_0, main_while1b_call10.c_1, main_while1b_call10.c_2] main_while1b_call10.v0 (fun x i => Host.dynamicSlice S1x2x4x64x256 x (fun k => (i k (Shape.Idx.first h_S_)).toInt) sliceFits_S64x2x4x64x256_S1x2x4x64x256),
    StableHlo.TRef.reshape main_while1b_call10.v0 main_while1b_call10.v1 (rfl : (.f32 : EltTy) = .f32) shapeCasts_S1x2x4x64x256_S2x4x64x256 ]
theorem bodyB2_sub : (bodyB2 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB2_fresh : (bodyB2 : List (HloOp τ sig (Elt F))).Forall fun op => op.fresh = ∅ :=
  ⟨rfl, rfl, rfl, rfl, rfl, rfl⟩
abbrev bodyB2_W : List (Ref sig .tc) := [main_while1b_call10_c, main_while1b_call10_c_0, main_while1b_call10_c_1, main_while1b_call10_c_2, main_while1b_call10_v0, main_while1b_v251]
theorem bodyB2_writes : (bodyB2 : List (HloOp τ sig (Elt F))).Forall fun op => op.writes ⊆ (bodyB2_W.map (Proc.devRef (τ := τ) .tc)).toFinset :=
  StableHlo.forall_writes_sub_of_map rfl

abbrev bodyB3 : List (HloOp τ sig (Elt F)) :=
  [ StableHlo.TRef.nullary main_while1b_call11.c (constantI S_ 32 0#32),
    StableHlo.TRef.nullary main_while1b_call11.c_0 (constantI S_ 32 0#32),
    StableHlo.TRef.nullary main_while1b_call11.c_1 (constantI S_ 32 0#32),
    StableHlo.TRef.nullary main_while1b_call11.c_2 (constantI S_ 32 0#32),
    StableHlo.TRef.unaryIndexed (.of main_v200_2 : StableHlo.TRef sig ⟨S64x2x4x64x256, .f32⟩) ![(.of main_while1b_v249 : StableHlo.TRef sig ⟨S_, .i32⟩), main_while1b_call11.c, main_while1b_call11.c_0, main_while1b_call11.c_1, main_while1b_call11.c_2] main_while1b_call11.v0 (fun x i => Host.dynamicSlice S1x2x4x64x256 x (fun k => (i k (Shape.Idx.first h_S_)).toInt) sliceFits_S64x2x4x64x256_S1x2x4x64x256),
    StableHlo.TRef.reshape main_while1b_call11.v0 main_while1b_call11.v1 (rfl : (.f32 : EltTy) = .f32) shapeCasts_S1x2x4x64x256_S2x4x64x256 ]
theorem bodyB3_sub : (bodyB3 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB3_fresh : (bodyB3 : List (HloOp τ sig (Elt F))).Forall fun op => op.fresh = ∅ :=
  ⟨rfl, rfl, rfl, rfl, rfl, rfl⟩
abbrev bodyB3_W : List (Ref sig .tc) := [main_while1b_call11_c, main_while1b_call11_c_0, main_while1b_call11_c_1, main_while1b_call11_c_2, main_while1b_call11_v0, main_while1b_v252]
theorem bodyB3_writes : (bodyB3 : List (HloOp τ sig (Elt F))).Forall fun op => op.writes ⊆ (bodyB3_W.map (Proc.devRef (τ := τ) .tc)).toFinset :=
  StableHlo.forall_writes_sub_of_map rfl

abbrev bodyB4 : List (HloOp τ sig (Elt F)) :=
  [ StableHlo.TRef.nullary main_while1b_call12.c (constantI S_ 32 0#32),
    StableHlo.TRef.nullary main_while1b_call12.c_0 (constantI S_ 32 0#32),
    StableHlo.TRef.nullary main_while1b_call12.c_1 (constantI S_ 32 0#32),
    StableHlo.TRef.nullary main_while1b_call12.c_2 (constantI S_ 32 0#32),
    StableHlo.TRef.unaryIndexed (.of main_v200_3 : StableHlo.TRef sig ⟨S64x2x4x64x512, .f32⟩) ![(.of main_while1b_v249 : StableHlo.TRef sig ⟨S_, .i32⟩), main_while1b_call12.c, main_while1b_call12.c_0, main_while1b_call12.c_1, main_while1b_call12.c_2] main_while1b_call12.v0 (fun x i => Host.dynamicSlice S1x2x4x64x512 x (fun k => (i k (Shape.Idx.first h_S_)).toInt) sliceFits_S64x2x4x64x512_S1x2x4x64x512),
    StableHlo.TRef.reshape main_while1b_call12.v0 main_while1b_call12.v1 (rfl : (.f32 : EltTy) = .f32) shapeCasts_S1x2x4x64x512_S2x4x64x512 ]
theorem bodyB4_sub : (bodyB4 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB4_fresh : (bodyB4 : List (HloOp τ sig (Elt F))).Forall fun op => op.fresh = ∅ :=
  ⟨rfl, rfl, rfl, rfl, rfl, rfl⟩
abbrev bodyB4_W : List (Ref sig .tc) := [main_while1b_call12_c, main_while1b_call12_c_0, main_while1b_call12_c_1, main_while1b_call12_c_2, main_while1b_call12_v0, main_while1b_v253]
theorem bodyB4_writes : (bodyB4 : List (HloOp τ sig (Elt F))).Forall fun op => op.writes ⊆ (bodyB4_W.map (Proc.devRef (τ := τ) .tc)).toFinset :=
  StableHlo.forall_writes_sub_of_map rfl

abbrev bodyB5 : List (HloOp τ sig (Elt F)) :=
  [ StableHlo.TRef.nullary main_while1b_call13.c (constantI S_ 32 0#32),
    StableHlo.TRef.nullary main_while1b_call13.c_0 (constantI S_ 32 0#32),
    StableHlo.TRef.nullary main_while1b_call13.c_1 (constantI S_ 32 0#32),
    StableHlo.TRef.nullary main_while1b_call13.c_2 (constantI S_ 32 0#32),
    StableHlo.TRef.unaryIndexed (.of main_v200_4 : StableHlo.TRef sig ⟨S64x2x4x64x64, .f32⟩) ![(.of main_while1b_v249 : StableHlo.TRef sig ⟨S_, .i32⟩), main_while1b_call13.c, main_while1b_call13.c_0, main_while1b_call13.c_1, main_while1b_call13.c_2] main_while1b_call13.v0 (fun x i => Host.dynamicSlice S1x2x4x64x64 x (fun k => (i k (Shape.Idx.first h_S_)).toInt) sliceFits_S64x2x4x64x64_S1x2x4x64x64),
    StableHlo.TRef.reshape main_while1b_call13.v0 main_while1b_call13.v1 (rfl : (.f32 : EltTy) = .f32) shapeCasts_S1x2x4x64x64_S2x4x64x64 ]
theorem bodyB5_sub : (bodyB5 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB5_fresh : (bodyB5 : List (HloOp τ sig (Elt F))).Forall fun op => op.fresh = ∅ :=
  ⟨rfl, rfl, rfl, rfl, rfl, rfl⟩
abbrev bodyB5_W : List (Ref sig .tc) := [main_while1b_call13_c, main_while1b_call13_c_0, main_while1b_call13_c_1, main_while1b_call13_c_2, main_while1b_call13_v0, main_while1b_v254]
theorem bodyB5_writes : (bodyB5 : List (HloOp τ sig (Elt F))).Forall fun op => op.writes ⊆ (bodyB5_W.map (Proc.devRef (τ := τ) .tc)).toFinset :=
  StableHlo.forall_writes_sub_of_map rfl

abbrev bodyB6 : List (HloOp τ sig (Elt F)) :=
  [ StableHlo.TRef.nullary main_while1b_call14.c (constantI S_ 32 0#32),
    StableHlo.TRef.nullary main_while1b_call14.c_0 (constantI S_ 32 0#32),
    StableHlo.TRef.nullary main_while1b_call14.c_1 (constantI S_ 32 0#32),
    StableHlo.TRef.nullary main_while1b_call14.c_2 (constantI S_ 32 0#32),
    StableHlo.TRef.unaryIndexed (.of main_v200_5 : StableHlo.TRef sig ⟨S64x2x4x256x512, .f32⟩) ![(.of main_while1b_v249 : StableHlo.TRef sig ⟨S_, .i32⟩), main_while1b_call14.c, main_while1b_call14.c_0, main_while1b_call14.c_1, main_while1b_call14.c_2] main_while1b_call14.v0 (fun x i => Host.dynamicSlice S1x2x4x256x512 x (fun k => (i k (Shape.Idx.first h_S_)).toInt) sliceFits_S64x2x4x256x512_S1x2x4x256x512),
    StableHlo.TRef.reshape main_while1b_call14.v0 main_while1b_call14.v1 (rfl : (.f32 : EltTy) = .f32) shapeCasts_S1x2x4x256x512_S2x4x256x512 ]
theorem bodyB6_sub : (bodyB6 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB6_fresh : (bodyB6 : List (HloOp τ sig (Elt F))).Forall fun op => op.fresh = ∅ :=
  ⟨rfl, rfl, rfl, rfl, rfl, rfl⟩
abbrev bodyB6_W : List (Ref sig .tc) := [main_while1b_call14_c, main_while1b_call14_c_0, main_while1b_call14_c_1, main_while1b_call14_c_2, main_while1b_call14_v0, main_while1b_v255]
theorem bodyB6_writes : (bodyB6 : List (HloOp τ sig (Elt F))).Forall fun op => op.writes ⊆ (bodyB6_W.map (Proc.devRef (τ := τ) .tc)).toFinset :=
  StableHlo.forall_writes_sub_of_map rfl

abbrev bodyB7 : List (HloOp τ sig (Elt F)) :=
  [ StableHlo.TRef.nullary main_while1b_call15.c (constantI S_ 32 0#32),
    StableHlo.TRef.nullary main_while1b_call15.c_0 (constantI S_ 32 0#32),
    StableHlo.TRef.nullary main_while1b_call15.c_1 (constantI S_ 32 0#32),
    StableHlo.TRef.nullary main_while1b_call15.c_2 (constantI S_ 32 0#32),
    StableHlo.TRef.unaryIndexed (.of main_v200_6 : StableHlo.TRef sig ⟨S64x2x4x64x256, .f32⟩) ![(.of main_while1b_v249 : StableHlo.TRef sig ⟨S_, .i32⟩), main_while1b_call15.c, main_while1b_call15.c_0, main_while1b_call15.c_1, main_while1b_call15.c_2] main_while1b_call15.v0 (fun x i => Host.dynamicSlice S1x2x4x64x256 x (fun k => (i k (Shape.Idx.first h_S_)).toInt) sliceFits_S64x2x4x64x256_S1x2x4x64x256),
    StableHlo.TRef.reshape main_while1b_call15.v0 main_while1b_call15.v1 (rfl : (.f32 : EltTy) = .f32) shapeCasts_S1x2x4x64x256_S2x4x64x256 ]
theorem bodyB7_sub : (bodyB7 : List (HloOp τ sig (Elt F))).Forall fun op => op.bufs ⊆ StableHlo.tcRefs τ sig :=
  ⟨StableHlo.nullary_bufs_sub .., StableHlo.nullary_bufs_sub .., StableHlo.nullary_bufs_sub .., StableHlo.nullary_bufs_sub .., StableHlo.unaryIndexed_bufs_sub .., StableHlo.reshape_bufs_sub ..⟩
theorem bodyB7_fresh : (bodyB7 : List (HloOp τ sig (Elt F))).Forall fun op => op.fresh = ∅ :=
  ⟨rfl, rfl, rfl, rfl, rfl, rfl⟩
abbrev bodyB7_W : List (Ref sig .tc) := [main_while1b_call15_c, main_while1b_call15_c_0, main_while1b_call15_c_1, main_while1b_call15_c_2, main_while1b_call15_v0, main_while1b_v256]
theorem bodyB7_writes : (bodyB7 : List (HloOp τ sig (Elt F))).Forall fun op => op.writes ⊆ (bodyB7_W.map (Proc.devRef (τ := τ) .tc)).toFinset :=
  StableHlo.forall_writes_sub_of_map rfl

abbrev bodyB8 : List (HloOp τ sig (Elt F)) :=
  [ StableHlo.binary main_v200_12 main_while1b_v256 main_while1b_v257 ((fun l r => Host.dotGeneral dot_S2x4x256x512_S2x4x64x256_S2x4x512x64_2_3_3_2_01_01 none l r) : (⟨S2x4x256x512, .f32⟩ : BufTy).Contents (Elt F) → (⟨S2x4x64x256, .f32⟩ : BufTy).Contents (Elt F) → (⟨S2x4x512x64, .f32⟩ : BufTy).Contents (Elt F)),
    StableHlo.unary main_while1b_v257 main_while1b_v258 ((transpose S2x4x64x512 [0, 1, 3, 2] · transposes_S2x4x512x64_S2x4x64x512_0_1_3_2) : (⟨S2x4x512x64, .f32⟩ : BufTy).Contents (Elt F) → (⟨S2x4x64x512, .f32⟩ : BufTy).Contents (Elt F)),
    StableHlo.binary main_v200_12 main_while1b_v253 main_while1b_v259 ((fun l r => Host.dotGeneral dot_S2x4x256x512_S2x4x64x512_S2x4x256x64_3_3_2_2_01_01 none l r) : (⟨S2x4x256x512, .f32⟩ : BufTy).Contents (Elt F) → (⟨S2x4x64x512, .f32⟩ : BufTy).Contents (Elt F) → (⟨S2x4x256x64, .f32⟩ : BufTy).Contents (Elt F)),
    StableHlo.unary main_while1b_v259 main_while1b_v260 ((transpose S2x4x64x256 [0, 1, 3, 2] · transposes_S2x4x256x64_S2x4x64x256_0_1_3_2) : (⟨S2x4x256x64, .f32⟩ : BufTy).Contents (Elt F) → (⟨S2x4x64x256, .f32⟩ : BufTy).Contents (Elt F)),
    StableHlo.unary main_v200_10 main_while1b_v261 (broadcastInDim S2x4x64x256 ![0, 1, 2, 3] bcast_S1x4x64x1_S2x4x64x256_0_1_2_3 : (⟨S1x4x64x1, .f32⟩ : BufTy).Contents (Elt F) → (⟨S2x4x64x256, .f32⟩ : BufTy).Contents (Elt F)),
    StableHlo.binary main_while1b_v260 main_while1b_v261 main_while1b_v262 (mulf : (⟨S2x4x64x256, .f32⟩ : BufTy).Contents (Elt F) → (⟨S2x4x64x256, .f32⟩ : BufTy).Contents (Elt F) → (⟨S2x4x64x256, .f32⟩ : BufTy).Contents (Elt F)),
    StableHlo.unary main_v200_9 main_while1b_v263 (broadcastInDim S2x4x256x512 ![0, 1, 2, 3] bcast_S1x4x1x1_S2x4x256x512_0_1_2_3 : (⟨S1x4x1x1, .f32⟩ : BufTy).Contents (Elt F) → (⟨S2x4x256x512, .f32⟩ : BufTy).Contents (Elt F)),
    StableHlo.binary main_v200_12 main_while1b_v263 main_while1b_v264 (mulf : (⟨S2x4x256x512, .f32⟩ : BufTy).Contents (Elt F) → (⟨S2x4x256x512, .f32⟩ : BufTy).Contents (Elt F) → (⟨S2x4x256x512, .f32⟩ : BufTy).Contents (Elt F)),
    StableHlo.unary main_v200_8 main_while1b_v265 (broadcastInDim S2x4x64x512 ![0, 1, 2, 3] bcast_S1x4x64x1_S2x4x64x512_0_1_2_3 : (⟨S1x4x64x1, .f32⟩ : BufTy).Contents (Elt F) → (⟨S2x4x64x512, .f32⟩ : BufTy).Contents (Elt F)),
    StableHlo.binary main_while1b_v250 main_while1b_v265 main_while1b_v266 (mulf : (⟨S2x4x64x512, .f32⟩ : BufTy).Contents (Elt F) → (⟨S2x4x64x512, .f32⟩ : BufTy).Contents (Elt F) → (⟨S2x4x64x512, .f32⟩ : BufTy).Contents (Elt F)),
    StableHlo.binary main_while1b_v266 main_while1b_v252 main_while1b_v267 ((fun l r => Host.dotGeneral dot_S2x4x64x512_S2x4x64x256_S2x4x512x256_2_2_3_3_01_01 none l r) : (⟨S2x4x64x512, .f32⟩ : BufTy).Contents (Elt F) → (⟨S2x4x64x256, .f32⟩ : BufTy).Contents (Elt F) → (⟨S2x4x512x256, .f32⟩ : BufTy).Contents (Elt F)),
    StableHlo.unary main_while1b_v267 main_while1b_v268 ((transpose S2x4x256x512 [0, 1, 3, 2] · transposes_S2x4x512x256_S2x4x256x512_0_1_3_2) : (⟨S2x4x512x256, .f32⟩ : BufTy).Contents (Elt F) → (⟨S2x4x256x512, .f32⟩ : BufTy).Contents (Elt F)),
    StableHlo.binary main_while1b_v264 main_while1b_v268 main_while1b_v269 (addf : (⟨S2x4x256x512, .f32⟩ : BufTy).Contents (Elt F) → (⟨S2x4x256x512, .f32⟩ : BufTy).Contents (Elt F) → (⟨S2x4x256x512, .f32⟩ : BufTy).Contents (Elt F)),
    StableHlo.binary main_while1b_v266 main_while1b_v255 main_while1b_v270 ((fun l r => Host.dotGeneral dot_S2x4x64x512_S2x4x256x512_S2x4x64x256_3_3_2_2_01_01 none l r) : (⟨S2x4x64x512, .f32⟩ : BufTy).Contents (Elt F) → (⟨S2x4x256x512, .f32⟩ : BufTy).Contents (Elt F) → (⟨S2x4x64x256, .f32⟩ : BufTy).Contents (Elt F)),
    StableHlo.binary main_while1b_v250 main_while1b_v254 main_while1b_v271 ((fun l r => Host.dotGeneral dot_S2x4x64x512_S2x4x64x64_S2x4x512x64_2_2_3_3_01_01 none l r) : (⟨S2x4x64x512, .f32⟩ : BufTy).Contents (Elt F) → (⟨S2x4x64x64, .f32⟩ : BufTy).Contents (Elt F) → (⟨S2x4x512x64, .f32⟩ : BufTy).Contents (Elt F)),
    StableHlo.unary main_while1b_v271 main_while1b_v272 ((transpose S2x4x64x512 [0, 1, 3, 2] · transposes_S2x4x512x64_S2x4x64x512_0_1_3_2) : (⟨S2x4x512x64, .f32⟩ : BufTy).Contents (Elt F) → (⟨S2x4x64x512, .f32⟩ : BufTy).Contents (Elt F)),
    StableHlo.binary main_while1b_v258 main_while1b_v272 main_while1b_v273 (addf : (⟨S2x4x64x512, .f32⟩ : BufTy).Contents (Elt F) → (⟨S2x4x64x512, .f32⟩ : BufTy).Contents (Elt F) → (⟨S2x4x64x512, .f32⟩ : BufTy).Contents (Elt F)),
    StableHlo.binary main_while1b_v250 main_while1b_v253 main_while1b_v274 ((fun l r => Host.dotGeneral dot_S2x4x64x512_S2x4x64x512_S2x4x64x64_3_3_2_2_01_01 none l r) : (⟨S2x4x64x512, .f32⟩ : BufTy).Contents (Elt F) → (⟨S2x4x64x512, .f32⟩ : BufTy).Contents (Elt F) → (⟨S2x4x64x64, .f32⟩ : BufTy).Contents (Elt F)),
    StableHlo.unary main_v200_7 main_while1b_v275 (broadcastInDim S2x4x64x64 ![0, 1, 2, 3] bcast_S1x4x64x64_S2x4x64x64_0_1_2_3 : (⟨S1x4x64x64, .f32⟩ : BufTy).Contents (Elt F) → (⟨S2x4x64x64, .f32⟩ : BufTy).Contents (Elt F)),
    StableHlo.binary main_while1b_v274 main_while1b_v275 main_while1b_v276 (mulf : (⟨S2x4x64x64, .f32⟩ : BufTy).Contents (Elt F) → (⟨S2x4x64x64, .f32⟩ : BufTy).Contents (Elt F) → (⟨S2x4x64x64, .f32⟩ : BufTy).Contents (Elt F)),
    StableHlo.binary main_while1b_v276 main_while1b_v252 main_while1b_v277 ((fun l r => Host.dotGeneral dot_S2x4x64x64_S2x4x64x256_S2x4x64x256_2_2_3_3_01_01 none l r) : (⟨S2x4x64x64, .f32⟩ : BufTy).Contents (Elt F) → (⟨S2x4x64x256, .f32⟩ : BufTy).Contents (Elt F) → (⟨S2x4x64x256, .f32⟩ : BufTy).Contents (Elt F)),
    StableHlo.binary main_while1b_v262 main_while1b_v277 main_while1b_v278 (addf : (⟨S2x4x64x256, .f32⟩ : BufTy).Contents (Elt F) → (⟨S2x4x64x256, .f32⟩ : BufTy).Contents (Elt F) → (⟨S2x4x64x256, .f32⟩ : BufTy).Contents (Elt F)),
    StableHlo.binary main_while1b_v276 main_while1b_v251 main_while1b_v279 ((fun l r => Host.dotGeneral dot_S2x4x64x64_S2x4x64x256_S2x4x64x256_3_2_2_3_01_01 none l r) : (⟨S2x4x64x64, .f32⟩ : BufTy).Contents (Elt F) → (⟨S2x4x64x256, .f32⟩ : BufTy).Contents (Elt F) → (⟨S2x4x64x256, .f32⟩ : BufTy).Contents (Elt F)),
    StableHlo.binary main_while1b_v270 main_while1b_v279 main_while1b_v280 (addf : (⟨S2x4x64x256, .f32⟩ : BufTy).Contents (Elt F) → (⟨S2x4x64x256, .f32⟩ : BufTy).Contents (Elt F) → (⟨S2x4x64x256, .f32⟩ : BufTy).Contents (Elt F)) ]
theorem bodyB8_sub : (bodyB8 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub ..⟩
theorem bodyB8_fresh : (bodyB8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
abbrev bodyB8_W : List (Ref sig .tc) := [main_while1b_v257, main_while1b_v258, main_while1b_v259, main_while1b_v260, main_while1b_v261, main_while1b_v262, main_while1b_v263, main_while1b_v264, main_while1b_v265, main_while1b_v266, main_while1b_v267, main_while1b_v268, main_while1b_v269, main_while1b_v270, main_while1b_v271, main_while1b_v272, main_while1b_v273, main_while1b_v274, main_while1b_v275, main_while1b_v276, main_while1b_v277, main_while1b_v278, main_while1b_v279, main_while1b_v280]
theorem bodyB8_writes : (bodyB8 : List (HloOp τ sig (Elt F))).Forall fun op => op.writes ⊆ (bodyB8_W.map (Proc.devRef (τ := τ) .tc)).toFinset :=
  StableHlo.forall_writes_sub_of_map rfl

abbrev bodyB9 : List (HloOp τ sig (Elt F)) :=
  [ StableHlo.TRef.unary (.of main_while1b_v280 : StableHlo.TRef sig ⟨S2x4x64x256, .f32⟩) main_while1b_call16.v0 (broadcastInDim S1x2x4x64x256 ![1, 2, 3, 4] bcast_S2x4x64x256_S1x2x4x64x256_1_2_3_4),
    StableHlo.TRef.nullary main_while1b_call16.c (constantI S_ 32 0#32),
    StableHlo.TRef.nullary main_while1b_call16.c_0 (constantI S_ 32 0#32),
    StableHlo.TRef.nullary main_while1b_call16.c_1 (constantI S_ 32 0#32),
    StableHlo.TRef.nullary main_while1b_call16.c_2 (constantI S_ 32 0#32),
    StableHlo.TRef.binaryIndexed (.of main_v200_13 : StableHlo.TRef sig ⟨S64x2x4x64x256, .f32⟩) main_while1b_call16.v0 ![(.of main_while1b_v249 : StableHlo.TRef sig ⟨S_, .i32⟩), main_while1b_call16.c, main_while1b_call16.c_0, main_while1b_call16.c_1, main_while1b_call16.c_2] main_while1b_call16.v1 (fun x u i => Host.dynamicUpdateSlice x u (fun k => (i k (Shape.Idx.first h_S_)).toInt) updateFits_S64x2x4x64x256_S1x2x4x64x256) ]
theorem bodyB9_sub : (bodyB9 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyB9_fresh : (bodyB9 : List (HloOp τ sig (Elt F))).Forall fun op => op.fresh = ∅ :=
  ⟨rfl, rfl, rfl, rfl, rfl, rfl⟩
abbrev bodyB9_W : List (Ref sig .tc) := [main_while1b_call16_v0, main_while1b_call16_c, main_while1b_call16_c_0, main_while1b_call16_c_1, main_while1b_call16_c_2, main_while1b_v281]
theorem bodyB9_writes : (bodyB9 : List (HloOp τ sig (Elt F))).Forall fun op => op.writes ⊆ (bodyB9_W.map (Proc.devRef (τ := τ) .tc)).toFinset :=
  StableHlo.forall_writes_sub_of_map rfl

abbrev bodyB10 : List (HloOp τ sig (Elt F)) :=
  [ StableHlo.TRef.unary (.of main_while1b_v278 : StableHlo.TRef sig ⟨S2x4x64x256, .f32⟩) main_while1b_call17.v0 (broadcastInDim S1x2x4x64x256 ![1, 2, 3, 4] bcast_S2x4x64x256_S1x2x4x64x256_1_2_3_4),
    StableHlo.TRef.nullary main_while1b_call17.c (constantI S_ 32 0#32),
    StableHlo.TRef.nullary main_while1b_call17.c_0 (constantI S_ 32 0#32),
    StableHlo.TRef.nullary main_while1b_call17.c_1 (constantI S_ 32 0#32),
    StableHlo.TRef.nullary main_while1b_call17.c_2 (constantI S_ 32 0#32),
    StableHlo.TRef.binaryIndexed (.of main_v200_14 : StableHlo.TRef sig ⟨S64x2x4x64x256, .f32⟩) main_while1b_call17.v0 ![(.of main_while1b_v249 : StableHlo.TRef sig ⟨S_, .i32⟩), main_while1b_call17.c, main_while1b_call17.c_0, main_while1b_call17.c_1, main_while1b_call17.c_2] main_while1b_call17.v1 (fun x u i => Host.dynamicUpdateSlice x u (fun k => (i k (Shape.Idx.first h_S_)).toInt) updateFits_S64x2x4x64x256_S1x2x4x64x256) ]
theorem bodyB10_sub : (bodyB10 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyB10_fresh : (bodyB10 : List (HloOp τ sig (Elt F))).Forall fun op => op.fresh = ∅ :=
  ⟨rfl, rfl, rfl, rfl, rfl, rfl⟩
abbrev bodyB10_W : List (Ref sig .tc) := [main_while1b_call17_v0, main_while1b_call17_c, main_while1b_call17_c_0, main_while1b_call17_c_1, main_while1b_call17_c_2, main_while1b_v282]
theorem bodyB10_writes : (bodyB10 : List (HloOp τ sig (Elt F))).Forall fun op => op.writes ⊆ (bodyB10_W.map (Proc.devRef (τ := τ) .tc)).toFinset :=
  StableHlo.forall_writes_sub_of_map rfl

abbrev bodyB11 : List (HloOp τ sig (Elt F)) :=
  [ StableHlo.TRef.unary (.of main_while1b_v273 : StableHlo.TRef sig ⟨S2x4x64x512, .f32⟩) main_while1b_call18.v0 (broadcastInDim S1x2x4x64x512 ![1, 2, 3, 4] bcast_S2x4x64x512_S1x2x4x64x512_1_2_3_4),
    StableHlo.TRef.nullary main_while1b_call18.c (constantI S_ 32 0#32),
    StableHlo.TRef.nullary main_while1b_call18.c_0 (constantI S_ 32 0#32),
    StableHlo.TRef.nullary main_while1b_call18.c_1 (constantI S_ 32 0#32),
    StableHlo.TRef.nullary main_while1b_call18.c_2 (constantI S_ 32 0#32),
    StableHlo.TRef.binaryIndexed (.of main_v200_15 : StableHlo.TRef sig ⟨S64x2x4x64x512, .f32⟩) main_while1b_call18.v0 ![(.of main_while1b_v249 : StableHlo.TRef sig ⟨S_, .i32⟩), main_while1b_call18.c, main_while1b_call18.c_0, main_while1b_call18.c_1, main_while1b_call18.c_2] main_while1b_call18.v1 (fun x u i => Host.dynamicUpdateSlice x u (fun k => (i k (Shape.Idx.first h_S_)).toInt) updateFits_S64x2x4x64x512_S1x2x4x64x512) ]
theorem bodyB11_sub : (bodyB11 : List (HloOp τ sig (Elt F))).Forall fun op => op.bufs ⊆ StableHlo.tcRefs τ sig :=
  ⟨StableHlo.unary_bufs_sub .., StableHlo.nullary_bufs_sub .., StableHlo.nullary_bufs_sub .., StableHlo.nullary_bufs_sub .., StableHlo.nullary_bufs_sub .., StableHlo.binaryIndexed_bufs_sub ..⟩
theorem bodyB11_fresh : (bodyB11 : List (HloOp τ sig (Elt F))).Forall fun op => op.fresh = ∅ :=
  ⟨rfl, rfl, rfl, rfl, rfl, rfl⟩
abbrev bodyB11_W : List (Ref sig .tc) := [main_while1b_call18_v0, main_while1b_call18_c, main_while1b_call18_c_0, main_while1b_call18_c_1, main_while1b_call18_c_2, main_while1b_v283]
theorem bodyB11_writes : (bodyB11 : List (HloOp τ sig (Elt F))).Forall fun op => op.writes ⊆ (bodyB11_W.map (Proc.devRef (τ := τ) .tc)).toFinset :=
  StableHlo.forall_writes_sub_of_map rfl

abbrev bodyB12 : List (HloOp τ sig (Elt F)) :=
  [ StableHlo.nullary main_while1b_c_58 (constantI S_ 32 1#32),
    StableHlo.binary main_v200_11 main_while1b_c_58 main_while1b_v284 (addi : (⟨S_, .i32⟩ : BufTy).Contents (Elt F) → (⟨S_, .i32⟩ : BufTy).Contents (Elt F) → (⟨S_, .i32⟩ : BufTy).Contents (Elt F)) ]
theorem bodyB12_sub : (bodyB12 : List (HloOp τ sig (Elt F))).Forall fun op => op.bufs ⊆ StableHlo.tcRefs τ sig :=
  ⟨StableHlo.nullary_bufs_sub .., StableHlo.binary_bufs_sub ..⟩
theorem bodyB12_fresh : (bodyB12 : List (HloOp τ sig (Elt F))).Forall fun op => op.fresh = ∅ :=
  ⟨rfl, rfl⟩
abbrev bodyB12_W : List (Ref sig .tc) := [main_while1b_c_58, main_while1b_v284]
theorem bodyB12_writes : (bodyB12 : List (HloOp τ sig (Elt F))).Forall fun op => op.writes ⊆ (bodyB12_W.map (Proc.devRef (τ := τ) .tc)).toFinset :=
  StableHlo.forall_writes_sub_of_map rfl

abbrev bodyB13 : List (HloOp τ sig (Elt F)) :=
  [ StableHlo.unary main_while1b_v284 main_v200_11 id,
    StableHlo.unary main_while1b_v269 main_v200_12 id,
    StableHlo.unary main_while1b_v281 main_v200_13 id,
    StableHlo.unary main_while1b_v282 main_v200_14 id,
    StableHlo.unary main_while1b_v283 main_v200_15 id ]
theorem bodyB13_sub : (bodyB13 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub ..⟩
theorem bodyB13_fresh : (bodyB13 : List (HloOp τ sig (Elt F))).Forall fun op => op.fresh = ∅ :=
  ⟨rfl, rfl, rfl, rfl, rfl⟩
abbrev bodyB13_W : List (Ref sig .tc) := [main_v200_11, main_v200_12, main_v200_13, main_v200_14, main_v200_15]
theorem bodyB13_writes : (bodyB13 : List (HloOp τ sig (Elt F))).Forall fun op => op.writes ⊆ (bodyB13_W.map (Proc.devRef (τ := τ) .tc)).toFinset :=
  StableHlo.forall_writes_sub_of_map rfl

abbrev condA : List (HloOp τ sig (Elt F)) :=
  [ StableHlo.nullary main_while0c_c_53 (constantI S_ 32 64#32),
    StableHlo.binary main_v127_7 main_while0c_c_53 main_while0c_v248 (cmpi .slt : (⟨S_, .i32⟩ : BufTy).Contents (Elt F) → (⟨S_, .i32⟩ : BufTy).Contents (Elt F) → (⟨S_, .i1⟩ : BufTy).Contents (Elt F)) ]
theorem condA_sub : (condA : List (HloOp τ sig (Elt F))).Forall fun op => op.bufs ⊆ StableHlo.tcRefs τ sig :=
  ⟨StableHlo.nullary_bufs_sub .., StableHlo.binary_bufs_sub ..⟩
theorem condA_fresh : (condA : List (HloOp τ sig (Elt F))).Forall fun op => op.fresh = ∅ :=
  ⟨rfl, rfl⟩
abbrev condA_W : List (Ref sig .tc) := [main_while0c_c_53, main_while0c_v248]
theorem condA_writes : (condA : List (HloOp τ sig (Elt F))).Forall fun op => op.writes ⊆ (condA_W.map (Proc.devRef (τ := τ) .tc)).toFinset :=
  StableHlo.forall_writes_sub_of_map rfl

abbrev condB : List (HloOp τ sig (Elt F)) :=
  [ StableHlo.nullary main_while1c_c_56 (constantI S_ 32 64#32),
    StableHlo.binary main_v200_11 main_while1c_c_56 main_while1c_v248 (cmpi .slt : (⟨S_, .i32⟩ : BufTy).Contents (Elt F) → (⟨S_, .i32⟩ : BufTy).Contents (Elt F) → (⟨S_, .i1⟩ : BufTy).Contents (Elt F)) ]
theorem condB_sub : (condB : List (HloOp τ sig (Elt F))).Forall fun op => op.bufs ⊆ StableHlo.tcRefs τ sig :=
  ⟨StableHlo.nullary_bufs_sub .., StableHlo.binary_bufs_sub ..⟩
theorem condB_fresh : (condB : List (HloOp τ sig (Elt F))).Forall fun op => op.fresh = ∅ :=
  ⟨rfl, rfl⟩
abbrev condB_W : List (Ref sig .tc) := [main_while1c_c_56, main_while1c_v248]
theorem condB_writes : (condB : List (HloOp τ sig (Elt F))).Forall fun op => op.writes ⊆ (condB_W.map (Proc.devRef (τ := τ) .tc)).toFinset :=
  StableHlo.forall_writes_sub_of_map rfl

/-! ## The stretches before, between and after the loops, and the loops' bodies -/

abbrev preI : List (List (HloOp τ sig (Elt F))) := [pre0, pre1, pre2, pre3, pre4, pre5, pre6, pre7, pre8]
theorem preI_plain : StableHlo.Plain (preI (F := F)) := .cons pre0_sub (.cons pre1_sub (.cons pre2_sub (.cons pre3_sub (.cons pre4_sub (.cons pre5_sub (.cons pre6_sub (.cons pre7_sub (.cons pre8_sub (.nil) (List.forall_iff_forall_mem.mp pre8_fresh)) (List.forall_iff_forall_mem.mp pre7_fresh)) (List.forall_iff_forall_mem.mp pre6_fresh)) (List.forall_iff_forall_mem.mp pre5_fresh)) (List.forall_iff_forall_mem.mp pre4_fresh)) (List.forall_iff_forall_mem.mp pre3_fresh)) (List.forall_iff_forall_mem.mp pre2_fresh)) (List.forall_iff_forall_mem.mp pre1_fresh)) (List.forall_iff_forall_mem.mp pre0_fresh)
abbrev midI : List (List (HloOp τ sig (Elt F))) := [mid0, mid1, mid2, mid3, mid4, mid5, mid6, mid7, mid8, mid9]
theorem midI_plain : StableHlo.Plain (midI (F := F)) := .cons mid0_sub (.cons mid1_sub (.cons mid2_sub (.cons mid3_sub (.cons mid4_sub (.cons mid5_sub (.cons mid6_sub (.cons mid7_sub (.cons mid8_sub (.cons mid9_sub (.nil) (List.forall_iff_forall_mem.mp mid9_fresh)) (List.forall_iff_forall_mem.mp mid8_fresh)) (List.forall_iff_forall_mem.mp mid7_fresh)) (List.forall_iff_forall_mem.mp mid6_fresh)) (List.forall_iff_forall_mem.mp mid5_fresh)) (List.forall_iff_forall_mem.mp mid4_fresh)) (List.forall_iff_forall_mem.mp mid3_fresh)) (List.forall_iff_forall_mem.mp mid2_fresh)) (List.forall_iff_forall_mem.mp mid1_fresh)) (List.forall_iff_forall_mem.mp mid0_fresh)
abbrev postI : List (List (HloOp τ sig (Elt F))) := [post0, post1, post2, post3, post4]
theorem postI_plain : StableHlo.Plain (postI (F := F)) := .cons post0_sub (.cons post1_sub (.cons post2_sub (.cons post3_sub (.cons post4_sub (.nil) (List.forall_iff_forall_mem.mp post4_fresh)) (List.forall_iff_forall_mem.mp post3_fresh)) (List.forall_iff_forall_mem.mp post2_fresh)) (List.forall_iff_forall_mem.mp post1_fresh)) (List.forall_iff_forall_mem.mp post0_fresh)
abbrev bodyAI : List (List (HloOp τ sig (Elt F))) := [bodyA0, bodyA1, bodyA2, bodyA3, bodyA4, bodyA5, bodyA6, bodyA7, bodyA8, bodyA9]
theorem bodyAI_plain : StableHlo.Plain (bodyAI (F := F)) := .cons bodyA0_sub (.cons bodyA1_sub (.cons bodyA2_sub (.cons bodyA3_sub (.cons bodyA4_sub (.cons bodyA5_sub (.cons bodyA6_sub (.cons bodyA7_sub (.cons bodyA8_sub (.cons bodyA9_sub (.nil) (List.forall_iff_forall_mem.mp bodyA9_fresh)) (List.forall_iff_forall_mem.mp bodyA8_fresh)) (List.forall_iff_forall_mem.mp bodyA7_fresh)) (List.forall_iff_forall_mem.mp bodyA6_fresh)) (List.forall_iff_forall_mem.mp bodyA5_fresh)) (List.forall_iff_forall_mem.mp bodyA4_fresh)) (List.forall_iff_forall_mem.mp bodyA3_fresh)) (List.forall_iff_forall_mem.mp bodyA2_fresh)) (List.forall_iff_forall_mem.mp bodyA1_fresh)) (List.forall_iff_forall_mem.mp bodyA0_fresh)
abbrev bodyBI : List (List (HloOp τ sig (Elt F))) := [bodyB0, bodyB1, bodyB2, bodyB3, bodyB4, bodyB5, bodyB6, bodyB7, bodyB8, bodyB9, bodyB10, bodyB11, bodyB12, bodyB13]
theorem bodyBI_plain : StableHlo.Plain (bodyBI (F := F)) := .cons bodyB0_sub (.cons bodyB1_sub (.cons bodyB2_sub (.cons bodyB3_sub (.cons bodyB4_sub (.cons bodyB5_sub (.cons bodyB6_sub (.cons bodyB7_sub (.cons bodyB8_sub (.cons bodyB9_sub (.cons bodyB10_sub (.cons bodyB11_sub (.cons bodyB12_sub (.cons bodyB13_sub (.nil) (List.forall_iff_forall_mem.mp bodyB13_fresh)) (List.forall_iff_forall_mem.mp bodyB12_fresh)) (List.forall_iff_forall_mem.mp bodyB11_fresh)) (List.forall_iff_forall_mem.mp bodyB10_fresh)) (List.forall_iff_forall_mem.mp bodyB9_fresh)) (List.forall_iff_forall_mem.mp bodyB8_fresh)) (List.forall_iff_forall_mem.mp bodyB7_fresh)) (List.forall_iff_forall_mem.mp bodyB6_fresh)) (List.forall_iff_forall_mem.mp bodyB5_fresh)) (List.forall_iff_forall_mem.mp bodyB4_fresh)) (List.forall_iff_forall_mem.mp bodyB3_fresh)) (List.forall_iff_forall_mem.mp bodyB2_fresh)) (List.forall_iff_forall_mem.mp bodyB1_fresh)) (List.forall_iff_forall_mem.mp bodyB0_fresh)

/-! ## The program as a chain of these items -/

theorem part0_chain (c : Dev nD) : main_part0 (F := F) c = (Pipeline.chainK
  [ StableHlo.seq pre0,
    StableHlo.seq pre1 ]
  (StableHlo.seq pre2) : Prog (TpuEff nD τ sig (Elt F) (HostLoop.Sig (Pipeline.Sig Λ₀ (Fin 0) fun p => (pcfgs (F := F) p).Adm) 2) .tc) PUnit) := by
  chain_rfl

theorem part1_chain (c : Dev nD) : main_part1 (F := F) c = (Pipeline.chainK
  [ StableHlo.seq pre3,
    StableHlo.seq pre4,
    StableHlo.seq pre5 ]
  (StableHlo.seq pre6) : Prog (TpuEff nD τ sig (Elt F) (HostLoop.Sig (Pipeline.Sig Λ₀ (Fin 0) fun p => (pcfgs (F := F) p).Adm) 2) .tc) PUnit) := by
  chain_rfl

theorem part2_chain (c : Dev nD) : main_part2 (F := F) c = (Pipeline.chainK
  [ StableHlo.seq pre7,
    StableHlo.seq pre8,
    HostLoop.enter 0 ]
  (StableHlo.seq mid0) : Prog (TpuEff nD τ sig (Elt F) (HostLoop.Sig (Pipeline.Sig Λ₀ (Fin 0) fun p => (pcfgs (F := F) p).Adm) 2) .tc) PUnit) := by
  chain_rfl

theorem part3_chain (c : Dev nD) : main_part3 (F := F) c = (Pipeline.chainK
  [ StableHlo.seq mid1,
    StableHlo.seq mid2,
    StableHlo.seq mid3,
    StableHlo.seq mid4,
    StableHlo.seq mid5,
    StableHlo.seq mid6 ]
  (StableHlo.seq mid7) : Prog (TpuEff nD τ sig (Elt F) (HostLoop.Sig (Pipeline.Sig Λ₀ (Fin 0) fun p => (pcfgs (F := F) p).Adm) 2) .tc) PUnit) := by
  chain_rfl

theorem part4_chain (c : Dev nD) : main_part4 (F := F) c = (Pipeline.chainK
  [ StableHlo.seq mid8,
    StableHlo.seq mid9,
    HostLoop.enter 1,
    StableHlo.seq post0,
    StableHlo.seq post1 ]
  (StableHlo.seq post2) : Prog (TpuEff nD τ sig (Elt F) (HostLoop.Sig (Pipeline.Sig Λ₀ (Fin 0) fun p => (pcfgs (F := F) p).Adm) 2) .tc) PUnit) := by
  chain_rfl

theorem part5_chain (c : Dev nD) : main_part5 (F := F) c = (Pipeline.chain
  [ StableHlo.seq post3,
    StableHlo.seq post4 ] : Prog (TpuEff nD τ sig (Elt F) (HostLoop.Sig (Pipeline.Sig Λ₀ (Fin 0) fun p => (pcfgs (F := F) p).Adm) 2) .tc) PUnit) := by
  chain_rfl

theorem bodyA_chain : main_while0_body (F := F) = Pipeline.chain ((bodyAI (F := F)).map fun ops => (StableHlo.seq ops : Prog (TpuEff nD τ sig (Elt F) (HostLoop.Sig (Pipeline.Sig Λ₀ (Fin 0) fun p => (pcfgs (F := F) p).Adm) 2) .tc) PUnit)) := by
  chain_rfl

theorem bodyB_chain : main_while1_body (F := F) = Pipeline.chain ((bodyBI (F := F)).map fun ops => (StableHlo.seq ops : Prog (TpuEff nD τ sig (Elt F) (HostLoop.Sig (Pipeline.Sig Λ₀ (Fin 0) fun p => (pcfgs (F := F) p).Adm) 2) .tc) PUnit)) := by
  chain_rfl

theorem main_chain (c : Dev nD) : main (F := F) c = Pipeline.chain (((preI (F := F)).map fun ops => (StableHlo.seq ops : Prog (TpuEff nD τ sig (Elt F) (HostLoop.Sig (Pipeline.Sig Λ₀ (Fin 0) fun p => (pcfgs (F := F) p).Adm) 2) .tc) PUnit))
    ++ HostLoop.enter 0 :: (((midI (F := F)).map fun ops => (StableHlo.seq ops : Prog (TpuEff nD τ sig (Elt F) (HostLoop.Sig (Pipeline.Sig Λ₀ (Fin 0) fun p => (pcfgs (F := F) p).Adm) 2) .tc) PUnit))
    ++ HostLoop.enter 1 :: ((postI (F := F)).map fun ops => (StableHlo.seq ops : Prog (TpuEff nD τ sig (Elt F) (HostLoop.Sig (Pipeline.Sig Λ₀ (Fin 0) fun p => (pcfgs (F := F) p).Adm) 2) .tc) PUnit)))) := by
  show (main_part0 (F := F) c >>= fun _ => main_part1 (F := F) c >>= fun _ => main_part2 (F := F) c >>= fun _ => main_part3 (F := F) c >>= fun _ => main_part4 (F := F) c >>= fun _ => main_part5 (F := F) c) = _
  rewrite [part5_chain, part4_chain, Pipeline.chainK_bind_chain, part3_chain, Pipeline.chainK_bind_chain, part2_chain, Pipeline.chainK_bind_chain, part1_chain, Pipeline.chainK_bind_chain, part0_chain, Pipeline.chainK_bind_chain]
  chain_rfl

end Cert.RetGradRefIdeal.Loops

end
-- ==== Proof.RetRefLoops.lean ====
/- The contents of every buffer of the retention gradient's reference at each boundary of its two loops, the loops' tests,
   the run of the whole program, and its frame. -/
module

public import proofs.«01_k».proof.Proof.RetRefRun
public import proofs.«01_k».proof.Proof.Gen.RetGradRefIdeal
public import Idealize.ShloMosaic.Lib.Pipeline.RegionsLoop
public import Idealize.ShloMosaic.Lib.Pipeline.RegionsOwned
public import Idealize.ShloMosaic.Lib.StableHlo.RunLoop
public import Idealize.ShloMosaic.Lib.StableHlo.Run
public import Idealize.ShloMosaic.Lib.Scf.ExitTest
public import Idealize.ShloMosaic.Lib.Scf.Counter
public import Idealize.ShloMosaic.Lib.Claim

@[expose] public section

set_option maxRecDepth 16384

noncomputable section

namespace Cert.RetGradRefIdeal.Loops

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Facts₀ Facts

variable {F : FTy → Type} [FloatOps F]

/-! ## No item writes an argument -/

abbrev argRefs : List (Ref sig .tc) := [main_arg0, main_arg1, main_arg2]
theorem pre0_args : ∀ a ∈ argRefs, a ∉ pre0_W := by decide
theorem pre1_args : ∀ a ∈ argRefs, a ∉ pre1_W := by decide
theorem pre2_args : ∀ a ∈ argRefs, a ∉ pre2_W := by decide
theorem pre3_args : ∀ a ∈ argRefs, a ∉ pre3_W := by decide
theorem pre4_args : ∀ a ∈ argRefs, a ∉ pre4_W := by decide
theorem pre5_args : ∀ a ∈ argRefs, a ∉ pre5_W := by decide
theorem pre6_args : ∀ a ∈ argRefs, a ∉ pre6_W := by decide
theorem pre7_args : ∀ a ∈ argRefs, a ∉ pre7_W := by decide
theorem pre8_args : ∀ a ∈ argRefs, a ∉ pre8_W := by decide
theorem mid0_args : ∀ a ∈ argRefs, a ∉ mid0_W := by decide
theorem mid1_args : ∀ a ∈ argRefs, a ∉ mid1_W := by decide
theorem mid2_args : ∀ a ∈ argRefs, a ∉ mid2_W := by decide
theorem mid3_args : ∀ a ∈ argRefs, a ∉ mid3_W := by decide
theorem mid4_args : ∀ a ∈ argRefs, a ∉ mid4_W := by decide
theorem mid5_args : ∀ a ∈ argRefs, a ∉ mid5_W := by decide
theorem mid6_args : ∀ a ∈ argRefs, a ∉ mid6_W := by decide
theorem mid7_args : ∀ a ∈ argRefs, a ∉ mid7_W := by decide
theorem mid8_args : ∀ a ∈ argRefs, a ∉ mid8_W := by decide
theorem mid9_args : ∀ a ∈ argRefs, a ∉ mid9_W := by decide
theorem post0_args : ∀ a ∈ argRefs, a ∉ post0_W := by decide
theorem post1_args : ∀ a ∈ argRefs, a ∉ post1_W := by decide
theorem post2_args : ∀ a ∈ argRefs, a ∉ post2_W := by decide
theorem post3_args : ∀ a ∈ argRefs, a ∉ post3_W := by decide
theorem post4_args : ∀ a ∈ argRefs, a ∉ post4_W := by decide
theorem bodyA0_args : ∀ a ∈ argRefs, a ∉ bodyA0_W := by decide
theorem bodyA1_args : ∀ a ∈ argRefs, a ∉ bodyA1_W := by decide
theorem bodyA2_args : ∀ a ∈ argRefs, a ∉ bodyA2_W := by decide
theorem bodyA3_args : ∀ a ∈ argRefs, a ∉ bodyA3_W := by decide
theorem bodyA4_args : ∀ a ∈ argRefs, a ∉ bodyA4_W := by decide
theorem bodyA5_args : ∀ a ∈ argRefs, a ∉ bodyA5_W := by decide
theorem bodyA6_args : ∀ a ∈ argRefs, a ∉ bodyA6_W := by decide
theorem bodyA7_args : ∀ a ∈ argRefs, a ∉ bodyA7_W := by decide
theorem bodyA8_args : ∀ a ∈ argRefs, a ∉ bodyA8_W := by decide
theorem bodyA9_args : ∀ a ∈ argRefs, a ∉ bodyA9_W := by decide
theorem bodyB0_args : ∀ a ∈ argRefs, a ∉ bodyB0_W := by decide
theorem bodyB1_args : ∀ a ∈ argRefs, a ∉ bodyB1_W := by decide
theorem bodyB2_args : ∀ a ∈ argRefs, a ∉ bodyB2_W := by decide
theorem bodyB3_args : ∀ a ∈ argRefs, a ∉ bodyB3_W := by decide
theorem bodyB4_args : ∀ a ∈ argRefs, a ∉ bodyB4_W := by decide
theorem bodyB5_args : ∀ a ∈ argRefs, a ∉ bodyB5_W := by decide
theorem bodyB6_args : ∀ a ∈ argRefs, a ∉ bodyB6_W := by decide
theorem bodyB7_args : ∀ a ∈ argRefs, a ∉ bodyB7_W := by decide
theorem bodyB8_args : ∀ a ∈ argRefs, a ∉ bodyB8_W := by decide
theorem bodyB9_args : ∀ a ∈ argRefs, a ∉ bodyB9_W := by decide
theorem bodyB10_args : ∀ a ∈ argRefs, a ∉ bodyB10_W := by decide
theorem bodyB11_args : ∀ a ∈ argRefs, a ∉ bodyB11_W := by decide
theorem bodyB12_args : ∀ a ∈ argRefs, a ∉ bodyB12_W := by decide
theorem bodyB13_args : ∀ a ∈ argRefs, a ∉ bodyB13_W := by decide
theorem condA_args : ∀ a ∈ argRefs, a ∉ condA_W := by decide
theorem condB_args : ∀ a ∈ argRefs, a ∉ condB_W := by decide
theorem preI_keep (V : Valuation τ sig (Elt F)) : ∀ a ∈ argRefs, StableHlo.afterL preI V (Proc.devRef .tc a) = V (Proc.devRef .tc a) := fun a ha => by
  simp only [StableHlo.afterL_cons, StableHlo.afterL_nil]
  rw [StableHlo.after_of_writes_sub pre8 _ pre8_writes (pre8_args a ha), StableHlo.after_of_writes_sub pre7 _ pre7_writes (pre7_args a ha), StableHlo.after_of_writes_sub pre6 _ pre6_writes (pre6_args a ha), StableHlo.after_of_writes_sub pre5 _ pre5_writes (pre5_args a ha), StableHlo.after_of_writes_sub pre4 _ pre4_writes (pre4_args a ha), StableHlo.after_of_writes_sub pre3 _ pre3_writes (pre3_args a ha), StableHlo.after_of_writes_sub pre2 _ pre2_writes (pre2_args a ha), StableHlo.after_of_writes_sub pre1 _ pre1_writes (pre1_args a ha), StableHlo.after_of_writes_sub pre0 _ pre0_writes (pre0_args a ha)]
theorem midI_keep (V : Valuation τ sig (Elt F)) : ∀ a ∈ argRefs, StableHlo.afterL midI V (Proc.devRef .tc a) = V (Proc.devRef .tc a) := fun a ha => by
  simp only [StableHlo.afterL_cons, StableHlo.afterL_nil]
  rw [StableHlo.after_of_writes_sub mid9 _ mid9_writes (mid9_args a ha), StableHlo.after_of_writes_sub mid8 _ mid8_writes (mid8_args a ha), StableHlo.after_of_writes_sub mid7 _ mid7_writes (mid7_args a ha), StableHlo.after_of_writes_sub mid6 _ mid6_writes (mid6_args a ha), StableHlo.after_of_writes_sub mid5 _ mid5_writes (mid5_args a ha), StableHlo.after_of_writes_sub mid4 _ mid4_writes (mid4_args a ha), StableHlo.after_of_writes_sub mid3 _ mid3_writes (mid3_args a ha), StableHlo.after_of_writes_sub mid2 _ mid2_writes (mid2_args a ha), StableHlo.after_of_writes_sub mid1 _ mid1_writes (mid1_args a ha), StableHlo.after_of_writes_sub mid0 _ mid0_writes (mid0_args a ha)]
theorem postI_keep (V : Valuation τ sig (Elt F)) : ∀ a ∈ argRefs, StableHlo.afterL postI V (Proc.devRef .tc a) = V (Proc.devRef .tc a) := fun a ha => by
  simp only [StableHlo.afterL_cons, StableHlo.afterL_nil]
  rw [StableHlo.after_of_writes_sub post4 _ post4_writes (post4_args a ha), StableHlo.after_of_writes_sub post3 _ post3_writes (post3_args a ha), StableHlo.after_of_writes_sub post2 _ post2_writes (post2_args a ha), StableHlo.after_of_writes_sub post1 _ post1_writes (post1_args a ha), StableHlo.after_of_writes_sub post0 _ post0_writes (post0_args a ha)]
theorem bodyAI_keep (V : Valuation τ sig (Elt F)) : ∀ a ∈ argRefs, StableHlo.afterL bodyAI V (Proc.devRef .tc a) = V (Proc.devRef .tc a) := fun a ha => by
  simp only [StableHlo.afterL_cons, StableHlo.afterL_nil]
  rw [StableHlo.after_of_writes_sub bodyA9 _ bodyA9_writes (bodyA9_args a ha), StableHlo.after_of_writes_sub bodyA8 _ bodyA8_writes (bodyA8_args a ha), StableHlo.after_of_writes_sub bodyA7 _ bodyA7_writes (bodyA7_args a ha), StableHlo.after_of_writes_sub bodyA6 _ bodyA6_writes (bodyA6_args a ha), StableHlo.after_of_writes_sub bodyA5 _ bodyA5_writes (bodyA5_args a ha), StableHlo.after_of_writes_sub bodyA4 _ bodyA4_writes (bodyA4_args a ha), StableHlo.after_of_writes_sub bodyA3 _ bodyA3_writes (bodyA3_args a ha), StableHlo.after_of_writes_sub bodyA2 _ bodyA2_writes (bodyA2_args a ha), StableHlo.after_of_writes_sub bodyA1 _ bodyA1_writes (bodyA1_args a ha), StableHlo.after_of_writes_sub bodyA0 _ bodyA0_writes (bodyA0_args a ha)]
theorem bodyBI_keep (V : Valuation τ sig (Elt F)) : ∀ a ∈ argRefs, StableHlo.afterL bodyBI V (Proc.devRef .tc a) = V (Proc.devRef .tc a) := fun a ha => by
  simp only [StableHlo.afterL_cons, StableHlo.afterL_nil]
  rw [StableHlo.after_of_writes_sub bodyB13 _ bodyB13_writes (bodyB13_args a ha), StableHlo.after_of_writes_sub bodyB12 _ bodyB12_writes (bodyB12_args a ha), StableHlo.after_of_writes_sub bodyB11 _ bodyB11_writes (bodyB11_args a ha), StableHlo.after_of_writes_sub bodyB10 _ bodyB10_writes (bodyB10_args a ha), StableHlo.after_of_writes_sub bodyB9 _ bodyB9_writes (bodyB9_args a ha), StableHlo.after_of_writes_sub bodyB8 _ bodyB8_writes (bodyB8_args a ha), StableHlo.after_of_writes_sub bodyB7 _ bodyB7_writes (bodyB7_args a ha), StableHlo.after_of_writes_sub bodyB6 _ bodyB6_writes (bodyB6_args a ha), StableHlo.after_of_writes_sub bodyB5 _ bodyB5_writes (bodyB5_args a ha), StableHlo.after_of_writes_sub bodyB4 _ bodyB4_writes (bodyB4_args a ha), StableHlo.after_of_writes_sub bodyB3 _ bodyB3_writes (bodyB3_args a ha), StableHlo.after_of_writes_sub bodyB2 _ bodyB2_writes (bodyB2_args a ha), StableHlo.after_of_writes_sub bodyB1 _ bodyB1_writes (bodyB1_args a ha), StableHlo.after_of_writes_sub bodyB0 _ bodyB0_writes (bodyB0_args a ha)]

/-! ## The contents at each boundary -/

variable (m : (ℓ : Loc nD τ sig) → Buf (Elt F) ℓ)

/-- The number of trips of each loop. -/
abbrev nT : ℕ := 64
/-- The buffers at launch. -/
abbrev W0 : Dev nD → Valuation τ sig (Elt F) := StableHlo.launchContents m
/-- The buffers where the forward loop is entered, and before its `k`-th test. -/
abbrev Went : Dev nD → Valuation τ sig (Elt F) := fun c => StableHlo.afterL preI (W0 m c)
abbrev WA (k : ℕ) : Dev nD → Valuation τ sig (Elt F) := StableHlo.atTrip condA bodyAI (Went m) k
/-- The buffers after the forward loop. -/
abbrev WA' : Dev nD → Valuation τ sig (Elt F) := fun c => StableHlo.after condA (WA m nT c)
/-- The buffers where the backward loop is entered, and before its `k`-th test. -/
abbrev Wmid : Dev nD → Valuation τ sig (Elt F) := fun c => StableHlo.afterL midI (WA' m c)
abbrev WB (k : ℕ) : Dev nD → Valuation τ sig (Elt F) := StableHlo.atTrip condB bodyBI (Wmid m) k
/-- The buffers after the backward loop, and at the end. -/
abbrev WB' : Dev nD → Valuation τ sig (Elt F) := fun c => StableHlo.after condB (WB m nT c)
abbrev Wend : Dev nD → Valuation τ sig (Elt F) := fun c => StableHlo.afterL postI (WB' m c)

theorem WA_args (c : Dev nD) : ∀ k, ∀ a ∈ argRefs, WA m k c (Proc.devRef .tc a) = Went m c (Proc.devRef .tc a)
  | 0 => fun _ _ => rfl
  | k + 1 => fun a ha => by
    rw [show WA m (k + 1) c = StableHlo.afterL bodyAI (StableHlo.after condA (WA m k c)) from rfl, bodyAI_keep _ a ha,
      StableHlo.after_of_writes_sub condA _ condA_writes (condA_args a ha)]
    exact WA_args c k a ha
theorem WB_args (c : Dev nD) : ∀ k, ∀ a ∈ argRefs, WB m k c (Proc.devRef .tc a) = Wmid m c (Proc.devRef .tc a)
  | 0 => fun _ _ => rfl
  | k + 1 => fun a ha => by
    rw [show WB m (k + 1) c = StableHlo.afterL bodyBI (StableHlo.after condB (WB m k c)) from rfl, bodyBI_keep _ a ha,
      StableHlo.after_of_writes_sub condB _ condB_writes (condB_args a ha)]
    exact WB_args c k a ha
theorem WA'_args (c : Dev nD) : ∀ a ∈ argRefs, WA' m c (Proc.devRef .tc a) = m ((c : Thread nD τ).loc a) := fun a ha =>
  ((StableHlo.after_of_writes_sub condA _ condA_writes (condA_args a ha)).trans (WA_args m c nT a ha)).trans (preI_keep _ a ha)
theorem WB'_args (c : Dev nD) : ∀ a ∈ argRefs, WB' m c (Proc.devRef .tc a) = m ((c : Thread nD τ).loc a) := fun a ha =>
  (((StableHlo.after_of_writes_sub condB _ condB_writes (condB_args a ha)).trans (WB_args m c nT a ha)).trans (midI_keep _ a ha)).trans (WA'_args m c a ha)
theorem Wend_args (c : Dev nD) : ∀ a ∈ argRefs, Wend m c (Proc.devRef .tc a) = m ((c : Thread nD τ).loc a) := fun a ha =>
  (postI_keep _ a ha).trans (WB'_args m c a ha)

/-! ## The trip counters, the conditions -/

section
open Idealize.ShloMosaic.StableHlo
open Idealize.ShloMosaic.Pipeline (ucRefs sub_ucRefs)

-- the run's ghost algebra is empty: nothing in it is used (the program launches no kernel)
local notation "𝕄" => MT nD τ sig Unit (Elt F) ℕ (Option PUnit) ℕ

theorem ctrA_step (X : Valuation τ sig (Elt F)) :
    afterL bodyAI X (Proc.devRef .tc main_v127_7) = addi (X (Proc.devRef .tc main_v127_7)) (constantI S_ 32 1#32) := by
  simp only [afterL_cons, afterL_nil]
  have h9 : ∀ V : Valuation τ sig (Elt F), after bodyA9 V (Proc.devRef .tc main_v127_7) = V (Proc.devRef .tc main_while0b_v269) := fun V => by
    after_results; rfl
  have h8 : ∀ V : Valuation τ sig (Elt F), after bodyA8 V (Proc.devRef .tc main_while0b_v269) = addi (V (Proc.devRef .tc main_v127_7)) (constantI S_ 32 1#32) := fun V => by
    after_results
  rw [h9, h8, after_of_writes_sub bodyA7 _ bodyA7_writes (by decide),
    after_of_writes_sub bodyA6 _ bodyA6_writes (by decide),
    after_of_writes_sub bodyA5 _ bodyA5_writes (by decide),
    after_of_writes_sub bodyA4 _ bodyA4_writes (by decide),
    after_of_writes_sub bodyA3 _ bodyA3_writes (by decide),
    after_of_writes_sub bodyA2 _ bodyA2_writes (by decide),
    after_of_writes_sub bodyA1 _ bodyA1_writes (by decide),
    after_of_writes_sub bodyA0 _ bodyA0_writes (by decide)]

theorem ctrA_cond (V : Valuation τ sig (Elt F)) : after condA V (Proc.devRef .tc main_v127_7) = V (Proc.devRef .tc main_v127_7) :=
  after_of_writes_sub condA V condA_writes (by decide)

theorem ctrB_step (X : Valuation τ sig (Elt F)) :
    afterL bodyBI X (Proc.devRef .tc main_v200_11) = addi (X (Proc.devRef .tc main_v200_11)) (constantI S_ 32 1#32) := by
  simp only [afterL_cons, afterL_nil]
  have h9 : ∀ V : Valuation τ sig (Elt F), after bodyB13 V (Proc.devRef .tc main_v200_11) = V (Proc.devRef .tc main_while1b_v284) := fun V => by
    after_results; rfl
  have h8 : ∀ V : Valuation τ sig (Elt F), after bodyB12 V (Proc.devRef .tc main_while1b_v284) = addi (V (Proc.devRef .tc main_v200_11)) (constantI S_ 32 1#32) := fun V => by
    after_results
  rw [h9, h8, after_of_writes_sub bodyB11 _ bodyB11_writes (by decide),
    after_of_writes_sub bodyB10 _ bodyB10_writes (by decide),
    after_of_writes_sub bodyB9 _ bodyB9_writes (by decide),
    after_of_writes_sub bodyB8 _ bodyB8_writes (by decide),
    after_of_writes_sub bodyB7 _ bodyB7_writes (by decide),
    after_of_writes_sub bodyB6 _ bodyB6_writes (by decide),
    after_of_writes_sub bodyB5 _ bodyB5_writes (by decide),
    after_of_writes_sub bodyB4 _ bodyB4_writes (by decide),
    after_of_writes_sub bodyB3 _ bodyB3_writes (by decide),
    after_of_writes_sub bodyB2 _ bodyB2_writes (by decide),
    after_of_writes_sub bodyB1 _ bodyB1_writes (by decide),
    after_of_writes_sub bodyB0 _ bodyB0_writes (by decide)]

theorem ctrB_cond (V : Valuation τ sig (Elt F)) : after condB V (Proc.devRef .tc main_v200_11) = V (Proc.devRef .tc main_v200_11) :=
  after_of_writes_sub condB V condB_writes (by decide)

theorem ctrA_entry (c : Dev nD) : Went m c (Proc.devRef .tc main_v127_7) = fun _ => (0#32 : BitVec 32) := by
  simp only [Went, afterL_cons, afterL_nil]
  have h8 : ∀ V : Valuation τ sig (Elt F), after pre8 V (Proc.devRef .tc main_v127_7) = V (Proc.devRef .tc main_c) := fun V => by
    after_results; rfl
  have h7 : ∀ V : Valuation τ sig (Elt F), after pre7 V (Proc.devRef .tc main_c) = fun _ => (0#32 : BitVec 32) := fun V => by
    after_results; rfl
  rw [h8, h7]
  rfl

theorem ctrA (c : Dev nD) : ∀ k, WA m k c (Proc.devRef .tc main_v127_7) = fun _ => Scf.iv 0#32 1#32 k
  | 0 => by rw [show WA m 0 c = Went m c from rfl, ctrA_entry, Scf.iv_zero]
  | k + 1 => by
    rw [show WA m (k + 1) c = afterL bodyAI (after condA (WA m k c)) from rfl, ctrA_step, ctrA_cond, ctrA c k, Scf.iv_succ]
    rfl

set_option backward.isDefEq.respectTransparency.types false in
/-- The test of this loop, at the contents before its `k`-th run, whatever rides along. -/
theorem condA_spec (Rc : Dev nD → sProp 𝕄) : LoopCond (pcfgs (F := F)) defs₀ Variants.none loops Rc (main_while0_cond (F := F)) condA bodyAI (Went m) nT := by
  intro k hk c bd
  have hctr := ctrA m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (WA m k c) main_v127_7 HostLoop.idx0)
        (HloOp.result _ (WA m k c) main_while0c_c_53 HostLoop.idx0) = 1#1) (k < nT)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

theorem ctrB_entry (c : Dev nD) : Wmid m c (Proc.devRef .tc main_v200_11) = fun _ => (0#32 : BitVec 32) := by
  simp only [Wmid, afterL_cons, afterL_nil]
  have h9 : ∀ V : Valuation τ sig (Elt F), after mid9 V (Proc.devRef .tc main_v200_11) = V (Proc.devRef .tc main_c_35) := fun V => by
    after_results; rfl
  have h8 : ∀ V : Valuation τ sig (Elt F), after mid8 V (Proc.devRef .tc main_c_35) = fun _ => (0#32 : BitVec 32) := fun V => by
    after_results; rfl
  rw [h9, h8]
  rfl

theorem ctrB (c : Dev nD) : ∀ k, WB m k c (Proc.devRef .tc main_v200_11) = fun _ => Scf.iv 0#32 1#32 k
  | 0 => by rw [show WB m 0 c = Wmid m c from rfl, ctrB_entry, Scf.iv_zero]
  | k + 1 => by
    rw [show WB m (k + 1) c = afterL bodyBI (after condB (WB m k c)) from rfl, ctrB_step, ctrB_cond, ctrB c k, Scf.iv_succ]
    rfl

set_option backward.isDefEq.respectTransparency.types false in
/-- The test of this loop, at the contents before its `k`-th run, whatever rides along. -/
theorem condB_spec (Rc : Dev nD → sProp 𝕄) : LoopCond (pcfgs (F := F)) defs₀ Variants.none loops Rc (main_while1_cond (F := F)) condB bodyBI (Wmid m) nT := by
  intro k hk c bd
  have hctr := ctrB m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (WB m k c) main_v200_11 HostLoop.idx0)
        (HloOp.result _ (WB m k c) main_while1c_c_56 HostLoop.idx0) = 1#1) (k < nT)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]; · rw [after_cons, after_cons, after_nil]; iexact Hh
  iexact HR

/-! ## The run -/

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L₀ : GSem nD τ sig → Finset Unit := fun _ => ∅
abbrev lv₀ : GSem nD τ sig → Unit → ℕ := fun _ _ => 0
/-- What each device carries beside its buffers: that it owes nothing. -/
abbrev Rc (c : Dev nD) : sProp 𝕄 := iprop(∃ W, owes (c : Thread nD τ) (0 : CellTallies nD τ sig Unit) W)

/-- The forward loop and the backward loop as segments. -/
def loopA : Pipeline.CSeg (pcfgs (F := F)) adm defs₀ Variants.none L₀ lv₀ loops tk :=
  loopSeg _ _ _ _ _ _ _ _ 0 main_while0_cond main_while0_body rfl condA bodyAI bodyAI_plain bodyA_chain nT (Went m) Rc (condA_spec m Rc)
def loopB : Pipeline.CSeg (pcfgs (F := F)) adm defs₀ Variants.none L₀ lv₀ loops tk :=
  loopSeg _ _ _ _ _ _ _ _ 1 main_while1_cond main_while1_body rfl condB bodyBI bodyBI_plain bodyB_chain nT (Wmid m) Rc (condB_spec m Rc)

def segs : List (Pipeline.CSeg (pcfgs (F := F)) adm defs₀ Variants.none L₀ lv₀ loops tk) :=
  segsOf _ _ _ _ _ _ _ _ Rc preI preI_plain (W0 m) ++ loopA m ::
    (segsOf _ _ _ _ _ _ _ _ Rc midI midI_plain (WA' m) ++ loopB m :: segsOf _ _ _ _ _ _ _ _ Rc postI postI_plain (WB' m))

theorem segs_chains : Pipeline.CSeg.Chains (fun c => iprop(held (c : Thread nD τ) (ucRefs τ sig) (W0 m c) ∗ Rc c)) (segs m)
    (fun c => iprop(iprop(held (c : Thread nD τ) (ucRefs τ sig) (Wend m c)) ∗ Rc c)) := by
  unfold segs
  exact Pipeline.CSeg.Chains.append (segsOf_chains _ _ _ _ _ _ _ _ Rc preI preI_plain _) ⟨fun _ => .rfl,
    Pipeline.CSeg.Chains.append (segsOf_chains _ _ _ _ _ _ _ _ Rc midI midI_plain _) ⟨fun _ => .rfl,
      segsOf_chains _ _ _ _ _ _ _ _ Rc postI postI_plain _⟩⟩

theorem segs_map : (segs m).map Pipeline.CSeg.prog = (preI.map fun ops => seq ops)
    ++ HostLoop.enter 0 :: ((midI.map fun ops => seq ops) ++ HostLoop.enter 1 :: postI.map fun ops => seq ops) := by
  unfold segs
  rw [List.map_append, List.map_cons, List.map_append, List.map_cons, segsOf_prog, segsOf_prog, segsOf_prog]
  rfl

theorem segs_prog (c : Dev nD) : main (F := F) c = Pipeline.chain ((segs m).map Pipeline.CSeg.prog) :=
  (main_chain c).trans (congrArg Pipeline.chain (segs_map m).symm)

/-- Every weakly fair execution from any memory ends with every buffer at its closing contents. -/
theorem run_main [∀ e, Nonempty (Elt F e)] (ρ : Dev nD → PrngReg) :
    θ_run (HostLoop.defs loops (Pipeline.defs (pcfgs (F := F)) defs₀)) (onTc (τ := τ) main) ⟨m, fun _ => 0, ρ⟩
      (fun r => ∀ (c : Dev nD) (b : Ref sig .tc), (Proc.devRef .tc b : DevRef τ sig).isScoped = false →
        r.2.mem ((c.tc : Thread nD τ).loc b) = Wend m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L₀ lv₀ loops tk m ρ main (segs m)
    (fun c Q => by rw [segs_prog m c]; exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (W0 m c) ∗ Rc c))
    (Tₙ := fun c => iprop(held (c : Thread nD τ) (ucRefs τ sig) (Wend m c)))
    (hch := segs_chains m)
    (hinit := by
      refine Pipeline.initEach L₀ lv₀ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Wend m c b)
    (hfin := fun c s' => by
      unfold held
      iintro ⟨Hh, HSI⟩
      ihave Hr := (pointsTo_read_all (ucRefs τ sig) (fun b => ((c : Dev nD), b)) (fun b => Wend m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))
end

/-- The frame: the arguments are kept, nothing is left pending. -/
theorem frame : Cert.quiescent_RetGradRefIdeal := fun m ρ _ =>
  (θ_run Cert.RetGradRefIdeal.defs _ _).mono (fun r h =>
    ⟨fun c => ⟨(h c main_arg0 (by decide)).trans (Wend_args m c main_arg0 (by decide)), (h c main_arg1 (by decide)).trans (Wend_args m c main_arg1 (by decide)),
      (h c main_arg2 (by decide)).trans (Wend_args m c main_arg2 (by decide))⟩, sem_eq_zero_of_no_sems (by decide) r.2⟩) (run_main m ρ)

end Cert.RetGradRefIdeal.Loops

end
-- ==== Proof.RetRefPre.lean ====
/- What the reference's loops over the blocks start from: rotated queries and keys, values and decays, entry by entry. -/
module
public import proofs.«01_k».proof.Proof.RetRefLoops
public import proofs.«01_k».proof.Proof.RetData
public import proofs.«01_k».proof.Proof.RetWin
public import Idealize.ShloMosaic.Lib.StableHlo.RunRead
public import Idealize.ShloMosaic.Lib.Pointwise
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (cos_word sin_word kd_word dite_coe sum_to entry)
variable (W : Valuation τ sig (Elt Ideal))

abbrev pre : Valuation τ sig (Elt Ideal) := afterL preI W

/-- The data of the arguments, and that they are finite. -/
abbrev D : Data := data (W (Proc.devRef .tc main_arg0)) (W (Proc.devRef .tc main_arg1)) (W (Proc.devRef .tc main_arg2))
abbrev Rl : Prop := Real3 (W (Proc.devRef .tc main_arg0)) (W (Proc.devRef .tc main_arg1)) (W (Proc.devRef .tc main_arg2))

theorem arg0_at (H : Rl W) (b : Fin 2) {s n n' : ℕ} (hs : s < 4096) (hn : n < 6144) (e : n = n') :
    W (Proc.devRef .tc main_arg0) (ix3 b ⟨s, hs⟩ ⟨n, hn⟩) = (((D W).p b s n' : ℝ) : EReal) := by
  subst e
  exact p_at H b ⟨s, hs⟩ ⟨n, hn⟩

theorem v_at (H : Rl W) (j : Fin 64) (b : Fin 2) (h : Fin 4) (i : Fin 64) (e : Fin 512) :
    (pre W (Proc.devRef .tc main_v127_2) (ix5 j b h i e) : EReal) = (((D W).V b h (j * 64 + i) e : ℝ) : EReal) := by
  simp only [pre, preI, afterL_cons, afterL_nil]
  after_reads_simp
  simp only [id_eq]
  pointwise
  exact arg0_at W H b _ _ (by omega)

theorem q_of (V : Valuation τ sig (Elt Ideal)) (j : Fin 64) (b : Fin 2) (h : Fin 4) (i : Fin 64) (e : Fin 256) :
    (afterL [pre2, pre3, pre4, pre5, pre6, pre7, pre8] V (Proc.devRef .tc main_v127_0) (ix5 j b h i e) : EReal) = V (Proc.devRef .tc main_v38) (ix4 b ⟨j * 64 + i, by omega⟩ h e) := by
  simp only [afterL_cons, afterL_nil]
  after_reads_simp
  simp only [id_eq]
  pointwise

theorem rq_at (H : Rl W) (b : Fin 2) (h : Fin 4) (i : Fin 4096) (d : Fin 256) :
    (after pre1 (after pre0 W) (Proc.devRef .tc main_v38) (ix4 b i h d) : EReal) = (((D W).Q b h i d : ℝ) : EReal) := by
  refine entry (B := ?B) ?a ?b
  case a => after_reads_simp; rfl
  pointwise
  after_reads_simp
  pointwise
  have hi := i.isLt
  have hd := d.isLt
  have P : ∀ (t : ℕ) (ht : h.val * 256 + t < 6144), W (Proc.devRef .tc main_arg0) (ix3 b i ⟨h.val * 256 + t, ht⟩) = (((D W).p b i (256 * h.val + t) : ℝ) : EReal) :=
    fun t ht => arg0_at W H b i.isLt ht (by omega)
  have hs : i.val < 2147483648 := by omega
  simp only [P, cos_word hs (show d.val < 2147483648 by omega), sin_word hs (show d.val < 2147483648 by omega),
    cos_word hs (show d.val - 128 < 2147483648 by omega), sin_word hs (show d.val - 128 < 2147483648 by omega)]
  simp only [← EReal.coe_mul, ← EReal.coe_sub, ← EReal.coe_add, dite_eq_ite, dite_coe, EReal.coe_eq_coe_iff]
  rfl

theorem q_at (H : Rl W) (j : Fin 64) (b : Fin 2) (h : Fin 4) (i : Fin 64) (d : Fin 256) :
    (pre W (Proc.devRef .tc main_v127_0) (ix5 j b h i d) : EReal) = (((D W).Q b h (j * 64 + i) d : ℝ) : EReal) :=
  (q_of _ j b h i d).trans (rq_at W H b h ⟨j * 64 + i, by omega⟩ d)

theorem rk_at (H : Rl W) (b : Fin 2) (h : Fin 4) (i : Fin 4096) (d : Fin 256) :
    (after pre3 (after pre2 (after pre1 (after pre0 W))) (Proc.devRef .tc main_v69) (ix4 b i h d) : EReal) = (((D W).KR b h i d : ℝ) : EReal) := by
  refine entry (B := ?B) ?a ?b
  case a => after_reads_simp; rfl
  pointwise
  after_reads_simp
  pointwise
  have hi := i.isLt
  have hd := d.isLt
  have P : ∀ (t : ℕ) (ht : 1024 + (h.val * 256 + t) < 6144), W (Proc.devRef .tc main_arg0) (ix3 b i ⟨1024 + (h.val * 256 + t), ht⟩) = (((D W).p b i (1024 + 256 * h.val + t) : ℝ) : EReal) :=
    fun t ht => arg0_at W H b i.isLt ht (by omega)
  have hs : i.val < 2147483648 := by omega
  simp only [P, cos_word hs (show d.val < 2147483648 by omega), sin_word hs (show d.val < 2147483648 by omega),
    cos_word hs (show d.val - 128 < 2147483648 by omega), sin_word hs (show d.val - 128 < 2147483648 by omega)]
  simp only [← EReal.coe_mul, ← EReal.coe_sub, ← EReal.coe_add, dite_eq_ite, dite_coe, EReal.coe_eq_coe_iff]
  rfl

theorem k_of {V : Valuation τ sig (Elt Ideal)} {j : Fin 64} {b : Fin 2} {h : Fin 4} {i : Fin 64} {d : Fin 256} {x : ℝ}
    (e : V (Proc.devRef .tc main_v69) (ix4 b ⟨j * 64 + i, by omega⟩ h d) = (x : EReal)) :
    (afterL [pre4, pre5, pre6, pre7, pre8] V (Proc.devRef .tc main_v127_1) (ix5 j b h i d) : EReal) = ((x * (1 / 16) : ℝ) : EReal) := by
  simp only [afterL_cons, afterL_nil]
  after_reads_simp
  simp only [id_eq]
  pointwise
  rw [e, Cert.RetGradIdeal.Head.word_16th, ← EReal.coe_mul]

theorem k_at (H : Rl W) (j : Fin 64) (b : Fin 2) (h : Fin 4) (i : Fin 64) (d : Fin 256) :
    (pre W (Proc.devRef .tc main_v127_1) (ix5 j b h i d) : EReal) = (((D W).K b h (j * 64 + i) d : ℝ) : EReal) :=
  k_of (rk_at W H b h ⟨j * 64 + i, by omega⟩ d)

theorem dm_at (h : Fin 4) (i l : Fin 64) : (pre W (Proc.devRef .tc main_v127_5) (ix4 0 h i l) : EReal) = ((decay (rate h) i l : ℝ) : EReal) := by
  simp only [pre, preI, afterL_cons, afterL_nil]
  after_reads_simp
  simp only [id_eq]
  pointwise
  rw [iota_word (by omega), iota_word (by omega), iota_word (by omega), rate_word]
  have ab : (FloatOps.absf (F := Ideal) (φ := .f32) (((((i : ℕ) : ℝ) : EReal)) - ((((l : ℕ) : ℝ) : EReal)) : EReal) : EReal) = ((|((i : ℕ) : ℝ) - ((l : ℕ) : ℝ)| : ℝ) : EReal) := by
    show max _ _ = _
    rw [← EReal.coe_sub, ← EReal.coe_neg, abs_eq_max_neg]; exact (EReal.coe_strictMono.monotone.map_max).symm
  rw [ab, ← EReal.coe_mul, Ideal.exp_coe, decay, if_pos (by omega)]

theorem qd_at (h : Fin 4) (i : Fin 64) : (pre W (Proc.devRef .tc main_v127_6) (ix4 0 h i 0) : EReal) = ((Real.exp (rate h * (i + 1)) : ℝ) : EReal) := by
  simp only [pre, preI, afterL_cons, afterL_nil]
  after_reads_simp
  simp only [id_eq]
  pointwise
  rw [iota_word (by omega), iota_word (by omega), rate_word, ← EReal.coe_one, ← EReal.coe_add, ← EReal.coe_mul, Ideal.exp_coe]

theorem kd_at (h : Fin 4) (i : Fin 64) : (pre W (Proc.devRef .tc main_v127_4) (ix4 0 h i 0) : EReal) = ((Real.exp (rate h * (63 - i)) : ℝ) : EReal) := by
  simp only [pre, preI, afterL_cons, afterL_nil]
  after_reads_simp
  simp only [id_eq]
  pointwise
  rw [iota_word (by omega), iota_word (by omega), rate_word, word_63, ← EReal.coe_sub, ← EReal.coe_mul, Ideal.exp_coe]

theorem bd_at (h : Fin 4) : (pre W (Proc.devRef .tc main_v127_3) (ix4 0 h 0 0) : EReal) = ((Real.exp (rate h * 64) : ℝ) : EReal) := by
  simp only [pre, preI, afterL_cons, afterL_nil]
  after_reads_simp
  simp only [id_eq]
  pointwise
  rw [iota_word (by omega), rate_word, word_64, ← EReal.coe_mul, Ideal.exp_coe]

theorem st_at (b : Fin 2) (h : Fin 4) (d : Fin 256) (e : Fin 512) : (pre W (Proc.devRef .tc main_v127_8) (ix4 b h d e) : EReal) = ((0 : ℝ) : EReal) := by
  simp only [pre, preI, afterL_cons, afterL_nil]
  after_reads_simp
  simp only [id_eq]
  pointwise
  exact EReal.coe_zero.symm

end Cert.RetGradRefIdeal.Val
end
-- ==== Proof.RetRefA.lean ====
/- One trip of the reference's forward loop and what the loop leaves: outputs, decayed scores, states and decayed keys of every block. -/
module
public import proofs.«01_k».proof.Proof.RetRefPre
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry)

section Rows
variable {α : Type} {A B C E : ℕ}

theorem slice_row (x : (⟨5, ![64, A, B, C, E]⟩ : Shape).Idx → α) (start : Fin 5 → Int) (h : (⟨5, ![64, A, B, C, E]⟩ : Shape).Slices (fun _ => 0) ⟨5, ![1, A, B, C, E]⟩) (k : Fin 64)
    (e : start 0 = k ∧ start 1 = 0 ∧ start 2 = 0 ∧ start 3 = 0 ∧ start 4 = 0) :
    Host.dynamicSlice ⟨5, ![1, A, B, C, E]⟩ x start h = fun i => x (ix5 k (i 1) (i 2) (i 3) (i 4)) := by
  funext i
  unfold Host.dynamicSlice extractStridedSlice
  refine congrArg x (funext fun a => Fin.ext ?_)
  obtain ⟨e0, e1, e2, e3, e4⟩ := e
  have hk := k.isLt
  have hi : (i 0).val < 1 := (i 0).isLt
  fin_cases a <;> simp [e0, e1, e2, e3, e4] <;> omega

theorem update_row (x : (⟨5, ![64, A, B, C, E]⟩ : Shape).Idx → α) (u : (⟨5, ![1, A, B, C, E]⟩ : Shape).Idx → α) (start : Fin 5 → Int)
    (h : (⟨5, ![64, A, B, C, E]⟩ : Shape).Slices (fun _ => 0) ⟨5, ![1, A, B, C, E]⟩) (k : Fin 64)
    (e : start 0 = k ∧ start 1 = 0 ∧ start 2 = 0 ∧ start 3 = 0 ∧ start 4 = 0) :
    Host.dynamicUpdateSlice x u start h = fun i => if (i 0).val = k.val then u (ix5 0 (i 1) (i 2) (i 3) (i 4)) else x i := by
  funext i
  obtain ⟨e0, e1, e2, e3, e4⟩ := e
  have hk := k.isLt
  have h1 := (i 1).isLt
  have h2 := (i 2).isLt
  have h3 := (i 3).isLt
  have h4 := (i 4).isLt
  unfold Host.dynamicUpdateSlice updateSlice
  split
  · next hin =>
    have h0 := hin 0
    simp [e0] at h0
    rw [if_pos (by omega)]
    refine congrArg u (funext fun a => Fin.ext ?_)
    fin_cases a <;> simp [e0, e1, e2, e3, e4]
    omega
  · next hin =>
    rw [if_neg]
    intro hik
    refine hin fun a => ?_
    fin_cases a
    · simp [e0]; omega
    · simpa [e1] using h1
    · simpa [e2] using h2
    · simpa [e3] using h3
    · simpa [e4] using h4
end Rows

theorem iv_int (k : Fin 64) : (Scf.iv 0#32 1#32 k).toInt = k := by
  fin_cases k <;> decide

theorem q_slice (V : Valuation τ sig (Elt Ideal)) (k : Fin 64) (hk : V (Proc.devRef .tc main_v127_7) = fun _ => Scf.iv 0#32 1#32 k) (b : Fin 2) (h : Fin 4) (i : Fin 64) (d : Fin 256) :
    (after bodyA0 V (Proc.devRef .tc main_while0b_v248) (ix4 b h i d) : EReal) = V (Proc.devRef .tc main_v127_0) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyA0 V 4 (Proc.devRef .tc main_v127_7) : S_.Idx → BitVec 32) _).toInt = _
    after_reads_simp
    exact (congrArg BitVec.toInt (congrFun hk _)).trans (iv_int k)
  pointwise

theorem k_slice (V : Valuation τ sig (Elt Ideal)) (k : Fin 64) (hk : V (Proc.devRef .tc main_v127_7) = fun _ => Scf.iv 0#32 1#32 k) (b : Fin 2) (h : Fin 4) (i : Fin 64) (d : Fin 256) :
    (after bodyA1 V (Proc.devRef .tc main_while0b_v249) (ix4 b h i d) : EReal) = V (Proc.devRef .tc main_v127_1) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyA1 V 4 (Proc.devRef .tc main_v127_7) : S_.Idx → BitVec 32) _).toInt = _
    after_reads_simp
    exact (congrArg BitVec.toInt (congrFun hk _)).trans (iv_int k)
  pointwise

theorem v_slice (V : Valuation τ sig (Elt Ideal)) (k : Fin 64) (hk : V (Proc.devRef .tc main_v127_7) = fun _ => Scf.iv 0#32 1#32 k) (b : Fin 2) (h : Fin 4) (i : Fin 64) (d : Fin 512) :
    (after bodyA2 V (Proc.devRef .tc main_while0b_v250) (ix4 b h i d) : EReal) = V (Proc.devRef .tc main_v127_2) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyA2 V 4 (Proc.devRef .tc main_v127_7) : S_.Idx → BitVec 32) _).toInt = _
    after_reads_simp
    exact (congrArg BitVec.toInt (congrFun hk _)).trans (iv_int k)
  pointwise

theorem o_update (V : Valuation τ sig (Elt Ideal)) (k : Fin 64) (hk : V (Proc.devRef .tc main_v127_7) = fun _ => Scf.iv 0#32 1#32 k) (j : Fin 64) (b : Fin 2) (h : Fin 4) (i : Fin 64) (d : Fin 512) :
    (after bodyA4 V (Proc.devRef .tc main_while0b_v265) (ix5 j b h i d) : EReal) = if j.val = k.val then V (Proc.devRef .tc main_while0b_v264) (ix4 b h i d) else V (Proc.devRef .tc main_v127_9) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyA4 V 5 (Proc.devRef .tc main_v127_7) : S_.Idx → BitVec 32) _).toInt = _
    after_reads_simp
    exact (congrArg BitVec.toInt (congrFun hk _)).trans (iv_int k)
  pointwise

theorem s_update (V : Valuation τ sig (Elt Ideal)) (k : Fin 64) (hk : V (Proc.devRef .tc main_v127_7) = fun _ => Scf.iv 0#32 1#32 k) (j : Fin 64) (b : Fin 2) (h : Fin 4) (i : Fin 64) (d : Fin 64) :
    (after bodyA5 V (Proc.devRef .tc main_while0b_v266) (ix5 j b h i d) : EReal) = if j.val = k.val then V (Proc.devRef .tc main_while0b_v253) (ix4 b h i d) else V (Proc.devRef .tc main_v127_10) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyA5 V 5 (Proc.devRef .tc main_v127_7) : S_.Idx → BitVec 32) _).toInt = _
    after_reads_simp
    exact (congrArg BitVec.toInt (congrFun hk _)).trans (iv_int k)
  pointwise

theorem st_update (V : Valuation τ sig (Elt Ideal)) (k : Fin 64) (hk : V (Proc.devRef .tc main_v127_7) = fun _ => Scf.iv 0#32 1#32 k) (j : Fin 64) (b : Fin 2) (h : Fin 4) (i : Fin 256) (d : Fin 512) :
    (after bodyA6 V (Proc.devRef .tc main_while0b_v267) (ix5 j b h i d) : EReal) = if j.val = k.val then V (Proc.devRef .tc main_v127_8) (ix4 b h i d) else V (Proc.devRef .tc main_v127_11) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyA6 V 5 (Proc.devRef .tc main_v127_7) : S_.Idx → BitVec 32) _).toInt = _
    after_reads_simp
    exact (congrArg BitVec.toInt (congrFun hk _)).trans (iv_int k)
  pointwise

theorem ks_update (V : Valuation τ sig (Elt Ideal)) (k : Fin 64) (hk : V (Proc.devRef .tc main_v127_7) = fun _ => Scf.iv 0#32 1#32 k) (j : Fin 64) (b : Fin 2) (h : Fin 4) (i : Fin 64) (d : Fin 256) :
    (after bodyA7 V (Proc.devRef .tc main_while0b_v268) (ix5 j b h i d) : EReal) = if j.val = k.val then V (Proc.devRef .tc main_while0b_v261) (ix4 b h i d) else V (Proc.devRef .tc main_v127_12) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyA7 V 5 (Proc.devRef .tc main_v127_7) : S_.Idx → BitVec 32) _).toInt = _
    after_reads_simp
    exact (congrArg BitVec.toInt (congrFun hk _)).trans (iv_int k)
  pointwise

section Block
variable {U : Valuation τ sig (Elt Ideal)} {b : Fin 2} {h : Fin 4} {q k v st dm : ℕ → ℕ → ℝ} {qd kd : ℕ → ℝ} {bd : ℝ}

theorem s_block (hq : ∀ (i : Fin 64) (d : Fin 256), U (Proc.devRef .tc main_while0b_v248) (ix4 b h i d) = ((q i d : ℝ) : EReal))
    (hk : ∀ (i : Fin 64) (d : Fin 256), U (Proc.devRef .tc main_while0b_v249) (ix4 b h i d) = ((k i d : ℝ) : EReal))
    (hdm : ∀ i l : Fin 64, U (Proc.devRef .tc main_v127_5) (ix4 0 h i l) = ((dm i l : ℝ) : EReal)) (i l : Fin 64) :
    (after bodyA3 U (Proc.devRef .tc main_while0b_v253) (ix4 b h i l) : EReal) = (((∑ d ∈ Finset.range 256, q i d * k l d) * dm i l : ℝ) : EReal) := by
  after_reads_simp
  pointwise
  rw [hdm, EReal.coe_mul]
  refine congrArg (· * _) (sum_to _ _ fun d => ?_)
  rw [hq, hk, ← EReal.coe_mul]

theorem ks_block (hk : ∀ (i : Fin 64) (d : Fin 256), U (Proc.devRef .tc main_while0b_v249) (ix4 b h i d) = ((k i d : ℝ) : EReal))
    (hkd : ∀ i : Fin 64, U (Proc.devRef .tc main_v127_4) (ix4 0 h i 0) = ((kd i : ℝ) : EReal)) (i : Fin 64) (d : Fin 256) :
    (after bodyA3 U (Proc.devRef .tc main_while0b_v261) (ix4 b h i d) : EReal) = ((k i d * kd i : ℝ) : EReal) := by
  after_reads_simp
  pointwise
  rw [hk, hkd, ← EReal.coe_mul]

theorem st_block (hk : ∀ (i : Fin 64) (d : Fin 256), U (Proc.devRef .tc main_while0b_v249) (ix4 b h i d) = ((k i d : ℝ) : EReal))
    (hv : ∀ (i : Fin 64) (e : Fin 512), U (Proc.devRef .tc main_while0b_v250) (ix4 b h i e) = ((v i e : ℝ) : EReal))
    (hst : ∀ (d : Fin 256) (e : Fin 512), U (Proc.devRef .tc main_v127_8) (ix4 b h d e) = ((st d e : ℝ) : EReal))
    (hkd : ∀ i : Fin 64, U (Proc.devRef .tc main_v127_4) (ix4 0 h i 0) = ((kd i : ℝ) : EReal))
    (hbd : U (Proc.devRef .tc main_v127_3) (ix4 0 h 0 0) = ((bd : ℝ) : EReal)) (d : Fin 256) (e : Fin 512) :
    (after bodyA3 U (Proc.devRef .tc main_while0b_v263) (ix4 b h d e) : EReal) = ((st d e * bd + ∑ i ∈ Finset.range 64, k i d * kd i * v i e : ℝ) : EReal) := by
  after_reads_simp
  pointwise
  rw [hst, hbd, EReal.coe_add, EReal.coe_mul]
  refine congrArg (_ + ·) (sum_to _ _ fun i => ?_)
  rw [hk, hkd, hv, ← EReal.coe_mul, ← EReal.coe_mul]

theorem o_block (hq : ∀ (i : Fin 64) (d : Fin 256), U (Proc.devRef .tc main_while0b_v248) (ix4 b h i d) = ((q i d : ℝ) : EReal))
    (hk : ∀ (i : Fin 64) (d : Fin 256), U (Proc.devRef .tc main_while0b_v249) (ix4 b h i d) = ((k i d : ℝ) : EReal))
    (hv : ∀ (i : Fin 64) (e : Fin 512), U (Proc.devRef .tc main_while0b_v250) (ix4 b h i e) = ((v i e : ℝ) : EReal))
    (hst : ∀ (d : Fin 256) (e : Fin 512), U (Proc.devRef .tc main_v127_8) (ix4 b h d e) = ((st d e : ℝ) : EReal))
    (hdm : ∀ i l : Fin 64, U (Proc.devRef .tc main_v127_5) (ix4 0 h i l) = ((dm i l : ℝ) : EReal))
    (hqd : ∀ i : Fin 64, U (Proc.devRef .tc main_v127_6) (ix4 0 h i 0) = ((qd i : ℝ) : EReal)) (i : Fin 64) (e : Fin 512) :
    (after bodyA3 U (Proc.devRef .tc main_while0b_v264) (ix4 b h i e) : EReal)
      = ((∑ l ∈ Finset.range 64, (∑ d ∈ Finset.range 256, q i d * k l d) * dm i l * v l e + (∑ d ∈ Finset.range 256, q i d * st d e) * qd i : ℝ) : EReal) := by
  after_reads_simp
  pointwise
  rw [hqd, EReal.coe_add, EReal.coe_mul]
  refine congrArg₂ (· + ·) (sum_to _ _ fun l => ?_) (congrArg (· * _) (sum_to _ _ fun d => ?_))
  · rw [hdm, hv, EReal.coe_mul, EReal.coe_mul]
    refine congrArg (· * _ * _) (sum_to _ _ fun d => ?_)
    rw [hq, hk, ← EReal.coe_mul]
  · rw [hq, hst, ← EReal.coe_mul]
end Block

end Cert.RetGradRefIdeal.Val
end
-- ==== Proof.RetRefFwd.lean ====
/- The reference's forward loop over the blocks: outputs, decayed scores, states and decayed keys of every block. -/
module
public import proofs.«01_k».proof.Proof.RetRefA
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry)

section Sequences
variable (D : Data) (b h : ℕ)

/-- The state before block `k`, the block's scores, and its outputs. -/
def St : ℕ → ℕ → ℕ → ℝ
  | 0, _, _ => 0
  | k + 1, d, e => St k d e * Real.exp (D.lg h * 64) + ∑ i ∈ Finset.range 64, D.K b h (k * 64 + i) d * Real.exp (D.lg h * (63 - i)) * D.V b h (k * 64 + i) e
def Sc (k i l : ℕ) : ℝ := (∑ d ∈ Finset.range 256, D.Q b h (k * 64 + i) d * D.K b h (k * 64 + l) d) * decay (D.lg h) i l
def Ks (k i d : ℕ) : ℝ := D.K b h (k * 64 + i) d * Real.exp (D.lg h * (63 - i))

theorem out_eq {k i : ℕ} (hk : k < 64) (hi : i < 64) (e : ℕ) :
    ∑ l ∈ Finset.range 64, (∑ d ∈ Finset.range 256, D.Q b h (k * 64 + i) d * D.K b h (k * 64 + l) d) * decay (D.lg h) i l * D.V b h (k * 64 + l) e
      + (∑ d ∈ Finset.range 256, D.Q b h (k * 64 + i) d * St D b h k d e) * Real.exp (D.lg h * (i + 1)) = D.O b h (k * 64 + i) e := by
  have F := forward (ι := Fin 256) (D.lg h) 1 64 k i hk (by omega) (fun t d => D.Q b h t d) (fun t d => D.K b h t d) (fun t => D.V b h t e)
    (fun k d => St D b h k d e) (fun d => rfl) (fun k d => by simp only [St, mul_one, Nat.cast_ofNat]; norm_num)
  simp only [mul_one] at F
  rw [Data.O]
  simp only [Finset.sum_range (n := 256)]
  rw [show (4096 : ℕ) = 64 * 64 from rfl, ← F]
  refine congrArg (· + _) (Finset.sum_congr rfl fun l _ => ?_)
  rw [show k * 64 = 64 * k by ring, decay_shift]
end Sequences

/-- What the forward loop holds before trip `k`. -/
structure Fwd (D : Data) (V : Valuation τ sig (Elt Ideal)) (k : ℕ) : Prop where
  q : ∀ (j : Fin 64) (b : Fin 2) (h : Fin 4) (i : Fin 64) (d : Fin 256), (V (Proc.devRef .tc main_v127_0) (ix5 j b h i d) : EReal) = ((D.Q b h (j * 64 + i) d : ℝ) : EReal)
  kk : ∀ (j : Fin 64) (b : Fin 2) (h : Fin 4) (i : Fin 64) (d : Fin 256), (V (Proc.devRef .tc main_v127_1) (ix5 j b h i d) : EReal) = ((D.K b h (j * 64 + i) d : ℝ) : EReal)
  v : ∀ (j : Fin 64) (b : Fin 2) (h : Fin 4) (i : Fin 64) (e : Fin 512), (V (Proc.devRef .tc main_v127_2) (ix5 j b h i e) : EReal) = ((D.V b h (j * 64 + i) e : ℝ) : EReal)
  bd : ∀ h : Fin 4, (V (Proc.devRef .tc main_v127_3) (ix4 0 h 0 0) : EReal) = ((Real.exp (D.lg h * 64) : ℝ) : EReal)
  kd : ∀ (h : Fin 4) (i : Fin 64), (V (Proc.devRef .tc main_v127_4) (ix4 0 h i 0) : EReal) = ((Real.exp (D.lg h * (63 - i)) : ℝ) : EReal)
  dm : ∀ (h : Fin 4) (i l : Fin 64), (V (Proc.devRef .tc main_v127_5) (ix4 0 h i l) : EReal) = ((decay (D.lg h) i l : ℝ) : EReal)
  qd : ∀ (h : Fin 4) (i : Fin 64), (V (Proc.devRef .tc main_v127_6) (ix4 0 h i 0) : EReal) = ((Real.exp (D.lg h * (i + 1)) : ℝ) : EReal)
  ctr : V (Proc.devRef .tc main_v127_7) = fun _ => Scf.iv 0#32 1#32 k
  st : ∀ (b : Fin 2) (h : Fin 4) (d : Fin 256) (e : Fin 512), (V (Proc.devRef .tc main_v127_8) (ix4 b h d e) : EReal) = ((St D b h k d e : ℝ) : EReal)
  o : ∀ (j : Fin 64), j.val < k → ∀ (b : Fin 2) (h : Fin 4) (i : Fin 64) (e : Fin 512), (V (Proc.devRef .tc main_v127_9) (ix5 j b h i e) : EReal) = ((D.O b h (j * 64 + i) e : ℝ) : EReal)
  sc : ∀ (j : Fin 64), j.val < k → ∀ (b : Fin 2) (h : Fin 4) (i l : Fin 64), (V (Proc.devRef .tc main_v127_10) (ix5 j b h i l) : EReal) = ((Sc D b h j i l : ℝ) : EReal)
  ss : ∀ (j : Fin 64), j.val < k → ∀ (b : Fin 2) (h : Fin 4) (d : Fin 256) (e : Fin 512), (V (Proc.devRef .tc main_v127_11) (ix5 j b h d e) : EReal) = ((St D b h j d e : ℝ) : EReal)
  ks : ∀ (j : Fin 64), j.val < k → ∀ (b : Fin 2) (h : Fin 4) (i : Fin 64) (d : Fin 256), (V (Proc.devRef .tc main_v127_12) (ix5 j b h i d) : EReal) = ((Ks D b h j i d : ℝ) : EReal)

/-- A trip up to the reads of its block, and up to its sums. -/
abbrev UA (V : Valuation τ sig (Elt Ideal)) : Valuation τ sig (Elt Ideal) := after bodyA2 (after bodyA1 (after bodyA0 (after condA V)))
abbrev VA (V : Valuation τ sig (Elt Ideal)) : Valuation τ sig (Elt Ideal) := after bodyA3 (UA V)

theorem UA_keep (V : Valuation τ sig (Elt Ideal)) {r : Ref sig .tc} (h0 : r ∉ condA_W) (h1 : r ∉ bodyA0_W) (h2 : r ∉ bodyA1_W) (h3 : r ∉ bodyA2_W) : UA V (Proc.devRef .tc r) = V (Proc.devRef .tc r) :=
  (((after_of_writes_sub bodyA2 _ bodyA2_writes h3).trans (after_of_writes_sub bodyA1 _ bodyA1_writes h2)).trans (after_of_writes_sub bodyA0 _ bodyA0_writes h1)).trans (after_of_writes_sub condA _ condA_writes h0)

theorem VA_keep (V : Valuation τ sig (Elt Ideal)) {r : Ref sig .tc} (h0 : r ∉ condA_W) (h1 : r ∉ bodyA0_W) (h2 : r ∉ bodyA1_W) (h3 : r ∉ bodyA2_W) (h4 : r ∉ bodyA3_W) : VA V (Proc.devRef .tc r) = V (Proc.devRef .tc r) :=
  (after_of_writes_sub bodyA3 _ bodyA3_writes h4).trans (UA_keep V h0 h1 h2 h3)

theorem trip_keep (V : Valuation τ sig (Elt Ideal)) {r : Ref sig .tc} (h0 : r ∉ condA_W) (h1 : r ∉ bodyA0_W) (h2 : r ∉ bodyA1_W) (h3 : r ∉ bodyA2_W) (h4 : r ∉ bodyA3_W)
    (h5 : r ∉ bodyA4_W) (h6 : r ∉ bodyA5_W) (h7 : r ∉ bodyA6_W) (h8 : r ∉ bodyA7_W) (h9 : r ∉ bodyA8_W) (h10 : r ∉ bodyA9_W) :
    afterL bodyAI (after condA V) (Proc.devRef .tc r) = V (Proc.devRef .tc r) :=
  ((((((after_of_writes_sub bodyA9 _ bodyA9_writes h10).trans (after_of_writes_sub bodyA8 _ bodyA8_writes h9)).trans (after_of_writes_sub bodyA7 _ bodyA7_writes h8)).trans
    (after_of_writes_sub bodyA6 _ bodyA6_writes h7)).trans (after_of_writes_sub bodyA5 _ bodyA5_writes h6)).trans (after_of_writes_sub bodyA4 _ bodyA4_writes h5)).trans (VA_keep V h0 h1 h2 h3 h4)

theorem st_copy (V : Valuation τ sig (Elt Ideal)) : afterL bodyAI (after condA V) (Proc.devRef .tc main_v127_8) = VA V (Proc.devRef .tc main_while0b_v263) := by
  have h (X : Valuation τ sig (Elt Ideal)) : after bodyA9 X (Proc.devRef .tc main_v127_8) = X (Proc.devRef .tc main_while0b_v263) := by
    after_reads_simp
    rfl
  exact (h _).trans (((((after_of_writes_sub bodyA8 _ bodyA8_writes (by decide)).trans (after_of_writes_sub bodyA7 _ bodyA7_writes (by decide))).trans (after_of_writes_sub bodyA6 _ bodyA6_writes (by decide))).trans (after_of_writes_sub bodyA5 _ bodyA5_writes (by decide))).trans (after_of_writes_sub bodyA4 _ bodyA4_writes (by decide)))

theorem o_copy (V : Valuation τ sig (Elt Ideal)) : afterL bodyAI (after condA V) (Proc.devRef .tc main_v127_9) = after bodyA4 (VA V) (Proc.devRef .tc main_while0b_v265) := by
  have h (X : Valuation τ sig (Elt Ideal)) : after bodyA9 X (Proc.devRef .tc main_v127_9) = X (Proc.devRef .tc main_while0b_v265) := by
    after_reads_simp
    rfl
  exact (h _).trans ((((after_of_writes_sub bodyA8 _ bodyA8_writes (by decide)).trans (after_of_writes_sub bodyA7 _ bodyA7_writes (by decide))).trans (after_of_writes_sub bodyA6 _ bodyA6_writes (by decide))).trans (after_of_writes_sub bodyA5 _ bodyA5_writes (by decide)))

theorem s_copy (V : Valuation τ sig (Elt Ideal)) : afterL bodyAI (after condA V) (Proc.devRef .tc main_v127_10) = after bodyA5 (after bodyA4 (VA V)) (Proc.devRef .tc main_while0b_v266) := by
  have h (X : Valuation τ sig (Elt Ideal)) : after bodyA9 X (Proc.devRef .tc main_v127_10) = X (Proc.devRef .tc main_while0b_v266) := by
    after_reads_simp
    rfl
  exact (h _).trans (((after_of_writes_sub bodyA8 _ bodyA8_writes (by decide)).trans (after_of_writes_sub bodyA7 _ bodyA7_writes (by decide))).trans (after_of_writes_sub bodyA6 _ bodyA6_writes (by decide)))

theorem ss_copy (V : Valuation τ sig (Elt Ideal)) : afterL bodyAI (after condA V) (Proc.devRef .tc main_v127_11) = after bodyA6 (after bodyA5 (after bodyA4 (VA V))) (Proc.devRef .tc main_while0b_v267) := by
  have h (X : Valuation τ sig (Elt Ideal)) : after bodyA9 X (Proc.devRef .tc main_v127_11) = X (Proc.devRef .tc main_while0b_v267) := by
    after_reads_simp
    rfl
  exact (h _).trans ((after_of_writes_sub bodyA8 _ bodyA8_writes (by decide)).trans (after_of_writes_sub bodyA7 _ bodyA7_writes (by decide)))

theorem ks_copy (V : Valuation τ sig (Elt Ideal)) : afterL bodyAI (after condA V) (Proc.devRef .tc main_v127_12) = after bodyA7 (after bodyA6 (after bodyA5 (after bodyA4 (VA V)))) (Proc.devRef .tc main_while0b_v268) := by
  have h (X : Valuation τ sig (Elt Ideal)) : after bodyA9 X (Proc.devRef .tc main_v127_12) = X (Proc.devRef .tc main_while0b_v268) := by
    after_reads_simp
    rfl
  exact (h _).trans (after_of_writes_sub bodyA8 _ bodyA8_writes (by decide))

section Step
variable {D : Data} {V : Valuation τ sig (Elt Ideal)} {k : Fin 64} (F : Fwd D V k)
include F

theorem ctr_cond : after condA V (Proc.devRef .tc main_v127_7) = fun _ => Scf.iv 0#32 1#32 k := (after_of_writes_sub condA _ condA_writes (by decide)).trans F.ctr

theorem q_read (b : Fin 2) (h : Fin 4) (i : Fin 64) (d : Fin 256) : UA V (Proc.devRef .tc main_while0b_v248) (ix4 b h i d) = ((D.Q b h (k * 64 + i) d : ℝ) : EReal) :=
  (congrFun ((after_of_writes_sub bodyA2 _ bodyA2_writes (by decide)).trans (after_of_writes_sub bodyA1 _ bodyA1_writes (by decide))) _).trans
    ((q_slice (after condA V) k (ctr_cond F) b h i d).trans ((congrFun (after_of_writes_sub condA _ condA_writes (by decide)) _).trans (F.q k b h i d)))

theorem k_read (b : Fin 2) (h : Fin 4) (i : Fin 64) (d : Fin 256) : UA V (Proc.devRef .tc main_while0b_v249) (ix4 b h i d) = ((D.K b h (k * 64 + i) d : ℝ) : EReal) :=
  (congrFun (after_of_writes_sub bodyA2 _ bodyA2_writes (by decide)) _).trans
    ((k_slice (after bodyA0 (after condA V)) k ((after_of_writes_sub bodyA0 _ bodyA0_writes (by decide)).trans (ctr_cond F)) b h i d).trans
      ((congrFun ((after_of_writes_sub bodyA0 _ bodyA0_writes (by decide)).trans (after_of_writes_sub condA _ condA_writes (by decide))) _).trans (F.kk k b h i d)))

theorem v_read (b : Fin 2) (h : Fin 4) (i : Fin 64) (e : Fin 512) : UA V (Proc.devRef .tc main_while0b_v250) (ix4 b h i e) = ((D.V b h (k * 64 + i) e : ℝ) : EReal) :=
  (v_slice (after bodyA1 (after bodyA0 (after condA V))) k (((after_of_writes_sub bodyA1 _ bodyA1_writes (by decide)).trans (after_of_writes_sub bodyA0 _ bodyA0_writes (by decide))).trans (ctr_cond F)) b h i e).trans
    ((congrFun (((after_of_writes_sub bodyA1 _ bodyA1_writes (by decide)).trans (after_of_writes_sub bodyA0 _ bodyA0_writes (by decide))).trans (after_of_writes_sub condA _ condA_writes (by decide))) _).trans (F.v k b h i e))

theorem s_sum (b : Fin 2) (h : Fin 4) (i l : Fin 64) : VA V (Proc.devRef .tc main_while0b_v253) (ix4 b h i l) = ((Sc D b h k i l : ℝ) : EReal) :=
  s_block (q := fun i d => D.Q b h (k * 64 + i) d) (k := fun i d => D.K b h (k * 64 + i) d) (dm := fun i l => decay (D.lg h) i l) (q_read F b h) (k_read F b h)
    (fun i l => (congrFun (UA_keep V (by decide) (by decide) (by decide) (by decide)) _).trans (F.dm h i l)) i l

theorem ks_sum (b : Fin 2) (h : Fin 4) (i : Fin 64) (d : Fin 256) : VA V (Proc.devRef .tc main_while0b_v261) (ix4 b h i d) = ((Ks D b h k i d : ℝ) : EReal) :=
  ks_block (k := fun i d => D.K b h (k * 64 + i) d) (kd := fun i => Real.exp (D.lg h * (63 - i))) (k_read F b h) (fun i => (congrFun (UA_keep V (by decide) (by decide) (by decide) (by decide)) _).trans (F.kd h i)) i d

theorem st_sum (b : Fin 2) (h : Fin 4) (d : Fin 256) (e : Fin 512) : VA V (Proc.devRef .tc main_while0b_v263) (ix4 b h d e) = ((St D b h (k + 1) d e : ℝ) : EReal) :=
  st_block (k := fun i d => D.K b h (k * 64 + i) d) (v := fun i e => D.V b h (k * 64 + i) e) (st := fun d e => St D b h k d e) (kd := fun i => Real.exp (D.lg h * (63 - i))) (bd := Real.exp (D.lg h * 64)) (k_read F b h) (v_read F b h)
    (fun d e => (congrFun (UA_keep V (by decide) (by decide) (by decide) (by decide)) _).trans (F.st b h d e))
    (fun i => (congrFun (UA_keep V (by decide) (by decide) (by decide) (by decide)) _).trans (F.kd h i))
    ((congrFun (UA_keep V (by decide) (by decide) (by decide) (by decide)) _).trans (F.bd h)) d e

theorem o_sum (b : Fin 2) (h : Fin 4) (i : Fin 64) (e : Fin 512) : VA V (Proc.devRef .tc main_while0b_v264) (ix4 b h i e) = ((D.O b h (k * 64 + i) e : ℝ) : EReal) := by
  rw [← out_eq D b h k.isLt i.isLt e]
  exact o_block (q := fun i d => D.Q b h (k * 64 + i) d) (k := fun i d => D.K b h (k * 64 + i) d) (v := fun i e => D.V b h (k * 64 + i) e) (st := fun d e => St D b h k d e) (dm := fun i l => decay (D.lg h) i l) (qd := fun i => Real.exp (D.lg h * (i + 1))) (q_read F b h) (k_read F b h) (v_read F b h)
    (fun d e => (congrFun (UA_keep V (by decide) (by decide) (by decide) (by decide)) _).trans (F.st b h d e))
    (fun i l => (congrFun (UA_keep V (by decide) (by decide) (by decide) (by decide)) _).trans (F.dm h i l))
    (fun i => (congrFun (UA_keep V (by decide) (by decide) (by decide) (by decide)) _).trans (F.qd h i)) i e

theorem ctr_VA : VA V (Proc.devRef .tc main_v127_7) = fun _ => Scf.iv 0#32 1#32 k := (VA_keep V (by decide) (by decide) (by decide) (by decide) (by decide)).trans F.ctr

theorem o_step (j : Fin 64) (hj : j.val < k.val + 1) (b : Fin 2) (h : Fin 4) (i : Fin 64) (e : Fin 512) : (afterL bodyAI (after condA V) (Proc.devRef .tc main_v127_9) (ix5 j b h i e) : EReal) = (((D.O b h (j * 64 + i) e) : ℝ) : EReal) := by
  refine (congrFun (o_copy V) _).trans ((o_update (VA V) k (ctr_VA F) j b h i e).trans ?_)
  by_cases hjk : j.val = k.val
  · obtain rfl := Fin.ext hjk
    rw [if_pos rfl]
    exact o_sum F b h i e
  · rw [if_neg hjk]
    exact ((congrFun (VA_keep V (by decide) (by decide) (by decide) (by decide) (by decide)) _).trans (F.o j (by omega) b h i e))

theorem sc_step (j : Fin 64) (hj : j.val < k.val + 1) (b : Fin 2) (h : Fin 4) (i l : Fin 64) : (afterL bodyAI (after condA V) (Proc.devRef .tc main_v127_10) (ix5 j b h i l) : EReal) = (((Sc D b h j i l) : ℝ) : EReal) := by
  refine (congrFun (s_copy V) _).trans ((s_update (after bodyA4 (VA V)) k ((after_of_writes_sub bodyA4 _ bodyA4_writes (by decide)).trans (ctr_VA F)) j b h i l).trans ?_)
  by_cases hjk : j.val = k.val
  · obtain rfl := Fin.ext hjk
    rw [if_pos rfl]
    exact (congrFun (after_of_writes_sub bodyA4 _ bodyA4_writes (by decide)) _).trans (s_sum F b h i l)
  · rw [if_neg hjk]
    exact (congrFun (after_of_writes_sub bodyA4 _ bodyA4_writes (by decide)) _).trans ((congrFun (VA_keep V (by decide) (by decide) (by decide) (by decide) (by decide)) _).trans (F.sc j (by omega) b h i l))

theorem ss_step (j : Fin 64) (hj : j.val < k.val + 1) (b : Fin 2) (h : Fin 4) (d : Fin 256) (e : Fin 512) : (afterL bodyAI (after condA V) (Proc.devRef .tc main_v127_11) (ix5 j b h d e) : EReal) = (((St D b h j d e) : ℝ) : EReal) := by
  refine (congrFun (ss_copy V) _).trans ((st_update (after bodyA5 (after bodyA4 (VA V))) k (((after_of_writes_sub bodyA5 _ bodyA5_writes (by decide)).trans (after_of_writes_sub bodyA4 _ bodyA4_writes (by decide))).trans (ctr_VA F)) j b h d e).trans ?_)
  by_cases hjk : j.val = k.val
  · obtain rfl := Fin.ext hjk
    rw [if_pos rfl]
    exact (congrFun ((after_of_writes_sub bodyA5 _ bodyA5_writes (by decide)).trans (after_of_writes_sub bodyA4 _ bodyA4_writes (by decide))) _).trans ((congrFun (VA_keep V (by decide) (by decide) (by decide) (by decide) (by decide)) _).trans (F.st b h d e))
  · rw [if_neg hjk]
    exact (congrFun ((after_of_writes_sub bodyA5 _ bodyA5_writes (by decide)).trans (after_of_writes_sub bodyA4 _ bodyA4_writes (by decide))) _).trans ((congrFun (VA_keep V (by decide) (by decide) (by decide) (by decide) (by decide)) _).trans (F.ss j (by omega) b h d e))

theorem ks_step (j : Fin 64) (hj : j.val < k.val + 1) (b : Fin 2) (h : Fin 4) (i : Fin 64) (d : Fin 256) : (afterL bodyAI (after condA V) (Proc.devRef .tc main_v127_12) (ix5 j b h i d) : EReal) = (((Ks D b h j i d) : ℝ) : EReal) := by
  refine (congrFun (ks_copy V) _).trans ((ks_update (after bodyA6 (after bodyA5 (after bodyA4 (VA V)))) k ((((after_of_writes_sub bodyA6 _ bodyA6_writes (by decide)).trans (after_of_writes_sub bodyA5 _ bodyA5_writes (by decide))).trans (after_of_writes_sub bodyA4 _ bodyA4_writes (by decide))).trans (ctr_VA F)) j b h i d).trans ?_)
  by_cases hjk : j.val = k.val
  · obtain rfl := Fin.ext hjk
    rw [if_pos rfl]
    exact (congrFun (((after_of_writes_sub bodyA6 _ bodyA6_writes (by decide)).trans (after_of_writes_sub bodyA5 _ bodyA5_writes (by decide))).trans (after_of_writes_sub bodyA4 _ bodyA4_writes (by decide))) _).trans (ks_sum F b h i d)
  · rw [if_neg hjk]
    exact (congrFun (((after_of_writes_sub bodyA6 _ bodyA6_writes (by decide)).trans (after_of_writes_sub bodyA5 _ bodyA5_writes (by decide))).trans (after_of_writes_sub bodyA4 _ bodyA4_writes (by decide))) _).trans ((congrFun (VA_keep V (by decide) (by decide) (by decide) (by decide) (by decide)) _).trans (F.ks j (by omega) b h i d))

theorem Fwd.step : Fwd D (afterL bodyAI (after condA V)) (k + 1) where
  q j b h i d := (congrFun (trip_keep V (by decide) (by decide) (by decide) (by decide) (by decide) (by decide) (by decide) (by decide) (by decide) (by decide) (by decide)) _).trans (F.q j b h i d)
  kk j b h i d := (congrFun (trip_keep V (by decide) (by decide) (by decide) (by decide) (by decide) (by decide) (by decide) (by decide) (by decide) (by decide) (by decide)) _).trans (F.kk j b h i d)
  v j b h i e := (congrFun (trip_keep V (by decide) (by decide) (by decide) (by decide) (by decide) (by decide) (by decide) (by decide) (by decide) (by decide) (by decide)) _).trans (F.v j b h i e)
  bd h := (congrFun (trip_keep V (by decide) (by decide) (by decide) (by decide) (by decide) (by decide) (by decide) (by decide) (by decide) (by decide) (by decide)) _).trans (F.bd h)
  kd h i := (congrFun (trip_keep V (by decide) (by decide) (by decide) (by decide) (by decide) (by decide) (by decide) (by decide) (by decide) (by decide) (by decide)) _).trans (F.kd h i)
  dm h i l := (congrFun (trip_keep V (by decide) (by decide) (by decide) (by decide) (by decide) (by decide) (by decide) (by decide) (by decide) (by decide) (by decide)) _).trans (F.dm h i l)
  qd h i := (congrFun (trip_keep V (by decide) (by decide) (by decide) (by decide) (by decide) (by decide) (by decide) (by decide) (by decide) (by decide) (by decide)) _).trans (F.qd h i)
  ctr := by rw [ctrA_step, ctrA_cond, F.ctr, Scf.iv_succ]; rfl
  st b h d e := (congrFun (st_copy V) _).trans (st_sum F b h d e)
  o := o_step F
  sc := sc_step F
  ss := ss_step F
  ks := ks_step F
end Step

theorem Fwd.start (W : Valuation τ sig (Elt Ideal)) (H : Rl W) (hc : pre W (Proc.devRef .tc main_v127_7) = fun _ => (0#32 : BitVec 32)) : Fwd (D W) (pre W) 0 where
  q := q_at W H
  kk := k_at W H
  v := v_at W H
  bd := bd_at W
  kd := kd_at W
  dm := dm_at W
  qd := qd_at W
  ctr := by rw [hc, Scf.iv_zero]
  st := st_at W
  o j hj := absurd hj (Nat.not_lt_zero _)
  sc j hj := absurd hj (Nat.not_lt_zero _)
  ss j hj := absurd hj (Nat.not_lt_zero _)
  ks j hj := absurd hj (Nat.not_lt_zero _)

section Loop
variable (m : (ℓ : Loc nD τ sig) → Buf (Elt Ideal) ℓ) (c : Dev nD)

theorem Fwd.at (H : Rl (W0 m c)) : ∀ k, k ≤ 64 → Fwd (D (W0 m c)) (WA m k c) k
  | 0, _ => Fwd.start (W0 m c) H (ctrA_entry m c)
  | k + 1, hk => Fwd.step (k := ⟨k, hk⟩) (Fwd.at H k (by omega))
end Loop

end Cert.RetGradRefIdeal.Val
end
-- ==== Proof.RetRefMid.lean ====
/- The reference's norm and gate gradient between its two loops, entry by entry. -/
module
public import proofs.«01_k».proof.Proof.RetRefFwd
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry)

theorem reduce_rows {A B N : ℕ} (h : (⟨3, ![A, B, N]⟩ : Shape).ReducesTo [0, 1] ⟨1, ![N]⟩) (v : (⟨3, ![A, B, N]⟩ : Shape).Idx → EReal) (z : EReal) (n : Fin N) :
    Ideal.hostReduceAdd h v z (ix1 n) = z + ∑ x : Fin A, ∑ y : Fin B, v (ix3 x y n) := by
  refine congrArg (z + ·) ((Finset.sum_filter_eq_sum_of_fiber _ (fun k : Fin A × Fin B => ix3 k.1 k.2 n)
    (fun _ _ e => Prod.ext (congrFun e 0) (congrFun e 1)) (fun i => ?_) v).trans (by simp only [Fintype.sum_prod_type]))
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext a
    apply Fin.ext
    match a with
    | ⟨0, _⟩ => rfl

theorem word_two : Ideal.ofBits .f32 0x40000000#32 = ((2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem sum_cen (o : ℕ → ℝ) : ∑ e ∈ Finset.range 512, cen o e = 0 := by
  simp only [cen, Finset.sum_sub_distrib, Finset.sum_const, Finset.card_range, nsmul_eq_mul, mean]
  ring

/-- The derivative of the norm as it is summed: through the centred values, through the variance, and through the mean. -/
theorem row_eq (o y g gn : ℕ → ℝ) (e : ℕ) :
    dxh y g gn e * rst o + (∑ x ∈ Finset.range 512, cen o x * dxh y g gn x) * (-(1 / 2) * (rst o * (1 / (var o + eps)))) * (1 / 512) * (2 * cen o e)
      + (∑ x ∈ Finset.range 512, -(dxh y g gn x * rst o)
        + ∑ x ∈ Finset.range 512, -((∑ x ∈ Finset.range 512, cen o x * dxh y g gn x) * (-(1 / 2) * (rst o * (1 / (var o + eps)))) * (1 / 512) * (2 * cen o x))) * (1 / 512)
      = rowO o y g gn e := by
  have hv : 1 / (var o + eps) = rst o * rst o := by
    rw [rst, ← mul_inv, Real.mul_self_sqrt (var_eps_pos o).le, one_div]
  rw [hv]
  simp only [Finset.sum_neg_distrib, ← Finset.mul_sum, ← Finset.sum_mul, sum_cen]
  have hx : mean (fun e => dxh y g gn e * xh o e) = (∑ x ∈ Finset.range 512, cen o x * dxh y g gn x) * rst o * (1 / 512) := by
    simp only [mean, Finset.sum_mul, xh]
    refine Finset.sum_congr rfl fun x _ => ?_
    ring
  rw [rowO, hx]
  simp only [mean, xh]
  ring

theorem sgm_word (x : ℝ) : Ideal.div 1 (1 + Ideal.exp (-(x : EReal))) = ((sgm x : ℝ) : EReal) := by
  rw [← EReal.coe_neg, Ideal.exp_coe, ← EReal.coe_one, ← EReal.coe_add, Ideal.div_coe (by positivity), ← EReal.coe_mul, sgm, one_mul, one_div]

section Mid
variable {D : Data} (V : Valuation τ sig (Elt Ideal))

section First
variable (ho : ∀ (j : Fin 64) (b : Fin 2) (h : Fin 4) (i : Fin 64) (e : Fin 512), (V (Proc.devRef .tc main_v127_9) (ix5 j b h i e) : EReal) = ((D.O b h (j * 64 + i) e : ℝ) : EReal))
include ho

theorem o_at (b : Fin 2) (s : Fin 4096) (h : Fin 4) (e : Fin 512) (hj : s.val / 64 < 64) (hi : s.val % 64 < 64) :
    (V (Proc.devRef .tc main_v127_9) (ix5 ⟨s / 64, hj⟩ b h ⟨s % 64, hi⟩ e) : EReal) = ((D.O b h s e : ℝ) : EReal) :=
  (ho _ b h _ e).trans (by rw [show s.val / 64 * 64 + s.val % 64 = s.val by omega])

theorem cen_at (b : Fin 2) (s : Fin 4096) (h : Fin 4) (e : Fin 512) : (after mid0 V (Proc.devRef .tc main_v144) (ix4 b s h e) : EReal) = ((cen (D.O b h s) e : ℝ) : EReal) := by
  after_reads_simp
  pointwise
  simp only [o_at V ho]
  rw [sum_to (fun x : Fin 512 => ((D.O b h s x : ℝ) : EReal)) (D.O b h s) fun _ => rfl, Cert.RetGradIdeal.Head.word_512, ← EReal.coe_sub]
  rfl

theorem cen2_at (b : Fin 2) (s : Fin 4096) (h : Fin 4) (e : Fin 512) : (after mid0 V (Proc.devRef .tc main_v138) (ix4 b s h e) : EReal) = ((2 * cen (D.O b h s) e : ℝ) : EReal) := by
  after_reads_simp
  pointwise
  simp only [o_at V ho]
  rw [sum_to (fun x : Fin 512 => ((D.O b h s x : ℝ) : EReal)) (D.O b h s) fun _ => rfl, Cert.RetGradIdeal.Head.word_512, word_two, ← EReal.coe_sub, ← EReal.coe_mul]
  rfl

theorem var_at (b : Fin 2) (s : Fin 4096) (h : Fin 4) : (after mid0 V (Proc.devRef .tc main_v142) (ix4 b s h 0) : EReal) = ((var (D.O b h s) : ℝ) : EReal) := by
  after_reads_simp
  pointwise
  simp only [o_at V ho]
  rw [sum_to (fun x : Fin 512 => ((D.O b h s x : ℝ) : EReal)) (D.O b h s) fun _ => rfl, Cert.RetGradIdeal.Head.word_512]
  simp only [← EReal.coe_sub, ← EReal.coe_mul]
  rw [sum_to _ (fun x => (D.O b h s x - (∑ l ∈ Finset.range 512, D.O b h s l) * (1 / 512)) * (D.O b h s x - (∑ l ∈ Finset.range 512, D.O b h s l) * (1 / 512))) fun _ => rfl, Cert.RetGradIdeal.Head.word_512]
  rfl
end First

theorem eps_at : (after mid0 V (Proc.devRef .tc main_cst_19) ix0 : EReal) = ((eps : ℝ) : EReal) := by
  after_reads_simp
  pointwise
  exact Cert.RetGradIdeal.Head.word_guard

section Second
variable (hv : ∀ (b : Fin 2) (s : Fin 4096) (h : Fin 4), (V (Proc.devRef .tc main_v142) (ix4 b s h 0) : EReal) = ((var (D.O b h s) : ℝ) : EReal))
  (hc : ∀ (b : Fin 2) (s : Fin 4096) (h : Fin 4) (e : Fin 512), (V (Proc.devRef .tc main_v144) (ix4 b s h e) : EReal) = ((cen (D.O b h s) e : ℝ) : EReal))
  (he : (V (Proc.devRef .tc main_cst_19) ix0 : EReal) = ((eps : ℝ) : EReal))
  (hg : ∀ n : Fin 2048, (V (Proc.devRef .tc main_arg1) (ix1 n) : EReal) = ((D.gn n : ℝ) : EReal))

include hv he in
theorem r_at (b : Fin 2) (s : Fin 4096) (h : Fin 4) : (after mid1 V (Proc.devRef .tc main_v147) (ix4 b s h 0) : EReal) = ((rst (D.O b h s) : ℝ) : EReal) := by
  after_reads_simp
  pointwise
  rw [hv, he, ← EReal.coe_add, Cert.RetGradIdeal.Head.rsqrt_row]

include hv he in
theorem hr_at (b : Fin 2) (s : Fin 4096) (h : Fin 4) :
    (after mid1 V (Proc.devRef .tc main_v150) (ix4 b s h 0) : EReal) = ((-(1 / 2) * (rst (D.O b h s) * (1 / (var (D.O b h s) + eps))) : ℝ) : EReal) := by
  after_reads_simp
  pointwise
  rw [hv, he, ← EReal.coe_add, Cert.RetGradIdeal.Head.rsqrt_row, Ideal.div_coe (var_eps_pos _).ne', word_neg_half, ← EReal.coe_mul, ← EReal.coe_mul]

include hv hc he in
theorem xh_at (b : Fin 2) (s : Fin 4096) (n : Fin 2048) : (after mid1 V (Proc.devRef .tc main_v153) (ix3 b s n) : EReal) = ((xh (D.O b (n / 512) s) (n % 512) : ℝ) : EReal) := by
  after_reads_simp
  pointwise
  rw [hv, hc, he, ← EReal.coe_add, Cert.RetGradIdeal.Head.rsqrt_row, ← EReal.coe_mul]
  rfl

include hv hc he hg in
theorem xg_at (b : Fin 2) (s : Fin 4096) (n : Fin 2048) : (after mid1 V (Proc.devRef .tc main_v156) (ix3 b s n) : EReal) = ((xh (D.O b (n / 512) s) (n % 512) * D.gn n : ℝ) : EReal) := by
  after_reads_simp
  pointwise
  rw [hv, hc, he, hg, ← EReal.coe_add, Cert.RetGradIdeal.Head.rsqrt_row, ← EReal.coe_mul, ← EReal.coe_mul]
  rfl

include hg in
theorem g1_at (n : Fin 2048) : (after mid1 V (Proc.devRef .tc main_v154) (ix3 0 0 n) : EReal) = ((D.gn n : ℝ) : EReal) := by
  after_reads_simp
  pointwise
  exact hg n
end Second

section Gate
variable {g : ℕ → ℕ → ℕ → ℝ} (hg : ∀ (b : Fin 2) (s : Fin 4096) (n : Fin 2048), (V (Proc.devRef .tc main_v3) (ix3 b s n) : EReal) = ((g b s n : ℝ) : EReal))
include hg

theorem sgm_at (b : Fin 2) (s : Fin 4096) (n : Fin 2048) : (after mid2 V (Proc.devRef .tc main_v157_2) (ix3 b s n) : EReal) = ((sgm (g b s n) : ℝ) : EReal) := by
  after_reads_simp
  simp -implicitDefEqProofs only [TRef.toBuf, TRef.ofBuf, cast_cast, cast_eq]
  pointwise
  rw [hg, sgm_word]

theorem slope_at (b : Fin 2) (s : Fin 4096) (n : Fin 2048) : (after mid2 V (Proc.devRef .tc main_v157_1) (ix3 b s n) : EReal) = ((sgm (g b s n) * (1 - sgm (g b s n)) : ℝ) : EReal) := by
  after_reads_simp
  simp -implicitDefEqProofs only [TRef.toBuf, TRef.ofBuf, cast_cast, cast_eq]
  pointwise
  rw [hg, sgm_word, ← EReal.coe_one, ← EReal.coe_sub, ← EReal.coe_mul]

theorem silu_at (b : Fin 2) (s : Fin 4096) (n : Fin 2048) : (after mid2 V (Proc.devRef .tc main_v157_0) (ix3 b s n) : EReal) = ((g b s n * sgm (g b s n) : ℝ) : EReal) := by
  after_reads_simp
  simp -implicitDefEqProofs only [TRef.toBuf, TRef.ofBuf, cast_cast, cast_eq]
  pointwise
  rw [hg, sgm_word, ← EReal.coe_mul]
end Gate

theorem gy_at {x y : ℝ} {b : Fin 2} {s : Fin 4096} {n : Fin 2048} (hx : (V (Proc.devRef .tc main_v157_0) (ix3 b s n) : EReal) = (x : EReal)) (hy : (V (Proc.devRef .tc main_arg2) (ix3 b s n) : EReal) = (y : EReal)) :
    (after mid3 V (Proc.devRef .tc main_v160) (ix3 b s n) : EReal) = ((x * y : ℝ) : EReal) := by
  after_reads_simp
  pointwise
  rw [hx, hy, ← EReal.coe_mul]

theorem yx_at {x y : ℝ} {b : Fin 2} {s : Fin 4096} {n : Fin 2048} (hx : (V (Proc.devRef .tc main_v156) (ix3 b s n) : EReal) = (x : EReal)) (hy : (V (Proc.devRef .tc main_arg2) (ix3 b s n) : EReal) = (y : EReal)) :
    (after mid3 V (Proc.devRef .tc main_v161) (ix3 b s n) : EReal) = ((y * x : ℝ) : EReal) := by
  after_reads_simp
  pointwise
  rw [hx, hy, ← EReal.coe_mul]

theorem dg_at {x g s' s'' : ℝ} {b : Fin 2} {s : Fin 4096} {n : Fin 2048} (hx : (V (Proc.devRef .tc main_v161) (ix3 b s n) : EReal) = (x : EReal)) (hg : (V (Proc.devRef .tc main_v3) (ix3 b s n) : EReal) = (g : EReal))
    (h2 : (V (Proc.devRef .tc main_v157_2) (ix3 b s n) : EReal) = (s' : EReal)) (h1 : (V (Proc.devRef .tc main_v157_1) (ix3 b s n) : EReal) = (s'' : EReal)) :
    (after mid4 V (Proc.devRef .tc main_v162) (ix3 b s n) : EReal) = ((x * s' + g * x * s'' : ℝ) : EReal) := by
  after_reads_simp
  simp -implicitDefEqProofs only [TRef.toBuf, TRef.ofBuf, cast_cast, cast_eq]
  pointwise
  rw [hx, hg, h1, h2, ← EReal.coe_mul, ← EReal.coe_mul, ← EReal.coe_mul, ← EReal.coe_add]

theorem dgn_at {x y : ℕ → ℕ → ℝ} {n : Fin 2048} (hx : ∀ (b : Fin 2) (s : Fin 4096), (V (Proc.devRef .tc main_v153) (ix3 b s n) : EReal) = ((x b s : ℝ) : EReal))
    (hy : ∀ (b : Fin 2) (s : Fin 4096), (V (Proc.devRef .tc main_v160) (ix3 b s n) : EReal) = ((y b s : ℝ) : EReal)) :
    (after mid6 (after mid5 V) (Proc.devRef .tc main_v168) (ix1 n) : EReal) = ((∑ b ∈ Finset.range 2, ∑ s ∈ Finset.range 4096, x b s * y b s : ℝ) : EReal) := by
  after_reads_simp
  pointwise
  rw [reduce_rows, zero_add]
  refine Eq.trans (b := ∑ z : Fin 1, ∑ z' : Fin 1, ((∑ b ∈ Finset.range 2, ∑ s ∈ Finset.range 4096, x b s * y b s : ℝ) : EReal)) (Finset.sum_congr rfl fun z _ => Finset.sum_congr rfl fun z' _ => ?_) ?_
  · refine (reduce_rows _ _ _ n).trans ((zero_add _).trans ?_)
    refine sum_to _ (fun b => ∑ s ∈ Finset.range 4096, x b s * y b s) fun b => sum_to _ (fun s => x b s * y b s) fun s => ?_
    exact (congrArg₂ (fun p q : EReal => p * q) (hx b s) (hy b s)).trans (EReal.coe_mul _ _).symm
  · simp only [Finset.univ_unique, Finset.sum_singleton]

theorem do_at {o y g gn : ℕ → ℝ} {b : Fin 2} {s : Fin 4096} {h : Fin 4}
    (h160 : ∀ (e : Fin 512) (he : h.val * 512 + e.val < 2048), (V (Proc.devRef .tc main_v160) (ix3 b s ⟨h * 512 + e, he⟩) : EReal) = ((g e * sgm (g e) * y e : ℝ) : EReal))
    (h154 : ∀ (e : Fin 512) (he : h.val * 512 + e.val < 2048), (V (Proc.devRef .tc main_v154) (ix3 0 0 ⟨h * 512 + e, he⟩) : EReal) = ((gn e : ℝ) : EReal))
    (h147 : (V (Proc.devRef .tc main_v147) (ix4 b s h 0) : EReal) = ((rst o : ℝ) : EReal))
    (h150 : (V (Proc.devRef .tc main_v150) (ix4 b s h 0) : EReal) = ((-(1 / 2) * (rst o * (1 / (var o + eps))) : ℝ) : EReal))
    (h144 : ∀ e : Fin 512, (V (Proc.devRef .tc main_v144) (ix4 b s h e) : EReal) = ((cen o e : ℝ) : EReal))
    (h138 : ∀ e : Fin 512, (V (Proc.devRef .tc main_v138) (ix4 b s h e) : EReal) = ((2 * cen o e : ℝ) : EReal)) (e : Fin 512) :
    (after mid7 (after mid6 (after mid5 V)) (Proc.devRef .tc main_v193) (ix4 b s h e) : EReal) = ((rowO o y g gn e : ℝ) : EReal) := by
  after_reads_simp
  pointwise
  have h0 : ∀ z : Fin 1, z = 0 := fun z => Subsingleton.elim _ _
  have hd : ∀ x : ℕ, g x * sgm (g x) * y x * gn x = dxh y g gn x := fun x => by rw [dxh]; ring
  simp only [h0, h160, h154, h147, h150, h144, h138, ← EReal.coe_mul, hd]
  rw [sum_to _ (fun x => cen o x * dxh y g gn x) fun _ => rfl]
  simp only [← EReal.coe_mul, Cert.RetGradIdeal.Head.word_512, Finset.univ_unique, Finset.sum_singleton, ← EReal.coe_neg]
  rw [sum_to _ (fun x => -(dxh y g gn x * rst o)) fun _ => rfl,
    sum_to _ (fun x => -((∑ x ∈ Finset.range 512, cen o x * dxh y g gn x) * (-(1 / 2) * (rst o * (1 / (var o + eps)))) * (1 / 512) * (2 * cen o x))) fun _ => rfl]
  simp only [← EReal.coe_add, Cert.RetGradIdeal.Head.word_512]
  rw [← row_eq]

theorem ch_at (j : Fin 64) (b : Fin 2) (h : Fin 4) (i : Fin 64) (e : Fin 512) {x : ℝ} (hx : (V (Proc.devRef .tc main_v193) (ix4 b ⟨j * 64 + i, by omega⟩ h e) : EReal) = (x : EReal)) :
    (after mid9 (after mid8 V) (Proc.devRef .tc main_v200_0) (ix5 j b h i e) : EReal) = (x : EReal) := by
  after_reads_simp
  simp only [id_eq]
  pointwise
  exact hx
end Mid
end Cert.RetGradRefIdeal.Val
end
-- ==== Proof.RetRefB.lean ====
/- One trip of the reference's backward loop: the reads of its block, its sums and its writes. -/
module
public import proofs.«01_k».proof.Proof.RetRefA
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry)

theorem row_int (k : Fin 64) : (BitVec.ofNat 32 k).toInt = k := by
  fin_cases k <;> decide

theorem row_word (k : Fin 64) : 64#32 - Scf.iv 0#32 1#32 k - 1#32 = BitVec.ofNat 32 (63 - k) := by
  fin_cases k <;> decide

theorem row_at (V : Valuation τ sig (Elt Ideal)) (k : Fin 64) (hk : V (Proc.devRef .tc main_v200_11) = fun _ => Scf.iv 0#32 1#32 k) :
    after bodyB0 V (Proc.devRef .tc main_while1b_v249) = fun _ => BitVec.ofNat 32 (63 - k) := by
  have h : after bodyB0 V (Proc.devRef .tc main_while1b_v249) = subi (subi (constantI S_ 32 64#32) (V (Proc.devRef .tc main_v200_11))) (constantI S_ 32 1#32) := by
    after_reads_simp
  rw [h, hk]
  funext x
  exact row_word k

theorem do_sliceB (V : Valuation τ sig (Elt Ideal)) (k : Fin 64) (hk : V (Proc.devRef .tc main_while1b_v249) = fun _ => BitVec.ofNat 32 k) (b : Fin 2) (h : Fin 4) (i : Fin 64) (d : Fin 512) :
    (after bodyB1 V (Proc.devRef .tc main_while1b_v250) (ix4 b h i d) : EReal) = V (Proc.devRef .tc main_v200_0) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB1 V 4 (Proc.devRef .tc main_while1b_v249) : S_.Idx → BitVec 32) _).toInt = _
    after_reads_simp
    exact (congrArg BitVec.toInt (congrFun hk _)).trans (row_int k)
  pointwise

theorem k_sliceB (V : Valuation τ sig (Elt Ideal)) (k : Fin 64) (hk : V (Proc.devRef .tc main_while1b_v249) = fun _ => BitVec.ofNat 32 k) (b : Fin 2) (h : Fin 4) (i : Fin 64) (d : Fin 256) :
    (after bodyB2 V (Proc.devRef .tc main_while1b_v251) (ix4 b h i d) : EReal) = V (Proc.devRef .tc main_v200_1) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB2 V 4 (Proc.devRef .tc main_while1b_v249) : S_.Idx → BitVec 32) _).toInt = _
    after_reads_simp
    exact (congrArg BitVec.toInt (congrFun hk _)).trans (row_int k)
  pointwise

theorem q_sliceB (V : Valuation τ sig (Elt Ideal)) (k : Fin 64) (hk : V (Proc.devRef .tc main_while1b_v249) = fun _ => BitVec.ofNat 32 k) (b : Fin 2) (h : Fin 4) (i : Fin 64) (d : Fin 256) :
    (after bodyB3 V (Proc.devRef .tc main_while1b_v252) (ix4 b h i d) : EReal) = V (Proc.devRef .tc main_v200_2) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB3 V 4 (Proc.devRef .tc main_while1b_v249) : S_.Idx → BitVec 32) _).toInt = _
    after_reads_simp
    exact (congrArg BitVec.toInt (congrFun hk _)).trans (row_int k)
  pointwise

theorem v_sliceB (V : Valuation τ sig (Elt Ideal)) (k : Fin 64) (hk : V (Proc.devRef .tc main_while1b_v249) = fun _ => BitVec.ofNat 32 k) (b : Fin 2) (h : Fin 4) (i : Fin 64) (d : Fin 512) :
    (after bodyB4 V (Proc.devRef .tc main_while1b_v253) (ix4 b h i d) : EReal) = V (Proc.devRef .tc main_v200_3) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB4 V 4 (Proc.devRef .tc main_while1b_v249) : S_.Idx → BitVec 32) _).toInt = _
    after_reads_simp
    exact (congrArg BitVec.toInt (congrFun hk _)).trans (row_int k)
  pointwise

theorem s_sliceB (V : Valuation τ sig (Elt Ideal)) (k : Fin 64) (hk : V (Proc.devRef .tc main_while1b_v249) = fun _ => BitVec.ofNat 32 k) (b : Fin 2) (h : Fin 4) (i : Fin 64) (d : Fin 64) :
    (after bodyB5 V (Proc.devRef .tc main_while1b_v254) (ix4 b h i d) : EReal) = V (Proc.devRef .tc main_v200_4) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB5 V 4 (Proc.devRef .tc main_while1b_v249) : S_.Idx → BitVec 32) _).toInt = _
    after_reads_simp
    exact (congrArg BitVec.toInt (congrFun hk _)).trans (row_int k)
  pointwise

theorem st_sliceB (V : Valuation τ sig (Elt Ideal)) (k : Fin 64) (hk : V (Proc.devRef .tc main_while1b_v249) = fun _ => BitVec.ofNat 32 k) (b : Fin 2) (h : Fin 4) (i : Fin 256) (d : Fin 512) :
    (after bodyB6 V (Proc.devRef .tc main_while1b_v255) (ix4 b h i d) : EReal) = V (Proc.devRef .tc main_v200_5) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB6 V 4 (Proc.devRef .tc main_while1b_v249) : S_.Idx → BitVec 32) _).toInt = _
    after_reads_simp
    exact (congrArg BitVec.toInt (congrFun hk _)).trans (row_int k)
  pointwise

theorem ks_sliceB (V : Valuation τ sig (Elt Ideal)) (k : Fin 64) (hk : V (Proc.devRef .tc main_while1b_v249) = fun _ => BitVec.ofNat 32 k) (b : Fin 2) (h : Fin 4) (i : Fin 64) (d : Fin 256) :
    (after bodyB7 V (Proc.devRef .tc main_while1b_v256) (ix4 b h i d) : EReal) = V (Proc.devRef .tc main_v200_6) (ix5 k b h i d) := by
  after_reads_simp
  simp -implicitDefEqProofs only [TRef.toBuf, TRef.ofBuf, cast_cast, cast_eq]
  rw [slice_row _ _ _ k ⟨?e, rfl, rfl, rfl, rfl⟩]
  case e =>
    show ((upto bodyB7 V 4 (Proc.devRef .tc main_while1b_v249) : S_.Idx → BitVec 32) _).toInt = _
    after_reads_simp
    exact (congrArg BitVec.toInt (congrFun hk _)).trans (row_int k)
  pointwise

theorem dq_update (V : Valuation τ sig (Elt Ideal)) (k : Fin 64) (hk : V (Proc.devRef .tc main_while1b_v249) = fun _ => BitVec.ofNat 32 k) (j : Fin 64) (b : Fin 2) (h : Fin 4) (i : Fin 64) (d : Fin 256) :
    (after bodyB9 V (Proc.devRef .tc main_while1b_v281) (ix5 j b h i d) : EReal) = if j.val = k.val then V (Proc.devRef .tc main_while1b_v280) (ix4 b h i d) else V (Proc.devRef .tc main_v200_13) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyB9 V 5 (Proc.devRef .tc main_while1b_v249) : S_.Idx → BitVec 32) _).toInt = _
    after_reads_simp
    exact (congrArg BitVec.toInt (congrFun hk _)).trans (row_int k)
  pointwise

theorem dk_update (V : Valuation τ sig (Elt Ideal)) (k : Fin 64) (hk : V (Proc.devRef .tc main_while1b_v249) = fun _ => BitVec.ofNat 32 k) (j : Fin 64) (b : Fin 2) (h : Fin 4) (i : Fin 64) (d : Fin 256) :
    (after bodyB10 V (Proc.devRef .tc main_while1b_v282) (ix5 j b h i d) : EReal) = if j.val = k.val then V (Proc.devRef .tc main_while1b_v278) (ix4 b h i d) else V (Proc.devRef .tc main_v200_14) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyB10 V 5 (Proc.devRef .tc main_while1b_v249) : S_.Idx → BitVec 32) _).toInt = _
    after_reads_simp
    exact (congrArg BitVec.toInt (congrFun hk _)).trans (row_int k)
  pointwise

theorem dv_update (V : Valuation τ sig (Elt Ideal)) (k : Fin 64) (hk : V (Proc.devRef .tc main_while1b_v249) = fun _ => BitVec.ofNat 32 k) (j : Fin 64) (b : Fin 2) (h : Fin 4) (i : Fin 64) (d : Fin 512) :
    (after bodyB11 V (Proc.devRef .tc main_while1b_v283) (ix5 j b h i d) : EReal) = if j.val = k.val then V (Proc.devRef .tc main_while1b_v273) (ix4 b h i d) else V (Proc.devRef .tc main_v200_15) (ix5 j b h i d) := by
  after_reads_simp
  simp -implicitDefEqProofs only [TRef.toBuf, TRef.ofBuf, cast_cast, cast_eq]
  rw [update_row _ _ _ _ k ⟨?e, rfl, rfl, rfl, rfl⟩]
  case e =>
    show ((upto bodyB11 V 5 (Proc.devRef .tc main_while1b_v249) : S_.Idx → BitVec 32) _).toInt = _
    after_reads_simp
    exact (congrArg BitVec.toInt (congrFun hk _)).trans (row_int k)
  pointwise

section Block
variable {U : Valuation τ sig (Elt Ideal)} {b : Fin 2} {h : Fin 4} {o q k v s st ks ds dm : ℕ → ℕ → ℝ} {qd kd : ℕ → ℝ} {bd : ℝ}

theorem ds_block (hdo : ∀ (i : Fin 64) (e : Fin 512), U (Proc.devRef .tc main_while1b_v250) (ix4 b h i e) = ((o i e : ℝ) : EReal))
    (hq : ∀ (i : Fin 64) (d : Fin 256), U (Proc.devRef .tc main_while1b_v252) (ix4 b h i d) = ((q i d : ℝ) : EReal))
    (hds : ∀ (d : Fin 256) (e : Fin 512), U (Proc.devRef .tc main_v200_12) (ix4 b h d e) = ((ds d e : ℝ) : EReal))
    (hqd : ∀ i : Fin 64, U (Proc.devRef .tc main_v200_8) (ix4 0 h i 0) = ((qd i : ℝ) : EReal))
    (hbd : U (Proc.devRef .tc main_v200_9) (ix4 0 h 0 0) = ((bd : ℝ) : EReal)) (d : Fin 256) (e : Fin 512) :
    (after bodyB8 U (Proc.devRef .tc main_while1b_v269) (ix4 b h d e) : EReal) = ((ds d e * bd + ∑ i ∈ Finset.range 64, o i e * qd i * q i d : ℝ) : EReal) := by
  after_reads_simp
  pointwise
  rw [hds, hbd, EReal.coe_add, EReal.coe_mul]
  refine congrArg (_ + ·) (sum_to _ _ fun i => ?_)
  rw [hdo, hqd, hq, ← EReal.coe_mul, ← EReal.coe_mul]

theorem dv_block (hdo : ∀ (i : Fin 64) (e : Fin 512), U (Proc.devRef .tc main_while1b_v250) (ix4 b h i e) = ((o i e : ℝ) : EReal))
    (hs : ∀ i l : Fin 64, U (Proc.devRef .tc main_while1b_v254) (ix4 b h i l) = ((s i l : ℝ) : EReal))
    (hks : ∀ (i : Fin 64) (d : Fin 256), U (Proc.devRef .tc main_while1b_v256) (ix4 b h i d) = ((ks i d : ℝ) : EReal))
    (hds : ∀ (d : Fin 256) (e : Fin 512), U (Proc.devRef .tc main_v200_12) (ix4 b h d e) = ((ds d e : ℝ) : EReal)) (l : Fin 64) (e : Fin 512) :
    (after bodyB8 U (Proc.devRef .tc main_while1b_v273) (ix4 b h l e) : EReal) = ((∑ d ∈ Finset.range 256, ds d e * ks l d + ∑ i ∈ Finset.range 64, o i e * s i l : ℝ) : EReal) := by
  after_reads_simp
  pointwise
  rw [EReal.coe_add]
  refine congrArg₂ (fun p q : EReal => p + q) (sum_to _ _ fun d => ?_) (sum_to _ _ fun i => ?_)
  · rw [hds, hks, ← EReal.coe_mul]
  · rw [hdo, hs, ← EReal.coe_mul]

theorem dk_block (hdo : ∀ (i : Fin 64) (e : Fin 512), U (Proc.devRef .tc main_while1b_v250) (ix4 b h i e) = ((o i e : ℝ) : EReal))
    (hq : ∀ (i : Fin 64) (d : Fin 256), U (Proc.devRef .tc main_while1b_v252) (ix4 b h i d) = ((q i d : ℝ) : EReal))
    (hv : ∀ (i : Fin 64) (e : Fin 512), U (Proc.devRef .tc main_while1b_v253) (ix4 b h i e) = ((v i e : ℝ) : EReal))
    (hds : ∀ (d : Fin 256) (e : Fin 512), U (Proc.devRef .tc main_v200_12) (ix4 b h d e) = ((ds d e : ℝ) : EReal))
    (hdm : ∀ i l : Fin 64, U (Proc.devRef .tc main_v200_7) (ix4 0 h i l) = ((dm i l : ℝ) : EReal))
    (hkd : ∀ i : Fin 64, U (Proc.devRef .tc main_v200_10) (ix4 0 h i 0) = ((kd i : ℝ) : EReal)) (l : Fin 64) (d : Fin 256) :
    (after bodyB8 U (Proc.devRef .tc main_while1b_v278) (ix4 b h l d) : EReal)
      = (((∑ e ∈ Finset.range 512, ds d e * v l e) * kd l + ∑ i ∈ Finset.range 64, (∑ e ∈ Finset.range 512, o i e * v l e) * dm i l * q i d : ℝ) : EReal) := by
  after_reads_simp
  pointwise
  rw [hkd, EReal.coe_add, EReal.coe_mul]
  refine congrArg₂ (fun p q : EReal => p + q) (congrArg (· * _) (sum_to _ _ fun e => ?_)) (sum_to _ _ fun i => ?_)
  · rw [hds, hv, ← EReal.coe_mul]
  · rw [hdm, hq, EReal.coe_mul, EReal.coe_mul]
    refine congrArg (· * _ * _) (sum_to _ _ fun e => ?_)
    rw [hdo, hv, ← EReal.coe_mul]

theorem dq_block (hdo : ∀ (i : Fin 64) (e : Fin 512), U (Proc.devRef .tc main_while1b_v250) (ix4 b h i e) = ((o i e : ℝ) : EReal))
    (hk : ∀ (i : Fin 64) (d : Fin 256), U (Proc.devRef .tc main_while1b_v251) (ix4 b h i d) = ((k i d : ℝ) : EReal))
    (hv : ∀ (i : Fin 64) (e : Fin 512), U (Proc.devRef .tc main_while1b_v253) (ix4 b h i e) = ((v i e : ℝ) : EReal))
    (hst : ∀ (d : Fin 256) (e : Fin 512), U (Proc.devRef .tc main_while1b_v255) (ix4 b h d e) = ((st d e : ℝ) : EReal))
    (hdm : ∀ i l : Fin 64, U (Proc.devRef .tc main_v200_7) (ix4 0 h i l) = ((dm i l : ℝ) : EReal))
    (hqd : ∀ i : Fin 64, U (Proc.devRef .tc main_v200_8) (ix4 0 h i 0) = ((qd i : ℝ) : EReal)) (i : Fin 64) (d : Fin 256) :
    (after bodyB8 U (Proc.devRef .tc main_while1b_v280) (ix4 b h i d) : EReal)
      = ((∑ e ∈ Finset.range 512, o i e * qd i * st d e + ∑ l ∈ Finset.range 64, (∑ e ∈ Finset.range 512, o i e * v l e) * dm i l * k l d : ℝ) : EReal) := by
  after_reads_simp
  pointwise
  rw [EReal.coe_add]
  refine congrArg₂ (fun p q : EReal => p + q) (sum_to _ _ fun e => ?_) (sum_to _ _ fun l => ?_)
  · rw [hdo, hqd, hst, ← EReal.coe_mul, ← EReal.coe_mul]
  · rw [hdm, hk, EReal.coe_mul, EReal.coe_mul]
    refine congrArg (· * _ * _) (sum_to _ _ fun e => ?_)
    rw [hdo, hv, ← EReal.coe_mul]
end Block

end Cert.RetGradRefIdeal.Val
end
-- ==== Proof.RetRefBwd.lean ====
/- The reference's backward loop over the blocks, from the last to the first: the gradients of queries, keys and values. -/
module
public import proofs.«01_k».proof.Proof.RetRefB
public import proofs.«01_k».proof.Proof.RetRefFwd
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry)

section Sequences
variable (D : Data) (b h : ℕ)

/-- The gradient of the state after trip `k` of the loop. -/
def Ts : ℕ → ℕ → ℕ → ℝ
  | 0, _, _ => 0
  | k + 1, d, e => Ts k d e * Real.exp (D.lg h * 64) + ∑ i ∈ Finset.range 64, D.DO b h ((63 - k) * 64 + i) e * Real.exp (D.lg h * (i + 1)) * D.Q b h ((63 - k) * 64 + i) d

theorem dq_eq {j i : ℕ} (hj : j < 64) (hi : i < 64) (d : ℕ) :
    ∑ e ∈ Finset.range 512, D.DO b h (j * 64 + i) e * Real.exp (D.lg h * (i + 1)) * St D b h j d e
      + ∑ l ∈ Finset.range 64, (∑ e ∈ Finset.range 512, D.DO b h (j * 64 + i) e * D.V b h (j * 64 + l) e) * decay (D.lg h) i l * D.K b h (j * 64 + l) d = D.DQ b h (j * 64 + i) d := by
  have F := forward (ι := Fin 512) (D.lg h) 1 64 j i hj (by omega) (fun t e => D.DO b h t e) (fun t e => D.V b h t e) (fun t => D.K b h t d)
    (fun k e => St D b h k d e) (fun e => rfl) (fun k e => by
      simp only [St, mul_one, Nat.cast_ofNat]
      congr 1
      refine Finset.sum_congr rfl fun l _ => ?_
      norm_num; ring)
  simp only [mul_one] at F
  rw [Data.DQ]
  simp only [Finset.sum_range (n := 512)]
  rw [show (4096 : ℕ) = 64 * 64 from rfl, ← F, add_comm]
  refine congrArg₂ _ (Finset.sum_congr rfl fun l _ => ?_) ?_
  · rw [show j * 64 = 64 * j by ring, decay_shift]
  · rw [Finset.sum_mul]
    exact Finset.sum_congr rfl fun e _ => by ring

theorem dk_eq {k l : ℕ} (hk : k < 64) (hl : l < 64) (d : ℕ) :
    (∑ e ∈ Finset.range 512, Ts D b h k d e * D.V b h ((63 - k) * 64 + l) e) * Real.exp (D.lg h * (63 - l))
      + ∑ i ∈ Finset.range 64, (∑ e ∈ Finset.range 512, D.DO b h ((63 - k) * 64 + i) e * D.V b h ((63 - k) * 64 + l) e) * decay (D.lg h) i l * D.Q b h ((63 - k) * 64 + i) d
      = D.DK b h ((63 - k) * 64 + l) d := by
  have F := backward (ι := Fin 512) (D.lg h) 1 64 (63 - k) l (by omega) (by omega) (fun t e => D.DO b h t e) (fun t e => D.V b h t e) (fun t => D.Q b h t d)
    (fun k e => Ts D b h k d e) (fun e => rfl) (fun k _ e => by
      simp only [Ts, mul_one, Nat.cast_ofNat, Nat.reduceSub])
  simp only [mul_one, Nat.reduceSub, Nat.sub_sub_self (show k ≤ 63 by omega)] at F
  rw [Data.DK]
  simp only [Finset.sum_range (n := 512)]
  rw [show (4096 : ℕ) = 64 * 64 from rfl, ← F, add_comm]
  refine congrArg₂ _ (Finset.sum_congr rfl fun i _ => ?_) ?_
  · rw [show (63 - k) * 64 = 64 * (63 - k) by ring, decay_shift]
  · refine congrArg₂ _ (Finset.sum_congr rfl fun e _ => mul_comm _ _) ?_
    norm_num

theorem dv_eq {k l : ℕ} (hk : k < 64) (hl : l < 64) (e : ℕ) :
    ∑ d ∈ Finset.range 256, Ts D b h k d e * Ks D b h (63 - k) l d + ∑ i ∈ Finset.range 64, D.DO b h ((63 - k) * 64 + i) e * Sc D b h (63 - k) i l
      = D.DV b h ((63 - k) * 64 + l) e := by
  have F := backward (ι := Fin 256) (D.lg h) 1 64 (63 - k) l (by omega) (by omega) (fun t d => D.Q b h t d) (fun t d => D.K b h t d) (fun t => D.DO b h t e)
    (fun k d => Ts D b h k d e) (fun e => rfl) (fun k _ d => by
      simp only [Ts, mul_one, Nat.cast_ofNat, Nat.reduceSub]
      congr 1
      exact Finset.sum_congr rfl fun l _ => by ring)
  simp only [mul_one, Nat.reduceSub, Nat.sub_sub_self (show k ≤ 63 by omega)] at F
  simp only [Data.DV, Sc, Ks]
  simp only [Finset.sum_range (n := 256)]
  rw [show (4096 : ℕ) = 64 * 64 from rfl, ← F, add_comm]
  refine congrArg₂ _ (Finset.sum_congr rfl fun i _ => ?_) ?_
  · rw [show (63 - k) * 64 = 64 * (63 - k) by ring, decay_shift]
    ring
  · rw [Finset.sum_mul]
    refine Finset.sum_congr rfl fun d _ => ?_
    norm_num; ring
end Sequences

/-- What the backward loop holds before trip `k`. -/
structure Bwd (D : Data) (V : Valuation τ sig (Elt Ideal)) (k : ℕ) : Prop where
  o : ∀ (j : Fin 64) (b : Fin 2) (h : Fin 4) (i : Fin 64) (e : Fin 512), (V (Proc.devRef .tc main_v200_0) (ix5 j b h i e) : EReal) = ((D.DO b h (j * 64 + i) e : ℝ) : EReal)
  kk : ∀ (j : Fin 64) (b : Fin 2) (h : Fin 4) (i : Fin 64) (d : Fin 256), (V (Proc.devRef .tc main_v200_1) (ix5 j b h i d) : EReal) = ((D.K b h (j * 64 + i) d : ℝ) : EReal)
  q : ∀ (j : Fin 64) (b : Fin 2) (h : Fin 4) (i : Fin 64) (d : Fin 256), (V (Proc.devRef .tc main_v200_2) (ix5 j b h i d) : EReal) = ((D.Q b h (j * 64 + i) d : ℝ) : EReal)
  v : ∀ (j : Fin 64) (b : Fin 2) (h : Fin 4) (i : Fin 64) (e : Fin 512), (V (Proc.devRef .tc main_v200_3) (ix5 j b h i e) : EReal) = ((D.V b h (j * 64 + i) e : ℝ) : EReal)
  sc : ∀ (j : Fin 64) (b : Fin 2) (h : Fin 4) (i l : Fin 64), (V (Proc.devRef .tc main_v200_4) (ix5 j b h i l) : EReal) = ((Sc D b h j i l : ℝ) : EReal)
  ss : ∀ (j : Fin 64) (b : Fin 2) (h : Fin 4) (d : Fin 256) (e : Fin 512), (V (Proc.devRef .tc main_v200_5) (ix5 j b h d e) : EReal) = ((St D b h j d e : ℝ) : EReal)
  ks : ∀ (j : Fin 64) (b : Fin 2) (h : Fin 4) (i : Fin 64) (d : Fin 256), (V (Proc.devRef .tc main_v200_6) (ix5 j b h i d) : EReal) = ((Ks D b h j i d : ℝ) : EReal)
  dm : ∀ (h : Fin 4) (i l : Fin 64), (V (Proc.devRef .tc main_v200_7) (ix4 0 h i l) : EReal) = ((decay (D.lg h) i l : ℝ) : EReal)
  qd : ∀ (h : Fin 4) (i : Fin 64), (V (Proc.devRef .tc main_v200_8) (ix4 0 h i 0) : EReal) = ((Real.exp (D.lg h * (i + 1)) : ℝ) : EReal)
  bd : ∀ h : Fin 4, (V (Proc.devRef .tc main_v200_9) (ix4 0 h 0 0) : EReal) = ((Real.exp (D.lg h * 64) : ℝ) : EReal)
  kd : ∀ (h : Fin 4) (i : Fin 64), (V (Proc.devRef .tc main_v200_10) (ix4 0 h i 0) : EReal) = ((Real.exp (D.lg h * (63 - i)) : ℝ) : EReal)
  ctr : V (Proc.devRef .tc main_v200_11) = fun _ => Scf.iv 0#32 1#32 k
  ds : ∀ (b : Fin 2) (h : Fin 4) (d : Fin 256) (e : Fin 512), (V (Proc.devRef .tc main_v200_12) (ix4 b h d e) : EReal) = ((Ts D b h k d e : ℝ) : EReal)
  dq : ∀ (j : Fin 64), 64 ≤ j.val + k → ∀ (b : Fin 2) (h : Fin 4) (i : Fin 64) (d : Fin 256), (V (Proc.devRef .tc main_v200_13) (ix5 j b h i d) : EReal) = ((D.DQ b h (j * 64 + i) d : ℝ) : EReal)
  dk : ∀ (j : Fin 64), 64 ≤ j.val + k → ∀ (b : Fin 2) (h : Fin 4) (i : Fin 64) (d : Fin 256), (V (Proc.devRef .tc main_v200_14) (ix5 j b h i d) : EReal) = ((D.DK b h (j * 64 + i) d : ℝ) : EReal)
  dv : ∀ (j : Fin 64), 64 ≤ j.val + k → ∀ (b : Fin 2) (h : Fin 4) (i : Fin 64) (e : Fin 512), (V (Proc.devRef .tc main_v200_15) (ix5 j b h i e) : EReal) = ((D.DV b h (j * 64 + i) e : ℝ) : EReal)

/-- A trip up to its row word, up to the reads of its block, up to its sums. -/
abbrev RB (V : Valuation τ sig (Elt Ideal)) : Valuation τ sig (Elt Ideal) := (after bodyB0 (after condB V))
abbrev UB (V : Valuation τ sig (Elt Ideal)) : Valuation τ sig (Elt Ideal) := (after bodyB7 (after bodyB6 (after bodyB5 (after bodyB4 (after bodyB3 (after bodyB2 (after bodyB1 (after bodyB0 (after condB V)))))))))
abbrev VB (V : Valuation τ sig (Elt Ideal)) : Valuation τ sig (Elt Ideal) := (after bodyB8 (after bodyB7 (after bodyB6 (after bodyB5 (after bodyB4 (after bodyB3 (after bodyB2 (after bodyB1 (after bodyB0 (after condB V))))))))))

theorem UB_keep (V : Valuation τ sig (Elt Ideal)) {r : Ref sig .tc} (h0 : r ∉ condB_W) (h1 : r ∉ bodyB0_W) (h2 : r ∉ bodyB1_W) (h3 : r ∉ bodyB2_W) (h4 : r ∉ bodyB3_W) (h5 : r ∉ bodyB4_W) (h6 : r ∉ bodyB5_W) (h7 : r ∉ bodyB6_W) (h8 : r ∉ bodyB7_W) :
    UB V (Proc.devRef .tc r) = V (Proc.devRef .tc r) :=
  (((((((((after_of_writes_sub bodyB7 _ bodyB7_writes h8).trans (after_of_writes_sub bodyB6 _ bodyB6_writes h7)).trans (after_of_writes_sub bodyB5 _ bodyB5_writes h6)).trans (after_of_writes_sub bodyB4 _ bodyB4_writes h5)).trans (after_of_writes_sub bodyB3 _ bodyB3_writes h4)).trans (after_of_writes_sub bodyB2 _ bodyB2_writes h3)).trans (after_of_writes_sub bodyB1 _ bodyB1_writes h2)).trans (after_of_writes_sub bodyB0 _ bodyB0_writes h1)).trans (after_of_writes_sub condB _ condB_writes h0))

theorem VB_keep (V : Valuation τ sig (Elt Ideal)) {r : Ref sig .tc} (h0 : r ∉ condB_W) (h1 : r ∉ bodyB0_W) (h2 : r ∉ bodyB1_W) (h3 : r ∉ bodyB2_W) (h4 : r ∉ bodyB3_W) (h5 : r ∉ bodyB4_W) (h6 : r ∉ bodyB5_W) (h7 : r ∉ bodyB6_W) (h8 : r ∉ bodyB7_W) (h9 : r ∉ bodyB8_W) :
    VB V (Proc.devRef .tc r) = V (Proc.devRef .tc r) :=
  ((((((((((after_of_writes_sub bodyB8 _ bodyB8_writes h9).trans (after_of_writes_sub bodyB7 _ bodyB7_writes h8)).trans (after_of_writes_sub bodyB6 _ bodyB6_writes h7)).trans (after_of_writes_sub bodyB5 _ bodyB5_writes h6)).trans (after_of_writes_sub bodyB4 _ bodyB4_writes h5)).trans (after_of_writes_sub bodyB3 _ bodyB3_writes h4)).trans (after_of_writes_sub bodyB2 _ bodyB2_writes h3)).trans (after_of_writes_sub bodyB1 _ bodyB1_writes h2)).trans (after_of_writes_sub bodyB0 _ bodyB0_writes h1)).trans (after_of_writes_sub condB _ condB_writes h0))

theorem tripB_keep (V : Valuation τ sig (Elt Ideal)) {r : Ref sig .tc} (h0 : r ∉ condB_W) (h1 : r ∉ bodyB0_W) (h2 : r ∉ bodyB1_W) (h3 : r ∉ bodyB2_W) (h4 : r ∉ bodyB3_W) (h5 : r ∉ bodyB4_W) (h6 : r ∉ bodyB5_W) (h7 : r ∉ bodyB6_W) (h8 : r ∉ bodyB7_W) (h9 : r ∉ bodyB8_W) (h10 : r ∉ bodyB9_W) (h11 : r ∉ bodyB10_W) (h12 : r ∉ bodyB11_W) (h13 : r ∉ bodyB12_W) (h14 : r ∉ bodyB13_W) :
    afterL bodyBI (after condB V) (Proc.devRef .tc r) = V (Proc.devRef .tc r) :=
  (((((((((((((((after_of_writes_sub bodyB13 _ bodyB13_writes h14).trans (after_of_writes_sub bodyB12 _ bodyB12_writes h13)).trans (after_of_writes_sub bodyB11 _ bodyB11_writes h12)).trans (after_of_writes_sub bodyB10 _ bodyB10_writes h11)).trans (after_of_writes_sub bodyB9 _ bodyB9_writes h10)).trans (after_of_writes_sub bodyB8 _ bodyB8_writes h9)).trans (after_of_writes_sub bodyB7 _ bodyB7_writes h8)).trans (after_of_writes_sub bodyB6 _ bodyB6_writes h7)).trans (after_of_writes_sub bodyB5 _ bodyB5_writes h6)).trans (after_of_writes_sub bodyB4 _ bodyB4_writes h5)).trans (after_of_writes_sub bodyB3 _ bodyB3_writes h4)).trans (after_of_writes_sub bodyB2 _ bodyB2_writes h3)).trans (after_of_writes_sub bodyB1 _ bodyB1_writes h2)).trans (after_of_writes_sub bodyB0 _ bodyB0_writes h1)).trans (after_of_writes_sub condB _ condB_writes h0))

theorem ds_copyB (V : Valuation τ sig (Elt Ideal)) : afterL bodyBI (after condB V) (Proc.devRef .tc main_v200_12) = (VB V) (Proc.devRef .tc main_while1b_v269) := by
  have h (X : Valuation τ sig (Elt Ideal)) : after bodyB13 X (Proc.devRef .tc main_v200_12) = X (Proc.devRef .tc main_while1b_v269) := by
    after_reads_simp
    rfl
  exact (h _).trans ((((after_of_writes_sub bodyB12 _ bodyB12_writes (by decide)).trans (after_of_writes_sub bodyB11 _ bodyB11_writes (by decide))).trans (after_of_writes_sub bodyB10 _ bodyB10_writes (by decide))).trans (after_of_writes_sub bodyB9 _ bodyB9_writes (by decide)))

theorem dq_copyB (V : Valuation τ sig (Elt Ideal)) : afterL bodyBI (after condB V) (Proc.devRef .tc main_v200_13) = (after bodyB9 (VB V)) (Proc.devRef .tc main_while1b_v281) := by
  have h (X : Valuation τ sig (Elt Ideal)) : after bodyB13 X (Proc.devRef .tc main_v200_13) = X (Proc.devRef .tc main_while1b_v281) := by
    after_reads_simp
    rfl
  exact (h _).trans (((after_of_writes_sub bodyB12 _ bodyB12_writes (by decide)).trans (after_of_writes_sub bodyB11 _ bodyB11_writes (by decide))).trans (after_of_writes_sub bodyB10 _ bodyB10_writes (by decide)))

theorem dk_copyB (V : Valuation τ sig (Elt Ideal)) : afterL bodyBI (after condB V) (Proc.devRef .tc main_v200_14) = (after bodyB10 (after bodyB9 (VB V))) (Proc.devRef .tc main_while1b_v282) := by
  have h (X : Valuation τ sig (Elt Ideal)) : after bodyB13 X (Proc.devRef .tc main_v200_14) = X (Proc.devRef .tc main_while1b_v282) := by
    after_reads_simp
    rfl
  exact (h _).trans ((after_of_writes_sub bodyB12 _ bodyB12_writes (by decide)).trans (after_of_writes_sub bodyB11 _ bodyB11_writes (by decide)))

theorem dv_copyB (V : Valuation τ sig (Elt Ideal)) : afterL bodyBI (after condB V) (Proc.devRef .tc main_v200_15) = (after bodyB11 (after bodyB10 (after bodyB9 (VB V)))) (Proc.devRef .tc main_while1b_v283) := by
  have h (X : Valuation τ sig (Elt Ideal)) : after bodyB13 X (Proc.devRef .tc main_v200_15) = X (Proc.devRef .tc main_while1b_v283) := by
    after_reads_simp
    rfl
  exact (h _).trans (after_of_writes_sub bodyB12 _ bodyB12_writes (by decide))

section Step
variable {D : Data} {V : Valuation τ sig (Elt Ideal)} {k : Fin 64} (F : Bwd D V k)

/-- The block a trip works on. -/
abbrev row (k : Fin 64) : Fin 64 := ⟨63 - k.val, by omega⟩

include F

theorem row_RB : RB V (Proc.devRef .tc main_while1b_v249) = fun _ => BitVec.ofNat 32 (row k) :=
  row_at (after condB V) k ((after_of_writes_sub condB _ condB_writes (by decide)).trans F.ctr)

theorem o_readB (b : Fin 2) (h : Fin 4) (i : Fin 64) (e : Fin 512) : UB V (Proc.devRef .tc main_while1b_v250) (ix4 b h i e) = ((D.DO b h ((63 - k.val) * 64 + i) e : ℝ) : EReal) :=
  (congrFun ((((((after_of_writes_sub bodyB7 _ bodyB7_writes (by decide)).trans (after_of_writes_sub bodyB6 _ bodyB6_writes (by decide))).trans (after_of_writes_sub bodyB5 _ bodyB5_writes (by decide))).trans (after_of_writes_sub bodyB4 _ bodyB4_writes (by decide))).trans (after_of_writes_sub bodyB3 _ bodyB3_writes (by decide))).trans (after_of_writes_sub bodyB2 _ bodyB2_writes (by decide))) _).trans
    ((do_sliceB (RB V) (row k) (row_RB F) b h i e).trans
      ((congrFun ((after_of_writes_sub bodyB0 _ bodyB0_writes (by decide)).trans (after_of_writes_sub condB _ condB_writes (by decide))) _).trans (F.o (row k) b h i e)))

theorem k_readB (b : Fin 2) (h : Fin 4) (i : Fin 64) (d : Fin 256) : UB V (Proc.devRef .tc main_while1b_v251) (ix4 b h i d) = ((D.K b h ((63 - k.val) * 64 + i) d : ℝ) : EReal) :=
  (congrFun (((((after_of_writes_sub bodyB7 _ bodyB7_writes (by decide)).trans (after_of_writes_sub bodyB6 _ bodyB6_writes (by decide))).trans (after_of_writes_sub bodyB5 _ bodyB5_writes (by decide))).trans (after_of_writes_sub bodyB4 _ bodyB4_writes (by decide))).trans (after_of_writes_sub bodyB3 _ bodyB3_writes (by decide))) _).trans
    ((k_sliceB (after bodyB1 (RB V)) (row k) ((after_of_writes_sub bodyB1 _ bodyB1_writes (by decide)).trans (row_RB F)) b h i d).trans
      ((congrFun (((after_of_writes_sub bodyB1 _ bodyB1_writes (by decide)).trans (after_of_writes_sub bodyB0 _ bodyB0_writes (by decide))).trans (after_of_writes_sub condB _ condB_writes (by decide))) _).trans (F.kk (row k) b h i d)))

theorem q_readB (b : Fin 2) (h : Fin 4) (i : Fin 64) (d : Fin 256) : UB V (Proc.devRef .tc main_while1b_v252) (ix4 b h i d) = ((D.Q b h ((63 - k.val) * 64 + i) d : ℝ) : EReal) :=
  (congrFun ((((after_of_writes_sub bodyB7 _ bodyB7_writes (by decide)).trans (after_of_writes_sub bodyB6 _ bodyB6_writes (by decide))).trans (after_of_writes_sub bodyB5 _ bodyB5_writes (by decide))).trans (after_of_writes_sub bodyB4 _ bodyB4_writes (by decide))) _).trans
    ((q_sliceB (after bodyB2 (after bodyB1 (RB V))) (row k) (((after_of_writes_sub bodyB2 _ bodyB2_writes (by decide)).trans (after_of_writes_sub bodyB1 _ bodyB1_writes (by decide))).trans (row_RB F)) b h i d).trans
      ((congrFun ((((after_of_writes_sub bodyB2 _ bodyB2_writes (by decide)).trans (after_of_writes_sub bodyB1 _ bodyB1_writes (by decide))).trans (after_of_writes_sub bodyB0 _ bodyB0_writes (by decide))).trans (after_of_writes_sub condB _ condB_writes (by decide))) _).trans (F.q (row k) b h i d)))

theorem v_readB (b : Fin 2) (h : Fin 4) (i : Fin 64) (e : Fin 512) : UB V (Proc.devRef .tc main_while1b_v253) (ix4 b h i e) = ((D.V b h ((63 - k.val) * 64 + i) e : ℝ) : EReal) :=
  (congrFun (((after_of_writes_sub bodyB7 _ bodyB7_writes (by decide)).trans (after_of_writes_sub bodyB6 _ bodyB6_writes (by decide))).trans (after_of_writes_sub bodyB5 _ bodyB5_writes (by decide))) _).trans
    ((v_sliceB (after bodyB3 (after bodyB2 (after bodyB1 (RB V)))) (row k) ((((after_of_writes_sub bodyB3 _ bodyB3_writes (by decide)).trans (after_of_writes_sub bodyB2 _ bodyB2_writes (by decide))).trans (after_of_writes_sub bodyB1 _ bodyB1_writes (by decide))).trans (row_RB F)) b h i e).trans
      ((congrFun (((((after_of_writes_sub bodyB3 _ bodyB3_writes (by decide)).trans (after_of_writes_sub bodyB2 _ bodyB2_writes (by decide))).trans (after_of_writes_sub bodyB1 _ bodyB1_writes (by decide))).trans (after_of_writes_sub bodyB0 _ bodyB0_writes (by decide))).trans (after_of_writes_sub condB _ condB_writes (by decide))) _).trans (F.v (row k) b h i e)))

theorem s_readB (b : Fin 2) (h : Fin 4) (i l : Fin 64) : UB V (Proc.devRef .tc main_while1b_v254) (ix4 b h i l) = ((Sc D b h (63 - k.val) i l : ℝ) : EReal) :=
  (congrFun ((after_of_writes_sub bodyB7 _ bodyB7_writes (by decide)).trans (after_of_writes_sub bodyB6 _ bodyB6_writes (by decide))) _).trans
    ((s_sliceB (after bodyB4 (after bodyB3 (after bodyB2 (after bodyB1 (RB V))))) (row k) (((((after_of_writes_sub bodyB4 _ bodyB4_writes (by decide)).trans (after_of_writes_sub bodyB3 _ bodyB3_writes (by decide))).trans (after_of_writes_sub bodyB2 _ bodyB2_writes (by decide))).trans (after_of_writes_sub bodyB1 _ bodyB1_writes (by decide))).trans (row_RB F)) b h i l).trans
      ((congrFun ((((((after_of_writes_sub bodyB4 _ bodyB4_writes (by decide)).trans (after_of_writes_sub bodyB3 _ bodyB3_writes (by decide))).trans (after_of_writes_sub bodyB2 _ bodyB2_writes (by decide))).trans (after_of_writes_sub bodyB1 _ bodyB1_writes (by decide))).trans (after_of_writes_sub bodyB0 _ bodyB0_writes (by decide))).trans (after_of_writes_sub condB _ condB_writes (by decide))) _).trans (F.sc (row k) b h i l)))

theorem st_readB (b : Fin 2) (h : Fin 4) (d : Fin 256) (e : Fin 512) : UB V (Proc.devRef .tc main_while1b_v255) (ix4 b h d e) = ((St D b h (63 - k.val) d e : ℝ) : EReal) :=
  (congrFun (after_of_writes_sub bodyB7 _ bodyB7_writes (by decide)) _).trans
    ((st_sliceB (after bodyB5 (after bodyB4 (after bodyB3 (after bodyB2 (after bodyB1 (RB V)))))) (row k) ((((((after_of_writes_sub bodyB5 _ bodyB5_writes (by decide)).trans (after_of_writes_sub bodyB4 _ bodyB4_writes (by decide))).trans (after_of_writes_sub bodyB3 _ bodyB3_writes (by decide))).trans (after_of_writes_sub bodyB2 _ bodyB2_writes (by decide))).trans (after_of_writes_sub bodyB1 _ bodyB1_writes (by decide))).trans (row_RB F)) b h d e).trans
      ((congrFun (((((((after_of_writes_sub bodyB5 _ bodyB5_writes (by decide)).trans (after_of_writes_sub bodyB4 _ bodyB4_writes (by decide))).trans (after_of_writes_sub bodyB3 _ bodyB3_writes (by decide))).trans (after_of_writes_sub bodyB2 _ bodyB2_writes (by decide))).trans (after_of_writes_sub bodyB1 _ bodyB1_writes (by decide))).trans (after_of_writes_sub bodyB0 _ bodyB0_writes (by decide))).trans (after_of_writes_sub condB _ condB_writes (by decide))) _).trans (F.ss (row k) b h d e)))

theorem ks_readB (b : Fin 2) (h : Fin 4) (i : Fin 64) (d : Fin 256) : UB V (Proc.devRef .tc main_while1b_v256) (ix4 b h i d) = ((Ks D b h (63 - k.val) i d : ℝ) : EReal) :=
  (ks_sliceB (after bodyB6 (after bodyB5 (after bodyB4 (after bodyB3 (after bodyB2 (after bodyB1 (RB V))))))) (row k) (((((((after_of_writes_sub bodyB6 _ bodyB6_writes (by decide)).trans (after_of_writes_sub bodyB5 _ bodyB5_writes (by decide))).trans (after_of_writes_sub bodyB4 _ bodyB4_writes (by decide))).trans (after_of_writes_sub bodyB3 _ bodyB3_writes (by decide))).trans (after_of_writes_sub bodyB2 _ bodyB2_writes (by decide))).trans (after_of_writes_sub bodyB1 _ bodyB1_writes (by decide))).trans (row_RB F)) b h i d).trans
      ((congrFun ((((((((after_of_writes_sub bodyB6 _ bodyB6_writes (by decide)).trans (after_of_writes_sub bodyB5 _ bodyB5_writes (by decide))).trans (after_of_writes_sub bodyB4 _ bodyB4_writes (by decide))).trans (after_of_writes_sub bodyB3 _ bodyB3_writes (by decide))).trans (after_of_writes_sub bodyB2 _ bodyB2_writes (by decide))).trans (after_of_writes_sub bodyB1 _ bodyB1_writes (by decide))).trans (after_of_writes_sub bodyB0 _ bodyB0_writes (by decide))).trans (after_of_writes_sub condB _ condB_writes (by decide))) _).trans (F.ks (row k) b h i d))

theorem ds_sumB (b : Fin 2) (h : Fin 4) (d : Fin 256) (e : Fin 512) : VB V (Proc.devRef .tc main_while1b_v269) (ix4 b h d e) = ((Ts D b h (k + 1) d e : ℝ) : EReal) :=
  ds_block (o := fun i e => D.DO b h ((63 - k.val) * 64 + i) e) (q := fun i d => D.Q b h ((63 - k.val) * 64 + i) d) (ds := fun d e => Ts D b h k.val d e) (qd := fun i => Real.exp (D.lg h * (i + 1))) (bd := Real.exp (D.lg h * 64)) (o_readB F b h) (q_readB F b h)
    (fun d e => (congrFun (UB_keep V (by decide) (by decide) (by decide) (by decide) (by decide) (by decide) (by decide) (by decide) (by decide)) _).trans (F.ds b h d e))
    (fun i => (congrFun (UB_keep V (by decide) (by decide) (by decide) (by decide) (by decide) (by decide) (by decide) (by decide) (by decide)) _).trans (F.qd h i))
    ((congrFun (UB_keep V (by decide) (by decide) (by decide) (by decide) (by decide) (by decide) (by decide) (by decide) (by decide)) _).trans (F.bd h)) d e

theorem dv_sumB (b : Fin 2) (h : Fin 4) (l : Fin 64) (e : Fin 512) : VB V (Proc.devRef .tc main_while1b_v273) (ix4 b h l e) = ((D.DV b h ((row k) * 64 + l) e : ℝ) : EReal) := by
  rw [← dv_eq D b h k.isLt l.isLt e]
  exact dv_block (o := fun i e => D.DO b h ((63 - k.val) * 64 + i) e) (s := fun i l => Sc D b h (63 - k.val) i l) (ks := fun i d => Ks D b h (63 - k.val) i d) (ds := fun d e => Ts D b h k.val d e) (o_readB F b h) (s_readB F b h) (ks_readB F b h)
    (fun d e => (congrFun (UB_keep V (by decide) (by decide) (by decide) (by decide) (by decide) (by decide) (by decide) (by decide) (by decide)) _).trans (F.ds b h d e)) l e

theorem dk_sumB (b : Fin 2) (h : Fin 4) (l : Fin 64) (d : Fin 256) : VB V (Proc.devRef .tc main_while1b_v278) (ix4 b h l d) = ((D.DK b h ((row k) * 64 + l) d : ℝ) : EReal) := by
  rw [← dk_eq D b h k.isLt l.isLt d]
  exact dk_block (o := fun i e => D.DO b h ((63 - k.val) * 64 + i) e) (q := fun i d => D.Q b h ((63 - k.val) * 64 + i) d) (v := fun i e => D.V b h ((63 - k.val) * 64 + i) e) (ds := fun d e => Ts D b h k.val d e) (dm := fun i l => decay (D.lg h) i l) (kd := fun i => Real.exp (D.lg h * (63 - i))) (o_readB F b h) (q_readB F b h) (v_readB F b h)
    (fun d e => (congrFun (UB_keep V (by decide) (by decide) (by decide) (by decide) (by decide) (by decide) (by decide) (by decide) (by decide)) _).trans (F.ds b h d e))
    (fun i l => (congrFun (UB_keep V (by decide) (by decide) (by decide) (by decide) (by decide) (by decide) (by decide) (by decide) (by decide)) _).trans (F.dm h i l))
    (fun i => (congrFun (UB_keep V (by decide) (by decide) (by decide) (by decide) (by decide) (by decide) (by decide) (by decide) (by decide)) _).trans (F.kd h i)) l d

theorem dq_sumB (b : Fin 2) (h : Fin 4) (i : Fin 64) (d : Fin 256) : VB V (Proc.devRef .tc main_while1b_v280) (ix4 b h i d) = ((D.DQ b h ((row k) * 64 + i) d : ℝ) : EReal) := by
  rw [← dq_eq D b h (row k).isLt i.isLt d]
  exact dq_block (o := fun i e => D.DO b h ((63 - k.val) * 64 + i) e) (k := fun i d => D.K b h ((63 - k.val) * 64 + i) d) (v := fun i e => D.V b h ((63 - k.val) * 64 + i) e) (st := fun d e => St D b h (63 - k.val) d e) (dm := fun i l => decay (D.lg h) i l) (qd := fun i => Real.exp (D.lg h * (i + 1))) (o_readB F b h) (k_readB F b h) (v_readB F b h) (st_readB F b h)
    (fun i l => (congrFun (UB_keep V (by decide) (by decide) (by decide) (by decide) (by decide) (by decide) (by decide) (by decide) (by decide)) _).trans (F.dm h i l))
    (fun i => (congrFun (UB_keep V (by decide) (by decide) (by decide) (by decide) (by decide) (by decide) (by decide) (by decide) (by decide)) _).trans (F.qd h i)) i d

theorem row_VB : VB V (Proc.devRef .tc main_while1b_v249) = fun _ => BitVec.ofNat 32 (row k) :=
  ((((((((after_of_writes_sub bodyB8 _ bodyB8_writes (by decide)).trans (after_of_writes_sub bodyB7 _ bodyB7_writes (by decide))).trans (after_of_writes_sub bodyB6 _ bodyB6_writes (by decide))).trans (after_of_writes_sub bodyB5 _ bodyB5_writes (by decide))).trans (after_of_writes_sub bodyB4 _ bodyB4_writes (by decide))).trans (after_of_writes_sub bodyB3 _ bodyB3_writes (by decide))).trans (after_of_writes_sub bodyB2 _ bodyB2_writes (by decide))).trans (after_of_writes_sub bodyB1 _ bodyB1_writes (by decide))).trans (row_RB F)

theorem dq_stepB (j : Fin 64) (hj : 64 ≤ j.val + (k.val + 1)) (b : Fin 2) (h : Fin 4) (i : Fin 64) (d : Fin 256) : (afterL bodyBI (after condB V) (Proc.devRef .tc main_v200_13) (ix5 j b h i d) : EReal) = (((D.DQ b h (j * 64 + i) d) : ℝ) : EReal) := by
  refine (congrFun (dq_copyB V) _).trans ((dq_update (VB V) (row k) (row_VB F) j b h i d).trans ?_)
  by_cases hjk : j.val = (row k).val
  · obtain rfl := Fin.ext hjk
    rw [if_pos rfl]
    exact dq_sumB F b h i d
  · rw [if_neg hjk]
    exact (congrFun (VB_keep V (by decide) (by decide) (by decide) (by decide) (by decide) (by decide) (by decide) (by decide) (by decide) (by decide)) _).trans (F.dq j (by simp only [row] at hjk; omega) b h i d)

theorem dk_stepB (j : Fin 64) (hj : 64 ≤ j.val + (k.val + 1)) (b : Fin 2) (h : Fin 4) (i : Fin 64) (d : Fin 256) : (afterL bodyBI (after condB V) (Proc.devRef .tc main_v200_14) (ix5 j b h i d) : EReal) = (((D.DK b h (j * 64 + i) d) : ℝ) : EReal) := by
  refine (congrFun (dk_copyB V) _).trans ((dk_update (after bodyB9 (VB V)) (row k) ((after_of_writes_sub bodyB9 _ bodyB9_writes (by decide)).trans (row_VB F)) j b h i d).trans ?_)
  by_cases hjk : j.val = (row k).val
  · obtain rfl := Fin.ext hjk
    rw [if_pos rfl]
    exact (congrFun (after_of_writes_sub bodyB9 _ bodyB9_writes (by decide)) _).trans (dk_sumB F b h i d)
  · rw [if_neg hjk]
    exact (congrFun (after_of_writes_sub bodyB9 _ bodyB9_writes (by decide)) _).trans ((congrFun (VB_keep V (by decide) (by decide) (by decide) (by decide) (by decide) (by decide) (by decide) (by decide) (by decide) (by decide)) _).trans (F.dk j (by simp only [row] at hjk; omega) b h i d))

theorem dv_stepB (j : Fin 64) (hj : 64 ≤ j.val + (k.val + 1)) (b : Fin 2) (h : Fin 4) (i : Fin 64) (e : Fin 512) : (afterL bodyBI (after condB V) (Proc.devRef .tc main_v200_15) (ix5 j b h i e) : EReal) = (((D.DV b h (j * 64 + i) e) : ℝ) : EReal) := by
  refine (congrFun (dv_copyB V) _).trans ((dv_update (after bodyB10 (after bodyB9 (VB V))) (row k) (((after_of_writes_sub bodyB10 _ bodyB10_writes (by decide)).trans (after_of_writes_sub bodyB9 _ bodyB9_writes (by decide))).trans (row_VB F)) j b h i e).trans ?_)
  by_cases hjk : j.val = (row k).val
  · obtain rfl := Fin.ext hjk
    rw [if_pos rfl]
    exact (congrFun ((after_of_writes_sub bodyB10 _ bodyB10_writes (by decide)).trans (after_of_writes_sub bodyB9 _ bodyB9_writes (by decide))) _).trans (dv_sumB F b h i e)
  · rw [if_neg hjk]
    exact (congrFun ((after_of_writes_sub bodyB10 _ bodyB10_writes (by decide)).trans (after_of_writes_sub bodyB9 _ bodyB9_writes (by decide))) _).trans ((congrFun (VB_keep V (by decide) (by decide) (by decide) (by decide) (by decide) (by decide) (by decide) (by decide) (by decide) (by decide)) _).trans (F.dv j (by simp only [row] at hjk; omega) b h i e))

theorem Bwd.step : Bwd D (afterL bodyBI (after condB V)) (k + 1) where
  o j b h i e := (congrFun (tripB_keep V (by decide) (by decide) (by decide) (by decide) (by decide) (by decide) (by decide) (by decide) (by decide) (by decide) (by decide) (by decide) (by decide) (by decide) (by decide)) _).trans (F.o j b h i e)
  kk j b h i d := (congrFun (tripB_keep V (by decide) (by decide) (by decide) (by decide) (by decide) (by decide) (by decide) (by decide) (by decide) (by decide) (by decide) (by decide) (by decide) (by decide) (by decide)) _).trans (F.kk j b h i d)
  q j b h i d := (congrFun (tripB_keep V (by decide) (by decide) (by decide) (by decide) (by decide) (by decide) (by decide) (by decide) (by decide) (by decide) (by decide) (by decide) (by decide) (by decide) (by decide)) _).trans (F.q j b h i d)
  v j b h i e := (congrFun (tripB_keep V (by decide) (by decide) (by decide) (by decide) (by decide) (by decide) (by decide) (by decide) (by decide) (by decide) (by decide) (by decide) (by decide) (by decide) (by decide)) _).trans (F.v j b h i e)
  sc j b h i l := (congrFun (tripB_keep V (by decide) (by decide) (by decide) (by decide) (by decide) (by decide) (by decide) (by decide) (by decide) (by decide) (by decide) (by decide) (by decide) (by decide) (by decide)) _).trans (F.sc j b h i l)
  ss j b h d e := (congrFun (tripB_keep V (by decide) (by decide) (by decide) (by decide) (by decide) (by decide) (by decide) (by decide) (by decide) (by decide) (by decide) (by decide) (by decide) (by decide) (by decide)) _).trans (F.ss j b h d e)
  ks j b h i d := (congrFun (tripB_keep V (by decide) (by decide) (by decide) (by decide) (by decide) (by decide) (by decide) (by decide) (by decide) (by decide) (by decide) (by decide) (by decide) (by decide) (by decide)) _).trans (F.ks j b h i d)
  dm h i l := (congrFun (tripB_keep V (by decide) (by decide) (by decide) (by decide) (by decide) (by decide) (by decide) (by decide) (by decide) (by decide) (by decide) (by decide) (by decide) (by decide) (by decide)) _).trans (F.dm h i l)
  qd h i := (congrFun (tripB_keep V (by decide) (by decide) (by decide) (by decide) (by decide) (by decide) (by decide) (by decide) (by decide) (by decide) (by decide) (by decide) (by decide) (by decide) (by decide)) _).trans (F.qd h i)
  bd h := (congrFun (tripB_keep V (by decide) (by decide) (by decide) (by decide) (by decide) (by decide) (by decide) (by decide) (by decide) (by decide) (by decide) (by decide) (by decide) (by decide) (by decide)) _).trans (F.bd h)
  kd h i := (congrFun (tripB_keep V (by decide) (by decide) (by decide) (by decide) (by decide) (by decide) (by decide) (by decide) (by decide) (by decide) (by decide) (by decide) (by decide) (by decide) (by decide)) _).trans (F.kd h i)
  ctr := by rw [ctrB_step, ctrB_cond, F.ctr, Scf.iv_succ]; rfl
  ds b h d e := (congrFun (ds_copyB V) _).trans (ds_sumB F b h d e)
  dq := dq_stepB F
  dk := dk_stepB F
  dv := dv_stepB F
end Step

section Loop
variable (m : (ℓ : Loc nD τ sig) → Buf (Elt Ideal) ℓ) (c : Dev nD)

theorem Bwd.at {D : Data} (H : Bwd D (Wmid m c) 0) : ∀ k, k ≤ 64 → Bwd D (WB m k c) k
  | 0, _ => H
  | k + 1, hk => Bwd.step (k := ⟨k, hk⟩) (Bwd.at H k (by omega))
end Loop

end Cert.RetGradRefIdeal.Val
end
-- ==== Proof.RetRefPost.lean ====
/- The reference after its loops: the rotation undone, the scale of the keys, and the columns joined. -/
module
public import proofs.«01_k».proof.Proof.RetRefBwd
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry)

section Post
variable {V : Valuation τ sig (Elt Ideal)}

section Rows
variable {N : ℕ} {f : ℕ → ℕ → ℕ → ℕ → ℝ}

theorem dv_rows (h5 : ∀ (j : Fin 64) (b : Fin 2) (h : Fin 4) (i : Fin 64) (e : Fin 512), (V (Proc.devRef .tc main_v200_15) (ix5 j b h i e) : EReal) = ((f b h (j * 64 + i) e : ℝ) : EReal))
    (b : Fin 2) (s : Fin 4096) (h : Fin 4) (e : Fin 512) : (after post0 V (Proc.devRef .tc main_v202) (ix4 b s h e) : EReal) = ((f b h s e : ℝ) : EReal) := by
  after_reads_simp
  pointwise
  exact (h5 _ b h _ e).trans (by rw [show s.val / 64 * 64 + s.val % 64 = s.val by omega])

theorem dk_rows (h5 : ∀ (j : Fin 64) (b : Fin 2) (h : Fin 4) (i : Fin 64) (e : Fin 256), (V (Proc.devRef .tc main_v200_14) (ix5 j b h i e) : EReal) = ((f b h (j * 64 + i) e : ℝ) : EReal))
    (b : Fin 2) (s : Fin 4096) (h : Fin 4) (e : Fin 256) : (after post0 V (Proc.devRef .tc main_v204) (ix4 b s h e) : EReal) = ((f b h s e : ℝ) : EReal) := by
  after_reads_simp
  pointwise
  exact (h5 _ b h _ e).trans (by rw [show s.val / 64 * 64 + s.val % 64 = s.val by omega])

theorem dq_rows (h5 : ∀ (j : Fin 64) (b : Fin 2) (h : Fin 4) (i : Fin 64) (e : Fin 256), (V (Proc.devRef .tc main_v200_13) (ix5 j b h i e) : EReal) = ((f b h (j * 64 + i) e : ℝ) : EReal))
    (b : Fin 2) (s : Fin 4096) (h : Fin 4) (e : Fin 256) : (after post0 V (Proc.devRef .tc main_v206) (ix4 b s h e) : EReal) = ((f b h s e : ℝ) : EReal) := by
  after_reads_simp
  pointwise
  exact (h5 _ b h _ e).trans (by rw [show s.val / 64 * 64 + s.val % 64 = s.val by omega])
end Rows

theorem unrot_scale (C S x : ℕ → ℝ) (z : ℝ) (d : ℕ) : unrot C S (fun d => x d * z) d = unrot C S x d * z := by
  unfold unrot
  split <;> ring

section Turn
variable {C S x : ℕ → ℝ} {b : Fin 2} {s : Fin 4096} {h : Fin 4}

theorem turn_k (hc : ∀ d : Fin 128, (V (Proc.devRef .tc main_v54) (ix4 0 s 0 d) : EReal) = ((C d : ℝ) : EReal)) (hs : ∀ d : Fin 128, (V (Proc.devRef .tc main_v56) (ix4 0 s 0 d) : EReal) = ((S d : ℝ) : EReal))
    (hx : ∀ (d : ℕ) (hd : d < 256), (V (Proc.devRef .tc main_v204) (ix4 b s h ⟨d, hd⟩) : EReal) = ((x d : ℝ) : EReal)) (d : Fin 256) :
    (after post1 V (Proc.devRef .tc main_v224) (ix4 b s h d) : EReal) = ((unrot C S x d * (1 / 16) : ℝ) : EReal) := by
  rw [← unrot_scale]
  after_reads_simp
  pointwise
  have hd : (V (Proc.devRef .tc main_v204) (ix4 b s h d) : EReal) = ((x d : ℝ) : EReal) := hx d d.isLt
  unfold unrot
  by_cases h1 : d.val < 128
  · rw [dif_neg (by omega), dif_pos h1, if_pos h1]
    simp only [hx, hc, hs, hd, Cert.RetGradIdeal.Head.word_16th, ← EReal.coe_mul, ← EReal.coe_add, zero_add, EReal.coe_eq_coe_iff]
    ring_nf
  · rw [dif_pos (by omega), dif_neg h1, if_neg h1]
    simp only [hx, hc, hs, Cert.RetGradIdeal.Head.word_16th, ← EReal.coe_mul, ← EReal.coe_neg, ← EReal.coe_add, add_zero, EReal.coe_eq_coe_iff]
    ring_nf

theorem turn_q (hc : ∀ d : Fin 128, (V (Proc.devRef .tc main_v23) (ix4 0 s 0 d) : EReal) = ((C d : ℝ) : EReal)) (hs : ∀ d : Fin 128, (V (Proc.devRef .tc main_v25) (ix4 0 s 0 d) : EReal) = ((S d : ℝ) : EReal))
    (hx : ∀ (d : ℕ) (hd : d < 256), (V (Proc.devRef .tc main_v206) (ix4 b s h ⟨d, hd⟩) : EReal) = ((x d : ℝ) : EReal)) (d : Fin 256) :
    (after post3 (after post2 V) (Proc.devRef .tc main_v240) (ix4 b s h d) : EReal) = ((unrot C S x d : ℝ) : EReal) := by
  after_reads_simp
  pointwise
  have hd : (V (Proc.devRef .tc main_v206) (ix4 b s h d) : EReal) = ((x d : ℝ) : EReal) := hx d d.isLt
  unfold unrot
  by_cases h1 : d.val < 128
  · rw [dif_neg (by omega), dif_pos h1, if_pos h1]
    simp only [hx, hc, hs, hd, ← EReal.coe_mul, ← EReal.coe_add, zero_add, EReal.coe_eq_coe_iff]
    ring_nf
  · rw [dif_pos (by omega), dif_neg h1, if_neg h1]
    simp only [hx, hc, hs, ← EReal.coe_mul, ← EReal.coe_neg, ← EReal.coe_add, add_zero, EReal.coe_eq_coe_iff]
    ring_nf
end Turn

theorem gain_out {f : ℕ → ℝ} (hf : ∀ n : Fin 2048, (V (Proc.devRef .tc main_v168) (ix1 n) : EReal) = ((f n : ℝ) : EReal)) (n : Fin 2048) :
    (after post4 V (Proc.devRef .tc main_v247) (ix2 0 n) : EReal) = ((f n : ℝ) : EReal) := by
  after_reads_simp
  pointwise
  exact hf n

theorem columns {D : Data}
    (hq : ∀ (b : Fin 2) (s : Fin 4096) (h : Fin 4) (d : Fin 256), (V (Proc.devRef .tc main_v240) (ix4 b s h d) : EReal) = ((D.outQ b h s d : ℝ) : EReal))
    (hk : ∀ (b : Fin 2) (s : Fin 4096) (h : Fin 4) (d : Fin 256), (V (Proc.devRef .tc main_v224) (ix4 b s h d) : EReal) = ((D.outK b h s d : ℝ) : EReal))
    (hv : ∀ (b : Fin 2) (s : Fin 4096) (h : Fin 4) (e : Fin 512), (V (Proc.devRef .tc main_v202) (ix4 b s h e) : EReal) = ((D.DV b h s e : ℝ) : EReal))
    (hg : ∀ (b : Fin 2) (s : Fin 4096) (n : Fin 2048), (V (Proc.devRef .tc main_v162) (ix3 b s n) : EReal) = ((D.outG b (n / 512) s (n % 512) : ℝ) : EReal))
    (r : Fin 8192) (n : Fin 6144) :
    (after post4 V (Proc.devRef .tc main_v246) (ix2 r n) : EReal) = ((D.outP (r / 4096) (r % 4096) n : ℝ) : EReal) := by
  refine entry (B := ?B) ?a ?b
  case a => after_reads_simp; rfl
  pointwise
  after_reads_simp
  pointwise
  have hr := r.isLt
  have hn := n.isLt
  unfold Data.outP
  by_cases h1 : n.val < 1024
  · rw [dif_pos h1, if_pos h1]
    exact hq _ _ _ _
  · rw [dif_neg h1, if_neg h1]
    by_cases h2 : n.val < 2048
    · rw [dif_pos (by omega), if_pos h2]
      exact (hk _ _ _ _).trans (by
        show ((D.outK (r.val / 4096) ((n.val - 1024) / 256) (r.val % 4096) ((n.val - 1024) % 256) : ℝ) : EReal) = _
        rw [show (n.val - 1024) % 256 = n.val % 256 by omega])
    · rw [dif_neg (by omega), if_neg h2]
      by_cases h3 : n.val < 4096
      · rw [dif_pos (by omega), if_pos h3]
        exact (hv _ _ _ _).trans (by
          show ((D.DV (r.val / 4096) ((n.val - 1024 - 1024) / 512) (r.val % 4096) ((n.val - 1024 - 1024) % 512) : ℝ) : EReal) = _
          rw [show (n.val - 1024 - 1024) / 512 = (n.val - 2048) / 512 by omega, show (n.val - 1024 - 1024) % 512 = n.val % 512 by omega])
      · rw [dif_neg (by omega), if_neg h3]
        exact (hg _ _ _).trans (by
          show ((D.outG (r.val / 4096) ((n.val - 1024 - 1024 - 2048) / 512) (r.val % 4096) ((n.val - 1024 - 1024 - 2048) % 512) : ℝ) : EReal) = _
          rw [show (n.val - 1024 - 1024 - 2048) / 512 = (n.val - 4096) / 512 by omega, show (n.val - 1024 - 1024 - 2048) % 512 = n.val % 512 by omega])
end Post
end Cert.RetGradRefIdeal.Val
end
-- ==== Proof.RetRefJoin.lean ====
/- The reference joined: what its first loop leaves, the gradients between the loops, the second loop, and its two results. -/
module
public import proofs.«01_k».proof.Proof.RetRefMid
public import proofs.«01_k».proof.Proof.RetRefPost
@[expose] public section
set_option maxRecDepth 16384
set_option maxHeartbeats 1000000
noncomputable section
namespace Cert.RetGradRefIdeal.Val
open Idealize.ShloMosaic Idealize.SL.Sem Cert.RetGradRefIdeal Cert.RetGradRefIdeal.Loops Cert.RetMath Idealize.ShloMosaic.StableHlo
open Cert.RetGradIdeal.Win (dite_coe sum_to entry cos_word sin_word)

section Start
variable (W : Valuation τ sig (Elt Ideal))

theorem gate_at (H : Rl W) (b : Fin 2) (s : Fin 4096) (n : Fin 2048) : (pre W (Proc.devRef .tc main_v3) (ix3 b s n) : EReal) = (((D W).p b s (4096 + n) : ℝ) : EReal) := by
  simp only [pre, preI, afterL_cons, afterL_nil]
  after_reads_simp
  pointwise
  exact arg0_at W H b _ _ (by omega)

theorem cq_at (s : Fin 4096) (d : Fin 128) : (pre W (Proc.devRef .tc main_v23) (ix4 0 s 0 d) : EReal) = (((D W).C s d : ℝ) : EReal) := by
  simp only [pre, preI, afterL_cons, afterL_nil]
  after_reads_simp
  pointwise
  simp only [cos_word (show s.val < 2147483648 by omega) (show d.val < 2147483648 by omega)]
  rfl

theorem sq_at (s : Fin 4096) (d : Fin 128) : (pre W (Proc.devRef .tc main_v25) (ix4 0 s 0 d) : EReal) = (((D W).S s d : ℝ) : EReal) := by
  simp only [pre, preI, afterL_cons, afterL_nil]
  after_reads_simp
  pointwise
  simp only [sin_word (show s.val < 2147483648 by omega) (show d.val < 2147483648 by omega)]
  rfl

theorem ck_at (s : Fin 4096) (d : Fin 128) : (pre W (Proc.devRef .tc main_v54) (ix4 0 s 0 d) : EReal) = (((D W).C s d : ℝ) : EReal) := by
  simp only [pre, preI, afterL_cons, afterL_nil]
  after_reads_simp
  pointwise
  simp only [cos_word (show s.val < 2147483648 by omega) (show d.val < 2147483648 by omega)]
  rfl

theorem sk_at (s : Fin 4096) (d : Fin 128) : (pre W (Proc.devRef .tc main_v56) (ix4 0 s 0 d) : EReal) = (((D W).S s d : ℝ) : EReal) := by
  simp only [pre, preI, afterL_cons, afterL_nil]
  after_reads_simp
  pointwise
  simp only [sin_word (show s.val < 2147483648 by omega) (show d.val < 2147483648 by omega)]
  rfl

theorem q_copy : pre W (Proc.devRef .tc main_v73) = pre W (Proc.devRef .tc main_v127_0) := by
  have h (X : Valuation τ sig (Elt Ideal)) : after pre8 X (Proc.devRef .tc main_v127_0) = X (Proc.devRef .tc main_v73) := by
    after_reads_simp
    rfl
  have e (X : Valuation τ sig (Elt Ideal)) : after pre8 X (Proc.devRef .tc main_v73) = after pre8 X (Proc.devRef .tc main_v127_0) :=
    (after_of_writes_sub pre8 X pre8_writes (by decide)).trans (h X).symm
  simp only [pre, preI, afterL_cons, afterL_nil]
  exact e _

theorem k_copy : pre W (Proc.devRef .tc main_v75) = pre W (Proc.devRef .tc main_v127_1) := by
  have h (X : Valuation τ sig (Elt Ideal)) : after pre8 X (Proc.devRef .tc main_v127_1) = X (Proc.devRef .tc main_v75) := by
    after_reads_simp
    rfl
  have e (X : Valuation τ sig (Elt Ideal)) : after pre8 X (Proc.devRef .tc main_v75) = after pre8 X (Proc.devRef .tc main_v127_1) :=
    (after_of_writes_sub pre8 X pre8_writes (by decide)).trans (h X).symm
  simp only [pre, preI, afterL_cons, afterL_nil]
  exact e _

theorem v_copy : pre W (Proc.devRef .tc main_v77) = pre W (Proc.devRef .tc main_v127_2) := by
  have h (X : Valuation τ sig (Elt Ideal)) : after pre8 X (Proc.devRef .tc main_v127_2) = X (Proc.devRef .tc main_v77) := by
    after_reads_simp
    rfl
  have e (X : Valuation τ sig (Elt Ideal)) : after pre8 X (Proc.devRef .tc main_v77) = after pre8 X (Proc.devRef .tc main_v127_2) :=
    (after_of_writes_sub pre8 X pre8_writes (by decide)).trans (h X).symm
  simp only [pre, preI, afterL_cons, afterL_nil]
  exact e _

theorem dm_copy : pre W (Proc.devRef .tc main_v119) = pre W (Proc.devRef .tc main_v127_5) := by
  have h (X : Valuation τ sig (Elt Ideal)) : after pre8 X (Proc.devRef .tc main_v127_5) = X (Proc.devRef .tc main_v119) := by
    after_reads_simp
    rfl
  have e (X : Valuation τ sig (Elt Ideal)) : after pre8 X (Proc.devRef .tc main_v119) = after pre8 X (Proc.devRef .tc main_v127_5) :=
    (after_of_writes_sub pre8 X pre8_writes (by decide)).trans (h X).symm
  simp only [pre, preI, afterL_cons, afterL_nil]
  exact e _

theorem qd_copy : pre W (Proc.devRef .tc main_v120) = pre W (Proc.devRef .tc main_v127_6) := by
  have h (X : Valuation τ sig (Elt Ideal)) : after pre8 X (Proc.devRef .tc main_v127_6) = X (Proc.devRef .tc main_v120) := by
    after_reads_simp
    rfl
  have e (X : Valuation τ sig (Elt Ideal)) : after pre8 X (Proc.devRef .tc main_v120) = after pre8 X (Proc.devRef .tc main_v127_6) :=
    (after_of_writes_sub pre8 X pre8_writes (by decide)).trans (h X).symm
  simp only [pre, preI, afterL_cons, afterL_nil]
  exact e _

theorem bd_copy : pre W (Proc.devRef .tc main_v121) = pre W (Proc.devRef .tc main_v127_3) := by
  have h (X : Valuation τ sig (Elt Ideal)) : after pre8 X (Proc.devRef .tc main_v127_3) = X (Proc.devRef .tc main_v121) := by
    after_reads_simp
    rfl
  have e (X : Valuation τ sig (Elt Ideal)) : after pre8 X (Proc.devRef .tc main_v121) = after pre8 X (Proc.devRef .tc main_v127_3) :=
    (after_of_writes_sub pre8 X pre8_writes (by decide)).trans (h X).symm
  simp only [pre, preI, afterL_cons, afterL_nil]
  exact e _

theorem kd_copy : pre W (Proc.devRef .tc main_v122) = pre W (Proc.devRef .tc main_v127_4) := by
  have h (X : Valuation τ sig (Elt Ideal)) : after pre8 X (Proc.devRef .tc main_v127_4) = X (Proc.devRef .tc main_v122) := by
    after_reads_simp
    rfl
  have e (X : Valuation τ sig (Elt Ideal)) : after pre8 X (Proc.devRef .tc main_v122) = after pre8 X (Proc.devRef .tc main_v127_4) :=
    (after_of_writes_sub pre8 X pre8_writes (by decide)).trans (h X).symm
  simp only [pre, preI, afterL_cons, afterL_nil]
  exact e _

end Start

section Loops
variable (m : (ℓ : Loc nD τ sig) → Buf (Elt Ideal) ℓ) (c : Dev nD)

theorem WA_keep {r : Ref sig .tc} (h0 : r ∉ condA_W) (h1 : r ∉ bodyA0_W) (h2 : r ∉ bodyA1_W) (h3 : r ∉ bodyA2_W) (h4 : r ∉ bodyA3_W) (h5 : r ∉ bodyA4_W) (h6 : r ∉ bodyA5_W) (h7 : r ∉ bodyA6_W) (h8 : r ∉ bodyA7_W) (h9 : r ∉ bodyA8_W) (h10 : r ∉ bodyA9_W) : ∀ k, WA m k c (Proc.devRef .tc r) = pre (W0 m c) (Proc.devRef .tc r)
  | 0 => rfl
  | k + 1 => (trip_keep (WA m k c) h0 h1 h2 h3 h4 h5 h6 h7 h8 h9 h10).trans (WA_keep h0 h1 h2 h3 h4 h5 h6 h7 h8 h9 h10 k)

theorem WA'_keep {r : Ref sig .tc} (h0 : r ∉ condA_W) (h1 : r ∉ bodyA0_W) (h2 : r ∉ bodyA1_W) (h3 : r ∉ bodyA2_W) (h4 : r ∉ bodyA3_W) (h5 : r ∉ bodyA4_W) (h6 : r ∉ bodyA5_W) (h7 : r ∉ bodyA6_W) (h8 : r ∉ bodyA7_W) (h9 : r ∉ bodyA8_W) (h10 : r ∉ bodyA9_W) : WA' m c (Proc.devRef .tc r) = pre (W0 m c) (Proc.devRef .tc r) :=
  (after_of_writes_sub condA _ condA_writes h0).trans (WA_keep m c h0 h1 h2 h3 h4 h5 h6 h7 h8 h9 h10 nT)

theorem WB_keep {r : Ref sig .tc} (h0 : r ∉ condB_W) (h1 : r ∉ bodyB0_W) (h2 : r ∉ bodyB1_W) (h3 : r ∉ bodyB2_W) (h4 : r ∉ bodyB3_W) (h5 : r ∉ bodyB4_W) (h6 : r ∉ bodyB5_W) (h7 : r ∉ bodyB6_W) (h8 : r ∉ bodyB7_W) (h9 : r ∉ bodyB8_W) (h10 : r ∉ bodyB9_W) (h11 : r ∉ bodyB10_W) (h12 : r ∉ bodyB11_W) (h13 : r ∉ bodyB12_W) (h14 : r ∉ bodyB13_W) : ∀ k, WB m k c (Proc.devRef .tc r) = Wmid m c (Proc.devRef .tc r)
  | 0 => rfl
  | k + 1 => (tripB_keep (WB m k c) h0 h1 h2 h3 h4 h5 h6 h7 h8 h9 h10 h11 h12 h13 h14).trans (WB_keep h0 h1 h2 h3 h4 h5 h6 h7 h8 h9 h10 h11 h12 h13 h14 k)

theorem WB'_keep {r : Ref sig .tc} (h0 : r ∉ condB_W) (h1 : r ∉ bodyB0_W) (h2 : r ∉ bodyB1_W) (h3 : r ∉ bodyB2_W) (h4 : r ∉ bodyB3_W) (h5 : r ∉ bodyB4_W) (h6 : r ∉ bodyB5_W) (h7 : r ∉ bodyB6_W) (h8 : r ∉ bodyB7_W) (h9 : r ∉ bodyB8_W) (h10 : r ∉ bodyB9_W) (h11 : r ∉ bodyB10_W) (h12 : r ∉ bodyB11_W) (h13 : r ∉ bodyB12_W) (h14 : r ∉ bodyB13_W) : WB' m c (Proc.devRef .tc r) = Wmid m c (Proc.devRef .tc r) :=
  (after_of_writes_sub condB _ condB_writes h0).trans (WB_keep m c h0 h1 h2 h3 h4 h5 h6 h7 h8 h9 h10 h11 h12 h13 h14 nT)

/-- The state after the first `n` parts of the code between the loops. -/
abbrev X1 : Valuation τ sig (Elt Ideal) := after mid0 (WA' m c)
abbrev X2 : Valuation τ sig (Elt Ideal) := after mid1 (X1 m c)
abbrev X3 : Valuation τ sig (Elt Ideal) := after mid2 (X2 m c)
abbrev X4 : Valuation τ sig (Elt Ideal) := after mid3 (X3 m c)
abbrev X5 : Valuation τ sig (Elt Ideal) := after mid4 (X4 m c)
abbrev X6 : Valuation τ sig (Elt Ideal) := after mid5 (X5 m c)
abbrev X7 : Valuation τ sig (Elt Ideal) := after mid6 (X6 m c)
abbrev X8 : Valuation τ sig (Elt Ideal) := after mid7 (X7 m c)
abbrev X9 : Valuation τ sig (Elt Ideal) := after mid8 (X8 m c)

/-- The state after the first `n` parts of the code after the loops. -/
abbrev Y1 : Valuation τ sig (Elt Ideal) := after post0 (WB' m c)
abbrev Y2 : Valuation τ sig (Elt Ideal) := after post1 (Y1 m c)
abbrev Y3 : Valuation τ sig (Elt Ideal) := after post2 (Y2 m c)
abbrev Y4 : Valuation τ sig (Elt Ideal) := after post3 (Y3 m c)

variable (H : Rl (W0 m c))
include H

theorem o_end (j : Fin 64) (b : Fin 2) (h : Fin 4) (i : Fin 64) (e : Fin 512) : (WA' m c (Proc.devRef .tc main_v127_9) (ix5 j b h i e) : EReal) = (((D (W0 m c)).O b h (j * 64 + i) e : ℝ) : EReal) :=
  (congrFun (after_of_writes_sub condA _ condA_writes (by decide)) _).trans ((Fwd.at m c H 64 le_rfl).o j j.isLt b h i e)

theorem g_pre (n : Fin 2048) : (pre (W0 m c) (Proc.devRef .tc main_arg1) (ix1 n) : EReal) = (((D (W0 m c)).gn n : ℝ) : EReal) :=
  (congrFun (preI_keep (W0 m c) _ (by decide)) _).trans (g_at H n)

theorem y_pre (b : Fin 2) (s : Fin 4096) (n : Fin 2048) : (pre (W0 m c) (Proc.devRef .tc main_arg2) (ix3 b s n) : EReal) = (((D (W0 m c)).y b s n : ℝ) : EReal) :=
  (congrFun (preI_keep (W0 m c) _ (by decide)) _).trans (y_at H b s n)

theorem gain_mid (n : Fin 2048) : (X1 m c (Proc.devRef .tc main_arg1) (ix1 n) : EReal) = (((D (W0 m c)).gn n : ℝ) : EReal) :=
  (congrFun ((after_of_writes_sub mid0 _ mid0_writes (by decide)).trans (WA'_keep m c (by decide) (by decide) (by decide) (by decide) (by decide) (by decide) (by decide) (by decide) (by decide) (by decide) (by decide))) _).trans (g_pre m c H n)

theorem xh_mid (b : Fin 2) (s : Fin 4096) (n : Fin 2048) : (X2 m c (Proc.devRef .tc main_v153) (ix3 b s n) : EReal) = ((xh ((D (W0 m c)).O b (n / 512) s) (n % 512) : ℝ) : EReal) :=
  xh_at (X1 m c) (var_at _ (o_end m c H)) (cen_at _ (o_end m c H)) (eps_at _) b s n

theorem xg_mid (b : Fin 2) (s : Fin 4096) (n : Fin 2048) : (X2 m c (Proc.devRef .tc main_v156) (ix3 b s n) : EReal) = ((xh ((D (W0 m c)).O b (n / 512) s) (n % 512) * (D (W0 m c)).gn n : ℝ) : EReal) :=
  xg_at (X1 m c) (var_at _ (o_end m c H)) (cen_at _ (o_end m c H)) (eps_at _) (gain_mid m c H) b s n

theorem gate_mid (b : Fin 2) (s : Fin 4096) (n : Fin 2048) : (X2 m c (Proc.devRef .tc main_v3) (ix3 b s n) : EReal) = (((D (W0 m c)).p b s (4096 + n) : ℝ) : EReal) :=
  (congrFun (((after_of_writes_sub mid1 _ mid1_writes (by decide)).trans (after_of_writes_sub mid0 _ mid0_writes (by decide))).trans (WA'_keep m c (by decide) (by decide) (by decide) (by decide) (by decide) (by decide) (by decide) (by decide) (by decide) (by decide) (by decide))) _).trans (gate_at (W0 m c) H b s n)

theorem y_mid (b : Fin 2) (s : Fin 4096) (n : Fin 2048) : (X3 m c (Proc.devRef .tc main_arg2) (ix3 b s n) : EReal) = (((D (W0 m c)).y b s n : ℝ) : EReal) :=
  (congrFun ((((after_of_writes_sub mid2 _ mid2_writes (by decide)).trans (after_of_writes_sub mid1 _ mid1_writes (by decide))).trans (after_of_writes_sub mid0 _ mid0_writes (by decide))).trans (WA'_keep m c (by decide) (by decide) (by decide) (by decide) (by decide) (by decide) (by decide) (by decide) (by decide) (by decide) (by decide))) _).trans (y_pre m c H b s n)

theorem gy_mid (b : Fin 2) (s : Fin 4096) (n : Fin 2048) : (X4 m c (Proc.devRef .tc main_v160) (ix3 b s n) : EReal)
    = (((D (W0 m c)).p b s (4096 + n) * sgm ((D (W0 m c)).p b s (4096 + n)) * (D (W0 m c)).y b s n : ℝ) : EReal) :=
  gy_at (X3 m c) (silu_at (X2 m c) (g := fun b s n => (D (W0 m c)).p b s (4096 + n)) (gate_mid m c H) b s n) (y_mid m c H b s n)

theorem yx_mid (b : Fin 2) (s : Fin 4096) (n : Fin 2048) : (X4 m c (Proc.devRef .tc main_v161) (ix3 b s n) : EReal)
    = (((D (W0 m c)).y b s n * (xh ((D (W0 m c)).O b (n / 512) s) (n % 512) * (D (W0 m c)).gn n) : ℝ) : EReal) :=
  yx_at (X3 m c) ((congrFun (after_of_writes_sub mid2 _ mid2_writes (by decide)) _).trans (xg_mid m c H b s n)) (y_mid m c H b s n)

omit H in
/-- A column of the 2048 by its head and place. -/
theorem col (n : Fin 2048) : 512 * (n.val / 512) + n.val % 512 = n.val := by omega

theorem dg_mid (b : Fin 2) (s : Fin 4096) (n : Fin 2048) : (X5 m c (Proc.devRef .tc main_v162) (ix3 b s n) : EReal)
    = (((D (W0 m c)).outG b (n / 512) s (n % 512) : ℝ) : EReal) := by
  refine (dg_at (X4 m c) (yx_mid m c H b s n) ((congrFun (((((after_of_writes_sub mid3 _ mid3_writes (by decide)).trans (after_of_writes_sub mid2 _ mid2_writes (by decide))).trans (after_of_writes_sub mid1 _ mid1_writes (by decide))).trans (after_of_writes_sub mid0 _ mid0_writes (by decide))).trans (WA'_keep m c (by decide) (by decide) (by decide) (by decide) (by decide) (by decide) (by decide) (by decide) (by decide) (by decide) (by decide))) _).trans (gate_at (W0 m c) H b s n))
    ((congrFun (after_of_writes_sub mid3 _ mid3_writes (by decide)) _).trans (sgm_at (X2 m c) (g := fun b s n => (D (W0 m c)).p b s (4096 + n)) (gate_mid m c H) b s n))
    ((congrFun (after_of_writes_sub mid3 _ mid3_writes (by decide)) _).trans (slope_at (X2 m c) (g := fun b s n => (D (W0 m c)).p b s (4096 + n)) (gate_mid m c H) b s n))).trans (congrArg _ ?_)
  simp only [Data.outG, rowG, Data.Y, Data.G, Data.Gn, add_assoc, col n]
  ring

theorem dgn_mid (n : Fin 2048) : (X7 m c (Proc.devRef .tc main_v168) (ix1 n) : EReal) = (((D (W0 m c)).outGn n : ℝ) : EReal) := by
  refine (dgn_at (X5 m c) (x := fun b s => xh ((D (W0 m c)).O b (n / 512) s) (n % 512)) (y := fun b s => (D (W0 m c)).p b s (4096 + n) * sgm ((D (W0 m c)).p b s (4096 + n)) * (D (W0 m c)).y b s n)
    (fun b s => (congrFun (((after_of_writes_sub mid4 _ mid4_writes (by decide)).trans (after_of_writes_sub mid3 _ mid3_writes (by decide))).trans (after_of_writes_sub mid2 _ mid2_writes (by decide))) _).trans (xh_mid m c H b s n)) (fun b s => (congrFun (after_of_writes_sub mid4 _ mid4_writes (by decide)) _).trans (gy_mid m c H b s n))).trans (congrArg _ ?_)
  simp only [Data.outGn, Data.gain, rowGn, Data.Y, Data.G, add_assoc, col n]
  refine Finset.sum_congr rfl fun b _ => Finset.sum_congr rfl fun s _ => ?_
  ring

theorem do_mid (b : Fin 2) (s : Fin 4096) (h : Fin 4) (e : Fin 512) : (X8 m c (Proc.devRef .tc main_v193) (ix4 b s h e) : EReal) = (((D (W0 m c)).DO b h s e : ℝ) : EReal) :=
  do_at (X5 m c) (o := (D (W0 m c)).O b h s) (y := (D (W0 m c)).Y b h s) (g := (D (W0 m c)).G b h s) (gn := (D (W0 m c)).Gn h)
    (fun e he => ((congrFun (after_of_writes_sub mid4 _ mid4_writes (by decide)) _).trans (gy_mid m c H b s _)).trans (by simp only [Data.Y, Data.G, add_assoc, mul_comm h.val]))
    (fun e he => ((congrFun (((after_of_writes_sub mid4 _ mid4_writes (by decide)).trans (after_of_writes_sub mid3 _ mid3_writes (by decide))).trans (after_of_writes_sub mid2 _ mid2_writes (by decide))) _).trans (g1_at (X1 m c) (gain_mid m c H) _)).trans (by simp only [Data.Gn, mul_comm h.val]))
    ((congrFun (((after_of_writes_sub mid4 _ mid4_writes (by decide)).trans (after_of_writes_sub mid3 _ mid3_writes (by decide))).trans (after_of_writes_sub mid2 _ mid2_writes (by decide))) _).trans (r_at (X1 m c) (var_at _ (o_end m c H)) (eps_at _) b s h))
    ((congrFun (((after_of_writes_sub mid4 _ mid4_writes (by decide)).trans (after_of_writes_sub mid3 _ mid3_writes (by decide))).trans (after_of_writes_sub mid2 _ mid2_writes (by decide))) _).trans (hr_at (X1 m c) (var_at _ (o_end m c H)) (eps_at _) b s h))
    (fun e => (congrFun ((((after_of_writes_sub mid4 _ mid4_writes (by decide)).trans (after_of_writes_sub mid3 _ mid3_writes (by decide))).trans (after_of_writes_sub mid2 _ mid2_writes (by decide))).trans (after_of_writes_sub mid1 _ mid1_writes (by decide))) _).trans (cen_at _ (o_end m c H) b s h e))
    (fun e => (congrFun ((((after_of_writes_sub mid4 _ mid4_writes (by decide)).trans (after_of_writes_sub mid3 _ mid3_writes (by decide))).trans (after_of_writes_sub mid2 _ mid2_writes (by decide))).trans (after_of_writes_sub mid1 _ mid1_writes (by decide))) _).trans (cen2_at _ (o_end m c H) b s h e)) e

omit H in
/-- What the last part before the second loop copies. -/
theorem copy_1 : Wmid m c (Proc.devRef .tc main_v200_1) = WA' m c (Proc.devRef .tc main_v75) := by
  have h (X : Valuation τ sig (Elt Ideal)) : after mid9 X (Proc.devRef .tc main_v200_1) = X (Proc.devRef .tc main_v75) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_2 : Wmid m c (Proc.devRef .tc main_v200_2) = WA' m c (Proc.devRef .tc main_v73) := by
  have h (X : Valuation τ sig (Elt Ideal)) : after mid9 X (Proc.devRef .tc main_v200_2) = X (Proc.devRef .tc main_v73) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_3 : Wmid m c (Proc.devRef .tc main_v200_3) = WA' m c (Proc.devRef .tc main_v77) := by
  have h (X : Valuation τ sig (Elt Ideal)) : after mid9 X (Proc.devRef .tc main_v200_3) = X (Proc.devRef .tc main_v77) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_4 : Wmid m c (Proc.devRef .tc main_v200_4) = WA' m c (Proc.devRef .tc main_v127_10) := by
  have h (X : Valuation τ sig (Elt Ideal)) : after mid9 X (Proc.devRef .tc main_v200_4) = X (Proc.devRef .tc main_v127_10) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_5 : Wmid m c (Proc.devRef .tc main_v200_5) = WA' m c (Proc.devRef .tc main_v127_11) := by
  have h (X : Valuation τ sig (Elt Ideal)) : after mid9 X (Proc.devRef .tc main_v200_5) = X (Proc.devRef .tc main_v127_11) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_6 : Wmid m c (Proc.devRef .tc main_v200_6) = WA' m c (Proc.devRef .tc main_v127_12) := by
  have h (X : Valuation τ sig (Elt Ideal)) : after mid9 X (Proc.devRef .tc main_v200_6) = X (Proc.devRef .tc main_v127_12) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_7 : Wmid m c (Proc.devRef .tc main_v200_7) = WA' m c (Proc.devRef .tc main_v119) := by
  have h (X : Valuation τ sig (Elt Ideal)) : after mid9 X (Proc.devRef .tc main_v200_7) = X (Proc.devRef .tc main_v119) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_8 : Wmid m c (Proc.devRef .tc main_v200_8) = WA' m c (Proc.devRef .tc main_v120) := by
  have h (X : Valuation τ sig (Elt Ideal)) : after mid9 X (Proc.devRef .tc main_v200_8) = X (Proc.devRef .tc main_v120) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_9 : Wmid m c (Proc.devRef .tc main_v200_9) = WA' m c (Proc.devRef .tc main_v121) := by
  have h (X : Valuation τ sig (Elt Ideal)) : after mid9 X (Proc.devRef .tc main_v200_9) = X (Proc.devRef .tc main_v121) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem copy_10 : Wmid m c (Proc.devRef .tc main_v200_10) = WA' m c (Proc.devRef .tc main_v122) := by
  have h (X : Valuation τ sig (Elt Ideal)) : after mid9 X (Proc.devRef .tc main_v200_10) = X (Proc.devRef .tc main_v122) := by
    after_reads_simp
    rfl
  exact (h _).trans (((((((((after_of_writes_sub mid8 _ mid8_writes (by decide)).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide)))

omit H in
theorem zero_12 (b : Fin 2) (h : Fin 4) (d : Fin 256) (e : Fin 512) : (Wmid m c (Proc.devRef .tc main_v200_12) (ix4 b h d e) : EReal) = ((0 : ℝ) : EReal) := by
  have h (X : Valuation τ sig (Elt Ideal)) : (after mid9 (after mid8 X) (Proc.devRef .tc main_v200_12) (ix4 b h d e) : EReal) = ((0 : ℝ) : EReal) := by
    after_reads_simp
    simp only [id_eq]
    pointwise
    rfl
  exact h _

theorem Bwd.start : Bwd (D (W0 m c)) (Wmid m c) 0 where
  o j b h i e := ch_at (X8 m c) j b h i e (do_mid m c H b _ h e)
  kk j b h i d := (congrFun ((copy_1 m c).trans ((WA'_keep m c (by decide) (by decide) (by decide) (by decide) (by decide) (by decide) (by decide) (by decide) (by decide) (by decide) (by decide)).trans (k_copy _))) _).trans (k_at _ H j b h i d)
  q j b h i d := (congrFun ((copy_2 m c).trans ((WA'_keep m c (by decide) (by decide) (by decide) (by decide) (by decide) (by decide) (by decide) (by decide) (by decide) (by decide) (by decide)).trans (q_copy _))) _).trans (q_at _ H j b h i d)
  v j b h i e := (congrFun ((copy_3 m c).trans ((WA'_keep m c (by decide) (by decide) (by decide) (by decide) (by decide) (by decide) (by decide) (by decide) (by decide) (by decide) (by decide)).trans (v_copy _))) _).trans (v_at _ H j b h i e)
  sc j b h i l := (congrFun ((copy_4 m c).trans (after_of_writes_sub condA _ condA_writes (by decide))) _).trans ((Fwd.at m c H 64 le_rfl).sc j j.isLt b h i l)
  ss j b h d e := (congrFun ((copy_5 m c).trans (after_of_writes_sub condA _ condA_writes (by decide))) _).trans ((Fwd.at m c H 64 le_rfl).ss j j.isLt b h d e)
  ks j b h i d := (congrFun ((copy_6 m c).trans (after_of_writes_sub condA _ condA_writes (by decide))) _).trans ((Fwd.at m c H 64 le_rfl).ks j j.isLt b h i d)
  dm h i l := (congrFun ((copy_7 m c).trans ((WA'_keep m c (by decide) (by decide) (by decide) (by decide) (by decide) (by decide) (by decide) (by decide) (by decide) (by decide) (by decide)).trans (dm_copy _))) _).trans (dm_at _ h i l)
  qd h i := (congrFun ((copy_8 m c).trans ((WA'_keep m c (by decide) (by decide) (by decide) (by decide) (by decide) (by decide) (by decide) (by decide) (by decide) (by decide) (by decide)).trans (qd_copy _))) _).trans (qd_at _ h i)
  bd h := (congrFun ((copy_9 m c).trans ((WA'_keep m c (by decide) (by decide) (by decide) (by decide) (by decide) (by decide) (by decide) (by decide) (by decide) (by decide) (by decide)).trans (bd_copy _))) _).trans (bd_at _ h)
  kd h i := (congrFun ((copy_10 m c).trans ((WA'_keep m c (by decide) (by decide) (by decide) (by decide) (by decide) (by decide) (by decide) (by decide) (by decide) (by decide) (by decide)).trans (kd_copy _))) _).trans (kd_at _ h i)
  ctr := by rw [ctrB_entry, Scf.iv_zero]
  ds := zero_12 m c
  dq j hj := absurd hj (by omega)
  dk j hj := absurd hj (by omega)
  dv j hj := absurd hj (by omega)

theorem bwd_end : Bwd (D (W0 m c)) (WB m nT c) 64 := Bwd.at m c (Bwd.start m c H) 64 le_rfl

theorem dv_end (b : Fin 2) (s : Fin 4096) (h : Fin 4) (e : Fin 512) : (Y1 m c (Proc.devRef .tc main_v202) (ix4 b s h e) : EReal) = (((D (W0 m c)).DV b h s e : ℝ) : EReal) :=
  dv_rows (V := WB' m c) (f := fun b h s e => (D (W0 m c)).DV b h s e) (fun j b h i e => (congrFun (after_of_writes_sub condB _ condB_writes (by decide)) _).trans ((bwd_end m c H).dv j (Nat.le_add_left 64 j.val) b h i e)) b s h e

theorem dk_end (b : Fin 2) (s : Fin 4096) (h : Fin 4) (d : Fin 256) : (Y1 m c (Proc.devRef .tc main_v204) (ix4 b s h d) : EReal) = (((D (W0 m c)).DK b h s d : ℝ) : EReal) :=
  dk_rows (V := WB' m c) (f := fun b h s e => (D (W0 m c)).DK b h s e) (fun j b h i e => (congrFun (after_of_writes_sub condB _ condB_writes (by decide)) _).trans ((bwd_end m c H).dk j (Nat.le_add_left 64 j.val) b h i e)) b s h d

theorem dq_end (b : Fin 2) (s : Fin 4096) (h : Fin 4) (d : Fin 256) : (Y1 m c (Proc.devRef .tc main_v206) (ix4 b s h d) : EReal) = (((D (W0 m c)).DQ b h s d : ℝ) : EReal) :=
  dq_rows (V := WB' m c) (f := fun b h s e => (D (W0 m c)).DQ b h s e) (fun j b h i e => (congrFun (after_of_writes_sub condB _ condB_writes (by decide)) _).trans ((bwd_end m c H).dq j (Nat.le_add_left 64 j.val) b h i e)) b s h d

theorem outK_end (b : Fin 2) (s : Fin 4096) (h : Fin 4) (d : Fin 256) : (Y2 m c (Proc.devRef .tc main_v224) (ix4 b s h d) : EReal) = (((D (W0 m c)).outK b h s d : ℝ) : EReal) :=
  turn_k (C := (D (W0 m c)).C s) (S := (D (W0 m c)).S s) (x := (D (W0 m c)).DK b h s)
    (fun d => (congrFun ((after_of_writes_sub post0 _ post0_writes (by decide)).trans ((WB'_keep m c (by decide) (by decide) (by decide) (by decide) (by decide) (by decide) (by decide) (by decide) (by decide) (by decide) (by decide) (by decide) (by decide) (by decide) (by decide)).trans (((((((((((after_of_writes_sub mid9 _ mid9_writes (by decide)).trans (after_of_writes_sub mid8 _ mid8_writes (by decide))).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide))).trans (WA'_keep m c (by decide) (by decide) (by decide) (by decide) (by decide) (by decide) (by decide) (by decide) (by decide) (by decide) (by decide))))) _).trans (ck_at _ s d))
    (fun d => (congrFun ((after_of_writes_sub post0 _ post0_writes (by decide)).trans ((WB'_keep m c (by decide) (by decide) (by decide) (by decide) (by decide) (by decide) (by decide) (by decide) (by decide) (by decide) (by decide) (by decide) (by decide) (by decide) (by decide)).trans (((((((((((after_of_writes_sub mid9 _ mid9_writes (by decide)).trans (after_of_writes_sub mid8 _ mid8_writes (by decide))).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide))).trans (WA'_keep m c (by decide) (by decide) (by decide) (by decide) (by decide) (by decide) (by decide) (by decide) (by decide) (by decide) (by decide))))) _).trans (sk_at _ s d))
    (fun d hd => dk_end m c H b s h ⟨d, hd⟩) d

theorem outQ_end (b : Fin 2) (s : Fin 4096) (h : Fin 4) (d : Fin 256) : (Y4 m c (Proc.devRef .tc main_v240) (ix4 b s h d) : EReal) = (((D (W0 m c)).outQ b h s d : ℝ) : EReal) :=
  turn_q (C := (D (W0 m c)).C s) (S := (D (W0 m c)).S s) (x := (D (W0 m c)).DQ b h s)
    (fun d => (congrFun (((after_of_writes_sub post1 _ post1_writes (by decide)).trans (after_of_writes_sub post0 _ post0_writes (by decide))).trans ((WB'_keep m c (by decide) (by decide) (by decide) (by decide) (by decide) (by decide) (by decide) (by decide) (by decide) (by decide) (by decide) (by decide) (by decide) (by decide) (by decide)).trans (((((((((((after_of_writes_sub mid9 _ mid9_writes (by decide)).trans (after_of_writes_sub mid8 _ mid8_writes (by decide))).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide))).trans (WA'_keep m c (by decide) (by decide) (by decide) (by decide) (by decide) (by decide) (by decide) (by decide) (by decide) (by decide) (by decide))))) _).trans (cq_at _ s d))
    (fun d => (congrFun (((after_of_writes_sub post1 _ post1_writes (by decide)).trans (after_of_writes_sub post0 _ post0_writes (by decide))).trans ((WB'_keep m c (by decide) (by decide) (by decide) (by decide) (by decide) (by decide) (by decide) (by decide) (by decide) (by decide) (by decide) (by decide) (by decide) (by decide) (by decide)).trans (((((((((((after_of_writes_sub mid9 _ mid9_writes (by decide)).trans (after_of_writes_sub mid8 _ mid8_writes (by decide))).trans (after_of_writes_sub mid7 _ mid7_writes (by decide))).trans (after_of_writes_sub mid6 _ mid6_writes (by decide))).trans (after_of_writes_sub mid5 _ mid5_writes (by decide))).trans (after_of_writes_sub mid4 _ mid4_writes (by decide))).trans (after_of_writes_sub mid3 _ mid3_writes (by decide))).trans (after_of_writes_sub mid2 _ mid2_writes (by decide))).trans (after_of_writes_sub mid1 _ mid1_writes (by decide))).trans (after_of_writes_sub mid0 _ mid0_writes (by decide))).trans (WA'_keep m c (by decide) (by decide) (by decide) (by decide) (by decide) (by decide) (by decide) (by decide) (by decide) (by decide) (by decide))))) _).trans (sq_at _ s d))
    (fun d hd => (congrFun (after_of_writes_sub post1 _ post1_writes (by decide)) _).trans (dq_end m c H b s h ⟨d, hd⟩)) d

/-- The reference's two results. -/
theorem outP_ref : (Wend m c (Proc.devRef .tc main_v246) : S8192x6144.Idx → EReal) = fun i => (((D (W0 m c)).outP ((i 0).val / 4096) ((i 0).val % 4096) (i 1).val : ℝ) : EReal) := by
  funext i
  rw [show i = ix2 (i 0) (i 1) from funext fun a => by fin_cases a <;> rfl]
  exact columns (V := Y4 m c) (outQ_end m c H)
    (fun b s h d => (congrFun ((after_of_writes_sub post3 _ post3_writes (by decide)).trans (after_of_writes_sub post2 _ post2_writes (by decide))) _).trans (outK_end m c H b s h d))
    (fun b s h e => (congrFun (((after_of_writes_sub post3 _ post3_writes (by decide)).trans (after_of_writes_sub post2 _ post2_writes (by decide))).trans (after_of_writes_sub post1 _ post1_writes (by decide))) _).trans (dv_end m c H b s h e))
    (fun b s n => (congrFun (((((after_of_writes_sub post3 _ post3_writes (by decide)).trans (after_of_writes_sub post2 _ post2_writes (by decide))).trans (after_of_writes_sub post1 _ post1_writes (by decide))).trans (after_of_writes_sub post0 _ post0_writes (by decide))).trans ((WB'_keep m c (by decide) (by decide) (by decide) (by decide) (by decide) (by decide) (by decide) (by decide) (by decide) (by decide) (by decide) (by decide) (by decide) (by decide) (by decide)).trans (((((after_of_writes_sub mid9 _ mid9_writes (by decide)).trans (after_of_writes_sub mid8 _ mid8_writes (by decide))).trans (after_of_writes_sub mid7 _ mid7_writes (by decide))).trans (after_of_writes_sub mid6 _ mid6_writes (by decide))).trans (after_of_writes_sub mid5 _ mid5_writes (by decide))))) _).trans (dg_mid m c H b s n)) (i 0) (i 1)

theorem outGn_ref : (Wend m c (Proc.devRef .tc main_v247) : S1x2048.Idx → EReal) = fun i => (((D (W0 m c)).outGn (i 1).val : ℝ) : EReal) := by
  funext i
  rw [show i = ix2 0 (i 1) from funext fun a => by fin_cases a <;> [exact Subsingleton.elim (α := Fin 1) _ _; rfl]]
  exact gain_out (V := Y4 m c) (f := fun n => (D (W0 m c)).outGn n)
    (fun n => (congrFun (((((after_of_writes_sub post3 _ post3_writes (by decide)).trans (after_of_writes_sub post2 _ post2_writes (by decide))).trans (after_of_writes_sub post1 _ post1_writes (by decide))).trans (after_of_writes_sub post0 _ post0_writes (by decide))).trans ((WB'_keep m c (by decide) (by decide) (by decide) (by decide) (by decide) (by decide) (by decide) (by decide) (by decide) (by decide) (by decide) (by decide) (by decide) (by decide) (by decide)).trans (((after_of_writes_sub mid9 _ mid9_writes (by decide)).trans (after_of_writes_sub mid8 _ mid8_writes (by decide))).trans (after_of_writes_sub mid7 _ mid7_writes (by decide))))) _).trans (dgn_mid m c H n)) (i 1)
end Loops
end Cert.RetGradRefIdeal.Val
end
-- ==== Proof.RetPair.lean ====
/- The claims about the retention's gradient. -/
module

public import proofs.«01_k».proof.Defs
public import proofs.«01_k».proof.Proof.Gen.RetGrad
public import proofs.«01_k».proof.Proof.Gen.RetGrad.Frame
public import proofs.«01_k».proof.Proof.Gen.RetGradIdeal
public import proofs.«01_k».proof.Proof.Gen.RetGradIdeal.Frame
public import proofs.«01_k».proof.Proof.RetFin
public import proofs.«01_k».proof.Proof.RetRefJoin

@[expose] public section

set_option maxRecDepth 16384

noncomputable section

namespace Cert.RetPair

open Idealize.ShloMosaic Idealize.SL.Sem Cert.RetMath

/-- The kernel leaves its arguments as they were, over the float words. -/
theorem frame_kernel : Cert.quiescent_RetGrad := fun m ρ _ => Cert.RetGrad.Gen.frame m ρ
/-- The same, over the extended reals. -/
theorem frame_ideal : Cert.quiescent_RetGradIdeal := fun m ρ _ => Cert.RetGradIdeal.Gen.frame m ρ
/-- The reference leaves its arguments as they were. -/
theorem frame_reference : Cert.quiescent_RetGradRefIdeal := Cert.RetGradRefIdeal.Loops.frame

section Finite
variable [hP : Cert.Pre_finite_retention.Facts]

theorem frame_ideal_pre : Cert.quiescent_RetGradIdeal_pre_finite_retention := fun m ρ _ => frame_ideal m ρ trivial
theorem frame_reference_pre : Cert.quiescent_RetGradRefIdeal_pre_finite_retention := fun m ρ _ => frame_reference m ρ trivial

/-- An extended real whose magnitude is below the word of infinity is neither infinity. -/
theorem real_of_lt (x : EReal) (h : Ideal.cmp .olt (max x (-x)) (Ideal.ofBits .f32 0x7F800000#32) = 1#1) : x ≠ ⊥ ∧ x ≠ ⊤ := by
  have hw : Ideal.ofBits .f32 0x7F800000#32 = ⊤ := by simp [Ideal.ofBits, Ideal.ieee]
  rw [hw] at h
  constructor <;> rintro rfl <;> simp [Ideal.cmp] at h

theorem finite_of {x y : EReal} (e : x = y) (h : y ≠ ⊥ ∧ y ≠ ⊤) : x ≠ ⊥ ∧ x ≠ ⊤ := e ▸ h

/-- The precondition says that the three arguments are finite. -/
theorem real_of_pre (m : (ℓ : Loc Cert.RetGradIdeal.nD Cert.RetGradIdeal.τ Cert.RetGradIdeal.sig) → Buf (Elt Ideal) ℓ)
    (h : Cert.Pre_RetGradIdeal_finite_retention m) (c : Dev Cert.RetGradIdeal.nD) : Cert.RetGradIdeal.Win.Rl m c := by
  obtain ⟨h0, h1, h2⟩ := h c
  exact ⟨fun i => real_of_lt _ (congrFun h0 i), fun i => real_of_lt _ (congrFun h1 i), fun i => real_of_lt _ (congrFun h2 i)⟩

/-- The kernel computes the reference's derivative. -/
theorem algebraic : Cert.algebraic_RetGradIdeal_RetGradRefIdeal_pre_finite_retention := by
  intro m g m' g' hpre hagree
  refine ⟨_, _, Cert.RetGradIdeal.Value.run_blocks m g, ?_⟩
  refine (θ_run Cert.RetGradRefIdeal.defs _ _).mono (fun r h c => ?_) (Cert.RetGradRefIdeal.Loops.run_main m' g')
  have H := real_of_pre m hpre c
  have hD : ∀ R : Data → Prop, R (Cert.RetGradIdeal.Win.Dt m c) → R (Cert.RetGradRefIdeal.Val.D (Cert.RetGradRefIdeal.Loops.W0 m' c)) := fun R hR => by
    obtain ⟨e0, e1, e2⟩ := hagree c
    have e : Cert.RetGradRefIdeal.Val.D (Cert.RetGradRefIdeal.Loops.W0 m' c) = Cert.RetGradIdeal.Win.Dt m c :=
      (congrArg₂ (fun p q => data p q _) e0 e1).trans (congrArg (data _ _) e2)
    exact e ▸ hR
  have H' : Cert.RetGradRefIdeal.Val.Rl (Cert.RetGradRefIdeal.Loops.W0 m' c) := by
    obtain ⟨e0, e1, e2⟩ := hagree c
    exact ⟨fun i => finite_of (congrFun e0 i) (H.p i), fun i => finite_of (congrFun e1 i) (H.g i), fun i => finite_of (congrFun e2 i) (H.y i)⟩
  exact ⟨((h c Cert.RetGradRefIdeal.main_v246 (by decide)).trans (Cert.RetGradRefIdeal.Val.outP_ref m' c H')).trans
      ((hD (fun D => (fun i : Cert.RetGradIdeal.S8192x6144.Idx => (((Cert.RetGradIdeal.Win.Dt m c).outP ((i 0).val / 4096) ((i 0).val % 4096) (i 1).val : ℝ) : EReal)) = fun i => ((D.outP ((i 0).val / 4096) ((i 0).val % 4096) (i 1).val : ℝ) : EReal)) rfl).symm.trans
        (Cert.RetGradIdeal.Fit.outP_fin H).symm),
    ((h c Cert.RetGradRefIdeal.main_v247 (by decide)).trans (Cert.RetGradRefIdeal.Val.outGn_ref m' c H')).trans
      ((hD (fun D => (fun i : Cert.RetGradIdeal.S1x2048.Idx => (((Cert.RetGradIdeal.Win.Dt m c).outGn (i 1).val : ℝ) : EReal)) = fun i => ((D.outGn (i 1).val : ℝ) : EReal)) rfl).symm.trans
        (Cert.RetGradIdeal.Fit.outGn_fin H).symm),
    (h c Cert.RetGradRefIdeal.main_arg0 (by decide)).trans (Cert.RetGradRefIdeal.Loops.Wend_args m' c _ (by decide)),
    (h c Cert.RetGradRefIdeal.main_arg1 (by decide)).trans (Cert.RetGradRefIdeal.Loops.Wend_args m' c _ (by decide)),
    (h c Cert.RetGradRefIdeal.main_arg2 (by decide)).trans (Cert.RetGradRefIdeal.Loops.Wend_args m' c _ (by decide))⟩
end Finite

end Cert.RetPair

end
-- ==== Proof.RetIn.lean ====
module

public import proofs.«01_k».proof.Proof.Gen.RetInIdeal.Value
public import proofs.«01_k».proof.Proof.Gen.RetInRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

namespace Cert.RetInIdeal.In

open Cert.RetInIdeal Cert.RetInIdeal.Gen

variable (m : (ℓ : Loc nD τ sig) → Buf (Elt Ideal) ℓ)

/-- The gradient for the layer's input, as the reference computes it. -/
abbrev DH (h : FVec Ideal S8192x1024 .f32) (g : FVec Ideal S1024 .f32) (w : FVec Ideal S1024x6144 .f32) (dz : FVec Ideal S8192x6144 .f32)
    (dres : FVec Ideal S8192x1024 .f32) : FVec Ideal S8192x1024 .f32 := Cert.RetInRefIdeal.Read.val_main_v38 (F := Ideal) h g w dz dres

/-- The gradient for the gain, as the reference computes it. -/
abbrev DG (h : FVec Ideal S8192x1024 .f32) (w : FVec Ideal S1024x6144 .f32) (dz : FVec Ideal S8192x6144 .f32) :
    FVec Ideal S1x1024 .f32 := Cert.RetInRefIdeal.Read.val_main_v39 (F := Ideal) h w dz

/-- The gradient that reaches the normalised rows: the incoming one times the transposed weight. -/
def dy (w : FVec Ideal S1024x6144 .f32) (dz : FVec Ideal S8192x6144 .f32) (r : Fin 8192) (l : Fin 1024) : EReal :=
  ∑ k : Fin 6144, dz (ix2 r k) * w (ix2 l k)

/-- The mean square of a row with the small number added. -/
def ms (h : FVec Ideal S8192x1024 .f32) (r : Fin 8192) : EReal :=
  Ideal.div (∑ j : Fin 1024, h (ix2 r j) * h (ix2 r j)) (Ideal.ofBits .f32 0x44800000#32) + Ideal.ofBits .f32 0x358637BD#32

open Cert.RetInRefIdeal.Read in
/-- The reference's input gradient at an index, in the form the kernel computes it. -/
theorem dh_at (h : FVec Ideal S8192x1024 .f32) (g : FVec Ideal S1024 .f32) (w : FVec Ideal S1024x6144 .f32) (dz : FVec Ideal S8192x6144 .f32)
    (dres : FVec Ideal S8192x1024 .f32) (r : Fin 8192) (l : Fin 1024) :
    DH h g w dz dres (ix2 r l) = dres (ix2 r l) + Ideal.rsqrt (ms h r) * (dy w dz r l * g (ix1 l) - h (ix2 r l) * Ideal.rsqrt (ms h r)
      * Ideal.div (∑ j : Fin 1024, dy w dz r j * g (ix1 j) * (h (ix2 r j) * Ideal.rsqrt (ms h r))) (Ideal.ofBits .f32 0x44800000#32)) := by
  refine Eq.trans ?_ (Cert.Scalars.norm_grad (fun j : Fin 1024 => h (ix2 r j)) (fun j => dy w dz r j * g (ix1 j)) (dres (ix2 r l)) l).symm
  pointwise [DH, val_main_v38, val_main_v37, val_main_v36, val_main_v35, val_main_v34, val_main_v33, val_main_v32, val_main_v31, val_main_v30, val_main_v29, val_main_v28, val_main_v27, val_main_v26, val_main_v25, val_main_v24, val_main_v22, val_main_v21, val_main_v17, val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]
  rfl

/-- One row's term of the gain's gradient: the incoming gradient times the normalised value. -/
def term (h : FVec Ideal S8192x1024 .f32) (w : FVec Ideal S1024x6144 .f32) (dz : FVec Ideal S8192x6144 .f32) (l : Fin 1024) (r : Fin 8192) : EReal :=
  dy w dz r l * (h (ix2 r l) * Ideal.rsqrt (ms h r))

open Cert.RetInRefIdeal.Read in
/-- The reference's gain gradient at an index. -/
theorem dg_at (h : FVec Ideal S8192x1024 .f32) (w : FVec Ideal S1024x6144 .f32) (dz : FVec Ideal S8192x6144 .f32) (z : Fin 1) (l : Fin 1024) :
    DG h w dz (ix2 z l) = ∑ r : Fin 8192, term h w dz l r := by
  pointwise [DG, val_main_v39, val_main_v23, val_main_cst_4, val_main_v20, val_main_v19, val_main_cst_3, val_main_v18, val_main_v17, val_main_v12, val_main_v11, val_main_v7, val_main_v6,
    val_main_v5, val_main_v4, val_main_v3, val_main_v2, val_main_v1, val_main_v0, val_main_cst, val_main_cst_0, val_main_cst_1]
  simp only [Fin.sum_univ_one]
  exact Finset.sum_congr rfl fun r _ => mul_comm _ _

theorem idx : ∀ t : Fin cfg0.N, win0_0.index t = ![t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The incoming gradient as the kernel reads it. -/
theorem entry_dz (c : Dev nD) : V m c main_v3 = (truncf .bf16 (m ((c : Thread nD τ).loc main_arg3) : FVec Ideal S8192x6144 .f32) bitsLt_bf16_f32 : FVec Ideal S8192x6144 .bf16) := by
  show StableHlo.after hostOps0 _ (Proc.devRef .tc main_v3) = _
  after_results
/-- The weight as the kernel reads it: four slabs of 1536 columns. -/
theorem entry_w (c : Dev nD) : V m c main_v2 = transpose S4x1024x1536 [1, 0, 2] (shapeCast S1024x4x1536 (truncf .bf16 (m ((c : Thread nD τ).loc main_arg2) : FVec Ideal S1024x6144 .f32) bitsLt_bf16_f32 : FVec Ideal S1024x6144 .bf16) shapeCasts_S1024x6144_S1024x4x1536) transposes_S1024x4x1536_S4x1024x1536_1_0_2 := by
  show StableHlo.after hostOps0 _ (Proc.devRef .tc main_v2) = _
  after_results
  rfl
/-- The gain as the kernel reads it: one row. -/
theorem entry_g (c : Dev nD) : V m c main_v4 = shapeCast S1x1024 (m ((c : Thread nD τ).loc main_arg1) : FVec Ideal S1024 .f32) shapeCasts_S1024_S1x1024 := by
  show StableHlo.after hostOps0 _ (Proc.devRef .tc main_v4) = _
  after_results
  rfl

/-- The block of the incoming gradient at point `t`: rows `512 t` onwards of the argument. -/
theorem in_dz (c : Dev nD) (t : Fin cfg0.N) (r : Fin 512) (k : Fin 6144) (h : t.val * 512 + r.val < 8192) :
    iblk m c 0 t (ix2 r k) = m ((c : Thread nD τ).loc main_arg3) (ix2 ⟨t.val * 512 + r.val, h⟩ k) := by
  show V m c main_v3 (((cfg0.win 0).blk t).view.emb (ix2 r k)) = _
  rw [entry_dz, show ((cfg0.win 0).blk t).view.emb (ix2 r k) = (ix2 ⟨t.val * 512 + r.val, h⟩ k : S8192x6144.Idx) by blk_ext [idx t]]
  rfl

/-- The weight's block: slab `p` holds the columns `1536 p` onwards. -/
theorem in_w (c : Dev nD) (t : Fin cfg0.N) (p : Fin 4) (r : Fin 1024) (k : Fin 1536) (h : p.val * 1536 + k.val < 6144) :
    iblk m c 1 t (ix3 p r k) = m ((c : Thread nD τ).loc main_arg2) (ix2 r ⟨p.val * 1536 + k.val, h⟩) := by
  show V m c main_v2 (((cfg0.win 1).blk t).view.emb (ix3 p r k)) = _
  rw [entry_w, show ((cfg0.win 1).blk t).view.emb (ix3 p r k) = (ix3 p r k : S4x1024x1536.Idx) by blk_ext [idx t]]
  pointwise

/-- The block of the layer's input at point `t`. -/
theorem in_h (c : Dev nD) (t : Fin cfg0.N) (r : Fin 512) (k : Fin 1024) (h : t.val * 512 + r.val < 8192) :
    iblk m c 2 t (ix2 r k) = m ((c : Thread nD τ).loc main_arg0) (ix2 ⟨t.val * 512 + r.val, h⟩ k) := by
  show V m c main_arg0 (((cfg0.win 2).blk t).view.emb (ix2 r k)) = _
  rw [V_main_arg0, show ((cfg0.win 2).blk t).view.emb (ix2 r k) = (ix2 ⟨t.val * 512 + r.val, h⟩ k : S8192x1024.Idx) by blk_ext [idx t]]

/-- The gain's block. -/
theorem in_g (c : Dev nD) (t : Fin cfg0.N) (z : Fin 1) (k : Fin 1024) :
    iblk m c 3 t (ix2 z k) = m ((c : Thread nD τ).loc main_arg1) (ix1 k) := by
  show V m c main_v4 (((cfg0.win 3).blk t).view.emb (ix2 z k)) = _
  rw [entry_g, show ((cfg0.win 3).blk t).view.emb (ix2 z k) = (ix2 z k : S1x1024.Idx) by blk_ext [idx t]]
  pointwise

/-- The block of the gradient that is added, at point `t`. -/
theorem in_dres (c : Dev nD) (t : Fin cfg0.N) (r : Fin 512) (k : Fin 1024) (h : t.val * 512 + r.val < 8192) :
    iblk m c 4 t (ix2 r k) = m ((c : Thread nD τ).loc main_arg4) (ix2 ⟨t.val * 512 + r.val, h⟩ k) := by
  show V m c main_arg4 (((cfg0.win 4).blk t).view.emb (ix2 r k)) = _
  rw [V_main_arg4, show ((cfg0.win 4).blk t).view.emb (ix2 r k) = (ix2 ⟨t.val * 512 + r.val, h⟩ k : S8192x1024.Idx) by blk_ext [idx t]]

/-- A sum over 6144 in four runs of 1536. -/
theorem sum_slabs (f : Fin 6144 → EReal) : ∑ k, f k = (∑ k : Fin 1536, f ⟨k.val, by omega⟩) + (∑ k : Fin 1536, f ⟨1536 + k.val, by omega⟩)
    + (∑ k : Fin 1536, f ⟨3072 + k.val, by omega⟩) + ∑ k : Fin 1536, f ⟨4608 + k.val, by omega⟩ := by
  rw [← Fin.sum_mul_add_fin 4 1536 f, Fin.sum_univ_four]
  simp

/-- The product of a point's rows with the transposed weight, slab by slab. -/
abbrev prod (c : Dev nD) (t : Fin cfg0.N) : FVec Ideal S512x1024 .f32 :=
  k0_pay6 (View.ld (iblk m c 0 t) (Rect.unit ![0, 0] ![512, 1536] inb_S512x6144_S512x1536_0_0))
    (View.ld (iblk m c 1 t) (Rect.unit ![0, 0, 0] ![1, 1024, 1536] inb_S4x1024x1536_S1x1024x1536_0_0_0))
    (View.ld (iblk m c 0 t) (Rect.unit ![0, 1536] ![512, 1536] inb_S512x6144_S512x1536_0_1536))
    (View.ld (iblk m c 1 t) (Rect.unit ![1, 0, 0] ![1, 1024, 1536] inb_S4x1024x1536_S1x1024x1536_1_0_0))
    (View.ld (iblk m c 0 t) (Rect.unit ![0, 3072] ![512, 1536] inb_S512x6144_S512x1536_0_3072))
    (View.ld (iblk m c 1 t) (Rect.unit ![2, 0, 0] ![1, 1024, 1536] inb_S4x1024x1536_S1x1024x1536_2_0_0))
    (View.ld (iblk m c 0 t) (Rect.unit ![0, 4608] ![512, 1536] inb_S512x6144_S512x1536_0_4608))
    (View.ld (iblk m c 1 t) (Rect.unit ![3, 0, 0] ![1, 1024, 1536] inb_S4x1024x1536_S1x1024x1536_3_0_0))

theorem prod_at (c : Dev nD) (t : Fin cfg0.N) (a : Fin 512) (l : Fin 1024) (h : t.val * 512 + a.val < 8192) :
    prod m c t (ix2 a l) = dy (m ((c : Thread nD τ).loc main_arg2)) (m ((c : Thread nD τ).loc main_arg3)) ⟨t.val * 512 + a.val, h⟩ l := by
  unfold dy
  rw [sum_slabs]
  pointwise [prod, k0_pay6]
  refine Ideal.add_congr (Ideal.add_congr (Ideal.add_congr ?_ ?_) ?_) ?_ <;> refine Finset.sum_congr rfl fun k _ => Ideal.mul_congr ?_ ?_
  all_goals first
    | exact in_dz m c t a _ h
    | exact (in_w m c t _ l k (by simp; omega)).trans (by blk_ext)

/-- The block of the input gradient, over the product of the point's rows. -/
theorem pay5_at (v : FVec Ideal S512x1024 .f32) (x : FVec Ideal S512x1024 .f32) (g : FVec Ideal S1x1024 .f32) (d : FVec Ideal S512x1024 .f32) (a : Fin 512) (l : Fin 1024) :
    let ρ := Ideal.rsqrt (Ideal.div (∑ j : Fin 1024, x (ix2 a j) * x (ix2 a j)) (Ideal.ofBits .f32 0x44800000#32) + Ideal.ofBits .f32 0x358637BD#32)
    k0_pay5 v x (k0_pay7 x) k0_pay8 g d (ix2 a l) = d (ix2 a l) + ρ * (v (ix2 a l) * g (ix2 0 l) - x (ix2 a l) * ρ
      * Ideal.div (∑ j : Fin 1024, v (ix2 a j) * g (ix2 0 j) * (x (ix2 a j) * ρ)) (Ideal.ofBits .f32 0x44800000#32)) := by
  pointwise [k0_pay5, k0_pay2, k0_pay1, k0_pay7, k0_pay8]

/-- The part of the gain's gradient a point computes. -/
theorem pay3_at (v : FVec Ideal S512x1024 .f32) (x : FVec Ideal S512x1024 .f32) (z : Fin 1) (l : Fin 1024) :
    k0_pay3 v x (k0_pay7 x) k0_pay8 (ix2 z l) = ∑ a : Fin 512, v (ix2 a l) * (x (ix2 a l)
      * Ideal.rsqrt (Ideal.div (∑ j : Fin 1024, x (ix2 a j) * x (ix2 a j)) (Ideal.ofBits .f32 0x44800000#32) + Ideal.ofBits .f32 0x358637BD#32)) := by
  pointwise [k0_pay3, k0_pay2, k0_pay1, k0_pay7, k0_pay8]

theorem pay4_at (v : FVec Ideal S512x1024 .f32) (x : FVec Ideal S512x1024 .f32) (o : FVec Ideal S1x1024 .f32) (j : S1x1024.Idx) :
    k0_pay4 v x (k0_pay7 x) k0_pay8 o j = o j + k0_pay3 v x (k0_pay7 x) k0_pay8 j := by
  pointwise [k0_pay4]

/-- One block of the input gradient against the reference. -/
theorem core (c : Dev nD) (t : Fin cfg0.N) (a : Fin 512) (l : Fin 1024) (h : t.val * 512 + a.val < 8192) :
    k0_pay5 (prod m c t) (iblk m c 2 t) (k0_pay7 (iblk m c 2 t)) k0_pay8 (iblk m c 3 t) (iblk m c 4 t) (ix2 a l)
    = DH (m ((c : Thread nD τ).loc main_arg0)) (m ((c : Thread nD τ).loc main_arg1)) (m ((c : Thread nD τ).loc main_arg2)) (m ((c : Thread nD τ).loc main_arg3)) (m ((c : Thread nD τ).loc main_arg4))
      (ix2 ⟨t.val * 512 + a.val, h⟩ l) := by
  rw [dh_at, pay5_at]
  simp only [prod_at m c t _ _ h, in_h m c t _ _ h, in_g, in_dres m c t _ _ h]
  rfl

/-- One point's part of the gain's gradient against the reference's sum. -/
theorem part (c : Dev nD) (t : Fin cfg0.N) (z : Fin 1) (l : Fin 1024) :
    k0_pay3 (prod m c t) (iblk m c 2 t) (k0_pay7 (iblk m c 2 t)) k0_pay8 (ix2 z l)
    = ∑ a : Fin 512, term (m ((c : Thread nD τ).loc main_arg0)) (m ((c : Thread nD τ).loc main_arg2)) (m ((c : Thread nD τ).loc main_arg3)) l
      ⟨t.val * 512 + a.val, by have := lt_of_lt_of_eq t.isLt N_0; omega⟩ := by
  rw [pay3_at]
  refine Finset.sum_congr rfl fun a _ => ?_
  have h : t.val * 512 + a.val < 8192 := by have := lt_of_lt_of_eq t.isLt N_0; omega
  simp only [prod_at m c t _ _ h, in_h m c t _ _ h]
  rfl

/-- Every point leaves its block of the input gradient. -/
theorem outs5 (c : Dev nD) (t : Fin cfg0.N) : (outsAt0 m c t.val t.isLt).1
    = k0_pay5 (prod m c t) (iblk m c 2 t) (k0_pay7 (iblk m c 2 t)) k0_pay8 (iblk m c 3 t) (iblk m c 4 t) := by
  by_cases h : t.val % 16 = 0
  · rw [outsAt0_A m c t h (by have := lt_of_lt_of_eq t.isLt N_0; omega)]; funext y; frame_out; rfl
  · rw [outsAt0_B m c t h (by omega)]; funext y; frame_out; rfl

theorem final5 (c : Dev nD) : (dats m 0 c).arrAt 5 (cfgs 0).N
    = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  have hb : t.val * 512 + (y 0).val < 8192 := by have := lt_of_lt_of_eq t.isLt N_0; have : (y 0).val < 512 := (y 0).isLt; omega
  blk_simp
  rw [after0_5, outs5]
  exact (congrArg _ (by blk_ext)).trans ((core m c t (y 0) (y 1) hb).trans (congrArg _ (by blk_ext [idx t])))

theorem final6 (c : Dev nD) : (dats m 0 c).arrAt 6 (cfgs 0).N
    = DG (m ((c : Thread nD τ).loc main_arg0)) (m ((c : Thread nD τ).loc main_arg2)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0)
    (fun p j => k0_pay3 (prod m c p) (iblk m c 2 p) (k0_pay7 (iblk m c 2 p)) k0_pay8 j)
    (fun t h j => by rw [outsAt0_A m c t h (by have := lt_of_lt_of_eq t.isLt N_0; omega)]; frame_out; rw [zero_add]; rfl)
    (fun t h j => by rw [outsAt0_B m c t h (by omega)]; frame_out; exact pay4_at _ _ _ _)
    (le_of_eq N_0) t0_15 rfl j, zero_add]
  obtain ⟨z, l, rfl⟩ : ∃ (z : Fin 1) (l : Fin 1024), j = ix2 z l := ⟨j 0, j 1, by blk_ext⟩
  rw [dg_at]
  refine (Fin.sum_fin_congr fun p => part m c p z l).trans ?_
  exact Fin.sum_mul_add_congr fun s k hl => rfl

end Cert.RetInIdeal.In
end
-- ==== Proof.RetInPair.lean ====
module

public import proofs.«01_k».proof.Defs
public import proofs.«01_k».proof.Proof.RetIn
public import proofs.«01_k».proof.Proof.Gen.RetIn.Frame
public import proofs.«01_k».proof.Proof.Gen.RetInRefIdeal.Run
public import Idealize.ShloMosaic.Lib.Claim

@[expose] public section

set_option maxRecDepth 16384

noncomputable section

open Idealize.ShloMosaic Idealize.SL.Sem

/-! The claims about the gradient of the normalisation in front of the retention's first product. -/

namespace Cert.RetInPair

/-- The kernel leaves its arguments as they were, over the float words. -/
theorem frame_kernel : Cert.quiescent_RetIn := fun m ρ _ => Cert.RetIn.Gen.frame m ρ
/-- The same, over the extended reals. -/
theorem frame_ideal : Cert.quiescent_RetInIdeal := fun m ρ _ => Cert.RetInIdeal.Gen.frame m ρ
/-- The reference leaves its arguments as they were. -/
theorem frame_reference : Cert.quiescent_RetInRefIdeal := fun m ρ _ =>
  (θ_run Cert.RetInRefIdeal.defs _ _).mono (fun r h => ⟨fun c => (h c).2.2, sem_eq_zero_of_no_sems (by decide) r.2⟩)
    (Cert.RetInRefIdeal.Value.run (F := Ideal) m ρ)

/-- The kernel computes the reference's derivative. -/
theorem algebraic : Cert.algebraic_RetInIdeal_RetInRefIdeal := by
  pair_intro
  · run_from Cert.RetInIdeal.Value.run_blocks m g
  · run_from Cert.RetInRefIdeal.Value.run m' g'
    all_goals obtain ⟨h0, h1, h2, h3, h4⟩ := hagree c
    · rw [Cert.RetInRefIdeal.Read.val_main_v38_eq, h0, h1, h2, h3, h4]; exact (Cert.RetInIdeal.In.final5 m c).symm
    · exact (Cert.RetInIdeal.In.final6 m c).symm

end Cert.RetInPair
end
-- ==== Proof.AttIn.lean ====
module

public import proofs.«01_k».proof.Proof.Gen.AttInIdeal.Value
public import proofs.«01_k».proof.Proof.Gen.AttInRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

namespace Cert.AttInIdeal.In

open Cert.AttInIdeal Cert.AttInIdeal.Gen

variable (m : (ℓ : Loc nD τ sig) → Buf (Elt Ideal) ℓ)

/-- The three parts of the incoming gradient side by side, as the reference joins them. -/
abbrev cat (q k v : FVec Ideal S8192x1024 .f32) : FVec Ideal Cert.AttInRefIdeal.S8192x3072 .f32 := Cert.AttInRefIdeal.Read.val_main_v20 (F := Ideal) q k v

/-- The gradient for the layer's input, as the reference computes it. -/
abbrev DH (h : FVec Ideal S8192x1024 .f32) (g : FVec Ideal S1024 .f32) (w : FVec Ideal S1024x3072 .f32) (q k v dres : FVec Ideal S8192x1024 .f32) : FVec Ideal S8192x1024 .f32 :=
  Cert.AttInRefIdeal.Read.val_main_v42 (F := Ideal) h g w q k v dres

/-- The gradient for the gain, as the reference computes it. -/
abbrev DG (h : FVec Ideal S8192x1024 .f32) (w : FVec Ideal S1024x3072 .f32) (q k v : FVec Ideal S8192x1024 .f32) : FVec Ideal S1x1024 .f32 :=
  Cert.AttInRefIdeal.Read.val_main_v43 (F := Ideal) h w q k v

/-- The gradient that reaches the normalised rows: the incoming one times the transposed weight. -/
def dy (w : FVec Ideal S1024x3072 .f32) (dz : FVec Ideal Cert.AttInRefIdeal.S8192x3072 .f32) (r : Fin 8192) (l : Fin 1024) : EReal :=
  ∑ k : Fin 3072, dz (ix2 r k) * w (ix2 l k)

/-- The mean square of a row with the small number added. -/
def ms (h : FVec Ideal S8192x1024 .f32) (r : Fin 8192) : EReal :=
  Ideal.div (∑ j : Fin 1024, h (ix2 r j) * h (ix2 r j)) (Ideal.ofBits .f32 0x44800000#32) + Ideal.ofBits .f32 0x358637BD#32

open Cert.AttInRefIdeal.Read in
/-- The reference's input gradient at an index, in the form the kernel computes it. -/
theorem dh_at (h : FVec Ideal S8192x1024 .f32) (g : FVec Ideal S1024 .f32) (w : FVec Ideal S1024x3072 .f32) (q k v dres : FVec Ideal S8192x1024 .f32) (r : Fin 8192) (l : Fin 1024) :
    DH h g w q k v dres (ix2 r l) = dres (ix2 r l) + Ideal.rsqrt (ms h r) * (dy w (cat q k v) r l * g (ix1 l) - h (ix2 r l) * Ideal.rsqrt (ms h r)
      * Ideal.div (∑ j : Fin 1024, dy w (cat q k v) r j * g (ix1 j) * (h (ix2 r j) * Ideal.rsqrt (ms h r))) (Ideal.ofBits .f32 0x44800000#32)) := by
  refine Eq.trans ?_ (Cert.Scalars.norm_grad (fun j : Fin 1024 => h (ix2 r j)) (fun j => dy w (cat q k v) r j * g (ix1 j)) (dres (ix2 r l)) l).symm
  unfold dy cat
  dsimp only [DH, val_main_v21, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22]
  generalize val_main_v20 (F := Ideal) q k v = z
  pointwise [val_main_v13, val_main_v10, val_main_v9, val_main_v8, val_main_v7, val_main_v6, val_main_v5, val_main_v4, val_main_v3, val_main_v2, val_main_v1, val_main_v0, val_main_cst, val_main_cst_0, val_main_cst_1, val_main_cst_2, val_main_cst_5, val_main_cst_6, val_main_cst_7]
  simp only [Fin.sum_univ_one]

/-- One row's term of the gain's gradient: the incoming gradient times the normalised value. -/
def term (h : FVec Ideal S8192x1024 .f32) (w : FVec Ideal S1024x3072 .f32) (dz : FVec Ideal Cert.AttInRefIdeal.S8192x3072 .f32) (l : Fin 1024) (r : Fin 8192) : EReal :=
  dy w dz r l * (h (ix2 r l) * Ideal.rsqrt (ms h r))

open Cert.AttInRefIdeal.Read in
/-- The reference's gain gradient at an index. -/
theorem dg_at (h : FVec Ideal S8192x1024 .f32) (w : FVec Ideal S1024x3072 .f32) (q k v : FVec Ideal S8192x1024 .f32) (z : Fin 1) (l : Fin 1024) :
    DG h w q k v (ix2 z l) = ∑ r : Fin 8192, term h w (cat q k v) l r := by
  unfold term dy cat
  dsimp only [DG, val_main_v43, val_main_v27, val_main_v24, val_main_v23, val_main_v22, val_main_v21]
  generalize val_main_v20 (F := Ideal) q k v = y
  pointwise [val_main_cst_4, val_main_cst_3, val_main_v12, val_main_v11, val_main_v7, val_main_v6,
    val_main_v5, val_main_v4, val_main_v3, val_main_v2, val_main_v1, val_main_v0, val_main_cst, val_main_cst_0, val_main_cst_1]
  simp only [Fin.sum_univ_one]
  exact Finset.sum_congr rfl fun r _ => mul_comm _ _

theorem idx : ∀ t : Fin cfg0.N, win0_0.index t = ![t.val, 0] ∧ win0_1.index t = ![t.val, 0] ∧ win0_2.index t = ![t.val, 0] ∧ win0_3.index t = ![0, 0, 0]
    ∧ win0_4.index t = ![t.val, 0] ∧ win0_5.index t = ![0, 0] ∧ win0_6.index t = ![t.val, 0] ∧ win0_7.index t = ![t.val, 0] ∧ win0_8.index t = ![0, 0]
    ∧ win0_9.index t = ![t.val, 0] :=
  (by decide +kernel : ∀ t : Fin grid0.N, _)

/-- The first part of the incoming gradient as the kernel reads it. -/
theorem entry_q (c : Dev nD) : V m c main_v3 = (truncf .bf16 (m ((c : Thread nD τ).loc main_arg3) : FVec Ideal S8192x1024 .f32) bitsLt_bf16_f32 : FVec Ideal S8192x1024 .bf16) := by
  show StableHlo.after hostOps0 _ (Proc.devRef .tc main_v3) = _
  after_results
/-- The second part of the incoming gradient as the kernel reads it. -/
theorem entry_k (c : Dev nD) : V m c main_v4 = (truncf .bf16 (m ((c : Thread nD τ).loc main_arg4) : FVec Ideal S8192x1024 .f32) bitsLt_bf16_f32 : FVec Ideal S8192x1024 .bf16) := by
  show StableHlo.after hostOps0 _ (Proc.devRef .tc main_v4) = _
  after_results
/-- The third part of the incoming gradient as the kernel reads it. -/
theorem entry_v (c : Dev nD) : V m c main_v5 = (truncf .bf16 (m ((c : Thread nD τ).loc main_arg5) : FVec Ideal S8192x1024 .f32) bitsLt_bf16_f32 : FVec Ideal S8192x1024 .bf16) := by
  show StableHlo.after hostOps0 _ (Proc.devRef .tc main_v5) = _
  after_results
/-- The weight as the kernel reads it: four slabs of 768 columns. -/
theorem entry_w (c : Dev nD) : V m c main_v2 = transpose S4x1024x768 [1, 0, 2] (shapeCast S1024x4x768 (truncf .bf16 (m ((c : Thread nD τ).loc main_arg2) : FVec Ideal S1024x3072 .f32) bitsLt_bf16_f32 : FVec Ideal S1024x3072 .bf16) shapeCasts_S1024x3072_S1024x4x768) transposes_S1024x4x768_S4x1024x768_1_0_2 := by
  show StableHlo.after hostOps0 _ (Proc.devRef .tc main_v2) = _
  after_results
  rfl
/-- The gain as the kernel reads it: one row. -/
theorem entry_g (c : Dev nD) : V m c main_v6 = shapeCast S1x1024 (m ((c : Thread nD τ).loc main_arg1) : FVec Ideal S1024 .f32) shapeCasts_S1024_S1x1024 := by
  show StableHlo.after hostOps0 _ (Proc.devRef .tc main_v6) = _
  after_results
  rfl

/-- The block of the first part at point `t`: rows `512 t` onwards of the argument. -/
theorem in_q (c : Dev nD) (t : Fin cfg0.N) (r : Fin 512) (k : Fin 1024) (h : t.val * 512 + r.val < 8192) :
    iblk m c 0 t (ix2 r k) = m ((c : Thread nD τ).loc main_arg3) (ix2 ⟨t.val * 512 + r.val, h⟩ k) := by
  show V m c main_v3 (((cfg0.win 0).blk t).view.emb (ix2 r k)) = _
  rw [entry_q, show ((cfg0.win 0).blk t).view.emb (ix2 r k) = (ix2 ⟨t.val * 512 + r.val, h⟩ k : S8192x1024.Idx) by blk_ext [idx t]]
  rfl

/-- The block of the second part at point `t`: rows `512 t` onwards of the argument. -/
theorem in_k (c : Dev nD) (t : Fin cfg0.N) (r : Fin 512) (k : Fin 1024) (h : t.val * 512 + r.val < 8192) :
    iblk m c 1 t (ix2 r k) = m ((c : Thread nD τ).loc main_arg4) (ix2 ⟨t.val * 512 + r.val, h⟩ k) := by
  show V m c main_v4 (((cfg0.win 1).blk t).view.emb (ix2 r k)) = _
  rw [entry_k, show ((cfg0.win 1).blk t).view.emb (ix2 r k) = (ix2 ⟨t.val * 512 + r.val, h⟩ k : S8192x1024.Idx) by blk_ext [idx t]]
  rfl

/-- The block of the third part at point `t`: rows `512 t` onwards of the argument. -/
theorem in_v (c : Dev nD) (t : Fin cfg0.N) (r : Fin 512) (k : Fin 1024) (h : t.val * 512 + r.val < 8192) :
    iblk m c 2 t (ix2 r k) = m ((c : Thread nD τ).loc main_arg5) (ix2 ⟨t.val * 512 + r.val, h⟩ k) := by
  show V m c main_v5 (((cfg0.win 2).blk t).view.emb (ix2 r k)) = _
  rw [entry_v, show ((cfg0.win 2).blk t).view.emb (ix2 r k) = (ix2 ⟨t.val * 512 + r.val, h⟩ k : S8192x1024.Idx) by blk_ext [idx t]]
  rfl

/-- The weight's block: slab `p` holds the columns `768 p` onwards. -/
theorem in_w (c : Dev nD) (t : Fin cfg0.N) (p : Fin 4) (r : Fin 1024) (k : Fin 768) (h : p.val * 768 + k.val < 3072) :
    iblk m c 3 t (ix3 p r k) = m ((c : Thread nD τ).loc main_arg2) (ix2 r ⟨p.val * 768 + k.val, h⟩) := by
  show V m c main_v2 (((cfg0.win 3).blk t).view.emb (ix3 p r k)) = _
  rw [entry_w, show ((cfg0.win 3).blk t).view.emb (ix3 p r k) = (ix3 p r k : S4x1024x768.Idx) by blk_ext [idx t]]
  pointwise

/-- The block of the layer's input at point `t`. -/
theorem in_h (c : Dev nD) (t : Fin cfg0.N) (r : Fin 512) (k : Fin 1024) (h : t.val * 512 + r.val < 8192) :
    iblk m c 4 t (ix2 r k) = m ((c : Thread nD τ).loc main_arg0) (ix2 ⟨t.val * 512 + r.val, h⟩ k) := by
  show V m c main_arg0 (((cfg0.win 4).blk t).view.emb (ix2 r k)) = _
  rw [V_main_arg0, show ((cfg0.win 4).blk t).view.emb (ix2 r k) = (ix2 ⟨t.val * 512 + r.val, h⟩ k : S8192x1024.Idx) by blk_ext [idx t]]

/-- The gain's block. -/
theorem in_g (c : Dev nD) (t : Fin cfg0.N) (z : Fin 1) (k : Fin 1024) :
    iblk m c 5 t (ix2 z k) = m ((c : Thread nD τ).loc main_arg1) (ix1 k) := by
  show V m c main_v6 (((cfg0.win 5).blk t).view.emb (ix2 z k)) = _
  rw [entry_g, show ((cfg0.win 5).blk t).view.emb (ix2 z k) = (ix2 z k : S1x1024.Idx) by blk_ext [idx t]]
  pointwise

/-- The block of the gradient that is added, at point `t`. -/
theorem in_dres (c : Dev nD) (t : Fin cfg0.N) (r : Fin 512) (k : Fin 1024) (h : t.val * 512 + r.val < 8192) :
    iblk m c 6 t (ix2 r k) = m ((c : Thread nD τ).loc main_arg6) (ix2 ⟨t.val * 512 + r.val, h⟩ k) := by
  show V m c main_arg6 (((cfg0.win 6).blk t).view.emb (ix2 r k)) = _
  rw [V_main_arg6, show ((cfg0.win 6).blk t).view.emb (ix2 r k) = (ix2 ⟨t.val * 512 + r.val, h⟩ k : S8192x1024.Idx) by blk_ext [idx t]]

/-- A sum over 3072 in twelve runs of 256. -/
theorem sum_runs (f : Fin 3072 → EReal) : ∑ k, f k = (∑ k : Fin 256, f ⟨0 + k.val, by omega⟩) + (∑ k : Fin 256, f ⟨256 + k.val, by omega⟩) + (∑ k : Fin 256, f ⟨512 + k.val, by omega⟩) + (∑ k : Fin 256, f ⟨768 + k.val, by omega⟩) + (∑ k : Fin 256, f ⟨1024 + k.val, by omega⟩) + (∑ k : Fin 256, f ⟨1280 + k.val, by omega⟩) + (∑ k : Fin 256, f ⟨1536 + k.val, by omega⟩) + (∑ k : Fin 256, f ⟨1792 + k.val, by omega⟩) + (∑ k : Fin 256, f ⟨2048 + k.val, by omega⟩) + (∑ k : Fin 256, f ⟨2304 + k.val, by omega⟩) + (∑ k : Fin 256, f ⟨2560 + k.val, by omega⟩) + (∑ k : Fin 256, f ⟨2816 + k.val, by omega⟩) := by
  have key : ∀ g : Fin 12 → EReal, ∑ i, g i = g 0 + g 1 + g 2 + g 3 + g 4 + g 5 + g 6 + g 7 + g 8 + g 9 + g 10 + g 11 := by
    intro g
    simp only [Fin.sum_univ_castSucc, Fin.sum_univ_zero, zero_add]
    rfl
  exact (Fin.sum_mul_add_fin 12 256 f).symm.trans (key _)

/-- A column of the joined gradient is a column of one of its parts. -/
theorem cat_q (q k v : FVec Ideal S8192x1024 .f32) (r : Fin 8192) (l : Fin 1024) : cat q k v (ix2 r ⟨0 + l.val, by omega⟩) = q (ix2 r l) := by
  have := l.isLt
  pointwise [cat, Cert.AttInRefIdeal.Read.val_main_v20]
theorem cat_k (q k v : FVec Ideal S8192x1024 .f32) (r : Fin 8192) (l : Fin 1024) : cat q k v (ix2 r ⟨1024 + l.val, by omega⟩) = k (ix2 r l) := by
  have := l.isLt
  pointwise [cat, Cert.AttInRefIdeal.Read.val_main_v20]
theorem cat_v (q k v : FVec Ideal S8192x1024 .f32) (r : Fin 8192) (l : Fin 1024) : cat q k v (ix2 r ⟨2048 + l.val, by omega⟩) = v (ix2 r l) := by
  have := l.isLt
  pointwise [cat, Cert.AttInRefIdeal.Read.val_main_v20]
  rw [dif_neg (by omega), dif_neg (by omega)]
  blk_ext

/-- The weight's block at a column of the whole weight. -/
theorem w_at (c : Dev nD) (t : Fin cfg0.N) (l : Fin 1024) (p : Fin 4) (x : Fin 768) (y : Fin 3072) (e : y.val = p.val * 768 + x.val) :
    iblk m c 3 t (ix3 p l x) = m ((c : Thread nD τ).loc main_arg2) (ix2 l y) := by
  obtain ⟨y, hy⟩ := y
  subst e
  exact in_w m c t p l x hy

/-- The block of the first part at a column of the joined gradient. -/
theorem dz_q (c : Dev nD) (t : Fin cfg0.N) (a : Fin 512) (h : t.val * 512 + a.val < 8192) (x : Fin 1024) (y : Fin 3072) (e : y.val = 0 + x.val) :
    iblk m c 0 t (ix2 a x) = cat (m ((c : Thread nD τ).loc main_arg3)) (m ((c : Thread nD τ).loc main_arg4)) (m ((c : Thread nD τ).loc main_arg5)) (ix2 ⟨t.val * 512 + a.val, h⟩ y) := by
  obtain ⟨y, hy⟩ := y
  subst e
  exact (in_q m c t a x h).trans (cat_q _ _ _ _ x).symm

/-- The block of the second part at a column of the joined gradient. -/
theorem dz_k (c : Dev nD) (t : Fin cfg0.N) (a : Fin 512) (h : t.val * 512 + a.val < 8192) (x : Fin 1024) (y : Fin 3072) (e : y.val = 1024 + x.val) :
    iblk m c 1 t (ix2 a x) = cat (m ((c : Thread nD τ).loc main_arg3)) (m ((c : Thread nD τ).loc main_arg4)) (m ((c : Thread nD τ).loc main_arg5)) (ix2 ⟨t.val * 512 + a.val, h⟩ y) := by
  obtain ⟨y, hy⟩ := y
  subst e
  exact (in_k m c t a x h).trans (cat_k _ _ _ _ x).symm

/-- The block of the third part at a column of the joined gradient. -/
theorem dz_v (c : Dev nD) (t : Fin cfg0.N) (a : Fin 512) (h : t.val * 512 + a.val < 8192) (x : Fin 1024) (y : Fin 3072) (e : y.val = 2048 + x.val) :
    iblk m c 2 t (ix2 a x) = cat (m ((c : Thread nD τ).loc main_arg3)) (m ((c : Thread nD τ).loc main_arg4)) (m ((c : Thread nD τ).loc main_arg5)) (ix2 ⟨t.val * 512 + a.val, h⟩ y) := by
  obtain ⟨y, hy⟩ := y
  subst e
  exact (in_v m c t a x h).trans (cat_v _ _ _ _ x).symm

/-- The first ten runs of the product of a point's rows with the transposed weight. -/
abbrev prod10 (c : Dev nD) (t : Fin cfg0.N) : FVec Ideal S512x1024 .f32 :=
  k0_pay4 (k0_pay3 (View.ld (iblk m c 0 t) (Rect.unit ![0, 0] ![512, 256] inb_S512x1024_S512x256_0_0))
    (View.ld (iblk m c 3 t) (Rect.unit ![0, 0, 0] ![1, 1024, 256] inb_S4x1024x768_S1x1024x256_0_0_0))
    (View.ld (iblk m c 0 t) (Rect.unit ![0, 256] ![512, 256] inb_S512x1024_S512x256_0_256))
    (View.ld (iblk m c 3 t) (Rect.unit ![0, 0, 256] ![1, 1024, 256] inb_S4x1024x768_S1x1024x256_0_0_256))
    (View.ld (iblk m c 0 t) (Rect.unit ![0, 512] ![512, 256] inb_S512x1024_S512x256_0_512))
    (View.ld (iblk m c 3 t) (Rect.unit ![0, 0, 512] ![1, 1024, 256] inb_S4x1024x768_S1x1024x256_0_0_512))
    (View.ld (iblk m c 0 t) (Rect.unit ![0, 768] ![512, 256] inb_S512x1024_S512x256_0_768))
    (View.ld (iblk m c 3 t) (Rect.unit ![1, 0, 0] ![1, 1024, 256] inb_S4x1024x768_S1x1024x256_1_0_0))
    (View.ld (iblk m c 1 t) (Rect.unit ![0, 0] ![512, 256] inb_S512x1024_S512x256_0_0))
    (View.ld (iblk m c 3 t) (Rect.unit ![1, 0, 256] ![1, 1024, 256] inb_S4x1024x768_S1x1024x256_1_0_256)))
    (View.ld (iblk m c 1 t) (Rect.unit ![0, 256] ![512, 256] inb_S512x1024_S512x256_0_256))
    (View.ld (iblk m c 3 t) (Rect.unit ![1, 0, 512] ![1, 1024, 256] inb_S4x1024x768_S1x1024x256_1_0_512))
    (View.ld (iblk m c 1 t) (Rect.unit ![0, 512] ![512, 256] inb_S512x1024_S512x256_0_512))
    (View.ld (iblk m c 3 t) (Rect.unit ![2, 0, 0] ![1, 1024, 256] inb_S4x1024x768_S1x1024x256_2_0_0))
    (View.ld (iblk m c 1 t) (Rect.unit ![0, 768] ![512, 256] inb_S512x1024_S512x256_0_768))
    (View.ld (iblk m c 3 t) (Rect.unit ![2, 0, 256] ![1, 1024, 256] inb_S4x1024x768_S1x1024x256_2_0_256))
    (View.ld (iblk m c 2 t) (Rect.unit ![0, 0] ![512, 256] inb_S512x1024_S512x256_0_0))
    (View.ld (iblk m c 3 t) (Rect.unit ![2, 0, 512] ![1, 1024, 256] inb_S4x1024x768_S1x1024x256_2_0_512))
    (View.ld (iblk m c 2 t) (Rect.unit ![0, 256] ![512, 256] inb_S512x1024_S512x256_0_256))
    (View.ld (iblk m c 3 t) (Rect.unit ![3, 0, 0] ![1, 1024, 256] inb_S4x1024x768_S1x1024x256_3_0_0))

/-- The product of a point's rows with the transposed weight. -/
abbrev prod (c : Dev nD) (t : Fin cfg0.N) : FVec Ideal S512x1024 .f32 :=
  k0_pay5 (prod10 m c t) (View.ld (iblk m c 2 t) (Rect.unit ![0, 512] ![512, 256] inb_S512x1024_S512x256_0_512))
    (View.ld (iblk m c 3 t) (Rect.unit ![3, 0, 256] ![1, 1024, 256] inb_S4x1024x768_S1x1024x256_3_0_256))
    (View.ld (iblk m c 2 t) (Rect.unit ![0, 768] ![512, 256] inb_S512x1024_S512x256_0_768))
    (View.ld (iblk m c 3 t) (Rect.unit ![3, 0, 512] ![1, 1024, 256] inb_S4x1024x768_S1x1024x256_3_0_512))

theorem prod_at (c : Dev nD) (t : Fin cfg0.N) (a : Fin 512) (l : Fin 1024) (h : t.val * 512 + a.val < 8192) :
    prod m c t (ix2 a l) = dy (m ((c : Thread nD τ).loc main_arg2)) (cat (m ((c : Thread nD τ).loc main_arg3)) (m ((c : Thread nD τ).loc main_arg4)) (m ((c : Thread nD τ).loc main_arg5))) ⟨t.val * 512 + a.val, h⟩ l := by
  unfold dy
  rw [sum_runs]
  pointwise [prod, prod10, k0_pay5, k0_pay4, k0_pay3]
  refine Ideal.add_congr (Ideal.add_congr (Ideal.add_congr (Ideal.add_congr (Ideal.add_congr (Ideal.add_congr (Ideal.add_congr (Ideal.add_congr (Ideal.add_congr (Ideal.add_congr (Ideal.add_congr ?_ ?_) ?_) ?_) ?_) ?_) ?_) ?_) ?_) ?_) ?_) ?_ <;> refine Finset.sum_congr rfl fun k _ => Ideal.mul_congr ?_ ?_
  · exact dz_q m c t a h _ _ (by simp)
  · exact w_at m c t l 0 _ _ (by simp)
  · exact dz_q m c t a h _ _ (by simp)
  · exact w_at m c t l 0 _ _ (by simp)
  · exact dz_q m c t a h _ _ (by simp)
  · exact w_at m c t l 0 _ _ (by simp)
  · exact dz_q m c t a h _ _ (by simp)
  · exact w_at m c t l 1 _ _ (by simp)
  · exact dz_k m c t a h _ _ (by simp)
  · exact w_at m c t l 1 _ _ (by simp; omega)
  · exact dz_k m c t a h _ _ (by simp; omega)
  · exact w_at m c t l 1 _ _ (by simp; omega)
  · exact dz_k m c t a h _ _ (by simp; omega)
  · exact w_at m c t l 2 _ _ (by simp)
  · exact dz_k m c t a h _ _ (by simp; omega)
  · exact w_at m c t l 2 _ _ (by simp; omega)
  · exact dz_v m c t a h _ _ (by simp)
  · exact w_at m c t l 2 _ _ (by simp; omega)
  · exact dz_v m c t a h _ _ (by simp; omega)
  · exact w_at m c t l 3 _ _ (by simp)
  · exact dz_v m c t a h _ _ (by simp; omega)
  · exact w_at m c t l 3 _ _ (by simp; omega)
  · exact dz_v m c t a h _ _ (by simp; omega)
  · exact w_at m c t l 3 _ _ (by simp; omega)

/-- The block of the input gradient, over the product of the point's rows. -/
theorem pay1_at (v : FVec Ideal S512x1024 .f32) (x : FVec Ideal S512x1024 .f32) (g : FVec Ideal S1x1024 .f32) (d : FVec Ideal S512x1024 .f32) (a : Fin 512) (l : Fin 1024) :
    let ρ := Ideal.rsqrt (Ideal.div (∑ j : Fin 1024, x (ix2 a j) * x (ix2 a j)) (Ideal.ofBits .f32 0x44800000#32) + Ideal.ofBits .f32 0x358637BD#32)
    k0_pay1 v (k0_pay6 x) (k0_pay7 x) (k0_pay10 g) d (ix2 a l) = d (ix2 a l) + ρ * (v (ix2 a l) * g (ix2 0 l) - x (ix2 a l) * ρ
      * Ideal.div (∑ j : Fin 1024, v (ix2 a j) * g (ix2 0 j) * (x (ix2 a j) * ρ)) (Ideal.ofBits .f32 0x44800000#32)) := by
  pointwise [k0_pay1, k0_pay6, k0_pay7, k0_pay10]

/-- The part of the gain's gradient a point computes. -/
abbrev gpart (c : Dev nD) (t : Fin cfg0.N) : FVec Ideal S1x1024 .f32 :=
  k0_pay8 (prod10 m c t) (View.ld (iblk m c 2 t) (Rect.unit ![0, 512] ![512, 256] inb_S512x1024_S512x256_0_512)) (View.ld (iblk m c 3 t) (Rect.unit ![3, 0, 256] ![1, 1024, 256] inb_S4x1024x768_S1x1024x256_3_0_256)) (View.ld (iblk m c 2 t) (Rect.unit ![0, 768] ![512, 256] inb_S512x1024_S512x256_0_768)) (View.ld (iblk m c 3 t) (Rect.unit ![3, 0, 512] ![1, 1024, 256] inb_S4x1024x768_S1x1024x256_3_0_512)) (iblk m c 4 t)

theorem pay8_at (v10 : FVec Ideal S512x1024 .f32) (a1 : FVec Ideal S512x256 .bf16) (w1 : FVec Ideal S1x1024x256 .bf16) (a2 : FVec Ideal S512x256 .bf16) (w2 : FVec Ideal S1x1024x256 .bf16) (x : FVec Ideal S512x1024 .f32) (z : Fin 1) (l : Fin 1024) :
    k0_pay8 v10 a1 w1 a2 w2 x (ix2 z l) = ∑ a : Fin 512, k0_pay5 v10 a1 w1 a2 w2 (ix2 a l) * (x (ix2 a l)
      * Ideal.rsqrt (Ideal.div (∑ j : Fin 1024, x (ix2 a j) * x (ix2 a j)) (Ideal.ofBits .f32 0x44800000#32) + Ideal.ofBits .f32 0x358637BD#32)) := by
  dsimp only [k0_pay8]
  generalize k0_pay5 v10 a1 w1 a2 w2 = v
  pointwise [k0_pay6, k0_pay7]

theorem pay9_at (v10 : FVec Ideal S512x1024 .f32) (a1 : FVec Ideal S512x256 .bf16) (w1 : FVec Ideal S1x1024x256 .bf16) (a2 : FVec Ideal S512x256 .bf16) (w2 : FVec Ideal S1x1024x256 .bf16) (x : FVec Ideal S512x1024 .f32) (o : FVec Ideal S1x1024 .f32) (j : S1x1024.Idx) :
    k0_pay9 v10 a1 w1 a2 w2 x o j = o j + k0_pay8 v10 a1 w1 a2 w2 x j := by
  pointwise [k0_pay9]

/-- One block of the input gradient against the reference. -/
theorem core (c : Dev nD) (t : Fin cfg0.N) (a : Fin 512) (l : Fin 1024) (h : t.val * 512 + a.val < 8192) :
    k0_pay1 (prod m c t) (k0_pay6 (iblk m c 4 t)) (k0_pay7 (iblk m c 4 t)) (k0_pay10 (iblk m c 5 t)) (iblk m c 6 t) (ix2 a l)
    = DH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (ix2 ⟨t.val * 512 + a.val, h⟩ l) := by
  rw [dh_at, pay1_at]
  simp only [prod_at m c t _ _ h, in_h m c t _ _ h, in_g, in_dres m c t _ _ h]
  rfl

/-- One point's part of the gain's gradient against the reference's sum. -/
theorem part (c : Dev nD) (t : Fin cfg0.N) (z : Fin 1) (l : Fin 1024) :
    gpart m c t (ix2 z l)
    = ∑ a : Fin 512, term (m ((c : Thread nD τ).loc main_arg0)) (m ((c : Thread nD τ).loc main_arg2)) (cat (m ((c : Thread nD τ).loc main_arg3)) (m ((c : Thread nD τ).loc main_arg4)) (m ((c : Thread nD τ).loc main_arg5))) l
      ⟨t.val * 512 + a.val, by have := lt_of_lt_of_eq t.isLt N_0; omega⟩ := by
  rw [gpart, pay8_at]
  refine Finset.sum_congr rfl fun a _ => ?_
  have h : t.val * 512 + a.val < 8192 := by have := lt_of_lt_of_eq t.isLt N_0; omega
  simp only [prod_at m c t _ _ h, in_h m c t _ _ h]
  rfl

/-- Every point leaves its block of the input gradient. -/
theorem outs7 (c : Dev nD) (t : Fin cfg0.N) : (outsAt0 m c t.val t.isLt).1
    = k0_pay1 (prod m c t) (k0_pay6 (iblk m c 4 t)) (k0_pay7 (iblk m c 4 t)) (k0_pay10 (iblk m c 5 t)) (iblk m c 6 t) := by
  by_cases h : t.val % 16 = 0
  · rw [outsAt0_A m c t h (by have := lt_of_lt_of_eq t.isLt N_0; omega)]; funext y; frame_out; rfl
  · rw [outsAt0_B m c t h (by omega)]; funext y; frame_out; rfl

/-- The narrow copy of the same block. -/
theorem outs9 (c : Dev nD) (t : Fin cfg0.N) : (outsAt0 m c t.val t.isLt).2.2
    = k0_pay2 (prod m c t) (k0_pay6 (iblk m c 4 t)) (k0_pay7 (iblk m c 4 t)) (k0_pay10 (iblk m c 5 t)) (iblk m c 6 t) := by
  by_cases h : t.val % 16 = 0
  · rw [outsAt0_A m c t h (by have := lt_of_lt_of_eq t.isLt N_0; omega)]; funext y; frame_out; rfl
  · rw [outsAt0_B m c t h (by omega)]; funext y; frame_out; rfl

theorem final7 (c : Dev nD) : (dats m 0 c).arrAt 7 (cfgs 0).N
    = DH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  have hb : t.val * 512 + (y 0).val < 8192 := by have := lt_of_lt_of_eq t.isLt N_0; have : (y 0).val < 512 := (y 0).isLt; omega
  blk_simp
  rw [after0_7, outs7]
  exact (congrArg _ (by blk_ext)).trans ((core m c t (y 0) (y 1) hb).trans (congrArg _ (by blk_ext [idx t])))

theorem final9 (c : Dev nD) : (dats m 0 c).arrAt 9 (cfgs 0).N
    = Cert.AttInRefIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  have hb : t.val * 512 + (y 0).val < 8192 := by have := lt_of_lt_of_eq t.isLt N_0; have : (y 0).val < 512 := (y 0).isLt; omega
  blk_simp
  rw [after0_9, outs9]
  refine Eq.trans ?_ ((core m c t (y 0) (y 1) hb).trans (congrArg _ (by blk_ext [idx t])))
  pointwise [k0_pay2]

theorem final8 (c : Dev nD) : (dats m 0 c).arrAt 8 (cfgs 0).N
    = DG (m ((c : Thread nD τ).loc main_arg0)) (m ((c : Thread nD τ).loc main_arg2)) (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  blk_simp
  rw [after0_8, Pipeline.eq_sum_fin_of_reset_step_apply_last (fun n h => (outsAt0 m c n h).2.1) 16 (fun _ => 0)
    (fun p j => gpart m c p j)
    (fun t h j => by rw [outsAt0_A m c t h (by have := lt_of_lt_of_eq t.isLt N_0; omega)]; frame_out; rw [zero_add]; rfl)
    (fun t h j => by rw [outsAt0_B m c t h (by omega)]; frame_out; exact pay9_at _ _ _ _ _ _ _ _)
    (le_of_eq N_0) t0_15 rfl j, zero_add]
  obtain ⟨z, l, rfl⟩ : ∃ (z : Fin 1) (l : Fin 1024), j = ix2 z l := ⟨j 0, j 1, by blk_ext⟩
  rw [dg_at]
  refine (Fin.sum_fin_congr fun p => part m c p z l).trans ?_
  exact Fin.sum_mul_add_congr fun s k hl => rfl

end Cert.AttInIdeal.In
end
-- ==== Proof.AttInPair.lean ====
module

public import proofs.«01_k».proof.Defs
public import proofs.«01_k».proof.Proof.AttIn
public import proofs.«01_k».proof.Proof.Gen.AttIn.Frame
public import proofs.«01_k».proof.Proof.Gen.AttInRefIdeal.Run
public import Idealize.ShloMosaic.Lib.Claim

@[expose] public section

set_option maxRecDepth 16384

noncomputable section

open Idealize.ShloMosaic Idealize.SL.Sem

/-! The claims about the gradient of the normalisation in front of the attention's first product. -/

namespace Cert.AttInPair

/-- The kernel leaves its arguments as they were, over the float words. -/
theorem frame_kernel : Cert.quiescent_AttIn := fun m ρ _ => Cert.AttIn.Gen.frame m ρ
/-- The same, over the extended reals. -/
theorem frame_ideal : Cert.quiescent_AttInIdeal := fun m ρ _ => Cert.AttInIdeal.Gen.frame m ρ
/-- The reference leaves its arguments as they were. -/
theorem frame_reference : Cert.quiescent_AttInRefIdeal := fun m ρ _ =>
  (θ_run Cert.AttInRefIdeal.defs _ _).mono (fun r h => ⟨fun c => (h c).2.2.2, sem_eq_zero_of_no_sems (by decide) r.2⟩)
    (Cert.AttInRefIdeal.Value.run (F := Ideal) m ρ)

/-- The kernel computes the reference's derivative. -/
theorem algebraic : Cert.algebraic_AttInIdeal_AttInRefIdeal := by
  pair_intro
  · run_from Cert.AttInIdeal.Value.run_blocks m g
  · run_from Cert.AttInRefIdeal.Value.run m' g'
    all_goals obtain ⟨h0, h1, h2, h3, h4, h5, h6⟩ := hagree c
    · rw [Cert.AttInRefIdeal.Read.val_main_v42_eq, h0, h1, h2, h3, h4, h5, h6]; exact (Cert.AttInIdeal.In.final7 m c).symm
    · refine (Cert.AttInRefIdeal.Read.val_main_v43_eq _ _ _ _ _).trans ?_
      rw [h3, h4, h5]; exact (Cert.AttInIdeal.In.final8 m c).symm
    · rw [Cert.AttInRefIdeal.Read.val_main_v44_eq, h0, h1, h2, h3, h4, h5, h6]; exact (Cert.AttInIdeal.In.final9 m c).symm

end Cert.AttInPair
end
-- ==== Proof.MlpUp.lean ====
module

public import proofs.«01_k».proof.Proof.Gen.MlpUpIdeal.Value
public import proofs.«01_k».proof.Proof.Gen.MlpUpRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

/-! The forward call of the dense layer: the normalised rows, their product with the weight and its rectifier. -/

namespace Cert.MlpUpIdeal.Up

open Cert.MlpUpIdeal Cert.MlpUpIdeal.Gen

variable (m : (ℓ : Loc nD τ sig) → Buf (Elt Ideal) ℓ)

/-- The rectified rows, as the reference computes them. -/
abbrev ACT (h : FVec Ideal S8192x1024 .f32) (g : FVec Ideal S1024 .f32) (w : FVec Ideal S1024x4096 .f32) : FVec Ideal S8192x4096 .bf16 :=
  Cert.MlpUpRefIdeal.Read.val_main_v15 (F := Ideal) h g w

/-- The normalised rows, as the reference computes them. -/
abbrev HN (h : FVec Ideal S8192x1024 .f32) (g : FVec Ideal S1024 .f32) : FVec Ideal S8192x1024 .bf16 :=
  Cert.MlpUpRefIdeal.Read.val_main_v16 (F := Ideal) h g

/-- An entry of a row divided by the root of the row's mean square, times the gain. -/
def nrm (x : Fin 1024 → EReal) (g : EReal) (l : Fin 1024) : EReal :=
  x l * Ideal.rsqrt (Ideal.div (∑ j : Fin 1024, x j * x j) (Ideal.ofBits .f32 0x44800000#32) + Ideal.ofBits .f32 0x358637BD#32) * g

open Cert.MlpUpRefIdeal.Read in
/-- The reference's normalised rows at an index. -/
theorem hn_at (h : FVec Ideal S8192x1024 .f32) (g : FVec Ideal S1024 .f32) (r : Fin 8192) (l : Fin 1024) :
    HN h g (ix2 r l) = nrm (fun j => h (ix2 r j)) (g (ix1 l)) l := by
  pointwise [HN, nrm, val_main_v16, val_main_v12, val_main_v11, val_main_v10, val_main_v9, val_main_v8, val_main_v7, val_main_v6,
    val_main_v5, val_main_v4, val_main_v3, val_main_v2, val_main_v1, val_main_v0, val_main_cst, val_main_cst_0, val_main_cst_1]

open Cert.MlpUpRefIdeal.Read in
/-- The reference's rectified rows at an index, over the normalised ones. -/
theorem act_at (h : FVec Ideal S8192x1024 .f32) (g : FVec Ideal S1024 .f32) (w : FVec Ideal S1024x4096 .f32) (r : Fin 8192) (l : Fin 4096) :
    ACT h g w (ix2 r l) = max (∑ k : Fin 1024, HN h g (ix2 r k) * w (ix2 k l)) 0 := by
  have e : val_main_v12 (F := Ideal) h g = HN h g := rfl
  show val_main_v15 (F := Ideal) h g w (ix2 r l) = _
  unfold val_main_v15 val_main_v14 val_main_v13
  rw [e]
  generalize HN h g = y
  pointwise [val_main_call0_v0, val_main_call0_cst]

theorem idx : ∀ t : Fin cfg0.N, win0_0.index t = ![t.val, 0] ∧ win0_1.index t = ![0, 0, 0] ∧ win0_2.index t = ![0, 0] ∧ win0_3.index t = ![t.val, 0]
    ∧ win0_4.index t = ![t.val, 0] :=
  (by decide +kernel : ∀ t : Fin grid0.N, _)

/-- The weight as the kernel reads it: four slabs of 1024 columns. -/
theorem entry_w (c : Dev nD) : V m c main_v2 = transpose S4x1024x1024 [1, 0, 2] (shapeCast S1024x4x1024 (truncf .bf16 (m ((c : Thread nD τ).loc main_arg2) : FVec Ideal S1024x4096 .f32) bitsLt_bf16_f32 : FVec Ideal S1024x4096 .bf16) shapeCasts_S1024x4096_S1024x4x1024) transposes_S1024x4x1024_S4x1024x1024_1_0_2 := by
  show StableHlo.after hostOps0 _ (Proc.devRef .tc main_v2) = _
  after_results
  rfl
/-- The gain as the kernel reads it: one row. -/
theorem entry_g (c : Dev nD) : V m c main_v3 = shapeCast S1x1024 (m ((c : Thread nD τ).loc main_arg1) : FVec Ideal S1024 .f32) shapeCasts_S1024_S1x1024 := by
  show StableHlo.after hostOps0 _ (Proc.devRef .tc main_v3) = _
  after_results
  rfl

/-- The block of the layer's input at point `t`: rows `512 t` onwards of the argument. -/
theorem in_h (c : Dev nD) (t : Fin cfg0.N) (r : Fin 512) (k : Fin 1024) (h : t.val * 512 + r.val < 8192) :
    iblk m c 0 t (ix2 r k) = m ((c : Thread nD τ).loc main_arg0) (ix2 ⟨t.val * 512 + r.val, h⟩ k) := by
  show V m c main_arg0 (((cfg0.win 0).blk t).view.emb (ix2 r k)) = _
  rw [V_main_arg0, show ((cfg0.win 0).blk t).view.emb (ix2 r k) = (ix2 ⟨t.val * 512 + r.val, h⟩ k : S8192x1024.Idx) by blk_ext [idx t]]

/-- The weight's block: slab `p` holds the columns `1024 p` onwards. -/
theorem in_w (c : Dev nD) (t : Fin cfg0.N) (p : Fin 4) (r k : Fin 1024) (h : p.val * 1024 + k.val < 4096) :
    iblk m c 1 t (ix3 p r k) = m ((c : Thread nD τ).loc main_arg2) (ix2 r ⟨p.val * 1024 + k.val, h⟩) := by
  show V m c main_v2 (((cfg0.win 1).blk t).view.emb (ix3 p r k)) = _
  rw [entry_w, show ((cfg0.win 1).blk t).view.emb (ix3 p r k) = (ix3 p r k : S4x1024x1024.Idx) by blk_ext [idx t]]
  pointwise

/-- The gain's block. -/
theorem in_g (c : Dev nD) (t : Fin cfg0.N) (z : Fin 1) (k : Fin 1024) :
    iblk m c 2 t (ix2 z k) = m ((c : Thread nD τ).loc main_arg1) (ix1 k) := by
  show V m c main_v3 (((cfg0.win 2).blk t).view.emb (ix2 z k)) = _
  rw [entry_g, show ((cfg0.win 2).blk t).view.emb (ix2 z k) = (ix2 z k : S1x1024.Idx) by blk_ext [idx t]]
  pointwise

/-- The kernel's normalised rows at an index. -/
theorem pay3_at (x : FVec Ideal S512x1024 .f32) (g : FVec Ideal S1x1024 .f32) (a : Fin 512) (l : Fin 1024) :
    k0_pay3 (F := Ideal) x g (ix2 a l) = nrm (fun j => x (ix2 a j)) (g (ix2 0 l)) l := by
  pointwise [k0_pay3, nrm]

/-- The normalised rows of point `t`, as the body names them. -/
abbrev rows (c : Dev nD) (t : Fin cfg0.N) : FVec Ideal S512x1024 .bf16 :=
  k0_pay3 (View.ld (iblk m c 0 t) (Rect.unit ![0, 0] ![512, 1024] inb_S512x1024_S512x1024_0_0)) (View.ld (iblk m c 2 t) (Rect.unit ![0, 0] ![1, 1024] inb_S1x1024_S1x1024_0_0))

/-- They are the reference's. -/
theorem rows_at (c : Dev nD) (t : Fin cfg0.N) (a : Fin 512) (l : Fin 1024) (h : t.val * 512 + a.val < 8192) :
    rows m c t (ix2 a l) = HN (m ((c : Thread nD τ).loc main_arg0)) (m ((c : Thread nD τ).loc main_arg1)) (ix2 ⟨t.val * 512 + a.val, h⟩ l) := by
  refine (pay3_at _ _ a l).trans (Eq.trans ?_ (hn_at _ _ _ l).symm)
  have e1 : ∀ j : Fin 1024, View.ld (iblk m c 0 t) (Rect.unit ![0, 0] ![512, 1024] inb_S512x1024_S512x1024_0_0) (ix2 a j) = m ((c : Thread nD τ).loc main_arg0) (ix2 ⟨t.val * 512 + a.val, h⟩ j) := fun j =>
    (View.ld_unit_apply_of _ _ _ _ _ (ix2 a j) (fun a => match a with | ⟨0, _⟩ => by simp | ⟨1, _⟩ => by simp)).trans (in_h m c t a j h)
  have e2 : View.ld (iblk m c 2 t) (Rect.unit ![0, 0] ![1, 1024] inb_S1x1024_S1x1024_0_0) (ix2 0 l) = m ((c : Thread nD τ).loc main_arg1) (ix1 l) :=
    (View.ld_unit_apply_of _ _ _ _ _ (ix2 0 l) (fun a => match a with | ⟨0, _⟩ => by simp | ⟨1, _⟩ => by simp)).trans (in_g m c t 0 l)
  rw [e2]
  exact congrArg (fun x : Fin 1024 → EReal => nrm x _ l) (funext e1)

/-- The rectified product of rows with one slab at an index. -/
theorem pay1_at (v : FVec Ideal S512x1024 .bf16) (w : FVec Ideal S1x1024x1024 .bf16) (a : Fin 512) (b : Fin 1024) :
    k0_pay1 v w (ix2 a b) = max (∑ k : Fin 1024, v (ix2 a k) * w (ix3 0 k b)) 0 := by
  pointwise [k0_pay1]

/-- A rectified product of the point's rows with one slab is the reference's. -/
theorem slab (c : Dev nD) (t : Fin cfg0.N) (p : Fin 4) (a : Fin 512) (b : Fin 1024) (w : FVec Ideal S1x1024x1024 .bf16)
    (hw : ∀ k, w (ix3 0 k b) = iblk m c 1 t (ix3 p k b)) (h : t.val * 512 + a.val < 8192) (hp : p.val * 1024 + b.val < 4096) :
    max (∑ k : Fin 1024, rows m c t (ix2 a k) * w (ix3 0 k b)) 0
      = ACT (m ((c : Thread nD τ).loc main_arg0)) (m ((c : Thread nD τ).loc main_arg1)) (m ((c : Thread nD τ).loc main_arg2))
          (ix2 ⟨t.val * 512 + a.val, h⟩ ⟨p.val * 1024 + b.val, hp⟩) := by
  refine Eq.trans ?_ (act_at _ _ _ _ _).symm
  refine congrArg (fun s : EReal => max s 0) (Finset.sum_congr rfl fun k _ => Ideal.mul_congr (rows_at m c t a k h) ?_)
  exact (hw k).trans (in_w m c t p k b hp)

/-- One block of the rectified rows against the reference. -/
theorem core3 (c : Dev nD) (t : Fin cfg0.N) (y : S512x4096.Idx) : out0_3 (F := Ideal) (iblk m c 0 t) (iblk m c 1 t) (iblk m c 2 t) y
    = ACT (m ((c : Thread nD τ).loc main_arg0)) (m ((c : Thread nD τ).loc main_arg1)) (m ((c : Thread nD τ).loc main_arg2)) (((cfg0.win 3).blk t).view.emb y) := by
  have ht : t.val < 16 := lt_of_lt_of_eq t.isLt N_0
  have hb : t.val * 512 + (y 0).val < 8192 := by have : (y 0).val < 512 := (y 0).isLt; omega
  refine Eq.trans ?_ (congrArg _ (show (ix2 ⟨t.val * 512 + (y 0).val, hb⟩ (y 1) : S8192x4096.Idx) = ((cfg0.win 3).blk t).view.emb y by blk_ext [idx t]))
  unfold out0_3 k0_pay6
  canon_tiles x h
  · refine Eq.trans (congrArg (k0_pay1 (rows m c t) (View.ld (iblk m c 1 t) (Rect.unit ![3, 0, 0] ![1, 1024, 1024] inb_S4x1024x1024_S1x1024x1024_3_0_0))) (show _ = (ix2 (x 0) (x 1) : S512x1024.Idx) by blk_ext)) ?_
    exact (pay1_at _ _ (x 0) (x 1)).trans ((slab m c t 3 (x 0) (x 1) _ (fun k => View.ld_unit_apply_of _ _ _ _ _ (ix3 3 k (x 1)) (fun a => match a with | ⟨0, _⟩ => rfl | ⟨1, _⟩ => by simp | ⟨2, _⟩ => by simp)) (by omega)
      (by simp; omega)).trans (congrArg _ (by blk_ext)))
  · refine Eq.trans (congrArg (k0_pay1 (rows m c t) (View.ld (iblk m c 1 t) (Rect.unit ![2, 0, 0] ![1, 1024, 1024] inb_S4x1024x1024_S1x1024x1024_2_0_0))) (show _ = (ix2 (x 0) (x 1) : S512x1024.Idx) by blk_ext)) ?_
    exact (pay1_at _ _ (x 0) (x 1)).trans ((slab m c t 2 (x 0) (x 1) _ (fun k => View.ld_unit_apply_of _ _ _ _ _ (ix3 2 k (x 1)) (fun a => match a with | ⟨0, _⟩ => rfl | ⟨1, _⟩ => by simp | ⟨2, _⟩ => by simp)) (by omega)
      (by simp; omega)).trans (congrArg _ (by blk_ext)))
  · refine Eq.trans (congrArg (k0_pay1 (rows m c t) (View.ld (iblk m c 1 t) (Rect.unit ![1, 0, 0] ![1, 1024, 1024] inb_S4x1024x1024_S1x1024x1024_1_0_0))) (show _ = (ix2 (x 0) (x 1) : S512x1024.Idx) by blk_ext)) ?_
    exact (pay1_at _ _ (x 0) (x 1)).trans ((slab m c t 1 (x 0) (x 1) _ (fun k => View.ld_unit_apply_of _ _ _ _ _ (ix3 1 k (x 1)) (fun a => match a with | ⟨0, _⟩ => rfl | ⟨1, _⟩ => by simp | ⟨2, _⟩ => by simp)) (by omega)
      (by simp; omega)).trans (congrArg _ (by blk_ext)))
  · refine Eq.trans (congrArg (k0_pay1 (rows m c t) (View.ld (iblk m c 1 t) (Rect.unit ![0, 0, 0] ![1, 1024, 1024] inb_S4x1024x1024_S1x1024x1024_0_0_0))) (show _ = (ix2 (x 0) (x 1) : S512x1024.Idx) by blk_ext)) ?_
    exact (pay1_at _ _ (x 0) (x 1)).trans ((slab m c t 0 (x 0) (x 1) _ (fun k => View.ld_unit_apply_of _ _ _ _ _ (ix3 0 k (x 1)) (fun a => match a with | ⟨0, _⟩ => rfl | ⟨1, _⟩ => by simp | ⟨2, _⟩ => by simp)) (by omega)
      (by simp; omega)).trans (congrArg _ (by blk_ext)))

/-- One block of the normalised rows against the reference. -/
theorem core4 (c : Dev nD) (t : Fin cfg0.N) (y : S512x1024.Idx) : out0_4 (F := Ideal) (iblk m c 0 t) (iblk m c 1 t) (iblk m c 2 t) y
    = HN (m ((c : Thread nD τ).loc main_arg0)) (m ((c : Thread nD τ).loc main_arg1)) (((cfg0.win 4).blk t).view.emb y) := by
  have ht : t.val < 16 := lt_of_lt_of_eq t.isLt N_0
  have hb : t.val * 512 + (y 0).val < 8192 := by have : (y 0).val < 512 := (y 0).isLt; omega
  refine Eq.trans ?_ (congrArg _ (show (ix2 ⟨t.val * 512 + (y 0).val, hb⟩ (y 1) : S8192x1024.Idx) = ((cfg0.win 4).blk t).view.emb y by blk_ext [idx t]))
  unfold out0_4
  canon_tiles x h
  refine Eq.trans (congrArg (rows m c t) (by blk_ext)) (rows_at m c t (y 0) (y 1) hb)

/-- The call leaves the reference's rectified rows. -/
theorem final3 (c : Dev nD) : (dats m 0 c).arrAt 3 (cfgs 0).N
    = ACT (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact core3 m c t y

/-- The call leaves the reference's normalised rows. -/
theorem final4 (c : Dev nD) : (dats m 0 c).arrAt 4 (cfgs 0).N
    = HN (m ((c : Thread nD τ).loc main_arg0)) (m ((c : Thread nD τ).loc main_arg1)) := by
  refine (dats m 0 c).arrAt_eq_of_covers 4 _ (by decide +kernel) fun t _ y => ?_
  blk_simp
  rw [after0_4]
  exact core4 m c t y

end Cert.MlpUpIdeal.Up
end
-- ==== Proof.MlpUpPair.lean ====
module

public import proofs.«01_k».proof.Defs
public import proofs.«01_k».proof.Proof.MlpUp
public import proofs.«01_k».proof.Proof.Gen.MlpUp.Frame
public import proofs.«01_k».proof.Proof.Gen.MlpUpRefIdeal.Run
public import Idealize.ShloMosaic.Lib.Claim

@[expose] public section

set_option maxRecDepth 16384

noncomputable section

open Idealize.ShloMosaic Idealize.SL.Sem

/-! The claims about the forward call of the dense layer. -/

namespace Cert.MlpUpPair

/-- The kernel leaves its arguments as they were, over the float words. -/
theorem frame_kernel : Cert.quiescent_MlpUp := fun m ρ _ => Cert.MlpUp.Gen.frame m ρ
/-- The same, over the extended reals. -/
theorem frame_ideal : Cert.quiescent_MlpUpIdeal := fun m ρ _ => Cert.MlpUpIdeal.Gen.frame m ρ
/-- The reference leaves its arguments as they were. -/
theorem frame_reference : Cert.quiescent_MlpUpRefIdeal := fun m ρ _ =>
  (θ_run Cert.MlpUpRefIdeal.defs _ _).mono (fun r h => ⟨fun c => (h c).2.2, sem_eq_zero_of_no_sems (by decide) r.2⟩)
    (Cert.MlpUpRefIdeal.Value.run (F := Ideal) m ρ)

/-- The kernel computes the reference's values. -/
theorem algebraic : Cert.algebraic_MlpUpIdeal_MlpUpRefIdeal := by
  pair_intro
  · run_from Cert.MlpUpIdeal.Value.run_blocks m g
  · run_from Cert.MlpUpRefIdeal.Value.run m' g'
    · rw [Cert.MlpUpRefIdeal.Read.val_main_v15_eq]; exact (Cert.MlpUpIdeal.Up.final3 m c).symm
    · rw [Cert.MlpUpRefIdeal.Read.val_main_v16_eq]; exact (Cert.MlpUpIdeal.Up.final4 m c).symm

end Cert.MlpUpPair
end
-- ==== Proof.RetProj.lean ====
module

public import proofs.«01_k».proof.Proof.Gen.RetProjIdeal.Value
public import proofs.«01_k».proof.Proof.Gen.RetProjRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

/-! The forward call in front of the retention: the normalised rows and their product with the weight. -/

namespace Cert.RetProjIdeal.Proj

open Cert.RetProjIdeal Cert.RetProjIdeal.Gen

variable (m : (ℓ : Loc nD τ sig) → Buf (Elt Ideal) ℓ)

/-- The product's rows, as the reference computes them. -/
abbrev ACT (h : FVec Ideal S8192x1024 .f32) (g : FVec Ideal S1024 .f32) (w : FVec Ideal S1024x6144 .f32) : FVec Ideal S8192x6144 .bf16 :=
  Cert.RetProjRefIdeal.Read.val_main_v14 (F := Ideal) h g w

/-- The normalised rows, as the reference computes them. -/
abbrev HN (h : FVec Ideal S8192x1024 .f32) (g : FVec Ideal S1024 .f32) : FVec Ideal S8192x1024 .bf16 :=
  Cert.RetProjRefIdeal.Read.val_main_v15 (F := Ideal) h g

/-- An entry of a row divided by the root of the row's mean square, times the gain. -/
def nrm (x : Fin 1024 → EReal) (g : EReal) (l : Fin 1024) : EReal :=
  x l * Ideal.rsqrt (Ideal.div (∑ j : Fin 1024, x j * x j) (Ideal.ofBits .f32 0x44800000#32) + Ideal.ofBits .f32 0x358637BD#32) * g

open Cert.RetProjRefIdeal.Read in
/-- The reference's normalised rows at an index. -/
theorem hn_at (h : FVec Ideal S8192x1024 .f32) (g : FVec Ideal S1024 .f32) (r : Fin 8192) (l : Fin 1024) :
    HN h g (ix2 r l) = nrm (fun j => h (ix2 r j)) (g (ix1 l)) l := by
  pointwise [HN, nrm, val_main_v15, val_main_v12, val_main_v11, val_main_v10, val_main_v9, val_main_v8, val_main_v7, val_main_v6,
    val_main_v5, val_main_v4, val_main_v3, val_main_v2, val_main_v1, val_main_v0, val_main_cst, val_main_cst_0, val_main_cst_1]

open Cert.RetProjRefIdeal.Read in
/-- The reference's product's rows at an index, over the normalised ones. -/
theorem act_at (h : FVec Ideal S8192x1024 .f32) (g : FVec Ideal S1024 .f32) (w : FVec Ideal S1024x6144 .f32) (r : Fin 8192) (l : Fin 6144) :
    ACT h g w (ix2 r l) = ∑ k : Fin 1024, HN h g (ix2 r k) * w (ix2 k l) := by
  have e : val_main_v12 (F := Ideal) h g = HN h g := rfl
  show val_main_v14 (F := Ideal) h g w (ix2 r l) = _
  unfold val_main_v14 val_main_v13
  rw [e]
  generalize HN h g = y
  pointwise

theorem idx : ∀ t : Fin cfg0.N, win0_0.index t = ![t.val, 0] ∧ win0_1.index t = ![0, 0, 0] ∧ win0_2.index t = ![0, 0] ∧ win0_3.index t = ![t.val, 0]
    ∧ win0_4.index t = ![t.val, 0] :=
  (by decide +kernel : ∀ t : Fin grid0.N, _)

/-- The weight as the kernel reads it: four slabs of 1536 columns. -/
theorem entry_w (c : Dev nD) : V m c main_v2 = transpose S4x1024x1536 [1, 0, 2] (shapeCast S1024x4x1536 (truncf .bf16 (m ((c : Thread nD τ).loc main_arg2) : FVec Ideal S1024x6144 .f32) bitsLt_bf16_f32 : FVec Ideal S1024x6144 .bf16) shapeCasts_S1024x6144_S1024x4x1536) transposes_S1024x4x1536_S4x1024x1536_1_0_2 := by
  show StableHlo.after hostOps0 _ (Proc.devRef .tc main_v2) = _
  after_results
  rfl
/-- The gain as the kernel reads it: one row. -/
theorem entry_g (c : Dev nD) : V m c main_v3 = shapeCast S1x1024 (m ((c : Thread nD τ).loc main_arg1) : FVec Ideal S1024 .f32) shapeCasts_S1024_S1x1024 := by
  show StableHlo.after hostOps0 _ (Proc.devRef .tc main_v3) = _
  after_results
  rfl

/-- The block of the layer's input at point `t`: rows `512 t` onwards of the argument. -/
theorem in_h (c : Dev nD) (t : Fin cfg0.N) (r : Fin 512) (k : Fin 1024) (h : t.val * 512 + r.val < 8192) :
    iblk m c 0 t (ix2 r k) = m ((c : Thread nD τ).loc main_arg0) (ix2 ⟨t.val * 512 + r.val, h⟩ k) := by
  show V m c main_arg0 (((cfg0.win 0).blk t).view.emb (ix2 r k)) = _
  rw [V_main_arg0, show ((cfg0.win 0).blk t).view.emb (ix2 r k) = (ix2 ⟨t.val * 512 + r.val, h⟩ k : S8192x1024.Idx) by blk_ext [idx t]]

/-- The weight's block: slab `p` holds the columns `1536 p` onwards. -/
theorem in_w (c : Dev nD) (t : Fin cfg0.N) (p : Fin 4) (r : Fin 1024) (k : Fin 1536) (h : p.val * 1536 + k.val < 6144) :
    iblk m c 1 t (ix3 p r k) = m ((c : Thread nD τ).loc main_arg2) (ix2 r ⟨p.val * 1536 + k.val, h⟩) := by
  show V m c main_v2 (((cfg0.win 1).blk t).view.emb (ix3 p r k)) = _
  rw [entry_w, show ((cfg0.win 1).blk t).view.emb (ix3 p r k) = (ix3 p r k : S4x1024x1536.Idx) by blk_ext [idx t]]
  pointwise

/-- The gain's block. -/
theorem in_g (c : Dev nD) (t : Fin cfg0.N) (z : Fin 1) (k : Fin 1024) :
    iblk m c 2 t (ix2 z k) = m ((c : Thread nD τ).loc main_arg1) (ix1 k) := by
  show V m c main_v3 (((cfg0.win 2).blk t).view.emb (ix2 z k)) = _
  rw [entry_g, show ((cfg0.win 2).blk t).view.emb (ix2 z k) = (ix2 z k : S1x1024.Idx) by blk_ext [idx t]]
  pointwise

/-- The kernel's normalised rows at an index. -/
theorem pay3_at (x : FVec Ideal S512x1024 .f32) (g : FVec Ideal S1x1024 .f32) (a : Fin 512) (l : Fin 1024) :
    k0_pay2 (F := Ideal) x g (ix2 a l) = nrm (fun j => x (ix2 a j)) (g (ix2 0 l)) l := by
  pointwise [k0_pay2, nrm]

/-- The normalised rows of point `t`, as the body names them. -/
abbrev rows (c : Dev nD) (t : Fin cfg0.N) : FVec Ideal S512x1024 .bf16 :=
  k0_pay2 (View.ld (iblk m c 0 t) (Rect.unit ![0, 0] ![512, 1024] inb_S512x1024_S512x1024_0_0)) (View.ld (iblk m c 2 t) (Rect.unit ![0, 0] ![1, 1024] inb_S1x1024_S1x1024_0_0))

/-- They are the reference's. -/
theorem rows_at (c : Dev nD) (t : Fin cfg0.N) (a : Fin 512) (l : Fin 1024) (h : t.val * 512 + a.val < 8192) :
    rows m c t (ix2 a l) = HN (m ((c : Thread nD τ).loc main_arg0)) (m ((c : Thread nD τ).loc main_arg1)) (ix2 ⟨t.val * 512 + a.val, h⟩ l) := by
  refine (pay3_at _ _ a l).trans (Eq.trans ?_ (hn_at _ _ _ l).symm)
  have e1 : ∀ j : Fin 1024, View.ld (iblk m c 0 t) (Rect.unit ![0, 0] ![512, 1024] inb_S512x1024_S512x1024_0_0) (ix2 a j) = m ((c : Thread nD τ).loc main_arg0) (ix2 ⟨t.val * 512 + a.val, h⟩ j) := fun j =>
    (View.ld_unit_apply_of _ _ _ _ _ (ix2 a j) (fun a => match a with | ⟨0, _⟩ => by simp | ⟨1, _⟩ => by simp)).trans (in_h m c t a j h)
  have e2 : View.ld (iblk m c 2 t) (Rect.unit ![0, 0] ![1, 1024] inb_S1x1024_S1x1024_0_0) (ix2 0 l) = m ((c : Thread nD τ).loc main_arg1) (ix1 l) :=
    (View.ld_unit_apply_of _ _ _ _ _ (ix2 0 l) (fun a => match a with | ⟨0, _⟩ => by simp | ⟨1, _⟩ => by simp)).trans (in_g m c t 0 l)
  rw [e2]
  exact congrArg (fun x : Fin 1024 → EReal => nrm x _ l) (funext e1)

/-- The product of rows with one slab at an index. -/
theorem pay1_at (v : FVec Ideal S512x1024 .bf16) (w : FVec Ideal S1x1024x1536 .bf16) (a : Fin 512) (b : Fin 1536) :
    k0_pay1 v w (ix2 a b) = ∑ k : Fin 1024, v (ix2 a k) * w (ix3 0 k b) := by
  pointwise [k0_pay1]

/-- The product of the point's rows with one slab is the reference's. -/
theorem slab (c : Dev nD) (t : Fin cfg0.N) (p : Fin 4) (a : Fin 512) (b : Fin 1536) (w : FVec Ideal S1x1024x1536 .bf16)
    (hw : ∀ k, w (ix3 0 k b) = iblk m c 1 t (ix3 p k b)) (h : t.val * 512 + a.val < 8192) (hp : p.val * 1536 + b.val < 6144) :
    ∑ k : Fin 1024, rows m c t (ix2 a k) * w (ix3 0 k b)
      = ACT (m ((c : Thread nD τ).loc main_arg0)) (m ((c : Thread nD τ).loc main_arg1)) (m ((c : Thread nD τ).loc main_arg2))
          (ix2 ⟨t.val * 512 + a.val, h⟩ ⟨p.val * 1536 + b.val, hp⟩) := by
  refine Eq.trans ?_ (act_at _ _ _ _ _).symm
  refine Finset.sum_congr rfl fun k _ => Ideal.mul_congr (rows_at m c t a k h) ?_
  exact (hw k).trans (in_w m c t p k b hp)

/-- One block of the product's rows against the reference. -/
theorem core3 (c : Dev nD) (t : Fin cfg0.N) (y : S512x6144.Idx) : out0_3 (F := Ideal) (iblk m c 0 t) (iblk m c 1 t) (iblk m c 2 t) y
    = ACT (m ((c : Thread nD τ).loc main_arg0)) (m ((c : Thread nD τ).loc main_arg1)) (m ((c : Thread nD τ).loc main_arg2)) (((cfg0.win 3).blk t).view.emb y) := by
  have ht : t.val < 16 := lt_of_lt_of_eq t.isLt N_0
  have hb : t.val * 512 + (y 0).val < 8192 := by have : (y 0).val < 512 := (y 0).isLt; omega
  refine Eq.trans ?_ (congrArg _ (show (ix2 ⟨t.val * 512 + (y 0).val, hb⟩ (y 1) : S8192x6144.Idx) = ((cfg0.win 3).blk t).view.emb y by blk_ext [idx t]))
  unfold out0_3
  canon_tiles x h
  · refine Eq.trans (congrArg (k0_pay1 (rows m c t) (View.ld (iblk m c 1 t) (Rect.unit ![3, 0, 0] ![1, 1024, 1536] inb_S4x1024x1536_S1x1024x1536_3_0_0))) (show _ = (ix2 (x 0) (x 1) : S512x1536.Idx) by blk_ext)) ?_
    exact (pay1_at _ _ (x 0) (x 1)).trans ((slab m c t 3 (x 0) (x 1) _ (fun k => View.ld_unit_apply_of _ _ _ _ _ (ix3 3 k (x 1)) (fun a => match a with | ⟨0, _⟩ => rfl | ⟨1, _⟩ => by simp | ⟨2, _⟩ => by simp)) (by omega)
      (by simp; omega)).trans (congrArg _ (by blk_ext)))
  · refine Eq.trans (congrArg (k0_pay1 (rows m c t) (View.ld (iblk m c 1 t) (Rect.unit ![2, 0, 0] ![1, 1024, 1536] inb_S4x1024x1536_S1x1024x1536_2_0_0))) (show _ = (ix2 (x 0) (x 1) : S512x1536.Idx) by blk_ext)) ?_
    exact (pay1_at _ _ (x 0) (x 1)).trans ((slab m c t 2 (x 0) (x 1) _ (fun k => View.ld_unit_apply_of _ _ _ _ _ (ix3 2 k (x 1)) (fun a => match a with | ⟨0, _⟩ => rfl | ⟨1, _⟩ => by simp | ⟨2, _⟩ => by simp)) (by omega)
      (by simp; omega)).trans (congrArg _ (by blk_ext)))
  · refine Eq.trans (congrArg (k0_pay1 (rows m c t) (View.ld (iblk m c 1 t) (Rect.unit ![1, 0, 0] ![1, 1024, 1536] inb_S4x1024x1536_S1x1024x1536_1_0_0))) (show _ = (ix2 (x 0) (x 1) : S512x1536.Idx) by blk_ext)) ?_
    exact (pay1_at _ _ (x 0) (x 1)).trans ((slab m c t 1 (x 0) (x 1) _ (fun k => View.ld_unit_apply_of _ _ _ _ _ (ix3 1 k (x 1)) (fun a => match a with | ⟨0, _⟩ => rfl | ⟨1, _⟩ => by simp | ⟨2, _⟩ => by simp)) (by omega)
      (by simp; omega)).trans (congrArg _ (by blk_ext)))
  · refine Eq.trans (congrArg (k0_pay1 (rows m c t) (View.ld (iblk m c 1 t) (Rect.unit ![0, 0, 0] ![1, 1024, 1536] inb_S4x1024x1536_S1x1024x1536_0_0_0))) (show _ = (ix2 (x 0) (x 1) : S512x1536.Idx) by blk_ext)) ?_
    exact (pay1_at _ _ (x 0) (x 1)).trans ((slab m c t 0 (x 0) (x 1) _ (fun k => View.ld_unit_apply_of _ _ _ _ _ (ix3 0 k (x 1)) (fun a => match a with | ⟨0, _⟩ => rfl | ⟨1, _⟩ => by simp | ⟨2, _⟩ => by simp)) (by omega)
      (by simp; omega)).trans (congrArg _ (by blk_ext)))

/-- One block of the normalised rows against the reference. -/
theorem core4 (c : Dev nD) (t : Fin cfg0.N) (y : S512x1024.Idx) : out0_4 (F := Ideal) (iblk m c 0 t) (iblk m c 1 t) (iblk m c 2 t) y
    = HN (m ((c : Thread nD τ).loc main_arg0)) (m ((c : Thread nD τ).loc main_arg1)) (((cfg0.win 4).blk t).view.emb y) := by
  have ht : t.val < 16 := lt_of_lt_of_eq t.isLt N_0
  have hb : t.val * 512 + (y 0).val < 8192 := by have : (y 0).val < 512 := (y 0).isLt; omega
  refine Eq.trans ?_ (congrArg _ (show (ix2 ⟨t.val * 512 + (y 0).val, hb⟩ (y 1) : S8192x1024.Idx) = ((cfg0.win 4).blk t).view.emb y by blk_ext [idx t]))
  unfold out0_4
  canon_tiles x h
  refine Eq.trans (congrArg (rows m c t) (by blk_ext)) (rows_at m c t (y 0) (y 1) hb)

/-- The call leaves the reference's product's rows. -/
theorem final3 (c : Dev nD) : (dats m 0 c).arrAt 3 (cfgs 0).N
    = ACT (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact core3 m c t y

/-- The call leaves the reference's normalised rows. -/
theorem final4 (c : Dev nD) : (dats m 0 c).arrAt 4 (cfgs 0).N
    = HN (m ((c : Thread nD τ).loc main_arg0)) (m ((c : Thread nD τ).loc main_arg1)) := by
  refine (dats m 0 c).arrAt_eq_of_covers 4 _ (by decide +kernel) fun t _ y => ?_
  blk_simp
  rw [after0_4]
  exact core4 m c t y

end Cert.RetProjIdeal.Proj
end
-- ==== Proof.RetProjPair.lean ====
module

public import proofs.«01_k».proof.Defs
public import proofs.«01_k».proof.Proof.RetProj
public import proofs.«01_k».proof.Proof.Gen.RetProj.Frame
public import proofs.«01_k».proof.Proof.Gen.RetProjRefIdeal.Run
public import Idealize.ShloMosaic.Lib.Claim

@[expose] public section

set_option maxRecDepth 16384

noncomputable section

open Idealize.ShloMosaic Idealize.SL.Sem

/-! The claims about the forward call in front of the retention. -/

namespace Cert.RetProjPair

/-- The kernel leaves its arguments as they were, over the float words. -/
theorem frame_kernel : Cert.quiescent_RetProj := fun m ρ _ => Cert.RetProj.Gen.frame m ρ
/-- The same, over the extended reals. -/
theorem frame_ideal : Cert.quiescent_RetProjIdeal := fun m ρ _ => Cert.RetProjIdeal.Gen.frame m ρ
/-- The reference leaves its arguments as they were. -/
theorem frame_reference : Cert.quiescent_RetProjRefIdeal := fun m ρ _ =>
  (θ_run Cert.RetProjRefIdeal.defs _ _).mono (fun r h => ⟨fun c => (h c).2.2, sem_eq_zero_of_no_sems (by decide) r.2⟩)
    (Cert.RetProjRefIdeal.Value.run (F := Ideal) m ρ)

/-- The kernel computes the reference's values. -/
theorem algebraic : Cert.algebraic_RetProjIdeal_RetProjRefIdeal := by
  pair_intro
  · run_from Cert.RetProjIdeal.Value.run_blocks m g
  · run_from Cert.RetProjRefIdeal.Value.run m' g'
    · rw [Cert.RetProjRefIdeal.Read.val_main_v14_eq]; exact (Cert.RetProjIdeal.Proj.final3 m c).symm
    · rw [Cert.RetProjRefIdeal.Read.val_main_v15_eq]; exact (Cert.RetProjIdeal.Proj.final4 m c).symm

end Cert.RetProjPair
end
-- ==== Proof.MlpDown.lean ====
module

public import proofs.«01_k».proof.Proof.Gen.MlpDownIdeal.Value
public import proofs.«01_k».proof.Proof.Gen.MlpDownRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

/-! The dense layer's second product, of squared rectified rows, with the residual added. -/

namespace Cert.MlpDownIdeal.Down

open Cert.MlpDownIdeal Cert.MlpDownIdeal.Gen

variable (m : (ℓ : Loc nD τ sig) → Buf (Elt Ideal) ℓ)

/-- The layer's output, as the reference computes it. -/
abbrev REF (z : FVec Ideal S8192x4096 .f32) (w : FVec Ideal S4096x1024 .f32) (h : FVec Ideal S8192x1024 .f32) :
    FVec Ideal S8192x1024 .f32 := Cert.MlpDownRefIdeal.Read.val_main_v3 (F := Ideal) z w h

open Cert.MlpDownRefIdeal.Read in
/-- The reference at an index: the residual plus the product of the squared rectified row. -/
theorem ref_at (z : FVec Ideal S8192x4096 .f32) (w : FVec Ideal S4096x1024 .f32) (h : FVec Ideal S8192x1024 .f32)
    (r : Fin 8192) (l : Fin 1024) :
    REF z w h (ix2 r l) = h (ix2 r l) + ∑ k : Fin 4096, max (z (ix2 r k)) 0 * max (z (ix2 r k)) 0 * w (ix2 k l) := by
  pointwise [REF, val_main_v3, val_main_v2, val_main_v1, val_main_v0, val_main_call0_v0, val_main_call0_cst]

theorem idx : ∀ t : Fin cfg0.N, win0_0.index t = ![t.val, 0] ∧ win0_1.index t = ![0, 0, 0] ∧ win0_2.index t = ![t.val, 0] ∧ win0_3.index t = ![t.val, 0] :=
  (by decide +kernel : ∀ t : Fin grid0.N, _)

/-- The rectified values as the kernel reads them. -/
theorem entry_a (c : Dev nD) : V m c main_v1 = (truncf .bf16 (maximumf (m ((c : Thread nD τ).loc main_arg0) : FVec Ideal S8192x4096 .f32)
    (broadcastInDim S8192x4096 ![] bcast_S_S8192x4096 (constant S_ .f32 0x00000000#32))) bitsLt_bf16_f32 : FVec Ideal S8192x4096 .bf16) := by
  unfold V; simp only [List.flatten_cons, List.flatten_nil, List.append_nil, List.cons_append, List.nil_append]
  after_results
  rfl
/-- The weight as the kernel reads it: four slabs of 1024 rows. -/
theorem entry_w (c : Dev nD) : V m c main_v3 = shapeCast S4x1024x1024 (truncf .bf16 (m ((c : Thread nD τ).loc main_arg1) : FVec Ideal S4096x1024 .f32) bitsLt_bf16_f32 : FVec Ideal S4096x1024 .bf16) shapeCasts_S4096x1024_S4x1024x1024 := by
  unfold V; simp only [List.flatten_cons, List.flatten_nil, List.append_nil, List.cons_append, List.nil_append]
  after_results
  rfl

/-- The block of the rectified values at point `t`. -/
theorem in_a (c : Dev nD) (t : Fin cfg0.N) (r : Fin 512) (k : Fin 4096) (h : t.val * 512 + r.val < 8192) :
    iblk m c 0 t (ix2 r k) = max (show EReal from m ((c : Thread nD τ).loc main_arg0) (ix2 ⟨t.val * 512 + r.val, h⟩ k)) 0 := by
  show V m c main_v1 (((cfg0.win 0).blk t).view.emb (ix2 r k)) = _
  rw [entry_a, show ((cfg0.win 0).blk t).view.emb (ix2 r k) = (ix2 ⟨t.val * 512 + r.val, h⟩ k : S8192x4096.Idx) by blk_ext [idx t]]
  pointwise

/-- The weight's block: four slabs of 1024 rows of the argument. -/
theorem in_w (c : Dev nD) (t : Fin cfg0.N) (p : Fin 4) (r k : Fin 1024) (h : p.val * 1024 + r.val < 4096) :
    iblk m c 1 t (ix3 p r k) = m ((c : Thread nD τ).loc main_arg1) (ix2 ⟨p.val * 1024 + r.val, h⟩ k) := by
  show V m c main_v3 (((cfg0.win 1).blk t).view.emb (ix3 p r k)) = _
  rw [entry_w, show ((cfg0.win 1).blk t).view.emb (ix3 p r k) = (ix3 p r k : S4x1024x1024.Idx) by blk_ext [idx t]]
  pointwise

/-- The residual's block at point `t`. -/
theorem in_h (c : Dev nD) (t : Fin cfg0.N) (r : Fin 512) (k : Fin 1024) (h : t.val * 512 + r.val < 8192) :
    iblk m c 2 t (ix2 r k) = m ((c : Thread nD τ).loc main_arg2) (ix2 ⟨t.val * 512 + r.val, h⟩ k) := by
  show V m c main_arg2 (((cfg0.win 2).blk t).view.emb (ix2 r k)) = _
  rw [V_main_arg2, show ((cfg0.win 2).blk t).view.emb (ix2 r k) = (ix2 ⟨t.val * 512 + r.val, h⟩ k : S8192x1024.Idx) by blk_ext [idx t]]

/-- A row of the output, as a point computes it. -/
theorem pay1_at (c : Dev nD) (t : Fin cfg0.N) (a : Fin 512) (l : Fin 1024) (h : t.val * 512 + a.val < 8192) :
    k0_pay1 (F := Ideal) (iblk m c 0 t) (iblk m c 1 t) (iblk m c 2 t) (ix2 a l)
      = REF (m ((c : Thread nD τ).loc main_arg0)) (m ((c : Thread nD τ).loc main_arg1)) (m ((c : Thread nD τ).loc main_arg2)) (ix2 ⟨t.val * 512 + a.val, h⟩ l) := by
  refine Eq.trans ?_ (ref_at _ _ _ _ _).symm
  pointwise [k0_pay1]
  simp only [in_a m c t _ _ h, in_h m c t _ _ h]
  refine (add_comm _ _).trans (congrArg _ (Finset.sum_congr rfl fun k _ => congrArg _ ?_))
  exact (in_w m c t _ _ _ (by simp; omega)).trans (by blk_ext)

/-- One block of the result against the reference. -/
theorem core (c : Dev nD) (t : Fin cfg0.N) (y : S512x1024.Idx) : out0_3 (F := Ideal) (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  have ht : t.val < 16 := lt_of_lt_of_eq t.isLt N_0
  have hb : t.val * 512 + (y 0).val < 8192 := by have : (y 0).val < 512 := (y 0).isLt; omega
  refine Eq.trans ?_ (congrArg _ (show (ix2 ⟨t.val * 512 + (y 0).val, hb⟩ (y 1) : S8192x1024.Idx) = ((cfg0.win 3).blk t).view.emb y by blk_ext [idx t]))
  unfold out0_3
  canon_tiles x h
  rw [View.ld_unit_zero (funext fun a => match a with | ⟨0, _⟩ => rfl | ⟨1, _⟩ => rfl), View.ld_unit_zero (funext fun a => match a with | ⟨0, _⟩ => rfl | ⟨1, _⟩ => rfl | ⟨2, _⟩ => rfl),
    View.ld_unit_zero (funext fun a => match a with | ⟨0, _⟩ => rfl | ⟨1, _⟩ => rfl)]
  exact Eq.trans (congrArg (k0_pay1 (F := Ideal) (iblk m c 0 t) (iblk m c 1 t) (iblk m c 2 t)) (by blk_ext)) (pay1_at m c t (y 0) (y 1) hb)

/-- The call leaves the reference's output. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  exact core m c t y

end Cert.MlpDownIdeal.Down
end
-- ==== Proof.MlpDownPair.lean ====
module

public import proofs.«01_k».proof.Defs
public import proofs.«01_k».proof.Proof.MlpDown
public import proofs.«01_k».proof.Proof.Gen.MlpDown.Frame
public import proofs.«01_k».proof.Proof.Gen.MlpDownRefIdeal.Run
public import Idealize.ShloMosaic.Lib.Claim

@[expose] public section

set_option maxRecDepth 16384

noncomputable section

open Idealize.ShloMosaic Idealize.SL.Sem

/-! The claims about the dense layer's second product. -/

namespace Cert.MlpDownPair

/-- The kernel leaves its arguments as they were, over the float words. -/
theorem frame_kernel : Cert.quiescent_MlpDown := fun m ρ _ => Cert.MlpDown.Gen.frame m ρ
/-- The same, over the extended reals. -/
theorem frame_ideal : Cert.quiescent_MlpDownIdeal := fun m ρ _ => Cert.MlpDownIdeal.Gen.frame m ρ
/-- The reference leaves its arguments as they were. -/
theorem frame_reference : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

/-- The kernel computes the reference's values. -/
theorem algebraic : Cert.algebraic_MlpDownIdeal_MlpDownRefIdeal := by
  pair_intro
  · run_from Cert.MlpDownIdeal.Value.run_blocks m g
  · run_from Cert.MlpDownRefIdeal.Value.run m' g'
    exact (Cert.MlpDownIdeal.Down.final m c).symm

end Cert.MlpDownPair
end
-- ==== Proof.RetFwdPair.lean ====
module

public import proofs.«01_k».proof.Defs
public import proofs.«01_k».proof.Proof.Gen.RetFwd.Frame
public import proofs.«01_k».proof.Proof.Gen.RetFwdIdeal.Frame
public import Idealize.ShloMosaic.Lib.Claim

@[expose] public section

set_option maxRecDepth 16384

noncomputable section

open Idealize.ShloMosaic Idealize.SL.Sem

/-! The claims about the forward call of the retention: its frames. -/

namespace Cert.RetFwdPair

/-- The kernel leaves its arguments as they were, over the float words. -/
theorem frame_kernel : Cert.quiescent_RetFwd := fun m ρ _ => Cert.RetFwd.Gen.frame m ρ
/-- The same, over the extended reals. -/
theorem frame_ideal : Cert.quiescent_RetFwdIdeal := fun m ρ _ => Cert.RetFwdIdeal.Gen.frame m ρ

end Cert.RetFwdPair
end
-- ==== Proof.AttFwdPair.lean ====
module

public import proofs.«01_k».proof.Defs
public import proofs.«01_k».proof.Proof.Gen.AttFwd.Frame
public import proofs.«01_k».proof.Proof.Gen.AttFwdIdeal.Frame
public import Idealize.ShloMosaic.Lib.Claim

@[expose] public section

set_option maxRecDepth 16384

noncomputable section

open Idealize.ShloMosaic Idealize.SL.Sem

/-! The claims about the forward call of the attention, with its bias: its frames. -/

namespace Cert.AttFwdPair

/-- The kernel leaves its arguments as they were, over the float words. -/
theorem frame_kernel : Cert.quiescent_AttFwd := fun m ρ _ => Cert.AttFwd.Gen.frame m ρ
/-- The same, over the extended reals. -/
theorem frame_ideal : Cert.quiescent_AttFwdIdeal := fun m ρ _ => Cert.AttFwdIdeal.Gen.frame m ρ

end Cert.AttFwdPair
end
-- ==== Proof.SquareGrad.lean ====
module

public import proofs.«01_k».proof.Proof.Gen.SquareGradIdeal.Value
public import proofs.«01_k».proof.Proof.Gen.SquareGradRefIdeal.Read
public import Idealize.ShloMosaic.Lib.Pipeline.ValueKit
public import Idealize.ShloMosaic.Lib.Pointwise
public import proofs.«01_k».proof.Proof.Scalars

@[expose] public section

set_option maxRecDepth 16384

noncomputable section

open Idealize.ShloMosaic Idealize.ShloMosaic.TcCoe Idealize.SL.Sem

/-! The gradient of the second dense weight: squared rectified values against the output's gradient, summed over all rows. -/

namespace Cert.SquareGradIdeal.Square

open Cert.SquareGradIdeal Cert.SquareGradIdeal.Gen

variable (m : (ℓ : Loc nD τ sig) → Buf (Elt Ideal) ℓ)

/-- The weight's gradient, as the reference computes it. -/
abbrev REF (z : FVec Ideal S8192x4096 .f32) (g : FVec Ideal S8192x1024 .f32) : FVec Ideal S4x1024x1024 .f32 :=
  Cert.SquareGradRefIdeal.Read.val_main_v6 (F := Ideal) z g

/-- What one row adds to an entry of the gradient. -/
def term (z : FVec Ideal S8192x4096 .f32) (g : FVec Ideal S8192x1024 .f32) (k : Fin 4096) (l : Fin 1024) (r : Fin 8192) : EReal :=
  max (z (ix2 r k)) 0 * max (z (ix2 r k)) 0 * g (ix2 r l)

open Cert.SquareGradRefIdeal.Read in
/-- The reference at an index: the sum over all rows. -/
theorem ref_at (z : FVec Ideal S8192x4096 .f32) (g : FVec Ideal S8192x1024 .f32) (p : Fin 4) (k l : Fin 1024) (h : p.val * 1024 + k.val < 4096) :
    REF z g (ix3 p k l) = ∑ r : Fin 8192, term z g ⟨p.val * 1024 + k.val, h⟩ l r := by
  unfold REF
  rw [val_main_v6_apply, show idx_main_v6 (ix3 p k l) = (ix2 ⟨p.val * 1024 + k.val, h⟩ l : Cert.SquareGradRefIdeal.S4096x1024.Idx) by blk_ext]
  pointwise [val_main_v5, val_main_v4, val_main_v2, val_main_v1, val_main_call0_v0, val_main_call0_cst]
  exact Finset.sum_congr rfl fun r _ => mul_comm _ _

theorem idx : ∀ t : Fin cfg0.N, win0_0.index t = ![t.val % 4, t.val / 4] ∧ win0_1.index t = ![t.val % 4, 0] ∧ win0_2.index t = ![t.val / 4, 0, 0] :=
  (by decide +kernel : ∀ t : Fin grid0.N, _)

/-- The rectified values as the kernel reads them. -/
theorem entry_a (c : Dev nD) : V m c main_v1 = (truncf .bf16 (maximumf (m ((c : Thread nD τ).loc main_arg0) : FVec Ideal S8192x4096 .f32)
    (broadcastInDim S8192x4096 ![] bcast_S_S8192x4096 (constant S_ .f32 0x00000000#32))) bitsLt_bf16_f32 : FVec Ideal S8192x4096 .bf16) := by
  unfold V; simp only [List.flatten_cons, List.flatten_nil, List.append_nil, List.cons_append, List.nil_append]
  after_results
  rfl
/-- The output's gradient as the kernel reads it. -/
theorem entry_g (c : Dev nD) : V m c main_v2 = (truncf .bf16 (m ((c : Thread nD τ).loc main_arg1) : FVec Ideal S8192x1024 .f32) bitsLt_bf16_f32 : FVec Ideal S8192x1024 .bf16) := by
  unfold V; simp only [List.flatten_cons, List.flatten_nil, List.append_nil, List.cons_append, List.nil_append]
  after_results

/-- The block of the rectified values at point `t`. -/
theorem in_a (c : Dev nD) (t : Fin cfg0.N) (r : Fin 2048) (k : Fin 1024) (h : t.val % 4 * 2048 + r.val < 8192) (h' : t.val / 4 * 1024 + k.val < 4096) :
    iblk m c 0 t (ix2 r k) = max (show EReal from m ((c : Thread nD τ).loc main_arg0) (ix2 ⟨t.val % 4 * 2048 + r.val, h⟩ ⟨t.val / 4 * 1024 + k.val, h'⟩)) 0 := by
  show V m c main_v1 (((cfg0.win 0).blk t).view.emb (ix2 r k)) = _
  rw [entry_a, show ((cfg0.win 0).blk t).view.emb (ix2 r k) = (ix2 ⟨t.val % 4 * 2048 + r.val, h⟩ ⟨t.val / 4 * 1024 + k.val, h'⟩ : S8192x4096.Idx) by blk_ext [idx t]]
  pointwise

/-- The block of the output's gradient at point `t`. -/
theorem in_g (c : Dev nD) (t : Fin cfg0.N) (r : Fin 2048) (k : Fin 1024) (h : t.val % 4 * 2048 + r.val < 8192) :
    iblk m c 1 t (ix2 r k) = m ((c : Thread nD τ).loc main_arg1) (ix2 ⟨t.val % 4 * 2048 + r.val, h⟩ k) := by
  show V m c main_v2 (((cfg0.win 1).blk t).view.emb (ix2 r k)) = _
  rw [entry_g, show ((cfg0.win 1).blk t).view.emb (ix2 r k) = (ix2 ⟨t.val % 4 * 2048 + r.val, h⟩ k : S8192x1024.Idx) by blk_ext [idx t]]
  pointwise

/-- One point's part: the sum over its 2048 rows. -/
theorem part (c : Dev nD) (t : Fin cfg0.N) (p : Fin 1) (k l : Fin 1024) (h' : t.val / 4 * 1024 + k.val < 4096) :
    k0_pay2 (F := Ideal) (iblk m c 0 t) (iblk m c 1 t) (ix3 p k l)
      = ∑ a : Fin 2048, term (m ((c : Thread nD τ).loc main_arg0)) (m ((c : Thread nD τ).loc main_arg1)) ⟨t.val / 4 * 1024 + k.val, h'⟩ l
          ⟨t.val % 4 * 2048 + a.val, by omega⟩ := by
  pointwise [k0_pay2, k0_pay1]
  refine Finset.sum_congr rfl fun a _ => ?_
  have h : t.val % 4 * 2048 + a.val < 8192 := by omega
  have ea := in_a m c t a k h h'
  have eg := in_g m c t a l h
  unfold term
  rw [← ea, ← eg]

/-- A later point adds its part. -/
theorem add_at (x0 x1 : FVec Ideal S2048x1024 .bf16) (v : FVec Ideal S1x1024x1024 .f32) (j : S1x1024x1024.Idx) :
    k0_pay3 (F := Ideal) x0 x1 v j = v j + k0_pay2 (F := Ideal) x0 x1 j := by
  obtain ⟨p, k, l, rfl⟩ : ∃ (p : Fin 1) (k l : Fin 1024), j = ix3 p k l := ⟨j 0, j 1, j 2, by blk_ext⟩
  obtain rfl : p = 0 := Subsingleton.elim _ _
  pointwise [k0_pay3, k0_pay2]

/-- The call leaves the reference's gradient. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val < 16 := lt_of_lt_of_eq t.isLt N_0
  have h3 := (flush0_2 t).mp hf
  blk_simp
  rw [after0_2, Pipeline.eq_sum_fin_of_reset_step_apply_of_flush (fun n h => outsAt0 m c n h) 4 (fun _ => 0)
    (fun t j => k0_pay2 (F := Ideal) (iblk m c 0 t) (iblk m c 1 t) j)
    (fun t h j => by rw [outsAt0_A m c t h (by omega)]; frame_out; rw [zero_add])
    (fun t h j => by rw [outsAt0_B m c t h (by omega)]; frame_out; exact add_at _ _ _ _) t h3 _, zero_add]
  obtain ⟨p, k, l, rfl⟩ : ∃ (p : Fin 1) (k l : Fin 1024), y = ix3 p k l := ⟨y 0, y 1, y 2, by blk_ext⟩
  have hk : t.val / 4 * 1024 + k.val < 4096 := by omega
  refine Eq.trans ?_ ((ref_at _ _ ⟨t.val / 4, by omega⟩ k l hk).symm.trans (congrArg _ (by blk_ext [idx t])))
  refine (Fin.sum_fin_congr fun s => part m c _ p k l (by simp; omega)).trans ?_
  refine Fin.sum_mul_add_congr fun s a hl => ?_
  have ha : (⟨(4 * (t.val / 4) + s.val) % 4 * 2048 + a.val, by omega⟩ : Fin 8192) = ⟨s.val * 2048 + a.val, hl⟩ := Fin.ext (by simp)
  have hc : (⟨(4 * (t.val / 4) + s.val) / 4 * 1024 + k.val, by omega⟩ : Fin 4096) = ⟨t.val / 4 * 1024 + k.val, hk⟩ := Fin.ext (by simp; omega)
  exact congrArg₂ (fun x y => term _ _ x l y) hc ha

end Cert.SquareGradIdeal.Square
end
-- ==== Proof.SquarePair.lean ====
module

public import proofs.«01_k».proof.Defs
public import proofs.«01_k».proof.Proof.SquareGrad
public import proofs.«01_k».proof.Proof.Gen.SquareGrad.Frame
public import proofs.«01_k».proof.Proof.Gen.SquareGradRefIdeal.Run
public import Idealize.ShloMosaic.Lib.Claim

@[expose] public section

set_option maxRecDepth 16384

noncomputable section

open Idealize.ShloMosaic Idealize.SL.Sem

/-! The claims about the gradient of the second dense weight. -/

namespace Cert.SquarePair

/-- The kernel leaves its arguments as they were, over the float words. -/
theorem frame_kernel : Cert.quiescent_SquareGrad := fun m ρ _ => Cert.SquareGrad.Gen.frame m ρ
/-- The same, over the extended reals. -/
theorem frame_ideal : Cert.quiescent_SquareGradIdeal := fun m ρ _ => Cert.SquareGradIdeal.Gen.frame m ρ
/-- The reference leaves its arguments as they were. -/
theorem frame_reference : Cert.quiescent_SquareGradRefIdeal := fun m ρ _ =>
  (θ_run Cert.SquareGradRefIdeal.defs _ _).mono (fun r h => ⟨fun c => (h c).2, sem_eq_zero_of_no_sems (by decide) r.2⟩)
    (Cert.SquareGradRefIdeal.Value.run (F := Ideal) m ρ)

/-- The kernel computes the reference's values. -/
theorem algebraic : Cert.algebraic_SquareGradIdeal_SquareGradRefIdeal := by
  pair_intro
  · run_from Cert.SquareGradIdeal.Value.run_blocks m g
  · run_from Cert.SquareGradRefIdeal.Value.run m' g'
    exact (Cert.SquareGradIdeal.Square.final m c).symm

end Cert.SquarePair
end
-- ==== Proof.lean ====
module

public import proofs.«01_k».proof.Defs
public import proofs.«01_k».proof.Proof.Gen.ActGrad
public import proofs.«01_k».proof.Proof.Gen.ActGrad.Skeleton
public import proofs.«01_k».proof.Proof.Gen.ActGrad.Launch
public import proofs.«01_k».proof.Proof.Gen.ActGrad.Points
public import proofs.«01_k».proof.Proof.Gen.ActGrad.Frame
public import proofs.«01_k».proof.Proof.Gen.ActGradIdeal
public import proofs.«01_k».proof.Proof.Gen.ActGradIdeal.Skeleton
public import proofs.«01_k».proof.Proof.Gen.ActGradIdeal.Launch
public import proofs.«01_k».proof.Proof.Gen.ActGradIdeal.Points
public import proofs.«01_k».proof.Proof.Gen.ActGradIdeal.Frame
public import proofs.«01_k».proof.Proof.Gen.ActGradIdeal.Value
public import proofs.«01_k».proof.Proof.Gen.ActGradRefIdeal
public import proofs.«01_k».proof.Proof.Gen.ActGradRefIdeal.Run
public import proofs.«01_k».proof.Proof.Gen.ActGradRefIdeal.Read
public import proofs.«01_k».proof.Proof.ActPair
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.NormGradRefIdeal.Read
public import proofs.«01_k».proof.Proof.NormPair
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.LossPair
public import proofs.«01_k».proof.Proof.Gen.BiasGrad
public import proofs.«01_k».proof.Proof.Gen.BiasGrad.Skeleton
public import proofs.«01_k».proof.Proof.Gen.BiasGrad.Launch
public import proofs.«01_k».proof.Proof.Gen.BiasGrad.Points
public import proofs.«01_k».proof.Proof.Gen.BiasGrad.Frame
public import proofs.«01_k».proof.Proof.Gen.BiasGradIdeal
public import proofs.«01_k».proof.Proof.Gen.BiasGradIdeal.Skeleton
public import proofs.«01_k».proof.Proof.Gen.BiasGradIdeal.Launch
public import proofs.«01_k».proof.Proof.Gen.BiasGradIdeal.Points
public import proofs.«01_k».proof.Proof.Gen.BiasGradIdeal.Frame
public import proofs.«01_k».proof.Proof.Gen.BiasGradIdeal.Value
public import proofs.«01_k».proof.Proof.Gen.BiasGradRefIdeal
public import proofs.«01_k».proof.Proof.Gen.BiasGradRefIdeal.Run
public import proofs.«01_k».proof.Proof.Gen.BiasGradRefIdeal.Read
public import proofs.«01_k».proof.Proof.BiasPair
public import proofs.«01_k».proof.Proof.Gen.RetGrad
public import proofs.«01_k».proof.Proof.Gen.RetGrad.Skeleton
public import proofs.«01_k».proof.Proof.Gen.RetGrad.Launch
public import proofs.«01_k».proof.Proof.Gen.RetGrad.Points
public import proofs.«01_k».proof.Proof.Gen.RetGrad.Frame
public import proofs.«01_k».proof.Proof.Gen.RetGradIdeal
public import proofs.«01_k».proof.Proof.Gen.RetGradIdeal.Skeleton
public import proofs.«01_k».proof.Proof.Gen.RetGradIdeal.Launch
public import proofs.«01_k».proof.Proof.Gen.RetGradIdeal.Points
public import proofs.«01_k».proof.Proof.Gen.RetGradIdeal.Frame
public import proofs.«01_k».proof.Proof.Gen.RetGradIdeal.Value
public import proofs.«01_k».proof.Proof.Gen.RetGradRefIdeal
public import proofs.«01_k».proof.Proof.RetPair
public import proofs.«01_k».proof.Proof.Gen.Pre_finite_retention
public import proofs.«01_k».proof.Proof.Gen.RetIn
public import proofs.«01_k».proof.Proof.Gen.RetIn.Skeleton
public import proofs.«01_k».proof.Proof.Gen.RetIn.Launch
public import proofs.«01_k».proof.Proof.Gen.RetIn.Points
public import proofs.«01_k».proof.Proof.Gen.RetIn.Frame
public import proofs.«01_k».proof.Proof.Gen.RetInIdeal
public import proofs.«01_k».proof.Proof.Gen.RetInIdeal.Skeleton
public import proofs.«01_k».proof.Proof.Gen.RetInIdeal.Launch
public import proofs.«01_k».proof.Proof.Gen.RetInIdeal.Points
public import proofs.«01_k».proof.Proof.Gen.RetInIdeal.Frame
public import proofs.«01_k».proof.Proof.Gen.RetInIdeal.Value
public import proofs.«01_k».proof.Proof.Gen.RetInRefIdeal
public import proofs.«01_k».proof.Proof.Gen.RetInRefIdeal.Run
public import proofs.«01_k».proof.Proof.Gen.RetInRefIdeal.Read
public import proofs.«01_k».proof.Proof.RetInPair
public import proofs.«01_k».proof.Proof.Gen.AttIn
public import proofs.«01_k».proof.Proof.Gen.AttIn.Skeleton
public import proofs.«01_k».proof.Proof.Gen.AttIn.Launch
public import proofs.«01_k».proof.Proof.Gen.AttIn.Points
public import proofs.«01_k».proof.Proof.Gen.AttIn.Frame
public import proofs.«01_k».proof.Proof.Gen.AttInIdeal
public import proofs.«01_k».proof.Proof.Gen.AttInIdeal.Skeleton
public import proofs.«01_k».proof.Proof.Gen.AttInIdeal.Launch
public import proofs.«01_k».proof.Proof.Gen.AttInIdeal.Points
public import proofs.«01_k».proof.Proof.Gen.AttInIdeal.Frame
public import proofs.«01_k».proof.Proof.Gen.AttInIdeal.Value
public import proofs.«01_k».proof.Proof.Gen.AttInRefIdeal
public import proofs.«01_k».proof.Proof.Gen.AttInRefIdeal.Run
public import proofs.«01_k».proof.Proof.Gen.AttInRefIdeal.Read
public import proofs.«01_k».proof.Proof.AttInPair
public import proofs.«01_k».proof.Proof.Gen.MlpUp
public import proofs.«01_k».proof.Proof.Gen.MlpUp.Skeleton
public import proofs.«01_k».proof.Proof.Gen.MlpUp.Launch
public import proofs.«01_k».proof.Proof.Gen.MlpUp.Points
public import proofs.«01_k».proof.Proof.Gen.MlpUp.Frame
public import proofs.«01_k».proof.Proof.Gen.MlpUpIdeal
public import proofs.«01_k».proof.Proof.Gen.MlpUpIdeal.Skeleton
public import proofs.«01_k».proof.Proof.Gen.MlpUpIdeal.Launch
public import proofs.«01_k».proof.Proof.Gen.MlpUpIdeal.Points
public import proofs.«01_k».proof.Proof.Gen.MlpUpIdeal.Frame
public import proofs.«01_k».proof.Proof.Gen.MlpUpIdeal.Value
public import proofs.«01_k».proof.Proof.Gen.MlpUpRefIdeal
public import proofs.«01_k».proof.Proof.Gen.MlpUpRefIdeal.Run
public import proofs.«01_k».proof.Proof.Gen.MlpUpRefIdeal.Read
public import proofs.«01_k».proof.Proof.MlpUpPair
public import proofs.«01_k».proof.Proof.Gen.RetProj
public import proofs.«01_k».proof.Proof.Gen.RetProj.Skeleton
public import proofs.«01_k».proof.Proof.Gen.RetProj.Launch
public import proofs.«01_k».proof.Proof.Gen.RetProj.Points
public import proofs.«01_k».proof.Proof.Gen.RetProj.Frame
public import proofs.«01_k».proof.Proof.Gen.RetProjIdeal
public import proofs.«01_k».proof.Proof.Gen.RetProjIdeal.Skeleton
public import proofs.«01_k».proof.Proof.Gen.RetProjIdeal.Launch
public import proofs.«01_k».proof.Proof.Gen.RetProjIdeal.Points
public import proofs.«01_k».proof.Proof.Gen.RetProjIdeal.Frame
public import proofs.«01_k».proof.Proof.Gen.RetProjIdeal.Value
public import proofs.«01_k».proof.Proof.Gen.RetProjRefIdeal
public import proofs.«01_k».proof.Proof.Gen.RetProjRefIdeal.Run
public import proofs.«01_k».proof.Proof.Gen.RetProjRefIdeal.Read
public import proofs.«01_k».proof.Proof.RetProjPair
public import proofs.«01_k».proof.Proof.Gen.MlpDown
public import proofs.«01_k».proof.Proof.Gen.MlpDown.Skeleton
public import proofs.«01_k».proof.Proof.Gen.MlpDown.Launch
public import proofs.«01_k».proof.Proof.Gen.MlpDown.Points
public import proofs.«01_k».proof.Proof.Gen.MlpDown.Frame
public import proofs.«01_k».proof.Proof.Gen.MlpDownIdeal
public import proofs.«01_k».proof.Proof.Gen.MlpDownIdeal.Skeleton
public import proofs.«01_k».proof.Proof.Gen.MlpDownIdeal.Launch
public import proofs.«01_k».proof.Proof.Gen.MlpDownIdeal.Points
public import proofs.«01_k».proof.Proof.Gen.MlpDownIdeal.Frame
public import proofs.«01_k».proof.Proof.Gen.MlpDownIdeal.Value
public import proofs.«01_k».proof.Proof.Gen.MlpDownRefIdeal
public import proofs.«01_k».proof.Proof.Gen.MlpDownRefIdeal.Run
public import proofs.«01_k».proof.Proof.Gen.MlpDownRefIdeal.Read
public import proofs.«01_k».proof.Proof.MlpDownPair
public import proofs.«01_k».proof.Proof.Gen.RetFwd
public import proofs.«01_k».proof.Proof.Gen.RetFwd.Skeleton
public import proofs.«01_k».proof.Proof.Gen.RetFwd.Launch
public import proofs.«01_k».proof.Proof.Gen.RetFwd.Points
public import proofs.«01_k».proof.Proof.Gen.RetFwd.Frame
public import proofs.«01_k».proof.Proof.Gen.RetFwdIdeal
public import proofs.«01_k».proof.Proof.Gen.RetFwdIdeal.Skeleton
public import proofs.«01_k».proof.Proof.Gen.RetFwdIdeal.Launch
public import proofs.«01_k».proof.Proof.Gen.RetFwdIdeal.Points
public import proofs.«01_k».proof.Proof.Gen.RetFwdIdeal.Frame
public import proofs.«01_k».proof.Proof.RetFwdPair
public import proofs.«01_k».proof.Proof.Gen.AttFwd
public import proofs.«01_k».proof.Proof.Gen.AttFwd.Skeleton
public import proofs.«01_k».proof.Proof.Gen.AttFwd.Launch
public import proofs.«01_k».proof.Proof.Gen.AttFwd.Points
public import proofs.«01_k».proof.Proof.Gen.AttFwd.Frame
public import proofs.«01_k».proof.Proof.Gen.AttFwdIdeal
public import proofs.«01_k».proof.Proof.Gen.AttFwdIdeal.Skeleton
public import proofs.«01_k».proof.Proof.Gen.AttFwdIdeal.Launch
public import proofs.«01_k».proof.Proof.Gen.AttFwdIdeal.Points
public import proofs.«01_k».proof.Proof.Gen.AttFwdIdeal.Frame
public import proofs.«01_k».proof.Proof.AttFwdPair
public import proofs.«01_k».proof.Proof.Gen.SquareGrad
public import proofs.«01_k».proof.Proof.Gen.SquareGrad.Skeleton
public import proofs.«01_k».proof.Proof.Gen.SquareGrad.Launch
public import proofs.«01_k».proof.Proof.Gen.SquareGrad.Points
public import proofs.«01_k».proof.Proof.Gen.SquareGrad.Frame
public import proofs.«01_k».proof.Proof.Gen.SquareGradIdeal
public import proofs.«01_k».proof.Proof.Gen.SquareGradIdeal.Skeleton
public import proofs.«01_k».proof.Proof.Gen.SquareGradIdeal.Launch
public import proofs.«01_k».proof.Proof.Gen.SquareGradIdeal.Points
public import proofs.«01_k».proof.Proof.Gen.SquareGradIdeal.Frame
public import proofs.«01_k».proof.Proof.Gen.SquareGradIdeal.Value
public import proofs.«01_k».proof.Proof.Gen.SquareGradRefIdeal
public import proofs.«01_k».proof.Proof.Gen.SquareGradRefIdeal.Run
public import proofs.«01_k».proof.Proof.Gen.SquareGradRefIdeal.Read
public import proofs.«01_k».proof.Proof.SquarePair
public import Idealize.ShloMosaic.Adequacy
public import Idealize.ShloMosaic.Init

@[expose] public section

noncomputable section

namespace Cert.Proof

theorem claim : Cert.Claim :=
  ⟨Cert.ActGrad.Gen.facts,
   Cert.ActGradIdeal.Gen.facts,
   Cert.ActGradRefIdeal.Gen.facts,
   Cert.NormGrad.Gen.facts,
   Cert.NormGradIdeal.Gen.facts,
   Cert.NormGradRefIdeal.Gen.facts,
   Cert.LossHead.Gen.facts,
   Cert.LossHeadIdeal.Gen.facts,
   Cert.LossHeadRefIdeal.Gen.facts,
   Cert.BiasGrad.Gen.facts,
   Cert.BiasGradIdeal.Gen.facts,
   Cert.BiasGradRefIdeal.Gen.facts,
   Cert.RetGrad.Gen.facts,
   Cert.RetGradIdeal.Gen.facts,
   Cert.RetGradRefIdeal.Gen.facts,
   Cert.RetIn.Gen.facts,
   Cert.RetInIdeal.Gen.facts,
   Cert.RetInRefIdeal.Gen.facts,
   Cert.AttIn.Gen.facts,
   Cert.AttInIdeal.Gen.facts,
   Cert.AttInRefIdeal.Gen.facts,
   Cert.MlpUp.Gen.facts,
   Cert.MlpUpIdeal.Gen.facts,
   Cert.MlpUpRefIdeal.Gen.facts,
   Cert.RetProj.Gen.facts,
   Cert.RetProjIdeal.Gen.facts,
   Cert.RetProjRefIdeal.Gen.facts,
   Cert.MlpDown.Gen.facts,
   Cert.MlpDownIdeal.Gen.facts,
   Cert.MlpDownRefIdeal.Gen.facts,
   Cert.RetFwd.Gen.facts,
   Cert.RetFwdIdeal.Gen.facts,
   Cert.AttFwd.Gen.facts,
   Cert.AttFwdIdeal.Gen.facts,
   Cert.SquareGrad.Gen.facts,
   Cert.SquareGradIdeal.Gen.facts,
   Cert.SquareGradRefIdeal.Gen.facts,
   Cert.Pre_finite_retention.Gen.facts,
   Cert.ActPair.frame_kernel,
   Cert.ActPair.frame_ideal,
   Cert.ActPair.frame_reference,
   Cert.NormPair.frame_kernel,
   Cert.NormPair.frame_ideal,
   Cert.NormPair.frame_reference,
   Cert.LossPair.frame_kernel,
   Cert.LossPair.frame_ideal,
   Cert.LossPair.frame_reference,
   Cert.BiasPair.frame_kernel,
   Cert.BiasPair.frame_ideal,
   Cert.BiasPair.frame_reference,
   Cert.RetPair.frame_kernel,
   Cert.RetPair.frame_ideal,
   Cert.RetPair.frame_ideal_pre,
   Cert.RetPair.frame_reference,
   Cert.RetPair.frame_reference_pre,
   Cert.RetInPair.frame_kernel,
   Cert.RetInPair.frame_ideal,
   Cert.RetInPair.frame_reference,
   Cert.AttInPair.frame_kernel,
   Cert.AttInPair.frame_ideal,
   Cert.AttInPair.frame_reference,
   Cert.MlpUpPair.frame_kernel,
   Cert.MlpUpPair.frame_ideal,
   Cert.MlpUpPair.frame_reference,
   Cert.RetProjPair.frame_kernel,
   Cert.RetProjPair.frame_ideal,
   Cert.RetProjPair.frame_reference,
   Cert.MlpDownPair.frame_kernel,
   Cert.MlpDownPair.frame_ideal,
   Cert.MlpDownPair.frame_reference,
   Cert.RetFwdPair.frame_kernel,
   Cert.RetFwdPair.frame_ideal,
   Cert.AttFwdPair.frame_kernel,
   Cert.AttFwdPair.frame_ideal,
   Cert.SquarePair.frame_kernel,
   Cert.SquarePair.frame_ideal,
   Cert.SquarePair.frame_reference,
   trivial,
   Cert.ActPair.algebraic,
   trivial,
   Cert.NormPair.algebraic,
   trivial,
   Cert.LossPair.algebraic,
   trivial,
   Cert.BiasPair.algebraic,
   trivial,
   Cert.RetPair.algebraic,
   trivial,
   Cert.RetInPair.algebraic,
   trivial,
   Cert.AttInPair.algebraic,
   trivial,
   Cert.MlpUpPair.algebraic,
   trivial,
   Cert.RetProjPair.algebraic,
   trivial,
   Cert.MlpDownPair.algebraic,
   trivial,
   trivial,
   trivial,
   Cert.SquarePair.algebraic⟩

end Cert.Proof

end
